-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MlpTwoW (m : (ℓ : Loc Cert.MlpTwoW.nD Cert.MlpTwoW.τ Cert.MlpTwoW.sig) → Buf (Elt Bits) ℓ) : Prop :=
  True

def Pre_MlpTwoWIdeal (m : (ℓ : Loc Cert.MlpTwoWIdeal.nD Cert.MlpTwoWIdeal.τ Cert.MlpTwoWIdeal.sig) → Buf (Elt Ideal) ℓ) : Prop :=
  True

def Pre_RefTwoWIdeal (m : (ℓ : Loc Cert.RefTwoWIdeal.nD Cert.RefTwoWIdeal.τ Cert.RefTwoWIdeal.sig) → Buf (Elt Ideal) ℓ) : Prop :=
  True

def Pre_MlpOneW (m : (ℓ : Loc Cert.MlpOneW.nD Cert.MlpOneW.τ Cert.MlpOneW.sig) → Buf (Elt Bits) ℓ) : Prop :=
  True

def Pre_MlpOneWIdeal (m : (ℓ : Loc Cert.MlpOneWIdeal.nD Cert.MlpOneWIdeal.τ Cert.MlpOneWIdeal.sig) → Buf (Elt Ideal) ℓ) : Prop :=
  True

def Pre_RefOneWIdeal (m : (ℓ : Loc Cert.RefOneWIdeal.nD Cert.RefOneWIdeal.τ Cert.RefOneWIdeal.sig) → Buf (Elt Ideal) ℓ) : Prop :=
  True

def Pre_RetQ (m : (ℓ : Loc Cert.RetQ.nD Cert.RetQ.τ Cert.RetQ.sig) → Buf (Elt Bits) ℓ) : Prop :=
  True

def Pre_RetQIdeal (m : (ℓ : Loc Cert.RetQIdeal.nD Cert.RetQIdeal.τ Cert.RetQIdeal.sig) → Buf (Elt Ideal) ℓ) : Prop :=
  True

def Pre_RetQIdeal_ret_q_finite [hPre_ret_q_finite : Cert.Pre_ret_q_finite.Facts] (m : (ℓ : Loc Cert.RetQIdeal.nD Cert.RetQIdeal.τ Cert.RetQIdeal.sig) → Buf (Elt Ideal) ℓ) : Prop :=
  ∀ c : Dev Cert.RetQIdeal.nD,
    (Cert.Pre_ret_q_finite.fn (F := Ideal) (m ((c.tc : Thread Cert.RetQIdeal.nD Cert.RetQIdeal.τ).loc Cert.RetQIdeal.main_arg0)) (m ((c.tc : Thread Cert.RetQIdeal.nD Cert.RetQIdeal.τ).loc Cert.RetQIdeal.main_arg1)) (m ((c.tc : Thread Cert.RetQIdeal.nD Cert.RetQIdeal.τ).loc Cert.RetQIdeal.main_arg2)) (m ((c.tc : Thread Cert.RetQIdeal.nD Cert.RetQIdeal.τ).loc Cert.RetQIdeal.main_arg3)) (m ((c.tc : Thread Cert.RetQIdeal.nD Cert.RetQIdeal.τ).loc Cert.RetQIdeal.main_arg4))) = (fun _ => 1#1)

def Pre_RefQIdeal (m : (ℓ : Loc Cert.RefQIdeal.nD Cert.RefQIdeal.τ Cert.RefQIdeal.sig) → Buf (Elt Ideal) ℓ) : Prop :=
  True

def Pre_RefQIdeal_ret_q_finite [hPre_ret_q_finite : Cert.Pre_ret_q_finite.Facts] (m : (ℓ : Loc Cert.RefQIdeal.nD Cert.RefQIdeal.τ Cert.RefQIdeal.sig) → Buf (Elt Ideal) ℓ) : Prop :=
  ∀ c : Dev Cert.RefQIdeal.nD,
    (Cert.Pre_ret_q_finite.fn (F := Ideal) (m ((c.tc : Thread Cert.RefQIdeal.nD Cert.RefQIdeal.τ).loc Cert.RefQIdeal.main_arg0)) (m ((c.tc : Thread Cert.RefQIdeal.nD Cert.RefQIdeal.τ).loc Cert.RefQIdeal.main_arg1)) (m ((c.tc : Thread Cert.RefQIdeal.nD Cert.RefQIdeal.τ).loc Cert.RefQIdeal.main_arg2)) (m ((c.tc : Thread Cert.RefQIdeal.nD Cert.RefQIdeal.τ).loc Cert.RefQIdeal.main_arg3)) (m ((c.tc : Thread Cert.RefQIdeal.nD Cert.RefQIdeal.τ).loc Cert.RefQIdeal.main_arg4))) = (fun _ => 1#1)

def Pre_MlpOneX (m : (ℓ : Loc Cert.MlpOneX.nD Cert.MlpOneX.τ Cert.MlpOneX.sig) → Buf (Elt Bits) ℓ) : Prop :=
  True

def Pre_MlpOneXIdeal (m : (ℓ : Loc Cert.MlpOneXIdeal.nD Cert.MlpOneXIdeal.τ Cert.MlpOneXIdeal.sig) → Buf (Elt Ideal) ℓ) : Prop :=
  True

def Pre_RefOneXIdeal (m : (ℓ : Loc Cert.RefOneXIdeal.nD Cert.RefOneXIdeal.τ Cert.RefOneXIdeal.sig) → Buf (Elt Ideal) ℓ) : Prop :=
  True

def Pre_RetInX (m : (ℓ : Loc Cert.RetInX.nD Cert.RetInX.τ Cert.RetInX.sig) → Buf (Elt Bits) ℓ) : Prop :=
  True

def Pre_RetInXIdeal (m : (ℓ : Loc Cert.RetInXIdeal.nD Cert.RetInXIdeal.τ Cert.RetInXIdeal.sig) → Buf (Elt Ideal) ℓ) : Prop :=
  True

def Pre_RefInXIdeal (m : (ℓ : Loc Cert.RefInXIdeal.nD Cert.RefInXIdeal.τ Cert.RefInXIdeal.sig) → Buf (Elt Ideal) ℓ) : Prop :=
  True

def Pre_RetInW (m : (ℓ : Loc Cert.RetInW.nD Cert.RetInW.τ Cert.RetInW.sig) → Buf (Elt Bits) ℓ) : Prop :=
  True

def Pre_RetInWIdeal (m : (ℓ : Loc Cert.RetInWIdeal.nD Cert.RetInWIdeal.τ Cert.RetInWIdeal.sig) → Buf (Elt Ideal) ℓ) : Prop :=
  True

def Pre_RefInWIdeal (m : (ℓ : Loc Cert.RefInWIdeal.nD Cert.RefInWIdeal.τ Cert.RefInWIdeal.sig) → Buf (Elt Ideal) ℓ) : Prop :=
  True

def Pre_RetOutX (m : (ℓ : Loc Cert.RetOutX.nD Cert.RetOutX.τ Cert.RetOutX.sig) → Buf (Elt Bits) ℓ) : Prop :=
  True

def Pre_RetOutXIdeal (m : (ℓ : Loc Cert.RetOutXIdeal.nD Cert.RetOutXIdeal.τ Cert.RetOutXIdeal.sig) → Buf (Elt Ideal) ℓ) : Prop :=
  True

def Pre_RefOutXIdeal (m : (ℓ : Loc Cert.RefOutXIdeal.nD Cert.RefOutXIdeal.τ Cert.RefOutXIdeal.sig) → Buf (Elt Ideal) ℓ) : Prop :=
  True

def Pre_RetOutW (m : (ℓ : Loc Cert.RetOutW.nD Cert.RetOutW.τ Cert.RetOutW.sig) → Buf (Elt Bits) ℓ) : Prop :=
  True

def Pre_RetOutWIdeal (m : (ℓ : Loc Cert.RetOutWIdeal.nD Cert.RetOutWIdeal.τ Cert.RetOutWIdeal.sig) → Buf (Elt Ideal) ℓ) : Prop :=
  True

def Pre_RefOutWIdeal (m : (ℓ : Loc Cert.RefOutWIdeal.nD Cert.RefOutWIdeal.τ Cert.RefOutWIdeal.sig) → Buf (Elt Ideal) ℓ) : Prop :=
  True

def Pre_MlpOneF (m : (ℓ : Loc Cert.MlpOneF.nD Cert.MlpOneF.τ Cert.MlpOneF.sig) → Buf (Elt Bits) ℓ) : Prop :=
  True

def Pre_MlpOneFIdeal (m : (ℓ : Loc Cert.MlpOneFIdeal.nD Cert.MlpOneFIdeal.τ Cert.MlpOneFIdeal.sig) → Buf (Elt Ideal) ℓ) : Prop :=
  True

def Pre_RefOneFIdeal (m : (ℓ : Loc Cert.RefOneFIdeal.nD Cert.RefOneFIdeal.τ Cert.RefOneFIdeal.sig) → Buf (Elt Ideal) ℓ) : Prop :=
  True

def Pre_MlpTwoF (m : (ℓ : Loc Cert.MlpTwoF.nD Cert.MlpTwoF.τ Cert.MlpTwoF.sig) → Buf (Elt Bits) ℓ) : Prop :=
  True

def Pre_MlpTwoFIdeal (m : (ℓ : Loc Cert.MlpTwoFIdeal.nD Cert.MlpTwoFIdeal.τ Cert.MlpTwoFIdeal.sig) → Buf (Elt Ideal) ℓ) : Prop :=
  True

def Pre_RefTwoFIdeal (m : (ℓ : Loc Cert.RefTwoFIdeal.nD Cert.RefTwoFIdeal.τ Cert.RefTwoFIdeal.sig) → Buf (Elt Ideal) ℓ) : Prop :=
  True

def Pre_RetInF (m : (ℓ : Loc Cert.RetInF.nD Cert.RetInF.τ Cert.RetInF.sig) → Buf (Elt Bits) ℓ) : Prop :=
  True

def Pre_RetInFIdeal (m : (ℓ : Loc Cert.RetInFIdeal.nD Cert.RetInFIdeal.τ Cert.RetInFIdeal.sig) → Buf (Elt Ideal) ℓ) : Prop :=
  True

def Pre_RefInFIdeal (m : (ℓ : Loc Cert.RefInFIdeal.nD Cert.RefInFIdeal.τ Cert.RefInFIdeal.sig) → Buf (Elt Ideal) ℓ) : Prop :=
  True

def Pre_RetOutF (m : (ℓ : Loc Cert.RetOutF.nD Cert.RetOutF.τ Cert.RetOutF.sig) → Buf (Elt Bits) ℓ) : Prop :=
  True

def Pre_RetOutFIdeal (m : (ℓ : Loc Cert.RetOutFIdeal.nD Cert.RetOutFIdeal.τ Cert.RetOutFIdeal.sig) → Buf (Elt Ideal) ℓ) : Prop :=
  True

def Pre_RefOutFIdeal (m : (ℓ : Loc Cert.RefOutFIdeal.nD Cert.RefOutFIdeal.τ Cert.RefOutFIdeal.sig) → Buf (Elt Ideal) ℓ) : Prop :=
  True

def Pre_PwOneF (m : (ℓ : Loc Cert.PwOneF.nD Cert.PwOneF.τ Cert.PwOneF.sig) → Buf (Elt Bits) ℓ) : Prop :=
  True

def Pre_PwOneFIdeal (m : (ℓ : Loc Cert.PwOneFIdeal.nD Cert.PwOneFIdeal.τ Cert.PwOneFIdeal.sig) → Buf (Elt Ideal) ℓ) : Prop :=
  True

def Pre_RefPwOneFIdeal (m : (ℓ : Loc Cert.RefPwOneFIdeal.nD Cert.RefPwOneFIdeal.τ Cert.RefPwOneFIdeal.sig) → Buf (Elt Ideal) ℓ) : Prop :=
  True

def Pre_PwOneW (m : (ℓ : Loc Cert.PwOneW.nD Cert.PwOneW.τ Cert.PwOneW.sig) → Buf (Elt Bits) ℓ) : Prop :=
  True

def Pre_PwOneWIdeal (m : (ℓ : Loc Cert.PwOneWIdeal.nD Cert.PwOneWIdeal.τ Cert.PwOneWIdeal.sig) → Buf (Elt Ideal) ℓ) : Prop :=
  True

def Pre_RefPwOneWIdeal (m : (ℓ : Loc Cert.RefPwOneWIdeal.nD Cert.RefPwOneWIdeal.τ Cert.RefPwOneWIdeal.sig) → Buf (Elt Ideal) ℓ) : Prop :=
  True

def Pre_PwOneX (m : (ℓ : Loc Cert.PwOneX.nD Cert.PwOneX.τ Cert.PwOneX.sig) → Buf (Elt Bits) ℓ) : Prop :=
  True

def Pre_PwOneXIdeal (m : (ℓ : Loc Cert.PwOneXIdeal.nD Cert.PwOneXIdeal.τ Cert.PwOneXIdeal.sig) → Buf (Elt Ideal) ℓ) : Prop :=
  True

def Pre_RefPwOneXIdeal (m : (ℓ : Loc Cert.RefPwOneXIdeal.nD Cert.RefPwOneXIdeal.τ Cert.RefPwOneXIdeal.sig) → Buf (Elt Ideal) ℓ) : Prop :=
  True

def Pre_PwTwoF (m : (ℓ : Loc Cert.PwTwoF.nD Cert.PwTwoF.τ Cert.PwTwoF.sig) → Buf (Elt Bits) ℓ) : Prop :=
  True

def Pre_PwTwoFIdeal (m : (ℓ : Loc Cert.PwTwoFIdeal.nD Cert.PwTwoFIdeal.τ Cert.PwTwoFIdeal.sig) → Buf (Elt Ideal) ℓ) : Prop :=
  True

def Pre_RefPwTwoFIdeal (m : (ℓ : Loc Cert.RefPwTwoFIdeal.nD Cert.RefPwTwoFIdeal.τ Cert.RefPwTwoFIdeal.sig) → Buf (Elt Ideal) ℓ) : Prop :=
  True

def Pre_PwTwoW (m : (ℓ : Loc Cert.PwTwoW.nD Cert.PwTwoW.τ Cert.PwTwoW.sig) → Buf (Elt Bits) ℓ) : Prop :=
  True

def Pre_PwTwoWIdeal (m : (ℓ : Loc Cert.PwTwoWIdeal.nD Cert.PwTwoWIdeal.τ Cert.PwTwoWIdeal.sig) → Buf (Elt Ideal) ℓ) : Prop :=
  True

def Pre_RefPwTwoWIdeal (m : (ℓ : Loc Cert.RefPwTwoWIdeal.nD Cert.RefPwTwoWIdeal.τ Cert.RefPwTwoWIdeal.sig) → Buf (Elt Ideal) ℓ) : Prop :=
  True

def Pre_PwOneZ (m : (ℓ : Loc Cert.PwOneZ.nD Cert.PwOneZ.τ Cert.PwOneZ.sig) → Buf (Elt Bits) ℓ) : Prop :=
  True

def Pre_PwOneZIdeal (m : (ℓ : Loc Cert.PwOneZIdeal.nD Cert.PwOneZIdeal.τ Cert.PwOneZIdeal.sig) → Buf (Elt Ideal) ℓ) : Prop :=
  True

def Pre_RefPwOneZIdeal (m : (ℓ : Loc Cert.RefPwOneZIdeal.nD Cert.RefPwOneZIdeal.τ Cert.RefPwOneZIdeal.sig) → Buf (Elt Ideal) ℓ) : Prop :=
  True

def Pre_PwTwoX (m : (ℓ : Loc Cert.PwTwoX.nD Cert.PwTwoX.τ Cert.PwTwoX.sig) → Buf (Elt Bits) ℓ) : Prop :=
  True

def Pre_PwTwoXIdeal (m : (ℓ : Loc Cert.PwTwoXIdeal.nD Cert.PwTwoXIdeal.τ Cert.PwTwoXIdeal.sig) → Buf (Elt Ideal) ℓ) : Prop :=
  True

def Pre_PwTwoXIdeal_pw2_x_finite [hPre_pw2_x_finite : Cert.Pre_pw2_x_finite.Facts] (m : (ℓ : Loc Cert.PwTwoXIdeal.nD Cert.PwTwoXIdeal.τ Cert.PwTwoXIdeal.sig) → Buf (Elt Ideal) ℓ) : Prop :=
  ∀ c : Dev Cert.PwTwoXIdeal.nD,
    (Cert.Pre_pw2_x_finite.fn (F := Ideal) (m ((c.tc : Thread Cert.PwTwoXIdeal.nD Cert.PwTwoXIdeal.τ).loc Cert.PwTwoXIdeal.main_arg0)) (m ((c.tc : Thread Cert.PwTwoXIdeal.nD Cert.PwTwoXIdeal.τ).loc Cert.PwTwoXIdeal.main_arg1)) (m ((c.tc : Thread Cert.PwTwoXIdeal.nD Cert.PwTwoXIdeal.τ).loc Cert.PwTwoXIdeal.main_arg2)) (m ((c.tc : Thread Cert.PwTwoXIdeal.nD Cert.PwTwoXIdeal.τ).loc Cert.PwTwoXIdeal.main_arg3)) (m ((c.tc : Thread Cert.PwTwoXIdeal.nD Cert.PwTwoXIdeal.τ).loc Cert.PwTwoXIdeal.main_arg4))) = (fun _ => 1#1)

def Pre_RefPwTwoXIdeal (m : (ℓ : Loc Cert.RefPwTwoXIdeal.nD Cert.RefPwTwoXIdeal.τ Cert.RefPwTwoXIdeal.sig) → Buf (Elt Ideal) ℓ) : Prop :=
  True

def Pre_RefPwTwoXIdeal_pw2_x_finite [hPre_pw2_x_finite : Cert.Pre_pw2_x_finite.Facts] (m : (ℓ : Loc Cert.RefPwTwoXIdeal.nD Cert.RefPwTwoXIdeal.τ Cert.RefPwTwoXIdeal.sig) → Buf (Elt Ideal) ℓ) : Prop :=
  ∀ c : Dev Cert.RefPwTwoXIdeal.nD,
    (Cert.Pre_pw2_x_finite.fn (F := Ideal) (m ((c.tc : Thread Cert.RefPwTwoXIdeal.nD Cert.RefPwTwoXIdeal.τ).loc Cert.RefPwTwoXIdeal.main_arg0)) (m ((c.tc : Thread Cert.RefPwTwoXIdeal.nD Cert.RefPwTwoXIdeal.τ).loc Cert.RefPwTwoXIdeal.main_arg1)) (m ((c.tc : Thread Cert.RefPwTwoXIdeal.nD Cert.RefPwTwoXIdeal.τ).loc Cert.RefPwTwoXIdeal.main_arg2)) (m ((c.tc : Thread Cert.RefPwTwoXIdeal.nD Cert.RefPwTwoXIdeal.τ).loc Cert.RefPwTwoXIdeal.main_arg3)) (m ((c.tc : Thread Cert.RefPwTwoXIdeal.nD Cert.RefPwTwoXIdeal.τ).loc Cert.RefPwTwoXIdeal.main_arg4))) = (fun _ => 1#1)

def Pre_AdaF (m : (ℓ : Loc Cert.AdaF.nD Cert.AdaF.τ Cert.AdaF.sig) → Buf (Elt Bits) ℓ) : Prop :=
  True

def Pre_AdaFIdeal (m : (ℓ : Loc Cert.AdaFIdeal.nD Cert.AdaFIdeal.τ Cert.AdaFIdeal.sig) → Buf (Elt Ideal) ℓ) : Prop :=
  True

def Pre_RefAdaFIdeal (m : (ℓ : Loc Cert.RefAdaFIdeal.nD Cert.RefAdaFIdeal.τ Cert.RefAdaFIdeal.sig) → Buf (Elt Ideal) ℓ) : Prop :=
  True

def Pre_AdaW (m : (ℓ : Loc Cert.AdaW.nD Cert.AdaW.τ Cert.AdaW.sig) → Buf (Elt Bits) ℓ) : Prop :=
  True

def Pre_AdaWIdeal (m : (ℓ : Loc Cert.AdaWIdeal.nD Cert.AdaWIdeal.τ Cert.AdaWIdeal.sig) → Buf (Elt Ideal) ℓ) : Prop :=
  True

def Pre_RefAdaWIdeal (m : (ℓ : Loc Cert.RefAdaWIdeal.nD Cert.RefAdaWIdeal.τ Cert.RefAdaWIdeal.sig) → Buf (Elt Ideal) ℓ) : Prop :=
  True

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_RefAdamAIdeal (m : (ℓ : Loc Cert.RefAdamAIdeal.nD Cert.RefAdamAIdeal.τ Cert.RefAdamAIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_MlpTwoW [hMlpTwoW : Cert.MlpTwoW.Facts] : Prop :=
  ∀ (m : (ℓ : Loc Cert.MlpTwoW.nD Cert.MlpTwoW.τ Cert.MlpTwoW.sig) → Buf (Elt Bits) ℓ) (g : Dev Cert.MlpTwoW.nD → PrngReg), Pre_MlpTwoW m →
    θ_run (Cert.MlpTwoW.defs (F := Bits)) (onTc (τ := Cert.MlpTwoW.τ) (Cert.MlpTwoW.main (F := Bits))) ⟨m, fun _ => 0, g⟩ (fun r => (∀ c : Dev Cert.MlpTwoW.nD,
      r.2.mem ((c.tc : Thread Cert.MlpTwoW.nD Cert.MlpTwoW.τ).loc Cert.MlpTwoW.main_arg0) = m ((c.tc : Thread Cert.MlpTwoW.nD Cert.MlpTwoW.τ).loc Cert.MlpTwoW.main_arg0)
      ∧ r.2.mem ((c.tc : Thread Cert.MlpTwoW.nD Cert.MlpTwoW.τ).loc Cert.MlpTwoW.main_arg1) = m ((c.tc : Thread Cert.MlpTwoW.nD Cert.MlpTwoW.τ).loc Cert.MlpTwoW.main_arg1))
      ∧ r.2.sem = fun _ => 0)

def quiescent_MlpTwoWIdeal [hMlpTwoWIdeal : Cert.MlpTwoWIdeal.Facts] : Prop :=
  ∀ (m : (ℓ : Loc Cert.MlpTwoWIdeal.nD Cert.MlpTwoWIdeal.τ Cert.MlpTwoWIdeal.sig) → Buf (Elt Ideal) ℓ) (g : Dev Cert.MlpTwoWIdeal.nD → PrngReg), Pre_MlpTwoWIdeal m →
    θ_run (Cert.MlpTwoWIdeal.defs (F := Ideal)) (onTc (τ := Cert.MlpTwoWIdeal.τ) (Cert.MlpTwoWIdeal.main (F := Ideal))) ⟨m, fun _ => 0, g⟩ (fun r => (∀ c : Dev Cert.MlpTwoWIdeal.nD,
      r.2.mem ((c.tc : Thread Cert.MlpTwoWIdeal.nD Cert.MlpTwoWIdeal.τ).loc Cert.MlpTwoWIdeal.main_arg0) = m ((c.tc : Thread Cert.MlpTwoWIdeal.nD Cert.MlpTwoWIdeal.τ).loc Cert.MlpTwoWIdeal.main_arg0)
      ∧ r.2.mem ((c.tc : Thread Cert.MlpTwoWIdeal.nD Cert.MlpTwoWIdeal.τ).loc Cert.MlpTwoWIdeal.main_arg1) = m ((c.tc : Thread Cert.MlpTwoWIdeal.nD Cert.MlpTwoWIdeal.τ).loc Cert.MlpTwoWIdeal.main_arg1))
      ∧ r.2.sem = fun _ => 0)

def quiescent_RefTwoWIdeal [hRefTwoWIdeal : Cert.RefTwoWIdeal.Facts] : Prop :=
  ∀ (m : (ℓ : Loc Cert.RefTwoWIdeal.nD Cert.RefTwoWIdeal.τ Cert.RefTwoWIdeal.sig) → Buf (Elt Ideal) ℓ) (g : Dev Cert.RefTwoWIdeal.nD → PrngReg), Pre_RefTwoWIdeal m →
    θ_run (Cert.RefTwoWIdeal.defs (F := Ideal)) (onTc (τ := Cert.RefTwoWIdeal.τ) (Cert.RefTwoWIdeal.main (F := Ideal))) ⟨m, fun _ => 0, g⟩ (fun r => (∀ c : Dev Cert.RefTwoWIdeal.nD,
      r.2.mem ((c.tc : Thread Cert.RefTwoWIdeal.nD Cert.RefTwoWIdeal.τ).loc Cert.RefTwoWIdeal.main_arg0) = m ((c.tc : Thread Cert.RefTwoWIdeal.nD Cert.RefTwoWIdeal.τ).loc Cert.RefTwoWIdeal.main_arg0)
      ∧ r.2.mem ((c.tc : Thread Cert.RefTwoWIdeal.nD Cert.RefTwoWIdeal.τ).loc Cert.RefTwoWIdeal.main_arg1) = m ((c.tc : Thread Cert.RefTwoWIdeal.nD Cert.RefTwoWIdeal.τ).loc Cert.RefTwoWIdeal.main_arg1))
      ∧ r.2.sem = fun _ => 0)

def quiescent_MlpOneW [hMlpOneW : Cert.MlpOneW.Facts] : Prop :=
  ∀ (m : (ℓ : Loc Cert.MlpOneW.nD Cert.MlpOneW.τ Cert.MlpOneW.sig) → Buf (Elt Bits) ℓ) (g : Dev Cert.MlpOneW.nD → PrngReg), Pre_MlpOneW m →
    θ_run (Cert.MlpOneW.defs (F := Bits)) (onTc (τ := Cert.MlpOneW.τ) (Cert.MlpOneW.main (F := Bits))) ⟨m, fun _ => 0, g⟩ (fun r => (∀ c : Dev Cert.MlpOneW.nD,
      r.2.mem ((c.tc : Thread Cert.MlpOneW.nD Cert.MlpOneW.τ).loc Cert.MlpOneW.main_arg0) = m ((c.tc : Thread Cert.MlpOneW.nD Cert.MlpOneW.τ).loc Cert.MlpOneW.main_arg0)
      ∧ r.2.mem ((c.tc : Thread Cert.MlpOneW.nD Cert.MlpOneW.τ).loc Cert.MlpOneW.main_arg1) = m ((c.tc : Thread Cert.MlpOneW.nD Cert.MlpOneW.τ).loc Cert.MlpOneW.main_arg1))
      ∧ r.2.sem = fun _ => 0)

def quiescent_MlpOneWIdeal [hMlpOneWIdeal : Cert.MlpOneWIdeal.Facts] : Prop :=
  ∀ (m : (ℓ : Loc Cert.MlpOneWIdeal.nD Cert.MlpOneWIdeal.τ Cert.MlpOneWIdeal.sig) → Buf (Elt Ideal) ℓ) (g : Dev Cert.MlpOneWIdeal.nD → PrngReg), Pre_MlpOneWIdeal m →
    θ_run (Cert.MlpOneWIdeal.defs (F := Ideal)) (onTc (τ := Cert.MlpOneWIdeal.τ) (Cert.MlpOneWIdeal.main (F := Ideal))) ⟨m, fun _ => 0, g⟩ (fun r => (∀ c : Dev Cert.MlpOneWIdeal.nD,
      r.2.mem ((c.tc : Thread Cert.MlpOneWIdeal.nD Cert.MlpOneWIdeal.τ).loc Cert.MlpOneWIdeal.main_arg0) = m ((c.tc : Thread Cert.MlpOneWIdeal.nD Cert.MlpOneWIdeal.τ).loc Cert.MlpOneWIdeal.main_arg0)
      ∧ r.2.mem ((c.tc : Thread Cert.MlpOneWIdeal.nD Cert.MlpOneWIdeal.τ).loc Cert.MlpOneWIdeal.main_arg1) = m ((c.tc : Thread Cert.MlpOneWIdeal.nD Cert.MlpOneWIdeal.τ).loc Cert.MlpOneWIdeal.main_arg1))
      ∧ r.2.sem = fun _ => 0)

def quiescent_RefOneWIdeal [hRefOneWIdeal : Cert.RefOneWIdeal.Facts] : Prop :=
  ∀ (m : (ℓ : Loc Cert.RefOneWIdeal.nD Cert.RefOneWIdeal.τ Cert.RefOneWIdeal.sig) → Buf (Elt Ideal) ℓ) (g : Dev Cert.RefOneWIdeal.nD → PrngReg), Pre_RefOneWIdeal m →
    θ_run (Cert.RefOneWIdeal.defs (F := Ideal)) (onTc (τ := Cert.RefOneWIdeal.τ) (Cert.RefOneWIdeal.main (F := Ideal))) ⟨m, fun _ => 0, g⟩ (fun r => (∀ c : Dev Cert.RefOneWIdeal.nD,
      r.2.mem ((c.tc : Thread Cert.RefOneWIdeal.nD Cert.RefOneWIdeal.τ).loc Cert.RefOneWIdeal.main_arg0) = m ((c.tc : Thread Cert.RefOneWIdeal.nD Cert.RefOneWIdeal.τ).loc Cert.RefOneWIdeal.main_arg0)
      ∧ r.2.mem ((c.tc : Thread Cert.RefOneWIdeal.nD Cert.RefOneWIdeal.τ).loc Cert.RefOneWIdeal.main_arg1) = m ((c.tc : Thread Cert.RefOneWIdeal.nD Cert.RefOneWIdeal.τ).loc Cert.RefOneWIdeal.main_arg1))
      ∧ r.2.sem = fun _ => 0)

def quiescent_RetQ [hRetQ : Cert.RetQ.Facts] : Prop :=
  ∀ (m : (ℓ : Loc Cert.RetQ.nD Cert.RetQ.τ Cert.RetQ.sig) → Buf (Elt Bits) ℓ) (g : Dev Cert.RetQ.nD → PrngReg), Pre_RetQ m →
    θ_run (Cert.RetQ.defs (F := Bits)) (onTc (τ := Cert.RetQ.τ) (Cert.RetQ.main (F := Bits))) ⟨m, fun _ => 0, g⟩ (fun r => (∀ c : Dev Cert.RetQ.nD,
      r.2.mem ((c.tc : Thread Cert.RetQ.nD Cert.RetQ.τ).loc Cert.RetQ.main_arg0) = m ((c.tc : Thread Cert.RetQ.nD Cert.RetQ.τ).loc Cert.RetQ.main_arg0)
      ∧ r.2.mem ((c.tc : Thread Cert.RetQ.nD Cert.RetQ.τ).loc Cert.RetQ.main_arg1) = m ((c.tc : Thread Cert.RetQ.nD Cert.RetQ.τ).loc Cert.RetQ.main_arg1)
      ∧ r.2.mem ((c.tc : Thread Cert.RetQ.nD Cert.RetQ.τ).loc Cert.RetQ.main_arg2) = m ((c.tc : Thread Cert.RetQ.nD Cert.RetQ.τ).loc Cert.RetQ.main_arg2)
      ∧ r.2.mem ((c.tc : Thread Cert.RetQ.nD Cert.RetQ.τ).loc Cert.RetQ.main_arg3) = m ((c.tc : Thread Cert.RetQ.nD Cert.RetQ.τ).loc Cert.RetQ.main_arg3)
      ∧ r.2.mem ((c.tc : Thread Cert.RetQ.nD Cert.RetQ.τ).loc Cert.RetQ.main_arg4) = m ((c.tc : Thread Cert.RetQ.nD Cert.RetQ.τ).loc Cert.RetQ.main_arg4))
      ∧ r.2.sem = fun _ => 0)

def quiescent_RetQIdeal [hRetQIdeal : Cert.RetQIdeal.Facts] : Prop :=
  ∀ (m : (ℓ : Loc Cert.RetQIdeal.nD Cert.RetQIdeal.τ Cert.RetQIdeal.sig) → Buf (Elt Ideal) ℓ) (g : Dev Cert.RetQIdeal.nD → PrngReg), Pre_RetQIdeal m →
    θ_run (Cert.RetQIdeal.defs (F := Ideal)) (onTc (τ := Cert.RetQIdeal.τ) (Cert.RetQIdeal.main (F := Ideal))) ⟨m, fun _ => 0, g⟩ (fun r => (∀ c : Dev Cert.RetQIdeal.nD,
      r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
      ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1)
      ∧ r.2.mem ((c.tc : Thread Cert.RetQIdeal.nD Cert.RetQIdeal.τ).loc Cert.RetQIdeal.main_arg2) = m ((c.tc : Thread Cert.RetQIdeal.nD Cert.RetQIdeal.τ).loc Cert.RetQIdeal.main_arg2)
      ∧ r.2.mem ((c.tc : Thread Cert.RetQIdeal.nD Cert.RetQIdeal.τ).loc Cert.RetQIdeal.main_arg3) = m ((c.tc : Thread Cert.RetQIdeal.nD Cert.RetQIdeal.τ).loc Cert.RetQIdeal.main_arg3)
      ∧ r.2.mem ((c.tc : Thread Cert.RetQIdeal.nD Cert.RetQIdeal.τ).loc Cert.RetQIdeal.main_arg4) = m ((c.tc : Thread Cert.RetQIdeal.nD Cert.RetQIdeal.τ).loc Cert.RetQIdeal.main_arg4))
      ∧ r.2.sem = fun _ => 0)

def quiescent_RetQIdeal_pre_ret_q_finite [hRetQIdeal : Cert.RetQIdeal.Facts] [hPre_ret_q_finite : Cert.Pre_ret_q_finite.Facts] : Prop :=
  ∀ (m : (ℓ : Loc Cert.RetQIdeal.nD Cert.RetQIdeal.τ Cert.RetQIdeal.sig) → Buf (Elt Ideal) ℓ) (g : Dev Cert.RetQIdeal.nD → PrngReg), Pre_RetQIdeal_ret_q_finite m →
    θ_run (Cert.RetQIdeal.defs (F := Ideal)) (onTc (τ := Cert.RetQIdeal.τ) (Cert.RetQIdeal.main (F := Ideal))) ⟨m, fun _ => 0, g⟩ (fun r => (∀ c : Dev Cert.RetQIdeal.nD,
      r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
      ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1)
      ∧ r.2.mem ((c.tc : Thread Cert.RetQIdeal.nD Cert.RetQIdeal.τ).loc Cert.RetQIdeal.main_arg2) = m ((c.tc : Thread Cert.RetQIdeal.nD Cert.RetQIdeal.τ).loc Cert.RetQIdeal.main_arg2)
      ∧ r.2.mem ((c.tc : Thread Cert.RetQIdeal.nD Cert.RetQIdeal.τ).loc Cert.RetQIdeal.main_arg3) = m ((c.tc : Thread Cert.RetQIdeal.nD Cert.RetQIdeal.τ).loc Cert.RetQIdeal.main_arg3)
      ∧ r.2.mem ((c.tc : Thread Cert.RetQIdeal.nD Cert.RetQIdeal.τ).loc Cert.RetQIdeal.main_arg4) = m ((c.tc : Thread Cert.RetQIdeal.nD Cert.RetQIdeal.τ).loc Cert.RetQIdeal.main_arg4))
      ∧ r.2.sem = fun _ => 0)

def quiescent_RefQIdeal [hRefQIdeal : Cert.RefQIdeal.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_RefQIdeal_pre_ret_q_finite [hRefQIdeal : Cert.RefQIdeal.Facts] [hPre_ret_q_finite : Cert.Pre_ret_q_finite.Facts] : Prop :=
  ∀ (m : (ℓ : Loc Cert.RefQIdeal.nD Cert.RefQIdeal.τ Cert.RefQIdeal.sig) → Buf (Elt Ideal) ℓ) (g : Dev Cert.RefQIdeal.nD → PrngReg), Pre_RefQIdeal_ret_q_finite m →
    θ_run (Cert.RefQIdeal.defs (F := Ideal)) (onTc (τ := Cert.RefQIdeal.τ) (Cert.RefQIdeal.main (F := Ideal))) ⟨m, fun _ => 0, g⟩ (fun r => (∀ c : Dev Cert.RefQIdeal.nD,
      r.2.mem ((c.tc : Thread Cert.RefQIdeal.nD Cert.RefQIdeal.τ).loc Cert.RefQIdeal.main_arg0) = m ((c.tc : Thread Cert.RefQIdeal.nD Cert.RefQIdeal.τ).loc Cert.RefQIdeal.main_arg0)
      ∧ r.2.mem ((c.tc : Thread Cert.RefQIdeal.nD Cert.RefQIdeal.τ).loc Cert.RefQIdeal.main_arg1) = m ((c.tc : Thread Cert.RefQIdeal.nD Cert.RefQIdeal.τ).loc Cert.RefQIdeal.main_arg1)
      ∧ r.2.mem ((c.tc : Thread Cert.RefQIdeal.nD Cert.RefQIdeal.τ).loc Cert.RefQIdeal.main_arg2) = m ((c.tc : Thread Cert.RefQIdeal.nD Cert.RefQIdeal.τ).loc Cert.RefQIdeal.main_arg2)
      ∧ r.2.mem ((c.tc : Thread Cert.RefQIdeal.nD Cert.RefQIdeal.τ).loc Cert.RefQIdeal.main_arg3) = m ((c.tc : Thread Cert.RefQIdeal.nD Cert.RefQIdeal.τ).loc Cert.RefQIdeal.main_arg3)
      ∧ r.2.mem ((c.tc : Thread Cert.RefQIdeal.nD Cert.RefQIdeal.τ).loc Cert.RefQIdeal.main_arg4) = m ((c.tc : Thread Cert.RefQIdeal.nD Cert.RefQIdeal.τ).loc Cert.RefQIdeal.main_arg4))
      ∧ r.2.sem = fun _ => 0)

def quiescent_MlpOneX [hMlpOneX : Cert.MlpOneX.Facts] : Prop :=
  ∀ (m : (ℓ : Loc Cert.MlpOneX.nD Cert.MlpOneX.τ Cert.MlpOneX.sig) → Buf (Elt Bits) ℓ) (g : Dev Cert.MlpOneX.nD → PrngReg), Pre_MlpOneX m →
    θ_run (Cert.MlpOneX.defs (F := Bits)) (onTc (τ := Cert.MlpOneX.τ) (Cert.MlpOneX.main (F := Bits))) ⟨m, fun _ => 0, g⟩ (fun r => (∀ c : Dev Cert.MlpOneX.nD,
      r.2.mem ((c.tc : Thread Cert.MlpOneX.nD Cert.MlpOneX.τ).loc Cert.MlpOneX.main_arg0) = m ((c.tc : Thread Cert.MlpOneX.nD Cert.MlpOneX.τ).loc Cert.MlpOneX.main_arg0)
      ∧ r.2.mem ((c.tc : Thread Cert.MlpOneX.nD Cert.MlpOneX.τ).loc Cert.MlpOneX.main_arg1) = m ((c.tc : Thread Cert.MlpOneX.nD Cert.MlpOneX.τ).loc Cert.MlpOneX.main_arg1)
      ∧ r.2.mem ((c.tc : Thread Cert.MlpOneX.nD Cert.MlpOneX.τ).loc Cert.MlpOneX.main_arg2) = m ((c.tc : Thread Cert.MlpOneX.nD Cert.MlpOneX.τ).loc Cert.MlpOneX.main_arg2)
      ∧ r.2.mem ((c.tc : Thread Cert.MlpOneX.nD Cert.MlpOneX.τ).loc Cert.MlpOneX.main_arg3) = m ((c.tc : Thread Cert.MlpOneX.nD Cert.MlpOneX.τ).loc Cert.MlpOneX.main_arg3)
      ∧ r.2.mem ((c.tc : Thread Cert.MlpOneX.nD Cert.MlpOneX.τ).loc Cert.MlpOneX.main_arg4) = m ((c.tc : Thread Cert.MlpOneX.nD Cert.MlpOneX.τ).loc Cert.MlpOneX.main_arg4)
      ∧ r.2.mem ((c.tc : Thread Cert.MlpOneX.nD Cert.MlpOneX.τ).loc Cert.MlpOneX.main_arg5) = m ((c.tc : Thread Cert.MlpOneX.nD Cert.MlpOneX.τ).loc Cert.MlpOneX.main_arg5)
      ∧ r.2.mem ((c.tc : Thread Cert.MlpOneX.nD Cert.MlpOneX.τ).loc Cert.MlpOneX.main_arg6) = m ((c.tc : Thread Cert.MlpOneX.nD Cert.MlpOneX.τ).loc Cert.MlpOneX.main_arg6)
      ∧ r.2.mem ((c.tc : Thread Cert.MlpOneX.nD Cert.MlpOneX.τ).loc Cert.MlpOneX.main_arg7) = m ((c.tc : Thread Cert.MlpOneX.nD Cert.MlpOneX.τ).loc Cert.MlpOneX.main_arg7))
      ∧ r.2.sem = fun _ => 0)

def quiescent_MlpOneXIdeal [hMlpOneXIdeal : Cert.MlpOneXIdeal.Facts] : Prop :=
  ∀ (m : (ℓ : Loc Cert.MlpOneXIdeal.nD Cert.MlpOneXIdeal.τ Cert.MlpOneXIdeal.sig) → Buf (Elt Ideal) ℓ) (g : Dev Cert.MlpOneXIdeal.nD → PrngReg), Pre_MlpOneXIdeal m →
    θ_run (Cert.MlpOneXIdeal.defs (F := Ideal)) (onTc (τ := Cert.MlpOneXIdeal.τ) (Cert.MlpOneXIdeal.main (F := Ideal))) ⟨m, fun _ => 0, g⟩ (fun r => (∀ c : Dev Cert.MlpOneXIdeal.nD,
      r.2.mem ((c.tc : Thread Cert.MlpOneXIdeal.nD Cert.MlpOneXIdeal.τ).loc Cert.MlpOneXIdeal.main_arg0) = m ((c.tc : Thread Cert.MlpOneXIdeal.nD Cert.MlpOneXIdeal.τ).loc Cert.MlpOneXIdeal.main_arg0)
      ∧ r.2.mem ((c.tc : Thread Cert.MlpOneXIdeal.nD Cert.MlpOneXIdeal.τ).loc Cert.MlpOneXIdeal.main_arg1) = m ((c.tc : Thread Cert.MlpOneXIdeal.nD Cert.MlpOneXIdeal.τ).loc Cert.MlpOneXIdeal.main_arg1)
      ∧ r.2.mem ((c.tc : Thread Cert.MlpOneXIdeal.nD Cert.MlpOneXIdeal.τ).loc Cert.MlpOneXIdeal.main_arg2) = m ((c.tc : Thread Cert.MlpOneXIdeal.nD Cert.MlpOneXIdeal.τ).loc Cert.MlpOneXIdeal.main_arg2)
      ∧ r.2.mem ((c.tc : Thread Cert.MlpOneXIdeal.nD Cert.MlpOneXIdeal.τ).loc Cert.MlpOneXIdeal.main_arg3) = m ((c.tc : Thread Cert.MlpOneXIdeal.nD Cert.MlpOneXIdeal.τ).loc Cert.MlpOneXIdeal.main_arg3)
      ∧ r.2.mem ((c.tc : Thread Cert.MlpOneXIdeal.nD Cert.MlpOneXIdeal.τ).loc Cert.MlpOneXIdeal.main_arg4) = m ((c.tc : Thread Cert.MlpOneXIdeal.nD Cert.MlpOneXIdeal.τ).loc Cert.MlpOneXIdeal.main_arg4)
      ∧ r.2.mem ((c.tc : Thread Cert.MlpOneXIdeal.nD Cert.MlpOneXIdeal.τ).loc Cert.MlpOneXIdeal.main_arg5) = m ((c.tc : Thread Cert.MlpOneXIdeal.nD Cert.MlpOneXIdeal.τ).loc Cert.MlpOneXIdeal.main_arg5)
      ∧ r.2.mem ((c.tc : Thread Cert.MlpOneXIdeal.nD Cert.MlpOneXIdeal.τ).loc Cert.MlpOneXIdeal.main_arg6) = m ((c.tc : Thread Cert.MlpOneXIdeal.nD Cert.MlpOneXIdeal.τ).loc Cert.MlpOneXIdeal.main_arg6)
      ∧ r.2.mem ((c.tc : Thread Cert.MlpOneXIdeal.nD Cert.MlpOneXIdeal.τ).loc Cert.MlpOneXIdeal.main_arg7) = m ((c.tc : Thread Cert.MlpOneXIdeal.nD Cert.MlpOneXIdeal.τ).loc Cert.MlpOneXIdeal.main_arg7))
      ∧ r.2.sem = fun _ => 0)

def quiescent_RefOneXIdeal [hRefOneXIdeal : Cert.RefOneXIdeal.Facts] : Prop :=
  ∀ (m : (ℓ : Loc Cert.RefOneXIdeal.nD Cert.RefOneXIdeal.τ Cert.RefOneXIdeal.sig) → Buf (Elt Ideal) ℓ) (g : Dev Cert.RefOneXIdeal.nD → PrngReg), Pre_RefOneXIdeal m →
    θ_run (Cert.RefOneXIdeal.defs (F := Ideal)) (onTc (τ := Cert.RefOneXIdeal.τ) (Cert.RefOneXIdeal.main (F := Ideal))) ⟨m, fun _ => 0, g⟩ (fun r => (∀ c : Dev Cert.RefOneXIdeal.nD,
      r.2.mem ((c.tc : Thread Cert.RefOneXIdeal.nD Cert.RefOneXIdeal.τ).loc Cert.RefOneXIdeal.main_arg0) = m ((c.tc : Thread Cert.RefOneXIdeal.nD Cert.RefOneXIdeal.τ).loc Cert.RefOneXIdeal.main_arg0)
      ∧ r.2.mem ((c.tc : Thread Cert.RefOneXIdeal.nD Cert.RefOneXIdeal.τ).loc Cert.RefOneXIdeal.main_arg1) = m ((c.tc : Thread Cert.RefOneXIdeal.nD Cert.RefOneXIdeal.τ).loc Cert.RefOneXIdeal.main_arg1)
      ∧ r.2.mem ((c.tc : Thread Cert.RefOneXIdeal.nD Cert.RefOneXIdeal.τ).loc Cert.RefOneXIdeal.main_arg2) = m ((c.tc : Thread Cert.RefOneXIdeal.nD Cert.RefOneXIdeal.τ).loc Cert.RefOneXIdeal.main_arg2)
      ∧ r.2.mem ((c.tc : Thread Cert.RefOneXIdeal.nD Cert.RefOneXIdeal.τ).loc Cert.RefOneXIdeal.main_arg3) = m ((c.tc : Thread Cert.RefOneXIdeal.nD Cert.RefOneXIdeal.τ).loc Cert.RefOneXIdeal.main_arg3)
      ∧ r.2.mem ((c.tc : Thread Cert.RefOneXIdeal.nD Cert.RefOneXIdeal.τ).loc Cert.RefOneXIdeal.main_arg4) = m ((c.tc : Thread Cert.RefOneXIdeal.nD Cert.RefOneXIdeal.τ).loc Cert.RefOneXIdeal.main_arg4)
      ∧ r.2.mem ((c.tc : Thread Cert.RefOneXIdeal.nD Cert.RefOneXIdeal.τ).loc Cert.RefOneXIdeal.main_arg5) = m ((c.tc : Thread Cert.RefOneXIdeal.nD Cert.RefOneXIdeal.τ).loc Cert.RefOneXIdeal.main_arg5)
      ∧ r.2.mem ((c.tc : Thread Cert.RefOneXIdeal.nD Cert.RefOneXIdeal.τ).loc Cert.RefOneXIdeal.main_arg6) = m ((c.tc : Thread Cert.RefOneXIdeal.nD Cert.RefOneXIdeal.τ).loc Cert.RefOneXIdeal.main_arg6)
      ∧ r.2.mem ((c.tc : Thread Cert.RefOneXIdeal.nD Cert.RefOneXIdeal.τ).loc Cert.RefOneXIdeal.main_arg7) = m ((c.tc : Thread Cert.RefOneXIdeal.nD Cert.RefOneXIdeal.τ).loc Cert.RefOneXIdeal.main_arg7))
      ∧ r.2.sem = fun _ => 0)

def quiescent_RetInX [hRetInX : Cert.RetInX.Facts] : Prop :=
  ∀ (m : (ℓ : Loc Cert.RetInX.nD Cert.RetInX.τ Cert.RetInX.sig) → Buf (Elt Bits) ℓ) (g : Dev Cert.RetInX.nD → PrngReg), Pre_RetInX m →
    θ_run (Cert.RetInX.defs (F := Bits)) (onTc (τ := Cert.RetInX.τ) (Cert.RetInX.main (F := Bits))) ⟨m, fun _ => 0, g⟩ (fun r => (∀ c : Dev Cert.RetInX.nD,
      r.2.mem ((c.tc : Thread Cert.RetInX.nD Cert.RetInX.τ).loc Cert.RetInX.main_arg0) = m ((c.tc : Thread Cert.RetInX.nD Cert.RetInX.τ).loc Cert.RetInX.main_arg0)
      ∧ r.2.mem ((c.tc : Thread Cert.RetInX.nD Cert.RetInX.τ).loc Cert.RetInX.main_arg1) = m ((c.tc : Thread Cert.RetInX.nD Cert.RetInX.τ).loc Cert.RetInX.main_arg1)
      ∧ r.2.mem ((c.tc : Thread Cert.RetInX.nD Cert.RetInX.τ).loc Cert.RetInX.main_arg2) = m ((c.tc : Thread Cert.RetInX.nD Cert.RetInX.τ).loc Cert.RetInX.main_arg2)
      ∧ r.2.mem ((c.tc : Thread Cert.RetInX.nD Cert.RetInX.τ).loc Cert.RetInX.main_arg3) = m ((c.tc : Thread Cert.RetInX.nD Cert.RetInX.τ).loc Cert.RetInX.main_arg3)
      ∧ r.2.mem ((c.tc : Thread Cert.RetInX.nD Cert.RetInX.τ).loc Cert.RetInX.main_arg4) = m ((c.tc : Thread Cert.RetInX.nD Cert.RetInX.τ).loc Cert.RetInX.main_arg4)
      ∧ r.2.mem ((c.tc : Thread Cert.RetInX.nD Cert.RetInX.τ).loc Cert.RetInX.main_arg5) = m ((c.tc : Thread Cert.RetInX.nD Cert.RetInX.τ).loc Cert.RetInX.main_arg5)
      ∧ r.2.mem ((c.tc : Thread Cert.RetInX.nD Cert.RetInX.τ).loc Cert.RetInX.main_arg6) = m ((c.tc : Thread Cert.RetInX.nD Cert.RetInX.τ).loc Cert.RetInX.main_arg6)
      ∧ r.2.mem ((c.tc : Thread Cert.RetInX.nD Cert.RetInX.τ).loc Cert.RetInX.main_arg7) = m ((c.tc : Thread Cert.RetInX.nD Cert.RetInX.τ).loc Cert.RetInX.main_arg7))
      ∧ r.2.sem = fun _ => 0)

def quiescent_RetInXIdeal [hRetInXIdeal : Cert.RetInXIdeal.Facts] : Prop :=
  ∀ (m : (ℓ : Loc Cert.RetInXIdeal.nD Cert.RetInXIdeal.τ Cert.RetInXIdeal.sig) → Buf (Elt Ideal) ℓ) (g : Dev Cert.RetInXIdeal.nD → PrngReg), Pre_RetInXIdeal m →
    θ_run (Cert.RetInXIdeal.defs (F := Ideal)) (onTc (τ := Cert.RetInXIdeal.τ) (Cert.RetInXIdeal.main (F := Ideal))) ⟨m, fun _ => 0, g⟩ (fun r => (∀ c : Dev Cert.RetInXIdeal.nD,
      r.2.mem ((c.tc : Thread Cert.RetInXIdeal.nD Cert.RetInXIdeal.τ).loc Cert.RetInXIdeal.main_arg0) = m ((c.tc : Thread Cert.RetInXIdeal.nD Cert.RetInXIdeal.τ).loc Cert.RetInXIdeal.main_arg0)
      ∧ r.2.mem ((c.tc : Thread Cert.RetInXIdeal.nD Cert.RetInXIdeal.τ).loc Cert.RetInXIdeal.main_arg1) = m ((c.tc : Thread Cert.RetInXIdeal.nD Cert.RetInXIdeal.τ).loc Cert.RetInXIdeal.main_arg1)
      ∧ r.2.mem ((c.tc : Thread Cert.RetInXIdeal.nD Cert.RetInXIdeal.τ).loc Cert.RetInXIdeal.main_arg2) = m ((c.tc : Thread Cert.RetInXIdeal.nD Cert.RetInXIdeal.τ).loc Cert.RetInXIdeal.main_arg2)
      ∧ r.2.mem ((c.tc : Thread Cert.RetInXIdeal.nD Cert.RetInXIdeal.τ).loc Cert.RetInXIdeal.main_arg3) = m ((c.tc : Thread Cert.RetInXIdeal.nD Cert.RetInXIdeal.τ).loc Cert.RetInXIdeal.main_arg3)
      ∧ r.2.mem ((c.tc : Thread Cert.RetInXIdeal.nD Cert.RetInXIdeal.τ).loc Cert.RetInXIdeal.main_arg4) = m ((c.tc : Thread Cert.RetInXIdeal.nD Cert.RetInXIdeal.τ).loc Cert.RetInXIdeal.main_arg4)
      ∧ r.2.mem ((c.tc : Thread Cert.RetInXIdeal.nD Cert.RetInXIdeal.τ).loc Cert.RetInXIdeal.main_arg5) = m ((c.tc : Thread Cert.RetInXIdeal.nD Cert.RetInXIdeal.τ).loc Cert.RetInXIdeal.main_arg5)
      ∧ r.2.mem ((c.tc : Thread Cert.RetInXIdeal.nD Cert.RetInXIdeal.τ).loc Cert.RetInXIdeal.main_arg6) = m ((c.tc : Thread Cert.RetInXIdeal.nD Cert.RetInXIdeal.τ).loc Cert.RetInXIdeal.main_arg6)
      ∧ r.2.mem ((c.tc : Thread Cert.RetInXIdeal.nD Cert.RetInXIdeal.τ).loc Cert.RetInXIdeal.main_arg7) = m ((c.tc : Thread Cert.RetInXIdeal.nD Cert.RetInXIdeal.τ).loc Cert.RetInXIdeal.main_arg7))
      ∧ r.2.sem = fun _ => 0)

def quiescent_RefInXIdeal [hRefInXIdeal : Cert.RefInXIdeal.Facts] : Prop :=
  ∀ (m : (ℓ : Loc Cert.RefInXIdeal.nD Cert.RefInXIdeal.τ Cert.RefInXIdeal.sig) → Buf (Elt Ideal) ℓ) (g : Dev Cert.RefInXIdeal.nD → PrngReg), Pre_RefInXIdeal m →
    θ_run (Cert.RefInXIdeal.defs (F := Ideal)) (onTc (τ := Cert.RefInXIdeal.τ) (Cert.RefInXIdeal.main (F := Ideal))) ⟨m, fun _ => 0, g⟩ (fun r => (∀ c : Dev Cert.RefInXIdeal.nD,
      r.2.mem ((c.tc : Thread Cert.RefInXIdeal.nD Cert.RefInXIdeal.τ).loc Cert.RefInXIdeal.main_arg0) = m ((c.tc : Thread Cert.RefInXIdeal.nD Cert.RefInXIdeal.τ).loc Cert.RefInXIdeal.main_arg0)
      ∧ r.2.mem ((c.tc : Thread Cert.RefInXIdeal.nD Cert.RefInXIdeal.τ).loc Cert.RefInXIdeal.main_arg1) = m ((c.tc : Thread Cert.RefInXIdeal.nD Cert.RefInXIdeal.τ).loc Cert.RefInXIdeal.main_arg1)
      ∧ r.2.mem ((c.tc : Thread Cert.RefInXIdeal.nD Cert.RefInXIdeal.τ).loc Cert.RefInXIdeal.main_arg2) = m ((c.tc : Thread Cert.RefInXIdeal.nD Cert.RefInXIdeal.τ).loc Cert.RefInXIdeal.main_arg2)
      ∧ r.2.mem ((c.tc : Thread Cert.RefInXIdeal.nD Cert.RefInXIdeal.τ).loc Cert.RefInXIdeal.main_arg3) = m ((c.tc : Thread Cert.RefInXIdeal.nD Cert.RefInXIdeal.τ).loc Cert.RefInXIdeal.main_arg3)
      ∧ r.2.mem ((c.tc : Thread Cert.RefInXIdeal.nD Cert.RefInXIdeal.τ).loc Cert.RefInXIdeal.main_arg4) = m ((c.tc : Thread Cert.RefInXIdeal.nD Cert.RefInXIdeal.τ).loc Cert.RefInXIdeal.main_arg4)
      ∧ r.2.mem ((c.tc : Thread Cert.RefInXIdeal.nD Cert.RefInXIdeal.τ).loc Cert.RefInXIdeal.main_arg5) = m ((c.tc : Thread Cert.RefInXIdeal.nD Cert.RefInXIdeal.τ).loc Cert.RefInXIdeal.main_arg5)
      ∧ r.2.mem ((c.tc : Thread Cert.RefInXIdeal.nD Cert.RefInXIdeal.τ).loc Cert.RefInXIdeal.main_arg6) = m ((c.tc : Thread Cert.RefInXIdeal.nD Cert.RefInXIdeal.τ).loc Cert.RefInXIdeal.main_arg6)
      ∧ r.2.mem ((c.tc : Thread Cert.RefInXIdeal.nD Cert.RefInXIdeal.τ).loc Cert.RefInXIdeal.main_arg7) = m ((c.tc : Thread Cert.RefInXIdeal.nD Cert.RefInXIdeal.τ).loc Cert.RefInXIdeal.main_arg7))
      ∧ r.2.sem = fun _ => 0)

def quiescent_RetInW [hRetInW : Cert.RetInW.Facts] : Prop :=
  ∀ (m : (ℓ : Loc Cert.RetInW.nD Cert.RetInW.τ Cert.RetInW.sig) → Buf (Elt Bits) ℓ) (g : Dev Cert.RetInW.nD → PrngReg), Pre_RetInW m →
    θ_run (Cert.RetInW.defs (F := Bits)) (onTc (τ := Cert.RetInW.τ) (Cert.RetInW.main (F := Bits))) ⟨m, fun _ => 0, g⟩ (fun r => (∀ c : Dev Cert.RetInW.nD,
      r.2.mem ((c.tc : Thread Cert.RetInW.nD Cert.RetInW.τ).loc Cert.RetInW.main_arg0) = m ((c.tc : Thread Cert.RetInW.nD Cert.RetInW.τ).loc Cert.RetInW.main_arg0)
      ∧ r.2.mem ((c.tc : Thread Cert.RetInW.nD Cert.RetInW.τ).loc Cert.RetInW.main_arg1) = m ((c.tc : Thread Cert.RetInW.nD Cert.RetInW.τ).loc Cert.RetInW.main_arg1))
      ∧ r.2.sem = fun _ => 0)

def quiescent_RetInWIdeal [hRetInWIdeal : Cert.RetInWIdeal.Facts] : Prop :=
  ∀ (m : (ℓ : Loc Cert.RetInWIdeal.nD Cert.RetInWIdeal.τ Cert.RetInWIdeal.sig) → Buf (Elt Ideal) ℓ) (g : Dev Cert.RetInWIdeal.nD → PrngReg), Pre_RetInWIdeal m →
    θ_run (Cert.RetInWIdeal.defs (F := Ideal)) (onTc (τ := Cert.RetInWIdeal.τ) (Cert.RetInWIdeal.main (F := Ideal))) ⟨m, fun _ => 0, g⟩ (fun r => (∀ c : Dev Cert.RetInWIdeal.nD,
      r.2.mem ((c.tc : Thread Cert.RetInWIdeal.nD Cert.RetInWIdeal.τ).loc Cert.RetInWIdeal.main_arg0) = m ((c.tc : Thread Cert.RetInWIdeal.nD Cert.RetInWIdeal.τ).loc Cert.RetInWIdeal.main_arg0)
      ∧ r.2.mem ((c.tc : Thread Cert.RetInWIdeal.nD Cert.RetInWIdeal.τ).loc Cert.RetInWIdeal.main_arg1) = m ((c.tc : Thread Cert.RetInWIdeal.nD Cert.RetInWIdeal.τ).loc Cert.RetInWIdeal.main_arg1))
      ∧ r.2.sem = fun _ => 0)

def quiescent_RefInWIdeal [hRefInWIdeal : Cert.RefInWIdeal.Facts] : Prop :=
  ∀ (m : (ℓ : Loc Cert.RefInWIdeal.nD Cert.RefInWIdeal.τ Cert.RefInWIdeal.sig) → Buf (Elt Ideal) ℓ) (g : Dev Cert.RefInWIdeal.nD → PrngReg), Pre_RefInWIdeal m →
    θ_run (Cert.RefInWIdeal.defs (F := Ideal)) (onTc (τ := Cert.RefInWIdeal.τ) (Cert.RefInWIdeal.main (F := Ideal))) ⟨m, fun _ => 0, g⟩ (fun r => (∀ c : Dev Cert.RefInWIdeal.nD,
      r.2.mem ((c.tc : Thread Cert.RefInWIdeal.nD Cert.RefInWIdeal.τ).loc Cert.RefInWIdeal.main_arg0) = m ((c.tc : Thread Cert.RefInWIdeal.nD Cert.RefInWIdeal.τ).loc Cert.RefInWIdeal.main_arg0)
      ∧ r.2.mem ((c.tc : Thread Cert.RefInWIdeal.nD Cert.RefInWIdeal.τ).loc Cert.RefInWIdeal.main_arg1) = m ((c.tc : Thread Cert.RefInWIdeal.nD Cert.RefInWIdeal.τ).loc Cert.RefInWIdeal.main_arg1))
      ∧ r.2.sem = fun _ => 0)

def quiescent_RetOutX [hRetOutX : Cert.RetOutX.Facts] : Prop :=
  ∀ (m : (ℓ : Loc Cert.RetOutX.nD Cert.RetOutX.τ Cert.RetOutX.sig) → Buf (Elt Bits) ℓ) (g : Dev Cert.RetOutX.nD → PrngReg), Pre_RetOutX m →
    θ_run (Cert.RetOutX.defs (F := Bits)) (onTc (τ := Cert.RetOutX.τ) (Cert.RetOutX.main (F := Bits))) ⟨m, fun _ => 0, g⟩ (fun r => (∀ c : Dev Cert.RetOutX.nD,
      r.2.mem ((c.tc : Thread Cert.RetOutX.nD Cert.RetOutX.τ).loc Cert.RetOutX.main_arg0) = m ((c.tc : Thread Cert.RetOutX.nD Cert.RetOutX.τ).loc Cert.RetOutX.main_arg0)
      ∧ r.2.mem ((c.tc : Thread Cert.RetOutX.nD Cert.RetOutX.τ).loc Cert.RetOutX.main_arg1) = m ((c.tc : Thread Cert.RetOutX.nD Cert.RetOutX.τ).loc Cert.RetOutX.main_arg1))
      ∧ r.2.sem = fun _ => 0)

def quiescent_RetOutXIdeal [hRetOutXIdeal : Cert.RetOutXIdeal.Facts] : Prop :=
  ∀ (m : (ℓ : Loc Cert.RetOutXIdeal.nD Cert.RetOutXIdeal.τ Cert.RetOutXIdeal.sig) → Buf (Elt Ideal) ℓ) (g : Dev Cert.RetOutXIdeal.nD → PrngReg), Pre_RetOutXIdeal m →
    θ_run (Cert.RetOutXIdeal.defs (F := Ideal)) (onTc (τ := Cert.RetOutXIdeal.τ) (Cert.RetOutXIdeal.main (F := Ideal))) ⟨m, fun _ => 0, g⟩ (fun r => (∀ c : Dev Cert.RetOutXIdeal.nD,
      r.2.mem ((c.tc : Thread Cert.RetOutXIdeal.nD Cert.RetOutXIdeal.τ).loc Cert.RetOutXIdeal.main_arg0) = m ((c.tc : Thread Cert.RetOutXIdeal.nD Cert.RetOutXIdeal.τ).loc Cert.RetOutXIdeal.main_arg0)
      ∧ r.2.mem ((c.tc : Thread Cert.RetOutXIdeal.nD Cert.RetOutXIdeal.τ).loc Cert.RetOutXIdeal.main_arg1) = m ((c.tc : Thread Cert.RetOutXIdeal.nD Cert.RetOutXIdeal.τ).loc Cert.RetOutXIdeal.main_arg1))
      ∧ r.2.sem = fun _ => 0)

def quiescent_RefOutXIdeal [hRefOutXIdeal : Cert.RefOutXIdeal.Facts] : Prop :=
  ∀ (m : (ℓ : Loc Cert.RefOutXIdeal.nD Cert.RefOutXIdeal.τ Cert.RefOutXIdeal.sig) → Buf (Elt Ideal) ℓ) (g : Dev Cert.RefOutXIdeal.nD → PrngReg), Pre_RefOutXIdeal m →
    θ_run (Cert.RefOutXIdeal.defs (F := Ideal)) (onTc (τ := Cert.RefOutXIdeal.τ) (Cert.RefOutXIdeal.main (F := Ideal))) ⟨m, fun _ => 0, g⟩ (fun r => (∀ c : Dev Cert.RefOutXIdeal.nD,
      r.2.mem ((c.tc : Thread Cert.RefOutXIdeal.nD Cert.RefOutXIdeal.τ).loc Cert.RefOutXIdeal.main_arg0) = m ((c.tc : Thread Cert.RefOutXIdeal.nD Cert.RefOutXIdeal.τ).loc Cert.RefOutXIdeal.main_arg0)
      ∧ r.2.mem ((c.tc : Thread Cert.RefOutXIdeal.nD Cert.RefOutXIdeal.τ).loc Cert.RefOutXIdeal.main_arg1) = m ((c.tc : Thread Cert.RefOutXIdeal.nD Cert.RefOutXIdeal.τ).loc Cert.RefOutXIdeal.main_arg1))
      ∧ r.2.sem = fun _ => 0)

def quiescent_RetOutW [hRetOutW : Cert.RetOutW.Facts] : Prop :=
  ∀ (m : (ℓ : Loc Cert.RetOutW.nD Cert.RetOutW.τ Cert.RetOutW.sig) → Buf (Elt Bits) ℓ) (g : Dev Cert.RetOutW.nD → PrngReg), Pre_RetOutW m →
    θ_run (Cert.RetOutW.defs (F := Bits)) (onTc (τ := Cert.RetOutW.τ) (Cert.RetOutW.main (F := Bits))) ⟨m, fun _ => 0, g⟩ (fun r => (∀ c : Dev Cert.RetOutW.nD,
      r.2.mem ((c.tc : Thread Cert.RetOutW.nD Cert.RetOutW.τ).loc Cert.RetOutW.main_arg0) = m ((c.tc : Thread Cert.RetOutW.nD Cert.RetOutW.τ).loc Cert.RetOutW.main_arg0)
      ∧ r.2.mem ((c.tc : Thread Cert.RetOutW.nD Cert.RetOutW.τ).loc Cert.RetOutW.main_arg1) = m ((c.tc : Thread Cert.RetOutW.nD Cert.RetOutW.τ).loc Cert.RetOutW.main_arg1))
      ∧ r.2.sem = fun _ => 0)

def quiescent_RetOutWIdeal [hRetOutWIdeal : Cert.RetOutWIdeal.Facts] : Prop :=
  ∀ (m : (ℓ : Loc Cert.RetOutWIdeal.nD Cert.RetOutWIdeal.τ Cert.RetOutWIdeal.sig) → Buf (Elt Ideal) ℓ) (g : Dev Cert.RetOutWIdeal.nD → PrngReg), Pre_RetOutWIdeal m →
    θ_run (Cert.RetOutWIdeal.defs (F := Ideal)) (onTc (τ := Cert.RetOutWIdeal.τ) (Cert.RetOutWIdeal.main (F := Ideal))) ⟨m, fun _ => 0, g⟩ (fun r => (∀ c : Dev Cert.RetOutWIdeal.nD,
      r.2.mem ((c.tc : Thread Cert.RetOutWIdeal.nD Cert.RetOutWIdeal.τ).loc Cert.RetOutWIdeal.main_arg0) = m ((c.tc : Thread Cert.RetOutWIdeal.nD Cert.RetOutWIdeal.τ).loc Cert.RetOutWIdeal.main_arg0)
      ∧ r.2.mem ((c.tc : Thread Cert.RetOutWIdeal.nD Cert.RetOutWIdeal.τ).loc Cert.RetOutWIdeal.main_arg1) = m ((c.tc : Thread Cert.RetOutWIdeal.nD Cert.RetOutWIdeal.τ).loc Cert.RetOutWIdeal.main_arg1))
      ∧ r.2.sem = fun _ => 0)

def quiescent_RefOutWIdeal [hRefOutWIdeal : Cert.RefOutWIdeal.Facts] : Prop :=
  ∀ (m : (ℓ : Loc Cert.RefOutWIdeal.nD Cert.RefOutWIdeal.τ Cert.RefOutWIdeal.sig) → Buf (Elt Ideal) ℓ) (g : Dev Cert.RefOutWIdeal.nD → PrngReg), Pre_RefOutWIdeal m →
    θ_run (Cert.RefOutWIdeal.defs (F := Ideal)) (onTc (τ := Cert.RefOutWIdeal.τ) (Cert.RefOutWIdeal.main (F := Ideal))) ⟨m, fun _ => 0, g⟩ (fun r => (∀ c : Dev Cert.RefOutWIdeal.nD,
      r.2.mem ((c.tc : Thread Cert.RefOutWIdeal.nD Cert.RefOutWIdeal.τ).loc Cert.RefOutWIdeal.main_arg0) = m ((c.tc : Thread Cert.RefOutWIdeal.nD Cert.RefOutWIdeal.τ).loc Cert.RefOutWIdeal.main_arg0)
      ∧ r.2.mem ((c.tc : Thread Cert.RefOutWIdeal.nD Cert.RefOutWIdeal.τ).loc Cert.RefOutWIdeal.main_arg1) = m ((c.tc : Thread Cert.RefOutWIdeal.nD Cert.RefOutWIdeal.τ).loc Cert.RefOutWIdeal.main_arg1))
      ∧ r.2.sem = fun _ => 0)

def quiescent_MlpOneF [hMlpOneF : Cert.MlpOneF.Facts] : Prop :=
  ∀ (m : (ℓ : Loc Cert.MlpOneF.nD Cert.MlpOneF.τ Cert.MlpOneF.sig) → Buf (Elt Bits) ℓ) (g : Dev Cert.MlpOneF.nD → PrngReg), Pre_MlpOneF m →
    θ_run (Cert.MlpOneF.defs (F := Bits)) (onTc (τ := Cert.MlpOneF.τ) (Cert.MlpOneF.main (F := Bits))) ⟨m, fun _ => 0, g⟩ (fun r => (∀ c : Dev Cert.MlpOneF.nD,
      r.2.mem ((c.tc : Thread Cert.MlpOneF.nD Cert.MlpOneF.τ).loc Cert.MlpOneF.main_arg0) = m ((c.tc : Thread Cert.MlpOneF.nD Cert.MlpOneF.τ).loc Cert.MlpOneF.main_arg0)
      ∧ r.2.mem ((c.tc : Thread Cert.MlpOneF.nD Cert.MlpOneF.τ).loc Cert.MlpOneF.main_arg1) = m ((c.tc : Thread Cert.MlpOneF.nD Cert.MlpOneF.τ).loc Cert.MlpOneF.main_arg1)
      ∧ r.2.mem ((c.tc : Thread Cert.MlpOneF.nD Cert.MlpOneF.τ).loc Cert.MlpOneF.main_arg2) = m ((c.tc : Thread Cert.MlpOneF.nD Cert.MlpOneF.τ).loc Cert.MlpOneF.main_arg2)
      ∧ r.2.mem ((c.tc : Thread Cert.MlpOneF.nD Cert.MlpOneF.τ).loc Cert.MlpOneF.main_arg3) = m ((c.tc : Thread Cert.MlpOneF.nD Cert.MlpOneF.τ).loc Cert.MlpOneF.main_arg3)
      ∧ r.2.mem ((c.tc : Thread Cert.MlpOneF.nD Cert.MlpOneF.τ).loc Cert.MlpOneF.main_arg4) = m ((c.tc : Thread Cert.MlpOneF.nD Cert.MlpOneF.τ).loc Cert.MlpOneF.main_arg4))
      ∧ r.2.sem = fun _ => 0)

def quiescent_MlpOneFIdeal [hMlpOneFIdeal : Cert.MlpOneFIdeal.Facts] : Prop :=
  ∀ (m : (ℓ : Loc Cert.MlpOneFIdeal.nD Cert.MlpOneFIdeal.τ Cert.MlpOneFIdeal.sig) → Buf (Elt Ideal) ℓ) (g : Dev Cert.MlpOneFIdeal.nD → PrngReg), Pre_MlpOneFIdeal m →
    θ_run (Cert.MlpOneFIdeal.defs (F := Ideal)) (onTc (τ := Cert.MlpOneFIdeal.τ) (Cert.MlpOneFIdeal.main (F := Ideal))) ⟨m, fun _ => 0, g⟩ (fun r => (∀ c : Dev Cert.MlpOneFIdeal.nD,
      r.2.mem ((c.tc : Thread Cert.MlpOneFIdeal.nD Cert.MlpOneFIdeal.τ).loc Cert.MlpOneFIdeal.main_arg0) = m ((c.tc : Thread Cert.MlpOneFIdeal.nD Cert.MlpOneFIdeal.τ).loc Cert.MlpOneFIdeal.main_arg0)
      ∧ r.2.mem ((c.tc : Thread Cert.MlpOneFIdeal.nD Cert.MlpOneFIdeal.τ).loc Cert.MlpOneFIdeal.main_arg1) = m ((c.tc : Thread Cert.MlpOneFIdeal.nD Cert.MlpOneFIdeal.τ).loc Cert.MlpOneFIdeal.main_arg1)
      ∧ r.2.mem ((c.tc : Thread Cert.MlpOneFIdeal.nD Cert.MlpOneFIdeal.τ).loc Cert.MlpOneFIdeal.main_arg2) = m ((c.tc : Thread Cert.MlpOneFIdeal.nD Cert.MlpOneFIdeal.τ).loc Cert.MlpOneFIdeal.main_arg2)
      ∧ r.2.mem ((c.tc : Thread Cert.MlpOneFIdeal.nD Cert.MlpOneFIdeal.τ).loc Cert.MlpOneFIdeal.main_arg3) = m ((c.tc : Thread Cert.MlpOneFIdeal.nD Cert.MlpOneFIdeal.τ).loc Cert.MlpOneFIdeal.main_arg3)
      ∧ r.2.mem ((c.tc : Thread Cert.MlpOneFIdeal.nD Cert.MlpOneFIdeal.τ).loc Cert.MlpOneFIdeal.main_arg4) = m ((c.tc : Thread Cert.MlpOneFIdeal.nD Cert.MlpOneFIdeal.τ).loc Cert.MlpOneFIdeal.main_arg4))
      ∧ r.2.sem = fun _ => 0)

def quiescent_RefOneFIdeal [hRefOneFIdeal : Cert.RefOneFIdeal.Facts] : Prop :=
  ∀ (m : (ℓ : Loc Cert.RefOneFIdeal.nD Cert.RefOneFIdeal.τ Cert.RefOneFIdeal.sig) → Buf (Elt Ideal) ℓ) (g : Dev Cert.RefOneFIdeal.nD → PrngReg), Pre_RefOneFIdeal m →
    θ_run (Cert.RefOneFIdeal.defs (F := Ideal)) (onTc (τ := Cert.RefOneFIdeal.τ) (Cert.RefOneFIdeal.main (F := Ideal))) ⟨m, fun _ => 0, g⟩ (fun r => (∀ c : Dev Cert.RefOneFIdeal.nD,
      r.2.mem ((c.tc : Thread Cert.RefOneFIdeal.nD Cert.RefOneFIdeal.τ).loc Cert.RefOneFIdeal.main_arg0) = m ((c.tc : Thread Cert.RefOneFIdeal.nD Cert.RefOneFIdeal.τ).loc Cert.RefOneFIdeal.main_arg0)
      ∧ r.2.mem ((c.tc : Thread Cert.RefOneFIdeal.nD Cert.RefOneFIdeal.τ).loc Cert.RefOneFIdeal.main_arg1) = m ((c.tc : Thread Cert.RefOneFIdeal.nD Cert.RefOneFIdeal.τ).loc Cert.RefOneFIdeal.main_arg1)
      ∧ r.2.mem ((c.tc : Thread Cert.RefOneFIdeal.nD Cert.RefOneFIdeal.τ).loc Cert.RefOneFIdeal.main_arg2) = m ((c.tc : Thread Cert.RefOneFIdeal.nD Cert.RefOneFIdeal.τ).loc Cert.RefOneFIdeal.main_arg2)
      ∧ r.2.mem ((c.tc : Thread Cert.RefOneFIdeal.nD Cert.RefOneFIdeal.τ).loc Cert.RefOneFIdeal.main_arg3) = m ((c.tc : Thread Cert.RefOneFIdeal.nD Cert.RefOneFIdeal.τ).loc Cert.RefOneFIdeal.main_arg3)
      ∧ r.2.mem ((c.tc : Thread Cert.RefOneFIdeal.nD Cert.RefOneFIdeal.τ).loc Cert.RefOneFIdeal.main_arg4) = m ((c.tc : Thread Cert.RefOneFIdeal.nD Cert.RefOneFIdeal.τ).loc Cert.RefOneFIdeal.main_arg4))
      ∧ r.2.sem = fun _ => 0)

def quiescent_MlpTwoF [hMlpTwoF : Cert.MlpTwoF.Facts] : Prop :=
  ∀ (m : (ℓ : Loc Cert.MlpTwoF.nD Cert.MlpTwoF.τ Cert.MlpTwoF.sig) → Buf (Elt Bits) ℓ) (g : Dev Cert.MlpTwoF.nD → PrngReg), Pre_MlpTwoF m →
    θ_run (Cert.MlpTwoF.defs (F := Bits)) (onTc (τ := Cert.MlpTwoF.τ) (Cert.MlpTwoF.main (F := Bits))) ⟨m, fun _ => 0, g⟩ (fun r => (∀ c : Dev Cert.MlpTwoF.nD,
      r.2.mem ((c.tc : Thread Cert.MlpTwoF.nD Cert.MlpTwoF.τ).loc Cert.MlpTwoF.main_arg0) = m ((c.tc : Thread Cert.MlpTwoF.nD Cert.MlpTwoF.τ).loc Cert.MlpTwoF.main_arg0)
      ∧ r.2.mem ((c.tc : Thread Cert.MlpTwoF.nD Cert.MlpTwoF.τ).loc Cert.MlpTwoF.main_arg1) = m ((c.tc : Thread Cert.MlpTwoF.nD Cert.MlpTwoF.τ).loc Cert.MlpTwoF.main_arg1)
      ∧ r.2.mem ((c.tc : Thread Cert.MlpTwoF.nD Cert.MlpTwoF.τ).loc Cert.MlpTwoF.main_arg2) = m ((c.tc : Thread Cert.MlpTwoF.nD Cert.MlpTwoF.τ).loc Cert.MlpTwoF.main_arg2)
      ∧ r.2.mem ((c.tc : Thread Cert.MlpTwoF.nD Cert.MlpTwoF.τ).loc Cert.MlpTwoF.main_arg3) = m ((c.tc : Thread Cert.MlpTwoF.nD Cert.MlpTwoF.τ).loc Cert.MlpTwoF.main_arg3))
      ∧ r.2.sem = fun _ => 0)

def quiescent_MlpTwoFIdeal [hMlpTwoFIdeal : Cert.MlpTwoFIdeal.Facts] : Prop :=
  ∀ (m : (ℓ : Loc Cert.MlpTwoFIdeal.nD Cert.MlpTwoFIdeal.τ Cert.MlpTwoFIdeal.sig) → Buf (Elt Ideal) ℓ) (g : Dev Cert.MlpTwoFIdeal.nD → PrngReg), Pre_MlpTwoFIdeal m →
    θ_run (Cert.MlpTwoFIdeal.defs (F := Ideal)) (onTc (τ := Cert.MlpTwoFIdeal.τ) (Cert.MlpTwoFIdeal.main (F := Ideal))) ⟨m, fun _ => 0, g⟩ (fun r => (∀ c : Dev Cert.MlpTwoFIdeal.nD,
      r.2.mem ((c.tc : Thread Cert.MlpTwoFIdeal.nD Cert.MlpTwoFIdeal.τ).loc Cert.MlpTwoFIdeal.main_arg0) = m ((c.tc : Thread Cert.MlpTwoFIdeal.nD Cert.MlpTwoFIdeal.τ).loc Cert.MlpTwoFIdeal.main_arg0)
      ∧ r.2.mem ((c.tc : Thread Cert.MlpTwoFIdeal.nD Cert.MlpTwoFIdeal.τ).loc Cert.MlpTwoFIdeal.main_arg1) = m ((c.tc : Thread Cert.MlpTwoFIdeal.nD Cert.MlpTwoFIdeal.τ).loc Cert.MlpTwoFIdeal.main_arg1)
      ∧ r.2.mem ((c.tc : Thread Cert.MlpTwoFIdeal.nD Cert.MlpTwoFIdeal.τ).loc Cert.MlpTwoFIdeal.main_arg2) = m ((c.tc : Thread Cert.MlpTwoFIdeal.nD Cert.MlpTwoFIdeal.τ).loc Cert.MlpTwoFIdeal.main_arg2)
      ∧ r.2.mem ((c.tc : Thread Cert.MlpTwoFIdeal.nD Cert.MlpTwoFIdeal.τ).loc Cert.MlpTwoFIdeal.main_arg3) = m ((c.tc : Thread Cert.MlpTwoFIdeal.nD Cert.MlpTwoFIdeal.τ).loc Cert.MlpTwoFIdeal.main_arg3))
      ∧ r.2.sem = fun _ => 0)

def quiescent_RefTwoFIdeal [hRefTwoFIdeal : Cert.RefTwoFIdeal.Facts] : Prop :=
  ∀ (m : (ℓ : Loc Cert.RefTwoFIdeal.nD Cert.RefTwoFIdeal.τ Cert.RefTwoFIdeal.sig) → Buf (Elt Ideal) ℓ) (g : Dev Cert.RefTwoFIdeal.nD → PrngReg), Pre_RefTwoFIdeal m →
    θ_run (Cert.RefTwoFIdeal.defs (F := Ideal)) (onTc (τ := Cert.RefTwoFIdeal.τ) (Cert.RefTwoFIdeal.main (F := Ideal))) ⟨m, fun _ => 0, g⟩ (fun r => (∀ c : Dev Cert.RefTwoFIdeal.nD,
      r.2.mem ((c.tc : Thread Cert.RefTwoFIdeal.nD Cert.RefTwoFIdeal.τ).loc Cert.RefTwoFIdeal.main_arg0) = m ((c.tc : Thread Cert.RefTwoFIdeal.nD Cert.RefTwoFIdeal.τ).loc Cert.RefTwoFIdeal.main_arg0)
      ∧ r.2.mem ((c.tc : Thread Cert.RefTwoFIdeal.nD Cert.RefTwoFIdeal.τ).loc Cert.RefTwoFIdeal.main_arg1) = m ((c.tc : Thread Cert.RefTwoFIdeal.nD Cert.RefTwoFIdeal.τ).loc Cert.RefTwoFIdeal.main_arg1)
      ∧ r.2.mem ((c.tc : Thread Cert.RefTwoFIdeal.nD Cert.RefTwoFIdeal.τ).loc Cert.RefTwoFIdeal.main_arg2) = m ((c.tc : Thread Cert.RefTwoFIdeal.nD Cert.RefTwoFIdeal.τ).loc Cert.RefTwoFIdeal.main_arg2)
      ∧ r.2.mem ((c.tc : Thread Cert.RefTwoFIdeal.nD Cert.RefTwoFIdeal.τ).loc Cert.RefTwoFIdeal.main_arg3) = m ((c.tc : Thread Cert.RefTwoFIdeal.nD Cert.RefTwoFIdeal.τ).loc Cert.RefTwoFIdeal.main_arg3))
      ∧ r.2.sem = fun _ => 0)

def quiescent_RetInF [hRetInF : Cert.RetInF.Facts] : Prop :=
  ∀ (m : (ℓ : Loc Cert.RetInF.nD Cert.RetInF.τ Cert.RetInF.sig) → Buf (Elt Bits) ℓ) (g : Dev Cert.RetInF.nD → PrngReg), Pre_RetInF m →
    θ_run (Cert.RetInF.defs (F := Bits)) (onTc (τ := Cert.RetInF.τ) (Cert.RetInF.main (F := Bits))) ⟨m, fun _ => 0, g⟩ (fun r => (∀ c : Dev Cert.RetInF.nD,
      r.2.mem ((c.tc : Thread Cert.RetInF.nD Cert.RetInF.τ).loc Cert.RetInF.main_arg0) = m ((c.tc : Thread Cert.RetInF.nD Cert.RetInF.τ).loc Cert.RetInF.main_arg0)
      ∧ r.2.mem ((c.tc : Thread Cert.RetInF.nD Cert.RetInF.τ).loc Cert.RetInF.main_arg1) = m ((c.tc : Thread Cert.RetInF.nD Cert.RetInF.τ).loc Cert.RetInF.main_arg1)
      ∧ r.2.mem ((c.tc : Thread Cert.RetInF.nD Cert.RetInF.τ).loc Cert.RetInF.main_arg2) = m ((c.tc : Thread Cert.RetInF.nD Cert.RetInF.τ).loc Cert.RetInF.main_arg2)
      ∧ r.2.mem ((c.tc : Thread Cert.RetInF.nD Cert.RetInF.τ).loc Cert.RetInF.main_arg3) = m ((c.tc : Thread Cert.RetInF.nD Cert.RetInF.τ).loc Cert.RetInF.main_arg3)
      ∧ r.2.mem ((c.tc : Thread Cert.RetInF.nD Cert.RetInF.τ).loc Cert.RetInF.main_arg4) = m ((c.tc : Thread Cert.RetInF.nD Cert.RetInF.τ).loc Cert.RetInF.main_arg4))
      ∧ r.2.sem = fun _ => 0)

def quiescent_RetInFIdeal [hRetInFIdeal : Cert.RetInFIdeal.Facts] : Prop :=
  ∀ (m : (ℓ : Loc Cert.RetInFIdeal.nD Cert.RetInFIdeal.τ Cert.RetInFIdeal.sig) → Buf (Elt Ideal) ℓ) (g : Dev Cert.RetInFIdeal.nD → PrngReg), Pre_RetInFIdeal m →
    θ_run (Cert.RetInFIdeal.defs (F := Ideal)) (onTc (τ := Cert.RetInFIdeal.τ) (Cert.RetInFIdeal.main (F := Ideal))) ⟨m, fun _ => 0, g⟩ (fun r => (∀ c : Dev Cert.RetInFIdeal.nD,
      r.2.mem ((c.tc : Thread Cert.RetInFIdeal.nD Cert.RetInFIdeal.τ).loc Cert.RetInFIdeal.main_arg0) = m ((c.tc : Thread Cert.RetInFIdeal.nD Cert.RetInFIdeal.τ).loc Cert.RetInFIdeal.main_arg0)
      ∧ r.2.mem ((c.tc : Thread Cert.RetInFIdeal.nD Cert.RetInFIdeal.τ).loc Cert.RetInFIdeal.main_arg1) = m ((c.tc : Thread Cert.RetInFIdeal.nD Cert.RetInFIdeal.τ).loc Cert.RetInFIdeal.main_arg1)
      ∧ r.2.mem ((c.tc : Thread Cert.RetInFIdeal.nD Cert.RetInFIdeal.τ).loc Cert.RetInFIdeal.main_arg2) = m ((c.tc : Thread Cert.RetInFIdeal.nD Cert.RetInFIdeal.τ).loc Cert.RetInFIdeal.main_arg2)
      ∧ r.2.mem ((c.tc : Thread Cert.RetInFIdeal.nD Cert.RetInFIdeal.τ).loc Cert.RetInFIdeal.main_arg3) = m ((c.tc : Thread Cert.RetInFIdeal.nD Cert.RetInFIdeal.τ).loc Cert.RetInFIdeal.main_arg3)
      ∧ r.2.mem ((c.tc : Thread Cert.RetInFIdeal.nD Cert.RetInFIdeal.τ).loc Cert.RetInFIdeal.main_arg4) = m ((c.tc : Thread Cert.RetInFIdeal.nD Cert.RetInFIdeal.τ).loc Cert.RetInFIdeal.main_arg4))
      ∧ r.2.sem = fun _ => 0)

def quiescent_RefInFIdeal [hRefInFIdeal : Cert.RefInFIdeal.Facts] : Prop :=
  ∀ (m : (ℓ : Loc Cert.RefInFIdeal.nD Cert.RefInFIdeal.τ Cert.RefInFIdeal.sig) → Buf (Elt Ideal) ℓ) (g : Dev Cert.RefInFIdeal.nD → PrngReg), Pre_RefInFIdeal m →
    θ_run (Cert.RefInFIdeal.defs (F := Ideal)) (onTc (τ := Cert.RefInFIdeal.τ) (Cert.RefInFIdeal.main (F := Ideal))) ⟨m, fun _ => 0, g⟩ (fun r => (∀ c : Dev Cert.RefInFIdeal.nD,
      r.2.mem ((c.tc : Thread Cert.RefInFIdeal.nD Cert.RefInFIdeal.τ).loc Cert.RefInFIdeal.main_arg0) = m ((c.tc : Thread Cert.RefInFIdeal.nD Cert.RefInFIdeal.τ).loc Cert.RefInFIdeal.main_arg0)
      ∧ r.2.mem ((c.tc : Thread Cert.RefInFIdeal.nD Cert.RefInFIdeal.τ).loc Cert.RefInFIdeal.main_arg1) = m ((c.tc : Thread Cert.RefInFIdeal.nD Cert.RefInFIdeal.τ).loc Cert.RefInFIdeal.main_arg1)
      ∧ r.2.mem ((c.tc : Thread Cert.RefInFIdeal.nD Cert.RefInFIdeal.τ).loc Cert.RefInFIdeal.main_arg2) = m ((c.tc : Thread Cert.RefInFIdeal.nD Cert.RefInFIdeal.τ).loc Cert.RefInFIdeal.main_arg2)
      ∧ r.2.mem ((c.tc : Thread Cert.RefInFIdeal.nD Cert.RefInFIdeal.τ).loc Cert.RefInFIdeal.main_arg3) = m ((c.tc : Thread Cert.RefInFIdeal.nD Cert.RefInFIdeal.τ).loc Cert.RefInFIdeal.main_arg3)
      ∧ r.2.mem ((c.tc : Thread Cert.RefInFIdeal.nD Cert.RefInFIdeal.τ).loc Cert.RefInFIdeal.main_arg4) = m ((c.tc : Thread Cert.RefInFIdeal.nD Cert.RefInFIdeal.τ).loc Cert.RefInFIdeal.main_arg4))
      ∧ r.2.sem = fun _ => 0)

def quiescent_RetOutF [hRetOutF : Cert.RetOutF.Facts] : Prop :=
  ∀ (m : (ℓ : Loc Cert.RetOutF.nD Cert.RetOutF.τ Cert.RetOutF.sig) → Buf (Elt Bits) ℓ) (g : Dev Cert.RetOutF.nD → PrngReg), Pre_RetOutF m →
    θ_run (Cert.RetOutF.defs (F := Bits)) (onTc (τ := Cert.RetOutF.τ) (Cert.RetOutF.main (F := Bits))) ⟨m, fun _ => 0, g⟩ (fun r => (∀ c : Dev Cert.RetOutF.nD,
      r.2.mem ((c.tc : Thread Cert.RetOutF.nD Cert.RetOutF.τ).loc Cert.RetOutF.main_arg0) = m ((c.tc : Thread Cert.RetOutF.nD Cert.RetOutF.τ).loc Cert.RetOutF.main_arg0)
      ∧ r.2.mem ((c.tc : Thread Cert.RetOutF.nD Cert.RetOutF.τ).loc Cert.RetOutF.main_arg1) = m ((c.tc : Thread Cert.RetOutF.nD Cert.RetOutF.τ).loc Cert.RetOutF.main_arg1)
      ∧ r.2.mem ((c.tc : Thread Cert.RetOutF.nD Cert.RetOutF.τ).loc Cert.RetOutF.main_arg2) = m ((c.tc : Thread Cert.RetOutF.nD Cert.RetOutF.τ).loc Cert.RetOutF.main_arg2)
      ∧ r.2.mem ((c.tc : Thread Cert.RetOutF.nD Cert.RetOutF.τ).loc Cert.RetOutF.main_arg3) = m ((c.tc : Thread Cert.RetOutF.nD Cert.RetOutF.τ).loc Cert.RetOutF.main_arg3))
      ∧ r.2.sem = fun _ => 0)

def quiescent_RetOutFIdeal [hRetOutFIdeal : Cert.RetOutFIdeal.Facts] : Prop :=
  ∀ (m : (ℓ : Loc Cert.RetOutFIdeal.nD Cert.RetOutFIdeal.τ Cert.RetOutFIdeal.sig) → Buf (Elt Ideal) ℓ) (g : Dev Cert.RetOutFIdeal.nD → PrngReg), Pre_RetOutFIdeal m →
    θ_run (Cert.RetOutFIdeal.defs (F := Ideal)) (onTc (τ := Cert.RetOutFIdeal.τ) (Cert.RetOutFIdeal.main (F := Ideal))) ⟨m, fun _ => 0, g⟩ (fun r => (∀ c : Dev Cert.RetOutFIdeal.nD,
      r.2.mem ((c.tc : Thread Cert.RetOutFIdeal.nD Cert.RetOutFIdeal.τ).loc Cert.RetOutFIdeal.main_arg0) = m ((c.tc : Thread Cert.RetOutFIdeal.nD Cert.RetOutFIdeal.τ).loc Cert.RetOutFIdeal.main_arg0)
      ∧ r.2.mem ((c.tc : Thread Cert.RetOutFIdeal.nD Cert.RetOutFIdeal.τ).loc Cert.RetOutFIdeal.main_arg1) = m ((c.tc : Thread Cert.RetOutFIdeal.nD Cert.RetOutFIdeal.τ).loc Cert.RetOutFIdeal.main_arg1)
      ∧ r.2.mem ((c.tc : Thread Cert.RetOutFIdeal.nD Cert.RetOutFIdeal.τ).loc Cert.RetOutFIdeal.main_arg2) = m ((c.tc : Thread Cert.RetOutFIdeal.nD Cert.RetOutFIdeal.τ).loc Cert.RetOutFIdeal.main_arg2)
      ∧ r.2.mem ((c.tc : Thread Cert.RetOutFIdeal.nD Cert.RetOutFIdeal.τ).loc Cert.RetOutFIdeal.main_arg3) = m ((c.tc : Thread Cert.RetOutFIdeal.nD Cert.RetOutFIdeal.τ).loc Cert.RetOutFIdeal.main_arg3))
      ∧ r.2.sem = fun _ => 0)

def quiescent_RefOutFIdeal [hRefOutFIdeal : Cert.RefOutFIdeal.Facts] : Prop :=
  ∀ (m : (ℓ : Loc Cert.RefOutFIdeal.nD Cert.RefOutFIdeal.τ Cert.RefOutFIdeal.sig) → Buf (Elt Ideal) ℓ) (g : Dev Cert.RefOutFIdeal.nD → PrngReg), Pre_RefOutFIdeal m →
    θ_run (Cert.RefOutFIdeal.defs (F := Ideal)) (onTc (τ := Cert.RefOutFIdeal.τ) (Cert.RefOutFIdeal.main (F := Ideal))) ⟨m, fun _ => 0, g⟩ (fun r => (∀ c : Dev Cert.RefOutFIdeal.nD,
      r.2.mem ((c.tc : Thread Cert.RefOutFIdeal.nD Cert.RefOutFIdeal.τ).loc Cert.RefOutFIdeal.main_arg0) = m ((c.tc : Thread Cert.RefOutFIdeal.nD Cert.RefOutFIdeal.τ).loc Cert.RefOutFIdeal.main_arg0)
      ∧ r.2.mem ((c.tc : Thread Cert.RefOutFIdeal.nD Cert.RefOutFIdeal.τ).loc Cert.RefOutFIdeal.main_arg1) = m ((c.tc : Thread Cert.RefOutFIdeal.nD Cert.RefOutFIdeal.τ).loc Cert.RefOutFIdeal.main_arg1)
      ∧ r.2.mem ((c.tc : Thread Cert.RefOutFIdeal.nD Cert.RefOutFIdeal.τ).loc Cert.RefOutFIdeal.main_arg2) = m ((c.tc : Thread Cert.RefOutFIdeal.nD Cert.RefOutFIdeal.τ).loc Cert.RefOutFIdeal.main_arg2)
      ∧ r.2.mem ((c.tc : Thread Cert.RefOutFIdeal.nD Cert.RefOutFIdeal.τ).loc Cert.RefOutFIdeal.main_arg3) = m ((c.tc : Thread Cert.RefOutFIdeal.nD Cert.RefOutFIdeal.τ).loc Cert.RefOutFIdeal.main_arg3))
      ∧ r.2.sem = fun _ => 0)

def quiescent_PwOneF [hPwOneF : Cert.PwOneF.Facts] : Prop :=
  ∀ (m : (ℓ : Loc Cert.PwOneF.nD Cert.PwOneF.τ Cert.PwOneF.sig) → Buf (Elt Bits) ℓ) (g : Dev Cert.PwOneF.nD → PrngReg), Pre_PwOneF m →
    θ_run (Cert.PwOneF.defs (F := Bits)) (onTc (τ := Cert.PwOneF.τ) (Cert.PwOneF.main (F := Bits))) ⟨m, fun _ => 0, g⟩ (fun r => (∀ c : Dev Cert.PwOneF.nD,
      r.2.mem ((c.tc : Thread Cert.PwOneF.nD Cert.PwOneF.τ).loc Cert.PwOneF.main_arg0) = m ((c.tc : Thread Cert.PwOneF.nD Cert.PwOneF.τ).loc Cert.PwOneF.main_arg0)
      ∧ r.2.mem ((c.tc : Thread Cert.PwOneF.nD Cert.PwOneF.τ).loc Cert.PwOneF.main_arg1) = m ((c.tc : Thread Cert.PwOneF.nD Cert.PwOneF.τ).loc Cert.PwOneF.main_arg1)
      ∧ r.2.mem ((c.tc : Thread Cert.PwOneF.nD Cert.PwOneF.τ).loc Cert.PwOneF.main_arg2) = m ((c.tc : Thread Cert.PwOneF.nD Cert.PwOneF.τ).loc Cert.PwOneF.main_arg2)
      ∧ r.2.mem ((c.tc : Thread Cert.PwOneF.nD Cert.PwOneF.τ).loc Cert.PwOneF.main_arg3) = m ((c.tc : Thread Cert.PwOneF.nD Cert.PwOneF.τ).loc Cert.PwOneF.main_arg3)
      ∧ r.2.mem ((c.tc : Thread Cert.PwOneF.nD Cert.PwOneF.τ).loc Cert.PwOneF.main_arg4) = m ((c.tc : Thread Cert.PwOneF.nD Cert.PwOneF.τ).loc Cert.PwOneF.main_arg4)
      ∧ r.2.mem ((c.tc : Thread Cert.PwOneF.nD Cert.PwOneF.τ).loc Cert.PwOneF.main_arg5) = m ((c.tc : Thread Cert.PwOneF.nD Cert.PwOneF.τ).loc Cert.PwOneF.main_arg5))
      ∧ r.2.sem = fun _ => 0)

def quiescent_PwOneFIdeal [hPwOneFIdeal : Cert.PwOneFIdeal.Facts] : Prop :=
  ∀ (m : (ℓ : Loc Cert.PwOneFIdeal.nD Cert.PwOneFIdeal.τ Cert.PwOneFIdeal.sig) → Buf (Elt Ideal) ℓ) (g : Dev Cert.PwOneFIdeal.nD → PrngReg), Pre_PwOneFIdeal m →
    θ_run (Cert.PwOneFIdeal.defs (F := Ideal)) (onTc (τ := Cert.PwOneFIdeal.τ) (Cert.PwOneFIdeal.main (F := Ideal))) ⟨m, fun _ => 0, g⟩ (fun r => (∀ c : Dev Cert.PwOneFIdeal.nD,
      r.2.mem ((c.tc : Thread Cert.PwOneFIdeal.nD Cert.PwOneFIdeal.τ).loc Cert.PwOneFIdeal.main_arg0) = m ((c.tc : Thread Cert.PwOneFIdeal.nD Cert.PwOneFIdeal.τ).loc Cert.PwOneFIdeal.main_arg0)
      ∧ r.2.mem ((c.tc : Thread Cert.PwOneFIdeal.nD Cert.PwOneFIdeal.τ).loc Cert.PwOneFIdeal.main_arg1) = m ((c.tc : Thread Cert.PwOneFIdeal.nD Cert.PwOneFIdeal.τ).loc Cert.PwOneFIdeal.main_arg1)
      ∧ r.2.mem ((c.tc : Thread Cert.PwOneFIdeal.nD Cert.PwOneFIdeal.τ).loc Cert.PwOneFIdeal.main_arg2) = m ((c.tc : Thread Cert.PwOneFIdeal.nD Cert.PwOneFIdeal.τ).loc Cert.PwOneFIdeal.main_arg2)
      ∧ r.2.mem ((c.tc : Thread Cert.PwOneFIdeal.nD Cert.PwOneFIdeal.τ).loc Cert.PwOneFIdeal.main_arg3) = m ((c.tc : Thread Cert.PwOneFIdeal.nD Cert.PwOneFIdeal.τ).loc Cert.PwOneFIdeal.main_arg3)
      ∧ r.2.mem ((c.tc : Thread Cert.PwOneFIdeal.nD Cert.PwOneFIdeal.τ).loc Cert.PwOneFIdeal.main_arg4) = m ((c.tc : Thread Cert.PwOneFIdeal.nD Cert.PwOneFIdeal.τ).loc Cert.PwOneFIdeal.main_arg4)
      ∧ r.2.mem ((c.tc : Thread Cert.PwOneFIdeal.nD Cert.PwOneFIdeal.τ).loc Cert.PwOneFIdeal.main_arg5) = m ((c.tc : Thread Cert.PwOneFIdeal.nD Cert.PwOneFIdeal.τ).loc Cert.PwOneFIdeal.main_arg5))
      ∧ r.2.sem = fun _ => 0)

def quiescent_RefPwOneFIdeal [hRefPwOneFIdeal : Cert.RefPwOneFIdeal.Facts] : Prop :=
  ∀ (m : (ℓ : Loc Cert.RefPwOneFIdeal.nD Cert.RefPwOneFIdeal.τ Cert.RefPwOneFIdeal.sig) → Buf (Elt Ideal) ℓ) (g : Dev Cert.RefPwOneFIdeal.nD → PrngReg), Pre_RefPwOneFIdeal m →
    θ_run (Cert.RefPwOneFIdeal.defs (F := Ideal)) (onTc (τ := Cert.RefPwOneFIdeal.τ) (Cert.RefPwOneFIdeal.main (F := Ideal))) ⟨m, fun _ => 0, g⟩ (fun r => (∀ c : Dev Cert.RefPwOneFIdeal.nD,
      r.2.mem ((c.tc : Thread Cert.RefPwOneFIdeal.nD Cert.RefPwOneFIdeal.τ).loc Cert.RefPwOneFIdeal.main_arg0) = m ((c.tc : Thread Cert.RefPwOneFIdeal.nD Cert.RefPwOneFIdeal.τ).loc Cert.RefPwOneFIdeal.main_arg0)
      ∧ r.2.mem ((c.tc : Thread Cert.RefPwOneFIdeal.nD Cert.RefPwOneFIdeal.τ).loc Cert.RefPwOneFIdeal.main_arg1) = m ((c.tc : Thread Cert.RefPwOneFIdeal.nD Cert.RefPwOneFIdeal.τ).loc Cert.RefPwOneFIdeal.main_arg1)
      ∧ r.2.mem ((c.tc : Thread Cert.RefPwOneFIdeal.nD Cert.RefPwOneFIdeal.τ).loc Cert.RefPwOneFIdeal.main_arg2) = m ((c.tc : Thread Cert.RefPwOneFIdeal.nD Cert.RefPwOneFIdeal.τ).loc Cert.RefPwOneFIdeal.main_arg2)
      ∧ r.2.mem ((c.tc : Thread Cert.RefPwOneFIdeal.nD Cert.RefPwOneFIdeal.τ).loc Cert.RefPwOneFIdeal.main_arg3) = m ((c.tc : Thread Cert.RefPwOneFIdeal.nD Cert.RefPwOneFIdeal.τ).loc Cert.RefPwOneFIdeal.main_arg3)
      ∧ r.2.mem ((c.tc : Thread Cert.RefPwOneFIdeal.nD Cert.RefPwOneFIdeal.τ).loc Cert.RefPwOneFIdeal.main_arg4) = m ((c.tc : Thread Cert.RefPwOneFIdeal.nD Cert.RefPwOneFIdeal.τ).loc Cert.RefPwOneFIdeal.main_arg4)
      ∧ r.2.mem ((c.tc : Thread Cert.RefPwOneFIdeal.nD Cert.RefPwOneFIdeal.τ).loc Cert.RefPwOneFIdeal.main_arg5) = m ((c.tc : Thread Cert.RefPwOneFIdeal.nD Cert.RefPwOneFIdeal.τ).loc Cert.RefPwOneFIdeal.main_arg5))
      ∧ r.2.sem = fun _ => 0)

def quiescent_PwOneW [hPwOneW : Cert.PwOneW.Facts] : Prop :=
  ∀ (m : (ℓ : Loc Cert.PwOneW.nD Cert.PwOneW.τ Cert.PwOneW.sig) → Buf (Elt Bits) ℓ) (g : Dev Cert.PwOneW.nD → PrngReg), Pre_PwOneW m →
    θ_run (Cert.PwOneW.defs (F := Bits)) (onTc (τ := Cert.PwOneW.τ) (Cert.PwOneW.main (F := Bits))) ⟨m, fun _ => 0, g⟩ (fun r => (∀ c : Dev Cert.PwOneW.nD,
      r.2.mem ((c.tc : Thread Cert.PwOneW.nD Cert.PwOneW.τ).loc Cert.PwOneW.main_arg0) = m ((c.tc : Thread Cert.PwOneW.nD Cert.PwOneW.τ).loc Cert.PwOneW.main_arg0)
      ∧ r.2.mem ((c.tc : Thread Cert.PwOneW.nD Cert.PwOneW.τ).loc Cert.PwOneW.main_arg1) = m ((c.tc : Thread Cert.PwOneW.nD Cert.PwOneW.τ).loc Cert.PwOneW.main_arg1))
      ∧ r.2.sem = fun _ => 0)

def quiescent_PwOneWIdeal [hPwOneWIdeal : Cert.PwOneWIdeal.Facts] : Prop :=
  ∀ (m : (ℓ : Loc Cert.PwOneWIdeal.nD Cert.PwOneWIdeal.τ Cert.PwOneWIdeal.sig) → Buf (Elt Ideal) ℓ) (g : Dev Cert.PwOneWIdeal.nD → PrngReg), Pre_PwOneWIdeal m →
    θ_run (Cert.PwOneWIdeal.defs (F := Ideal)) (onTc (τ := Cert.PwOneWIdeal.τ) (Cert.PwOneWIdeal.main (F := Ideal))) ⟨m, fun _ => 0, g⟩ (fun r => (∀ c : Dev Cert.PwOneWIdeal.nD,
      r.2.mem ((c.tc : Thread Cert.PwOneWIdeal.nD Cert.PwOneWIdeal.τ).loc Cert.PwOneWIdeal.main_arg0) = m ((c.tc : Thread Cert.PwOneWIdeal.nD Cert.PwOneWIdeal.τ).loc Cert.PwOneWIdeal.main_arg0)
      ∧ r.2.mem ((c.tc : Thread Cert.PwOneWIdeal.nD Cert.PwOneWIdeal.τ).loc Cert.PwOneWIdeal.main_arg1) = m ((c.tc : Thread Cert.PwOneWIdeal.nD Cert.PwOneWIdeal.τ).loc Cert.PwOneWIdeal.main_arg1))
      ∧ r.2.sem = fun _ => 0)

def quiescent_RefPwOneWIdeal [hRefPwOneWIdeal : Cert.RefPwOneWIdeal.Facts] : Prop :=
  ∀ (m : (ℓ : Loc Cert.RefPwOneWIdeal.nD Cert.RefPwOneWIdeal.τ Cert.RefPwOneWIdeal.sig) → Buf (Elt Ideal) ℓ) (g : Dev Cert.RefPwOneWIdeal.nD → PrngReg), Pre_RefPwOneWIdeal m →
    θ_run (Cert.RefPwOneWIdeal.defs (F := Ideal)) (onTc (τ := Cert.RefPwOneWIdeal.τ) (Cert.RefPwOneWIdeal.main (F := Ideal))) ⟨m, fun _ => 0, g⟩ (fun r => (∀ c : Dev Cert.RefPwOneWIdeal.nD,
      r.2.mem ((c.tc : Thread Cert.RefPwOneWIdeal.nD Cert.RefPwOneWIdeal.τ).loc Cert.RefPwOneWIdeal.main_arg0) = m ((c.tc : Thread Cert.RefPwOneWIdeal.nD Cert.RefPwOneWIdeal.τ).loc Cert.RefPwOneWIdeal.main_arg0)
      ∧ r.2.mem ((c.tc : Thread Cert.RefPwOneWIdeal.nD Cert.RefPwOneWIdeal.τ).loc Cert.RefPwOneWIdeal.main_arg1) = m ((c.tc : Thread Cert.RefPwOneWIdeal.nD Cert.RefPwOneWIdeal.τ).loc Cert.RefPwOneWIdeal.main_arg1))
      ∧ r.2.sem = fun _ => 0)

def quiescent_PwOneX [hPwOneX : Cert.PwOneX.Facts] : Prop :=
  ∀ (m : (ℓ : Loc Cert.PwOneX.nD Cert.PwOneX.τ Cert.PwOneX.sig) → Buf (Elt Bits) ℓ) (g : Dev Cert.PwOneX.nD → PrngReg), Pre_PwOneX m →
    θ_run (Cert.PwOneX.defs (F := Bits)) (onTc (τ := Cert.PwOneX.τ) (Cert.PwOneX.main (F := Bits))) ⟨m, fun _ => 0, g⟩ (fun r => (∀ c : Dev Cert.PwOneX.nD,
      r.2.mem ((c.tc : Thread Cert.PwOneX.nD Cert.PwOneX.τ).loc Cert.PwOneX.main_arg0) = m ((c.tc : Thread Cert.PwOneX.nD Cert.PwOneX.τ).loc Cert.PwOneX.main_arg0)
      ∧ r.2.mem ((c.tc : Thread Cert.PwOneX.nD Cert.PwOneX.τ).loc Cert.PwOneX.main_arg1) = m ((c.tc : Thread Cert.PwOneX.nD Cert.PwOneX.τ).loc Cert.PwOneX.main_arg1)
      ∧ r.2.mem ((c.tc : Thread Cert.PwOneX.nD Cert.PwOneX.τ).loc Cert.PwOneX.main_arg2) = m ((c.tc : Thread Cert.PwOneX.nD Cert.PwOneX.τ).loc Cert.PwOneX.main_arg2)
      ∧ r.2.mem ((c.tc : Thread Cert.PwOneX.nD Cert.PwOneX.τ).loc Cert.PwOneX.main_arg3) = m ((c.tc : Thread Cert.PwOneX.nD Cert.PwOneX.τ).loc Cert.PwOneX.main_arg3)
      ∧ r.2.mem ((c.tc : Thread Cert.PwOneX.nD Cert.PwOneX.τ).loc Cert.PwOneX.main_arg4) = m ((c.tc : Thread Cert.PwOneX.nD Cert.PwOneX.τ).loc Cert.PwOneX.main_arg4)
      ∧ r.2.mem ((c.tc : Thread Cert.PwOneX.nD Cert.PwOneX.τ).loc Cert.PwOneX.main_arg5) = m ((c.tc : Thread Cert.PwOneX.nD Cert.PwOneX.τ).loc Cert.PwOneX.main_arg5)
      ∧ r.2.mem ((c.tc : Thread Cert.PwOneX.nD Cert.PwOneX.τ).loc Cert.PwOneX.main_arg6) = m ((c.tc : Thread Cert.PwOneX.nD Cert.PwOneX.τ).loc Cert.PwOneX.main_arg6)
      ∧ r.2.mem ((c.tc : Thread Cert.PwOneX.nD Cert.PwOneX.τ).loc Cert.PwOneX.main_arg7) = m ((c.tc : Thread Cert.PwOneX.nD Cert.PwOneX.τ).loc Cert.PwOneX.main_arg7))
      ∧ r.2.sem = fun _ => 0)

def quiescent_PwOneXIdeal [hPwOneXIdeal : Cert.PwOneXIdeal.Facts] : Prop :=
  ∀ (m : (ℓ : Loc Cert.PwOneXIdeal.nD Cert.PwOneXIdeal.τ Cert.PwOneXIdeal.sig) → Buf (Elt Ideal) ℓ) (g : Dev Cert.PwOneXIdeal.nD → PrngReg), Pre_PwOneXIdeal m →
    θ_run (Cert.PwOneXIdeal.defs (F := Ideal)) (onTc (τ := Cert.PwOneXIdeal.τ) (Cert.PwOneXIdeal.main (F := Ideal))) ⟨m, fun _ => 0, g⟩ (fun r => (∀ c : Dev Cert.PwOneXIdeal.nD,
      r.2.mem ((c.tc : Thread Cert.PwOneXIdeal.nD Cert.PwOneXIdeal.τ).loc Cert.PwOneXIdeal.main_arg0) = m ((c.tc : Thread Cert.PwOneXIdeal.nD Cert.PwOneXIdeal.τ).loc Cert.PwOneXIdeal.main_arg0)
      ∧ r.2.mem ((c.tc : Thread Cert.PwOneXIdeal.nD Cert.PwOneXIdeal.τ).loc Cert.PwOneXIdeal.main_arg1) = m ((c.tc : Thread Cert.PwOneXIdeal.nD Cert.PwOneXIdeal.τ).loc Cert.PwOneXIdeal.main_arg1)
      ∧ r.2.mem ((c.tc : Thread Cert.PwOneXIdeal.nD Cert.PwOneXIdeal.τ).loc Cert.PwOneXIdeal.main_arg2) = m ((c.tc : Thread Cert.PwOneXIdeal.nD Cert.PwOneXIdeal.τ).loc Cert.PwOneXIdeal.main_arg2)
      ∧ r.2.mem ((c.tc : Thread Cert.PwOneXIdeal.nD Cert.PwOneXIdeal.τ).loc Cert.PwOneXIdeal.main_arg3) = m ((c.tc : Thread Cert.PwOneXIdeal.nD Cert.PwOneXIdeal.τ).loc Cert.PwOneXIdeal.main_arg3)
      ∧ r.2.mem ((c.tc : Thread Cert.PwOneXIdeal.nD Cert.PwOneXIdeal.τ).loc Cert.PwOneXIdeal.main_arg4) = m ((c.tc : Thread Cert.PwOneXIdeal.nD Cert.PwOneXIdeal.τ).loc Cert.PwOneXIdeal.main_arg4)
      ∧ r.2.mem ((c.tc : Thread Cert.PwOneXIdeal.nD Cert.PwOneXIdeal.τ).loc Cert.PwOneXIdeal.main_arg5) = m ((c.tc : Thread Cert.PwOneXIdeal.nD Cert.PwOneXIdeal.τ).loc Cert.PwOneXIdeal.main_arg5)
      ∧ r.2.mem ((c.tc : Thread Cert.PwOneXIdeal.nD Cert.PwOneXIdeal.τ).loc Cert.PwOneXIdeal.main_arg6) = m ((c.tc : Thread Cert.PwOneXIdeal.nD Cert.PwOneXIdeal.τ).loc Cert.PwOneXIdeal.main_arg6)
      ∧ r.2.mem ((c.tc : Thread Cert.PwOneXIdeal.nD Cert.PwOneXIdeal.τ).loc Cert.PwOneXIdeal.main_arg7) = m ((c.tc : Thread Cert.PwOneXIdeal.nD Cert.PwOneXIdeal.τ).loc Cert.PwOneXIdeal.main_arg7))
      ∧ r.2.sem = fun _ => 0)

def quiescent_RefPwOneXIdeal [hRefPwOneXIdeal : Cert.RefPwOneXIdeal.Facts] : Prop :=
  ∀ (m : (ℓ : Loc Cert.RefPwOneXIdeal.nD Cert.RefPwOneXIdeal.τ Cert.RefPwOneXIdeal.sig) → Buf (Elt Ideal) ℓ) (g : Dev Cert.RefPwOneXIdeal.nD → PrngReg), Pre_RefPwOneXIdeal m →
    θ_run (Cert.RefPwOneXIdeal.defs (F := Ideal)) (onTc (τ := Cert.RefPwOneXIdeal.τ) (Cert.RefPwOneXIdeal.main (F := Ideal))) ⟨m, fun _ => 0, g⟩ (fun r => (∀ c : Dev Cert.RefPwOneXIdeal.nD,
      r.2.mem ((c.tc : Thread Cert.RefPwOneXIdeal.nD Cert.RefPwOneXIdeal.τ).loc Cert.RefPwOneXIdeal.main_arg0) = m ((c.tc : Thread Cert.RefPwOneXIdeal.nD Cert.RefPwOneXIdeal.τ).loc Cert.RefPwOneXIdeal.main_arg0)
      ∧ r.2.mem ((c.tc : Thread Cert.RefPwOneXIdeal.nD Cert.RefPwOneXIdeal.τ).loc Cert.RefPwOneXIdeal.main_arg1) = m ((c.tc : Thread Cert.RefPwOneXIdeal.nD Cert.RefPwOneXIdeal.τ).loc Cert.RefPwOneXIdeal.main_arg1)
      ∧ r.2.mem ((c.tc : Thread Cert.RefPwOneXIdeal.nD Cert.RefPwOneXIdeal.τ).loc Cert.RefPwOneXIdeal.main_arg2) = m ((c.tc : Thread Cert.RefPwOneXIdeal.nD Cert.RefPwOneXIdeal.τ).loc Cert.RefPwOneXIdeal.main_arg2)
      ∧ r.2.mem ((c.tc : Thread Cert.RefPwOneXIdeal.nD Cert.RefPwOneXIdeal.τ).loc Cert.RefPwOneXIdeal.main_arg3) = m ((c.tc : Thread Cert.RefPwOneXIdeal.nD Cert.RefPwOneXIdeal.τ).loc Cert.RefPwOneXIdeal.main_arg3)
      ∧ r.2.mem ((c.tc : Thread Cert.RefPwOneXIdeal.nD Cert.RefPwOneXIdeal.τ).loc Cert.RefPwOneXIdeal.main_arg4) = m ((c.tc : Thread Cert.RefPwOneXIdeal.nD Cert.RefPwOneXIdeal.τ).loc Cert.RefPwOneXIdeal.main_arg4)
      ∧ r.2.mem ((c.tc : Thread Cert.RefPwOneXIdeal.nD Cert.RefPwOneXIdeal.τ).loc Cert.RefPwOneXIdeal.main_arg5) = m ((c.tc : Thread Cert.RefPwOneXIdeal.nD Cert.RefPwOneXIdeal.τ).loc Cert.RefPwOneXIdeal.main_arg5)
      ∧ r.2.mem ((c.tc : Thread Cert.RefPwOneXIdeal.nD Cert.RefPwOneXIdeal.τ).loc Cert.RefPwOneXIdeal.main_arg6) = m ((c.tc : Thread Cert.RefPwOneXIdeal.nD Cert.RefPwOneXIdeal.τ).loc Cert.RefPwOneXIdeal.main_arg6)
      ∧ r.2.mem ((c.tc : Thread Cert.RefPwOneXIdeal.nD Cert.RefPwOneXIdeal.τ).loc Cert.RefPwOneXIdeal.main_arg7) = m ((c.tc : Thread Cert.RefPwOneXIdeal.nD Cert.RefPwOneXIdeal.τ).loc Cert.RefPwOneXIdeal.main_arg7))
      ∧ r.2.sem = fun _ => 0)

def quiescent_PwTwoF [hPwTwoF : Cert.PwTwoF.Facts] : Prop :=
  ∀ (m : (ℓ : Loc Cert.PwTwoF.nD Cert.PwTwoF.τ Cert.PwTwoF.sig) → Buf (Elt Bits) ℓ) (g : Dev Cert.PwTwoF.nD → PrngReg), Pre_PwTwoF m →
    θ_run (Cert.PwTwoF.defs (F := Bits)) (onTc (τ := Cert.PwTwoF.τ) (Cert.PwTwoF.main (F := Bits))) ⟨m, fun _ => 0, g⟩ (fun r => (∀ c : Dev Cert.PwTwoF.nD,
      r.2.mem ((c.tc : Thread Cert.PwTwoF.nD Cert.PwTwoF.τ).loc Cert.PwTwoF.main_arg0) = m ((c.tc : Thread Cert.PwTwoF.nD Cert.PwTwoF.τ).loc Cert.PwTwoF.main_arg0)
      ∧ r.2.mem ((c.tc : Thread Cert.PwTwoF.nD Cert.PwTwoF.τ).loc Cert.PwTwoF.main_arg1) = m ((c.tc : Thread Cert.PwTwoF.nD Cert.PwTwoF.τ).loc Cert.PwTwoF.main_arg1)
      ∧ r.2.mem ((c.tc : Thread Cert.PwTwoF.nD Cert.PwTwoF.τ).loc Cert.PwTwoF.main_arg2) = m ((c.tc : Thread Cert.PwTwoF.nD Cert.PwTwoF.τ).loc Cert.PwTwoF.main_arg2)
      ∧ r.2.mem ((c.tc : Thread Cert.PwTwoF.nD Cert.PwTwoF.τ).loc Cert.PwTwoF.main_arg3) = m ((c.tc : Thread Cert.PwTwoF.nD Cert.PwTwoF.τ).loc Cert.PwTwoF.main_arg3)
      ∧ r.2.mem ((c.tc : Thread Cert.PwTwoF.nD Cert.PwTwoF.τ).loc Cert.PwTwoF.main_arg4) = m ((c.tc : Thread Cert.PwTwoF.nD Cert.PwTwoF.τ).loc Cert.PwTwoF.main_arg4)
      ∧ r.2.mem ((c.tc : Thread Cert.PwTwoF.nD Cert.PwTwoF.τ).loc Cert.PwTwoF.main_arg5) = m ((c.tc : Thread Cert.PwTwoF.nD Cert.PwTwoF.τ).loc Cert.PwTwoF.main_arg5)
      ∧ r.2.mem ((c.tc : Thread Cert.PwTwoF.nD Cert.PwTwoF.τ).loc Cert.PwTwoF.main_arg6) = m ((c.tc : Thread Cert.PwTwoF.nD Cert.PwTwoF.τ).loc Cert.PwTwoF.main_arg6))
      ∧ r.2.sem = fun _ => 0)

def quiescent_PwTwoFIdeal [hPwTwoFIdeal : Cert.PwTwoFIdeal.Facts] : Prop :=
  ∀ (m : (ℓ : Loc Cert.PwTwoFIdeal.nD Cert.PwTwoFIdeal.τ Cert.PwTwoFIdeal.sig) → Buf (Elt Ideal) ℓ) (g : Dev Cert.PwTwoFIdeal.nD → PrngReg), Pre_PwTwoFIdeal m →
    θ_run (Cert.PwTwoFIdeal.defs (F := Ideal)) (onTc (τ := Cert.PwTwoFIdeal.τ) (Cert.PwTwoFIdeal.main (F := Ideal))) ⟨m, fun _ => 0, g⟩ (fun r => (∀ c : Dev Cert.PwTwoFIdeal.nD,
      r.2.mem ((c.tc : Thread Cert.PwTwoFIdeal.nD Cert.PwTwoFIdeal.τ).loc Cert.PwTwoFIdeal.main_arg0) = m ((c.tc : Thread Cert.PwTwoFIdeal.nD Cert.PwTwoFIdeal.τ).loc Cert.PwTwoFIdeal.main_arg0)
      ∧ r.2.mem ((c.tc : Thread Cert.PwTwoFIdeal.nD Cert.PwTwoFIdeal.τ).loc Cert.PwTwoFIdeal.main_arg1) = m ((c.tc : Thread Cert.PwTwoFIdeal.nD Cert.PwTwoFIdeal.τ).loc Cert.PwTwoFIdeal.main_arg1)
      ∧ r.2.mem ((c.tc : Thread Cert.PwTwoFIdeal.nD Cert.PwTwoFIdeal.τ).loc Cert.PwTwoFIdeal.main_arg2) = m ((c.tc : Thread Cert.PwTwoFIdeal.nD Cert.PwTwoFIdeal.τ).loc Cert.PwTwoFIdeal.main_arg2)
      ∧ r.2.mem ((c.tc : Thread Cert.PwTwoFIdeal.nD Cert.PwTwoFIdeal.τ).loc Cert.PwTwoFIdeal.main_arg3) = m ((c.tc : Thread Cert.PwTwoFIdeal.nD Cert.PwTwoFIdeal.τ).loc Cert.PwTwoFIdeal.main_arg3)
      ∧ r.2.mem ((c.tc : Thread Cert.PwTwoFIdeal.nD Cert.PwTwoFIdeal.τ).loc Cert.PwTwoFIdeal.main_arg4) = m ((c.tc : Thread Cert.PwTwoFIdeal.nD Cert.PwTwoFIdeal.τ).loc Cert.PwTwoFIdeal.main_arg4)
      ∧ r.2.mem ((c.tc : Thread Cert.PwTwoFIdeal.nD Cert.PwTwoFIdeal.τ).loc Cert.PwTwoFIdeal.main_arg5) = m ((c.tc : Thread Cert.PwTwoFIdeal.nD Cert.PwTwoFIdeal.τ).loc Cert.PwTwoFIdeal.main_arg5)
      ∧ r.2.mem ((c.tc : Thread Cert.PwTwoFIdeal.nD Cert.PwTwoFIdeal.τ).loc Cert.PwTwoFIdeal.main_arg6) = m ((c.tc : Thread Cert.PwTwoFIdeal.nD Cert.PwTwoFIdeal.τ).loc Cert.PwTwoFIdeal.main_arg6))
      ∧ r.2.sem = fun _ => 0)

def quiescent_RefPwTwoFIdeal [hRefPwTwoFIdeal : Cert.RefPwTwoFIdeal.Facts] : Prop :=
  ∀ (m : (ℓ : Loc Cert.RefPwTwoFIdeal.nD Cert.RefPwTwoFIdeal.τ Cert.RefPwTwoFIdeal.sig) → Buf (Elt Ideal) ℓ) (g : Dev Cert.RefPwTwoFIdeal.nD → PrngReg), Pre_RefPwTwoFIdeal m →
    θ_run (Cert.RefPwTwoFIdeal.defs (F := Ideal)) (onTc (τ := Cert.RefPwTwoFIdeal.τ) (Cert.RefPwTwoFIdeal.main (F := Ideal))) ⟨m, fun _ => 0, g⟩ (fun r => (∀ c : Dev Cert.RefPwTwoFIdeal.nD,
      r.2.mem ((c.tc : Thread Cert.RefPwTwoFIdeal.nD Cert.RefPwTwoFIdeal.τ).loc Cert.RefPwTwoFIdeal.main_arg0) = m ((c.tc : Thread Cert.RefPwTwoFIdeal.nD Cert.RefPwTwoFIdeal.τ).loc Cert.RefPwTwoFIdeal.main_arg0)
      ∧ r.2.mem ((c.tc : Thread Cert.RefPwTwoFIdeal.nD Cert.RefPwTwoFIdeal.τ).loc Cert.RefPwTwoFIdeal.main_arg1) = m ((c.tc : Thread Cert.RefPwTwoFIdeal.nD Cert.RefPwTwoFIdeal.τ).loc Cert.RefPwTwoFIdeal.main_arg1)
      ∧ r.2.mem ((c.tc : Thread Cert.RefPwTwoFIdeal.nD Cert.RefPwTwoFIdeal.τ).loc Cert.RefPwTwoFIdeal.main_arg2) = m ((c.tc : Thread Cert.RefPwTwoFIdeal.nD Cert.RefPwTwoFIdeal.τ).loc Cert.RefPwTwoFIdeal.main_arg2)
      ∧ r.2.mem ((c.tc : Thread Cert.RefPwTwoFIdeal.nD Cert.RefPwTwoFIdeal.τ).loc Cert.RefPwTwoFIdeal.main_arg3) = m ((c.tc : Thread Cert.RefPwTwoFIdeal.nD Cert.RefPwTwoFIdeal.τ).loc Cert.RefPwTwoFIdeal.main_arg3)
      ∧ r.2.mem ((c.tc : Thread Cert.RefPwTwoFIdeal.nD Cert.RefPwTwoFIdeal.τ).loc Cert.RefPwTwoFIdeal.main_arg4) = m ((c.tc : Thread Cert.RefPwTwoFIdeal.nD Cert.RefPwTwoFIdeal.τ).loc Cert.RefPwTwoFIdeal.main_arg4)
      ∧ r.2.mem ((c.tc : Thread Cert.RefPwTwoFIdeal.nD Cert.RefPwTwoFIdeal.τ).loc Cert.RefPwTwoFIdeal.main_arg5) = m ((c.tc : Thread Cert.RefPwTwoFIdeal.nD Cert.RefPwTwoFIdeal.τ).loc Cert.RefPwTwoFIdeal.main_arg5)
      ∧ r.2.mem ((c.tc : Thread Cert.RefPwTwoFIdeal.nD Cert.RefPwTwoFIdeal.τ).loc Cert.RefPwTwoFIdeal.main_arg6) = m ((c.tc : Thread Cert.RefPwTwoFIdeal.nD Cert.RefPwTwoFIdeal.τ).loc Cert.RefPwTwoFIdeal.main_arg6))
      ∧ r.2.sem = fun _ => 0)

def quiescent_PwTwoW [hPwTwoW : Cert.PwTwoW.Facts] : Prop :=
  ∀ (m : (ℓ : Loc Cert.PwTwoW.nD Cert.PwTwoW.τ Cert.PwTwoW.sig) → Buf (Elt Bits) ℓ) (g : Dev Cert.PwTwoW.nD → PrngReg), Pre_PwTwoW m →
    θ_run (Cert.PwTwoW.defs (F := Bits)) (onTc (τ := Cert.PwTwoW.τ) (Cert.PwTwoW.main (F := Bits))) ⟨m, fun _ => 0, g⟩ (fun r => (∀ c : Dev Cert.PwTwoW.nD,
      r.2.mem ((c.tc : Thread Cert.PwTwoW.nD Cert.PwTwoW.τ).loc Cert.PwTwoW.main_arg0) = m ((c.tc : Thread Cert.PwTwoW.nD Cert.PwTwoW.τ).loc Cert.PwTwoW.main_arg0)
      ∧ r.2.mem ((c.tc : Thread Cert.PwTwoW.nD Cert.PwTwoW.τ).loc Cert.PwTwoW.main_arg1) = m ((c.tc : Thread Cert.PwTwoW.nD Cert.PwTwoW.τ).loc Cert.PwTwoW.main_arg1)
      ∧ r.2.mem ((c.tc : Thread Cert.PwTwoW.nD Cert.PwTwoW.τ).loc Cert.PwTwoW.main_arg2) = m ((c.tc : Thread Cert.PwTwoW.nD Cert.PwTwoW.τ).loc Cert.PwTwoW.main_arg2)
      ∧ r.2.mem ((c.tc : Thread Cert.PwTwoW.nD Cert.PwTwoW.τ).loc Cert.PwTwoW.main_arg3) = m ((c.tc : Thread Cert.PwTwoW.nD Cert.PwTwoW.τ).loc Cert.PwTwoW.main_arg3))
      ∧ r.2.sem = fun _ => 0)

def quiescent_PwTwoWIdeal [hPwTwoWIdeal : Cert.PwTwoWIdeal.Facts] : Prop :=
  ∀ (m : (ℓ : Loc Cert.PwTwoWIdeal.nD Cert.PwTwoWIdeal.τ Cert.PwTwoWIdeal.sig) → Buf (Elt Ideal) ℓ) (g : Dev Cert.PwTwoWIdeal.nD → PrngReg), Pre_PwTwoWIdeal m →
    θ_run (Cert.PwTwoWIdeal.defs (F := Ideal)) (onTc (τ := Cert.PwTwoWIdeal.τ) (Cert.PwTwoWIdeal.main (F := Ideal))) ⟨m, fun _ => 0, g⟩ (fun r => (∀ c : Dev Cert.PwTwoWIdeal.nD,
      r.2.mem ((c.tc : Thread Cert.PwTwoWIdeal.nD Cert.PwTwoWIdeal.τ).loc Cert.PwTwoWIdeal.main_arg0) = m ((c.tc : Thread Cert.PwTwoWIdeal.nD Cert.PwTwoWIdeal.τ).loc Cert.PwTwoWIdeal.main_arg0)
      ∧ r.2.mem ((c.tc : Thread Cert.PwTwoWIdeal.nD Cert.PwTwoWIdeal.τ).loc Cert.PwTwoWIdeal.main_arg1) = m ((c.tc : Thread Cert.PwTwoWIdeal.nD Cert.PwTwoWIdeal.τ).loc Cert.PwTwoWIdeal.main_arg1)
      ∧ r.2.mem ((c.tc : Thread Cert.PwTwoWIdeal.nD Cert.PwTwoWIdeal.τ).loc Cert.PwTwoWIdeal.main_arg2) = m ((c.tc : Thread Cert.PwTwoWIdeal.nD Cert.PwTwoWIdeal.τ).loc Cert.PwTwoWIdeal.main_arg2)
      ∧ r.2.mem ((c.tc : Thread Cert.PwTwoWIdeal.nD Cert.PwTwoWIdeal.τ).loc Cert.PwTwoWIdeal.main_arg3) = m ((c.tc : Thread Cert.PwTwoWIdeal.nD Cert.PwTwoWIdeal.τ).loc Cert.PwTwoWIdeal.main_arg3))
      ∧ r.2.sem = fun _ => 0)

def quiescent_RefPwTwoWIdeal [hRefPwTwoWIdeal : Cert.RefPwTwoWIdeal.Facts] : Prop :=
  ∀ (m : (ℓ : Loc Cert.RefPwTwoWIdeal.nD Cert.RefPwTwoWIdeal.τ Cert.RefPwTwoWIdeal.sig) → Buf (Elt Ideal) ℓ) (g : Dev Cert.RefPwTwoWIdeal.nD → PrngReg), Pre_RefPwTwoWIdeal m →
    θ_run (Cert.RefPwTwoWIdeal.defs (F := Ideal)) (onTc (τ := Cert.RefPwTwoWIdeal.τ) (Cert.RefPwTwoWIdeal.main (F := Ideal))) ⟨m, fun _ => 0, g⟩ (fun r => (∀ c : Dev Cert.RefPwTwoWIdeal.nD,
      r.2.mem ((c.tc : Thread Cert.RefPwTwoWIdeal.nD Cert.RefPwTwoWIdeal.τ).loc Cert.RefPwTwoWIdeal.main_arg0) = m ((c.tc : Thread Cert.RefPwTwoWIdeal.nD Cert.RefPwTwoWIdeal.τ).loc Cert.RefPwTwoWIdeal.main_arg0)
      ∧ r.2.mem ((c.tc : Thread Cert.RefPwTwoWIdeal.nD Cert.RefPwTwoWIdeal.τ).loc Cert.RefPwTwoWIdeal.main_arg1) = m ((c.tc : Thread Cert.RefPwTwoWIdeal.nD Cert.RefPwTwoWIdeal.τ).loc Cert.RefPwTwoWIdeal.main_arg1)
      ∧ r.2.mem ((c.tc : Thread Cert.RefPwTwoWIdeal.nD Cert.RefPwTwoWIdeal.τ).loc Cert.RefPwTwoWIdeal.main_arg2) = m ((c.tc : Thread Cert.RefPwTwoWIdeal.nD Cert.RefPwTwoWIdeal.τ).loc Cert.RefPwTwoWIdeal.main_arg2)
      ∧ r.2.mem ((c.tc : Thread Cert.RefPwTwoWIdeal.nD Cert.RefPwTwoWIdeal.τ).loc Cert.RefPwTwoWIdeal.main_arg3) = m ((c.tc : Thread Cert.RefPwTwoWIdeal.nD Cert.RefPwTwoWIdeal.τ).loc Cert.RefPwTwoWIdeal.main_arg3))
      ∧ r.2.sem = fun _ => 0)

def quiescent_PwOneZ [hPwOneZ : Cert.PwOneZ.Facts] : Prop :=
  ∀ (m : (ℓ : Loc Cert.PwOneZ.nD Cert.PwOneZ.τ Cert.PwOneZ.sig) → Buf (Elt Bits) ℓ) (g : Dev Cert.PwOneZ.nD → PrngReg), Pre_PwOneZ m →
    θ_run (Cert.PwOneZ.defs (F := Bits)) (onTc (τ := Cert.PwOneZ.τ) (Cert.PwOneZ.main (F := Bits))) ⟨m, fun _ => 0, g⟩ (fun r => (∀ c : Dev Cert.PwOneZ.nD,
      r.2.mem ((c.tc : Thread Cert.PwOneZ.nD Cert.PwOneZ.τ).loc Cert.PwOneZ.main_arg0) = m ((c.tc : Thread Cert.PwOneZ.nD Cert.PwOneZ.τ).loc Cert.PwOneZ.main_arg0)
      ∧ r.2.mem ((c.tc : Thread Cert.PwOneZ.nD Cert.PwOneZ.τ).loc Cert.PwOneZ.main_arg1) = m ((c.tc : Thread Cert.PwOneZ.nD Cert.PwOneZ.τ).loc Cert.PwOneZ.main_arg1)
      ∧ r.2.mem ((c.tc : Thread Cert.PwOneZ.nD Cert.PwOneZ.τ).loc Cert.PwOneZ.main_arg2) = m ((c.tc : Thread Cert.PwOneZ.nD Cert.PwOneZ.τ).loc Cert.PwOneZ.main_arg2)
      ∧ r.2.mem ((c.tc : Thread Cert.PwOneZ.nD Cert.PwOneZ.τ).loc Cert.PwOneZ.main_arg3) = m ((c.tc : Thread Cert.PwOneZ.nD Cert.PwOneZ.τ).loc Cert.PwOneZ.main_arg3)
      ∧ r.2.mem ((c.tc : Thread Cert.PwOneZ.nD Cert.PwOneZ.τ).loc Cert.PwOneZ.main_arg4) = m ((c.tc : Thread Cert.PwOneZ.nD Cert.PwOneZ.τ).loc Cert.PwOneZ.main_arg4)
      ∧ r.2.mem ((c.tc : Thread Cert.PwOneZ.nD Cert.PwOneZ.τ).loc Cert.PwOneZ.main_arg5) = m ((c.tc : Thread Cert.PwOneZ.nD Cert.PwOneZ.τ).loc Cert.PwOneZ.main_arg5))
      ∧ r.2.sem = fun _ => 0)

def quiescent_PwOneZIdeal [hPwOneZIdeal : Cert.PwOneZIdeal.Facts] : Prop :=
  ∀ (m : (ℓ : Loc Cert.PwOneZIdeal.nD Cert.PwOneZIdeal.τ Cert.PwOneZIdeal.sig) → Buf (Elt Ideal) ℓ) (g : Dev Cert.PwOneZIdeal.nD → PrngReg), Pre_PwOneZIdeal m →
    θ_run (Cert.PwOneZIdeal.defs (F := Ideal)) (onTc (τ := Cert.PwOneZIdeal.τ) (Cert.PwOneZIdeal.main (F := Ideal))) ⟨m, fun _ => 0, g⟩ (fun r => (∀ c : Dev Cert.PwOneZIdeal.nD,
      r.2.mem ((c.tc : Thread Cert.PwOneZIdeal.nD Cert.PwOneZIdeal.τ).loc Cert.PwOneZIdeal.main_arg0) = m ((c.tc : Thread Cert.PwOneZIdeal.nD Cert.PwOneZIdeal.τ).loc Cert.PwOneZIdeal.main_arg0)
      ∧ r.2.mem ((c.tc : Thread Cert.PwOneZIdeal.nD Cert.PwOneZIdeal.τ).loc Cert.PwOneZIdeal.main_arg1) = m ((c.tc : Thread Cert.PwOneZIdeal.nD Cert.PwOneZIdeal.τ).loc Cert.PwOneZIdeal.main_arg1)
      ∧ r.2.mem ((c.tc : Thread Cert.PwOneZIdeal.nD Cert.PwOneZIdeal.τ).loc Cert.PwOneZIdeal.main_arg2) = m ((c.tc : Thread Cert.PwOneZIdeal.nD Cert.PwOneZIdeal.τ).loc Cert.PwOneZIdeal.main_arg2)
      ∧ r.2.mem ((c.tc : Thread Cert.PwOneZIdeal.nD Cert.PwOneZIdeal.τ).loc Cert.PwOneZIdeal.main_arg3) = m ((c.tc : Thread Cert.PwOneZIdeal.nD Cert.PwOneZIdeal.τ).loc Cert.PwOneZIdeal.main_arg3)
      ∧ r.2.mem ((c.tc : Thread Cert.PwOneZIdeal.nD Cert.PwOneZIdeal.τ).loc Cert.PwOneZIdeal.main_arg4) = m ((c.tc : Thread Cert.PwOneZIdeal.nD Cert.PwOneZIdeal.τ).loc Cert.PwOneZIdeal.main_arg4)
      ∧ r.2.mem ((c.tc : Thread Cert.PwOneZIdeal.nD Cert.PwOneZIdeal.τ).loc Cert.PwOneZIdeal.main_arg5) = m ((c.tc : Thread Cert.PwOneZIdeal.nD Cert.PwOneZIdeal.τ).loc Cert.PwOneZIdeal.main_arg5))
      ∧ r.2.sem = fun _ => 0)

def quiescent_RefPwOneZIdeal [hRefPwOneZIdeal : Cert.RefPwOneZIdeal.Facts] : Prop :=
  ∀ (m : (ℓ : Loc Cert.RefPwOneZIdeal.nD Cert.RefPwOneZIdeal.τ Cert.RefPwOneZIdeal.sig) → Buf (Elt Ideal) ℓ) (g : Dev Cert.RefPwOneZIdeal.nD → PrngReg), Pre_RefPwOneZIdeal m →
    θ_run (Cert.RefPwOneZIdeal.defs (F := Ideal)) (onTc (τ := Cert.RefPwOneZIdeal.τ) (Cert.RefPwOneZIdeal.main (F := Ideal))) ⟨m, fun _ => 0, g⟩ (fun r => (∀ c : Dev Cert.RefPwOneZIdeal.nD,
      r.2.mem ((c.tc : Thread Cert.RefPwOneZIdeal.nD Cert.RefPwOneZIdeal.τ).loc Cert.RefPwOneZIdeal.main_arg0) = m ((c.tc : Thread Cert.RefPwOneZIdeal.nD Cert.RefPwOneZIdeal.τ).loc Cert.RefPwOneZIdeal.main_arg0)
      ∧ r.2.mem ((c.tc : Thread Cert.RefPwOneZIdeal.nD Cert.RefPwOneZIdeal.τ).loc Cert.RefPwOneZIdeal.main_arg1) = m ((c.tc : Thread Cert.RefPwOneZIdeal.nD Cert.RefPwOneZIdeal.τ).loc Cert.RefPwOneZIdeal.main_arg1)
      ∧ r.2.mem ((c.tc : Thread Cert.RefPwOneZIdeal.nD Cert.RefPwOneZIdeal.τ).loc Cert.RefPwOneZIdeal.main_arg2) = m ((c.tc : Thread Cert.RefPwOneZIdeal.nD Cert.RefPwOneZIdeal.τ).loc Cert.RefPwOneZIdeal.main_arg2)
      ∧ r.2.mem ((c.tc : Thread Cert.RefPwOneZIdeal.nD Cert.RefPwOneZIdeal.τ).loc Cert.RefPwOneZIdeal.main_arg3) = m ((c.tc : Thread Cert.RefPwOneZIdeal.nD Cert.RefPwOneZIdeal.τ).loc Cert.RefPwOneZIdeal.main_arg3)
      ∧ r.2.mem ((c.tc : Thread Cert.RefPwOneZIdeal.nD Cert.RefPwOneZIdeal.τ).loc Cert.RefPwOneZIdeal.main_arg4) = m ((c.tc : Thread Cert.RefPwOneZIdeal.nD Cert.RefPwOneZIdeal.τ).loc Cert.RefPwOneZIdeal.main_arg4)
      ∧ r.2.mem ((c.tc : Thread Cert.RefPwOneZIdeal.nD Cert.RefPwOneZIdeal.τ).loc Cert.RefPwOneZIdeal.main_arg5) = m ((c.tc : Thread Cert.RefPwOneZIdeal.nD Cert.RefPwOneZIdeal.τ).loc Cert.RefPwOneZIdeal.main_arg5))
      ∧ r.2.sem = fun _ => 0)

def quiescent_PwTwoX [hPwTwoX : Cert.PwTwoX.Facts] : Prop :=
  ∀ (m : (ℓ : Loc Cert.PwTwoX.nD Cert.PwTwoX.τ Cert.PwTwoX.sig) → Buf (Elt Bits) ℓ) (g : Dev Cert.PwTwoX.nD → PrngReg), Pre_PwTwoX m →
    θ_run (Cert.PwTwoX.defs (F := Bits)) (onTc (τ := Cert.PwTwoX.τ) (Cert.PwTwoX.main (F := Bits))) ⟨m, fun _ => 0, g⟩ (fun r => (∀ c : Dev Cert.PwTwoX.nD,
      r.2.mem ((c.tc : Thread Cert.PwTwoX.nD Cert.PwTwoX.τ).loc Cert.PwTwoX.main_arg0) = m ((c.tc : Thread Cert.PwTwoX.nD Cert.PwTwoX.τ).loc Cert.PwTwoX.main_arg0)
      ∧ r.2.mem ((c.tc : Thread Cert.PwTwoX.nD Cert.PwTwoX.τ).loc Cert.PwTwoX.main_arg1) = m ((c.tc : Thread Cert.PwTwoX.nD Cert.PwTwoX.τ).loc Cert.PwTwoX.main_arg1)
      ∧ r.2.mem ((c.tc : Thread Cert.PwTwoX.nD Cert.PwTwoX.τ).loc Cert.PwTwoX.main_arg2) = m ((c.tc : Thread Cert.PwTwoX.nD Cert.PwTwoX.τ).loc Cert.PwTwoX.main_arg2)
      ∧ r.2.mem ((c.tc : Thread Cert.PwTwoX.nD Cert.PwTwoX.τ).loc Cert.PwTwoX.main_arg3) = m ((c.tc : Thread Cert.PwTwoX.nD Cert.PwTwoX.τ).loc Cert.PwTwoX.main_arg3)
      ∧ r.2.mem ((c.tc : Thread Cert.PwTwoX.nD Cert.PwTwoX.τ).loc Cert.PwTwoX.main_arg4) = m ((c.tc : Thread Cert.PwTwoX.nD Cert.PwTwoX.τ).loc Cert.PwTwoX.main_arg4))
      ∧ r.2.sem = fun _ => 0)

def quiescent_PwTwoXIdeal [hPwTwoXIdeal : Cert.PwTwoXIdeal.Facts] : Prop :=
  ∀ (m : (ℓ : Loc Cert.PwTwoXIdeal.nD Cert.PwTwoXIdeal.τ Cert.PwTwoXIdeal.sig) → Buf (Elt Ideal) ℓ) (g : Dev Cert.PwTwoXIdeal.nD → PrngReg), Pre_PwTwoXIdeal m →
    θ_run (Cert.PwTwoXIdeal.defs (F := Ideal)) (onTc (τ := Cert.PwTwoXIdeal.τ) (Cert.PwTwoXIdeal.main (F := Ideal))) ⟨m, fun _ => 0, g⟩ (fun r => (∀ c : Dev Cert.PwTwoXIdeal.nD,
      r.2.mem ((c.tc : Thread Cert.PwTwoXIdeal.nD Cert.PwTwoXIdeal.τ).loc Cert.PwTwoXIdeal.main_arg0) = m ((c.tc : Thread Cert.PwTwoXIdeal.nD Cert.PwTwoXIdeal.τ).loc Cert.PwTwoXIdeal.main_arg0)
      ∧ r.2.mem ((c.tc : Thread Cert.PwTwoXIdeal.nD Cert.PwTwoXIdeal.τ).loc Cert.PwTwoXIdeal.main_arg1) = m ((c.tc : Thread Cert.PwTwoXIdeal.nD Cert.PwTwoXIdeal.τ).loc Cert.PwTwoXIdeal.main_arg1)
      ∧ r.2.mem ((c.tc : Thread Cert.PwTwoXIdeal.nD Cert.PwTwoXIdeal.τ).loc Cert.PwTwoXIdeal.main_arg2) = m ((c.tc : Thread Cert.PwTwoXIdeal.nD Cert.PwTwoXIdeal.τ).loc Cert.PwTwoXIdeal.main_arg2)
      ∧ r.2.mem ((c.tc : Thread Cert.PwTwoXIdeal.nD Cert.PwTwoXIdeal.τ).loc Cert.PwTwoXIdeal.main_arg3) = m ((c.tc : Thread Cert.PwTwoXIdeal.nD Cert.PwTwoXIdeal.τ).loc Cert.PwTwoXIdeal.main_arg3)
      ∧ r.2.mem ((c.tc : Thread Cert.PwTwoXIdeal.nD Cert.PwTwoXIdeal.τ).loc Cert.PwTwoXIdeal.main_arg4) = m ((c.tc : Thread Cert.PwTwoXIdeal.nD Cert.PwTwoXIdeal.τ).loc Cert.PwTwoXIdeal.main_arg4))
      ∧ r.2.sem = fun _ => 0)

def quiescent_PwTwoXIdeal_pre_pw2_x_finite [hPwTwoXIdeal : Cert.PwTwoXIdeal.Facts] [hPre_pw2_x_finite : Cert.Pre_pw2_x_finite.Facts] : Prop :=
  ∀ (m : (ℓ : Loc Cert.PwTwoXIdeal.nD Cert.PwTwoXIdeal.τ Cert.PwTwoXIdeal.sig) → Buf (Elt Ideal) ℓ) (g : Dev Cert.PwTwoXIdeal.nD → PrngReg), Pre_PwTwoXIdeal_pw2_x_finite m →
    θ_run (Cert.PwTwoXIdeal.defs (F := Ideal)) (onTc (τ := Cert.PwTwoXIdeal.τ) (Cert.PwTwoXIdeal.main (F := Ideal))) ⟨m, fun _ => 0, g⟩ (fun r => (∀ c : Dev Cert.PwTwoXIdeal.nD,
      r.2.mem ((c.tc : Thread Cert.PwTwoXIdeal.nD Cert.PwTwoXIdeal.τ).loc Cert.PwTwoXIdeal.main_arg0) = m ((c.tc : Thread Cert.PwTwoXIdeal.nD Cert.PwTwoXIdeal.τ).loc Cert.PwTwoXIdeal.main_arg0)
      ∧ r.2.mem ((c.tc : Thread Cert.PwTwoXIdeal.nD Cert.PwTwoXIdeal.τ).loc Cert.PwTwoXIdeal.main_arg1) = m ((c.tc : Thread Cert.PwTwoXIdeal.nD Cert.PwTwoXIdeal.τ).loc Cert.PwTwoXIdeal.main_arg1)
      ∧ r.2.mem ((c.tc : Thread Cert.PwTwoXIdeal.nD Cert.PwTwoXIdeal.τ).loc Cert.PwTwoXIdeal.main_arg2) = m ((c.tc : Thread Cert.PwTwoXIdeal.nD Cert.PwTwoXIdeal.τ).loc Cert.PwTwoXIdeal.main_arg2)
      ∧ r.2.mem ((c.tc : Thread Cert.PwTwoXIdeal.nD Cert.PwTwoXIdeal.τ).loc Cert.PwTwoXIdeal.main_arg3) = m ((c.tc : Thread Cert.PwTwoXIdeal.nD Cert.PwTwoXIdeal.τ).loc Cert.PwTwoXIdeal.main_arg3)
      ∧ r.2.mem ((c.tc : Thread Cert.PwTwoXIdeal.nD Cert.PwTwoXIdeal.τ).loc Cert.PwTwoXIdeal.main_arg4) = m ((c.tc : Thread Cert.PwTwoXIdeal.nD Cert.PwTwoXIdeal.τ).loc Cert.PwTwoXIdeal.main_arg4))
      ∧ r.2.sem = fun _ => 0)

def quiescent_RefPwTwoXIdeal [hRefPwTwoXIdeal : Cert.RefPwTwoXIdeal.Facts] : Prop :=
  ∀ (m : (ℓ : Loc Cert.RefPwTwoXIdeal.nD Cert.RefPwTwoXIdeal.τ Cert.RefPwTwoXIdeal.sig) → Buf (Elt Ideal) ℓ) (g : Dev Cert.RefPwTwoXIdeal.nD → PrngReg), Pre_RefPwTwoXIdeal m →
    θ_run (Cert.RefPwTwoXIdeal.defs (F := Ideal)) (onTc (τ := Cert.RefPwTwoXIdeal.τ) (Cert.RefPwTwoXIdeal.main (F := Ideal))) ⟨m, fun _ => 0, g⟩ (fun r => (∀ c : Dev Cert.RefPwTwoXIdeal.nD,
      r.2.mem ((c.tc : Thread Cert.RefPwTwoXIdeal.nD Cert.RefPwTwoXIdeal.τ).loc Cert.RefPwTwoXIdeal.main_arg0) = m ((c.tc : Thread Cert.RefPwTwoXIdeal.nD Cert.RefPwTwoXIdeal.τ).loc Cert.RefPwTwoXIdeal.main_arg0)
      ∧ r.2.mem ((c.tc : Thread Cert.RefPwTwoXIdeal.nD Cert.RefPwTwoXIdeal.τ).loc Cert.RefPwTwoXIdeal.main_arg1) = m ((c.tc : Thread Cert.RefPwTwoXIdeal.nD Cert.RefPwTwoXIdeal.τ).loc Cert.RefPwTwoXIdeal.main_arg1)
      ∧ r.2.mem ((c.tc : Thread Cert.RefPwTwoXIdeal.nD Cert.RefPwTwoXIdeal.τ).loc Cert.RefPwTwoXIdeal.main_arg2) = m ((c.tc : Thread Cert.RefPwTwoXIdeal.nD Cert.RefPwTwoXIdeal.τ).loc Cert.RefPwTwoXIdeal.main_arg2)
      ∧ r.2.mem ((c.tc : Thread Cert.RefPwTwoXIdeal.nD Cert.RefPwTwoXIdeal.τ).loc Cert.RefPwTwoXIdeal.main_arg3) = m ((c.tc : Thread Cert.RefPwTwoXIdeal.nD Cert.RefPwTwoXIdeal.τ).loc Cert.RefPwTwoXIdeal.main_arg3)
      ∧ r.2.mem ((c.tc : Thread Cert.RefPwTwoXIdeal.nD Cert.RefPwTwoXIdeal.τ).loc Cert.RefPwTwoXIdeal.main_arg4) = m ((c.tc : Thread Cert.RefPwTwoXIdeal.nD Cert.RefPwTwoXIdeal.τ).loc Cert.RefPwTwoXIdeal.main_arg4))
      ∧ r.2.sem = fun _ => 0)

def quiescent_RefPwTwoXIdeal_pre_pw2_x_finite [hRefPwTwoXIdeal : Cert.RefPwTwoXIdeal.Facts] [hPre_pw2_x_finite : Cert.Pre_pw2_x_finite.Facts] : Prop :=
  ∀ (m : (ℓ : Loc Cert.RefPwTwoXIdeal.nD Cert.RefPwTwoXIdeal.τ Cert.RefPwTwoXIdeal.sig) → Buf (Elt Ideal) ℓ) (g : Dev Cert.RefPwTwoXIdeal.nD → PrngReg), Pre_RefPwTwoXIdeal_pw2_x_finite m →
    θ_run (Cert.RefPwTwoXIdeal.defs (F := Ideal)) (onTc (τ := Cert.RefPwTwoXIdeal.τ) (Cert.RefPwTwoXIdeal.main (F := Ideal))) ⟨m, fun _ => 0, g⟩ (fun r => (∀ c : Dev Cert.RefPwTwoXIdeal.nD,
      r.2.mem ((c.tc : Thread Cert.RefPwTwoXIdeal.nD Cert.RefPwTwoXIdeal.τ).loc Cert.RefPwTwoXIdeal.main_arg0) = m ((c.tc : Thread Cert.RefPwTwoXIdeal.nD Cert.RefPwTwoXIdeal.τ).loc Cert.RefPwTwoXIdeal.main_arg0)
      ∧ r.2.mem ((c.tc : Thread Cert.RefPwTwoXIdeal.nD Cert.RefPwTwoXIdeal.τ).loc Cert.RefPwTwoXIdeal.main_arg1) = m ((c.tc : Thread Cert.RefPwTwoXIdeal.nD Cert.RefPwTwoXIdeal.τ).loc Cert.RefPwTwoXIdeal.main_arg1)
      ∧ r.2.mem ((c.tc : Thread Cert.RefPwTwoXIdeal.nD Cert.RefPwTwoXIdeal.τ).loc Cert.RefPwTwoXIdeal.main_arg2) = m ((c.tc : Thread Cert.RefPwTwoXIdeal.nD Cert.RefPwTwoXIdeal.τ).loc Cert.RefPwTwoXIdeal.main_arg2)
      ∧ r.2.mem ((c.tc : Thread Cert.RefPwTwoXIdeal.nD Cert.RefPwTwoXIdeal.τ).loc Cert.RefPwTwoXIdeal.main_arg3) = m ((c.tc : Thread Cert.RefPwTwoXIdeal.nD Cert.RefPwTwoXIdeal.τ).loc Cert.RefPwTwoXIdeal.main_arg3)
      ∧ r.2.mem ((c.tc : Thread Cert.RefPwTwoXIdeal.nD Cert.RefPwTwoXIdeal.τ).loc Cert.RefPwTwoXIdeal.main_arg4) = m ((c.tc : Thread Cert.RefPwTwoXIdeal.nD Cert.RefPwTwoXIdeal.τ).loc Cert.RefPwTwoXIdeal.main_arg4))
      ∧ r.2.sem = fun _ => 0)

def quiescent_AdaF [hAdaF : Cert.AdaF.Facts] : Prop :=
  ∀ (m : (ℓ : Loc Cert.AdaF.nD Cert.AdaF.τ Cert.AdaF.sig) → Buf (Elt Bits) ℓ) (g : Dev Cert.AdaF.nD → PrngReg), Pre_AdaF m →
    θ_run (Cert.AdaF.defs (F := Bits)) (onTc (τ := Cert.AdaF.τ) (Cert.AdaF.main (F := Bits))) ⟨m, fun _ => 0, g⟩ (fun r => (∀ c : Dev Cert.AdaF.nD,
      r.2.mem ((c.tc : Thread Cert.AdaF.nD Cert.AdaF.τ).loc Cert.AdaF.main_arg0) = m ((c.tc : Thread Cert.AdaF.nD Cert.AdaF.τ).loc Cert.AdaF.main_arg0)
      ∧ r.2.mem ((c.tc : Thread Cert.AdaF.nD Cert.AdaF.τ).loc Cert.AdaF.main_arg1) = m ((c.tc : Thread Cert.AdaF.nD Cert.AdaF.τ).loc Cert.AdaF.main_arg1))
      ∧ r.2.sem = fun _ => 0)

def quiescent_AdaFIdeal [hAdaFIdeal : Cert.AdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg), Pre_AdaFIdeal m →
    θ_run (Cert.AdaFIdeal.defs (F := Ideal)) (onTc (τ := Cert.AdaFIdeal.τ) (Cert.AdaFIdeal.main (F := Ideal))) ⟨m, fun _ => 0, g⟩ (fun r => (∀ c : Dev Cert.AdaFIdeal.nD,
      r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
      ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1))
      ∧ r.2.sem = fun _ => 0)

def quiescent_RefAdaFIdeal [hRefAdaFIdeal : Cert.RefAdaFIdeal.Facts] : Prop :=
  ∀ (m : (ℓ : Loc Cert.RefAdaFIdeal.nD Cert.RefAdaFIdeal.τ Cert.RefAdaFIdeal.sig) → Buf (Elt Ideal) ℓ) (g : Dev Cert.RefAdaFIdeal.nD → PrngReg), Pre_RefAdaFIdeal m →
    θ_run (Cert.RefAdaFIdeal.defs (F := Ideal)) (onTc (τ := Cert.RefAdaFIdeal.τ) (Cert.RefAdaFIdeal.main (F := Ideal))) ⟨m, fun _ => 0, g⟩ (fun r => (∀ c : Dev Cert.RefAdaFIdeal.nD,
      r.2.mem ((c.tc : Thread Cert.RefAdaFIdeal.nD Cert.RefAdaFIdeal.τ).loc Cert.RefAdaFIdeal.main_arg0) = m ((c.tc : Thread Cert.RefAdaFIdeal.nD Cert.RefAdaFIdeal.τ).loc Cert.RefAdaFIdeal.main_arg0)
      ∧ r.2.mem ((c.tc : Thread Cert.RefAdaFIdeal.nD Cert.RefAdaFIdeal.τ).loc Cert.RefAdaFIdeal.main_arg1) = m ((c.tc : Thread Cert.RefAdaFIdeal.nD Cert.RefAdaFIdeal.τ).loc Cert.RefAdaFIdeal.main_arg1))
      ∧ r.2.sem = fun _ => 0)

def quiescent_AdaW [hAdaW : Cert.AdaW.Facts] : Prop :=
  ∀ (m : (ℓ : Loc Cert.AdaW.nD Cert.AdaW.τ Cert.AdaW.sig) → Buf (Elt Bits) ℓ) (g : Dev Cert.AdaW.nD → PrngReg), Pre_AdaW m →
    θ_run (Cert.AdaW.defs (F := Bits)) (onTc (τ := Cert.AdaW.τ) (Cert.AdaW.main (F := Bits))) ⟨m, fun _ => 0, g⟩ (fun r => (∀ c : Dev Cert.AdaW.nD,
      r.2.mem ((c.tc : Thread Cert.AdaW.nD Cert.AdaW.τ).loc Cert.AdaW.main_arg0) = m ((c.tc : Thread Cert.AdaW.nD Cert.AdaW.τ).loc Cert.AdaW.main_arg0)
      ∧ r.2.mem ((c.tc : Thread Cert.AdaW.nD Cert.AdaW.τ).loc Cert.AdaW.main_arg1) = m ((c.tc : Thread Cert.AdaW.nD Cert.AdaW.τ).loc Cert.AdaW.main_arg1))
      ∧ r.2.sem = fun _ => 0)

def quiescent_AdaWIdeal [hAdaWIdeal : Cert.AdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg), Pre_AdaWIdeal m →
    θ_run (Cert.AdaWIdeal.defs (F := Ideal)) (onTc (τ := Cert.AdaWIdeal.τ) (Cert.AdaWIdeal.main (F := Ideal))) ⟨m, fun _ => 0, g⟩ (fun r => (∀ c : Dev Cert.AdaWIdeal.nD,
      r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
      ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1))
      ∧ r.2.sem = fun _ => 0)

def quiescent_RefAdaWIdeal [hRefAdaWIdeal : Cert.RefAdaWIdeal.Facts] : Prop :=
  ∀ (m : (ℓ : Loc Cert.RefAdaWIdeal.nD Cert.RefAdaWIdeal.τ Cert.RefAdaWIdeal.sig) → Buf (Elt Ideal) ℓ) (g : Dev Cert.RefAdaWIdeal.nD → PrngReg), Pre_RefAdaWIdeal m →
    θ_run (Cert.RefAdaWIdeal.defs (F := Ideal)) (onTc (τ := Cert.RefAdaWIdeal.τ) (Cert.RefAdaWIdeal.main (F := Ideal))) ⟨m, fun _ => 0, g⟩ (fun r => (∀ c : Dev Cert.RefAdaWIdeal.nD,
      r.2.mem ((c.tc : Thread Cert.RefAdaWIdeal.nD Cert.RefAdaWIdeal.τ).loc Cert.RefAdaWIdeal.main_arg0) = m ((c.tc : Thread Cert.RefAdaWIdeal.nD Cert.RefAdaWIdeal.τ).loc Cert.RefAdaWIdeal.main_arg0)
      ∧ r.2.mem ((c.tc : Thread Cert.RefAdaWIdeal.nD Cert.RefAdaWIdeal.τ).loc Cert.RefAdaWIdeal.main_arg1) = m ((c.tc : Thread Cert.RefAdaWIdeal.nD Cert.RefAdaWIdeal.τ).loc Cert.RefAdaWIdeal.main_arg1))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ r.2.sem = fun _ => 0)

def quiescent_RefAdamAIdeal [hRefAdamAIdeal : Cert.RefAdamAIdeal.Facts] : Prop :=
  ∀ (m : (ℓ : Loc Cert.RefAdamAIdeal.nD Cert.RefAdamAIdeal.τ Cert.RefAdamAIdeal.sig) → Buf (Elt Ideal) ℓ) (g : Dev Cert.RefAdamAIdeal.nD → PrngReg), Pre_RefAdamAIdeal m →
    θ_run (Cert.RefAdamAIdeal.defs (F := Ideal)) (onTc (τ := Cert.RefAdamAIdeal.τ) (Cert.RefAdamAIdeal.main (F := Ideal))) ⟨m, fun _ => 0, g⟩ (fun r => (∀ c : Dev Cert.RefAdamAIdeal.nD,
      r.2.mem ((c.tc : Thread Cert.RefAdamAIdeal.nD Cert.RefAdamAIdeal.τ).loc Cert.RefAdamAIdeal.main_arg0) = m ((c.tc : Thread Cert.RefAdamAIdeal.nD Cert.RefAdamAIdeal.τ).loc Cert.RefAdamAIdeal.main_arg0)
      ∧ r.2.mem ((c.tc : Thread Cert.RefAdamAIdeal.nD Cert.RefAdamAIdeal.τ).loc Cert.RefAdamAIdeal.main_arg1) = m ((c.tc : Thread Cert.RefAdamAIdeal.nD Cert.RefAdamAIdeal.τ).loc Cert.RefAdamAIdeal.main_arg1)
      ∧ r.2.mem ((c.tc : Thread Cert.RefAdamAIdeal.nD Cert.RefAdamAIdeal.τ).loc Cert.RefAdamAIdeal.main_arg2) = m ((c.tc : Thread Cert.RefAdamAIdeal.nD Cert.RefAdamAIdeal.τ).loc Cert.RefAdamAIdeal.main_arg2)
      ∧ r.2.mem ((c.tc : Thread Cert.RefAdamAIdeal.nD Cert.RefAdamAIdeal.τ).loc Cert.RefAdamAIdeal.main_arg3) = m ((c.tc : Thread Cert.RefAdamAIdeal.nD Cert.RefAdamAIdeal.τ).loc Cert.RefAdamAIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_MlpTwoW_MlpTwoWIdeal : Prop :=
  True

def algebraic_MlpTwoWIdeal_RefTwoWIdeal [hMlpTwoWIdeal : Cert.MlpTwoWIdeal.Facts] [hRefTwoWIdeal : Cert.RefTwoWIdeal.Facts] : Prop :=
  ∀ (m : (ℓ : Loc Cert.MlpTwoWIdeal.nD Cert.MlpTwoWIdeal.τ Cert.MlpTwoWIdeal.sig) → Buf (Elt Ideal) ℓ) (g : Dev Cert.MlpTwoWIdeal.nD → PrngReg)
    (m' : (ℓ : Loc Cert.RefTwoWIdeal.nD Cert.RefTwoWIdeal.τ Cert.RefTwoWIdeal.sig) → Buf (Elt Ideal) ℓ) (g' : Dev Cert.RefTwoWIdeal.nD → PrngReg), Pre_MlpTwoWIdeal m →
    (∀ c : Dev Cert.MlpTwoWIdeal.nD,
      m' ((c.tc : Thread Cert.RefTwoWIdeal.nD Cert.RefTwoWIdeal.τ).loc Cert.RefTwoWIdeal.main_arg0) = m ((c.tc : Thread Cert.MlpTwoWIdeal.nD Cert.MlpTwoWIdeal.τ).loc Cert.MlpTwoWIdeal.main_arg0)
      ∧ m' ((c.tc : Thread Cert.RefTwoWIdeal.nD Cert.RefTwoWIdeal.τ).loc Cert.RefTwoWIdeal.main_arg1) = m ((c.tc : Thread Cert.MlpTwoWIdeal.nD Cert.MlpTwoWIdeal.τ).loc Cert.MlpTwoWIdeal.main_arg1)) →
    ∃ (v0 : (c : Dev Cert.MlpTwoWIdeal.nD) → Buf (Elt Ideal) ((c.tc : Thread Cert.MlpTwoWIdeal.nD Cert.MlpTwoWIdeal.τ).loc Cert.MlpTwoWIdeal.main_v0)),
      θ_run (Cert.MlpTwoWIdeal.defs (F := Ideal)) (onTc (τ := Cert.MlpTwoWIdeal.τ) (Cert.MlpTwoWIdeal.main (F := Ideal))) ⟨m, fun _ => 0, g⟩ (fun r => ∀ c : Dev Cert.MlpTwoWIdeal.nD,
          r.2.mem ((c.tc : Thread Cert.MlpTwoWIdeal.nD Cert.MlpTwoWIdeal.τ).loc Cert.MlpTwoWIdeal.main_v0) = v0 c
          ∧ r.2.mem ((c.tc : Thread Cert.MlpTwoWIdeal.nD Cert.MlpTwoWIdeal.τ).loc Cert.MlpTwoWIdeal.main_arg0) = m ((c.tc : Thread Cert.MlpTwoWIdeal.nD Cert.MlpTwoWIdeal.τ).loc Cert.MlpTwoWIdeal.main_arg0)
          ∧ r.2.mem ((c.tc : Thread Cert.MlpTwoWIdeal.nD Cert.MlpTwoWIdeal.τ).loc Cert.MlpTwoWIdeal.main_arg1) = m ((c.tc : Thread Cert.MlpTwoWIdeal.nD Cert.MlpTwoWIdeal.τ).loc Cert.MlpTwoWIdeal.main_arg1))
      ∧ θ_run (Cert.RefTwoWIdeal.defs (F := Ideal)) (onTc (τ := Cert.RefTwoWIdeal.τ) (Cert.RefTwoWIdeal.main (F := Ideal))) ⟨m', fun _ => 0, g'⟩ (fun r => ∀ c : Dev Cert.RefTwoWIdeal.nD,
          r.2.mem ((c.tc : Thread Cert.RefTwoWIdeal.nD Cert.RefTwoWIdeal.τ).loc Cert.RefTwoWIdeal.main_v8) = v0 c
          ∧ r.2.mem ((c.tc : Thread Cert.RefTwoWIdeal.nD Cert.RefTwoWIdeal.τ).loc Cert.RefTwoWIdeal.main_arg0) = m' ((c.tc : Thread Cert.RefTwoWIdeal.nD Cert.RefTwoWIdeal.τ).loc Cert.RefTwoWIdeal.main_arg0)
          ∧ r.2.mem ((c.tc : Thread Cert.RefTwoWIdeal.nD Cert.RefTwoWIdeal.τ).loc Cert.RefTwoWIdeal.main_arg1) = m' ((c.tc : Thread Cert.RefTwoWIdeal.nD Cert.RefTwoWIdeal.τ).loc Cert.RefTwoWIdeal.main_arg1))

def preserves_MlpOneW_MlpOneWIdeal : Prop :=
  True

def algebraic_MlpOneWIdeal_RefOneWIdeal [hMlpOneWIdeal : Cert.MlpOneWIdeal.Facts] [hRefOneWIdeal : Cert.RefOneWIdeal.Facts] : Prop :=
  ∀ (m : (ℓ : Loc Cert.MlpOneWIdeal.nD Cert.MlpOneWIdeal.τ Cert.MlpOneWIdeal.sig) → Buf (Elt Ideal) ℓ) (g : Dev Cert.MlpOneWIdeal.nD → PrngReg)
    (m' : (ℓ : Loc Cert.RefOneWIdeal.nD Cert.RefOneWIdeal.τ Cert.RefOneWIdeal.sig) → Buf (Elt Ideal) ℓ) (g' : Dev Cert.RefOneWIdeal.nD → PrngReg), Pre_MlpOneWIdeal m →
    (∀ c : Dev Cert.MlpOneWIdeal.nD,
      m' ((c.tc : Thread Cert.RefOneWIdeal.nD Cert.RefOneWIdeal.τ).loc Cert.RefOneWIdeal.main_arg0) = m ((c.tc : Thread Cert.MlpOneWIdeal.nD Cert.MlpOneWIdeal.τ).loc Cert.MlpOneWIdeal.main_arg0)
      ∧ m' ((c.tc : Thread Cert.RefOneWIdeal.nD Cert.RefOneWIdeal.τ).loc Cert.RefOneWIdeal.main_arg1) = m ((c.tc : Thread Cert.MlpOneWIdeal.nD Cert.MlpOneWIdeal.τ).loc Cert.MlpOneWIdeal.main_arg1)) →
    ∃ (v0 : (c : Dev Cert.MlpOneWIdeal.nD) → Buf (Elt Ideal) ((c.tc : Thread Cert.MlpOneWIdeal.nD Cert.MlpOneWIdeal.τ).loc Cert.MlpOneWIdeal.main_v0)),
      θ_run (Cert.MlpOneWIdeal.defs (F := Ideal)) (onTc (τ := Cert.MlpOneWIdeal.τ) (Cert.MlpOneWIdeal.main (F := Ideal))) ⟨m, fun _ => 0, g⟩ (fun r => ∀ c : Dev Cert.MlpOneWIdeal.nD,
          r.2.mem ((c.tc : Thread Cert.MlpOneWIdeal.nD Cert.MlpOneWIdeal.τ).loc Cert.MlpOneWIdeal.main_v0) = v0 c
          ∧ r.2.mem ((c.tc : Thread Cert.MlpOneWIdeal.nD Cert.MlpOneWIdeal.τ).loc Cert.MlpOneWIdeal.main_arg0) = m ((c.tc : Thread Cert.MlpOneWIdeal.nD Cert.MlpOneWIdeal.τ).loc Cert.MlpOneWIdeal.main_arg0)
          ∧ r.2.mem ((c.tc : Thread Cert.MlpOneWIdeal.nD Cert.MlpOneWIdeal.τ).loc Cert.MlpOneWIdeal.main_arg1) = m ((c.tc : Thread Cert.MlpOneWIdeal.nD Cert.MlpOneWIdeal.τ).loc Cert.MlpOneWIdeal.main_arg1))
      ∧ θ_run (Cert.RefOneWIdeal.defs (F := Ideal)) (onTc (τ := Cert.RefOneWIdeal.τ) (Cert.RefOneWIdeal.main (F := Ideal))) ⟨m', fun _ => 0, g'⟩ (fun r => ∀ c : Dev Cert.RefOneWIdeal.nD,
          r.2.mem ((c.tc : Thread Cert.RefOneWIdeal.nD Cert.RefOneWIdeal.τ).loc Cert.RefOneWIdeal.main_v8) = v0 c
          ∧ r.2.mem ((c.tc : Thread Cert.RefOneWIdeal.nD Cert.RefOneWIdeal.τ).loc Cert.RefOneWIdeal.main_arg0) = m' ((c.tc : Thread Cert.RefOneWIdeal.nD Cert.RefOneWIdeal.τ).loc Cert.RefOneWIdeal.main_arg0)
          ∧ r.2.mem ((c.tc : Thread Cert.RefOneWIdeal.nD Cert.RefOneWIdeal.τ).loc Cert.RefOneWIdeal.main_arg1) = m' ((c.tc : Thread Cert.RefOneWIdeal.nD Cert.RefOneWIdeal.τ).loc Cert.RefOneWIdeal.main_arg1))

def preserves_RetQ_RetQIdeal : Prop :=
  True

def algebraic_RetQIdeal_RefQIdeal_pre_ret_q_finite [hRetQIdeal : Cert.RetQIdeal.Facts] [hRefQIdeal : Cert.RefQIdeal.Facts] [hPre_ret_q_finite : Cert.Pre_ret_q_finite.Facts] : Prop :=
  ∀ (m : (ℓ : Loc Cert.RetQIdeal.nD Cert.RetQIdeal.τ Cert.RetQIdeal.sig) → Buf (Elt Ideal) ℓ) (g : Dev Cert.RetQIdeal.nD → PrngReg)
    (m' : (ℓ : Loc Cert.RefQIdeal.nD Cert.RefQIdeal.τ Cert.RefQIdeal.sig) → Buf (Elt Ideal) ℓ) (g' : Dev Cert.RefQIdeal.nD → PrngReg), Pre_RetQIdeal_ret_q_finite m →
    (∀ c : Dev Cert.RetQIdeal.nD,
      m' ((c.tc : Thread Cert.RefQIdeal.nD Cert.RefQIdeal.τ).loc Cert.RefQIdeal.main_arg0) = m ((c.tc : Thread Cert.RetQIdeal.nD Cert.RetQIdeal.τ).loc Cert.RetQIdeal.main_arg0)
      ∧ m' ((c.tc : Thread Cert.RefQIdeal.nD Cert.RefQIdeal.τ).loc Cert.RefQIdeal.main_arg1) = m ((c.tc : Thread Cert.RetQIdeal.nD Cert.RetQIdeal.τ).loc Cert.RetQIdeal.main_arg1)
      ∧ m' ((c.tc : Thread Cert.RefQIdeal.nD Cert.RefQIdeal.τ).loc Cert.RefQIdeal.main_arg2) = m ((c.tc : Thread Cert.RetQIdeal.nD Cert.RetQIdeal.τ).loc Cert.RetQIdeal.main_arg2)
      ∧ m' ((c.tc : Thread Cert.RefQIdeal.nD Cert.RefQIdeal.τ).loc Cert.RefQIdeal.main_arg3) = m ((c.tc : Thread Cert.RetQIdeal.nD Cert.RetQIdeal.τ).loc Cert.RetQIdeal.main_arg3)
      ∧ m' ((c.tc : Thread Cert.RefQIdeal.nD Cert.RefQIdeal.τ).loc Cert.RefQIdeal.main_arg4) = m ((c.tc : Thread Cert.RetQIdeal.nD Cert.RetQIdeal.τ).loc Cert.RetQIdeal.main_arg4)) →
    ∃ (v0 : (c : Dev Cert.RetQIdeal.nD) → Buf (Elt Ideal) ((c.tc : Thread Cert.RetQIdeal.nD Cert.RetQIdeal.τ).loc Cert.RetQIdeal.main_v116_0)) (v1 : (c : Dev Cert.RetQIdeal.nD) → Buf (Elt Ideal) ((c.tc : Thread Cert.RetQIdeal.nD Cert.RetQIdeal.τ).loc Cert.RetQIdeal.main_v116_1)) (v2 : (c : Dev Cert.RetQIdeal.nD) → Buf (Elt Ideal) ((c.tc : Thread Cert.RetQIdeal.nD Cert.RetQIdeal.τ).loc Cert.RetQIdeal.main_v116_2)) (v3 : (c : Dev Cert.RetQIdeal.nD) → Buf (Elt Ideal) ((c.tc : Thread Cert.RetQIdeal.nD Cert.RetQIdeal.τ).loc Cert.RetQIdeal.main_v116_3)) (v4 : (c : Dev Cert.RetQIdeal.nD) → Buf (Elt Ideal) ((c.tc : Thread Cert.RetQIdeal.nD Cert.RetQIdeal.τ).loc Cert.RetQIdeal.main_v116_4)),
      θ_run (Cert.RetQIdeal.defs (F := Ideal)) (onTc (τ := Cert.RetQIdeal.τ) (Cert.RetQIdeal.main (F := Ideal))) ⟨m, fun _ => 0, g⟩ (fun r => ∀ c : Dev Cert.RetQIdeal.nD,
          r.2.mem ((c.tc : Thread Cert.RetQIdeal.nD Cert.RetQIdeal.τ).loc Cert.RetQIdeal.main_v116_0) = v0 c
          ∧ r.2.mem ((c.tc : Thread Cert.RetQIdeal.nD Cert.RetQIdeal.τ).loc Cert.RetQIdeal.main_v116_1) = v1 c
          ∧ r.2.mem ((c.tc : Thread Cert.RetQIdeal.nD Cert.RetQIdeal.τ).loc Cert.RetQIdeal.main_v116_2) = v2 c
          ∧ r.2.mem ((c.tc : Thread Cert.RetQIdeal.nD Cert.RetQIdeal.τ).loc Cert.RetQIdeal.main_v116_3) = v3 c
          ∧ r.2.mem ((c.tc : Thread Cert.RetQIdeal.nD Cert.RetQIdeal.τ).loc Cert.RetQIdeal.main_v116_4) = v4 c
          ∧ r.2.mem ((c.tc : Thread Cert.RetQIdeal.nD Cert.RetQIdeal.τ).loc Cert.RetQIdeal.main_arg0) = m ((c.tc : Thread Cert.RetQIdeal.nD Cert.RetQIdeal.τ).loc Cert.RetQIdeal.main_arg0)
          ∧ r.2.mem ((c.tc : Thread Cert.RetQIdeal.nD Cert.RetQIdeal.τ).loc Cert.RetQIdeal.main_arg1) = m ((c.tc : Thread Cert.RetQIdeal.nD Cert.RetQIdeal.τ).loc Cert.RetQIdeal.main_arg1)
          ∧ r.2.mem ((c.tc : Thread Cert.RetQIdeal.nD Cert.RetQIdeal.τ).loc Cert.RetQIdeal.main_arg2) = m ((c.tc : Thread Cert.RetQIdeal.nD Cert.RetQIdeal.τ).loc Cert.RetQIdeal.main_arg2)
          ∧ r.2.mem ((c.tc : Thread Cert.RetQIdeal.nD Cert.RetQIdeal.τ).loc Cert.RetQIdeal.main_arg3) = m ((c.tc : Thread Cert.RetQIdeal.nD Cert.RetQIdeal.τ).loc Cert.RetQIdeal.main_arg3)
          ∧ r.2.mem ((c.tc : Thread Cert.RetQIdeal.nD Cert.RetQIdeal.τ).loc Cert.RetQIdeal.main_arg4) = m ((c.tc : Thread Cert.RetQIdeal.nD Cert.RetQIdeal.τ).loc Cert.RetQIdeal.main_arg4))
      ∧ θ_run (Cert.RefQIdeal.defs (F := Ideal)) (onTc (τ := Cert.RefQIdeal.τ) (Cert.RefQIdeal.main (F := Ideal))) ⟨m', fun _ => 0, g'⟩ (fun r => ∀ c : Dev Cert.RefQIdeal.nD,
          r.2.mem ((c.tc : Thread Cert.RefQIdeal.nD Cert.RefQIdeal.τ).loc Cert.RefQIdeal.main_v319) = v0 c
          ∧ r.2.mem ((c.tc : Thread Cert.RefQIdeal.nD Cert.RefQIdeal.τ).loc Cert.RefQIdeal.main_v320) = v1 c
          ∧ r.2.mem ((c.tc : Thread Cert.RefQIdeal.nD Cert.RefQIdeal.τ).loc Cert.RefQIdeal.main_v322) = v2 c
          ∧ r.2.mem ((c.tc : Thread Cert.RefQIdeal.nD Cert.RefQIdeal.τ).loc Cert.RefQIdeal.main_v323) = v3 c
          ∧ r.2.mem ((c.tc : Thread Cert.RefQIdeal.nD Cert.RefQIdeal.τ).loc Cert.RefQIdeal.main_v324) = v4 c
          ∧ r.2.mem ((c.tc : Thread Cert.RefQIdeal.nD Cert.RefQIdeal.τ).loc Cert.RefQIdeal.main_arg0) = m' ((c.tc : Thread Cert.RefQIdeal.nD Cert.RefQIdeal.τ).loc Cert.RefQIdeal.main_arg0)
          ∧ r.2.mem ((c.tc : Thread Cert.RefQIdeal.nD Cert.RefQIdeal.τ).loc Cert.RefQIdeal.main_arg1) = m' ((c.tc : Thread Cert.RefQIdeal.nD Cert.RefQIdeal.τ).loc Cert.RefQIdeal.main_arg1)
          ∧ r.2.mem ((c.tc : Thread Cert.RefQIdeal.nD Cert.RefQIdeal.τ).loc Cert.RefQIdeal.main_arg2) = m' ((c.tc : Thread Cert.RefQIdeal.nD Cert.RefQIdeal.τ).loc Cert.RefQIdeal.main_arg2)
          ∧ r.2.mem ((c.tc : Thread Cert.RefQIdeal.nD Cert.RefQIdeal.τ).loc Cert.RefQIdeal.main_arg3) = m' ((c.tc : Thread Cert.RefQIdeal.nD Cert.RefQIdeal.τ).loc Cert.RefQIdeal.main_arg3)
          ∧ r.2.mem ((c.tc : Thread Cert.RefQIdeal.nD Cert.RefQIdeal.τ).loc Cert.RefQIdeal.main_arg4) = m' ((c.tc : Thread Cert.RefQIdeal.nD Cert.RefQIdeal.τ).loc Cert.RefQIdeal.main_arg4))

def preserves_MlpOneX_MlpOneXIdeal : Prop :=
  True

def algebraic_MlpOneXIdeal_RefOneXIdeal [hMlpOneXIdeal : Cert.MlpOneXIdeal.Facts] [hRefOneXIdeal : Cert.RefOneXIdeal.Facts] : Prop :=
  ∀ (m : (ℓ : Loc Cert.MlpOneXIdeal.nD Cert.MlpOneXIdeal.τ Cert.MlpOneXIdeal.sig) → Buf (Elt Ideal) ℓ) (g : Dev Cert.MlpOneXIdeal.nD → PrngReg)
    (m' : (ℓ : Loc Cert.RefOneXIdeal.nD Cert.RefOneXIdeal.τ Cert.RefOneXIdeal.sig) → Buf (Elt Ideal) ℓ) (g' : Dev Cert.RefOneXIdeal.nD → PrngReg), Pre_MlpOneXIdeal m →
    (∀ c : Dev Cert.MlpOneXIdeal.nD,
      m' ((c.tc : Thread Cert.RefOneXIdeal.nD Cert.RefOneXIdeal.τ).loc Cert.RefOneXIdeal.main_arg0) = m ((c.tc : Thread Cert.MlpOneXIdeal.nD Cert.MlpOneXIdeal.τ).loc Cert.MlpOneXIdeal.main_arg0)
      ∧ m' ((c.tc : Thread Cert.RefOneXIdeal.nD Cert.RefOneXIdeal.τ).loc Cert.RefOneXIdeal.main_arg1) = m ((c.tc : Thread Cert.MlpOneXIdeal.nD Cert.MlpOneXIdeal.τ).loc Cert.MlpOneXIdeal.main_arg1)
      ∧ m' ((c.tc : Thread Cert.RefOneXIdeal.nD Cert.RefOneXIdeal.τ).loc Cert.RefOneXIdeal.main_arg2) = m ((c.tc : Thread Cert.MlpOneXIdeal.nD Cert.MlpOneXIdeal.τ).loc Cert.MlpOneXIdeal.main_arg2)
      ∧ m' ((c.tc : Thread Cert.RefOneXIdeal.nD Cert.RefOneXIdeal.τ).loc Cert.RefOneXIdeal.main_arg3) = m ((c.tc : Thread Cert.MlpOneXIdeal.nD Cert.MlpOneXIdeal.τ).loc Cert.MlpOneXIdeal.main_arg3)
      ∧ m' ((c.tc : Thread Cert.RefOneXIdeal.nD Cert.RefOneXIdeal.τ).loc Cert.RefOneXIdeal.main_arg4) = m ((c.tc : Thread Cert.MlpOneXIdeal.nD Cert.MlpOneXIdeal.τ).loc Cert.MlpOneXIdeal.main_arg4)
      ∧ m' ((c.tc : Thread Cert.RefOneXIdeal.nD Cert.RefOneXIdeal.τ).loc Cert.RefOneXIdeal.main_arg5) = m ((c.tc : Thread Cert.MlpOneXIdeal.nD Cert.MlpOneXIdeal.τ).loc Cert.MlpOneXIdeal.main_arg5)
      ∧ m' ((c.tc : Thread Cert.RefOneXIdeal.nD Cert.RefOneXIdeal.τ).loc Cert.RefOneXIdeal.main_arg6) = m ((c.tc : Thread Cert.MlpOneXIdeal.nD Cert.MlpOneXIdeal.τ).loc Cert.MlpOneXIdeal.main_arg6)
      ∧ m' ((c.tc : Thread Cert.RefOneXIdeal.nD Cert.RefOneXIdeal.τ).loc Cert.RefOneXIdeal.main_arg7) = m ((c.tc : Thread Cert.MlpOneXIdeal.nD Cert.MlpOneXIdeal.τ).loc Cert.MlpOneXIdeal.main_arg7)) →
    ∃ (v0 : (c : Dev Cert.MlpOneXIdeal.nD) → Buf (Elt Ideal) ((c.tc : Thread Cert.MlpOneXIdeal.nD Cert.MlpOneXIdeal.τ).loc Cert.MlpOneXIdeal.main_v0_0)) (v1 : (c : Dev Cert.MlpOneXIdeal.nD) → Buf (Elt Ideal) ((c.tc : Thread Cert.MlpOneXIdeal.nD Cert.MlpOneXIdeal.τ).loc Cert.MlpOneXIdeal.main_v0_1)) (v2 : (c : Dev Cert.MlpOneXIdeal.nD) → Buf (Elt Ideal) ((c.tc : Thread Cert.MlpOneXIdeal.nD Cert.MlpOneXIdeal.τ).loc Cert.MlpOneXIdeal.main_v0_2)) (v3 : (c : Dev Cert.MlpOneXIdeal.nD) → Buf (Elt Ideal) ((c.tc : Thread Cert.MlpOneXIdeal.nD Cert.MlpOneXIdeal.τ).loc Cert.MlpOneXIdeal.main_v0_3)) (v4 : (c : Dev Cert.MlpOneXIdeal.nD) → Buf (Elt Ideal) ((c.tc : Thread Cert.MlpOneXIdeal.nD Cert.MlpOneXIdeal.τ).loc Cert.MlpOneXIdeal.main_v0_4)) (v5 : (c : Dev Cert.MlpOneXIdeal.nD) → Buf (Elt Ideal) ((c.tc : Thread Cert.MlpOneXIdeal.nD Cert.MlpOneXIdeal.τ).loc Cert.MlpOneXIdeal.main_v0_5)) (v6 : (c : Dev Cert.MlpOneXIdeal.nD) → Buf (Elt Ideal) ((c.tc : Thread Cert.MlpOneXIdeal.nD Cert.MlpOneXIdeal.τ).loc Cert.MlpOneXIdeal.main_v0_6)),
      θ_run (Cert.MlpOneXIdeal.defs (F := Ideal)) (onTc (τ := Cert.MlpOneXIdeal.τ) (Cert.MlpOneXIdeal.main (F := Ideal))) ⟨m, fun _ => 0, g⟩ (fun r => ∀ c : Dev Cert.MlpOneXIdeal.nD,
          r.2.mem ((c.tc : Thread Cert.MlpOneXIdeal.nD Cert.MlpOneXIdeal.τ).loc Cert.MlpOneXIdeal.main_v0_0) = v0 c
          ∧ r.2.mem ((c.tc : Thread Cert.MlpOneXIdeal.nD Cert.MlpOneXIdeal.τ).loc Cert.MlpOneXIdeal.main_v0_1) = v1 c
          ∧ r.2.mem ((c.tc : Thread Cert.MlpOneXIdeal.nD Cert.MlpOneXIdeal.τ).loc Cert.MlpOneXIdeal.main_v0_2) = v2 c
          ∧ r.2.mem ((c.tc : Thread Cert.MlpOneXIdeal.nD Cert.MlpOneXIdeal.τ).loc Cert.MlpOneXIdeal.main_v0_3) = v3 c
          ∧ r.2.mem ((c.tc : Thread Cert.MlpOneXIdeal.nD Cert.MlpOneXIdeal.τ).loc Cert.MlpOneXIdeal.main_v0_4) = v4 c
          ∧ r.2.mem ((c.tc : Thread Cert.MlpOneXIdeal.nD Cert.MlpOneXIdeal.τ).loc Cert.MlpOneXIdeal.main_v0_5) = v5 c
          ∧ r.2.mem ((c.tc : Thread Cert.MlpOneXIdeal.nD Cert.MlpOneXIdeal.τ).loc Cert.MlpOneXIdeal.main_v0_6) = v6 c
          ∧ r.2.mem ((c.tc : Thread Cert.MlpOneXIdeal.nD Cert.MlpOneXIdeal.τ).loc Cert.MlpOneXIdeal.main_arg0) = m ((c.tc : Thread Cert.MlpOneXIdeal.nD Cert.MlpOneXIdeal.τ).loc Cert.MlpOneXIdeal.main_arg0)
          ∧ r.2.mem ((c.tc : Thread Cert.MlpOneXIdeal.nD Cert.MlpOneXIdeal.τ).loc Cert.MlpOneXIdeal.main_arg1) = m ((c.tc : Thread Cert.MlpOneXIdeal.nD Cert.MlpOneXIdeal.τ).loc Cert.MlpOneXIdeal.main_arg1)
          ∧ r.2.mem ((c.tc : Thread Cert.MlpOneXIdeal.nD Cert.MlpOneXIdeal.τ).loc Cert.MlpOneXIdeal.main_arg2) = m ((c.tc : Thread Cert.MlpOneXIdeal.nD Cert.MlpOneXIdeal.τ).loc Cert.MlpOneXIdeal.main_arg2)
          ∧ r.2.mem ((c.tc : Thread Cert.MlpOneXIdeal.nD Cert.MlpOneXIdeal.τ).loc Cert.MlpOneXIdeal.main_arg3) = m ((c.tc : Thread Cert.MlpOneXIdeal.nD Cert.MlpOneXIdeal.τ).loc Cert.MlpOneXIdeal.main_arg3)
          ∧ r.2.mem ((c.tc : Thread Cert.MlpOneXIdeal.nD Cert.MlpOneXIdeal.τ).loc Cert.MlpOneXIdeal.main_arg4) = m ((c.tc : Thread Cert.MlpOneXIdeal.nD Cert.MlpOneXIdeal.τ).loc Cert.MlpOneXIdeal.main_arg4)
          ∧ r.2.mem ((c.tc : Thread Cert.MlpOneXIdeal.nD Cert.MlpOneXIdeal.τ).loc Cert.MlpOneXIdeal.main_arg5) = m ((c.tc : Thread Cert.MlpOneXIdeal.nD Cert.MlpOneXIdeal.τ).loc Cert.MlpOneXIdeal.main_arg5)
          ∧ r.2.mem ((c.tc : Thread Cert.MlpOneXIdeal.nD Cert.MlpOneXIdeal.τ).loc Cert.MlpOneXIdeal.main_arg6) = m ((c.tc : Thread Cert.MlpOneXIdeal.nD Cert.MlpOneXIdeal.τ).loc Cert.MlpOneXIdeal.main_arg6)
          ∧ r.2.mem ((c.tc : Thread Cert.MlpOneXIdeal.nD Cert.MlpOneXIdeal.τ).loc Cert.MlpOneXIdeal.main_arg7) = m ((c.tc : Thread Cert.MlpOneXIdeal.nD Cert.MlpOneXIdeal.τ).loc Cert.MlpOneXIdeal.main_arg7))
      ∧ θ_run (Cert.RefOneXIdeal.defs (F := Ideal)) (onTc (τ := Cert.RefOneXIdeal.τ) (Cert.RefOneXIdeal.main (F := Ideal))) ⟨m', fun _ => 0, g'⟩ (fun r => ∀ c : Dev Cert.RefOneXIdeal.nD,
          r.2.mem ((c.tc : Thread Cert.RefOneXIdeal.nD Cert.RefOneXIdeal.τ).loc Cert.RefOneXIdeal.main_v87) = v0 c
          ∧ r.2.mem ((c.tc : Thread Cert.RefOneXIdeal.nD Cert.RefOneXIdeal.τ).loc Cert.RefOneXIdeal.main_v47) = v1 c
          ∧ r.2.mem ((c.tc : Thread Cert.RefOneXIdeal.nD Cert.RefOneXIdeal.τ).loc Cert.RefOneXIdeal.main_v40) = v2 c
          ∧ r.2.mem ((c.tc : Thread Cert.RefOneXIdeal.nD Cert.RefOneXIdeal.τ).loc Cert.RefOneXIdeal.main_v88) = v3 c
          ∧ r.2.mem ((c.tc : Thread Cert.RefOneXIdeal.nD Cert.RefOneXIdeal.τ).loc Cert.RefOneXIdeal.main_v90) = v4 c
          ∧ r.2.mem ((c.tc : Thread Cert.RefOneXIdeal.nD Cert.RefOneXIdeal.τ).loc Cert.RefOneXIdeal.main_v86) = v5 c
          ∧ r.2.mem ((c.tc : Thread Cert.RefOneXIdeal.nD Cert.RefOneXIdeal.τ).loc Cert.RefOneXIdeal.main_v91) = v6 c
          ∧ r.2.mem ((c.tc : Thread Cert.RefOneXIdeal.nD Cert.RefOneXIdeal.τ).loc Cert.RefOneXIdeal.main_arg0) = m' ((c.tc : Thread Cert.RefOneXIdeal.nD Cert.RefOneXIdeal.τ).loc Cert.RefOneXIdeal.main_arg0)
          ∧ r.2.mem ((c.tc : Thread Cert.RefOneXIdeal.nD Cert.RefOneXIdeal.τ).loc Cert.RefOneXIdeal.main_arg1) = m' ((c.tc : Thread Cert.RefOneXIdeal.nD Cert.RefOneXIdeal.τ).loc Cert.RefOneXIdeal.main_arg1)
          ∧ r.2.mem ((c.tc : Thread Cert.RefOneXIdeal.nD Cert.RefOneXIdeal.τ).loc Cert.RefOneXIdeal.main_arg2) = m' ((c.tc : Thread Cert.RefOneXIdeal.nD Cert.RefOneXIdeal.τ).loc Cert.RefOneXIdeal.main_arg2)
          ∧ r.2.mem ((c.tc : Thread Cert.RefOneXIdeal.nD Cert.RefOneXIdeal.τ).loc Cert.RefOneXIdeal.main_arg3) = m' ((c.tc : Thread Cert.RefOneXIdeal.nD Cert.RefOneXIdeal.τ).loc Cert.RefOneXIdeal.main_arg3)
          ∧ r.2.mem ((c.tc : Thread Cert.RefOneXIdeal.nD Cert.RefOneXIdeal.τ).loc Cert.RefOneXIdeal.main_arg4) = m' ((c.tc : Thread Cert.RefOneXIdeal.nD Cert.RefOneXIdeal.τ).loc Cert.RefOneXIdeal.main_arg4)
          ∧ r.2.mem ((c.tc : Thread Cert.RefOneXIdeal.nD Cert.RefOneXIdeal.τ).loc Cert.RefOneXIdeal.main_arg5) = m' ((c.tc : Thread Cert.RefOneXIdeal.nD Cert.RefOneXIdeal.τ).loc Cert.RefOneXIdeal.main_arg5)
          ∧ r.2.mem ((c.tc : Thread Cert.RefOneXIdeal.nD Cert.RefOneXIdeal.τ).loc Cert.RefOneXIdeal.main_arg6) = m' ((c.tc : Thread Cert.RefOneXIdeal.nD Cert.RefOneXIdeal.τ).loc Cert.RefOneXIdeal.main_arg6)
          ∧ r.2.mem ((c.tc : Thread Cert.RefOneXIdeal.nD Cert.RefOneXIdeal.τ).loc Cert.RefOneXIdeal.main_arg7) = m' ((c.tc : Thread Cert.RefOneXIdeal.nD Cert.RefOneXIdeal.τ).loc Cert.RefOneXIdeal.main_arg7))

def preserves_RetInX_RetInXIdeal : Prop :=
  True

def algebraic_RetInXIdeal_RefInXIdeal [hRetInXIdeal : Cert.RetInXIdeal.Facts] [hRefInXIdeal : Cert.RefInXIdeal.Facts] : Prop :=
  ∀ (m : (ℓ : Loc Cert.RetInXIdeal.nD Cert.RetInXIdeal.τ Cert.RetInXIdeal.sig) → Buf (Elt Ideal) ℓ) (g : Dev Cert.RetInXIdeal.nD → PrngReg)
    (m' : (ℓ : Loc Cert.RefInXIdeal.nD Cert.RefInXIdeal.τ Cert.RefInXIdeal.sig) → Buf (Elt Ideal) ℓ) (g' : Dev Cert.RefInXIdeal.nD → PrngReg), Pre_RetInXIdeal m →
    (∀ c : Dev Cert.RetInXIdeal.nD,
      m' ((c.tc : Thread Cert.RefInXIdeal.nD Cert.RefInXIdeal.τ).loc Cert.RefInXIdeal.main_arg0) = m ((c.tc : Thread Cert.RetInXIdeal.nD Cert.RetInXIdeal.τ).loc Cert.RetInXIdeal.main_arg0)
      ∧ m' ((c.tc : Thread Cert.RefInXIdeal.nD Cert.RefInXIdeal.τ).loc Cert.RefInXIdeal.main_arg1) = m ((c.tc : Thread Cert.RetInXIdeal.nD Cert.RetInXIdeal.τ).loc Cert.RetInXIdeal.main_arg1)
      ∧ m' ((c.tc : Thread Cert.RefInXIdeal.nD Cert.RefInXIdeal.τ).loc Cert.RefInXIdeal.main_arg2) = m ((c.tc : Thread Cert.RetInXIdeal.nD Cert.RetInXIdeal.τ).loc Cert.RetInXIdeal.main_arg2)
      ∧ m' ((c.tc : Thread Cert.RefInXIdeal.nD Cert.RefInXIdeal.τ).loc Cert.RefInXIdeal.main_arg3) = m ((c.tc : Thread Cert.RetInXIdeal.nD Cert.RetInXIdeal.τ).loc Cert.RetInXIdeal.main_arg3)
      ∧ m' ((c.tc : Thread Cert.RefInXIdeal.nD Cert.RefInXIdeal.τ).loc Cert.RefInXIdeal.main_arg4) = m ((c.tc : Thread Cert.RetInXIdeal.nD Cert.RetInXIdeal.τ).loc Cert.RetInXIdeal.main_arg4)
      ∧ m' ((c.tc : Thread Cert.RefInXIdeal.nD Cert.RefInXIdeal.τ).loc Cert.RefInXIdeal.main_arg5) = m ((c.tc : Thread Cert.RetInXIdeal.nD Cert.RetInXIdeal.τ).loc Cert.RetInXIdeal.main_arg5)
      ∧ m' ((c.tc : Thread Cert.RefInXIdeal.nD Cert.RefInXIdeal.τ).loc Cert.RefInXIdeal.main_arg6) = m ((c.tc : Thread Cert.RetInXIdeal.nD Cert.RetInXIdeal.τ).loc Cert.RetInXIdeal.main_arg6)
      ∧ m' ((c.tc : Thread Cert.RefInXIdeal.nD Cert.RefInXIdeal.τ).loc Cert.RefInXIdeal.main_arg7) = m ((c.tc : Thread Cert.RetInXIdeal.nD Cert.RetInXIdeal.τ).loc Cert.RetInXIdeal.main_arg7)) →
    ∃ (v0 : (c : Dev Cert.RetInXIdeal.nD) → Buf (Elt Ideal) ((c.tc : Thread Cert.RetInXIdeal.nD Cert.RetInXIdeal.τ).loc Cert.RetInXIdeal.main_v0_0)) (v1 : (c : Dev Cert.RetInXIdeal.nD) → Buf (Elt Ideal) ((c.tc : Thread Cert.RetInXIdeal.nD Cert.RetInXIdeal.τ).loc Cert.RetInXIdeal.main_v0_1)) (v2 : (c : Dev Cert.RetInXIdeal.nD) → Buf (Elt Ideal) ((c.tc : Thread Cert.RetInXIdeal.nD Cert.RetInXIdeal.τ).loc Cert.RetInXIdeal.main_v0_2)) (v3 : (c : Dev Cert.RetInXIdeal.nD) → Buf (Elt Ideal) ((c.tc : Thread Cert.RetInXIdeal.nD Cert.RetInXIdeal.τ).loc Cert.RetInXIdeal.main_v0_3)) (v4 : (c : Dev Cert.RetInXIdeal.nD) → Buf (Elt Ideal) ((c.tc : Thread Cert.RetInXIdeal.nD Cert.RetInXIdeal.τ).loc Cert.RetInXIdeal.main_v0_4)) (v5 : (c : Dev Cert.RetInXIdeal.nD) → Buf (Elt Ideal) ((c.tc : Thread Cert.RetInXIdeal.nD Cert.RetInXIdeal.τ).loc Cert.RetInXIdeal.main_v0_5)) (v6 : (c : Dev Cert.RetInXIdeal.nD) → Buf (Elt Ideal) ((c.tc : Thread Cert.RetInXIdeal.nD Cert.RetInXIdeal.τ).loc Cert.RetInXIdeal.main_v0_6)),
      θ_run (Cert.RetInXIdeal.defs (F := Ideal)) (onTc (τ := Cert.RetInXIdeal.τ) (Cert.RetInXIdeal.main (F := Ideal))) ⟨m, fun _ => 0, g⟩ (fun r => ∀ c : Dev Cert.RetInXIdeal.nD,
          r.2.mem ((c.tc : Thread Cert.RetInXIdeal.nD Cert.RetInXIdeal.τ).loc Cert.RetInXIdeal.main_v0_0) = v0 c
          ∧ r.2.mem ((c.tc : Thread Cert.RetInXIdeal.nD Cert.RetInXIdeal.τ).loc Cert.RetInXIdeal.main_v0_1) = v1 c
          ∧ r.2.mem ((c.tc : Thread Cert.RetInXIdeal.nD Cert.RetInXIdeal.τ).loc Cert.RetInXIdeal.main_v0_2) = v2 c
          ∧ r.2.mem ((c.tc : Thread Cert.RetInXIdeal.nD Cert.RetInXIdeal.τ).loc Cert.RetInXIdeal.main_v0_3) = v3 c
          ∧ r.2.mem ((c.tc : Thread Cert.RetInXIdeal.nD Cert.RetInXIdeal.τ).loc Cert.RetInXIdeal.main_v0_4) = v4 c
          ∧ r.2.mem ((c.tc : Thread Cert.RetInXIdeal.nD Cert.RetInXIdeal.τ).loc Cert.RetInXIdeal.main_v0_5) = v5 c
          ∧ r.2.mem ((c.tc : Thread Cert.RetInXIdeal.nD Cert.RetInXIdeal.τ).loc Cert.RetInXIdeal.main_v0_6) = v6 c
          ∧ r.2.mem ((c.tc : Thread Cert.RetInXIdeal.nD Cert.RetInXIdeal.τ).loc Cert.RetInXIdeal.main_arg0) = m ((c.tc : Thread Cert.RetInXIdeal.nD Cert.RetInXIdeal.τ).loc Cert.RetInXIdeal.main_arg0)
          ∧ r.2.mem ((c.tc : Thread Cert.RetInXIdeal.nD Cert.RetInXIdeal.τ).loc Cert.RetInXIdeal.main_arg1) = m ((c.tc : Thread Cert.RetInXIdeal.nD Cert.RetInXIdeal.τ).loc Cert.RetInXIdeal.main_arg1)
          ∧ r.2.mem ((c.tc : Thread Cert.RetInXIdeal.nD Cert.RetInXIdeal.τ).loc Cert.RetInXIdeal.main_arg2) = m ((c.tc : Thread Cert.RetInXIdeal.nD Cert.RetInXIdeal.τ).loc Cert.RetInXIdeal.main_arg2)
          ∧ r.2.mem ((c.tc : Thread Cert.RetInXIdeal.nD Cert.RetInXIdeal.τ).loc Cert.RetInXIdeal.main_arg3) = m ((c.tc : Thread Cert.RetInXIdeal.nD Cert.RetInXIdeal.τ).loc Cert.RetInXIdeal.main_arg3)
          ∧ r.2.mem ((c.tc : Thread Cert.RetInXIdeal.nD Cert.RetInXIdeal.τ).loc Cert.RetInXIdeal.main_arg4) = m ((c.tc : Thread Cert.RetInXIdeal.nD Cert.RetInXIdeal.τ).loc Cert.RetInXIdeal.main_arg4)
          ∧ r.2.mem ((c.tc : Thread Cert.RetInXIdeal.nD Cert.RetInXIdeal.τ).loc Cert.RetInXIdeal.main_arg5) = m ((c.tc : Thread Cert.RetInXIdeal.nD Cert.RetInXIdeal.τ).loc Cert.RetInXIdeal.main_arg5)
          ∧ r.2.mem ((c.tc : Thread Cert.RetInXIdeal.nD Cert.RetInXIdeal.τ).loc Cert.RetInXIdeal.main_arg6) = m ((c.tc : Thread Cert.RetInXIdeal.nD Cert.RetInXIdeal.τ).loc Cert.RetInXIdeal.main_arg6)
          ∧ r.2.mem ((c.tc : Thread Cert.RetInXIdeal.nD Cert.RetInXIdeal.τ).loc Cert.RetInXIdeal.main_arg7) = m ((c.tc : Thread Cert.RetInXIdeal.nD Cert.RetInXIdeal.τ).loc Cert.RetInXIdeal.main_arg7))
      ∧ θ_run (Cert.RefInXIdeal.defs (F := Ideal)) (onTc (τ := Cert.RefInXIdeal.τ) (Cert.RefInXIdeal.main (F := Ideal))) ⟨m', fun _ => 0, g'⟩ (fun r => ∀ c : Dev Cert.RefInXIdeal.nD,
          r.2.mem ((c.tc : Thread Cert.RefInXIdeal.nD Cert.RefInXIdeal.τ).loc Cert.RefInXIdeal.main_v87) = v0 c
          ∧ r.2.mem ((c.tc : Thread Cert.RefInXIdeal.nD Cert.RefInXIdeal.τ).loc Cert.RefInXIdeal.main_v47) = v1 c
          ∧ r.2.mem ((c.tc : Thread Cert.RefInXIdeal.nD Cert.RefInXIdeal.τ).loc Cert.RefInXIdeal.main_v40) = v2 c
          ∧ r.2.mem ((c.tc : Thread Cert.RefInXIdeal.nD Cert.RefInXIdeal.τ).loc Cert.RefInXIdeal.main_v88) = v3 c
          ∧ r.2.mem ((c.tc : Thread Cert.RefInXIdeal.nD Cert.RefInXIdeal.τ).loc Cert.RefInXIdeal.main_v90) = v4 c
          ∧ r.2.mem ((c.tc : Thread Cert.RefInXIdeal.nD Cert.RefInXIdeal.τ).loc Cert.RefInXIdeal.main_v86) = v5 c
          ∧ r.2.mem ((c.tc : Thread Cert.RefInXIdeal.nD Cert.RefInXIdeal.τ).loc Cert.RefInXIdeal.main_v91) = v6 c
          ∧ r.2.mem ((c.tc : Thread Cert.RefInXIdeal.nD Cert.RefInXIdeal.τ).loc Cert.RefInXIdeal.main_arg0) = m' ((c.tc : Thread Cert.RefInXIdeal.nD Cert.RefInXIdeal.τ).loc Cert.RefInXIdeal.main_arg0)
          ∧ r.2.mem ((c.tc : Thread Cert.RefInXIdeal.nD Cert.RefInXIdeal.τ).loc Cert.RefInXIdeal.main_arg1) = m' ((c.tc : Thread Cert.RefInXIdeal.nD Cert.RefInXIdeal.τ).loc Cert.RefInXIdeal.main_arg1)
          ∧ r.2.mem ((c.tc : Thread Cert.RefInXIdeal.nD Cert.RefInXIdeal.τ).loc Cert.RefInXIdeal.main_arg2) = m' ((c.tc : Thread Cert.RefInXIdeal.nD Cert.RefInXIdeal.τ).loc Cert.RefInXIdeal.main_arg2)
          ∧ r.2.mem ((c.tc : Thread Cert.RefInXIdeal.nD Cert.RefInXIdeal.τ).loc Cert.RefInXIdeal.main_arg3) = m' ((c.tc : Thread Cert.RefInXIdeal.nD Cert.RefInXIdeal.τ).loc Cert.RefInXIdeal.main_arg3)
          ∧ r.2.mem ((c.tc : Thread Cert.RefInXIdeal.nD Cert.RefInXIdeal.τ).loc Cert.RefInXIdeal.main_arg4) = m' ((c.tc : Thread Cert.RefInXIdeal.nD Cert.RefInXIdeal.τ).loc Cert.RefInXIdeal.main_arg4)
          ∧ r.2.mem ((c.tc : Thread Cert.RefInXIdeal.nD Cert.RefInXIdeal.τ).loc Cert.RefInXIdeal.main_arg5) = m' ((c.tc : Thread Cert.RefInXIdeal.nD Cert.RefInXIdeal.τ).loc Cert.RefInXIdeal.main_arg5)
          ∧ r.2.mem ((c.tc : Thread Cert.RefInXIdeal.nD Cert.RefInXIdeal.τ).loc Cert.RefInXIdeal.main_arg6) = m' ((c.tc : Thread Cert.RefInXIdeal.nD Cert.RefInXIdeal.τ).loc Cert.RefInXIdeal.main_arg6)
          ∧ r.2.mem ((c.tc : Thread Cert.RefInXIdeal.nD Cert.RefInXIdeal.τ).loc Cert.RefInXIdeal.main_arg7) = m' ((c.tc : Thread Cert.RefInXIdeal.nD Cert.RefInXIdeal.τ).loc Cert.RefInXIdeal.main_arg7))

def preserves_RetInW_RetInWIdeal : Prop :=
  True

def algebraic_RetInWIdeal_RefInWIdeal [hRetInWIdeal : Cert.RetInWIdeal.Facts] [hRefInWIdeal : Cert.RefInWIdeal.Facts] : Prop :=
  ∀ (m : (ℓ : Loc Cert.RetInWIdeal.nD Cert.RetInWIdeal.τ Cert.RetInWIdeal.sig) → Buf (Elt Ideal) ℓ) (g : Dev Cert.RetInWIdeal.nD → PrngReg)
    (m' : (ℓ : Loc Cert.RefInWIdeal.nD Cert.RefInWIdeal.τ Cert.RefInWIdeal.sig) → Buf (Elt Ideal) ℓ) (g' : Dev Cert.RefInWIdeal.nD → PrngReg), Pre_RetInWIdeal m →
    (∀ c : Dev Cert.RetInWIdeal.nD,
      m' ((c.tc : Thread Cert.RefInWIdeal.nD Cert.RefInWIdeal.τ).loc Cert.RefInWIdeal.main_arg0) = m ((c.tc : Thread Cert.RetInWIdeal.nD Cert.RetInWIdeal.τ).loc Cert.RetInWIdeal.main_arg0)
      ∧ m' ((c.tc : Thread Cert.RefInWIdeal.nD Cert.RefInWIdeal.τ).loc Cert.RefInWIdeal.main_arg1) = m ((c.tc : Thread Cert.RetInWIdeal.nD Cert.RetInWIdeal.τ).loc Cert.RetInWIdeal.main_arg1)) →
    ∃ (v0 : (c : Dev Cert.RetInWIdeal.nD) → Buf (Elt Ideal) ((c.tc : Thread Cert.RetInWIdeal.nD Cert.RetInWIdeal.τ).loc Cert.RetInWIdeal.main_v0)),
      θ_run (Cert.RetInWIdeal.defs (F := Ideal)) (onTc (τ := Cert.RetInWIdeal.τ) (Cert.RetInWIdeal.main (F := Ideal))) ⟨m, fun _ => 0, g⟩ (fun r => ∀ c : Dev Cert.RetInWIdeal.nD,
          r.2.mem ((c.tc : Thread Cert.RetInWIdeal.nD Cert.RetInWIdeal.τ).loc Cert.RetInWIdeal.main_v0) = v0 c
          ∧ r.2.mem ((c.tc : Thread Cert.RetInWIdeal.nD Cert.RetInWIdeal.τ).loc Cert.RetInWIdeal.main_arg0) = m ((c.tc : Thread Cert.RetInWIdeal.nD Cert.RetInWIdeal.τ).loc Cert.RetInWIdeal.main_arg0)
          ∧ r.2.mem ((c.tc : Thread Cert.RetInWIdeal.nD Cert.RetInWIdeal.τ).loc Cert.RetInWIdeal.main_arg1) = m ((c.tc : Thread Cert.RetInWIdeal.nD Cert.RetInWIdeal.τ).loc Cert.RetInWIdeal.main_arg1))
      ∧ θ_run (Cert.RefInWIdeal.defs (F := Ideal)) (onTc (τ := Cert.RefInWIdeal.τ) (Cert.RefInWIdeal.main (F := Ideal))) ⟨m', fun _ => 0, g'⟩ (fun r => ∀ c : Dev Cert.RefInWIdeal.nD,
          r.2.mem ((c.tc : Thread Cert.RefInWIdeal.nD Cert.RefInWIdeal.τ).loc Cert.RefInWIdeal.main_v8) = v0 c
          ∧ r.2.mem ((c.tc : Thread Cert.RefInWIdeal.nD Cert.RefInWIdeal.τ).loc Cert.RefInWIdeal.main_arg0) = m' ((c.tc : Thread Cert.RefInWIdeal.nD Cert.RefInWIdeal.τ).loc Cert.RefInWIdeal.main_arg0)
          ∧ r.2.mem ((c.tc : Thread Cert.RefInWIdeal.nD Cert.RefInWIdeal.τ).loc Cert.RefInWIdeal.main_arg1) = m' ((c.tc : Thread Cert.RefInWIdeal.nD Cert.RefInWIdeal.τ).loc Cert.RefInWIdeal.main_arg1))

def preserves_RetOutX_RetOutXIdeal : Prop :=
  True

def algebraic_RetOutXIdeal_RefOutXIdeal [hRetOutXIdeal : Cert.RetOutXIdeal.Facts] [hRefOutXIdeal : Cert.RefOutXIdeal.Facts] : Prop :=
  ∀ (m : (ℓ : Loc Cert.RetOutXIdeal.nD Cert.RetOutXIdeal.τ Cert.RetOutXIdeal.sig) → Buf (Elt Ideal) ℓ) (g : Dev Cert.RetOutXIdeal.nD → PrngReg)
    (m' : (ℓ : Loc Cert.RefOutXIdeal.nD Cert.RefOutXIdeal.τ Cert.RefOutXIdeal.sig) → Buf (Elt Ideal) ℓ) (g' : Dev Cert.RefOutXIdeal.nD → PrngReg), Pre_RetOutXIdeal m →
    (∀ c : Dev Cert.RetOutXIdeal.nD,
      m' ((c.tc : Thread Cert.RefOutXIdeal.nD Cert.RefOutXIdeal.τ).loc Cert.RefOutXIdeal.main_arg0) = m ((c.tc : Thread Cert.RetOutXIdeal.nD Cert.RetOutXIdeal.τ).loc Cert.RetOutXIdeal.main_arg0)
      ∧ m' ((c.tc : Thread Cert.RefOutXIdeal.nD Cert.RefOutXIdeal.τ).loc Cert.RefOutXIdeal.main_arg1) = m ((c.tc : Thread Cert.RetOutXIdeal.nD Cert.RetOutXIdeal.τ).loc Cert.RetOutXIdeal.main_arg1)) →
    ∃ (v0 : (c : Dev Cert.RetOutXIdeal.nD) → Buf (Elt Ideal) ((c.tc : Thread Cert.RetOutXIdeal.nD Cert.RetOutXIdeal.τ).loc Cert.RetOutXIdeal.main_v0)),
      θ_run (Cert.RetOutXIdeal.defs (F := Ideal)) (onTc (τ := Cert.RetOutXIdeal.τ) (Cert.RetOutXIdeal.main (F := Ideal))) ⟨m, fun _ => 0, g⟩ (fun r => ∀ c : Dev Cert.RetOutXIdeal.nD,
          r.2.mem ((c.tc : Thread Cert.RetOutXIdeal.nD Cert.RetOutXIdeal.τ).loc Cert.RetOutXIdeal.main_v0) = v0 c
          ∧ r.2.mem ((c.tc : Thread Cert.RetOutXIdeal.nD Cert.RetOutXIdeal.τ).loc Cert.RetOutXIdeal.main_arg0) = m ((c.tc : Thread Cert.RetOutXIdeal.nD Cert.RetOutXIdeal.τ).loc Cert.RetOutXIdeal.main_arg0)
          ∧ r.2.mem ((c.tc : Thread Cert.RetOutXIdeal.nD Cert.RetOutXIdeal.τ).loc Cert.RetOutXIdeal.main_arg1) = m ((c.tc : Thread Cert.RetOutXIdeal.nD Cert.RetOutXIdeal.τ).loc Cert.RetOutXIdeal.main_arg1))
      ∧ θ_run (Cert.RefOutXIdeal.defs (F := Ideal)) (onTc (τ := Cert.RefOutXIdeal.τ) (Cert.RefOutXIdeal.main (F := Ideal))) ⟨m', fun _ => 0, g'⟩ (fun r => ∀ c : Dev Cert.RefOutXIdeal.nD,
          r.2.mem ((c.tc : Thread Cert.RefOutXIdeal.nD Cert.RefOutXIdeal.τ).loc Cert.RefOutXIdeal.main_v5) = v0 c
          ∧ r.2.mem ((c.tc : Thread Cert.RefOutXIdeal.nD Cert.RefOutXIdeal.τ).loc Cert.RefOutXIdeal.main_arg0) = m' ((c.tc : Thread Cert.RefOutXIdeal.nD Cert.RefOutXIdeal.τ).loc Cert.RefOutXIdeal.main_arg0)
          ∧ r.2.mem ((c.tc : Thread Cert.RefOutXIdeal.nD Cert.RefOutXIdeal.τ).loc Cert.RefOutXIdeal.main_arg1) = m' ((c.tc : Thread Cert.RefOutXIdeal.nD Cert.RefOutXIdeal.τ).loc Cert.RefOutXIdeal.main_arg1))

def preserves_RetOutW_RetOutWIdeal : Prop :=
  True

def algebraic_RetOutWIdeal_RefOutWIdeal [hRetOutWIdeal : Cert.RetOutWIdeal.Facts] [hRefOutWIdeal : Cert.RefOutWIdeal.Facts] : Prop :=
  ∀ (m : (ℓ : Loc Cert.RetOutWIdeal.nD Cert.RetOutWIdeal.τ Cert.RetOutWIdeal.sig) → Buf (Elt Ideal) ℓ) (g : Dev Cert.RetOutWIdeal.nD → PrngReg)
    (m' : (ℓ : Loc Cert.RefOutWIdeal.nD Cert.RefOutWIdeal.τ Cert.RefOutWIdeal.sig) → Buf (Elt Ideal) ℓ) (g' : Dev Cert.RefOutWIdeal.nD → PrngReg), Pre_RetOutWIdeal m →
    (∀ c : Dev Cert.RetOutWIdeal.nD,
      m' ((c.tc : Thread Cert.RefOutWIdeal.nD Cert.RefOutWIdeal.τ).loc Cert.RefOutWIdeal.main_arg0) = m ((c.tc : Thread Cert.RetOutWIdeal.nD Cert.RetOutWIdeal.τ).loc Cert.RetOutWIdeal.main_arg0)
      ∧ m' ((c.tc : Thread Cert.RefOutWIdeal.nD Cert.RefOutWIdeal.τ).loc Cert.RefOutWIdeal.main_arg1) = m ((c.tc : Thread Cert.RetOutWIdeal.nD Cert.RetOutWIdeal.τ).loc Cert.RetOutWIdeal.main_arg1)) →
    ∃ (v0 : (c : Dev Cert.RetOutWIdeal.nD) → Buf (Elt Ideal) ((c.tc : Thread Cert.RetOutWIdeal.nD Cert.RetOutWIdeal.τ).loc Cert.RetOutWIdeal.main_v0)),
      θ_run (Cert.RetOutWIdeal.defs (F := Ideal)) (onTc (τ := Cert.RetOutWIdeal.τ) (Cert.RetOutWIdeal.main (F := Ideal))) ⟨m, fun _ => 0, g⟩ (fun r => ∀ c : Dev Cert.RetOutWIdeal.nD,
          r.2.mem ((c.tc : Thread Cert.RetOutWIdeal.nD Cert.RetOutWIdeal.τ).loc Cert.RetOutWIdeal.main_v0) = v0 c
          ∧ r.2.mem ((c.tc : Thread Cert.RetOutWIdeal.nD Cert.RetOutWIdeal.τ).loc Cert.RetOutWIdeal.main_arg0) = m ((c.tc : Thread Cert.RetOutWIdeal.nD Cert.RetOutWIdeal.τ).loc Cert.RetOutWIdeal.main_arg0)
          ∧ r.2.mem ((c.tc : Thread Cert.RetOutWIdeal.nD Cert.RetOutWIdeal.τ).loc Cert.RetOutWIdeal.main_arg1) = m ((c.tc : Thread Cert.RetOutWIdeal.nD Cert.RetOutWIdeal.τ).loc Cert.RetOutWIdeal.main_arg1))
      ∧ θ_run (Cert.RefOutWIdeal.defs (F := Ideal)) (onTc (τ := Cert.RefOutWIdeal.τ) (Cert.RefOutWIdeal.main (F := Ideal))) ⟨m', fun _ => 0, g'⟩ (fun r => ∀ c : Dev Cert.RefOutWIdeal.nD,
          r.2.mem ((c.tc : Thread Cert.RefOutWIdeal.nD Cert.RefOutWIdeal.τ).loc Cert.RefOutWIdeal.main_v6) = v0 c
          ∧ r.2.mem ((c.tc : Thread Cert.RefOutWIdeal.nD Cert.RefOutWIdeal.τ).loc Cert.RefOutWIdeal.main_arg0) = m' ((c.tc : Thread Cert.RefOutWIdeal.nD Cert.RefOutWIdeal.τ).loc Cert.RefOutWIdeal.main_arg0)
          ∧ r.2.mem ((c.tc : Thread Cert.RefOutWIdeal.nD Cert.RefOutWIdeal.τ).loc Cert.RefOutWIdeal.main_arg1) = m' ((c.tc : Thread Cert.RefOutWIdeal.nD Cert.RefOutWIdeal.τ).loc Cert.RefOutWIdeal.main_arg1))

def preserves_MlpOneF_MlpOneFIdeal : Prop :=
  True

def algebraic_MlpOneFIdeal_RefOneFIdeal [hMlpOneFIdeal : Cert.MlpOneFIdeal.Facts] [hRefOneFIdeal : Cert.RefOneFIdeal.Facts] : Prop :=
  ∀ (m : (ℓ : Loc Cert.MlpOneFIdeal.nD Cert.MlpOneFIdeal.τ Cert.MlpOneFIdeal.sig) → Buf (Elt Ideal) ℓ) (g : Dev Cert.MlpOneFIdeal.nD → PrngReg)
    (m' : (ℓ : Loc Cert.RefOneFIdeal.nD Cert.RefOneFIdeal.τ Cert.RefOneFIdeal.sig) → Buf (Elt Ideal) ℓ) (g' : Dev Cert.RefOneFIdeal.nD → PrngReg), Pre_MlpOneFIdeal m →
    (∀ c : Dev Cert.MlpOneFIdeal.nD,
      m' ((c.tc : Thread Cert.RefOneFIdeal.nD Cert.RefOneFIdeal.τ).loc Cert.RefOneFIdeal.main_arg0) = m ((c.tc : Thread Cert.MlpOneFIdeal.nD Cert.MlpOneFIdeal.τ).loc Cert.MlpOneFIdeal.main_arg0)
      ∧ m' ((c.tc : Thread Cert.RefOneFIdeal.nD Cert.RefOneFIdeal.τ).loc Cert.RefOneFIdeal.main_arg1) = m ((c.tc : Thread Cert.MlpOneFIdeal.nD Cert.MlpOneFIdeal.τ).loc Cert.MlpOneFIdeal.main_arg1)
      ∧ m' ((c.tc : Thread Cert.RefOneFIdeal.nD Cert.RefOneFIdeal.τ).loc Cert.RefOneFIdeal.main_arg2) = m ((c.tc : Thread Cert.MlpOneFIdeal.nD Cert.MlpOneFIdeal.τ).loc Cert.MlpOneFIdeal.main_arg2)
      ∧ m' ((c.tc : Thread Cert.RefOneFIdeal.nD Cert.RefOneFIdeal.τ).loc Cert.RefOneFIdeal.main_arg3) = m ((c.tc : Thread Cert.MlpOneFIdeal.nD Cert.MlpOneFIdeal.τ).loc Cert.MlpOneFIdeal.main_arg3)
      ∧ m' ((c.tc : Thread Cert.RefOneFIdeal.nD Cert.RefOneFIdeal.τ).loc Cert.RefOneFIdeal.main_arg4) = m ((c.tc : Thread Cert.MlpOneFIdeal.nD Cert.MlpOneFIdeal.τ).loc Cert.MlpOneFIdeal.main_arg4)) →
    ∃ (v0 : (c : Dev Cert.MlpOneFIdeal.nD) → Buf (Elt Ideal) ((c.tc : Thread Cert.MlpOneFIdeal.nD Cert.MlpOneFIdeal.τ).loc Cert.MlpOneFIdeal.main_v0_0)) (v1 : (c : Dev Cert.MlpOneFIdeal.nD) → Buf (Elt Ideal) ((c.tc : Thread Cert.MlpOneFIdeal.nD Cert.MlpOneFIdeal.τ).loc Cert.MlpOneFIdeal.main_v0_1)),
      θ_run (Cert.MlpOneFIdeal.defs (F := Ideal)) (onTc (τ := Cert.MlpOneFIdeal.τ) (Cert.MlpOneFIdeal.main (F := Ideal))) ⟨m, fun _ => 0, g⟩ (fun r => ∀ c : Dev Cert.MlpOneFIdeal.nD,
          r.2.mem ((c.tc : Thread Cert.MlpOneFIdeal.nD Cert.MlpOneFIdeal.τ).loc Cert.MlpOneFIdeal.main_v0_0) = v0 c
          ∧ r.2.mem ((c.tc : Thread Cert.MlpOneFIdeal.nD Cert.MlpOneFIdeal.τ).loc Cert.MlpOneFIdeal.main_v0_1) = v1 c
          ∧ r.2.mem ((c.tc : Thread Cert.MlpOneFIdeal.nD Cert.MlpOneFIdeal.τ).loc Cert.MlpOneFIdeal.main_arg0) = m ((c.tc : Thread Cert.MlpOneFIdeal.nD Cert.MlpOneFIdeal.τ).loc Cert.MlpOneFIdeal.main_arg0)
          ∧ r.2.mem ((c.tc : Thread Cert.MlpOneFIdeal.nD Cert.MlpOneFIdeal.τ).loc Cert.MlpOneFIdeal.main_arg1) = m ((c.tc : Thread Cert.MlpOneFIdeal.nD Cert.MlpOneFIdeal.τ).loc Cert.MlpOneFIdeal.main_arg1)
          ∧ r.2.mem ((c.tc : Thread Cert.MlpOneFIdeal.nD Cert.MlpOneFIdeal.τ).loc Cert.MlpOneFIdeal.main_arg2) = m ((c.tc : Thread Cert.MlpOneFIdeal.nD Cert.MlpOneFIdeal.τ).loc Cert.MlpOneFIdeal.main_arg2)
          ∧ r.2.mem ((c.tc : Thread Cert.MlpOneFIdeal.nD Cert.MlpOneFIdeal.τ).loc Cert.MlpOneFIdeal.main_arg3) = m ((c.tc : Thread Cert.MlpOneFIdeal.nD Cert.MlpOneFIdeal.τ).loc Cert.MlpOneFIdeal.main_arg3)
          ∧ r.2.mem ((c.tc : Thread Cert.MlpOneFIdeal.nD Cert.MlpOneFIdeal.τ).loc Cert.MlpOneFIdeal.main_arg4) = m ((c.tc : Thread Cert.MlpOneFIdeal.nD Cert.MlpOneFIdeal.τ).loc Cert.MlpOneFIdeal.main_arg4))
      ∧ θ_run (Cert.RefOneFIdeal.defs (F := Ideal)) (onTc (τ := Cert.RefOneFIdeal.τ) (Cert.RefOneFIdeal.main (F := Ideal))) ⟨m', fun _ => 0, g'⟩ (fun r => ∀ c : Dev Cert.RefOneFIdeal.nD,
          r.2.mem ((c.tc : Thread Cert.RefOneFIdeal.nD Cert.RefOneFIdeal.τ).loc Cert.RefOneFIdeal.main_v28) = v0 c
          ∧ r.2.mem ((c.tc : Thread Cert.RefOneFIdeal.nD Cert.RefOneFIdeal.τ).loc Cert.RefOneFIdeal.main_v30) = v1 c
          ∧ r.2.mem ((c.tc : Thread Cert.RefOneFIdeal.nD Cert.RefOneFIdeal.τ).loc Cert.RefOneFIdeal.main_arg0) = m' ((c.tc : Thread Cert.RefOneFIdeal.nD Cert.RefOneFIdeal.τ).loc Cert.RefOneFIdeal.main_arg0)
          ∧ r.2.mem ((c.tc : Thread Cert.RefOneFIdeal.nD Cert.RefOneFIdeal.τ).loc Cert.RefOneFIdeal.main_arg1) = m' ((c.tc : Thread Cert.RefOneFIdeal.nD Cert.RefOneFIdeal.τ).loc Cert.RefOneFIdeal.main_arg1)
          ∧ r.2.mem ((c.tc : Thread Cert.RefOneFIdeal.nD Cert.RefOneFIdeal.τ).loc Cert.RefOneFIdeal.main_arg2) = m' ((c.tc : Thread Cert.RefOneFIdeal.nD Cert.RefOneFIdeal.τ).loc Cert.RefOneFIdeal.main_arg2)
          ∧ r.2.mem ((c.tc : Thread Cert.RefOneFIdeal.nD Cert.RefOneFIdeal.τ).loc Cert.RefOneFIdeal.main_arg3) = m' ((c.tc : Thread Cert.RefOneFIdeal.nD Cert.RefOneFIdeal.τ).loc Cert.RefOneFIdeal.main_arg3)
          ∧ r.2.mem ((c.tc : Thread Cert.RefOneFIdeal.nD Cert.RefOneFIdeal.τ).loc Cert.RefOneFIdeal.main_arg4) = m' ((c.tc : Thread Cert.RefOneFIdeal.nD Cert.RefOneFIdeal.τ).loc Cert.RefOneFIdeal.main_arg4))

def preserves_MlpTwoF_MlpTwoFIdeal : Prop :=
  True

def algebraic_MlpTwoFIdeal_RefTwoFIdeal [hMlpTwoFIdeal : Cert.MlpTwoFIdeal.Facts] [hRefTwoFIdeal : Cert.RefTwoFIdeal.Facts] : Prop :=
  ∀ (m : (ℓ : Loc Cert.MlpTwoFIdeal.nD Cert.MlpTwoFIdeal.τ Cert.MlpTwoFIdeal.sig) → Buf (Elt Ideal) ℓ) (g : Dev Cert.MlpTwoFIdeal.nD → PrngReg)
    (m' : (ℓ : Loc Cert.RefTwoFIdeal.nD Cert.RefTwoFIdeal.τ Cert.RefTwoFIdeal.sig) → Buf (Elt Ideal) ℓ) (g' : Dev Cert.RefTwoFIdeal.nD → PrngReg), Pre_MlpTwoFIdeal m →
    (∀ c : Dev Cert.MlpTwoFIdeal.nD,
      m' ((c.tc : Thread Cert.RefTwoFIdeal.nD Cert.RefTwoFIdeal.τ).loc Cert.RefTwoFIdeal.main_arg0) = m ((c.tc : Thread Cert.MlpTwoFIdeal.nD Cert.MlpTwoFIdeal.τ).loc Cert.MlpTwoFIdeal.main_arg0)
      ∧ m' ((c.tc : Thread Cert.RefTwoFIdeal.nD Cert.RefTwoFIdeal.τ).loc Cert.RefTwoFIdeal.main_arg1) = m ((c.tc : Thread Cert.MlpTwoFIdeal.nD Cert.MlpTwoFIdeal.τ).loc Cert.MlpTwoFIdeal.main_arg1)
      ∧ m' ((c.tc : Thread Cert.RefTwoFIdeal.nD Cert.RefTwoFIdeal.τ).loc Cert.RefTwoFIdeal.main_arg2) = m ((c.tc : Thread Cert.MlpTwoFIdeal.nD Cert.MlpTwoFIdeal.τ).loc Cert.MlpTwoFIdeal.main_arg2)
      ∧ m' ((c.tc : Thread Cert.RefTwoFIdeal.nD Cert.RefTwoFIdeal.τ).loc Cert.RefTwoFIdeal.main_arg3) = m ((c.tc : Thread Cert.MlpTwoFIdeal.nD Cert.MlpTwoFIdeal.τ).loc Cert.MlpTwoFIdeal.main_arg3)) →
    ∃ (v0 : (c : Dev Cert.MlpTwoFIdeal.nD) → Buf (Elt Ideal) ((c.tc : Thread Cert.MlpTwoFIdeal.nD Cert.MlpTwoFIdeal.τ).loc Cert.MlpTwoFIdeal.main_v0_0)) (v1 : (c : Dev Cert.MlpTwoFIdeal.nD) → Buf (Elt Ideal) ((c.tc : Thread Cert.MlpTwoFIdeal.nD Cert.MlpTwoFIdeal.τ).loc Cert.MlpTwoFIdeal.main_v0_1)),
      θ_run (Cert.MlpTwoFIdeal.defs (F := Ideal)) (onTc (τ := Cert.MlpTwoFIdeal.τ) (Cert.MlpTwoFIdeal.main (F := Ideal))) ⟨m, fun _ => 0, g⟩ (fun r => ∀ c : Dev Cert.MlpTwoFIdeal.nD,
          r.2.mem ((c.tc : Thread Cert.MlpTwoFIdeal.nD Cert.MlpTwoFIdeal.τ).loc Cert.MlpTwoFIdeal.main_v0_0) = v0 c
          ∧ r.2.mem ((c.tc : Thread Cert.MlpTwoFIdeal.nD Cert.MlpTwoFIdeal.τ).loc Cert.MlpTwoFIdeal.main_v0_1) = v1 c
          ∧ r.2.mem ((c.tc : Thread Cert.MlpTwoFIdeal.nD Cert.MlpTwoFIdeal.τ).loc Cert.MlpTwoFIdeal.main_arg0) = m ((c.tc : Thread Cert.MlpTwoFIdeal.nD Cert.MlpTwoFIdeal.τ).loc Cert.MlpTwoFIdeal.main_arg0)
          ∧ r.2.mem ((c.tc : Thread Cert.MlpTwoFIdeal.nD Cert.MlpTwoFIdeal.τ).loc Cert.MlpTwoFIdeal.main_arg1) = m ((c.tc : Thread Cert.MlpTwoFIdeal.nD Cert.MlpTwoFIdeal.τ).loc Cert.MlpTwoFIdeal.main_arg1)
          ∧ r.2.mem ((c.tc : Thread Cert.MlpTwoFIdeal.nD Cert.MlpTwoFIdeal.τ).loc Cert.MlpTwoFIdeal.main_arg2) = m ((c.tc : Thread Cert.MlpTwoFIdeal.nD Cert.MlpTwoFIdeal.τ).loc Cert.MlpTwoFIdeal.main_arg2)
          ∧ r.2.mem ((c.tc : Thread Cert.MlpTwoFIdeal.nD Cert.MlpTwoFIdeal.τ).loc Cert.MlpTwoFIdeal.main_arg3) = m ((c.tc : Thread Cert.MlpTwoFIdeal.nD Cert.MlpTwoFIdeal.τ).loc Cert.MlpTwoFIdeal.main_arg3))
      ∧ θ_run (Cert.RefTwoFIdeal.defs (F := Ideal)) (onTc (τ := Cert.RefTwoFIdeal.τ) (Cert.RefTwoFIdeal.main (F := Ideal))) ⟨m', fun _ => 0, g'⟩ (fun r => ∀ c : Dev Cert.RefTwoFIdeal.nD,
          r.2.mem ((c.tc : Thread Cert.RefTwoFIdeal.nD Cert.RefTwoFIdeal.τ).loc Cert.RefTwoFIdeal.main_v11) = v0 c
          ∧ r.2.mem ((c.tc : Thread Cert.RefTwoFIdeal.nD Cert.RefTwoFIdeal.τ).loc Cert.RefTwoFIdeal.main_v13) = v1 c
          ∧ r.2.mem ((c.tc : Thread Cert.RefTwoFIdeal.nD Cert.RefTwoFIdeal.τ).loc Cert.RefTwoFIdeal.main_arg0) = m' ((c.tc : Thread Cert.RefTwoFIdeal.nD Cert.RefTwoFIdeal.τ).loc Cert.RefTwoFIdeal.main_arg0)
          ∧ r.2.mem ((c.tc : Thread Cert.RefTwoFIdeal.nD Cert.RefTwoFIdeal.τ).loc Cert.RefTwoFIdeal.main_arg1) = m' ((c.tc : Thread Cert.RefTwoFIdeal.nD Cert.RefTwoFIdeal.τ).loc Cert.RefTwoFIdeal.main_arg1)
          ∧ r.2.mem ((c.tc : Thread Cert.RefTwoFIdeal.nD Cert.RefTwoFIdeal.τ).loc Cert.RefTwoFIdeal.main_arg2) = m' ((c.tc : Thread Cert.RefTwoFIdeal.nD Cert.RefTwoFIdeal.τ).loc Cert.RefTwoFIdeal.main_arg2)
          ∧ r.2.mem ((c.tc : Thread Cert.RefTwoFIdeal.nD Cert.RefTwoFIdeal.τ).loc Cert.RefTwoFIdeal.main_arg3) = m' ((c.tc : Thread Cert.RefTwoFIdeal.nD Cert.RefTwoFIdeal.τ).loc Cert.RefTwoFIdeal.main_arg3))

def preserves_RetInF_RetInFIdeal : Prop :=
  True

def algebraic_RetInFIdeal_RefInFIdeal [hRetInFIdeal : Cert.RetInFIdeal.Facts] [hRefInFIdeal : Cert.RefInFIdeal.Facts] : Prop :=
  ∀ (m : (ℓ : Loc Cert.RetInFIdeal.nD Cert.RetInFIdeal.τ Cert.RetInFIdeal.sig) → Buf (Elt Ideal) ℓ) (g : Dev Cert.RetInFIdeal.nD → PrngReg)
    (m' : (ℓ : Loc Cert.RefInFIdeal.nD Cert.RefInFIdeal.τ Cert.RefInFIdeal.sig) → Buf (Elt Ideal) ℓ) (g' : Dev Cert.RefInFIdeal.nD → PrngReg), Pre_RetInFIdeal m →
    (∀ c : Dev Cert.RetInFIdeal.nD,
      m' ((c.tc : Thread Cert.RefInFIdeal.nD Cert.RefInFIdeal.τ).loc Cert.RefInFIdeal.main_arg0) = m ((c.tc : Thread Cert.RetInFIdeal.nD Cert.RetInFIdeal.τ).loc Cert.RetInFIdeal.main_arg0)
      ∧ m' ((c.tc : Thread Cert.RefInFIdeal.nD Cert.RefInFIdeal.τ).loc Cert.RefInFIdeal.main_arg1) = m ((c.tc : Thread Cert.RetInFIdeal.nD Cert.RetInFIdeal.τ).loc Cert.RetInFIdeal.main_arg1)
      ∧ m' ((c.tc : Thread Cert.RefInFIdeal.nD Cert.RefInFIdeal.τ).loc Cert.RefInFIdeal.main_arg2) = m ((c.tc : Thread Cert.RetInFIdeal.nD Cert.RetInFIdeal.τ).loc Cert.RetInFIdeal.main_arg2)
      ∧ m' ((c.tc : Thread Cert.RefInFIdeal.nD Cert.RefInFIdeal.τ).loc Cert.RefInFIdeal.main_arg3) = m ((c.tc : Thread Cert.RetInFIdeal.nD Cert.RetInFIdeal.τ).loc Cert.RetInFIdeal.main_arg3)
      ∧ m' ((c.tc : Thread Cert.RefInFIdeal.nD Cert.RefInFIdeal.τ).loc Cert.RefInFIdeal.main_arg4) = m ((c.tc : Thread Cert.RetInFIdeal.nD Cert.RetInFIdeal.τ).loc Cert.RetInFIdeal.main_arg4)) →
    ∃ (v0 : (c : Dev Cert.RetInFIdeal.nD) → Buf (Elt Ideal) ((c.tc : Thread Cert.RetInFIdeal.nD Cert.RetInFIdeal.τ).loc Cert.RetInFIdeal.main_v0_0)) (v1 : (c : Dev Cert.RetInFIdeal.nD) → Buf (Elt Ideal) ((c.tc : Thread Cert.RetInFIdeal.nD Cert.RetInFIdeal.τ).loc Cert.RetInFIdeal.main_v0_1)),
      θ_run (Cert.RetInFIdeal.defs (F := Ideal)) (onTc (τ := Cert.RetInFIdeal.τ) (Cert.RetInFIdeal.main (F := Ideal))) ⟨m, fun _ => 0, g⟩ (fun r => ∀ c : Dev Cert.RetInFIdeal.nD,
          r.2.mem ((c.tc : Thread Cert.RetInFIdeal.nD Cert.RetInFIdeal.τ).loc Cert.RetInFIdeal.main_v0_0) = v0 c
          ∧ r.2.mem ((c.tc : Thread Cert.RetInFIdeal.nD Cert.RetInFIdeal.τ).loc Cert.RetInFIdeal.main_v0_1) = v1 c
          ∧ r.2.mem ((c.tc : Thread Cert.RetInFIdeal.nD Cert.RetInFIdeal.τ).loc Cert.RetInFIdeal.main_arg0) = m ((c.tc : Thread Cert.RetInFIdeal.nD Cert.RetInFIdeal.τ).loc Cert.RetInFIdeal.main_arg0)
          ∧ r.2.mem ((c.tc : Thread Cert.RetInFIdeal.nD Cert.RetInFIdeal.τ).loc Cert.RetInFIdeal.main_arg1) = m ((c.tc : Thread Cert.RetInFIdeal.nD Cert.RetInFIdeal.τ).loc Cert.RetInFIdeal.main_arg1)
          ∧ r.2.mem ((c.tc : Thread Cert.RetInFIdeal.nD Cert.RetInFIdeal.τ).loc Cert.RetInFIdeal.main_arg2) = m ((c.tc : Thread Cert.RetInFIdeal.nD Cert.RetInFIdeal.τ).loc Cert.RetInFIdeal.main_arg2)
          ∧ r.2.mem ((c.tc : Thread Cert.RetInFIdeal.nD Cert.RetInFIdeal.τ).loc Cert.RetInFIdeal.main_arg3) = m ((c.tc : Thread Cert.RetInFIdeal.nD Cert.RetInFIdeal.τ).loc Cert.RetInFIdeal.main_arg3)
          ∧ r.2.mem ((c.tc : Thread Cert.RetInFIdeal.nD Cert.RetInFIdeal.τ).loc Cert.RetInFIdeal.main_arg4) = m ((c.tc : Thread Cert.RetInFIdeal.nD Cert.RetInFIdeal.τ).loc Cert.RetInFIdeal.main_arg4))
      ∧ θ_run (Cert.RefInFIdeal.defs (F := Ideal)) (onTc (τ := Cert.RefInFIdeal.τ) (Cert.RefInFIdeal.main (F := Ideal))) ⟨m', fun _ => 0, g'⟩ (fun r => ∀ c : Dev Cert.RefInFIdeal.nD,
          r.2.mem ((c.tc : Thread Cert.RefInFIdeal.nD Cert.RefInFIdeal.τ).loc Cert.RefInFIdeal.main_v28) = v0 c
          ∧ r.2.mem ((c.tc : Thread Cert.RefInFIdeal.nD Cert.RefInFIdeal.τ).loc Cert.RefInFIdeal.main_v30) = v1 c
          ∧ r.2.mem ((c.tc : Thread Cert.RefInFIdeal.nD Cert.RefInFIdeal.τ).loc Cert.RefInFIdeal.main_arg0) = m' ((c.tc : Thread Cert.RefInFIdeal.nD Cert.RefInFIdeal.τ).loc Cert.RefInFIdeal.main_arg0)
          ∧ r.2.mem ((c.tc : Thread Cert.RefInFIdeal.nD Cert.RefInFIdeal.τ).loc Cert.RefInFIdeal.main_arg1) = m' ((c.tc : Thread Cert.RefInFIdeal.nD Cert.RefInFIdeal.τ).loc Cert.RefInFIdeal.main_arg1)
          ∧ r.2.mem ((c.tc : Thread Cert.RefInFIdeal.nD Cert.RefInFIdeal.τ).loc Cert.RefInFIdeal.main_arg2) = m' ((c.tc : Thread Cert.RefInFIdeal.nD Cert.RefInFIdeal.τ).loc Cert.RefInFIdeal.main_arg2)
          ∧ r.2.mem ((c.tc : Thread Cert.RefInFIdeal.nD Cert.RefInFIdeal.τ).loc Cert.RefInFIdeal.main_arg3) = m' ((c.tc : Thread Cert.RefInFIdeal.nD Cert.RefInFIdeal.τ).loc Cert.RefInFIdeal.main_arg3)
          ∧ r.2.mem ((c.tc : Thread Cert.RefInFIdeal.nD Cert.RefInFIdeal.τ).loc Cert.RefInFIdeal.main_arg4) = m' ((c.tc : Thread Cert.RefInFIdeal.nD Cert.RefInFIdeal.τ).loc Cert.RefInFIdeal.main_arg4))

def preserves_RetOutF_RetOutFIdeal : Prop :=
  True

def algebraic_RetOutFIdeal_RefOutFIdeal [hRetOutFIdeal : Cert.RetOutFIdeal.Facts] [hRefOutFIdeal : Cert.RefOutFIdeal.Facts] : Prop :=
  ∀ (m : (ℓ : Loc Cert.RetOutFIdeal.nD Cert.RetOutFIdeal.τ Cert.RetOutFIdeal.sig) → Buf (Elt Ideal) ℓ) (g : Dev Cert.RetOutFIdeal.nD → PrngReg)
    (m' : (ℓ : Loc Cert.RefOutFIdeal.nD Cert.RefOutFIdeal.τ Cert.RefOutFIdeal.sig) → Buf (Elt Ideal) ℓ) (g' : Dev Cert.RefOutFIdeal.nD → PrngReg), Pre_RetOutFIdeal m →
    (∀ c : Dev Cert.RetOutFIdeal.nD,
      m' ((c.tc : Thread Cert.RefOutFIdeal.nD Cert.RefOutFIdeal.τ).loc Cert.RefOutFIdeal.main_arg0) = m ((c.tc : Thread Cert.RetOutFIdeal.nD Cert.RetOutFIdeal.τ).loc Cert.RetOutFIdeal.main_arg0)
      ∧ m' ((c.tc : Thread Cert.RefOutFIdeal.nD Cert.RefOutFIdeal.τ).loc Cert.RefOutFIdeal.main_arg1) = m ((c.tc : Thread Cert.RetOutFIdeal.nD Cert.RetOutFIdeal.τ).loc Cert.RetOutFIdeal.main_arg1)
      ∧ m' ((c.tc : Thread Cert.RefOutFIdeal.nD Cert.RefOutFIdeal.τ).loc Cert.RefOutFIdeal.main_arg2) = m ((c.tc : Thread Cert.RetOutFIdeal.nD Cert.RetOutFIdeal.τ).loc Cert.RetOutFIdeal.main_arg2)
      ∧ m' ((c.tc : Thread Cert.RefOutFIdeal.nD Cert.RefOutFIdeal.τ).loc Cert.RefOutFIdeal.main_arg3) = m ((c.tc : Thread Cert.RetOutFIdeal.nD Cert.RetOutFIdeal.τ).loc Cert.RetOutFIdeal.main_arg3)) →
    ∃ (v0 : (c : Dev Cert.RetOutFIdeal.nD) → Buf (Elt Ideal) ((c.tc : Thread Cert.RetOutFIdeal.nD Cert.RetOutFIdeal.τ).loc Cert.RetOutFIdeal.main_v0_0)) (v1 : (c : Dev Cert.RetOutFIdeal.nD) → Buf (Elt Ideal) ((c.tc : Thread Cert.RetOutFIdeal.nD Cert.RetOutFIdeal.τ).loc Cert.RetOutFIdeal.main_v0_1)),
      θ_run (Cert.RetOutFIdeal.defs (F := Ideal)) (onTc (τ := Cert.RetOutFIdeal.τ) (Cert.RetOutFIdeal.main (F := Ideal))) ⟨m, fun _ => 0, g⟩ (fun r => ∀ c : Dev Cert.RetOutFIdeal.nD,
          r.2.mem ((c.tc : Thread Cert.RetOutFIdeal.nD Cert.RetOutFIdeal.τ).loc Cert.RetOutFIdeal.main_v0_0) = v0 c
          ∧ r.2.mem ((c.tc : Thread Cert.RetOutFIdeal.nD Cert.RetOutFIdeal.τ).loc Cert.RetOutFIdeal.main_v0_1) = v1 c
          ∧ r.2.mem ((c.tc : Thread Cert.RetOutFIdeal.nD Cert.RetOutFIdeal.τ).loc Cert.RetOutFIdeal.main_arg0) = m ((c.tc : Thread Cert.RetOutFIdeal.nD Cert.RetOutFIdeal.τ).loc Cert.RetOutFIdeal.main_arg0)
          ∧ r.2.mem ((c.tc : Thread Cert.RetOutFIdeal.nD Cert.RetOutFIdeal.τ).loc Cert.RetOutFIdeal.main_arg1) = m ((c.tc : Thread Cert.RetOutFIdeal.nD Cert.RetOutFIdeal.τ).loc Cert.RetOutFIdeal.main_arg1)
          ∧ r.2.mem ((c.tc : Thread Cert.RetOutFIdeal.nD Cert.RetOutFIdeal.τ).loc Cert.RetOutFIdeal.main_arg2) = m ((c.tc : Thread Cert.RetOutFIdeal.nD Cert.RetOutFIdeal.τ).loc Cert.RetOutFIdeal.main_arg2)
          ∧ r.2.mem ((c.tc : Thread Cert.RetOutFIdeal.nD Cert.RetOutFIdeal.τ).loc Cert.RetOutFIdeal.main_arg3) = m ((c.tc : Thread Cert.RetOutFIdeal.nD Cert.RetOutFIdeal.τ).loc Cert.RetOutFIdeal.main_arg3))
      ∧ θ_run (Cert.RefOutFIdeal.defs (F := Ideal)) (onTc (τ := Cert.RefOutFIdeal.τ) (Cert.RefOutFIdeal.main (F := Ideal))) ⟨m', fun _ => 0, g'⟩ (fun r => ∀ c : Dev Cert.RefOutFIdeal.nD,
          r.2.mem ((c.tc : Thread Cert.RefOutFIdeal.nD Cert.RefOutFIdeal.τ).loc Cert.RefOutFIdeal.main_v9) = v0 c
          ∧ r.2.mem ((c.tc : Thread Cert.RefOutFIdeal.nD Cert.RefOutFIdeal.τ).loc Cert.RefOutFIdeal.main_v11) = v1 c
          ∧ r.2.mem ((c.tc : Thread Cert.RefOutFIdeal.nD Cert.RefOutFIdeal.τ).loc Cert.RefOutFIdeal.main_arg0) = m' ((c.tc : Thread Cert.RefOutFIdeal.nD Cert.RefOutFIdeal.τ).loc Cert.RefOutFIdeal.main_arg0)
          ∧ r.2.mem ((c.tc : Thread Cert.RefOutFIdeal.nD Cert.RefOutFIdeal.τ).loc Cert.RefOutFIdeal.main_arg1) = m' ((c.tc : Thread Cert.RefOutFIdeal.nD Cert.RefOutFIdeal.τ).loc Cert.RefOutFIdeal.main_arg1)
          ∧ r.2.mem ((c.tc : Thread Cert.RefOutFIdeal.nD Cert.RefOutFIdeal.τ).loc Cert.RefOutFIdeal.main_arg2) = m' ((c.tc : Thread Cert.RefOutFIdeal.nD Cert.RefOutFIdeal.τ).loc Cert.RefOutFIdeal.main_arg2)
          ∧ r.2.mem ((c.tc : Thread Cert.RefOutFIdeal.nD Cert.RefOutFIdeal.τ).loc Cert.RefOutFIdeal.main_arg3) = m' ((c.tc : Thread Cert.RefOutFIdeal.nD Cert.RefOutFIdeal.τ).loc Cert.RefOutFIdeal.main_arg3))

def preserves_PwOneF_PwOneFIdeal : Prop :=
  True

def algebraic_PwOneFIdeal_RefPwOneFIdeal [hPwOneFIdeal : Cert.PwOneFIdeal.Facts] [hRefPwOneFIdeal : Cert.RefPwOneFIdeal.Facts] : Prop :=
  ∀ (m : (ℓ : Loc Cert.PwOneFIdeal.nD Cert.PwOneFIdeal.τ Cert.PwOneFIdeal.sig) → Buf (Elt Ideal) ℓ) (g : Dev Cert.PwOneFIdeal.nD → PrngReg)
    (m' : (ℓ : Loc Cert.RefPwOneFIdeal.nD Cert.RefPwOneFIdeal.τ Cert.RefPwOneFIdeal.sig) → Buf (Elt Ideal) ℓ) (g' : Dev Cert.RefPwOneFIdeal.nD → PrngReg), Pre_PwOneFIdeal m →
    (∀ c : Dev Cert.PwOneFIdeal.nD,
      m' ((c.tc : Thread Cert.RefPwOneFIdeal.nD Cert.RefPwOneFIdeal.τ).loc Cert.RefPwOneFIdeal.main_arg0) = m ((c.tc : Thread Cert.PwOneFIdeal.nD Cert.PwOneFIdeal.τ).loc Cert.PwOneFIdeal.main_arg0)
      ∧ m' ((c.tc : Thread Cert.RefPwOneFIdeal.nD Cert.RefPwOneFIdeal.τ).loc Cert.RefPwOneFIdeal.main_arg1) = m ((c.tc : Thread Cert.PwOneFIdeal.nD Cert.PwOneFIdeal.τ).loc Cert.PwOneFIdeal.main_arg1)
      ∧ m' ((c.tc : Thread Cert.RefPwOneFIdeal.nD Cert.RefPwOneFIdeal.τ).loc Cert.RefPwOneFIdeal.main_arg2) = m ((c.tc : Thread Cert.PwOneFIdeal.nD Cert.PwOneFIdeal.τ).loc Cert.PwOneFIdeal.main_arg2)
      ∧ m' ((c.tc : Thread Cert.RefPwOneFIdeal.nD Cert.RefPwOneFIdeal.τ).loc Cert.RefPwOneFIdeal.main_arg3) = m ((c.tc : Thread Cert.PwOneFIdeal.nD Cert.PwOneFIdeal.τ).loc Cert.PwOneFIdeal.main_arg3)
      ∧ m' ((c.tc : Thread Cert.RefPwOneFIdeal.nD Cert.RefPwOneFIdeal.τ).loc Cert.RefPwOneFIdeal.main_arg4) = m ((c.tc : Thread Cert.PwOneFIdeal.nD Cert.PwOneFIdeal.τ).loc Cert.PwOneFIdeal.main_arg4)
      ∧ m' ((c.tc : Thread Cert.RefPwOneFIdeal.nD Cert.RefPwOneFIdeal.τ).loc Cert.RefPwOneFIdeal.main_arg5) = m ((c.tc : Thread Cert.PwOneFIdeal.nD Cert.PwOneFIdeal.τ).loc Cert.PwOneFIdeal.main_arg5)) →
    ∃ (v0 : (c : Dev Cert.PwOneFIdeal.nD) → Buf (Elt Ideal) ((c.tc : Thread Cert.PwOneFIdeal.nD Cert.PwOneFIdeal.τ).loc Cert.PwOneFIdeal.main_v0_0)) (v1 : (c : Dev Cert.PwOneFIdeal.nD) → Buf (Elt Ideal) ((c.tc : Thread Cert.PwOneFIdeal.nD Cert.PwOneFIdeal.τ).loc Cert.PwOneFIdeal.main_v0_1)),
      θ_run (Cert.PwOneFIdeal.defs (F := Ideal)) (onTc (τ := Cert.PwOneFIdeal.τ) (Cert.PwOneFIdeal.main (F := Ideal))) ⟨m, fun _ => 0, g⟩ (fun r => ∀ c : Dev Cert.PwOneFIdeal.nD,
          r.2.mem ((c.tc : Thread Cert.PwOneFIdeal.nD Cert.PwOneFIdeal.τ).loc Cert.PwOneFIdeal.main_v0_0) = v0 c
          ∧ r.2.mem ((c.tc : Thread Cert.PwOneFIdeal.nD Cert.PwOneFIdeal.τ).loc Cert.PwOneFIdeal.main_v0_1) = v1 c
          ∧ r.2.mem ((c.tc : Thread Cert.PwOneFIdeal.nD Cert.PwOneFIdeal.τ).loc Cert.PwOneFIdeal.main_arg0) = m ((c.tc : Thread Cert.PwOneFIdeal.nD Cert.PwOneFIdeal.τ).loc Cert.PwOneFIdeal.main_arg0)
          ∧ r.2.mem ((c.tc : Thread Cert.PwOneFIdeal.nD Cert.PwOneFIdeal.τ).loc Cert.PwOneFIdeal.main_arg1) = m ((c.tc : Thread Cert.PwOneFIdeal.nD Cert.PwOneFIdeal.τ).loc Cert.PwOneFIdeal.main_arg1)
          ∧ r.2.mem ((c.tc : Thread Cert.PwOneFIdeal.nD Cert.PwOneFIdeal.τ).loc Cert.PwOneFIdeal.main_arg2) = m ((c.tc : Thread Cert.PwOneFIdeal.nD Cert.PwOneFIdeal.τ).loc Cert.PwOneFIdeal.main_arg2)
          ∧ r.2.mem ((c.tc : Thread Cert.PwOneFIdeal.nD Cert.PwOneFIdeal.τ).loc Cert.PwOneFIdeal.main_arg3) = m ((c.tc : Thread Cert.PwOneFIdeal.nD Cert.PwOneFIdeal.τ).loc Cert.PwOneFIdeal.main_arg3)
          ∧ r.2.mem ((c.tc : Thread Cert.PwOneFIdeal.nD Cert.PwOneFIdeal.τ).loc Cert.PwOneFIdeal.main_arg4) = m ((c.tc : Thread Cert.PwOneFIdeal.nD Cert.PwOneFIdeal.τ).loc Cert.PwOneFIdeal.main_arg4)
          ∧ r.2.mem ((c.tc : Thread Cert.PwOneFIdeal.nD Cert.PwOneFIdeal.τ).loc Cert.PwOneFIdeal.main_arg5) = m ((c.tc : Thread Cert.PwOneFIdeal.nD Cert.PwOneFIdeal.τ).loc Cert.PwOneFIdeal.main_arg5))
      ∧ θ_run (Cert.RefPwOneFIdeal.defs (F := Ideal)) (onTc (τ := Cert.RefPwOneFIdeal.τ) (Cert.RefPwOneFIdeal.main (F := Ideal))) ⟨m', fun _ => 0, g'⟩ (fun r => ∀ c : Dev Cert.RefPwOneFIdeal.nD,
          r.2.mem ((c.tc : Thread Cert.RefPwOneFIdeal.nD Cert.RefPwOneFIdeal.τ).loc Cert.RefPwOneFIdeal.main_v31) = v0 c
          ∧ r.2.mem ((c.tc : Thread Cert.RefPwOneFIdeal.nD Cert.RefPwOneFIdeal.τ).loc Cert.RefPwOneFIdeal.main_v33) = v1 c
          ∧ r.2.mem ((c.tc : Thread Cert.RefPwOneFIdeal.nD Cert.RefPwOneFIdeal.τ).loc Cert.RefPwOneFIdeal.main_arg0) = m' ((c.tc : Thread Cert.RefPwOneFIdeal.nD Cert.RefPwOneFIdeal.τ).loc Cert.RefPwOneFIdeal.main_arg0)
          ∧ r.2.mem ((c.tc : Thread Cert.RefPwOneFIdeal.nD Cert.RefPwOneFIdeal.τ).loc Cert.RefPwOneFIdeal.main_arg1) = m' ((c.tc : Thread Cert.RefPwOneFIdeal.nD Cert.RefPwOneFIdeal.τ).loc Cert.RefPwOneFIdeal.main_arg1)
          ∧ r.2.mem ((c.tc : Thread Cert.RefPwOneFIdeal.nD Cert.RefPwOneFIdeal.τ).loc Cert.RefPwOneFIdeal.main_arg2) = m' ((c.tc : Thread Cert.RefPwOneFIdeal.nD Cert.RefPwOneFIdeal.τ).loc Cert.RefPwOneFIdeal.main_arg2)
          ∧ r.2.mem ((c.tc : Thread Cert.RefPwOneFIdeal.nD Cert.RefPwOneFIdeal.τ).loc Cert.RefPwOneFIdeal.main_arg3) = m' ((c.tc : Thread Cert.RefPwOneFIdeal.nD Cert.RefPwOneFIdeal.τ).loc Cert.RefPwOneFIdeal.main_arg3)
          ∧ r.2.mem ((c.tc : Thread Cert.RefPwOneFIdeal.nD Cert.RefPwOneFIdeal.τ).loc Cert.RefPwOneFIdeal.main_arg4) = m' ((c.tc : Thread Cert.RefPwOneFIdeal.nD Cert.RefPwOneFIdeal.τ).loc Cert.RefPwOneFIdeal.main_arg4)
          ∧ r.2.mem ((c.tc : Thread Cert.RefPwOneFIdeal.nD Cert.RefPwOneFIdeal.τ).loc Cert.RefPwOneFIdeal.main_arg5) = m' ((c.tc : Thread Cert.RefPwOneFIdeal.nD Cert.RefPwOneFIdeal.τ).loc Cert.RefPwOneFIdeal.main_arg5))

def preserves_PwOneW_PwOneWIdeal : Prop :=
  True

def algebraic_PwOneWIdeal_RefPwOneWIdeal [hPwOneWIdeal : Cert.PwOneWIdeal.Facts] [hRefPwOneWIdeal : Cert.RefPwOneWIdeal.Facts] : Prop :=
  ∀ (m : (ℓ : Loc Cert.PwOneWIdeal.nD Cert.PwOneWIdeal.τ Cert.PwOneWIdeal.sig) → Buf (Elt Ideal) ℓ) (g : Dev Cert.PwOneWIdeal.nD → PrngReg)
    (m' : (ℓ : Loc Cert.RefPwOneWIdeal.nD Cert.RefPwOneWIdeal.τ Cert.RefPwOneWIdeal.sig) → Buf (Elt Ideal) ℓ) (g' : Dev Cert.RefPwOneWIdeal.nD → PrngReg), Pre_PwOneWIdeal m →
    (∀ c : Dev Cert.PwOneWIdeal.nD,
      m' ((c.tc : Thread Cert.RefPwOneWIdeal.nD Cert.RefPwOneWIdeal.τ).loc Cert.RefPwOneWIdeal.main_arg0) = m ((c.tc : Thread Cert.PwOneWIdeal.nD Cert.PwOneWIdeal.τ).loc Cert.PwOneWIdeal.main_arg0)
      ∧ m' ((c.tc : Thread Cert.RefPwOneWIdeal.nD Cert.RefPwOneWIdeal.τ).loc Cert.RefPwOneWIdeal.main_arg1) = m ((c.tc : Thread Cert.PwOneWIdeal.nD Cert.PwOneWIdeal.τ).loc Cert.PwOneWIdeal.main_arg1)) →
    ∃ (v0 : (c : Dev Cert.PwOneWIdeal.nD) → Buf (Elt Ideal) ((c.tc : Thread Cert.PwOneWIdeal.nD Cert.PwOneWIdeal.τ).loc Cert.PwOneWIdeal.main_v0)),
      θ_run (Cert.PwOneWIdeal.defs (F := Ideal)) (onTc (τ := Cert.PwOneWIdeal.τ) (Cert.PwOneWIdeal.main (F := Ideal))) ⟨m, fun _ => 0, g⟩ (fun r => ∀ c : Dev Cert.PwOneWIdeal.nD,
          r.2.mem ((c.tc : Thread Cert.PwOneWIdeal.nD Cert.PwOneWIdeal.τ).loc Cert.PwOneWIdeal.main_v0) = v0 c
          ∧ r.2.mem ((c.tc : Thread Cert.PwOneWIdeal.nD Cert.PwOneWIdeal.τ).loc Cert.PwOneWIdeal.main_arg0) = m ((c.tc : Thread Cert.PwOneWIdeal.nD Cert.PwOneWIdeal.τ).loc Cert.PwOneWIdeal.main_arg0)
          ∧ r.2.mem ((c.tc : Thread Cert.PwOneWIdeal.nD Cert.PwOneWIdeal.τ).loc Cert.PwOneWIdeal.main_arg1) = m ((c.tc : Thread Cert.PwOneWIdeal.nD Cert.PwOneWIdeal.τ).loc Cert.PwOneWIdeal.main_arg1))
      ∧ θ_run (Cert.RefPwOneWIdeal.defs (F := Ideal)) (onTc (τ := Cert.RefPwOneWIdeal.τ) (Cert.RefPwOneWIdeal.main (F := Ideal))) ⟨m', fun _ => 0, g'⟩ (fun r => ∀ c : Dev Cert.RefPwOneWIdeal.nD,
          r.2.mem ((c.tc : Thread Cert.RefPwOneWIdeal.nD Cert.RefPwOneWIdeal.τ).loc Cert.RefPwOneWIdeal.main_v7) = v0 c
          ∧ r.2.mem ((c.tc : Thread Cert.RefPwOneWIdeal.nD Cert.RefPwOneWIdeal.τ).loc Cert.RefPwOneWIdeal.main_arg0) = m' ((c.tc : Thread Cert.RefPwOneWIdeal.nD Cert.RefPwOneWIdeal.τ).loc Cert.RefPwOneWIdeal.main_arg0)
          ∧ r.2.mem ((c.tc : Thread Cert.RefPwOneWIdeal.nD Cert.RefPwOneWIdeal.τ).loc Cert.RefPwOneWIdeal.main_arg1) = m' ((c.tc : Thread Cert.RefPwOneWIdeal.nD Cert.RefPwOneWIdeal.τ).loc Cert.RefPwOneWIdeal.main_arg1))

def preserves_PwOneX_PwOneXIdeal : Prop :=
  True

def algebraic_PwOneXIdeal_RefPwOneXIdeal [hPwOneXIdeal : Cert.PwOneXIdeal.Facts] [hRefPwOneXIdeal : Cert.RefPwOneXIdeal.Facts] : Prop :=
  ∀ (m : (ℓ : Loc Cert.PwOneXIdeal.nD Cert.PwOneXIdeal.τ Cert.PwOneXIdeal.sig) → Buf (Elt Ideal) ℓ) (g : Dev Cert.PwOneXIdeal.nD → PrngReg)
    (m' : (ℓ : Loc Cert.RefPwOneXIdeal.nD Cert.RefPwOneXIdeal.τ Cert.RefPwOneXIdeal.sig) → Buf (Elt Ideal) ℓ) (g' : Dev Cert.RefPwOneXIdeal.nD → PrngReg), Pre_PwOneXIdeal m →
    (∀ c : Dev Cert.PwOneXIdeal.nD,
      m' ((c.tc : Thread Cert.RefPwOneXIdeal.nD Cert.RefPwOneXIdeal.τ).loc Cert.RefPwOneXIdeal.main_arg0) = m ((c.tc : Thread Cert.PwOneXIdeal.nD Cert.PwOneXIdeal.τ).loc Cert.PwOneXIdeal.main_arg0)
      ∧ m' ((c.tc : Thread Cert.RefPwOneXIdeal.nD Cert.RefPwOneXIdeal.τ).loc Cert.RefPwOneXIdeal.main_arg1) = m ((c.tc : Thread Cert.PwOneXIdeal.nD Cert.PwOneXIdeal.τ).loc Cert.PwOneXIdeal.main_arg1)
      ∧ m' ((c.tc : Thread Cert.RefPwOneXIdeal.nD Cert.RefPwOneXIdeal.τ).loc Cert.RefPwOneXIdeal.main_arg2) = m ((c.tc : Thread Cert.PwOneXIdeal.nD Cert.PwOneXIdeal.τ).loc Cert.PwOneXIdeal.main_arg2)
      ∧ m' ((c.tc : Thread Cert.RefPwOneXIdeal.nD Cert.RefPwOneXIdeal.τ).loc Cert.RefPwOneXIdeal.main_arg3) = m ((c.tc : Thread Cert.PwOneXIdeal.nD Cert.PwOneXIdeal.τ).loc Cert.PwOneXIdeal.main_arg3)
      ∧ m' ((c.tc : Thread Cert.RefPwOneXIdeal.nD Cert.RefPwOneXIdeal.τ).loc Cert.RefPwOneXIdeal.main_arg4) = m ((c.tc : Thread Cert.PwOneXIdeal.nD Cert.PwOneXIdeal.τ).loc Cert.PwOneXIdeal.main_arg4)
      ∧ m' ((c.tc : Thread Cert.RefPwOneXIdeal.nD Cert.RefPwOneXIdeal.τ).loc Cert.RefPwOneXIdeal.main_arg5) = m ((c.tc : Thread Cert.PwOneXIdeal.nD Cert.PwOneXIdeal.τ).loc Cert.PwOneXIdeal.main_arg5)
      ∧ m' ((c.tc : Thread Cert.RefPwOneXIdeal.nD Cert.RefPwOneXIdeal.τ).loc Cert.RefPwOneXIdeal.main_arg6) = m ((c.tc : Thread Cert.PwOneXIdeal.nD Cert.PwOneXIdeal.τ).loc Cert.PwOneXIdeal.main_arg6)
      ∧ m' ((c.tc : Thread Cert.RefPwOneXIdeal.nD Cert.RefPwOneXIdeal.τ).loc Cert.RefPwOneXIdeal.main_arg7) = m ((c.tc : Thread Cert.PwOneXIdeal.nD Cert.PwOneXIdeal.τ).loc Cert.PwOneXIdeal.main_arg7)) →
    ∃ (v0 : (c : Dev Cert.PwOneXIdeal.nD) → Buf (Elt Ideal) ((c.tc : Thread Cert.PwOneXIdeal.nD Cert.PwOneXIdeal.τ).loc Cert.PwOneXIdeal.main_v0_0)) (v1 : (c : Dev Cert.PwOneXIdeal.nD) → Buf (Elt Ideal) ((c.tc : Thread Cert.PwOneXIdeal.nD Cert.PwOneXIdeal.τ).loc Cert.PwOneXIdeal.main_v0_1)) (v2 : (c : Dev Cert.PwOneXIdeal.nD) → Buf (Elt Ideal) ((c.tc : Thread Cert.PwOneXIdeal.nD Cert.PwOneXIdeal.τ).loc Cert.PwOneXIdeal.main_v0_2)) (v3 : (c : Dev Cert.PwOneXIdeal.nD) → Buf (Elt Ideal) ((c.tc : Thread Cert.PwOneXIdeal.nD Cert.PwOneXIdeal.τ).loc Cert.PwOneXIdeal.main_v0_3)) (v4 : (c : Dev Cert.PwOneXIdeal.nD) → Buf (Elt Ideal) ((c.tc : Thread Cert.PwOneXIdeal.nD Cert.PwOneXIdeal.τ).loc Cert.PwOneXIdeal.main_v0_4)) (v5 : (c : Dev Cert.PwOneXIdeal.nD) → Buf (Elt Ideal) ((c.tc : Thread Cert.PwOneXIdeal.nD Cert.PwOneXIdeal.τ).loc Cert.PwOneXIdeal.main_v0_5)) (v6 : (c : Dev Cert.PwOneXIdeal.nD) → Buf (Elt Ideal) ((c.tc : Thread Cert.PwOneXIdeal.nD Cert.PwOneXIdeal.τ).loc Cert.PwOneXIdeal.main_v0_6)),
      θ_run (Cert.PwOneXIdeal.defs (F := Ideal)) (onTc (τ := Cert.PwOneXIdeal.τ) (Cert.PwOneXIdeal.main (F := Ideal))) ⟨m, fun _ => 0, g⟩ (fun r => ∀ c : Dev Cert.PwOneXIdeal.nD,
          r.2.mem ((c.tc : Thread Cert.PwOneXIdeal.nD Cert.PwOneXIdeal.τ).loc Cert.PwOneXIdeal.main_v0_0) = v0 c
          ∧ r.2.mem ((c.tc : Thread Cert.PwOneXIdeal.nD Cert.PwOneXIdeal.τ).loc Cert.PwOneXIdeal.main_v0_1) = v1 c
          ∧ r.2.mem ((c.tc : Thread Cert.PwOneXIdeal.nD Cert.PwOneXIdeal.τ).loc Cert.PwOneXIdeal.main_v0_2) = v2 c
          ∧ r.2.mem ((c.tc : Thread Cert.PwOneXIdeal.nD Cert.PwOneXIdeal.τ).loc Cert.PwOneXIdeal.main_v0_3) = v3 c
          ∧ r.2.mem ((c.tc : Thread Cert.PwOneXIdeal.nD Cert.PwOneXIdeal.τ).loc Cert.PwOneXIdeal.main_v0_4) = v4 c
          ∧ r.2.mem ((c.tc : Thread Cert.PwOneXIdeal.nD Cert.PwOneXIdeal.τ).loc Cert.PwOneXIdeal.main_v0_5) = v5 c
          ∧ r.2.mem ((c.tc : Thread Cert.PwOneXIdeal.nD Cert.PwOneXIdeal.τ).loc Cert.PwOneXIdeal.main_v0_6) = v6 c
          ∧ r.2.mem ((c.tc : Thread Cert.PwOneXIdeal.nD Cert.PwOneXIdeal.τ).loc Cert.PwOneXIdeal.main_arg0) = m ((c.tc : Thread Cert.PwOneXIdeal.nD Cert.PwOneXIdeal.τ).loc Cert.PwOneXIdeal.main_arg0)
          ∧ r.2.mem ((c.tc : Thread Cert.PwOneXIdeal.nD Cert.PwOneXIdeal.τ).loc Cert.PwOneXIdeal.main_arg1) = m ((c.tc : Thread Cert.PwOneXIdeal.nD Cert.PwOneXIdeal.τ).loc Cert.PwOneXIdeal.main_arg1)
          ∧ r.2.mem ((c.tc : Thread Cert.PwOneXIdeal.nD Cert.PwOneXIdeal.τ).loc Cert.PwOneXIdeal.main_arg2) = m ((c.tc : Thread Cert.PwOneXIdeal.nD Cert.PwOneXIdeal.τ).loc Cert.PwOneXIdeal.main_arg2)
          ∧ r.2.mem ((c.tc : Thread Cert.PwOneXIdeal.nD Cert.PwOneXIdeal.τ).loc Cert.PwOneXIdeal.main_arg3) = m ((c.tc : Thread Cert.PwOneXIdeal.nD Cert.PwOneXIdeal.τ).loc Cert.PwOneXIdeal.main_arg3)
          ∧ r.2.mem ((c.tc : Thread Cert.PwOneXIdeal.nD Cert.PwOneXIdeal.τ).loc Cert.PwOneXIdeal.main_arg4) = m ((c.tc : Thread Cert.PwOneXIdeal.nD Cert.PwOneXIdeal.τ).loc Cert.PwOneXIdeal.main_arg4)
          ∧ r.2.mem ((c.tc : Thread Cert.PwOneXIdeal.nD Cert.PwOneXIdeal.τ).loc Cert.PwOneXIdeal.main_arg5) = m ((c.tc : Thread Cert.PwOneXIdeal.nD Cert.PwOneXIdeal.τ).loc Cert.PwOneXIdeal.main_arg5)
          ∧ r.2.mem ((c.tc : Thread Cert.PwOneXIdeal.nD Cert.PwOneXIdeal.τ).loc Cert.PwOneXIdeal.main_arg6) = m ((c.tc : Thread Cert.PwOneXIdeal.nD Cert.PwOneXIdeal.τ).loc Cert.PwOneXIdeal.main_arg6)
          ∧ r.2.mem ((c.tc : Thread Cert.PwOneXIdeal.nD Cert.PwOneXIdeal.τ).loc Cert.PwOneXIdeal.main_arg7) = m ((c.tc : Thread Cert.PwOneXIdeal.nD Cert.PwOneXIdeal.τ).loc Cert.PwOneXIdeal.main_arg7))
      ∧ θ_run (Cert.RefPwOneXIdeal.defs (F := Ideal)) (onTc (τ := Cert.RefPwOneXIdeal.τ) (Cert.RefPwOneXIdeal.main (F := Ideal))) ⟨m', fun _ => 0, g'⟩ (fun r => ∀ c : Dev Cert.RefPwOneXIdeal.nD,
          r.2.mem ((c.tc : Thread Cert.RefPwOneXIdeal.nD Cert.RefPwOneXIdeal.τ).loc Cert.RefPwOneXIdeal.main_v86) = v0 c
          ∧ r.2.mem ((c.tc : Thread Cert.RefPwOneXIdeal.nD Cert.RefPwOneXIdeal.τ).loc Cert.RefPwOneXIdeal.main_v46) = v1 c
          ∧ r.2.mem ((c.tc : Thread Cert.RefPwOneXIdeal.nD Cert.RefPwOneXIdeal.τ).loc Cert.RefPwOneXIdeal.main_v39) = v2 c
          ∧ r.2.mem ((c.tc : Thread Cert.RefPwOneXIdeal.nD Cert.RefPwOneXIdeal.τ).loc Cert.RefPwOneXIdeal.main_v87) = v3 c
          ∧ r.2.mem ((c.tc : Thread Cert.RefPwOneXIdeal.nD Cert.RefPwOneXIdeal.τ).loc Cert.RefPwOneXIdeal.main_v89) = v4 c
          ∧ r.2.mem ((c.tc : Thread Cert.RefPwOneXIdeal.nD Cert.RefPwOneXIdeal.τ).loc Cert.RefPwOneXIdeal.main_v85) = v5 c
          ∧ r.2.mem ((c.tc : Thread Cert.RefPwOneXIdeal.nD Cert.RefPwOneXIdeal.τ).loc Cert.RefPwOneXIdeal.main_v90) = v6 c
          ∧ r.2.mem ((c.tc : Thread Cert.RefPwOneXIdeal.nD Cert.RefPwOneXIdeal.τ).loc Cert.RefPwOneXIdeal.main_arg0) = m' ((c.tc : Thread Cert.RefPwOneXIdeal.nD Cert.RefPwOneXIdeal.τ).loc Cert.RefPwOneXIdeal.main_arg0)
          ∧ r.2.mem ((c.tc : Thread Cert.RefPwOneXIdeal.nD Cert.RefPwOneXIdeal.τ).loc Cert.RefPwOneXIdeal.main_arg1) = m' ((c.tc : Thread Cert.RefPwOneXIdeal.nD Cert.RefPwOneXIdeal.τ).loc Cert.RefPwOneXIdeal.main_arg1)
          ∧ r.2.mem ((c.tc : Thread Cert.RefPwOneXIdeal.nD Cert.RefPwOneXIdeal.τ).loc Cert.RefPwOneXIdeal.main_arg2) = m' ((c.tc : Thread Cert.RefPwOneXIdeal.nD Cert.RefPwOneXIdeal.τ).loc Cert.RefPwOneXIdeal.main_arg2)
          ∧ r.2.mem ((c.tc : Thread Cert.RefPwOneXIdeal.nD Cert.RefPwOneXIdeal.τ).loc Cert.RefPwOneXIdeal.main_arg3) = m' ((c.tc : Thread Cert.RefPwOneXIdeal.nD Cert.RefPwOneXIdeal.τ).loc Cert.RefPwOneXIdeal.main_arg3)
          ∧ r.2.mem ((c.tc : Thread Cert.RefPwOneXIdeal.nD Cert.RefPwOneXIdeal.τ).loc Cert.RefPwOneXIdeal.main_arg4) = m' ((c.tc : Thread Cert.RefPwOneXIdeal.nD Cert.RefPwOneXIdeal.τ).loc Cert.RefPwOneXIdeal.main_arg4)
          ∧ r.2.mem ((c.tc : Thread Cert.RefPwOneXIdeal.nD Cert.RefPwOneXIdeal.τ).loc Cert.RefPwOneXIdeal.main_arg5) = m' ((c.tc : Thread Cert.RefPwOneXIdeal.nD Cert.RefPwOneXIdeal.τ).loc Cert.RefPwOneXIdeal.main_arg5)
          ∧ r.2.mem ((c.tc : Thread Cert.RefPwOneXIdeal.nD Cert.RefPwOneXIdeal.τ).loc Cert.RefPwOneXIdeal.main_arg6) = m' ((c.tc : Thread Cert.RefPwOneXIdeal.nD Cert.RefPwOneXIdeal.τ).loc Cert.RefPwOneXIdeal.main_arg6)
          ∧ r.2.mem ((c.tc : Thread Cert.RefPwOneXIdeal.nD Cert.RefPwOneXIdeal.τ).loc Cert.RefPwOneXIdeal.main_arg7) = m' ((c.tc : Thread Cert.RefPwOneXIdeal.nD Cert.RefPwOneXIdeal.τ).loc Cert.RefPwOneXIdeal.main_arg7))

def preserves_PwTwoF_PwTwoFIdeal : Prop :=
  True

def algebraic_PwTwoFIdeal_RefPwTwoFIdeal [hPwTwoFIdeal : Cert.PwTwoFIdeal.Facts] [hRefPwTwoFIdeal : Cert.RefPwTwoFIdeal.Facts] : Prop :=
  ∀ (m : (ℓ : Loc Cert.PwTwoFIdeal.nD Cert.PwTwoFIdeal.τ Cert.PwTwoFIdeal.sig) → Buf (Elt Ideal) ℓ) (g : Dev Cert.PwTwoFIdeal.nD → PrngReg)
    (m' : (ℓ : Loc Cert.RefPwTwoFIdeal.nD Cert.RefPwTwoFIdeal.τ Cert.RefPwTwoFIdeal.sig) → Buf (Elt Ideal) ℓ) (g' : Dev Cert.RefPwTwoFIdeal.nD → PrngReg), Pre_PwTwoFIdeal m →
    (∀ c : Dev Cert.PwTwoFIdeal.nD,
      m' ((c.tc : Thread Cert.RefPwTwoFIdeal.nD Cert.RefPwTwoFIdeal.τ).loc Cert.RefPwTwoFIdeal.main_arg0) = m ((c.tc : Thread Cert.PwTwoFIdeal.nD Cert.PwTwoFIdeal.τ).loc Cert.PwTwoFIdeal.main_arg0)
      ∧ m' ((c.tc : Thread Cert.RefPwTwoFIdeal.nD Cert.RefPwTwoFIdeal.τ).loc Cert.RefPwTwoFIdeal.main_arg1) = m ((c.tc : Thread Cert.PwTwoFIdeal.nD Cert.PwTwoFIdeal.τ).loc Cert.PwTwoFIdeal.main_arg1)
      ∧ m' ((c.tc : Thread Cert.RefPwTwoFIdeal.nD Cert.RefPwTwoFIdeal.τ).loc Cert.RefPwTwoFIdeal.main_arg2) = m ((c.tc : Thread Cert.PwTwoFIdeal.nD Cert.PwTwoFIdeal.τ).loc Cert.PwTwoFIdeal.main_arg2)
      ∧ m' ((c.tc : Thread Cert.RefPwTwoFIdeal.nD Cert.RefPwTwoFIdeal.τ).loc Cert.RefPwTwoFIdeal.main_arg3) = m ((c.tc : Thread Cert.PwTwoFIdeal.nD Cert.PwTwoFIdeal.τ).loc Cert.PwTwoFIdeal.main_arg3)
      ∧ m' ((c.tc : Thread Cert.RefPwTwoFIdeal.nD Cert.RefPwTwoFIdeal.τ).loc Cert.RefPwTwoFIdeal.main_arg4) = m ((c.tc : Thread Cert.PwTwoFIdeal.nD Cert.PwTwoFIdeal.τ).loc Cert.PwTwoFIdeal.main_arg4)
      ∧ m' ((c.tc : Thread Cert.RefPwTwoFIdeal.nD Cert.RefPwTwoFIdeal.τ).loc Cert.RefPwTwoFIdeal.main_arg5) = m ((c.tc : Thread Cert.PwTwoFIdeal.nD Cert.PwTwoFIdeal.τ).loc Cert.PwTwoFIdeal.main_arg5)
      ∧ m' ((c.tc : Thread Cert.RefPwTwoFIdeal.nD Cert.RefPwTwoFIdeal.τ).loc Cert.RefPwTwoFIdeal.main_arg6) = m ((c.tc : Thread Cert.PwTwoFIdeal.nD Cert.PwTwoFIdeal.τ).loc Cert.PwTwoFIdeal.main_arg6)) →
    ∃ (v0 : (c : Dev Cert.PwTwoFIdeal.nD) → Buf (Elt Ideal) ((c.tc : Thread Cert.PwTwoFIdeal.nD Cert.PwTwoFIdeal.τ).loc Cert.PwTwoFIdeal.main_v0_0)) (v1 : (c : Dev Cert.PwTwoFIdeal.nD) → Buf (Elt Ideal) ((c.tc : Thread Cert.PwTwoFIdeal.nD Cert.PwTwoFIdeal.τ).loc Cert.PwTwoFIdeal.main_v0_1)),
      θ_run (Cert.PwTwoFIdeal.defs (F := Ideal)) (onTc (τ := Cert.PwTwoFIdeal.τ) (Cert.PwTwoFIdeal.main (F := Ideal))) ⟨m, fun _ => 0, g⟩ (fun r => ∀ c : Dev Cert.PwTwoFIdeal.nD,
          r.2.mem ((c.tc : Thread Cert.PwTwoFIdeal.nD Cert.PwTwoFIdeal.τ).loc Cert.PwTwoFIdeal.main_v0_0) = v0 c
          ∧ r.2.mem ((c.tc : Thread Cert.PwTwoFIdeal.nD Cert.PwTwoFIdeal.τ).loc Cert.PwTwoFIdeal.main_v0_1) = v1 c
          ∧ r.2.mem ((c.tc : Thread Cert.PwTwoFIdeal.nD Cert.PwTwoFIdeal.τ).loc Cert.PwTwoFIdeal.main_arg0) = m ((c.tc : Thread Cert.PwTwoFIdeal.nD Cert.PwTwoFIdeal.τ).loc Cert.PwTwoFIdeal.main_arg0)
          ∧ r.2.mem ((c.tc : Thread Cert.PwTwoFIdeal.nD Cert.PwTwoFIdeal.τ).loc Cert.PwTwoFIdeal.main_arg1) = m ((c.tc : Thread Cert.PwTwoFIdeal.nD Cert.PwTwoFIdeal.τ).loc Cert.PwTwoFIdeal.main_arg1)
          ∧ r.2.mem ((c.tc : Thread Cert.PwTwoFIdeal.nD Cert.PwTwoFIdeal.τ).loc Cert.PwTwoFIdeal.main_arg2) = m ((c.tc : Thread Cert.PwTwoFIdeal.nD Cert.PwTwoFIdeal.τ).loc Cert.PwTwoFIdeal.main_arg2)
          ∧ r.2.mem ((c.tc : Thread Cert.PwTwoFIdeal.nD Cert.PwTwoFIdeal.τ).loc Cert.PwTwoFIdeal.main_arg3) = m ((c.tc : Thread Cert.PwTwoFIdeal.nD Cert.PwTwoFIdeal.τ).loc Cert.PwTwoFIdeal.main_arg3)
          ∧ r.2.mem ((c.tc : Thread Cert.PwTwoFIdeal.nD Cert.PwTwoFIdeal.τ).loc Cert.PwTwoFIdeal.main_arg4) = m ((c.tc : Thread Cert.PwTwoFIdeal.nD Cert.PwTwoFIdeal.τ).loc Cert.PwTwoFIdeal.main_arg4)
          ∧ r.2.mem ((c.tc : Thread Cert.PwTwoFIdeal.nD Cert.PwTwoFIdeal.τ).loc Cert.PwTwoFIdeal.main_arg5) = m ((c.tc : Thread Cert.PwTwoFIdeal.nD Cert.PwTwoFIdeal.τ).loc Cert.PwTwoFIdeal.main_arg5)
          ∧ r.2.mem ((c.tc : Thread Cert.PwTwoFIdeal.nD Cert.PwTwoFIdeal.τ).loc Cert.PwTwoFIdeal.main_arg6) = m ((c.tc : Thread Cert.PwTwoFIdeal.nD Cert.PwTwoFIdeal.τ).loc Cert.PwTwoFIdeal.main_arg6))
      ∧ θ_run (Cert.RefPwTwoFIdeal.defs (F := Ideal)) (onTc (τ := Cert.RefPwTwoFIdeal.τ) (Cert.RefPwTwoFIdeal.main (F := Ideal))) ⟨m', fun _ => 0, g'⟩ (fun r => ∀ c : Dev Cert.RefPwTwoFIdeal.nD,
          r.2.mem ((c.tc : Thread Cert.RefPwTwoFIdeal.nD Cert.RefPwTwoFIdeal.τ).loc Cert.RefPwTwoFIdeal.main_v39) = v0 c
          ∧ r.2.mem ((c.tc : Thread Cert.RefPwTwoFIdeal.nD Cert.RefPwTwoFIdeal.τ).loc Cert.RefPwTwoFIdeal.main_v41) = v1 c
          ∧ r.2.mem ((c.tc : Thread Cert.RefPwTwoFIdeal.nD Cert.RefPwTwoFIdeal.τ).loc Cert.RefPwTwoFIdeal.main_arg0) = m' ((c.tc : Thread Cert.RefPwTwoFIdeal.nD Cert.RefPwTwoFIdeal.τ).loc Cert.RefPwTwoFIdeal.main_arg0)
          ∧ r.2.mem ((c.tc : Thread Cert.RefPwTwoFIdeal.nD Cert.RefPwTwoFIdeal.τ).loc Cert.RefPwTwoFIdeal.main_arg1) = m' ((c.tc : Thread Cert.RefPwTwoFIdeal.nD Cert.RefPwTwoFIdeal.τ).loc Cert.RefPwTwoFIdeal.main_arg1)
          ∧ r.2.mem ((c.tc : Thread Cert.RefPwTwoFIdeal.nD Cert.RefPwTwoFIdeal.τ).loc Cert.RefPwTwoFIdeal.main_arg2) = m' ((c.tc : Thread Cert.RefPwTwoFIdeal.nD Cert.RefPwTwoFIdeal.τ).loc Cert.RefPwTwoFIdeal.main_arg2)
          ∧ r.2.mem ((c.tc : Thread Cert.RefPwTwoFIdeal.nD Cert.RefPwTwoFIdeal.τ).loc Cert.RefPwTwoFIdeal.main_arg3) = m' ((c.tc : Thread Cert.RefPwTwoFIdeal.nD Cert.RefPwTwoFIdeal.τ).loc Cert.RefPwTwoFIdeal.main_arg3)
          ∧ r.2.mem ((c.tc : Thread Cert.RefPwTwoFIdeal.nD Cert.RefPwTwoFIdeal.τ).loc Cert.RefPwTwoFIdeal.main_arg4) = m' ((c.tc : Thread Cert.RefPwTwoFIdeal.nD Cert.RefPwTwoFIdeal.τ).loc Cert.RefPwTwoFIdeal.main_arg4)
          ∧ r.2.mem ((c.tc : Thread Cert.RefPwTwoFIdeal.nD Cert.RefPwTwoFIdeal.τ).loc Cert.RefPwTwoFIdeal.main_arg5) = m' ((c.tc : Thread Cert.RefPwTwoFIdeal.nD Cert.RefPwTwoFIdeal.τ).loc Cert.RefPwTwoFIdeal.main_arg5)
          ∧ r.2.mem ((c.tc : Thread Cert.RefPwTwoFIdeal.nD Cert.RefPwTwoFIdeal.τ).loc Cert.RefPwTwoFIdeal.main_arg6) = m' ((c.tc : Thread Cert.RefPwTwoFIdeal.nD Cert.RefPwTwoFIdeal.τ).loc Cert.RefPwTwoFIdeal.main_arg6))

def preserves_PwTwoW_PwTwoWIdeal : Prop :=
  True

def algebraic_PwTwoWIdeal_RefPwTwoWIdeal [hPwTwoWIdeal : Cert.PwTwoWIdeal.Facts] [hRefPwTwoWIdeal : Cert.RefPwTwoWIdeal.Facts] : Prop :=
  ∀ (m : (ℓ : Loc Cert.PwTwoWIdeal.nD Cert.PwTwoWIdeal.τ Cert.PwTwoWIdeal.sig) → Buf (Elt Ideal) ℓ) (g : Dev Cert.PwTwoWIdeal.nD → PrngReg)
    (m' : (ℓ : Loc Cert.RefPwTwoWIdeal.nD Cert.RefPwTwoWIdeal.τ Cert.RefPwTwoWIdeal.sig) → Buf (Elt Ideal) ℓ) (g' : Dev Cert.RefPwTwoWIdeal.nD → PrngReg), Pre_PwTwoWIdeal m →
    (∀ c : Dev Cert.PwTwoWIdeal.nD,
      m' ((c.tc : Thread Cert.RefPwTwoWIdeal.nD Cert.RefPwTwoWIdeal.τ).loc Cert.RefPwTwoWIdeal.main_arg0) = m ((c.tc : Thread Cert.PwTwoWIdeal.nD Cert.PwTwoWIdeal.τ).loc Cert.PwTwoWIdeal.main_arg0)
      ∧ m' ((c.tc : Thread Cert.RefPwTwoWIdeal.nD Cert.RefPwTwoWIdeal.τ).loc Cert.RefPwTwoWIdeal.main_arg1) = m ((c.tc : Thread Cert.PwTwoWIdeal.nD Cert.PwTwoWIdeal.τ).loc Cert.PwTwoWIdeal.main_arg1)
      ∧ m' ((c.tc : Thread Cert.RefPwTwoWIdeal.nD Cert.RefPwTwoWIdeal.τ).loc Cert.RefPwTwoWIdeal.main_arg2) = m ((c.tc : Thread Cert.PwTwoWIdeal.nD Cert.PwTwoWIdeal.τ).loc Cert.PwTwoWIdeal.main_arg2)
      ∧ m' ((c.tc : Thread Cert.RefPwTwoWIdeal.nD Cert.RefPwTwoWIdeal.τ).loc Cert.RefPwTwoWIdeal.main_arg3) = m ((c.tc : Thread Cert.PwTwoWIdeal.nD Cert.PwTwoWIdeal.τ).loc Cert.PwTwoWIdeal.main_arg3)) →
    ∃ (v0 : (c : Dev Cert.PwTwoWIdeal.nD) → Buf (Elt Ideal) ((c.tc : Thread Cert.PwTwoWIdeal.nD Cert.PwTwoWIdeal.τ).loc Cert.PwTwoWIdeal.main_v0)),
      θ_run (Cert.PwTwoWIdeal.defs (F := Ideal)) (onTc (τ := Cert.PwTwoWIdeal.τ) (Cert.PwTwoWIdeal.main (F := Ideal))) ⟨m, fun _ => 0, g⟩ (fun r => ∀ c : Dev Cert.PwTwoWIdeal.nD,
          r.2.mem ((c.tc : Thread Cert.PwTwoWIdeal.nD Cert.PwTwoWIdeal.τ).loc Cert.PwTwoWIdeal.main_v0) = v0 c
          ∧ r.2.mem ((c.tc : Thread Cert.PwTwoWIdeal.nD Cert.PwTwoWIdeal.τ).loc Cert.PwTwoWIdeal.main_arg0) = m ((c.tc : Thread Cert.PwTwoWIdeal.nD Cert.PwTwoWIdeal.τ).loc Cert.PwTwoWIdeal.main_arg0)
          ∧ r.2.mem ((c.tc : Thread Cert.PwTwoWIdeal.nD Cert.PwTwoWIdeal.τ).loc Cert.PwTwoWIdeal.main_arg1) = m ((c.tc : Thread Cert.PwTwoWIdeal.nD Cert.PwTwoWIdeal.τ).loc Cert.PwTwoWIdeal.main_arg1)
          ∧ r.2.mem ((c.tc : Thread Cert.PwTwoWIdeal.nD Cert.PwTwoWIdeal.τ).loc Cert.PwTwoWIdeal.main_arg2) = m ((c.tc : Thread Cert.PwTwoWIdeal.nD Cert.PwTwoWIdeal.τ).loc Cert.PwTwoWIdeal.main_arg2)
          ∧ r.2.mem ((c.tc : Thread Cert.PwTwoWIdeal.nD Cert.PwTwoWIdeal.τ).loc Cert.PwTwoWIdeal.main_arg3) = m ((c.tc : Thread Cert.PwTwoWIdeal.nD Cert.PwTwoWIdeal.τ).loc Cert.PwTwoWIdeal.main_arg3))
      ∧ θ_run (Cert.RefPwTwoWIdeal.defs (F := Ideal)) (onTc (τ := Cert.RefPwTwoWIdeal.τ) (Cert.RefPwTwoWIdeal.main (F := Ideal))) ⟨m', fun _ => 0, g'⟩ (fun r => ∀ c : Dev Cert.RefPwTwoWIdeal.nD,
          r.2.mem ((c.tc : Thread Cert.RefPwTwoWIdeal.nD Cert.RefPwTwoWIdeal.τ).loc Cert.RefPwTwoWIdeal.main_v32) = v0 c
          ∧ r.2.mem ((c.tc : Thread Cert.RefPwTwoWIdeal.nD Cert.RefPwTwoWIdeal.τ).loc Cert.RefPwTwoWIdeal.main_arg0) = m' ((c.tc : Thread Cert.RefPwTwoWIdeal.nD Cert.RefPwTwoWIdeal.τ).loc Cert.RefPwTwoWIdeal.main_arg0)
          ∧ r.2.mem ((c.tc : Thread Cert.RefPwTwoWIdeal.nD Cert.RefPwTwoWIdeal.τ).loc Cert.RefPwTwoWIdeal.main_arg1) = m' ((c.tc : Thread Cert.RefPwTwoWIdeal.nD Cert.RefPwTwoWIdeal.τ).loc Cert.RefPwTwoWIdeal.main_arg1)
          ∧ r.2.mem ((c.tc : Thread Cert.RefPwTwoWIdeal.nD Cert.RefPwTwoWIdeal.τ).loc Cert.RefPwTwoWIdeal.main_arg2) = m' ((c.tc : Thread Cert.RefPwTwoWIdeal.nD Cert.RefPwTwoWIdeal.τ).loc Cert.RefPwTwoWIdeal.main_arg2)
          ∧ r.2.mem ((c.tc : Thread Cert.RefPwTwoWIdeal.nD Cert.RefPwTwoWIdeal.τ).loc Cert.RefPwTwoWIdeal.main_arg3) = m' ((c.tc : Thread Cert.RefPwTwoWIdeal.nD Cert.RefPwTwoWIdeal.τ).loc Cert.RefPwTwoWIdeal.main_arg3))

def preserves_PwOneZ_PwOneZIdeal : Prop :=
  True

def algebraic_PwOneZIdeal_RefPwOneZIdeal [hPwOneZIdeal : Cert.PwOneZIdeal.Facts] [hRefPwOneZIdeal : Cert.RefPwOneZIdeal.Facts] : Prop :=
  ∀ (m : (ℓ : Loc Cert.PwOneZIdeal.nD Cert.PwOneZIdeal.τ Cert.PwOneZIdeal.sig) → Buf (Elt Ideal) ℓ) (g : Dev Cert.PwOneZIdeal.nD → PrngReg)
    (m' : (ℓ : Loc Cert.RefPwOneZIdeal.nD Cert.RefPwOneZIdeal.τ Cert.RefPwOneZIdeal.sig) → Buf (Elt Ideal) ℓ) (g' : Dev Cert.RefPwOneZIdeal.nD → PrngReg), Pre_PwOneZIdeal m →
    (∀ c : Dev Cert.PwOneZIdeal.nD,
      m' ((c.tc : Thread Cert.RefPwOneZIdeal.nD Cert.RefPwOneZIdeal.τ).loc Cert.RefPwOneZIdeal.main_arg0) = m ((c.tc : Thread Cert.PwOneZIdeal.nD Cert.PwOneZIdeal.τ).loc Cert.PwOneZIdeal.main_arg0)
      ∧ m' ((c.tc : Thread Cert.RefPwOneZIdeal.nD Cert.RefPwOneZIdeal.τ).loc Cert.RefPwOneZIdeal.main_arg1) = m ((c.tc : Thread Cert.PwOneZIdeal.nD Cert.PwOneZIdeal.τ).loc Cert.PwOneZIdeal.main_arg1)
      ∧ m' ((c.tc : Thread Cert.RefPwOneZIdeal.nD Cert.RefPwOneZIdeal.τ).loc Cert.RefPwOneZIdeal.main_arg2) = m ((c.tc : Thread Cert.PwOneZIdeal.nD Cert.PwOneZIdeal.τ).loc Cert.PwOneZIdeal.main_arg2)
      ∧ m' ((c.tc : Thread Cert.RefPwOneZIdeal.nD Cert.RefPwOneZIdeal.τ).loc Cert.RefPwOneZIdeal.main_arg3) = m ((c.tc : Thread Cert.PwOneZIdeal.nD Cert.PwOneZIdeal.τ).loc Cert.PwOneZIdeal.main_arg3)
      ∧ m' ((c.tc : Thread Cert.RefPwOneZIdeal.nD Cert.RefPwOneZIdeal.τ).loc Cert.RefPwOneZIdeal.main_arg4) = m ((c.tc : Thread Cert.PwOneZIdeal.nD Cert.PwOneZIdeal.τ).loc Cert.PwOneZIdeal.main_arg4)
      ∧ m' ((c.tc : Thread Cert.RefPwOneZIdeal.nD Cert.RefPwOneZIdeal.τ).loc Cert.RefPwOneZIdeal.main_arg5) = m ((c.tc : Thread Cert.PwOneZIdeal.nD Cert.PwOneZIdeal.τ).loc Cert.PwOneZIdeal.main_arg5)) →
    ∃ (v0 : (c : Dev Cert.PwOneZIdeal.nD) → Buf (Elt Ideal) ((c.tc : Thread Cert.PwOneZIdeal.nD Cert.PwOneZIdeal.τ).loc Cert.PwOneZIdeal.main_v0_0)) (v1 : (c : Dev Cert.PwOneZIdeal.nD) → Buf (Elt Ideal) ((c.tc : Thread Cert.PwOneZIdeal.nD Cert.PwOneZIdeal.τ).loc Cert.PwOneZIdeal.main_v0_1)) (v2 : (c : Dev Cert.PwOneZIdeal.nD) → Buf (Elt Ideal) ((c.tc : Thread Cert.PwOneZIdeal.nD Cert.PwOneZIdeal.τ).loc Cert.PwOneZIdeal.main_v0_2)) (v3 : (c : Dev Cert.PwOneZIdeal.nD) → Buf (Elt Ideal) ((c.tc : Thread Cert.PwOneZIdeal.nD Cert.PwOneZIdeal.τ).loc Cert.PwOneZIdeal.main_v0_3)),
      θ_run (Cert.PwOneZIdeal.defs (F := Ideal)) (onTc (τ := Cert.PwOneZIdeal.τ) (Cert.PwOneZIdeal.main (F := Ideal))) ⟨m, fun _ => 0, g⟩ (fun r => ∀ c : Dev Cert.PwOneZIdeal.nD,
          r.2.mem ((c.tc : Thread Cert.PwOneZIdeal.nD Cert.PwOneZIdeal.τ).loc Cert.PwOneZIdeal.main_v0_0) = v0 c
          ∧ r.2.mem ((c.tc : Thread Cert.PwOneZIdeal.nD Cert.PwOneZIdeal.τ).loc Cert.PwOneZIdeal.main_v0_1) = v1 c
          ∧ r.2.mem ((c.tc : Thread Cert.PwOneZIdeal.nD Cert.PwOneZIdeal.τ).loc Cert.PwOneZIdeal.main_v0_2) = v2 c
          ∧ r.2.mem ((c.tc : Thread Cert.PwOneZIdeal.nD Cert.PwOneZIdeal.τ).loc Cert.PwOneZIdeal.main_v0_3) = v3 c
          ∧ r.2.mem ((c.tc : Thread Cert.PwOneZIdeal.nD Cert.PwOneZIdeal.τ).loc Cert.PwOneZIdeal.main_arg0) = m ((c.tc : Thread Cert.PwOneZIdeal.nD Cert.PwOneZIdeal.τ).loc Cert.PwOneZIdeal.main_arg0)
          ∧ r.2.mem ((c.tc : Thread Cert.PwOneZIdeal.nD Cert.PwOneZIdeal.τ).loc Cert.PwOneZIdeal.main_arg1) = m ((c.tc : Thread Cert.PwOneZIdeal.nD Cert.PwOneZIdeal.τ).loc Cert.PwOneZIdeal.main_arg1)
          ∧ r.2.mem ((c.tc : Thread Cert.PwOneZIdeal.nD Cert.PwOneZIdeal.τ).loc Cert.PwOneZIdeal.main_arg2) = m ((c.tc : Thread Cert.PwOneZIdeal.nD Cert.PwOneZIdeal.τ).loc Cert.PwOneZIdeal.main_arg2)
          ∧ r.2.mem ((c.tc : Thread Cert.PwOneZIdeal.nD Cert.PwOneZIdeal.τ).loc Cert.PwOneZIdeal.main_arg3) = m ((c.tc : Thread Cert.PwOneZIdeal.nD Cert.PwOneZIdeal.τ).loc Cert.PwOneZIdeal.main_arg3)
          ∧ r.2.mem ((c.tc : Thread Cert.PwOneZIdeal.nD Cert.PwOneZIdeal.τ).loc Cert.PwOneZIdeal.main_arg4) = m ((c.tc : Thread Cert.PwOneZIdeal.nD Cert.PwOneZIdeal.τ).loc Cert.PwOneZIdeal.main_arg4)
          ∧ r.2.mem ((c.tc : Thread Cert.PwOneZIdeal.nD Cert.PwOneZIdeal.τ).loc Cert.PwOneZIdeal.main_arg5) = m ((c.tc : Thread Cert.PwOneZIdeal.nD Cert.PwOneZIdeal.τ).loc Cert.PwOneZIdeal.main_arg5))
      ∧ θ_run (Cert.RefPwOneZIdeal.defs (F := Ideal)) (onTc (τ := Cert.RefPwOneZIdeal.τ) (Cert.RefPwOneZIdeal.main (F := Ideal))) ⟨m', fun _ => 0, g'⟩ (fun r => ∀ c : Dev Cert.RefPwOneZIdeal.nD,
          r.2.mem ((c.tc : Thread Cert.RefPwOneZIdeal.nD Cert.RefPwOneZIdeal.τ).loc Cert.RefPwOneZIdeal.main_v67) = v0 c
          ∧ r.2.mem ((c.tc : Thread Cert.RefPwOneZIdeal.nD Cert.RefPwOneZIdeal.τ).loc Cert.RefPwOneZIdeal.main_v44) = v1 c
          ∧ r.2.mem ((c.tc : Thread Cert.RefPwOneZIdeal.nD Cert.RefPwOneZIdeal.τ).loc Cert.RefPwOneZIdeal.main_v37) = v2 c
          ∧ r.2.mem ((c.tc : Thread Cert.RefPwOneZIdeal.nD Cert.RefPwOneZIdeal.τ).loc Cert.RefPwOneZIdeal.main_v68) = v3 c
          ∧ r.2.mem ((c.tc : Thread Cert.RefPwOneZIdeal.nD Cert.RefPwOneZIdeal.τ).loc Cert.RefPwOneZIdeal.main_arg0) = m' ((c.tc : Thread Cert.RefPwOneZIdeal.nD Cert.RefPwOneZIdeal.τ).loc Cert.RefPwOneZIdeal.main_arg0)
          ∧ r.2.mem ((c.tc : Thread Cert.RefPwOneZIdeal.nD Cert.RefPwOneZIdeal.τ).loc Cert.RefPwOneZIdeal.main_arg1) = m' ((c.tc : Thread Cert.RefPwOneZIdeal.nD Cert.RefPwOneZIdeal.τ).loc Cert.RefPwOneZIdeal.main_arg1)
          ∧ r.2.mem ((c.tc : Thread Cert.RefPwOneZIdeal.nD Cert.RefPwOneZIdeal.τ).loc Cert.RefPwOneZIdeal.main_arg2) = m' ((c.tc : Thread Cert.RefPwOneZIdeal.nD Cert.RefPwOneZIdeal.τ).loc Cert.RefPwOneZIdeal.main_arg2)
          ∧ r.2.mem ((c.tc : Thread Cert.RefPwOneZIdeal.nD Cert.RefPwOneZIdeal.τ).loc Cert.RefPwOneZIdeal.main_arg3) = m' ((c.tc : Thread Cert.RefPwOneZIdeal.nD Cert.RefPwOneZIdeal.τ).loc Cert.RefPwOneZIdeal.main_arg3)
          ∧ r.2.mem ((c.tc : Thread Cert.RefPwOneZIdeal.nD Cert.RefPwOneZIdeal.τ).loc Cert.RefPwOneZIdeal.main_arg4) = m' ((c.tc : Thread Cert.RefPwOneZIdeal.nD Cert.RefPwOneZIdeal.τ).loc Cert.RefPwOneZIdeal.main_arg4)
          ∧ r.2.mem ((c.tc : Thread Cert.RefPwOneZIdeal.nD Cert.RefPwOneZIdeal.τ).loc Cert.RefPwOneZIdeal.main_arg5) = m' ((c.tc : Thread Cert.RefPwOneZIdeal.nD Cert.RefPwOneZIdeal.τ).loc Cert.RefPwOneZIdeal.main_arg5))

def preserves_PwTwoX_PwTwoXIdeal : Prop :=
  True

def algebraic_PwTwoXIdeal_RefPwTwoXIdeal_pre_pw2_x_finite [hPwTwoXIdeal : Cert.PwTwoXIdeal.Facts] [hRefPwTwoXIdeal : Cert.RefPwTwoXIdeal.Facts] [hPre_pw2_x_finite : Cert.Pre_pw2_x_finite.Facts] : Prop :=
  ∀ (m : (ℓ : Loc Cert.PwTwoXIdeal.nD Cert.PwTwoXIdeal.τ Cert.PwTwoXIdeal.sig) → Buf (Elt Ideal) ℓ) (g : Dev Cert.PwTwoXIdeal.nD → PrngReg)
    (m' : (ℓ : Loc Cert.RefPwTwoXIdeal.nD Cert.RefPwTwoXIdeal.τ Cert.RefPwTwoXIdeal.sig) → Buf (Elt Ideal) ℓ) (g' : Dev Cert.RefPwTwoXIdeal.nD → PrngReg), Pre_PwTwoXIdeal_pw2_x_finite m →
    (∀ c : Dev Cert.PwTwoXIdeal.nD,
      m' ((c.tc : Thread Cert.RefPwTwoXIdeal.nD Cert.RefPwTwoXIdeal.τ).loc Cert.RefPwTwoXIdeal.main_arg0) = m ((c.tc : Thread Cert.PwTwoXIdeal.nD Cert.PwTwoXIdeal.τ).loc Cert.PwTwoXIdeal.main_arg0)
      ∧ m' ((c.tc : Thread Cert.RefPwTwoXIdeal.nD Cert.RefPwTwoXIdeal.τ).loc Cert.RefPwTwoXIdeal.main_arg1) = m ((c.tc : Thread Cert.PwTwoXIdeal.nD Cert.PwTwoXIdeal.τ).loc Cert.PwTwoXIdeal.main_arg1)
      ∧ m' ((c.tc : Thread Cert.RefPwTwoXIdeal.nD Cert.RefPwTwoXIdeal.τ).loc Cert.RefPwTwoXIdeal.main_arg2) = m ((c.tc : Thread Cert.PwTwoXIdeal.nD Cert.PwTwoXIdeal.τ).loc Cert.PwTwoXIdeal.main_arg2)
      ∧ m' ((c.tc : Thread Cert.RefPwTwoXIdeal.nD Cert.RefPwTwoXIdeal.τ).loc Cert.RefPwTwoXIdeal.main_arg3) = m ((c.tc : Thread Cert.PwTwoXIdeal.nD Cert.PwTwoXIdeal.τ).loc Cert.PwTwoXIdeal.main_arg3)
      ∧ m' ((c.tc : Thread Cert.RefPwTwoXIdeal.nD Cert.RefPwTwoXIdeal.τ).loc Cert.RefPwTwoXIdeal.main_arg4) = m ((c.tc : Thread Cert.PwTwoXIdeal.nD Cert.PwTwoXIdeal.τ).loc Cert.PwTwoXIdeal.main_arg4)) →
    ∃ (v0 : (c : Dev Cert.PwTwoXIdeal.nD) → Buf (Elt Ideal) ((c.tc : Thread Cert.PwTwoXIdeal.nD Cert.PwTwoXIdeal.τ).loc Cert.PwTwoXIdeal.main_v0_0)) (v1 : (c : Dev Cert.PwTwoXIdeal.nD) → Buf (Elt Ideal) ((c.tc : Thread Cert.PwTwoXIdeal.nD Cert.PwTwoXIdeal.τ).loc Cert.PwTwoXIdeal.main_v0_1)) (v2 : (c : Dev Cert.PwTwoXIdeal.nD) → Buf (Elt Ideal) ((c.tc : Thread Cert.PwTwoXIdeal.nD Cert.PwTwoXIdeal.τ).loc Cert.PwTwoXIdeal.main_v0_2)) (v3 : (c : Dev Cert.PwTwoXIdeal.nD) → Buf (Elt Ideal) ((c.tc : Thread Cert.PwTwoXIdeal.nD Cert.PwTwoXIdeal.τ).loc Cert.PwTwoXIdeal.main_v0_3)),
      θ_run (Cert.PwTwoXIdeal.defs (F := Ideal)) (onTc (τ := Cert.PwTwoXIdeal.τ) (Cert.PwTwoXIdeal.main (F := Ideal))) ⟨m, fun _ => 0, g⟩ (fun r => ∀ c : Dev Cert.PwTwoXIdeal.nD,
          r.2.mem ((c.tc : Thread Cert.PwTwoXIdeal.nD Cert.PwTwoXIdeal.τ).loc Cert.PwTwoXIdeal.main_v0_0) = v0 c
          ∧ r.2.mem ((c.tc : Thread Cert.PwTwoXIdeal.nD Cert.PwTwoXIdeal.τ).loc Cert.PwTwoXIdeal.main_v0_1) = v1 c
          ∧ r.2.mem ((c.tc : Thread Cert.PwTwoXIdeal.nD Cert.PwTwoXIdeal.τ).loc Cert.PwTwoXIdeal.main_v0_2) = v2 c
          ∧ r.2.mem ((c.tc : Thread Cert.PwTwoXIdeal.nD Cert.PwTwoXIdeal.τ).loc Cert.PwTwoXIdeal.main_v0_3) = v3 c
          ∧ r.2.mem ((c.tc : Thread Cert.PwTwoXIdeal.nD Cert.PwTwoXIdeal.τ).loc Cert.PwTwoXIdeal.main_arg0) = m ((c.tc : Thread Cert.PwTwoXIdeal.nD Cert.PwTwoXIdeal.τ).loc Cert.PwTwoXIdeal.main_arg0)
          ∧ r.2.mem ((c.tc : Thread Cert.PwTwoXIdeal.nD Cert.PwTwoXIdeal.τ).loc Cert.PwTwoXIdeal.main_arg1) = m ((c.tc : Thread Cert.PwTwoXIdeal.nD Cert.PwTwoXIdeal.τ).loc Cert.PwTwoXIdeal.main_arg1)
          ∧ r.2.mem ((c.tc : Thread Cert.PwTwoXIdeal.nD Cert.PwTwoXIdeal.τ).loc Cert.PwTwoXIdeal.main_arg2) = m ((c.tc : Thread Cert.PwTwoXIdeal.nD Cert.PwTwoXIdeal.τ).loc Cert.PwTwoXIdeal.main_arg2)
          ∧ r.2.mem ((c.tc : Thread Cert.PwTwoXIdeal.nD Cert.PwTwoXIdeal.τ).loc Cert.PwTwoXIdeal.main_arg3) = m ((c.tc : Thread Cert.PwTwoXIdeal.nD Cert.PwTwoXIdeal.τ).loc Cert.PwTwoXIdeal.main_arg3)
          ∧ r.2.mem ((c.tc : Thread Cert.PwTwoXIdeal.nD Cert.PwTwoXIdeal.τ).loc Cert.PwTwoXIdeal.main_arg4) = m ((c.tc : Thread Cert.PwTwoXIdeal.nD Cert.PwTwoXIdeal.τ).loc Cert.PwTwoXIdeal.main_arg4))
      ∧ θ_run (Cert.RefPwTwoXIdeal.defs (F := Ideal)) (onTc (τ := Cert.RefPwTwoXIdeal.τ) (Cert.RefPwTwoXIdeal.main (F := Ideal))) ⟨m', fun _ => 0, g'⟩ (fun r => ∀ c : Dev Cert.RefPwTwoXIdeal.nD,
          r.2.mem ((c.tc : Thread Cert.RefPwTwoXIdeal.nD Cert.RefPwTwoXIdeal.τ).loc Cert.RefPwTwoXIdeal.main_v69) = v0 c
          ∧ r.2.mem ((c.tc : Thread Cert.RefPwTwoXIdeal.nD Cert.RefPwTwoXIdeal.τ).loc Cert.RefPwTwoXIdeal.main_v77) = v1 c
          ∧ r.2.mem ((c.tc : Thread Cert.RefPwTwoXIdeal.nD Cert.RefPwTwoXIdeal.τ).loc Cert.RefPwTwoXIdeal.main_v78) = v2 c
          ∧ r.2.mem ((c.tc : Thread Cert.RefPwTwoXIdeal.nD Cert.RefPwTwoXIdeal.τ).loc Cert.RefPwTwoXIdeal.main_v79) = v3 c
          ∧ r.2.mem ((c.tc : Thread Cert.RefPwTwoXIdeal.nD Cert.RefPwTwoXIdeal.τ).loc Cert.RefPwTwoXIdeal.main_arg0) = m' ((c.tc : Thread Cert.RefPwTwoXIdeal.nD Cert.RefPwTwoXIdeal.τ).loc Cert.RefPwTwoXIdeal.main_arg0)
          ∧ r.2.mem ((c.tc : Thread Cert.RefPwTwoXIdeal.nD Cert.RefPwTwoXIdeal.τ).loc Cert.RefPwTwoXIdeal.main_arg1) = m' ((c.tc : Thread Cert.RefPwTwoXIdeal.nD Cert.RefPwTwoXIdeal.τ).loc Cert.RefPwTwoXIdeal.main_arg1)
          ∧ r.2.mem ((c.tc : Thread Cert.RefPwTwoXIdeal.nD Cert.RefPwTwoXIdeal.τ).loc Cert.RefPwTwoXIdeal.main_arg2) = m' ((c.tc : Thread Cert.RefPwTwoXIdeal.nD Cert.RefPwTwoXIdeal.τ).loc Cert.RefPwTwoXIdeal.main_arg2)
          ∧ r.2.mem ((c.tc : Thread Cert.RefPwTwoXIdeal.nD Cert.RefPwTwoXIdeal.τ).loc Cert.RefPwTwoXIdeal.main_arg3) = m' ((c.tc : Thread Cert.RefPwTwoXIdeal.nD Cert.RefPwTwoXIdeal.τ).loc Cert.RefPwTwoXIdeal.main_arg3)
          ∧ r.2.mem ((c.tc : Thread Cert.RefPwTwoXIdeal.nD Cert.RefPwTwoXIdeal.τ).loc Cert.RefPwTwoXIdeal.main_arg4) = m' ((c.tc : Thread Cert.RefPwTwoXIdeal.nD Cert.RefPwTwoXIdeal.τ).loc Cert.RefPwTwoXIdeal.main_arg4))

def preserves_AdaF_AdaFIdeal : Prop :=
  True

def algebraic_AdaFIdeal_RefAdaFIdeal [hAdaFIdeal : Cert.AdaFIdeal.Facts] [hRefAdaFIdeal : Cert.RefAdaFIdeal.Facts] : Prop :=
  ∀ (m : (ℓ : Loc Cert.AdaFIdeal.nD Cert.AdaFIdeal.τ Cert.AdaFIdeal.sig) → Buf (Elt Ideal) ℓ) (g : Dev Cert.AdaFIdeal.nD → PrngReg)
    (m' : (ℓ : Loc Cert.RefAdaFIdeal.nD Cert.RefAdaFIdeal.τ Cert.RefAdaFIdeal.sig) → Buf (Elt Ideal) ℓ) (g' : Dev Cert.RefAdaFIdeal.nD → PrngReg), Pre_AdaFIdeal m →
    (∀ c : Dev Cert.AdaFIdeal.nD,
      m' ((c.tc : Thread Cert.RefAdaFIdeal.nD Cert.RefAdaFIdeal.τ).loc Cert.RefAdaFIdeal.main_arg0) = m ((c.tc : Thread Cert.AdaFIdeal.nD Cert.AdaFIdeal.τ).loc Cert.AdaFIdeal.main_arg0)
      ∧ m' ((c.tc : Thread Cert.RefAdaFIdeal.nD Cert.RefAdaFIdeal.τ).loc Cert.RefAdaFIdeal.main_arg1) = m ((c.tc : Thread Cert.AdaFIdeal.nD Cert.AdaFIdeal.τ).loc Cert.AdaFIdeal.main_arg1)) →
    ∃ (v0 : (c : Dev Cert.AdaFIdeal.nD) → Buf (Elt Ideal) ((c.tc : Thread Cert.AdaFIdeal.nD Cert.AdaFIdeal.τ).loc Cert.AdaFIdeal.main_v0)),
      θ_run (Cert.AdaFIdeal.defs (F := Ideal)) (onTc (τ := Cert.AdaFIdeal.τ) (Cert.AdaFIdeal.main (F := Ideal))) ⟨m, fun _ => 0, g⟩ (fun r => ∀ c : Dev Cert.AdaFIdeal.nD,
          r.2.mem ((c.tc : Thread Cert.AdaFIdeal.nD Cert.AdaFIdeal.τ).loc Cert.AdaFIdeal.main_v0) = v0 c
          ∧ r.2.mem ((c.tc : Thread Cert.AdaFIdeal.nD Cert.AdaFIdeal.τ).loc Cert.AdaFIdeal.main_arg0) = m ((c.tc : Thread Cert.AdaFIdeal.nD Cert.AdaFIdeal.τ).loc Cert.AdaFIdeal.main_arg0)
          ∧ r.2.mem ((c.tc : Thread Cert.AdaFIdeal.nD Cert.AdaFIdeal.τ).loc Cert.AdaFIdeal.main_arg1) = m ((c.tc : Thread Cert.AdaFIdeal.nD Cert.AdaFIdeal.τ).loc Cert.AdaFIdeal.main_arg1))
      ∧ θ_run (Cert.RefAdaFIdeal.defs (F := Ideal)) (onTc (τ := Cert.RefAdaFIdeal.τ) (Cert.RefAdaFIdeal.main (F := Ideal))) ⟨m', fun _ => 0, g'⟩ (fun r => ∀ c : Dev Cert.RefAdaFIdeal.nD,
          r.2.mem ((c.tc : Thread Cert.RefAdaFIdeal.nD Cert.RefAdaFIdeal.τ).loc Cert.RefAdaFIdeal.main_v2) = v0 c
          ∧ r.2.mem ((c.tc : Thread Cert.RefAdaFIdeal.nD Cert.RefAdaFIdeal.τ).loc Cert.RefAdaFIdeal.main_arg0) = m' ((c.tc : Thread Cert.RefAdaFIdeal.nD Cert.RefAdaFIdeal.τ).loc Cert.RefAdaFIdeal.main_arg0)
          ∧ r.2.mem ((c.tc : Thread Cert.RefAdaFIdeal.nD Cert.RefAdaFIdeal.τ).loc Cert.RefAdaFIdeal.main_arg1) = m' ((c.tc : Thread Cert.RefAdaFIdeal.nD Cert.RefAdaFIdeal.τ).loc Cert.RefAdaFIdeal.main_arg1))

def preserves_AdaW_AdaWIdeal : Prop :=
  True

def algebraic_AdaWIdeal_RefAdaWIdeal [hAdaWIdeal : Cert.AdaWIdeal.Facts] [hRefAdaWIdeal : Cert.RefAdaWIdeal.Facts] : Prop :=
  ∀ (m : (ℓ : Loc Cert.AdaWIdeal.nD Cert.AdaWIdeal.τ Cert.AdaWIdeal.sig) → Buf (Elt Ideal) ℓ) (g : Dev Cert.AdaWIdeal.nD → PrngReg)
    (m' : (ℓ : Loc Cert.RefAdaWIdeal.nD Cert.RefAdaWIdeal.τ Cert.RefAdaWIdeal.sig) → Buf (Elt Ideal) ℓ) (g' : Dev Cert.RefAdaWIdeal.nD → PrngReg), Pre_AdaWIdeal m →
    (∀ c : Dev Cert.AdaWIdeal.nD,
      m' ((c.tc : Thread Cert.RefAdaWIdeal.nD Cert.RefAdaWIdeal.τ).loc Cert.RefAdaWIdeal.main_arg0) = m ((c.tc : Thread Cert.AdaWIdeal.nD Cert.AdaWIdeal.τ).loc Cert.AdaWIdeal.main_arg0)
      ∧ m' ((c.tc : Thread Cert.RefAdaWIdeal.nD Cert.RefAdaWIdeal.τ).loc Cert.RefAdaWIdeal.main_arg1) = m ((c.tc : Thread Cert.AdaWIdeal.nD Cert.AdaWIdeal.τ).loc Cert.AdaWIdeal.main_arg1)) →
    ∃ (v0 : (c : Dev Cert.AdaWIdeal.nD) → Buf (Elt Ideal) ((c.tc : Thread Cert.AdaWIdeal.nD Cert.AdaWIdeal.τ).loc Cert.AdaWIdeal.main_v0)),
      θ_run (Cert.AdaWIdeal.defs (F := Ideal)) (onTc (τ := Cert.AdaWIdeal.τ) (Cert.AdaWIdeal.main (F := Ideal))) ⟨m, fun _ => 0, g⟩ (fun r => ∀ c : Dev Cert.AdaWIdeal.nD,
          r.2.mem ((c.tc : Thread Cert.AdaWIdeal.nD Cert.AdaWIdeal.τ).loc Cert.AdaWIdeal.main_v0) = v0 c
          ∧ r.2.mem ((c.tc : Thread Cert.AdaWIdeal.nD Cert.AdaWIdeal.τ).loc Cert.AdaWIdeal.main_arg0) = m ((c.tc : Thread Cert.AdaWIdeal.nD Cert.AdaWIdeal.τ).loc Cert.AdaWIdeal.main_arg0)
          ∧ r.2.mem ((c.tc : Thread Cert.AdaWIdeal.nD Cert.AdaWIdeal.τ).loc Cert.AdaWIdeal.main_arg1) = m ((c.tc : Thread Cert.AdaWIdeal.nD Cert.AdaWIdeal.τ).loc Cert.AdaWIdeal.main_arg1))
      ∧ θ_run (Cert.RefAdaWIdeal.defs (F := Ideal)) (onTc (τ := Cert.RefAdaWIdeal.τ) (Cert.RefAdaWIdeal.main (F := Ideal))) ⟨m', fun _ => 0, g'⟩ (fun r => ∀ c : Dev Cert.RefAdaWIdeal.nD,
          r.2.mem ((c.tc : Thread Cert.RefAdaWIdeal.nD Cert.RefAdaWIdeal.τ).loc Cert.RefAdaWIdeal.main_v6) = v0 c
          ∧ r.2.mem ((c.tc : Thread Cert.RefAdaWIdeal.nD Cert.RefAdaWIdeal.τ).loc Cert.RefAdaWIdeal.main_arg0) = m' ((c.tc : Thread Cert.RefAdaWIdeal.nD Cert.RefAdaWIdeal.τ).loc Cert.RefAdaWIdeal.main_arg0)
          ∧ r.2.mem ((c.tc : Thread Cert.RefAdaWIdeal.nD Cert.RefAdaWIdeal.τ).loc Cert.RefAdaWIdeal.main_arg1) = m' ((c.tc : Thread Cert.RefAdaWIdeal.nD Cert.RefAdaWIdeal.τ).loc Cert.RefAdaWIdeal.main_arg1))

def preserves_AdamA_AdamAIdeal : Prop :=
  True

def algebraic_AdamAIdeal_RefAdamAIdeal [hAdamAIdeal : Cert.AdamAIdeal.Facts] [hRefAdamAIdeal : Cert.RefAdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.RefAdamAIdeal.nD Cert.RefAdamAIdeal.τ Cert.RefAdamAIdeal.sig) → Buf (Elt Ideal) ℓ) (g' : Dev Cert.RefAdamAIdeal.nD → PrngReg), Pre_AdamAIdeal m →
    (∀ c : Dev Cert.AdamAIdeal.nD,
      m' ((c.tc : Thread Cert.RefAdamAIdeal.nD Cert.RefAdamAIdeal.τ).loc Cert.RefAdamAIdeal.main_arg0) = m ((c.tc : Thread Cert.AdamAIdeal.nD Cert.AdamAIdeal.τ).loc Cert.AdamAIdeal.main_arg0)
      ∧ m' ((c.tc : Thread Cert.RefAdamAIdeal.nD Cert.RefAdamAIdeal.τ).loc Cert.RefAdamAIdeal.main_arg1) = m ((c.tc : Thread Cert.AdamAIdeal.nD Cert.AdamAIdeal.τ).loc Cert.AdamAIdeal.main_arg1)
      ∧ m' ((c.tc : Thread Cert.RefAdamAIdeal.nD Cert.RefAdamAIdeal.τ).loc Cert.RefAdamAIdeal.main_arg2) = m ((c.tc : Thread Cert.AdamAIdeal.nD Cert.AdamAIdeal.τ).loc Cert.AdamAIdeal.main_arg2)
      ∧ m' ((c.tc : Thread Cert.RefAdamAIdeal.nD Cert.RefAdamAIdeal.τ).loc Cert.RefAdamAIdeal.main_arg3) = m ((c.tc : Thread Cert.AdamAIdeal.nD Cert.AdamAIdeal.τ).loc Cert.AdamAIdeal.main_arg3)) →
    ∃ (v0 : (c : Dev Cert.AdamAIdeal.nD) → Buf (Elt Ideal) ((c.tc : Thread Cert.AdamAIdeal.nD Cert.AdamAIdeal.τ).loc Cert.AdamAIdeal.main_v0_0)) (v1 : (c : Dev Cert.AdamAIdeal.nD) → Buf (Elt Ideal) ((c.tc : Thread Cert.AdamAIdeal.nD Cert.AdamAIdeal.τ).loc Cert.AdamAIdeal.main_v0_1)) (v2 : (c : Dev Cert.AdamAIdeal.nD) → Buf (Elt Ideal) ((c.tc : Thread Cert.AdamAIdeal.nD Cert.AdamAIdeal.τ).loc Cert.AdamAIdeal.main_v0_2)) (v3 : (c : Dev Cert.AdamAIdeal.nD) → Buf (Elt Ideal) ((c.tc : Thread Cert.AdamAIdeal.nD Cert.AdamAIdeal.τ).loc Cert.AdamAIdeal.main_v0_3)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v0_0) = v0 c
          ∧ r.2.mem ((c.tc : Thread Cert.AdamAIdeal.nD Cert.AdamAIdeal.τ).loc Cert.AdamAIdeal.main_v0_1) = v1 c
          ∧ r.2.mem ((c.tc : Thread Cert.AdamAIdeal.nD Cert.AdamAIdeal.τ).loc Cert.AdamAIdeal.main_v0_2) = v2 c
          ∧ r.2.mem ((c.tc : Thread Cert.AdamAIdeal.nD Cert.AdamAIdeal.τ).loc Cert.AdamAIdeal.main_v0_3) = v3 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3))
      ∧ θ_run (Cert.RefAdamAIdeal.defs (F := Ideal)) (onTc (τ := Cert.RefAdamAIdeal.τ) (Cert.RefAdamAIdeal.main (F := Ideal))) ⟨m', fun _ => 0, g'⟩ (fun r => ∀ c : Dev Cert.RefAdamAIdeal.nD,
          r.2.mem ((c.tc : Thread Cert.RefAdamAIdeal.nD Cert.RefAdamAIdeal.τ).loc Cert.RefAdamAIdeal.main_arg3) = v0 c
          ∧ r.2.mem ((c.tc : Thread Cert.RefAdamAIdeal.nD Cert.RefAdamAIdeal.τ).loc Cert.RefAdamAIdeal.main_v23) = v1 c
          ∧ r.2.mem ((c.tc : Thread Cert.RefAdamAIdeal.nD Cert.RefAdamAIdeal.τ).loc Cert.RefAdamAIdeal.main_v4) = v2 c
          ∧ r.2.mem ((c.tc : Thread Cert.RefAdamAIdeal.nD Cert.RefAdamAIdeal.τ).loc Cert.RefAdamAIdeal.main_v10) = v3 c
          ∧ r.2.mem ((c.tc : Thread Cert.RefAdamAIdeal.nD Cert.RefAdamAIdeal.τ).loc Cert.RefAdamAIdeal.main_arg0) = m' ((c.tc : Thread Cert.RefAdamAIdeal.nD Cert.RefAdamAIdeal.τ).loc Cert.RefAdamAIdeal.main_arg0)
          ∧ r.2.mem ((c.tc : Thread Cert.RefAdamAIdeal.nD Cert.RefAdamAIdeal.τ).loc Cert.RefAdamAIdeal.main_arg1) = m' ((c.tc : Thread Cert.RefAdamAIdeal.nD Cert.RefAdamAIdeal.τ).loc Cert.RefAdamAIdeal.main_arg1)
          ∧ r.2.mem ((c.tc : Thread Cert.RefAdamAIdeal.nD Cert.RefAdamAIdeal.τ).loc Cert.RefAdamAIdeal.main_arg2) = m' ((c.tc : Thread Cert.RefAdamAIdeal.nD Cert.RefAdamAIdeal.τ).loc Cert.RefAdamAIdeal.main_arg2)
          ∧ r.2.mem ((c.tc : Thread Cert.RefAdamAIdeal.nD Cert.RefAdamAIdeal.τ).loc Cert.RefAdamAIdeal.main_arg3) = m' ((c.tc : Thread Cert.RefAdamAIdeal.nD Cert.RefAdamAIdeal.τ).loc Cert.RefAdamAIdeal.main_arg3))

def Claim : Prop :=
  ∃ (hKernel : Cert.Kernel.Facts) (hKernelIdeal : Cert.KernelIdeal.Facts) (hReferenceIdeal : Cert.ReferenceIdeal.Facts) (hMlpTwoW : Cert.MlpTwoW.Facts) (hMlpTwoWIdeal : Cert.MlpTwoWIdeal.Facts) (hRefTwoWIdeal : Cert.RefTwoWIdeal.Facts) (hMlpOneW : Cert.MlpOneW.Facts) (hMlpOneWIdeal : Cert.MlpOneWIdeal.Facts) (hRefOneWIdeal : Cert.RefOneWIdeal.Facts) (hRetQ : Cert.RetQ.Facts) (hRetQIdeal : Cert.RetQIdeal.Facts) (hRefQIdeal : Cert.RefQIdeal.Facts) (hMlpOneX : Cert.MlpOneX.Facts) (hMlpOneXIdeal : Cert.MlpOneXIdeal.Facts) (hRefOneXIdeal : Cert.RefOneXIdeal.Facts) (hRetInX : Cert.RetInX.Facts) (hRetInXIdeal : Cert.RetInXIdeal.Facts) (hRefInXIdeal : Cert.RefInXIdeal.Facts) (hRetInW : Cert.RetInW.Facts) (hRetInWIdeal : Cert.RetInWIdeal.Facts) (hRefInWIdeal : Cert.RefInWIdeal.Facts) (hRetOutX : Cert.RetOutX.Facts) (hRetOutXIdeal : Cert.RetOutXIdeal.Facts) (hRefOutXIdeal : Cert.RefOutXIdeal.Facts) (hRetOutW : Cert.RetOutW.Facts) (hRetOutWIdeal : Cert.RetOutWIdeal.Facts) (hRefOutWIdeal : Cert.RefOutWIdeal.Facts) (hMlpOneF : Cert.MlpOneF.Facts) (hMlpOneFIdeal : Cert.MlpOneFIdeal.Facts) (hRefOneFIdeal : Cert.RefOneFIdeal.Facts) (hMlpTwoF : Cert.MlpTwoF.Facts) (hMlpTwoFIdeal : Cert.MlpTwoFIdeal.Facts) (hRefTwoFIdeal : Cert.RefTwoFIdeal.Facts) (hRetInF : Cert.RetInF.Facts) (hRetInFIdeal : Cert.RetInFIdeal.Facts) (hRefInFIdeal : Cert.RefInFIdeal.Facts) (hRetOutF : Cert.RetOutF.Facts) (hRetOutFIdeal : Cert.RetOutFIdeal.Facts) (hRefOutFIdeal : Cert.RefOutFIdeal.Facts) (hPwOneF : Cert.PwOneF.Facts) (hPwOneFIdeal : Cert.PwOneFIdeal.Facts) (hRefPwOneFIdeal : Cert.RefPwOneFIdeal.Facts) (hPwOneW : Cert.PwOneW.Facts) (hPwOneWIdeal : Cert.PwOneWIdeal.Facts) (hRefPwOneWIdeal : Cert.RefPwOneWIdeal.Facts) (hPwOneX : Cert.PwOneX.Facts) (hPwOneXIdeal : Cert.PwOneXIdeal.Facts) (hRefPwOneXIdeal : Cert.RefPwOneXIdeal.Facts) (hPwTwoF : Cert.PwTwoF.Facts) (hPwTwoFIdeal : Cert.PwTwoFIdeal.Facts) (hRefPwTwoFIdeal : Cert.RefPwTwoFIdeal.Facts) (hPwTwoW : Cert.PwTwoW.Facts) (hPwTwoWIdeal : Cert.PwTwoWIdeal.Facts) (hRefPwTwoWIdeal : Cert.RefPwTwoWIdeal.Facts) (hPwOneZ : Cert.PwOneZ.Facts) (hPwOneZIdeal : Cert.PwOneZIdeal.Facts) (hRefPwOneZIdeal : Cert.RefPwOneZIdeal.Facts) (hPwTwoX : Cert.PwTwoX.Facts) (hPwTwoXIdeal : Cert.PwTwoXIdeal.Facts) (hRefPwTwoXIdeal : Cert.RefPwTwoXIdeal.Facts) (hAdaF : Cert.AdaF.Facts) (hAdaFIdeal : Cert.AdaFIdeal.Facts) (hRefAdaFIdeal : Cert.RefAdaFIdeal.Facts) (hAdaW : Cert.AdaW.Facts) (hAdaWIdeal : Cert.AdaWIdeal.Facts) (hRefAdaWIdeal : Cert.RefAdaWIdeal.Facts) (hAdamA : Cert.AdamA.Facts) (hAdamAIdeal : Cert.AdamAIdeal.Facts) (hRefAdamAIdeal : Cert.RefAdamAIdeal.Facts) (hPre_ret_q_finite : Cert.Pre_ret_q_finite.Facts) (hPre_pw2_x_finite : Cert.Pre_pw2_x_finite.Facts),
    quiescent_Kernel (hKernel := hKernel)
    ∧ quiescent_KernelIdeal (hKernelIdeal := hKernelIdeal)
    ∧ quiescent_ReferenceIdeal (hReferenceIdeal := hReferenceIdeal)
    ∧ quiescent_MlpTwoW (hMlpTwoW := hMlpTwoW)
    ∧ quiescent_MlpTwoWIdeal (hMlpTwoWIdeal := hMlpTwoWIdeal)
    ∧ quiescent_RefTwoWIdeal (hRefTwoWIdeal := hRefTwoWIdeal)
    ∧ quiescent_MlpOneW (hMlpOneW := hMlpOneW)
    ∧ quiescent_MlpOneWIdeal (hMlpOneWIdeal := hMlpOneWIdeal)
    ∧ quiescent_RefOneWIdeal (hRefOneWIdeal := hRefOneWIdeal)
    ∧ quiescent_RetQ (hRetQ := hRetQ)
    ∧ quiescent_RetQIdeal (hRetQIdeal := hRetQIdeal)
    ∧ quiescent_RetQIdeal_pre_ret_q_finite (hRetQIdeal := hRetQIdeal) (hPre_ret_q_finite := hPre_ret_q_finite)
    ∧ quiescent_RefQIdeal (hRefQIdeal := hRefQIdeal)
    ∧ quiescent_RefQIdeal_pre_ret_q_finite (hRefQIdeal := hRefQIdeal) (hPre_ret_q_finite := hPre_ret_q_finite)
    ∧ quiescent_MlpOneX (hMlpOneX := hMlpOneX)
    ∧ quiescent_MlpOneXIdeal (hMlpOneXIdeal := hMlpOneXIdeal)
    ∧ quiescent_RefOneXIdeal (hRefOneXIdeal := hRefOneXIdeal)
    ∧ quiescent_RetInX (hRetInX := hRetInX)
    ∧ quiescent_RetInXIdeal (hRetInXIdeal := hRetInXIdeal)
    ∧ quiescent_RefInXIdeal (hRefInXIdeal := hRefInXIdeal)
    ∧ quiescent_RetInW (hRetInW := hRetInW)
    ∧ quiescent_RetInWIdeal (hRetInWIdeal := hRetInWIdeal)
    ∧ quiescent_RefInWIdeal (hRefInWIdeal := hRefInWIdeal)
    ∧ quiescent_RetOutX (hRetOutX := hRetOutX)
    ∧ quiescent_RetOutXIdeal (hRetOutXIdeal := hRetOutXIdeal)
    ∧ quiescent_RefOutXIdeal (hRefOutXIdeal := hRefOutXIdeal)
    ∧ quiescent_RetOutW (hRetOutW := hRetOutW)
    ∧ quiescent_RetOutWIdeal (hRetOutWIdeal := hRetOutWIdeal)
    ∧ quiescent_RefOutWIdeal (hRefOutWIdeal := hRefOutWIdeal)
    ∧ quiescent_MlpOneF (hMlpOneF := hMlpOneF)
    ∧ quiescent_MlpOneFIdeal (hMlpOneFIdeal := hMlpOneFIdeal)
    ∧ quiescent_RefOneFIdeal (hRefOneFIdeal := hRefOneFIdeal)
    ∧ quiescent_MlpTwoF (hMlpTwoF := hMlpTwoF)
    ∧ quiescent_MlpTwoFIdeal (hMlpTwoFIdeal := hMlpTwoFIdeal)
    ∧ quiescent_RefTwoFIdeal (hRefTwoFIdeal := hRefTwoFIdeal)
    ∧ quiescent_RetInF (hRetInF := hRetInF)
    ∧ quiescent_RetInFIdeal (hRetInFIdeal := hRetInFIdeal)
    ∧ quiescent_RefInFIdeal (hRefInFIdeal := hRefInFIdeal)
    ∧ quiescent_RetOutF (hRetOutF := hRetOutF)
    ∧ quiescent_RetOutFIdeal (hRetOutFIdeal := hRetOutFIdeal)
    ∧ quiescent_RefOutFIdeal (hRefOutFIdeal := hRefOutFIdeal)
    ∧ quiescent_PwOneF (hPwOneF := hPwOneF)
    ∧ quiescent_PwOneFIdeal (hPwOneFIdeal := hPwOneFIdeal)
    ∧ quiescent_RefPwOneFIdeal (hRefPwOneFIdeal := hRefPwOneFIdeal)
    ∧ quiescent_PwOneW (hPwOneW := hPwOneW)
    ∧ quiescent_PwOneWIdeal (hPwOneWIdeal := hPwOneWIdeal)
    ∧ quiescent_RefPwOneWIdeal (hRefPwOneWIdeal := hRefPwOneWIdeal)
    ∧ quiescent_PwOneX (hPwOneX := hPwOneX)
    ∧ quiescent_PwOneXIdeal (hPwOneXIdeal := hPwOneXIdeal)
    ∧ quiescent_RefPwOneXIdeal (hRefPwOneXIdeal := hRefPwOneXIdeal)
    ∧ quiescent_PwTwoF (hPwTwoF := hPwTwoF)
    ∧ quiescent_PwTwoFIdeal (hPwTwoFIdeal := hPwTwoFIdeal)
    ∧ quiescent_RefPwTwoFIdeal (hRefPwTwoFIdeal := hRefPwTwoFIdeal)
    ∧ quiescent_PwTwoW (hPwTwoW := hPwTwoW)
    ∧ quiescent_PwTwoWIdeal (hPwTwoWIdeal := hPwTwoWIdeal)
    ∧ quiescent_RefPwTwoWIdeal (hRefPwTwoWIdeal := hRefPwTwoWIdeal)
    ∧ quiescent_PwOneZ (hPwOneZ := hPwOneZ)
    ∧ quiescent_PwOneZIdeal (hPwOneZIdeal := hPwOneZIdeal)
    ∧ quiescent_RefPwOneZIdeal (hRefPwOneZIdeal := hRefPwOneZIdeal)
    ∧ quiescent_PwTwoX (hPwTwoX := hPwTwoX)
    ∧ quiescent_PwTwoXIdeal (hPwTwoXIdeal := hPwTwoXIdeal)
    ∧ quiescent_PwTwoXIdeal_pre_pw2_x_finite (hPwTwoXIdeal := hPwTwoXIdeal) (hPre_pw2_x_finite := hPre_pw2_x_finite)
    ∧ quiescent_RefPwTwoXIdeal (hRefPwTwoXIdeal := hRefPwTwoXIdeal)
    ∧ quiescent_RefPwTwoXIdeal_pre_pw2_x_finite (hRefPwTwoXIdeal := hRefPwTwoXIdeal) (hPre_pw2_x_finite := hPre_pw2_x_finite)
    ∧ quiescent_AdaF (hAdaF := hAdaF)
    ∧ quiescent_AdaFIdeal (hAdaFIdeal := hAdaFIdeal)
    ∧ quiescent_RefAdaFIdeal (hRefAdaFIdeal := hRefAdaFIdeal)
    ∧ quiescent_AdaW (hAdaW := hAdaW)
    ∧ quiescent_AdaWIdeal (hAdaWIdeal := hAdaWIdeal)
    ∧ quiescent_RefAdaWIdeal (hRefAdaWIdeal := hRefAdaWIdeal)
    ∧ quiescent_AdamA (hAdamA := hAdamA)
    ∧ quiescent_AdamAIdeal (hAdamAIdeal := hAdamAIdeal)
    ∧ quiescent_RefAdamAIdeal (hRefAdamAIdeal := hRefAdamAIdeal)
    ∧ preserves_Kernel_KernelIdeal
    ∧ algebraic_KernelIdeal_ReferenceIdeal (hKernelIdeal := hKernelIdeal) (hReferenceIdeal := hReferenceIdeal)
    ∧ preserves_MlpTwoW_MlpTwoWIdeal
    ∧ algebraic_MlpTwoWIdeal_RefTwoWIdeal (hMlpTwoWIdeal := hMlpTwoWIdeal) (hRefTwoWIdeal := hRefTwoWIdeal)
    ∧ preserves_MlpOneW_MlpOneWIdeal
    ∧ algebraic_MlpOneWIdeal_RefOneWIdeal (hMlpOneWIdeal := hMlpOneWIdeal) (hRefOneWIdeal := hRefOneWIdeal)
    ∧ preserves_RetQ_RetQIdeal
    ∧ algebraic_RetQIdeal_RefQIdeal_pre_ret_q_finite (hRetQIdeal := hRetQIdeal) (hRefQIdeal := hRefQIdeal) (hPre_ret_q_finite := hPre_ret_q_finite)
    ∧ preserves_MlpOneX_MlpOneXIdeal
    ∧ algebraic_MlpOneXIdeal_RefOneXIdeal (hMlpOneXIdeal := hMlpOneXIdeal) (hRefOneXIdeal := hRefOneXIdeal)
    ∧ preserves_RetInX_RetInXIdeal
    ∧ algebraic_RetInXIdeal_RefInXIdeal (hRetInXIdeal := hRetInXIdeal) (hRefInXIdeal := hRefInXIdeal)
    ∧ preserves_RetInW_RetInWIdeal
    ∧ algebraic_RetInWIdeal_RefInWIdeal (hRetInWIdeal := hRetInWIdeal) (hRefInWIdeal := hRefInWIdeal)
    ∧ preserves_RetOutX_RetOutXIdeal
    ∧ algebraic_RetOutXIdeal_RefOutXIdeal (hRetOutXIdeal := hRetOutXIdeal) (hRefOutXIdeal := hRefOutXIdeal)
    ∧ preserves_RetOutW_RetOutWIdeal
    ∧ algebraic_RetOutWIdeal_RefOutWIdeal (hRetOutWIdeal := hRetOutWIdeal) (hRefOutWIdeal := hRefOutWIdeal)
    ∧ preserves_MlpOneF_MlpOneFIdeal
    ∧ algebraic_MlpOneFIdeal_RefOneFIdeal (hMlpOneFIdeal := hMlpOneFIdeal) (hRefOneFIdeal := hRefOneFIdeal)
    ∧ preserves_MlpTwoF_MlpTwoFIdeal
    ∧ algebraic_MlpTwoFIdeal_RefTwoFIdeal (hMlpTwoFIdeal := hMlpTwoFIdeal) (hRefTwoFIdeal := hRefTwoFIdeal)
    ∧ preserves_RetInF_RetInFIdeal
    ∧ algebraic_RetInFIdeal_RefInFIdeal (hRetInFIdeal := hRetInFIdeal) (hRefInFIdeal := hRefInFIdeal)
    ∧ preserves_RetOutF_RetOutFIdeal
    ∧ algebraic_RetOutFIdeal_RefOutFIdeal (hRetOutFIdeal := hRetOutFIdeal) (hRefOutFIdeal := hRefOutFIdeal)
    ∧ preserves_PwOneF_PwOneFIdeal
    ∧ algebraic_PwOneFIdeal_RefPwOneFIdeal (hPwOneFIdeal := hPwOneFIdeal) (hRefPwOneFIdeal := hRefPwOneFIdeal)
    ∧ preserves_PwOneW_PwOneWIdeal
    ∧ algebraic_PwOneWIdeal_RefPwOneWIdeal (hPwOneWIdeal := hPwOneWIdeal) (hRefPwOneWIdeal := hRefPwOneWIdeal)
    ∧ preserves_PwOneX_PwOneXIdeal
    ∧ algebraic_PwOneXIdeal_RefPwOneXIdeal (hPwOneXIdeal := hPwOneXIdeal) (hRefPwOneXIdeal := hRefPwOneXIdeal)
    ∧ preserves_PwTwoF_PwTwoFIdeal
    ∧ algebraic_PwTwoFIdeal_RefPwTwoFIdeal (hPwTwoFIdeal := hPwTwoFIdeal) (hRefPwTwoFIdeal := hRefPwTwoFIdeal)
    ∧ preserves_PwTwoW_PwTwoWIdeal
    ∧ algebraic_PwTwoWIdeal_RefPwTwoWIdeal (hPwTwoWIdeal := hPwTwoWIdeal) (hRefPwTwoWIdeal := hRefPwTwoWIdeal)
    ∧ preserves_PwOneZ_PwOneZIdeal
    ∧ algebraic_PwOneZIdeal_RefPwOneZIdeal (hPwOneZIdeal := hPwOneZIdeal) (hRefPwOneZIdeal := hRefPwOneZIdeal)
    ∧ preserves_PwTwoX_PwTwoXIdeal
    ∧ algebraic_PwTwoXIdeal_RefPwTwoXIdeal_pre_pw2_x_finite (hPwTwoXIdeal := hPwTwoXIdeal) (hRefPwTwoXIdeal := hRefPwTwoXIdeal) (hPre_pw2_x_finite := hPre_pw2_x_finite)
    ∧ preserves_AdaF_AdaFIdeal
    ∧ algebraic_AdaFIdeal_RefAdaFIdeal (hAdaFIdeal := hAdaFIdeal) (hRefAdaFIdeal := hRefAdaFIdeal)
    ∧ preserves_AdaW_AdaWIdeal
    ∧ algebraic_AdaWIdeal_RefAdaWIdeal (hAdaWIdeal := hAdaWIdeal) (hRefAdaWIdeal := hRefAdaWIdeal)
    ∧ preserves_AdamA_AdamAIdeal
    ∧ algebraic_AdamAIdeal_RefAdamAIdeal (hAdamAIdeal := hAdamAIdeal) (hRefAdamAIdeal := hRefAdamAIdeal)
-- ==== Pre_pw2_x_finite.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S1x1024 .f32 := Host.absf main_arg4
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  let main_c_7 : IVec S_ 1 := constantI S_ 1 1#1
  let main_v24 : IVec S_ 1 := (fun x v => Host.reduce IntOp.andi x v reducesTo_S1x1024_S_d0_1 h_S_) main_v23 main_c_7
  let main_v25 : IVec S_ 1 := andi main_v20 main_v24
  main_v25

def fn {F : FTy → Type} [FloatOps F] (main_arg0 : FVec F S8192x1024 .bf16) (main_arg1 : FVec F S1024x1024 .bf16) (main_arg2 : FVec F S8192x1024 .f32) (main_arg3 : FVec F S1x1024 .f32) (main_arg4 : FVec F S1x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Pre_ret_q_finite.lean ====
abbrev S8192x6144 : Shape := ⟨2, ![8192, 6144]⟩
abbrev S8192x2048 : Shape := ⟨2, ![8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8192x6144 : S_.BroadcastsInDim S8192x6144 (![] : Fin 0 → Fin S8192x6144.rank)
  reducesTo_S8192x6144_S_d0_1 : S8192x6144.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_v16 : IVec S_ 1) (main_v17 : FVec F S1x2048 .f32) : IVec S_ 1 :=
  let main_cst_4 : FVec F S_ .f32 := constant S_ .f32 0x7F800000#32
  let main_v18 : FVec F S1x2048 .f32 := broadcastInDim S1x2048 ![] bcast_S_S1x2048 main_cst_4
  let main_v19 : IVec S1x2048 1 := cmpf .olt main_v17 main_v18
  let main_c_5 : IVec S_ 1 := constantI S_ 1 1#1
  let main_v20 : IVec S_ 1 := (fun x v => Host.reduce IntOp.andi x v reducesTo_S1x2048_S_d0_1 h_S_) main_v19 main_c_5
  let main_v21 : IVec S_ 1 := andi main_v16 main_v20
  let main_v22 : FVec F S1x2048 .f32 := Host.absf main_arg4
  let main_cst_6 : FVec F S_ .f32 := constant S_ .f32 0x7F800000#32
  let main_v23 : FVec F S1x2048 .f32 := broadcastInDim S1x2048 ![] bcast_S_S1x2048 main_cst_6
  let main_v24 : IVec S1x2048 1 := cmpf .olt main_v22 main_v23
  let main_c_7 : IVec S_ 1 := constantI S_ 1 1#1
  let main_v25 : IVec S_ 1 := (fun x v => Host.reduce IntOp.andi x v reducesTo_S1x2048_S_d0_1 h_S_) main_v24 main_c_7
  let main_v26 : IVec S_ 1 := andi main_v21 main_v25
  main_v26

def fn {F : FTy → Type} [FloatOps F] (main_arg0 : FVec F S8192x6144 .bf16) (main_arg1 : FVec F S8192x2048 .bf16) (main_arg2 : FVec F S8192x2048 .bf16) (main_arg3 : FVec F S1x2048 .f32) (main_arg4 : FVec F S1x2048 .f32) : IVec S_ 1 :=
  let main_v0 : FVec F S8192x6144 .f32 := (extf .f32 · bitsLt_bf16_f32) main_arg0
  let main_v1 : FVec F S8192x6144 .f32 := Host.absf main_v0
  let main_cst : FVec F S_ .f32 := constant S_ .f32 0x7F800000#32
  let main_v2 : FVec F S8192x6144 .f32 := broadcastInDim S8192x6144 ![] bcast_S_S8192x6144 main_cst
  let main_v3 : IVec S8192x6144 1 := cmpf .olt main_v1 main_v2
  let main_c : IVec S_ 1 := constantI S_ 1 1#1
  let main_v4 : IVec S_ 1 := (fun x v => Host.reduce IntOp.andi x v reducesTo_S8192x6144_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  let main_v11 : FVec F S8192x2048 .f32 := (extf .f32 · bitsLt_bf16_f32) main_arg2
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  let main_v17 : FVec F S1x2048 .f32 := Host.absf main_arg3
  fn_part1 (F := F) main_arg4 main_v16 main_v17
-- ==== Kernel.lean ====
abbrev S8192x1024 : Shape := ⟨2, ![8192, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x1024, .f32⟩
  | .hbm, ⟨4, _⟩ => ⟨S4096x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== MlpTwoW.lean ====
abbrev S8192x4096 : Shape := ⟨2, ![8192, 4096]⟩
abbrev S8192x1024 : Shape := ⟨2, ![8192, 1024]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefTwoWIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== MlpOneW.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2048x2048 : Shape := ⟨2, ![2048, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefOneWIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x8x512, .bf16⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RetQ.lean ====
abbrev S8192x6144 : Shape := ⟨2, ![8192, 6144]⟩
abbrev S8192x2048 : Shape := ⟨2, ![8192, 2048]⟩
abbrev S1x2048 : Shape := ⟨2, ![1, 2048]⟩
abbrev S8192x1024 : Shape := ⟨2, ![8192, 1024]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x4x256 : Shape := ⟨3, ![8192, 4, 256]⟩
abbrev S8192x4x128 : Shape := ⟨3, ![8192, 4, 128]⟩
abbrev S8192x1x128 : Shape := ⟨3, ![8192, 1, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x8x128 : Shape := ⟨3, ![4, 8, 128]⟩
abbrev S2048x256 : Shape := ⟨2, ![2048, 256]⟩
abbrev S2048x512 : Shape := ⟨2, ![2048, 512]⟩
abbrev S2048x128 : Shape := ⟨2, ![2048, 128]⟩
abbrev S1x256x1 : Shape := ⟨3, ![1, 256, 1]⟩
abbrev S1x8x128 : Shape := ⟨3, ![1, 8, 128]⟩
abbrev S1x512 : Shape := ⟨2, ![1, 512]⟩
abbrev S256x512 : Shape := ⟨2, ![256, 512]⟩
abbrev S256x128 : Shape := ⟨2, ![256, 128]⟩
abbrev S512 : Shape := ⟨1, ![512]⟩
abbrev S1x1x1 : Shape := ⟨3, ![1, 1, 1]⟩
abbrev S1x1 : Shape := ⟨2, ![1, 1]⟩

abbrev nBuf : Space → Nat
  | .hbm => 179
  | .vmem => 37
  | .smem => 0
  | _ => 0

abbrev hbmTy0_0 (i : Nat) : BufTy := match i % 128 with
  | 0 => ⟨S8192x6144, .bf16⟩
  | 1 => ⟨S8192x2048, .bf16⟩
  | 2 => ⟨S8192x2048, .bf16⟩
  | 3 => ⟨S1x2048, .f32⟩
  | 4 => ⟨S1x2048, .f32⟩
  | 5 => ⟨S8192x1024, .bf16⟩
  | 6 => ⟨S8192x1024, .f32⟩
  | 7 => ⟨S8192, .f32⟩
  | 8 => ⟨S128, .f32⟩
  | 9 => ⟨S_, .f32⟩
  | 10 => ⟨S128, .f32⟩
  | 11 => ⟨S128, .f32⟩
  | 12 => ⟨S_, .f32⟩
  | 13 => ⟨S128, .f32⟩
  | 14 => ⟨S128, .f32⟩
  | 15 => ⟨S128, .f32⟩
  | 16 => ⟨S_, .f32⟩
  | 17 => ⟨S128, .f32⟩
  | 18 => ⟨S128, .f32⟩
  | 19 => ⟨S_, .f32⟩
  | 20 => ⟨S128, .f32⟩
  | 21 => ⟨S128, .f32⟩
  | 22 => ⟨S8192x1, .f32⟩
  | 23 => ⟨S1x128, .f32⟩
  | 24 => ⟨S8192x128, .f32⟩
  | 25 => ⟨S8192x128, .f32⟩
  | 26 => ⟨S8192x128, .f32⟩
  | 27 => ⟨S8192x128, .f32⟩
  | 28 => ⟨S8192x128, .f32⟩
  | 29 => ⟨S8192x4x256, .f32⟩
  | 30 => ⟨S8192x4x128, .f32⟩
  | 31 => ⟨S8192x4x128, .f32⟩
  | 32 => ⟨S8192x1x128, .f32⟩
  | 33 => ⟨S8192x1x128, .f32⟩
  | 34 => ⟨S8192x4x128, .f32⟩
  | 35 => ⟨S8192x4x128, .f32⟩
  | 36 => ⟨S8192x4x128, .f32⟩
  | 37 => ⟨S8192x4x128, .f32⟩
  | 38 => ⟨S8192x4x128, .f32⟩
  | 39 => ⟨S8192x4x128, .f32⟩
  | 40 => ⟨S8192x4x128, .f32⟩
  | 41 => ⟨S8192x4x128, .f32⟩
  | 42 => ⟨S8192x4x128, .f32⟩
  | 43 => ⟨S8192x4x128, .f32⟩
  | 44 => ⟨S8192x4x256, .f32⟩
  | 45 => ⟨S_, .f32⟩
  | 46 => ⟨S8192x4x256, .f32⟩
  | 47 => ⟨S8192x4x256, .f32⟩
  | 48 => ⟨S8192x1024, .f32⟩
  | 49 => ⟨S8192x1024, .bf16⟩
  | 50 => ⟨S4, .f32⟩
  | 51 => ⟨S_, .f32⟩
  | 52 => ⟨S4, .f32⟩
  | 53 => ⟨S4, .f32⟩
  | 54 => ⟨S_, .f32⟩
  | 55 => ⟨S4, .f32⟩
  | 56 => ⟨S4, .f32⟩
  | 57 => ⟨S_, .f32⟩
  | 58 => ⟨S4, .f32⟩
  | 59 => ⟨S4, .f32⟩
  | 60 => ⟨S4, .f32⟩
  | 61 => ⟨S256, .f32⟩
  | 62 => ⟨S256x1, .f32⟩
  | 63 => ⟨S1x256, .f32⟩
  | 64 => ⟨S256x256, .f32⟩
  | 65 => ⟨S256x256, .f32⟩
  | 66 => ⟨S256x256, .f32⟩
  | 67 => ⟨S256, .i32⟩
  | 68 => ⟨S_, .i32⟩
  | 69 => ⟨S_, .i32⟩
  | 70 => ⟨S256, .i32⟩
  | 71 => ⟨S256, .i32⟩
  | 72 => ⟨S256, .i32⟩
  | 73 => ⟨S_, .i32⟩
  | 74 => ⟨S256, .i32⟩
  | 75 => ⟨S256, .i1⟩
  | 76 => ⟨S256, .i32⟩
  | 77 => ⟨S256, .i32⟩
  | 78 => ⟨S_, .i32⟩
  | 79 => ⟨S256, .i32⟩
  | 80 => ⟨S256, .i1⟩
  | 81 => ⟨S256, .i1⟩
  | 82 => ⟨S_, .i32⟩
  | 83 => ⟨S256, .i32⟩
  | 84 => ⟨S256, .i32⟩
  | 85 => ⟨S256, .i32⟩
  | 86 => ⟨S256x1, .i32⟩
  | 87 => ⟨S256, .i32⟩
  | 88 => ⟨S_, .i32⟩
  | 89 => ⟨S_, .i32⟩
  | 90 => ⟨S256, .i32⟩
  | 91 => ⟨S256, .i32⟩
  | 92 => ⟨S256, .i32⟩
  | 93 => ⟨S_, .i32⟩
  | 94 => ⟨S256, .i32⟩
  | 95 => ⟨S256, .i1⟩
  | 96 => ⟨S256, .i32⟩
  | 97 => ⟨S256, .i32⟩
  | 98 => ⟨S_, .i32⟩
  | 99 => ⟨S256, .i32⟩
  | 100 => ⟨S256, .i1⟩
  | 101 => ⟨S256, .i1⟩
  | 102 => ⟨S_, .i32⟩
  | 103 => ⟨S256, .i32⟩
  | 104 => ⟨S256, .i32⟩
  | 105 => ⟨S256, .i32⟩
  | 106 => ⟨S1x256, .i32⟩
  | 107 => ⟨S256x256, .i32⟩
  | 108 => ⟨S256x256, .i32⟩
  | 109 => ⟨S256x256, .i1⟩
  | 110 => ⟨S256x256, .f32⟩
  | 111 => ⟨S256x256, .f32⟩
  | 112 => ⟨S256x256, .i32⟩
  | 113 => ⟨S256x256, .i32⟩
  | 114 => ⟨S256x256, .i1⟩
  | 115 => ⟨S4x1x1, .f32⟩
  | 116 => ⟨S1x256x256, .f32⟩
  | 117 => ⟨S4x256x256, .f32⟩
  | 118 => ⟨S4x256x256, .f32⟩
  | 119 => ⟨S4x256x256, .f32⟩
  | 120 => ⟨S4x256x256, .f32⟩
  | 121 => ⟨S_, .f32⟩
  | 122 => ⟨S_, .f32⟩
  | 123 => ⟨S4x256x256, .i1⟩
  | 124 => ⟨S4x256x256, .f32⟩
  | 125 => ⟨S4x256x256, .f32⟩
  | 126 => ⟨S4x1, .f32⟩
  | 127 => ⟨S_, .f32⟩
  | _ => ⟨S8192x6144, .bf16⟩

abbrev hbmTy0_1 (i : Nat) : BufTy := match i % 128 with
  | 0 => ⟨S256, .f32⟩
  | 1 => ⟨S256, .f32⟩
  | 2 => ⟨S1x256, .f32⟩
  | 3 => ⟨S4x256, .f32⟩
  | 4 => ⟨S4x256, .f32⟩
  | 5 => ⟨S4x256, .f32⟩
  | 6 => ⟨S4x256, .f32⟩
  | 7 => ⟨S4x256x1, .f32⟩
  | 8 => ⟨S4x1, .f32⟩
  | 9 => ⟨S_, .f32⟩
  | 10 => ⟨S256, .f32⟩
  | 11 => ⟨S256, .f32⟩
  | 12 => ⟨S1x256, .f32⟩
  | 13 => ⟨S4x256, .f32⟩
  | 14 => ⟨S4x256, .f32⟩
  | 15 => ⟨S4x256, .f32⟩
  | 16 => ⟨S4x256, .f32⟩
  | 17 => ⟨S4x256x1, .f32⟩
  | 18 => ⟨S_, .f32⟩
  | 19 => ⟨S4, .f32⟩
  | 20 => ⟨S4, .f32⟩
  | 21 => ⟨S4, .f32⟩
  | 22 => ⟨S4x1x1, .f32⟩
  | 23 => ⟨S4x8x128, .f32⟩
  | 24 => ⟨S8192, .f32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S8192x1, .f32⟩
  | 40 => ⟨S1x128, .f32⟩
  | 41 => ⟨S8192x128, .f32⟩
  | 42 => ⟨S8192x128, .f32⟩
  | 43 => ⟨S8192x128, .f32⟩
  | 44 => ⟨S8192x128, .f32⟩
  | 45 => ⟨S8192x128, .f32⟩
  | 46 => ⟨S8192x1024, .bf16⟩
  | 47 => ⟨S8192x2048, .bf16⟩
  | 48 => ⟨S8192x2048, .bf16⟩
  | 49 => ⟨S1x2048, .f32⟩
  | 50 => ⟨S1x2048, .f32⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x256x256, .f32⟩
  | .local _ .vmem, ⟨15, _⟩ => ⟨S1x256x256, .f32⟩
  | .local _ .vmem, ⟨16, _⟩ => ⟨S1x256x1, .f32⟩
  | .local _ .vmem, ⟨17, _⟩ => ⟨S1x256x1, .f32⟩
  | .local _ .vmem, ⟨18, _⟩ => ⟨S1x256x1, .f32⟩
  | .local _ .vmem, ⟨19, _⟩ => ⟨S1x256x1, .f32⟩
  | .local _ .vmem, ⟨20, _⟩ => ⟨S1x8x128, .f32⟩
  | .local _ .vmem, ⟨21, _⟩ => ⟨S1x8x128, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S2048x256, .bf16⟩
  | .local _ .vmem, ⟨27, _⟩ => ⟨S2048x256, .bf16⟩
  | .local _ .vmem, ⟨28, _⟩ => ⟨S2048x512, .bf16⟩
  | .local _ .vmem, ⟨29, _⟩ => ⟨S2048x512, .bf16⟩
  | .local _ .vmem, ⟨30, _⟩ => ⟨S2048x512, .bf16⟩
  | .local _ .vmem, ⟨31, _⟩ => ⟨S2048x512, .bf16⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S256x512, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_v8 : Ref sig .tc := ⟨.hbm, 77, rfl⟩
abbrev main_call0_c : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_c_0 : Ref sig .tc := ⟨.hbm, 82, rfl⟩
abbrev main_call0_v12 : Ref sig .tc := ⟨.hbm, 83, rfl⟩
abbrev main_call0_v13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_7 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_call1_v3 : Ref sig .tc := ⟨.hbm, 92, rfl⟩
abbrev main_call1_v4 : Ref sig .tc := ⟨.hbm, 93, rfl⟩
abbrev main_call1_v5 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_c : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_call1_c_0 : Ref sig .tc := ⟨.hbm, 102, rfl⟩
abbrev main_call1_v12 : Ref sig .tc := ⟨.hbm, 103, rfl⟩
abbrev main_call1_v13 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_8 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v74 : Ref sig .tc := ⟨.hbm, 125, rfl⟩
abbrev main_v75 : Ref sig .tc := ⟨.hbm, 126, rfl⟩
abbrev main_cst_9 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_10 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_11 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_cst_12 : Ref sig .tc := ⟨.hbm, 154, rfl⟩
abbrev main_v100 : Ref sig .tc := ⟨.hbm, 155, rfl⟩
abbrev main_v101 : Ref sig .tc := ⟨.hbm, 156, rfl⟩
abbrev main_cst_13 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_cst_14 : Ref sig .tc := ⟨.hbm, 161, rfl⟩
abbrev main_v105 : Ref sig .tc := ⟨.hbm, 162, rfl⟩
abbrev main_v106 : Ref sig .tc := ⟨.hbm, 163, rfl⟩
abbrev main_cst_15 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116_0 : Ref sig .tc := ⟨.hbm, 174, rfl⟩
abbrev main_v116_1 : Ref sig .tc := ⟨.hbm, 175, rfl⟩
abbrev main_v116_2 : Ref sig .tc := ⟨.hbm, 176, rfl⟩
abbrev main_v116_3 : Ref sig .tc := ⟨.hbm, 177, rfl⟩
abbrev main_v116_4 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2048x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== RefQIdeal.lean ====
abbrev S8192x6144 : Shape := ⟨2, ![8192, 6144]⟩
abbrev S8192x2048 : Shape := ⟨2, ![8192, 2048]⟩
abbrev S1x2048 : Shape := ⟨2, ![1, 2048]⟩
abbrev S8192x3072 : Shape := ⟨2, ![8192, 3072]⟩
abbrev S8192x1024 : Shape := ⟨2, ![8192, 1024]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x128 : Shape := ⟨2, ![8192, 128]⟩
abbrev S8192x4x256 : Shape := ⟨3, ![8192, 4, 256]⟩
abbrev S8192x4x128 : Shape := ⟨3, ![8192, 4, 128]⟩
abbrev S8192x1x128 : Shape := ⟨3, ![8192, 1, 128]⟩
abbrev S128x64x4x256 : Shape := ⟨4, ![128, 64, 4, 256]⟩
abbrev S128x4x64x256 : Shape := ⟨4, ![128, 4, 64, 256]⟩
abbrev S8192x4x512 : Shape := ⟨3, ![8192, 4, 512]⟩
abbrev S128x64x4x512 : Shape := ⟨4, ![128, 64, 4, 512]⟩
abbrev S128x4x64x512 : Shape := ⟨4, ![128, 4, 64, 512]⟩
abbrev S64 : Shape := ⟨1, ![64]⟩
abbrev S4 : Shape := ⟨1, ![4]⟩
abbrev S4x1 : Shape := ⟨2, ![4, 1]⟩
abbrev S1x64 : Shape := ⟨2, ![1, 64]⟩
abbrev S4x64 : Shape := ⟨2, ![4, 64]⟩
abbrev S4x64x1 : Shape := ⟨3, ![4, 64, 1]⟩
abbrev S1x4x64x1 : Shape := ⟨4, ![1, 4, 64, 1]⟩
abbrev S128x4x256x512 : Shape := ⟨4, ![128, 4, 256, 512]⟩
abbrev S4x256x512 : Shape := ⟨3, ![4, 256, 512]⟩
abbrev S1x4x256x512 : Shape := ⟨4, ![1, 4, 256, 512]⟩
abbrev S4x1x1 : Shape := ⟨3, ![4, 1, 1]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S128x4x64x64 : Shape := ⟨4, ![128, 4, 64, 64]⟩
abbrev S1x4x64x64 : Shape := ⟨4, ![1, 4, 64, 64]⟩

abbrev nBuf : Space → Nat
  | .hbm => 419
  | .vmem => 0
  | .smem => 0
  | _ => 0

abbrev hbmTy0_0 (i : Nat) : BufTy := match i % 128 with
  | 0 => ⟨S8192x6144, .bf16⟩
  | 1 => ⟨S8192x2048, .bf16⟩
  | 2 => ⟨S8192x2048, .bf16⟩
  | 3 => ⟨S1x2048, .f32⟩
  | 4 => ⟨S1x2048, .f32⟩
  | 5 => ⟨S8192x6144, .f32⟩
  | 6 => ⟨S8192x3072, .f32⟩
  | 7 => ⟨S8192x1024, .f32⟩
  | 8 => ⟨S8192x2048, .f32⟩
  | 9 => ⟨S8192, .f32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S128, .f32⟩
  | 18 => ⟨S_, .f32⟩
  | 19 => ⟨S128, .f32⟩
  | 20 => ⟨S128, .f32⟩
  | 21 => ⟨S_, .f32⟩
  | 22 => ⟨S128, .f32⟩
  | 23 => ⟨S128, .f32⟩
  | 24 => ⟨S8192x1, .f32⟩
  | 25 => ⟨S1x128, .f32⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S8192x4x256, .f32⟩
  | 32 => ⟨S8192x4x128, .f32⟩
  | 33 => ⟨S8192x4x128, .f32⟩
  | 34 => ⟨S8192x1x128, .f32⟩
  | 35 => ⟨S8192x1x128, .f32⟩
  | 36 => ⟨S8192x4x128, .f32⟩
  | 37 => ⟨S8192x4x128, .f32⟩
  | 38 => ⟨S8192x4x128, .f32⟩
  | 39 => ⟨S8192x4x128, .f32⟩
  | 40 => ⟨S8192x4x128, .f32⟩
  | 41 => ⟨S8192x4x128, .f32⟩
  | 42 => ⟨S8192x4x128, .f32⟩
  | 43 => ⟨S8192x4x128, .f32⟩
  | 44 => ⟨S8192x4x128, .f32⟩
  | 45 => ⟨S8192x4x128, .f32⟩
  | 46 => ⟨S8192x4x256, .f32⟩
  | 47 => ⟨S_, .f32⟩
  | 48 => ⟨S8192x4x256, .f32⟩
  | 49 => ⟨S8192x4x256, .f32⟩
  | 50 => ⟨S128x64x4x256, .f32⟩
  | 51 => ⟨S128x4x64x256, .f32⟩
  | 52 => ⟨S8192x4x512, .f32⟩
  | 53 => ⟨S128x64x4x512, .f32⟩
  | 54 => ⟨S128x4x64x512, .f32⟩
  | 55 => ⟨S64, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S_, .f32⟩
  | 64 => ⟨S4, .f32⟩
  | 65 => ⟨S4, .f32⟩
  | 66 => ⟨S4, .f32⟩
  | 67 => ⟨S4x1, .f32⟩
  | 68 => ⟨S_, .f32⟩
  | 69 => ⟨S64, .f32⟩
  | 70 => ⟨S64, .f32⟩
  | 71 => ⟨S1x64, .f32⟩
  | 72 => ⟨S4x64, .f32⟩
  | 73 => ⟨S4x64, .f32⟩
  | 74 => ⟨S4x64, .f32⟩
  | 75 => ⟨S4x64, .f32⟩
  | 76 => ⟨S4, .f32⟩
  | 77 => ⟨S_, .f32⟩
  | 78 => ⟨S4, .f32⟩
  | 79 => ⟨S4, .f32⟩
  | 80 => ⟨S_, .f32⟩
  | 81 => ⟨S4, .f32⟩
  | 82 => ⟨S4, .f32⟩
  | 83 => ⟨S_, .f32⟩
  | 84 => ⟨S4, .f32⟩
  | 85 => ⟨S4, .f32⟩
  | 86 => ⟨S4, .f32⟩
  | 87 => ⟨S_, .f32⟩
  | 88 => ⟨S4, .f32⟩
  | 89 => ⟨S4, .f32⟩
  | 90 => ⟨S4, .f32⟩
  | 91 => ⟨S4x64x1, .f32⟩
  | 92 => ⟨S1x4x64x1, .f32⟩
  | 93 => ⟨S128x4x64x256, .f32⟩
  | 94 => ⟨S128x4x64x256, .f32⟩
  | 95 => ⟨S128x4x256x512, .f32⟩
  | 96 => ⟨S_, .f32⟩
  | 97 => ⟨S4x256x512, .f32⟩
  | 98 => ⟨S_, .f32⟩
  | 99 => ⟨S128x4x256x512, .f32⟩
  | 100 => ⟨S_, .i32⟩
  | 101 => ⟨S128x4x256x512, .f32⟩
  | 102 => ⟨S4, .f32⟩
  | 103 => ⟨S_, .i32⟩
  | 104 => ⟨S4x256x512, .f32⟩
  | 105 => ⟨S128x4x256x512, .f32⟩
  | 106 => ⟨S_, .i32⟩
  | 107 => ⟨S_, .i1⟩
  | 108 => ⟨S_, .i32⟩
  | 109 => ⟨S_, .i32⟩
  | 110 => ⟨S_, .i32⟩
  | 111 => ⟨S1x4x256x512, .f32⟩
  | 112 => ⟨S4x256x512, .f32⟩
  | 113 => ⟨S4x1x1, .f32⟩
  | 114 => ⟨S4x256x512, .f32⟩
  | 115 => ⟨S4x256x512, .f32⟩
  | 116 => ⟨S4x256x512, .f32⟩
  | 117 => ⟨S1x4x256x512, .f32⟩
  | 118 => ⟨S_, .i32⟩
  | 119 => ⟨S_, .i32⟩
  | 120 => ⟨S_, .i32⟩
  | 121 => ⟨S128x4x256x512, .f32⟩
  | 122 => ⟨S_, .i32⟩
  | 123 => ⟨S_, .i32⟩
  | 124 => ⟨S8192x6144, .f32⟩
  | 125 => ⟨S8192x2048, .f32⟩
  | 126 => ⟨S8192x2048, .f32⟩
  | 127 => ⟨S8192x4x512, .f32⟩
  | _ => ⟨S8192x6144, .bf16⟩

abbrev hbmTy0_1 (i : Nat) : BufTy := match i % 128 with
  | 0 => ⟨S4x512, .f32⟩
  | 1 => ⟨S4x512, .f32⟩
  | 2 => ⟨S_, .f32⟩
  | 3 => ⟨S8192x4, .f32⟩
  | 4 => ⟨S8192x4x1, .f32⟩
  | 5 => ⟨S_, .f32⟩
  | 6 => ⟨S8192x4x1, .f32⟩
  | 7 => ⟨S8192x4x1, .f32⟩
  | 8 => ⟨S8192x4x512, .f32⟩
  | 9 => ⟨S8192x4x512, .f32⟩
  | 10 => ⟨S8192x4x512, .f32⟩
  | 11 => ⟨S_, .f32⟩
  | 12 => ⟨S8192x4x512, .f32⟩
  | 13 => ⟨S8192x4x512, .f32⟩
  | 14 => ⟨S_, .f32⟩
  | 15 => ⟨S8192x4, .f32⟩
  | 16 => ⟨S8192x4x1, .f32⟩
  | 17 => ⟨S_, .f32⟩
  | 18 => ⟨S8192x4x1, .f32⟩
  | 19 => ⟨S8192x4x1, .f32⟩
  | 20 => ⟨S8192x4x512, .f32⟩
  | 21 => ⟨S8192x4x512, .f32⟩
  | 22 => ⟨S_, .f32⟩
  | 23 => ⟨S8192x4x1, .f32⟩
  | 24 => ⟨S8192x4x1, .f32⟩
  | 25 => ⟨S8192x4x1, .f32⟩
  | 26 => ⟨S8192x4x1, .f32⟩
  | 27 => ⟨S_, .f32⟩
  | 28 => ⟨S8192x4x1, .f32⟩
  | 29 => ⟨S8192x4x1, .f32⟩
  | 30 => ⟨S8192x4x512, .f32⟩
  | 31 => ⟨S8192x4x512, .f32⟩
  | 32 => ⟨S1x4x512, .f32⟩
  | 33 => ⟨S8192x4x512, .f32⟩
  | 34 => ⟨S8192x4x512, .f32⟩
  | 35 => ⟨S1x4x512, .f32⟩
  | 36 => ⟨S8192x4x512, .f32⟩
  | 37 => ⟨S8192x4x512, .f32⟩
  | 38 => ⟨S8192x2048, .f32⟩
  | 39 => ⟨S8192x2048, .f32⟩
  | 40 => ⟨S_, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S8192x2048, .f32⟩
  | 51 => ⟨S8192x2048, .f32⟩
  | 52 => ⟨S8192x2048, .f32⟩
  | 53 => ⟨S8192x2048, .f32⟩
  | 54 => ⟨S8192x2048, .f32⟩
  | 55 => ⟨S8192x2048, .f32⟩
  | 56 => ⟨S8192x4x512, .f32⟩
  | 57 => ⟨S8192x2048, .f32⟩
  | 58 => ⟨S8192x2048, .f32⟩
  | 59 => ⟨S8192x2048, .f32⟩
  | 60 => ⟨S8192x2048, .f32⟩
  | 61 => ⟨S_, .f32⟩
  | 62 => ⟨S4x512, .f32⟩
  | 63 => ⟨S1x4x512, .f32⟩
  | 64 => ⟨S_, .f32⟩
  | 65 => ⟨S4x512, .f32⟩
  | 66 => ⟨S8192x4x512, .f32⟩
  | 67 => ⟨S_, .f32⟩
  | 68 => ⟨S4x512, .f32⟩
  | 69 => ⟨S1x4x512, .f32⟩
  | 70 => ⟨S8192x4x512, .f32⟩
  | 71 => ⟨S8192x4x512, .f32⟩
  | 72 => ⟨S_, .f32⟩
  | 73 => ⟨S4x512, .f32⟩
  | 74 => ⟨S8192x4x512, .f32⟩
  | 75 => ⟨S_, .f32⟩
  | 76 => ⟨S8192x4, .f32⟩
  | 77 => ⟨S8192x4x1, .f32⟩
  | 78 => ⟨S8192x4x512, .f32⟩
  | 79 => ⟨S8192x4x512, .f32⟩
  | 80 => ⟨S8192x4x1, .f32⟩
  | 81 => ⟨S8192x4x512, .f32⟩
  | 82 => ⟨S_, .f32⟩
  | 83 => ⟨S8192x4, .f32⟩
  | 84 => ⟨S8192x4x1, .f32⟩
  | 85 => ⟨S_, .f32⟩
  | 86 => ⟨S8192x4x1, .f32⟩
  | 87 => ⟨S8192x4x1, .f32⟩
  | 88 => ⟨S_, .f32⟩
  | 89 => ⟨S8192x4, .f32⟩
  | 90 => ⟨S8192x4x512, .f32⟩
  | 91 => ⟨S8192x4x512, .f32⟩
  | 92 => ⟨S8192x4x512, .f32⟩
  | 93 => ⟨S_, .f32⟩
  | 94 => ⟨S8192x4, .f32⟩
  | 95 => ⟨S8192x4x1, .f32⟩
  | 96 => ⟨S8192x4x512, .f32⟩
  | 97 => ⟨S8192x4x1, .f32⟩
  | 98 => ⟨S_, .f32⟩
  | 99 => ⟨S8192x4x1, .f32⟩
  | 100 => ⟨S8192x4x1, .f32⟩
  | 101 => ⟨S_, .f32⟩
  | 102 => ⟨S8192x4, .f32⟩
  | 103 => ⟨S8192x4x512, .f32⟩
  | 104 => ⟨S8192x4x512, .f32⟩
  | 105 => ⟨S8192x6144, .f32⟩
  | 106 => ⟨S8192x3072, .f32⟩
  | 107 => ⟨S8192x1024, .f32⟩
  | 108 => ⟨S8192x2048, .f32⟩
  | 109 => ⟨S8192, .f32⟩
  | 110 => ⟨S128, .f32⟩
  | 111 => ⟨S_, .f32⟩
  | 112 => ⟨S128, .f32⟩
  | 113 => ⟨S128, .f32⟩
  | 114 => ⟨S_, .f32⟩
  | 115 => ⟨S128, .f32⟩
  | 116 => ⟨S128, .f32⟩
  | 117 => ⟨S128, .f32⟩
  | 118 => ⟨S_, .f32⟩
  | 119 => ⟨S128, .f32⟩
  | 120 => ⟨S128, .f32⟩
  | 121 => ⟨S_, .f32⟩
  | 122 => ⟨S128, .f32⟩
  | 123 => ⟨S128, .f32⟩
  | 124 => ⟨S8192x1, .f32⟩
  | 125 => ⟨S1x128, .f32⟩
  | 126 => ⟨S8192x128, .f32⟩
  | 127 => ⟨S8192x128, .f32⟩
  | _ => ⟨S8192x6144, .bf16⟩

abbrev hbmTy0_2 (i : Nat) : BufTy := match i % 128 with
  | 0 => ⟨S8192x128, .f32⟩
  | 1 => ⟨S8192x128, .f32⟩
  | 2 => ⟨S8192x128, .f32⟩
  | 3 => ⟨S8192x4x256, .f32⟩
  | 4 => ⟨S8192x4x128, .f32⟩
  | 5 => ⟨S8192x4x128, .f32⟩
  | 6 => ⟨S8192x1x128, .f32⟩
  | 7 => ⟨S8192x1x128, .f32⟩
  | 8 => ⟨S8192x4x128, .f32⟩
  | 9 => ⟨S8192x4x128, .f32⟩
  | 10 => ⟨S8192x4x128, .f32⟩
  | 11 => ⟨S8192x4x128, .f32⟩
  | 12 => ⟨S8192x4x128, .f32⟩
  | 13 => ⟨S8192x4x128, .f32⟩
  | 14 => ⟨S8192x4x128, .f32⟩
  | 15 => ⟨S8192x4x128, .f32⟩
  | 16 => ⟨S8192x4x128, .f32⟩
  | 17 => ⟨S8192x4x128, .f32⟩
  | 18 => ⟨S8192x4x256, .f32⟩
  | 19 => ⟨S_, .f32⟩
  | 20 => ⟨S8192x4x256, .f32⟩
  | 21 => ⟨S8192x4x256, .f32⟩
  | 22 => ⟨S128x64x4x256, .f32⟩
  | 23 => ⟨S128x4x64x256, .f32⟩
  | 24 => ⟨S8192x4x512, .f32⟩
  | 25 => ⟨S128x64x4x512, .f32⟩
  | 26 => ⟨S128x4x64x512, .f32⟩
  | 27 => ⟨S8192x6144, .f32⟩
  | 28 => ⟨S8192x1024, .f32⟩
  | 29 => ⟨S8192, .f32⟩
  | 30 => ⟨S128, .f32⟩
  | 31 => ⟨S_, .f32⟩
  | 32 => ⟨S128, .f32⟩
  | 33 => ⟨S128, .f32⟩
  | 34 => ⟨S_, .f32⟩
  | 35 => ⟨S128, .f32⟩
  | 36 => ⟨S128, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S8192x1, .f32⟩
  | 45 => ⟨S1x128, .f32⟩
  | 46 => ⟨S8192x128, .f32⟩
  | 47 => ⟨S8192x128, .f32⟩
  | 48 => ⟨S8192x128, .f32⟩
  | 49 => ⟨S8192x128, .f32⟩
  | 50 => ⟨S8192x128, .f32⟩
  | 51 => ⟨S8192x4x256, .f32⟩
  | 52 => ⟨S8192x4x128, .f32⟩
  | 53 => ⟨S8192x4x128, .f32⟩
  | 54 => ⟨S8192x1x128, .f32⟩
  | 55 => ⟨S8192x1x128, .f32⟩
  | 56 => ⟨S8192x4x128, .f32⟩
  | 57 => ⟨S8192x4x128, .f32⟩
  | 58 => ⟨S8192x4x128, .f32⟩
  | 59 => ⟨S8192x4x128, .f32⟩
  | 60 => ⟨S8192x4x128, .f32⟩
  | 61 => ⟨S8192x4x128, .f32⟩
  | 62 => ⟨S8192x4x128, .f32⟩
  | 63 => ⟨S8192x4x128, .f32⟩
  | 64 => ⟨S8192x4x128, .f32⟩
  | 65 => ⟨S8192x4x128, .f32⟩
  | 66 => ⟨S8192x4x256, .f32⟩
  | 67 => ⟨S128x64x4x256, .f32⟩
  | 68 => ⟨S128x4x64x256, .f32⟩
  | 69 => ⟨S64, .f32⟩
  | 70 => ⟨S4, .f32⟩
  | 71 => ⟨S_, .f32⟩
  | 72 => ⟨S4, .f32⟩
  | 73 => ⟨S4, .f32⟩
  | 74 => ⟨S_, .f32⟩
  | 75 => ⟨S4, .f32⟩
  | 76 => ⟨S4, .f32⟩
  | 77 => ⟨S_, .f32⟩
  | 78 => ⟨S4, .f32⟩
  | 79 => ⟨S4, .f32⟩
  | 80 => ⟨S4, .f32⟩
  | 81 => ⟨S4x1x1, .f32⟩
  | 82 => ⟨S64x1, .f32⟩
  | 83 => ⟨S1x64, .f32⟩
  | 84 => ⟨S64x64, .f32⟩
  | 85 => ⟨S64x64, .f32⟩
  | 86 => ⟨S64x64, .f32⟩
  | 87 => ⟨S64x64, .f32⟩
  | 88 => ⟨S1x64x64, .f32⟩
  | 89 => ⟨S4x64x64, .f32⟩
  | 90 => ⟨S4x64x64, .f32⟩
  | 91 => ⟨S4x64x64, .f32⟩
  | 92 => ⟨S4x64x64, .f32⟩
  | 93 => ⟨S128x4x64x64, .f32⟩
  | 94 => ⟨S1x4x64x64, .f32⟩
  | 95 => ⟨S128x4x64x64, .f32⟩
  | 96 => ⟨S128x4x64x64, .f32⟩
  | 97 => ⟨S128x4x64x512, .f32⟩
  | 98 => ⟨S4, .f32⟩
  | 99 => ⟨S_, .f32⟩
  | 100 => ⟨S4, .f32⟩
  | 101 => ⟨S4, .f32⟩
  | 102 => ⟨S_, .f32⟩
  | 103 => ⟨S4, .f32⟩
  | 104 => ⟨S4, .f32⟩
  | 105 => ⟨S_, .f32⟩
  | 106 => ⟨S4, .f32⟩
  | 107 => ⟨S4, .f32⟩
  | 108 => ⟨S4, .f32⟩
  | 109 => ⟨S4x1, .f32⟩
  | 110 => ⟨S_, .f32⟩
  | 111 => ⟨S64, .f32⟩
  | 112 => ⟨S64, .f32⟩
  | 113 => ⟨S1x64, .f32⟩
  | 114 => ⟨S4x64, .f32⟩
  | 115 => ⟨S4x64, .f32⟩
  | 116 => ⟨S4x64, .f32⟩
  | 117 => ⟨S4x64, .f32⟩
  | 118 => ⟨S4x64x1, .f32⟩
  | 119 => ⟨S1x4x64x1, .f32⟩
  | 120 => ⟨S128x4x64x256, .f32⟩
  | 121 => ⟨S128x4x64x256, .f32⟩
  | 122 => ⟨S128x4x64x512, .f32⟩
  | 123 => ⟨S128x4x64x512, .f32⟩
  | 124 => ⟨S128x64x4x512, .f32⟩
  | 125 => ⟨S8192x4x512, .f32⟩
  | 126 => ⟨S128x64x4x512, .f32⟩
  | 127 => ⟨S128x4x64x512, .f32⟩
  | _ => ⟨S8192x6144, .bf16⟩

abbrev hbmTy0_3 (i : Nat) : BufTy := match i % 128 with
  | 0 => ⟨S128x4x64x256, .f32⟩
  | 1 => ⟨S128x4x64x256, .f32⟩
  | 2 => ⟨S128x4x64x256, .f32⟩
  | 3 => ⟨S128x4x64x64, .f32⟩
  | 4 => ⟨S128x4x64x64, .f32⟩
  | 5 => ⟨S128x4x64x64, .f32⟩
  | 6 => ⟨S128x4x64x256, .f32⟩
  | 7 => ⟨S128x4x64x256, .f32⟩
  | 8 => ⟨S128x64x4x256, .f32⟩
  | 9 => ⟨S8192x4x256, .f32⟩
  | 10 => ⟨S8192x4x128, .f32⟩
  | 11 => ⟨S8192x4x128, .f32⟩
  | 12 => ⟨S8192x4x128, .f32⟩
  | 13 => ⟨S8192x4x128, .f32⟩
  | 14 => ⟨S8192x4x128, .f32⟩
  | 15 => ⟨S8192x4x128, .f32⟩
  | 16 => ⟨S8192x4x128, .f32⟩
  | 17 => ⟨S8192x4x128, .f32⟩
  | 18 => ⟨S8192x4x128, .f32⟩
  | 19 => ⟨S8192x4x128, .f32⟩
  | 20 => ⟨S8192x4x128, .f32⟩
  | 21 => ⟨S8192x4x128, .f32⟩
  | 22 => ⟨S8192x4x128, .f32⟩
  | 23 => ⟨S_, .f32⟩
  | 24 => ⟨S8192x4x256, .f32⟩
  | 25 => ⟨S_, .f32⟩
  | 26 => ⟨S8192x4x256, .f32⟩
  | 27 => ⟨S8192x4x256, .f32⟩
  | 28 => ⟨S8192x1024, .f32⟩
  | 29 => ⟨S8192x1024, .bf16⟩
  | 30 => ⟨S8192x2048, .bf16⟩
  | 31 => ⟨S8192x2048, .f32⟩
  | 32 => ⟨S8192x2048, .bf16⟩
  | 33 => ⟨S1x2048, .f32⟩
  | 34 => ⟨S1x2048, .f32⟩
  | _ => ⟨S8192x6144, .bf16⟩

abbrev hbmTy (i : Nat) : BufTy := match i / 128 with
  | 0 => hbmTy0_0 i
  | 1 => hbmTy0_1 i
  | 2 => hbmTy0_2 i
  | 3 => hbmTy0_3 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_8 : Ref sig .tc := ⟨.hbm, 77, rfl⟩
abbrev main_v63 : Ref sig .tc := ⟨.hbm, 78, rfl⟩
abbrev main_v64 : Ref sig .tc := ⟨.hbm, 79, rfl⟩
abbrev main_cst_9 : Ref sig .tc := ⟨.hbm, 80, rfl⟩
abbrev main_v65 : Ref sig .tc := ⟨.hbm, 81, rfl⟩
abbrev main_v66 : Ref sig .tc := ⟨.hbm, 82, rfl⟩
abbrev main_cst_10 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_11 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_v78 : Ref sig .tc := ⟨.hbm, 97, rfl⟩
abbrev main_cst_13 : Ref sig .tc := ⟨.hbm, 98, rfl⟩
abbrev main_v79 : Ref sig .tc := ⟨.hbm, 99, rfl⟩
abbrev main_c : Ref sig .tc := ⟨.hbm, 100, rfl⟩
abbrev main_v80_0 : Ref sig .tc := ⟨.hbm, 101, rfl⟩
abbrev main_v80_1 : Ref sig .tc := ⟨.hbm, 102, rfl⟩
abbrev main_v80_2 : Ref sig .tc := ⟨.hbm, 103, rfl⟩
abbrev main_v80_3 : Ref sig .tc := ⟨.hbm, 104, rfl⟩
abbrev main_v80_4 : Ref sig .tc := ⟨.hbm, 105, rfl⟩
abbrev main_while0c_c_54 : Ref sig .tc := ⟨.hbm, 106, rfl⟩
abbrev main_while0c_v325 : Ref sig .tc := ⟨.hbm, 107, rfl⟩
abbrev main_while0b_call0_c : Ref sig .tc := ⟨.hbm, 108, rfl⟩
abbrev main_while0b_call0_c_0 : Ref sig .tc := ⟨.hbm, 109, rfl⟩
abbrev main_while0b_call0_c_1 : Ref sig .tc := ⟨.hbm, 110, rfl⟩
abbrev main_while0b_call0_v0 : Ref sig .tc := ⟨.hbm, 111, rfl⟩
abbrev main_while0b_v325 : Ref sig .tc := ⟨.hbm, 112, rfl⟩
abbrev main_while0b_v326 : Ref sig .tc := ⟨.hbm, 113, rfl⟩
abbrev main_while0b_v327 : Ref sig .tc := ⟨.hbm, 114, rfl⟩
abbrev main_while0b_v328 : Ref sig .tc := ⟨.hbm, 115, rfl⟩
abbrev main_while0b_v329 : Ref sig .tc := ⟨.hbm, 116, rfl⟩
abbrev main_while0b_call1_v0 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_c_1 : Ref sig .tc := ⟨.hbm, 120, rfl⟩
abbrev main_while0b_v330 : Ref sig .tc := ⟨.hbm, 121, rfl⟩
abbrev main_while0b_c_54 : Ref sig .tc := ⟨.hbm, 122, rfl⟩
abbrev main_while0b_v331 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_14 : Ref sig .tc := ⟨.hbm, 130, rfl⟩
abbrev main_v87 : Ref sig .tc := ⟨.hbm, 131, rfl⟩
abbrev main_v88 : Ref sig .tc := ⟨.hbm, 132, rfl⟩
abbrev main_cst_15 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_16 : Ref sig .tc := ⟨.hbm, 139, rfl⟩
abbrev main_v94 : Ref sig .tc := ⟨.hbm, 140, rfl⟩
abbrev main_v95 : Ref sig .tc := ⟨.hbm, 141, rfl⟩
abbrev main_cst_17 : Ref sig .tc := ⟨.hbm, 142, rfl⟩
abbrev main_v96 : Ref sig .tc := ⟨.hbm, 143, rfl⟩
abbrev main_v97 : Ref sig .tc := ⟨.hbm, 144, rfl⟩
abbrev main_cst_18 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_19 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_20 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_call2_v0 : Ref sig .tc := ⟨.hbm, 166, rfl⟩
abbrev main_call2_v1 : Ref sig .tc := ⟨.hbm, 167, rfl⟩
abbrev main_call2_cst : Ref sig .tc := ⟨.hbm, 168, rfl⟩
abbrev main_call2_v2 : Ref sig .tc := ⟨.hbm, 169, rfl⟩
abbrev main_call2_v3 : Ref sig .tc := ⟨.hbm, 170, rfl⟩
abbrev main_call2_cst_0 : Ref sig .tc := ⟨.hbm, 171, rfl⟩
abbrev main_call2_v4 : Ref sig .tc := ⟨.hbm, 172, rfl⟩
abbrev main_v116_2 : Ref sig .tc := ⟨.hbm, 173, rfl⟩
abbrev main_call2_cst_1 : Ref sig .tc := ⟨.hbm, 174, rfl⟩
abbrev main_call2_v6 : Ref sig .tc := ⟨.hbm, 175, rfl⟩
abbrev main_call2_v7 : Ref sig .tc := ⟨.hbm, 176, rfl⟩
abbrev main_v116_1 : Ref sig .tc := ⟨.hbm, 177, rfl⟩
abbrev main_v116_0 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v123 : Ref sig .tc := ⟨.hbm, 188, rfl⟩
abbrev main_cst_21 : Ref sig .tc := ⟨.hbm, 189, rfl⟩
abbrev main_v124 : Ref sig .tc := ⟨.hbm, 190, rfl⟩
abbrev main_v125 : Ref sig .tc := ⟨.hbm, 191, rfl⟩
abbrev main_cst_22 : Ref sig .tc := ⟨.hbm, 192, rfl⟩
abbrev main_v126 : Ref sig .tc := ⟨.hbm, 193, rfl⟩
abbrev main_v127 : Ref sig .tc := ⟨.hbm, 194, rfl⟩
abbrev main_cst_23 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_cst_24 : Ref sig .tc := ⟨.hbm, 200, rfl⟩
abbrev main_v132 : Ref sig .tc := ⟨.hbm, 201, rfl⟩
abbrev main_v133 : Ref sig .tc := ⟨.hbm, 202, rfl⟩
abbrev main_cst_25 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_26 : Ref sig .tc := ⟨.hbm, 210, rfl⟩
abbrev main_v140 : Ref sig .tc := ⟨.hbm, 211, rfl⟩
abbrev main_v141 : Ref sig .tc := ⟨.hbm, 212, rfl⟩
abbrev main_cst_27 : Ref sig .tc := ⟨.hbm, 213, rfl⟩
abbrev main_v142 : Ref sig .tc := ⟨.hbm, 214, rfl⟩
abbrev main_v143 : Ref sig .tc := ⟨.hbm, 215, rfl⟩
abbrev main_cst_28 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_cst_29 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_cst_30 : Ref sig .tc := ⟨.hbm, 226, rfl⟩
abbrev main_v152 : Ref sig .tc := ⟨.hbm, 227, rfl⟩
abbrev main_v153 : Ref sig .tc := ⟨.hbm, 228, rfl⟩
abbrev main_cst_31 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_cst_32 : Ref sig .tc := ⟨.hbm, 239, rfl⟩
abbrev main_v163 : Ref sig .tc := ⟨.hbm, 240, rfl⟩
abbrev main_v164 : Ref sig .tc := ⟨.hbm, 241, rfl⟩
abbrev main_cst_33 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_34 : Ref sig .tc := ⟨.hbm, 246, rfl⟩
abbrev main_v168 : Ref sig .tc := ⟨.hbm, 247, rfl⟩
abbrev main_v169 : Ref sig .tc := ⟨.hbm, 248, rfl⟩
abbrev main_cst_35 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_cst_36 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_cst_37 : Ref sig .tc := ⟨.hbm, 287, rfl⟩
abbrev main_v206 : Ref sig .tc := ⟨.hbm, 288, rfl⟩
abbrev main_v207 : Ref sig .tc := ⟨.hbm, 289, rfl⟩
abbrev main_cst_38 : Ref sig .tc := ⟨.hbm, 290, rfl⟩
abbrev main_v208 : Ref sig .tc := ⟨.hbm, 291, rfl⟩
abbrev main_v209 : Ref sig .tc := ⟨.hbm, 292, rfl⟩
abbrev main_v210 : Ref sig .tc := ⟨.hbm, 293, rfl⟩
abbrev main_cst_39 : Ref sig .tc := ⟨.hbm, 294, rfl⟩
abbrev main_v211 : Ref sig .tc := ⟨.hbm, 295, rfl⟩
abbrev main_v212 : Ref sig .tc := ⟨.hbm, 296, rfl⟩
abbrev main_cst_40 : Ref sig .tc := ⟨.hbm, 297, rfl⟩
abbrev main_v213 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_v217 : Ref sig .tc := ⟨.hbm, 302, rfl⟩
abbrev main_v218 : Ref sig .tc := ⟨.hbm, 303, rfl⟩
abbrev main_v219 : Ref sig .tc := ⟨.hbm, 304, rfl⟩
abbrev main_v220 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_v224 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_v238 : Ref sig .tc := ⟨.hbm, 323, rfl⟩
abbrev main_v239 : Ref sig .tc := ⟨.hbm, 324, rfl⟩
abbrev main_v240 : Ref sig .tc := ⟨.hbm, 325, rfl⟩
abbrev main_v241 : Ref sig .tc := ⟨.hbm, 326, rfl⟩
abbrev main_cst_41 : Ref sig .tc := ⟨.hbm, 327, rfl⟩
abbrev main_v242 : Ref sig .tc := ⟨.hbm, 328, rfl⟩
abbrev main_v243 : Ref sig .tc := ⟨.hbm, 329, rfl⟩
abbrev main_cst_42 : Ref sig .tc := ⟨.hbm, 330, rfl⟩
abbrev main_v244 : Ref sig .tc := ⟨.hbm, 331, rfl⟩
abbrev main_v245 : Ref sig .tc := ⟨.hbm, 332, rfl⟩
abbrev main_cst_43 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_v250 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_v257 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_cst_44 : Ref sig .tc := ⟨.hbm, 355, rfl⟩
abbrev main_v267 : Ref sig .tc := ⟨.hbm, 356, rfl⟩
abbrev main_v268 : Ref sig .tc := ⟨.hbm, 357, rfl⟩
abbrev main_cst_45 : Ref sig .tc := ⟨.hbm, 358, rfl⟩
abbrev main_v269 : Ref sig .tc := ⟨.hbm, 359, rfl⟩
abbrev main_v270 : Ref sig .tc := ⟨.hbm, 360, rfl⟩
abbrev main_cst_46 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_cst_47 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_v291 : Ref sig .tc := ⟨.hbm, 383, rfl⟩
abbrev main_v292 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_v297 : Ref sig .tc := ⟨.hbm, 389, rfl⟩
abbrev main_v298 : Ref sig .tc := ⟨.hbm, 390, rfl⟩
abbrev main_v299 : Ref sig .tc := ⟨.hbm, 391, rfl⟩
abbrev main_v300 : Ref sig .tc := ⟨.hbm, 392, rfl⟩
abbrev main_v301 : Ref sig .tc := ⟨.hbm, 393, rfl⟩
abbrev main_v302 : Ref sig .tc := ⟨.hbm, 394, rfl⟩
abbrev main_v303 : Ref sig .tc := ⟨.hbm, 395, rfl⟩
abbrev main_v304 : Ref sig .tc := ⟨.hbm, 396, rfl⟩
abbrev main_v305 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_cst_48 : Ref sig .tc := ⟨.hbm, 407, rfl⟩
abbrev main_v315 : Ref sig .tc := ⟨.hbm, 408, rfl⟩
abbrev main_cst_49 : Ref sig .tc := ⟨.hbm, 409, rfl⟩
abbrev main_v316 : Ref sig .tc := ⟨.hbm, 410, rfl⟩
abbrev main_v317 : Ref sig .tc := ⟨.hbm, 411, rfl⟩
abbrev main_v318 : Ref sig .tc := ⟨.hbm, 412, rfl⟩
abbrev main_v319 : Ref sig .tc := ⟨.hbm, 413, rfl⟩
abbrev main_v320 : Ref sig .tc := ⟨.hbm, 414, rfl⟩
abbrev main_v321 : Ref sig .tc := ⟨.hbm, 415, rfl⟩
abbrev main_v322 : Ref sig .tc := ⟨.hbm, 416, rfl⟩
abbrev main_v323 : Ref sig .tc := ⟨.hbm, 417, rfl⟩
abbrev main_v324 : Ref sig .tc := ⟨.hbm, 418, rfl⟩

abbrev nD : Nat := 1
abbrev τ : Topo := Topo.v7x

variable {F : FTy → Type} [FloatOps F]

abbrev main_while0_count : Scf.Loop 32 := ⟨0#32, 128#32, 1#32⟩
-- ==== MlpOneX.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S1x1024, .f32⟩
  | .hbm, ⟨14, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefOneXIdeal.lean ====
abbrev S8192x4096 : Shape := ⟨2, ![8192, 4096]⟩
abbrev S8x1024x512 : Shape := ⟨3, ![8, 1024, 512]⟩
abbrev S8192x1024 : Shape := ⟨2, ![8192, 1024]⟩
abbrev S1x1024 : Shape := ⟨2, ![1, 1024]⟩
abbrev S1x8192x4096 : Shape := ⟨3, ![1, 8192, 4096]⟩
abbrev S1024x8x512 : Shape := ⟨3, ![1024, 8, 512]⟩
abbrev S1024x4096 : Shape := ⟨2, ![1024, 4096]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩

abbrev nBuf : Space → Nat
  | .hbm => 120
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x1024x512, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x4096, .f32⟩
  | .hbm, ⟨9, _⟩ => ⟨S1x8192x4096, .f32⟩
  | .hbm, ⟨10, _⟩ => ⟨S8x1024x512, .f32⟩
  | .hbm, ⟨11, _⟩ => ⟨S1024x8x512, .f32⟩
  | .hbm, ⟨12, _⟩ => ⟨S1024x4096, .f32⟩
  | .hbm, ⟨13, _⟩ => ⟨S8192x1024, .f32⟩
  | .hbm, ⟨14, _⟩ => ⟨S1x8192x1024, .f32⟩
  | .hbm, ⟨15, _⟩ => ⟨S1x8192x1024, .f32⟩
  | .hbm, ⟨16, _⟩ => ⟨S1024, .f32⟩
  | .hbm, ⟨17, _⟩ => ⟨S_, .f32⟩
  | .hbm, ⟨18, _⟩ => ⟨S1x1024, .f32⟩
  | .hbm, ⟨19, _⟩ => ⟨S1x8192x1024, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S1x1x1024, .f32⟩
  | .hbm, ⟨46, _⟩ => ⟨S1x8192x1024, .f32⟩
  | .hbm, ⟨47, _⟩ => ⟨S1x8192x1024, .f32⟩
  | .hbm, ⟨48, _⟩ => ⟨S1x8192x4096, .f32⟩
  | .hbm, ⟨49, _⟩ => ⟨S1x8192x1024, .f32⟩
  | .hbm, ⟨50, _⟩ => ⟨S1x8192x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1x8192x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x8192x1024, .f32⟩
  | .hbm, ⟨62, _⟩ => ⟨S1x8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S1x8192x1024, .f32⟩
  | .hbm, ⟨67, _⟩ => ⟨S_, .f32⟩
  | .hbm, ⟨68, _⟩ => ⟨S1x1024, .f32⟩
  | .hbm, ⟨69, _⟩ => ⟨S1x1x1024, .f32⟩
  | .hbm, ⟨70, _⟩ => ⟨S1x8192x1024, .f32⟩
  | .hbm, ⟨71, _⟩ => ⟨S1x8192x1024, .f32⟩
  | .hbm, ⟨72, _⟩ => ⟨S_, .f32⟩
  | .hbm, ⟨73, _⟩ => ⟨S1024, .f32⟩
  | .hbm, ⟨74, _⟩ => ⟨S1x8192x1024, .f32⟩
  | .hbm, ⟨75, _⟩ => ⟨S_, .f32⟩
  | .hbm, ⟨76, _⟩ => ⟨S1x8192, .f32⟩
  | .hbm, ⟨77, _⟩ => ⟨S1x8192x1, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S1x8192x1, .f32⟩
  | .hbm, ⟨82, _⟩ => ⟨S_, .f32⟩
  | .hbm, ⟨83, _⟩ => ⟨S1x8192x1, .f32⟩
  | .hbm, ⟨84, _⟩ => ⟨S1x8192x1, .f32⟩
  | .hbm, ⟨85, _⟩ => ⟨S_, .f32⟩
  | .hbm, ⟨86, _⟩ => ⟨S8192, .f32⟩
  | .hbm, ⟨87, _⟩ => ⟨S1x8192, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S_, .f32⟩
  | .hbm, ⟨94, _⟩ => ⟨S1024, .f32⟩
  | .hbm, ⟨95, _⟩ => ⟨S1x1x1024, .f32⟩
  | .hbm, ⟨96, _⟩ => ⟨S1x1x1024, .f32⟩
  | .hbm, ⟨97, _⟩ => ⟨S1x8192x1024, .f32⟩
  | .hbm, ⟨98, _⟩ => ⟨S1x8192x1024, .f32⟩
  | .hbm, ⟨99, _⟩ => ⟨S1x8192x1024, .f32⟩
  | .hbm, ⟨100, _⟩ => ⟨S1x8192x1024, .f32⟩
  | .hbm, ⟨101, _⟩ => ⟨S1x8192x1024, .f32⟩
  | .hbm, ⟨102, _⟩ => ⟨S1x8192x1024, .f32⟩
  | .hbm, ⟨103, _⟩ => ⟨S1x8192x1024, .f32⟩
  | .hbm, ⟨104, _⟩ => ⟨S_, .f32⟩
  | .hbm, ⟨105, _⟩ => ⟨S1x1024, .f32⟩
  | .hbm, ⟨106, _⟩ => ⟨S1x1x1024, .f32⟩
  | .hbm, ⟨107, _⟩ => ⟨S_, .f32⟩
  | .hbm, ⟨108, _⟩ => ⟨S1x1024, .f32⟩
  | .hbm, ⟨109, _⟩ => ⟨S1x1x1024, .f32⟩
  | .hbm, ⟨110, _⟩ => ⟨S_, .f32⟩
  | .hbm, ⟨111, _⟩ => ⟨S1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S8192x1024, .f32⟩
  | .hbm, ⟨116, _⟩ => ⟨S1x1024, .f32⟩
  | .hbm, ⟨117, _⟩ => ⟨S8192x1024, .f32⟩
  | .hbm, ⟨118, _⟩ => ⟨S8192x1024, .bf16⟩
  | .hbm, ⟨119, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== RetInX.lean ====
abbrev S8192x6144 : Shape := ⟨2, ![8192, 6144]⟩
abbrev S8x1024x768 : Shape := ⟨3, ![8, 1024, 768]⟩
abbrev S8192x1024 : Shape := ⟨2, ![8192, 1024]⟩
abbrev S1x1024 : Shape := ⟨2, ![1, 1024]⟩
abbrev S512x6144 : Shape := ⟨2, ![512, 6144]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S8192x6144, .bf16⟩
  | .hbm, ⟨1, _⟩ => ⟨S8x1024x768, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S1x1024, .f32⟩
  | .hbm, ⟨14, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefInXIdeal.lean ====
abbrev S8192x6144 : Shape := ⟨2, ![8192, 6144]⟩
abbrev S8x1024x768 : Shape := ⟨3, ![8, 1024, 768]⟩
abbrev S8192x1024 : Shape := ⟨2, ![8192, 1024]⟩
abbrev S1x1024 : Shape := ⟨2, ![1, 1024]⟩
abbrev S1x8192x6144 : Shape := ⟨3, ![1, 8192, 6144]⟩
abbrev S1024x8x768 : Shape := ⟨3, ![1024, 8, 768]⟩
abbrev S1024x6144 : Shape := ⟨2, ![1024, 6144]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩

abbrev nBuf : Space → Nat
  | .hbm => 120
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8x1024x768, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x6144, .f32⟩
  | .hbm, ⟨9, _⟩ => ⟨S1x8192x6144, .f32⟩
  | .hbm, ⟨10, _⟩ => ⟨S8x1024x768, .f32⟩
  | .hbm, ⟨11, _⟩ => ⟨S1024x8x768, .f32⟩
  | .hbm, ⟨12, _⟩ => ⟨S1024x6144, .f32⟩
  | .hbm, ⟨13, _⟩ => ⟨S8192x1024, .f32⟩
  | .hbm, ⟨14, _⟩ => ⟨S1x8192x1024, .f32⟩
  | .hbm, ⟨15, _⟩ => ⟨S1x8192x1024, .f32⟩
  | .hbm, ⟨16, _⟩ => ⟨S1024, .f32⟩
  | .hbm, ⟨17, _⟩ => ⟨S_, .f32⟩
  | .hbm, ⟨18, _⟩ => ⟨S1x1024, .f32⟩
  | .hbm, ⟨19, _⟩ => ⟨S1x8192x1024, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S_, .f32⟩
  | .hbm, ⟨32, _⟩ => ⟨S1x8192x1, .f32⟩
  | .hbm, ⟨33, _⟩ => ⟨S1x8192x1, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x1x1024, .f32⟩
  | .hbm, ⟨40, _⟩ => ⟨S_, .f32⟩
  | .hbm, ⟨41, _⟩ => ⟨S1x1x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S1x1x1024, .f32⟩
  | .hbm, ⟨46, _⟩ => ⟨S1x8192x1024, .f32⟩
  | .hbm, ⟨47, _⟩ => ⟨S1x8192x1024, .f32⟩
  | .hbm, ⟨48, _⟩ => ⟨S1x8192x6144, .f32⟩
  | .hbm, ⟨49, _⟩ => ⟨S1x8192x1024, .f32⟩
  | .hbm, ⟨50, _⟩ => ⟨S1x8192x1024, .f32⟩
  | .hbm, ⟨51, _⟩ => ⟨S_, .f32⟩
  | .hbm, ⟨52, _⟩ => ⟨S1x1024, .f32⟩
  | .hbm, ⟨53, _⟩ => ⟨S1x1x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S1x8192x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x8192x1024, .f32⟩
  | .hbm, ⟨62, _⟩ => ⟨S1x8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S1x8192x1024, .f32⟩
  | .hbm, ⟨67, _⟩ => ⟨S_, .f32⟩
  | .hbm, ⟨68, _⟩ => ⟨S1x1024, .f32⟩
  | .hbm, ⟨69, _⟩ => ⟨S1x1x1024, .f32⟩
  | .hbm, ⟨70, _⟩ => ⟨S1x8192x1024, .f32⟩
  | .hbm, ⟨71, _⟩ => ⟨S1x8192x1024, .f32⟩
  | .hbm, ⟨72, _⟩ => ⟨S_, .f32⟩
  | .hbm, ⟨73, _⟩ => ⟨S1024, .f32⟩
  | .hbm, ⟨74, _⟩ => ⟨S1x8192x1024, .f32⟩
  | .hbm, ⟨75, _⟩ => ⟨S_, .f32⟩
  | .hbm, ⟨76, _⟩ => ⟨S1x8192, .f32⟩
  | .hbm, ⟨77, _⟩ => ⟨S1x8192x1, .f32⟩
  | .hbm, ⟨78, _⟩ => ⟨S1x8192x1024, .f32⟩
  | .hbm, ⟨79, _⟩ => ⟨S1x8192x1024, .f32⟩
  | .hbm, ⟨80, _⟩ => ⟨S1x8192x1024, .f32⟩
  | .hbm, ⟨81, _⟩ => ⟨S1x8192x1, .f32⟩
  | .hbm, ⟨82, _⟩ => ⟨S_, .f32⟩
  | .hbm, ⟨83, _⟩ => ⟨S1x8192x1, .f32⟩
  | .hbm, ⟨84, _⟩ => ⟨S1x8192x1, .f32⟩
  | .hbm, ⟨85, _⟩ => ⟨S_, .f32⟩
  | .hbm, ⟨86, _⟩ => ⟨S8192, .f32⟩
  | .hbm, ⟨87, _⟩ => ⟨S1x8192, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S_, .f32⟩
  | .hbm, ⟨94, _⟩ => ⟨S1024, .f32⟩
  | .hbm, ⟨95, _⟩ => ⟨S1x1x1024, .f32⟩
  | .hbm, ⟨96, _⟩ => ⟨S1x1x1024, .f32⟩
  | .hbm, ⟨97, _⟩ => ⟨S1x8192x1024, .f32⟩
  | .hbm, ⟨98, _⟩ => ⟨S1x8192x1024, .f32⟩
  | .hbm, ⟨99, _⟩ => ⟨S1x8192x1024, .f32⟩
  | .hbm, ⟨100, _⟩ => ⟨S1x8192x1024, .f32⟩
  | .hbm, ⟨101, _⟩ => ⟨S1x8192x1024, .f32⟩
  | .hbm, ⟨102, _⟩ => ⟨S1x8192x1024, .f32⟩
  | .hbm, ⟨103, _⟩ => ⟨S1x8192x1024, .f32⟩
  | .hbm, ⟨104, _⟩ => ⟨S_, .f32⟩
  | .hbm, ⟨105, _⟩ => ⟨S1x1024, .f32⟩
  | .hbm, ⟨106, _⟩ => ⟨S1x1x1024, .f32⟩
  | .hbm, ⟨107, _⟩ => ⟨S_, .f32⟩
  | .hbm, ⟨108, _⟩ => ⟨S1x1024, .f32⟩
  | .hbm, ⟨109, _⟩ => ⟨S1x1x1024, .f32⟩
  | .hbm, ⟨110, _⟩ => ⟨S_, .f32⟩
  | .hbm, ⟨111, _⟩ => ⟨S1024, .f32⟩
  | .hbm, ⟨112, _⟩ => ⟨S_, .f32⟩
  | .hbm, ⟨113, _⟩ => ⟨S1024, .f32⟩
  | .hbm, ⟨114, _⟩ => ⟨S1x1024, .f32⟩
  | .hbm, ⟨115, _⟩ => ⟨S8192x1024, .f32⟩
  | .hbm, ⟨116, _⟩ => ⟨S1x1024, .f32⟩
  | .hbm, ⟨117, _⟩ => ⟨S8192x1024, .f32⟩
  | .hbm, ⟨118, _⟩ => ⟨S8192x1024, .bf16⟩
  | .hbm, ⟨119, _⟩ => ⟨S1x1024, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_v83 : Ref sig .tc := ⟨.hbm, 109, rfl⟩
abbrev main_cst_17 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== RetInW.lean ====
abbrev S8192x1024 : Shape := ⟨2, ![8192, 1024]⟩
abbrev S8192x6144 : Shape := ⟨2, ![8192, 6144]⟩
abbrev S8x1024x768 : Shape := ⟨3, ![8, 1024, 768]⟩
abbrev S2048x1024 : Shape := ⟨2, ![2048, 1024]⟩
abbrev S2048x1536 : Shape := ⟨2, ![2048, 1536]⟩
abbrev S2x1024x768 : Shape := ⟨3, ![2, 1024, 768]⟩
abbrev S1024x1536 : Shape := ⟨2, ![1024, 1536]⟩
abbrev S1024x768 : Shape := ⟨2, ![1024, 768]⟩
abbrev S1x1024x768 : Shape := ⟨3, ![1, 1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S2x1024x768, .bf16⟩
  | .local _ .vmem, ⟨5, _⟩ => ⟨S2x1024x768, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefInWIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x6144, .bf16⟩
  | .hbm, ⟨2, _⟩ => ⟨S8192x1024, .f32⟩
  | .hbm, ⟨3, _⟩ => ⟨S8192x6144, .f32⟩
  | .hbm, ⟨4, _⟩ => ⟨S_, .f32⟩
  | .hbm, ⟨5, _⟩ => ⟨S1024x6144, .f32⟩
  | .hbm, ⟨6, _⟩ => ⟨S8192x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S1024x8x768, .bf16⟩
  | .hbm, ⟨11, _⟩ => ⟨S8x1024x768, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== RetOutX.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .bf16⟩
  | .local _ .vmem, ⟨4, _⟩ => ⟨S1024x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefOutXIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RetOutW.lean ====
abbrev S8192x2048 : Shape := ⟨2, ![8192, 2048]⟩
abbrev S8192x1024 : Shape := ⟨2, ![8192, 1024]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefOutWIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlpOneF.lean ====
abbrev S8192x1024 : Shape := ⟨2, ![8192, 1024]⟩
abbrev S8x1024x512 : Shape := ⟨3, ![8, 1024, 512]⟩
abbrev S1x1024 : Shape := ⟨2, ![1, 1024]⟩
abbrev S8192x4096 : Shape := ⟨2, ![8192, 4096]⟩
abbrev S1024x1024 : Shape := ⟨2, ![1024, 1024]⟩
abbrev S1024x4096 : Shape := ⟨2, ![1024, 4096]⟩
abbrev S1024 : Shape := ⟨1, ![1024]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8x1024x512, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x4096, .bf16⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S8x1024x512, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x4096, .bf16⟩
  | .local _ .vmem, ⟨7, _⟩ => ⟨S1024x4096, .bf16⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefOneFIdeal.lean ====
abbrev S8192x1024 : Shape := ⟨2, ![8192, 1024]⟩
abbrev S8x1024x512 : Shape := ⟨3, ![8, 1024, 512]⟩
abbrev S1x1024 : Shape := ⟨2, ![1, 1024]⟩
abbrev S1024x8x512 : Shape := ⟨3, ![1024, 8, 512]⟩
abbrev S1024x4096 : Shape := ⟨2, ![1024, 4096]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S8192x4096 : Shape := ⟨2, ![8192, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024x512, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x1024x512, .f32⟩
  | .hbm, ⟨6, _⟩ => ⟨S1024x8x512, .f32⟩
  | .hbm, ⟨7, _⟩ => ⟨S1024x4096, .f32⟩
  | .hbm, ⟨8, _⟩ => ⟨S1x8192x1024, .f32⟩
  | .hbm, ⟨9, _⟩ => ⟨S1024, .f32⟩
  | .hbm, ⟨10, _⟩ => ⟨S1x8192x1024, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S1x8192x4096, .f32⟩
  | .hbm, ⟨36, _⟩ => ⟨S8192x4096, .f32⟩
  | .hbm, ⟨37, _⟩ => ⟨S8192x4096, .bf16⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== MlpTwoF.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024x4096 : Shape := ⟨2, ![1024, 4096]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefTwoFIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S1x8192x4096 : Shape := ⟨3, ![1, 8192, 4096]⟩
abbrev S1x8192x1024 : Shape := ⟨3, ![1, 8192, 1024]⟩
abbrev S1x1x1024 : Shape := ⟨3, ![1, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S1x8192x4096, .f32⟩
  | .hbm, ⟨10, _⟩ => ⟨S4096x1024, .f32⟩
  | .hbm, ⟨11, _⟩ => ⟨S1x8192x1024, .f32⟩
  | .hbm, ⟨12, _⟩ => ⟨S1x8192x1024, .f32⟩
  | .hbm, ⟨13, _⟩ => ⟨S1x1x1024, .f32⟩
  | .hbm, ⟨14, _⟩ => ⟨S1x8192x1024, .f32⟩
  | .hbm, ⟨15, _⟩ => ⟨S1x8192x1024, .f32⟩
  | .hbm, ⟨16, _⟩ => ⟨S1x8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== RetInF.lean ====
abbrev S8192x1024 : Shape := ⟨2, ![8192, 1024]⟩
abbrev S8x1024x768 : Shape := ⟨3, ![8, 1024, 768]⟩
abbrev S1x1024 : Shape := ⟨2, ![1, 1024]⟩
abbrev S8192x6144 : Shape := ⟨2, ![8192, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024x768 : Shape := ⟨3, ![1, 1024, 768]⟩
abbrev S1024x768 : Shape := ⟨2, ![1024, 768]⟩
abbrev S512x768 : Shape := ⟨2, ![512, 768]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8x1024x768, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x6144, .bf16⟩
  | .hbm, ⟨6, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S8x1024x768, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S512x6144, .bf16⟩
  | .local _ .vmem, ⟨7, _⟩ => ⟨S512x6144, .bf16⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefInFIdeal.lean ====
abbrev S8192x1024 : Shape := ⟨2, ![8192, 1024]⟩
abbrev S8x1024x768 : Shape := ⟨3, ![8, 1024, 768]⟩
abbrev S1x1024 : Shape := ⟨2, ![1, 1024]⟩
abbrev S1024x8x768 : Shape := ⟨3, ![1024, 8, 768]⟩
abbrev S1024x6144 : Shape := ⟨2, ![1024, 6144]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x6144 : Shape := ⟨3, ![1, 8192, 6144]⟩
abbrev S8192x6144 : Shape := ⟨2, ![8192, 6144]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024x768, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8x1024x768, .f32⟩
  | .hbm, ⟨6, _⟩ => ⟨S1024x8x768, .f32⟩
  | .hbm, ⟨7, _⟩ => ⟨S1024x6144, .f32⟩
  | .hbm, ⟨8, _⟩ => ⟨S1x8192x1024, .f32⟩
  | .hbm, ⟨9, _⟩ => ⟨S1024, .f32⟩
  | .hbm, ⟨10, _⟩ => ⟨S1x8192x1024, .f32⟩
  | .hbm, ⟨11, _⟩ => ⟨S_, .f32⟩
  | .hbm, ⟨12, _⟩ => ⟨S1x8192, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S_, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1x1x1024, .f32⟩
  | .hbm, ⟨27, _⟩ => ⟨S_, .f32⟩
  | .hbm, ⟨28, _⟩ => ⟨S1x1x1024, .f32⟩
  | .hbm, ⟨29, _⟩ => ⟨S1x1x1024, .f32⟩
  | .hbm, ⟨30, _⟩ => ⟨S1x8192x1024, .f32⟩
  | .hbm, ⟨31, _⟩ => ⟨S1x8192x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S1x8192x6144, .f32⟩
  | .hbm, ⟨36, _⟩ => ⟨S8192x6144, .f32⟩
  | .hbm, ⟨37, _⟩ => ⟨S8192x6144, .bf16⟩
  | .hbm, ⟨38, _⟩ => ⟨S8192x1024, .f32⟩
  | .hbm, ⟨39, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== RetOutF.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefOutFIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1x8192x2048 : Shape := ⟨3, ![1, 8192, 2048]⟩
abbrev S1x8192x1024 : Shape := ⟨3, ![1, 8192, 1024]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x2048, .f32⟩
  | .hbm, ⟨5, _⟩ => ⟨S1x8192x2048, .f32⟩
  | .hbm, ⟨6, _⟩ => ⟨S2048x1024, .f32⟩
  | .hbm, ⟨7, _⟩ => ⟨S1x8192x1024, .f32⟩
  | .hbm, ⟨8, _⟩ => ⟨S1x8192x1024, .f32⟩
  | .hbm, ⟨9, _⟩ => ⟨S1x1x1024, .f32⟩
  | .hbm, ⟨10, _⟩ => ⟨S1x8192x1024, .f32⟩
  | .hbm, ⟨11, _⟩ => ⟨S1x8192x1024, .f32⟩
  | .hbm, ⟨12, _⟩ => ⟨S1x8192x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== PwOneF.lean ====
abbrev S8192x1024 : Shape := ⟨2, ![8192, 1024]⟩
abbrev S8x1024x256 : Shape := ⟨3, ![8, 1024, 256]⟩
abbrev S1x1024 : Shape := ⟨2, ![1, 1024]⟩
abbrev S1x2048 : Shape := ⟨2, ![1, 2048]⟩
abbrev S8192x2048 : Shape := ⟨2, ![8192, 2048]⟩
abbrev S1024x1024 : Shape := ⟨2, ![1024, 1024]⟩
abbrev S1024x2048 : Shape := ⟨2, ![1024, 2048]⟩
abbrev S1024 : Shape := ⟨1, ![1024]⟩
abbrev S1024x1 : Shape := ⟨2, ![1024, 1]⟩
abbrev S1x1024x256 : Shape := ⟨3, ![1, 1024, 256]⟩
abbrev S1024x256 : Shape := ⟨2, ![1024, 256]⟩
abbrev S1x256 : Shape := ⟨2, ![1, 256]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8x1024x256, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x2048, .f32⟩
  | .hbm, ⟨6, _⟩ => ⟨S8192x2048, .f32⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S8x1024x256, .bf16⟩
  | .local _ .vmem, ⟨3, _⟩ => ⟨S1x2048, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1024x2048, .f32⟩
  | .local _ .vmem, ⟨8, _⟩ => ⟨S1024x2048, .f32⟩
  | .local _ .vmem, ⟨9, _⟩ => ⟨S1024x1024, .bf16⟩
  | .local _ .vmem, ⟨10, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefPwOneFIdeal.lean ====
abbrev S8192x1024 : Shape := ⟨2, ![8192, 1024]⟩
abbrev S8x1024x256 : Shape := ⟨3, ![8, 1024, 256]⟩
abbrev S1x1024 : Shape := ⟨2, ![1, 1024]⟩
abbrev S1x2048 : Shape := ⟨2, ![1, 2048]⟩
abbrev S1024x8x256 : Shape := ⟨3, ![1024, 8, 256]⟩
abbrev S1024x2048 : Shape := ⟨2, ![1024, 2048]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x2048 : Shape := ⟨3, ![1, 8192, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x1024x256, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x2048, .f32⟩
  | .hbm, ⟨6, _⟩ => ⟨S8x1024x256, .f32⟩
  | .hbm, ⟨7, _⟩ => ⟨S1024x8x256, .f32⟩
  | .hbm, ⟨8, _⟩ => ⟨S1024x2048, .f32⟩
  | .hbm, ⟨9, _⟩ => ⟨S1x8192x1024, .f32⟩
  | .hbm, ⟨10, _⟩ => ⟨S1024, .f32⟩
  | .hbm, ⟨11, _⟩ => ⟨S1x8192x1024, .f32⟩
  | .hbm, ⟨12, _⟩ => ⟨S_, .f32⟩
  | .hbm, ⟨13, _⟩ => ⟨S1x8192, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1x1x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x8192x2048, .f32⟩
  | .hbm, ⟨37, _⟩ => ⟨S2048, .f32⟩
  | .hbm, ⟨38, _⟩ => ⟨S1x1x2048, .f32⟩
  | .hbm, ⟨39, _⟩ => ⟨S1x8192x2048, .f32⟩
  | .hbm, ⟨40, _⟩ => ⟨S1x8192x2048, .f32⟩
  | .hbm, ⟨41, _⟩ => ⟨S8192x2048, .f32⟩
  | .hbm, ⟨42, _⟩ => ⟨S8192x1024, .f32⟩
  | .hbm, ⟨43, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== PwOneW.lean ====
abbrev S8192x1024 : Shape := ⟨2, ![8192, 1024]⟩
abbrev S8192x2048 : Shape := ⟨2, ![8192, 2048]⟩
abbrev S8x1024x256 : Shape := ⟨3, ![8, 1024, 256]⟩
abbrev S1024x1024 : Shape := ⟨2, ![1024, 1024]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .f32⟩
  | .local _ .vmem, ⟨3, _⟩ => ⟨S1024x2048, .f32⟩
  | .local _ .vmem, ⟨4, _⟩ => ⟨S8x1024x256, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefPwOneWIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .f32⟩
  | .hbm, ⟨2, _⟩ => ⟨S8192x1024, .f32⟩
  | .hbm, ⟨3, _⟩ => ⟨S_, .f32⟩
  | .hbm, ⟨4, _⟩ => ⟨S1024x2048, .f32⟩
  | .hbm, ⟨5, _⟩ => ⟨S8192x2048, .f32⟩
  | .hbm, ⟨6, _⟩ => ⟨S2048x1024, .f32⟩
  | .hbm, ⟨7, _⟩ => ⟨S1024x2048, .f32⟩
  | .hbm, ⟨8, _⟩ => ⟨S1024x2048, .bf16⟩
  | .hbm, ⟨9, _⟩ => ⟨S1024x8x256, .bf16⟩
  | .hbm, ⟨10, _⟩ => ⟨S8x1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== PwOneX.lean ====
abbrev S8192x2048 : Shape := ⟨2, ![8192, 2048]⟩
abbrev S8x1024x256 : Shape := ⟨3, ![8, 1024, 256]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 15
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8x1024x256, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S1x1024, .f32⟩
  | .hbm, ⟨14, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== RefPwOneXIdeal.lean ====
abbrev S8192x2048 : Shape := ⟨2, ![8192, 2048]⟩
abbrev S8x1024x256 : Shape := ⟨3, ![8, 1024, 256]⟩
abbrev S8192x1024 : Shape := ⟨2, ![8192, 1024]⟩
abbrev S1x1024 : Shape := ⟨2, ![1, 1024]⟩
abbrev S1x8192x2048 : Shape := ⟨3, ![1, 8192, 2048]⟩
abbrev S1024x8x256 : Shape := ⟨3, ![1024, 8, 256]⟩
abbrev S1024x2048 : Shape := ⟨2, ![1024, 2048]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩

abbrev nBuf : Space → Nat
  | .hbm => 119
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x1024x256, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .hbm, ⟨8, _⟩ => ⟨S1x8192x2048, .f32⟩
  | .hbm, ⟨9, _⟩ => ⟨S8x1024x256, .f32⟩
  | .hbm, ⟨10, _⟩ => ⟨S1024x8x256, .f32⟩
  | .hbm, ⟨11, _⟩ => ⟨S1024x2048, .f32⟩
  | .hbm, ⟨12, _⟩ => ⟨S8192x1024, .f32⟩
  | .hbm, ⟨13, _⟩ => ⟨S1x8192x1024, .f32⟩
  | .hbm, ⟨14, _⟩ => ⟨S1x8192x1024, .f32⟩
  | .hbm, ⟨15, _⟩ => ⟨S1024, .f32⟩
  | .hbm, ⟨16, _⟩ => ⟨S_, .f32⟩
  | .hbm, ⟨17, _⟩ => ⟨S1x1024, .f32⟩
  | .hbm, ⟨18, _⟩ => ⟨S1x8192x1024, .f32⟩
  | .hbm, ⟨19, _⟩ => ⟨S_, .f32⟩
  | .hbm, ⟨20, _⟩ => ⟨S1x8192, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S_, .f32⟩
  | .hbm, ⟨26, _⟩ => ⟨S1x8192x1, .f32⟩
  | .hbm, ⟨27, _⟩ => ⟨S1x8192x1, .f32⟩
  | .hbm, ⟨28, _⟩ => ⟨S1x8192x1, .f32⟩
  | .hbm, ⟨29, _⟩ => ⟨S1x8192x1, .f32⟩
  | .hbm, ⟨30, _⟩ => ⟨S_, .f32⟩
  | .hbm, ⟨31, _⟩ => ⟨S1x8192x1, .f32⟩
  | .hbm, ⟨32, _⟩ => ⟨S1x8192x1, .f32⟩
  | .hbm, ⟨33, _⟩ => ⟨S1x8192x1024, .f32⟩
  | .hbm, ⟨34, _⟩ => ⟨S1x8192x1024, .f32⟩
  | .hbm, ⟨35, _⟩ => ⟨S1x1x1024, .f32⟩
  | .hbm, ⟨36, _⟩ => ⟨S1x8192x1024, .f32⟩
  | .hbm, ⟨37, _⟩ => ⟨S1x8192x1024, .f32⟩
  | .hbm, ⟨38, _⟩ => ⟨S1x1x1024, .f32⟩
  | .hbm, ⟨39, _⟩ => ⟨S_, .f32⟩
  | .hbm, ⟨40, _⟩ => ⟨S1x1x1024, .f32⟩
  | .hbm, ⟨41, _⟩ => ⟨S1x1x1024, .f32⟩
  | .hbm, ⟨42, _⟩ => ⟨S1x8192x1024, .f32⟩
  | .hbm, ⟨43, _⟩ => ⟨S1x8192x1024, .f32⟩
  | .hbm, ⟨44, _⟩ => ⟨S1x1x1024, .f32⟩
  | .hbm, ⟨45, _⟩ => ⟨S1x8192x1024, .f32⟩
  | .hbm, ⟨46, _⟩ => ⟨S1x8192x1024, .f32⟩
  | .hbm, ⟨47, _⟩ => ⟨S1x8192x2048, .f32⟩
  | .hbm, ⟨48, _⟩ => ⟨S1x8192x1024, .f32⟩
  | .hbm, ⟨49, _⟩ => ⟨S1x8192x1024, .f32⟩
  | .hbm, ⟨50, _⟩ => ⟨S_, .f32⟩
  | .hbm, ⟨51, _⟩ => ⟨S1x1024, .f32⟩
  | .hbm, ⟨52, _⟩ => ⟨S1x1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S1x8192x1024, .f32⟩
  | .hbm, ⟨57, _⟩ => ⟨S_, .f32⟩
  | .hbm, ⟨58, _⟩ => ⟨S1x1024, .f32⟩
  | .hbm, ⟨59, _⟩ => ⟨S1x1x1024, .f32⟩
  | .hbm, ⟨60, _⟩ => ⟨S1x8192x1024, .f32⟩
  | .hbm, ⟨61, _⟩ => ⟨S1x8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S1x8192x1024, .f32⟩
  | .hbm, ⟨66, _⟩ => ⟨S_, .f32⟩
  | .hbm, ⟨67, _⟩ => ⟨S1x1024, .f32⟩
  | .hbm, ⟨68, _⟩ => ⟨S1x1x1024, .f32⟩
  | .hbm, ⟨69, _⟩ => ⟨S1x8192x1024, .f32⟩
  | .hbm, ⟨70, _⟩ => ⟨S1x8192x1024, .f32⟩
  | .hbm, ⟨71, _⟩ => ⟨S_, .f32⟩
  | .hbm, ⟨72, _⟩ => ⟨S1024, .f32⟩
  | .hbm, ⟨73, _⟩ => ⟨S1x8192x1024, .f32⟩
  | .hbm, ⟨74, _⟩ => ⟨S_, .f32⟩
  | .hbm, ⟨75, _⟩ => ⟨S1x8192, .f32⟩
  | .hbm, ⟨76, _⟩ => ⟨S1x8192x1, .f32⟩
  | .hbm, ⟨77, _⟩ => ⟨S1x8192x1024, .f32⟩
  | .hbm, ⟨78, _⟩ => ⟨S1x8192x1024, .f32⟩
  | .hbm, ⟨79, _⟩ => ⟨S1x8192x1024, .f32⟩
  | .hbm, ⟨80, _⟩ => ⟨S1x8192x1, .f32⟩
  | .hbm, ⟨81, _⟩ => ⟨S_, .f32⟩
  | .hbm, ⟨82, _⟩ => ⟨S1x8192x1, .f32⟩
  | .hbm, ⟨83, _⟩ => ⟨S1x8192x1, .f32⟩
  | .hbm, ⟨84, _⟩ => ⟨S_, .f32⟩
  | .hbm, ⟨85, _⟩ => ⟨S8192, .f32⟩
  | .hbm, ⟨86, _⟩ => ⟨S1x8192, .f32⟩
  | .hbm, ⟨87, _⟩ => ⟨S1x8192x1024, .f32⟩
  | .hbm, ⟨88, _⟩ => ⟨S1x8192x1024, .f32⟩
  | .hbm, ⟨89, _⟩ => ⟨S1x8192x1024, .f32⟩
  | .hbm, ⟨90, _⟩ => ⟨S1x8192x1024, .f32⟩
  | .hbm, ⟨91, _⟩ => ⟨S1x8192x1024, .f32⟩
  | .hbm, ⟨92, _⟩ => ⟨S_, .f32⟩
  | .hbm, ⟨93, _⟩ => ⟨S1024, .f32⟩
  | .hbm, ⟨94, _⟩ => ⟨S1x1x1024, .f32⟩
  | .hbm, ⟨95, _⟩ => ⟨S1x1x1024, .f32⟩
  | .hbm, ⟨96, _⟩ => ⟨S1x8192x1024, .f32⟩
  | .hbm, ⟨97, _⟩ => ⟨S1x8192x1024, .f32⟩
  | .hbm, ⟨98, _⟩ => ⟨S1x8192x1024, .f32⟩
  | .hbm, ⟨99, _⟩ => ⟨S1x8192x1024, .f32⟩
  | .hbm, ⟨100, _⟩ => ⟨S1x8192x1024, .f32⟩
  | .hbm, ⟨101, _⟩ => ⟨S1x8192x1024, .f32⟩
  | .hbm, ⟨102, _⟩ => ⟨S1x8192x1024, .f32⟩
  | .hbm, ⟨103, _⟩ => ⟨S_, .f32⟩
  | .hbm, ⟨104, _⟩ => ⟨S1x1024, .f32⟩
  | .hbm, ⟨105, _⟩ => ⟨S1x1x1024, .f32⟩
  | .hbm, ⟨106, _⟩ => ⟨S_, .f32⟩
  | .hbm, ⟨107, _⟩ => ⟨S1x1024, .f32⟩
  | .hbm, ⟨108, _⟩ => ⟨S1x1x1024, .f32⟩
  | .hbm, ⟨109, _⟩ => ⟨S_, .f32⟩
  | .hbm, ⟨110, _⟩ => ⟨S1024, .f32⟩
  | .hbm, ⟨111, _⟩ => ⟨S_, .f32⟩
  | .hbm, ⟨112, _⟩ => ⟨S1024, .f32⟩
  | .hbm, ⟨113, _⟩ => ⟨S1x1024, .f32⟩
  | .hbm, ⟨114, _⟩ => ⟨S8192x1024, .f32⟩
  | .hbm, ⟨115, _⟩ => ⟨S1x1024, .f32⟩
  | .hbm, ⟨116, _⟩ => ⟨S8192x1024, .f32⟩
  | .hbm, ⟨117, _⟩ => ⟨S8192x1024, .bf16⟩
  | .hbm, ⟨118, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_12 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_14 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_v79 : Ref sig .tc := ⟨.hbm, 104, rfl⟩
abbrev main_v80 : Ref sig .tc := ⟨.hbm, 105, rfl⟩
abbrev main_cst_16 : Ref sig .tc := ⟨.hbm, 106, rfl⟩
abbrev main_v81 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_cst_18 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]
-- ==== PwTwoF.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefPwTwoFIdeal.lean ====
abbrev S8192x1024 : Shape := ⟨2, ![8192, 1024]⟩
abbrev S1024x1024 : Shape := ⟨2, ![1024, 1024]⟩
abbrev S1x1024 : Shape := ⟨2, ![1, 1024]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x8192x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S_, .f32⟩
  | .hbm, ⟨20, _⟩ => ⟨S1x8192, .f32⟩
  | .hbm, ⟨21, _⟩ => ⟨S1x8192x1, .f32⟩
  | .hbm, ⟨22, _⟩ => ⟨S_, .f32⟩
  | .hbm, ⟨23, _⟩ => ⟨S1x8192x1, .f32⟩
  | .hbm, ⟨24, _⟩ => ⟨S1x8192x1, .f32⟩
  | .hbm, ⟨25, _⟩ => ⟨S1x8192x1024, .f32⟩
  | .hbm, ⟨26, _⟩ => ⟨S1x8192x1024, .f32⟩
  | .hbm, ⟨27, _⟩ => ⟨S_, .f32⟩
  | .hbm, ⟨28, _⟩ => ⟨S1x8192x1, .f32⟩
  | .hbm, ⟨29, _⟩ => ⟨S1x8192x1, .f32⟩
  | .hbm, ⟨30, _⟩ => ⟨S1x8192x1, .f32⟩
  | .hbm, ⟨31, _⟩ => ⟨S1x8192x1024, .f32⟩
  | .hbm, ⟨32, _⟩ => ⟨S1x8192x1024, .f32⟩
  | .hbm, ⟨33, _⟩ => ⟨S1x1x1024, .f32⟩
  | .hbm, ⟨34, _⟩ => ⟨S1x8192x1024, .f32⟩
  | .hbm, ⟨35, _⟩ => ⟨S1x8192x1024, .f32⟩
  | .hbm, ⟨36, _⟩ => ⟨S1x1x1024, .f32⟩
  | .hbm, ⟨37, _⟩ => ⟨S1x8192x1024, .f32⟩
  | .hbm, ⟨38, _⟩ => ⟨S1x8192x1024, .f32⟩
  | .hbm, ⟨39, _⟩ => ⟨S1x8192x1024, .f32⟩
  | .hbm, ⟨40, _⟩ => ⟨S1x8192x1024, .f32⟩
  | .hbm, ⟨41, _⟩ => ⟨S_, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S1024x1024, .f32⟩
  | .hbm, ⟨49, _⟩ => ⟨S1x8192x1024, .f32⟩
  | .hbm, ⟨50, _⟩ => ⟨S1024, .f32⟩
  | .hbm, ⟨51, _⟩ => ⟨S1x1x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x1x1024, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== PwTwoW.lean ====
abbrev S8192x1024 : Shape := ⟨2, ![8192, 1024]⟩
abbrev S1x1024 : Shape := ⟨2, ![1, 1024]⟩
abbrev S1024x1024 : Shape := ⟨2, ![1024, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_20 : BitVec 32 := 0#32
  let v44 : BitVec 1 := Scalar.cmpi .ne v43 c0_i32_20
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== RefPwTwoWIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024x1024, .f32⟩
  | .hbm, ⟨47, _⟩ => ⟨S8192x1024, .f32⟩
  | .hbm, ⟨48, _⟩ => ⟨S1024x1024, .f32⟩
  | .hbm, ⟨49, _⟩ => ⟨S1024x1024, .f32⟩
  | .hbm, ⟨50, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== PwOneZ.lean ====
abbrev S8192x2048 : Shape := ⟨2, ![8192, 2048]⟩
abbrev S8x1024x256 : Shape := ⟨3, ![8, 1024, 256]⟩
abbrev S8192x1024 : Shape := ⟨2, ![8192, 1024]⟩
abbrev S1x1024 : Shape := ⟨2, ![1, 1024]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8x1024x256, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x2048, .f32⟩
  | .local _ .vmem, ⟨1, _⟩ => ⟨S512x2048, .f32⟩
  | .local _ .vmem, ⟨2, _⟩ => ⟨S8x1024x256, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefPwOneZIdeal.lean ====
abbrev S8192x2048 : Shape := ⟨2, ![8192, 2048]⟩
abbrev S8x1024x256 : Shape := ⟨3, ![8, 1024, 256]⟩
abbrev S8192x1024 : Shape := ⟨2, ![8192, 1024]⟩
abbrev S1x1024 : Shape := ⟨2, ![1, 1024]⟩
abbrev S1x8192x2048 : Shape := ⟨3, ![1, 8192, 2048]⟩
abbrev S1024x8x256 : Shape := ⟨3, ![1024, 8, 256]⟩
abbrev S1024x2048 : Shape := ⟨2, ![1024, 2048]⟩
abbrev S1x8192x1024 : Shape := ⟨3, ![1, 8192, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192 : Shape := ⟨1, ![8192]⟩

abbrev nBuf : Space → Nat
  | .hbm => 90
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x1024x256, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x8192x2048, .f32⟩
  | .hbm, ⟨7, _⟩ => ⟨S8x1024x256, .f32⟩
  | .hbm, ⟨8, _⟩ => ⟨S1024x8x256, .f32⟩
  | .hbm, ⟨9, _⟩ => ⟨S1024x2048, .f32⟩
  | .hbm, ⟨10, _⟩ => ⟨S1x8192x1024, .f32⟩
  | .hbm, ⟨11, _⟩ => ⟨S1024, .f32⟩
  | .hbm, ⟨12, _⟩ => ⟨S_, .f32⟩
  | .hbm, ⟨13, _⟩ => ⟨S1x1024, .f32⟩
  | .hbm, ⟨14, _⟩ => ⟨S1x8192x1024, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x1, .f32⟩
  | .hbm, ⟨26, _⟩ => ⟨S_, .f32⟩
  | .hbm, ⟨27, _⟩ => ⟨S1x8192x1, .f32⟩
  | .hbm, ⟨28, _⟩ => ⟨S1x8192x1, .f32⟩
  | .hbm, ⟨29, _⟩ => ⟨S1x8192x1024, .f32⟩
  | .hbm, ⟨30, _⟩ => ⟨S1x8192x1024, .f32⟩
  | .hbm, ⟨31, _⟩ => ⟨S1x1x1024, .f32⟩
  | .hbm, ⟨32, _⟩ => ⟨S1x8192x1024, .f32⟩
  | .hbm, ⟨33, _⟩ => ⟨S1x8192x1024, .f32⟩
  | .hbm, ⟨34, _⟩ => ⟨S1x1x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x8192x1024, .f32⟩
  | .hbm, ⟨39, _⟩ => ⟨S1x8192x1024, .f32⟩
  | .hbm, ⟨40, _⟩ => ⟨S1x1x1024, .f32⟩
  | .hbm, ⟨41, _⟩ => ⟨S1x8192x1024, .f32⟩
  | .hbm, ⟨42, _⟩ => ⟨S1x8192x1024, .f32⟩
  | .hbm, ⟨43, _⟩ => ⟨S1x8192x2048, .f32⟩
  | .hbm, ⟨44, _⟩ => ⟨S1x8192x1024, .f32⟩
  | .hbm, ⟨45, _⟩ => ⟨S1x8192x1024, .f32⟩
  | .hbm, ⟨46, _⟩ => ⟨S_, .f32⟩
  | .hbm, ⟨47, _⟩ => ⟨S1x1024, .f32⟩
  | .hbm, ⟨48, _⟩ => ⟨S1x1x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S1x8192x1024, .f32⟩
  | .hbm, ⟨53, _⟩ => ⟨S_, .f32⟩
  | .hbm, ⟨54, _⟩ => ⟨S1x1024, .f32⟩
  | .hbm, ⟨55, _⟩ => ⟨S1x1x1024, .f32⟩
  | .hbm, ⟨56, _⟩ => ⟨S1x8192x1024, .f32⟩
  | .hbm, ⟨57, _⟩ => ⟨S1x8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S1x8192x1024, .f32⟩
  | .hbm, ⟨62, _⟩ => ⟨S_, .f32⟩
  | .hbm, ⟨63, _⟩ => ⟨S1x1024, .f32⟩
  | .hbm, ⟨64, _⟩ => ⟨S1x1x1024, .f32⟩
  | .hbm, ⟨65, _⟩ => ⟨S1x8192x1024, .f32⟩
  | .hbm, ⟨66, _⟩ => ⟨S1x8192x1024, .f32⟩
  | .hbm, ⟨67, _⟩ => ⟨S_, .f32⟩
  | .hbm, ⟨68, _⟩ => ⟨S1024, .f32⟩
  | .hbm, ⟨69, _⟩ => ⟨S1x8192x1024, .f32⟩
  | .hbm, ⟨70, _⟩ => ⟨S_, .f32⟩
  | .hbm, ⟨71, _⟩ => ⟨S1x8192, .f32⟩
  | .hbm, ⟨72, _⟩ => ⟨S1x8192x1, .f32⟩
  | .hbm, ⟨73, _⟩ => ⟨S1x8192x1024, .f32⟩
  | .hbm, ⟨74, _⟩ => ⟨S1x8192x1024, .f32⟩
  | .hbm, ⟨75, _⟩ => ⟨S1x8192x1024, .f32⟩
  | .hbm, ⟨76, _⟩ => ⟨S1x8192x1, .f32⟩
  | .hbm, ⟨77, _⟩ => ⟨S_, .f32⟩
  | .hbm, ⟨78, _⟩ => ⟨S1x8192x1, .f32⟩
  | .hbm, ⟨79, _⟩ => ⟨S1x8192x1, .f32⟩
  | .hbm, ⟨80, _⟩ => ⟨S_, .f32⟩
  | .hbm, ⟨81, _⟩ => ⟨S8192, .f32⟩
  | .hbm, ⟨82, _⟩ => ⟨S1x8192, .f32⟩
  | .hbm, ⟨83, _⟩ => ⟨S1x8192x1024, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x8192x1024, .f32⟩
  | .hbm, ⟨88, _⟩ => ⟨S8192x1024, .f32⟩
  | .hbm, ⟨89, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩

abbrev nD : Nat := 1
abbrev τ : Topo := Topo.v7x

variable {F : FTy → Type} [FloatOps F]
-- ==== PwTwoX.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RefPwTwoXIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 121
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S_, .f32⟩
  | .hbm, ⟨76, _⟩ => ⟨S1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S8192x1024, .f32⟩
  | .hbm, ⟨82, _⟩ => ⟨S8192x1024, .f32⟩
  | .hbm, ⟨83, _⟩ => ⟨S8192x1, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x1024, .f32⟩
  | .hbm, ⟨100, _⟩ => ⟨S8192x1, .f32⟩
  | .hbm, ⟨101, _⟩ => ⟨S_, .f32⟩
  | .hbm, ⟨102, _⟩ => ⟨S8192x1, .f32⟩
  | .hbm, ⟨103, _⟩ => ⟨S8192x1, .f32⟩
  | .hbm, ⟨104, _⟩ => ⟨S_, .f32⟩
  | .hbm, ⟨105, _⟩ => ⟨S8192, .f32⟩
  | .hbm, ⟨106, _⟩ => ⟨S8192x1024, .f32⟩
  | .hbm, ⟨107, _⟩ => ⟨S8192x1024, .f32⟩
  | .hbm, ⟨108, _⟩ => ⟨S_, .f32⟩
  | .hbm, ⟨109, _⟩ => ⟨S1024, .f32⟩
  | .hbm, ⟨110, _⟩ => ⟨S1x1024, .f32⟩
  | .hbm, ⟨111, _⟩ => ⟨S8192x1024, .f32⟩
  | .hbm, ⟨112, _⟩ => ⟨S8192x1024, .f32⟩
  | .hbm, ⟨113, _⟩ => ⟨S_, .f32⟩
  | .hbm, ⟨114, _⟩ => ⟨S1024, .f32⟩
  | .hbm, ⟨115, _⟩ => ⟨S1x1024, .f32⟩
  | .hbm, ⟨116, _⟩ => ⟨S_, .f32⟩
  | .hbm, ⟨117, _⟩ => ⟨S1024, .f32⟩
  | .hbm, ⟨118, _⟩ => ⟨S1x1024, .f32⟩
  | .hbm, ⟨119, _⟩ => ⟨S1x1024, .f32⟩
  | .hbm, ⟨120, _⟩ => ⟨S1x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v33_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v33_1 : Ref sig .tc := ⟨.hbm, 56, rfl⟩
abbrev main_v33_0 : Ref sig .tc := ⟨.hbm, 57, rfl⟩
abbrev main_v34 : Ref sig .tc := ⟨.hbm, 58, rfl⟩
abbrev main_v35 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_11 : Ref sig .tc := ⟨.hbm, 85, rfl⟩
abbrev main_v53 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_15 : Ref sig .tc := ⟨.hbm, 101, rfl⟩
abbrev main_v65 : Ref sig .tc := ⟨.hbm, 102, rfl⟩
abbrev main_v66 : Ref sig .tc := ⟨.hbm, 103, rfl⟩
abbrev main_cst_16 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_17 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_18 : Ref sig .tc := ⟨.hbm, 113, rfl⟩
abbrev main_v74 : Ref sig .tc := ⟨.hbm, 114, rfl⟩
abbrev main_v75 : Ref sig .tc := ⟨.hbm, 115, rfl⟩
abbrev main_cst_19 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩

abbrev nD : Nat := 1
abbrev τ : Topo := Topo.v7x

variable {F : FTy → Type} [FloatOps F]
-- ==== AdaF.lean ====
abbrev S8x1024 : Shape := ⟨2, ![8, 1024]⟩
abbrev S4x1024x768 : Shape := ⟨3, ![4, 1024, 768]⟩
abbrev S4x8x768 : Shape := ⟨3, ![4, 8, 768]⟩
abbrev S1x1024x768 : Shape := ⟨3, ![1, 1024, 768]⟩
abbrev S1x8x768 : Shape := ⟨3, ![1, 8, 768]⟩
abbrev S1024x768 : Shape := ⟨2, ![1024, 768]⟩
abbrev S8x768 : Shape := ⟨2, ![8, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x8x768, .f32⟩
  | .local _ .vmem, ⟨4, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefAdaFIdeal.lean ====
abbrev S8x1024 : Shape := ⟨2, ![8, 1024]⟩
abbrev S4x1024x768 : Shape := ⟨3, ![4, 1024, 768]⟩
abbrev S_ : Shape := ⟨0, ![]⟩
abbrev S8x4x768 : Shape := ⟨3, ![8, 4, 768]⟩
abbrev S4x8x768 : Shape := ⟨3, ![4, 8, 768]⟩

abbrev nBuf : Space → Nat
  | .hbm => 13
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x4x768, .f32⟩
  | .hbm, ⟨12, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩

abbrev nD : Nat := 1
abbrev τ : Topo := Topo.v7x

variable {F : FTy → Type} [FloatOps F]
-- ==== AdaW.lean ====
abbrev S8x1024 : Shape := ⟨2, ![8, 1024]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefAdaWIdeal.lean ====
abbrev S8x1024 : Shape := ⟨2, ![8, 1024]⟩
abbrev S4x8x768 : Shape := ⟨3, ![4, 8, 768]⟩
abbrev S_ : Shape := ⟨0, ![]⟩
abbrev S4x1024x768 : Shape := ⟨3, ![4, 1024, 768]⟩
abbrev S8x4x768 : Shape := ⟨3, ![8, 4, 768]⟩
abbrev S4x768x1024 : Shape := ⟨3, ![4, 768, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S4x1024x768, .f32⟩
  | .hbm, ⟨13, _⟩ => ⟨S8x4x768, .f32⟩
  | .hbm, ⟨14, _⟩ => ⟨S4x8x768, .f32⟩
  | .hbm, ⟨15, _⟩ => ⟨S8x4x768, .f32⟩
  | .hbm, ⟨16, _⟩ => ⟨S4x768x1024, .f32⟩
  | .hbm, ⟨17, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== AdamA.lean ====
abbrev S1x4096x768 : Shape := ⟨3, ![1, 4096, 768]⟩
abbrev S1x256x768 : Shape := ⟨3, ![1, 256, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x4096x768, .f32⟩
  | .hbm, ⟨1, _⟩ => ⟨S1x4096x768, .f32⟩
  | .hbm, ⟨2, _⟩ => ⟨S1x4096x768, .f32⟩
  | .hbm, ⟨3, _⟩ => ⟨S1x4096x768, .f32⟩
  | .hbm, ⟨4, _⟩ => ⟨S1x4096x768, .f32⟩
  | .hbm, ⟨5, _⟩ => ⟨S1x4096x768, .f32⟩
  | .hbm, ⟨6, _⟩ => ⟨S1x4096x768, .f32⟩
  | .hbm, ⟨7, _⟩ => ⟨S1x4096x768, .f32⟩
  | .local _ .vmem, ⟨0, _⟩ => ⟨S1x256x768, .f32⟩
  | .local _ .vmem, ⟨1, _⟩ => ⟨S1x256x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x768, .f32⟩
  | .local _ .vmem, ⟨9, _⟩ => ⟨S1x256x768, .f32⟩
  | .local _ .vmem, ⟨10, _⟩ => ⟨S1x256x768, .f32⟩
  | .local _ .vmem, ⟨11, _⟩ => ⟨S1x256x768, .f32⟩
  | .local _ .vmem, ⟨12, _⟩ => ⟨S1x256x768, .f32⟩
  | .local _ .vmem, ⟨13, _⟩ => ⟨S1x256x768, .f32⟩
  | .local _ .vmem, ⟨14, _⟩ => ⟨S1x256x768, .f32⟩
  | .local _ .vmem, ⟨15, _⟩ => ⟨S1x256x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefAdamAIdeal.lean ====
abbrev S1x4096x768 : Shape := ⟨3, ![1, 4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096x768, .f32⟩
  | .hbm, ⟨1, _⟩ => ⟨S1x4096x768, .f32⟩
  | .hbm, ⟨2, _⟩ => ⟨S1x4096x768, .f32⟩
  | .hbm, ⟨3, _⟩ => ⟨S1x4096x768, .f32⟩
  | .hbm, ⟨4, _⟩ => ⟨S_, .f32⟩
  | .hbm, ⟨5, _⟩ => ⟨S1x4096x768, .f32⟩
  | .hbm, ⟨6, _⟩ => ⟨S1x4096x768, .f32⟩
  | .hbm, ⟨7, _⟩ => ⟨S_, .f32⟩
  | .hbm, ⟨8, _⟩ => ⟨S1x4096x768, .f32⟩
  | .hbm, ⟨9, _⟩ => ⟨S1x4096x768, .f32⟩
  | .hbm, ⟨10, _⟩ => ⟨S1x4096x768, .f32⟩
  | .hbm, ⟨11, _⟩ => ⟨S_, .f32⟩
  | .hbm, ⟨12, _⟩ => ⟨S1x4096x768, .f32⟩
  | .hbm, ⟨13, _⟩ => ⟨S1x4096x768, .f32⟩
  | .hbm, ⟨14, _⟩ => ⟨S1x4096x768, .f32⟩
  | .hbm, ⟨15, _⟩ => ⟨S_, .f32⟩
  | .hbm, ⟨16, _⟩ => ⟨S1x4096x768, .f32⟩
  | .hbm, ⟨17, _⟩ => ⟨S1x4096x768, .f32⟩
  | .hbm, ⟨18, _⟩ => ⟨S1x4096x768, .f32⟩
  | .hbm, ⟨19, _⟩ => ⟨S_, .f32⟩
  | .hbm, ⟨20, _⟩ => ⟨S1x4096x768, .f32⟩
  | .hbm, ⟨21, _⟩ => ⟨S1x4096x768, .f32⟩
  | .hbm, ⟨22, _⟩ => ⟨S_, .f32⟩
  | .hbm, ⟨23, _⟩ => ⟨S1x4096x768, .f32⟩
  | .hbm, ⟨24, _⟩ => ⟨S1x4096x768, .f32⟩
  | .hbm, ⟨25, _⟩ => ⟨S1x4096x768, .f32⟩
  | .hbm, ⟨26, _⟩ => ⟨S_, .f32⟩
  | .hbm, ⟨27, _⟩ => ⟨S1x4096x768, .f32⟩
  | .hbm, ⟨28, _⟩ => ⟨S1x4096x768, .f32⟩
  | .hbm, ⟨29, _⟩ => ⟨S1x4096x768, .f32⟩
  | .hbm, ⟨30, _⟩ => ⟨S_, .f32⟩
  | .hbm, ⟨31, _⟩ => ⟨S1x4096x768, .f32⟩
  | .hbm, ⟨32, _⟩ => ⟨S1x4096x768, .f32⟩
  | .hbm, ⟨33, _⟩ => ⟨S1x4096x768, .f32⟩
  | .hbm, ⟨34, _⟩ => ⟨S_, .f32⟩
  | .hbm, ⟨35, _⟩ => ⟨S1x4096x768, .f32⟩
  | .hbm, ⟨36, _⟩ => ⟨S1x4096x768, .f32⟩
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MlpX.lean ====
/-
  The gradient of the MLP's second product with respect to what it squares: `mlp2_bwd_x`, over the extended reals.
-/
module

public import proofs.«01_k».proof.Proof.Gen.KernelIdeal.Value
public import proofs.«01_k».proof.Proof.Gen.ReferenceIdeal.Read
public import Idealize.ShloMosaic.Lib.Pointwise
public import proofs.«01_k».proof.Defs

@[expose] public section

set_option maxRecDepth 16384

noncomputable section

namespace Cert.MlpX

open Cert.KernelIdeal Cert.KernelIdeal.Gen
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- Twice, as both programs write it. -/
abbrev two : EReal := Ideal.ofBits FTy.f32 0x40000000#32

/-- The gradient: row `i 0` of `do` against row `i 1` of `w2`, times twice the positive part of `z`. -/
def grad (a : S8192x1024.Idx → EReal) (w : S4096x1024.Idx → EReal) (z : S8192x4096.Idx → EReal) : S8192x4096.Idx → EReal :=
  fun i => (∑ k : Fin 1024, a (ix2 (i 0) k) * w (ix2 (i 1) k)) * (two * max (z i) 0)

/-- The same on the 512 rows that one grid point takes. -/
def blockGrad (a : S512x1024.Idx → EReal) (w : S4096x1024.Idx → EReal) (z : S512x4096.Idx → EReal) : S512x4096.Idx → EReal :=
  fun i => (∑ k : Fin 1024, a (ix2 (i 0) k) * w (ix2 (i 1) k)) * (two * max (z i) 0)

/-- One column block of the body: every one of its four stores is this function of what it loads. -/
theorem pay_apply (a : FVec Ideal S512x1024 .bf16) (w : FVec Ideal S1024x1024 .bf16) (z : FVec Ideal S512x1024 .bf16)
    (j : S512x1024.Idx) :
    k0_pay2 (F := Ideal) a w z j = (∑ k : Fin 1024, a (ix2 (j 0) k) * w (ix2 (j 1) k)) * (two * max (z j) 0) := by
  pointwise [k0_pay2]

/-- A grid point's block of the result, read from the blocks it loads. -/
theorem out_eq (a : Vec Ideal S512x1024 .bf16) (w : Vec Ideal S4096x1024 .bf16) (z : Vec Ideal S512x4096 .bf16)
    (j : S512x4096.Idx) : out0_3 (F := Ideal) a w z j = blockGrad a w z j := by
  unfold out0_3
  refine View.canon_apply_of_pieces (Val := Elt Ideal) (e := .bf16) (blockGrad a w z) _ ?_ j (cover0_3 _ _ _ _ j)
  have key : ∀ (o : Nat) (hw : ∀ x, (![o, 0] : Fin 2 → Nat) x + S1024x1024.size x ≤ S4096x1024.size x)
      (hzb : ∀ x, (![0, o] : Fin 2 → Nat) x + S512x1024.size x ≤ S512x4096.size x) (x : S512x1024.Idx),
      k0_pay2 (F := Ideal) (View.ld a r0_0) (View.ld w (Rect.unit (s := S4096x1024) ![o, 0] S1024x1024.size hw))
        (View.ld z (Rect.unit (s := S512x4096) ![0, o] S512x1024.size hzb)) x
      = blockGrad a w z ((Rect.unit (s := S512x4096) ![0, o] S512x1024.size hzb).emb x) := by
    intro o hw hzb x
    rw [pay_apply, View.ld_unit_zero (S := S512x1024) hz]
    unfold blockGrad
    refine congrArg₂ _ (Finset.sum_congr rfl fun k _ => congrArg₂ _ (congrArg a ?_) (congrArg w ?_)) rfl
    · funext b; apply Fin.ext
      match b with
      | ⟨0, _⟩ => show (x 0).val = 0 + 1 * (x 0).val; omega
      | ⟨1, _⟩ => rfl
    · funext b; apply Fin.ext
      match b with
      | ⟨0, _⟩ => rfl
      | ⟨1, _⟩ => show 0 + 1 * k.val = k.val; omega
  intro p hp
  rcases List.mem_cons.mp hp with rfl | hp
  · exact key 3072 _ _
  rcases List.mem_cons.mp hp with rfl | hp
  · exact key 2048 _ _
  rcases List.mem_cons.mp hp with rfl | hp
  · exact key 1024 _ _
  rcases List.mem_cons.mp hp with rfl | hp
  · exact key 0 _ _
  · cases hp

variable (m : (ℓ : Loc nD τ sig) → Buf (Elt Ideal) ℓ) (ρ : Dev nD → PrngReg)

/-- The result array as a function of the arguments. -/
abbrev result (c : Dev nD) : Buf (Elt Ideal) ((c : Thread nD τ).loc main_v0) :=
  grad (m ((c : Thread nD τ).loc main_arg0)) (m ((c : Thread nD τ).loc main_arg1)) (m ((c : Thread nD τ).loc main_arg2))

/-- Which block each window takes at each point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What a point writes back is its block of the result. -/
theorem flushed_eq (c : Dev nD) (t : Fin cfg0.N) (hf : (cfg0.win 3).flush t = true) :
    (dats m 0 c).flushed 3 t = ((cfg0.win 3).blk t).view.read (Elt Ideal) (result m c) := by
  rw [Value.flushed3]
  obtain ⟨e00, e01, e10, e11, e20, e21, e30, e31⟩ := idx_facts t
  funext y
  show out0_3 (F := Ideal) (iblk m c 0 t) (iblk m c 1 t) (iblk m c 2 t) y = _
  rw [out_eq, View.read_apply]
  unfold blockGrad
  show _ = grad _ _ _ _
  unfold grad
  refine congrArg₂ _ (Finset.sum_congr rfl fun k _ => congrArg₂ _ ?_ ?_) (congrArg (two * max · 0) ?_)
  · unfold iblk
    rw [View.read_apply]
    show V m c main_arg0 _ = m (c.tc.loc main_arg0) _
    unfold V
    congr 1
    funext a; apply Fin.ext
    match a with
    | ⟨0, _⟩ => show win0_0.index t 0 * 512 + 1 * (y 0).val = win0_3.index t 0 * 512 + 1 * (y 0).val; rw [e00, e30]
    | ⟨1, _⟩ => show win0_0.index t 1 * 1024 + 1 * k.val = k.val; rw [e01]; omega
  · unfold iblk
    rw [View.read_apply]
    show V m c main_arg1 _ = m (c.tc.loc main_arg1) _
    unfold V
    congr 1
    funext a; apply Fin.ext
    match a with
    | ⟨0, _⟩ => show win0_1.index t 0 * 4096 + 1 * (y 1).val = win0_3.index t 1 * 4096 + 1 * (y 1).val; rw [e10, e31]
    | ⟨1, _⟩ => show win0_1.index t 1 * 1024 + 1 * k.val = k.val; rw [e11]; omega
  · unfold iblk
    rw [View.read_apply]
    show V m c main_arg2 _ = m (c.tc.loc main_arg2) _
    unfold V
    congr 1

/-- Every point writes back. -/
theorem flush_all : ∀ t : Fin cfg0.N, (cfg0.win 3).flush t = true :=
  (by decide +kernel : ∀ t : Fin cfg0.N, _)

/-- The result array after the last point. -/
theorem final (c : Dev nD) : (dats m 0 c).arrAt 3 cfg0.N = result m c :=
  (dats m 0 c).arrAt_eq_of_cover 3 (result m c) (flushed_eq m c) fun i => by
    have h0 : (i 0 : Nat) < 8192 := (i 0).isLt
    have h1 : (i 1 : Nat) < 4096 := (i 1).isLt
    have hN : cfg0.N = 16 := N_0
    let t : Fin cfg0.N := ⟨(i 0 : Nat) / 512, by omega⟩
    obtain ⟨-, -, -, -, -, -, e30, e31⟩ := idx_facts t
    refine ⟨t, flush_all t, ?_⟩
    show i ∈ ((View.whole main_v0).slice (win0_3.rect t)).set
    rw [View.set_slice_whole, Rect.mem_set_unit]
    have hv : t.val = (i 0 : Nat) / 512 := rfl
    intro a
    match a with
    | ⟨0, _⟩ => show win0_3.index t 0 * 512 ≤ (i 0 : Nat) ∧ (i 0 : Nat) < win0_3.index t 0 * 512 + 512
                rw [e30, hv]; omega
    | ⟨1, _⟩ => show win0_3.index t 1 * 4096 ≤ (i 1 : Nat) ∧ (i 1 : Nat) < win0_3.index t 1 * 4096 + 4096
                rw [e31]; omega

/-- The reference's result is the same function of the same arguments: where `z` is not positive both are zero. -/
theorem ref_eq (a : FVec Ideal S8192x1024 .bf16) (w : FVec Ideal S4096x1024 .bf16) (z : FVec Ideal S8192x4096 .bf16) :
    Cert.ReferenceIdeal.Read.val_main_v15 (F := Ideal) a w z = grad a w z := by
  funext i
  simp only [Cert.ReferenceIdeal.Read.val_main_v15, Cert.ReferenceIdeal.Read.val_main_v14, Cert.ReferenceIdeal.Read.val_main_v13,
    Cert.ReferenceIdeal.Read.val_main_v12, Cert.ReferenceIdeal.Read.val_main_v11, Cert.ReferenceIdeal.Read.val_main_v9,
    Cert.ReferenceIdeal.Read.val_main_v8, Cert.ReferenceIdeal.Read.val_main_v5, Cert.ReferenceIdeal.Read.val_main_v4,
    Cert.ReferenceIdeal.Read.val_main_v3, Cert.ReferenceIdeal.Read.val_main_v2, Cert.ReferenceIdeal.Read.val_main_v1,
    Cert.ReferenceIdeal.Read.val_main_v0, Cert.ReferenceIdeal.Read.val_main_cst, Cert.ReferenceIdeal.Read.val_main_cst_1,
    Cert.ReferenceIdeal.Read.val_main_cst_2, Cert.ReferenceIdeal.Read.val_main_call0_v0, Cert.ReferenceIdeal.Read.val_main_call0_cst]
  pointwise [grad]
  split
  · rfl
  · rename_i h
    rw [max_eq_right (not_lt.mp h), mul_zero, mul_zero]

/-- The kernel's run: the result at the gradient, the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)

/-- The idealized kernel and the reference's vector-Jacobian product end with equal results. -/
theorem algebraic : Cert.algebraic_KernelIdeal_ReferenceIdeal := by
  intro m g m' g' _ hag
  refine ⟨fun c => result m c, run m g, (θ_run Cert.ReferenceIdeal.defs _ _).mono (fun _ h c => ?_) (Cert.ReferenceIdeal.Value.run (F := Ideal) m' g')⟩
  obtain ⟨h0, h⟩ := h c
  refine ⟨h0.trans ?_, h⟩
  obtain ⟨e0, e1, e2⟩ := hag c
  rw [e0, e1, e2, Cert.ReferenceIdeal.Read.val_main_v15_eq]
  exact ref_eq _ _ _

end Cert.MlpX

end
-- ==== Proof.Basic.lean ====
/-
  Arrays of two axes read at natural numbers, zero outside, and sums cut into equal runs.
-/
module

public import Idealize.ShloMosaic.Lib.Pointwise

@[expose] public section

noncomputable section

namespace Cert.Nat2

open Idealize.ShloMosaic

/-- The element at row `a` and column `b`; zero where the array has none. -/
def at2 {A B : ℕ} (x : (⟨2, ![A, B]⟩ : Shape).Idx → EReal) (a b : ℕ) : EReal :=
  if h : a < A ∧ b < B then x (ix2 ⟨a, h.1⟩ ⟨b, h.2⟩) else 0

/-- An element is the one at its two coordinates. -/
theorem at2_of_val {A B : ℕ} (x : (⟨2, ![A, B]⟩ : Shape).Idx → EReal) (j : (⟨2, ![A, B]⟩ : Shape).Idx) (a b : ℕ)
    (ha : (j 0).val = a) (hb : (j 1).val = b) : x j = at2 x a b := by
  subst ha hb
  have h0 : (j 0).val < A := (j 0).isLt
  have h1 : (j 1).val < B := (j 1).isLt
  unfold at2
  rw [dif_pos ⟨h0, h1⟩]
  exact congrArg x (eq_ix2 j)

/-- One row's part of one element of a product of two arrays along their rows. -/
def term {A B C : ℕ} (x : (⟨2, ![A, B]⟩ : Shape).Idx → EReal) (d : (⟨2, ![A, C]⟩ : Shape).Idx → EReal) (f e : ℕ) (q : ℕ) : EReal :=
  at2 x q f * at2 d q e

/-- An entry by its two coordinates. -/
theorem at_ix2 {A B : ℕ} (x : (⟨2, ![A, B]⟩ : Shape).Idx → EReal) (j : (⟨2, ![A, B]⟩ : Shape).Idx) (a : Fin A) (b : Fin B)
    (ha : (j 0).val = a.val) (hb : (j 1).val = b.val) : x j = x (ix2 a b) :=
  congrArg x ((eq_ix2 j).trans (by rw [Fin.ext ha, Fin.ext hb]))

/-- A run of `n` more terms of a sum over the first numbers. -/
theorem sum_range_run {M : Type} [AddCommMonoid M] (f : ℕ → M) (a n : ℕ) :
    (∑ q ∈ Finset.range a, f q) + ∑ k : Fin n, f (a + k.val) = ∑ q ∈ Finset.range (a + n), f q := by
  rw [Finset.sum_range_add, Finset.sum_range fun k => f (a + k)]

/-- The first run. -/
theorem sum_range_first {M : Type} [AddCommMonoid M] (f : ℕ → M) (n : ℕ) :
    ∑ k : Fin n, f k.val = ∑ q ∈ Finset.range n, f q := (Finset.sum_range f).symm

end Cert.Nat2

end
-- ==== Proof.MlpW.lean ====
/-
  The gradient of the MLP's second weight: `mlp2_bwd_w`, over the extended reals.
-/
module

public import proofs.«01_k».proof.Defs
public import proofs.«01_k».proof.Proof.Basic
public import proofs.«01_k».proof.Proof.Gen.MlpTwoWIdeal.Value
public import proofs.«01_k».proof.Proof.Gen.RefTwoWIdeal.Read
public import Idealize.ShloMosaic.Lib.Pointwise

@[expose] public section

set_option maxRecDepth 16384

noncomputable section

namespace Cert.MlpW

open Cert.MlpTwoWIdeal Cert.MlpTwoWIdeal.Gen Cert.Nat2
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- One token's part of one element of the weight's gradient: the square of the positive part of `z`, times `do`. -/
def term (z : S8192x4096.Idx → EReal) (d : S8192x1024.Idx → EReal) (f e : ℕ) (q : ℕ) : EReal :=
  (max (at2 z q f) 0 * max (at2 z q f) 0) * at2 d q e

/-- The weight's gradient: the sum over the tokens. -/
def grad (z : S8192x4096.Idx → EReal) (d : S8192x1024.Idx → EReal) : S4096x1024.Idx → EReal :=
  fun i => ∑ q ∈ Finset.range 8192, term z d (i 0).val (i 1).val q

/-- What a point adds to the accumulator. -/
def part (z : Vec Ideal S2048x2048 .bf16) (d : Vec Ideal S2048x1024 .bf16) (i : S2048x1024.Idx) : EReal :=
  ∑ k : Fin 2048, (max (z (ix2 k (i 0))) 0 * max (z (ix2 k (i 0))) 0) * d (ix2 k (i 1))

/-- The accumulating store's value. -/
theorem pay_apply (z : FVec Ideal S2048x2048 .bf16) (acc : FVec Ideal S2048x1024 .f32) (d : FVec Ideal S2048x1024 .bf16)
    (i : S2048x1024.Idx) : k0_pay2 (F := Ideal) z acc d i = acc i + part z d i := by
  pointwise [k0_pay2, part]

section Cases

variable (c : Dev nD) (i : grid0.Coords) (a2 : Memref sig .tc .vmem S2048x2048 .bf16) (h2 : a2.IsWhole)
  (a3 : Memref sig .tc .vmem S2048x1024 .bf16) (h3 : a3.IsWhole) (a4 : Memref sig .tc .vmem S2048x1024 .bf16) (h4 : a4.IsWhole)
  (a5 : Memref sig .tc .vmem S2048x1024 .f32) (h5 : a5.IsWhole)
  (z : Vec Ideal S2048x2048 .bf16) (d : Vec Ideal S2048x1024 .bf16) (acc : Vec Ideal S2048x1024 .f32) (j : S2048x1024.Idx)

/-- The first point of a run leaves its own part. -/
theorem scratch_A (hc0 : cond0_0 i) (hc1 : ¬cond0_1 i) :
    sout0_A_0 (F := Ideal) c i a2 h2 a3 h3 a4 h4 a5 h5 hc0 hc1 z d j = part z d j := by
  unfold sout0_A_0
  rw [View.read_writes_eq_canon _ _ _ (scover0_A_0 c i a2 h2 a3 h3 a4 h4 a5 h5 hc0 hc1 z d)]
  unfold kernelRun0_A
  dsimp only
  sl_unfold_words
  rw [View.canon_cons_unit_zero (S := S2048x1024) hz, View.readCov_unit_zero (S := S2048x1024) _ hz]
  simp only [View.readAt_eq_ld, h2.read_unread, h3.read_unread, View.ld_unit_zero (S := S2048x1024) hz, View.ld_unit_zero (S := S2048x2048) hz]
  rw [pay_apply]
  pointwise [k0_pay1]

/-- A point between adds its part. -/
theorem scratch_B (hc0 : ¬cond0_0 i) (hc1 : ¬cond0_1 i) :
    sout0_B_0 (F := Ideal) c i a2 h2 a3 h3 a4 h4 a5 h5 hc0 hc1 z d acc j = acc j + part z d j := by
  unfold sout0_B_0
  rw [View.read_writes_eq_canon _ _ _ (scover0_B_0 c i a2 h2 a3 h3 a4 h4 a5 h5 hc0 hc1 z d acc)]
  unfold kernelRun0_B
  dsimp only
  rw [View.canon_unit_zero (S := S2048x1024) hz]
  simp only [View.readAt_eq_ld, h2.read_unread, h3.read_unread, h5.read_unread, View.ld_unit_zero (S := S2048x1024) hz, View.ld_unit_zero (S := S2048x2048) hz]
  rw [pay_apply]

/-- The last point of a run writes the accumulator with its part added. -/
theorem out_C (hc0 : ¬cond0_0 i) (hc1 : cond0_1 i) :
    out0_C_2 (F := Ideal) c i a2 h2 a3 h3 a4 h4 a5 h5 hc0 hc1 z d acc j = acc j + part z d j := by
  unfold out0_C_2
  rw [View.read_writes_eq_canon _ _ _ (cover0_C_2 c i a2 h2 a3 h3 a4 h4 a5 h5 hc0 hc1 z d acc)]
  unfold kernelRun0_C
  dsimp only
  sl_unfold_words
  rw [View.canon_unit_zero (S := S2048x1024) hz, View.readCov_unit_zero (S := S2048x1024) _ hz]
  simp only [View.readAt_eq_ld, h2.read_unread, h3.read_unread, h5.read_unread, View.ld_unit_zero (S := S2048x1024) hz, View.ld_unit_zero (S := S2048x2048) hz]
  show k0_pay2 (F := Ideal) z acc d j = _
  rw [pay_apply]

end Cases

variable (m : (ℓ : Loc nD τ sig) → Buf (Elt Ideal) ℓ) (ρ : Dev nD → PrngReg)

/-- The result array as a function of the arguments. -/
abbrev result (c : Dev nD) : Buf (Elt Ideal) ((c : Thread nD τ).loc main_v0) :=
  grad (m ((c : Thread nD τ).loc main_arg0)) (m ((c : Thread nD τ).loc main_arg1))

/-- Which block each window takes at each point. -/
theorem idx_facts : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

/-- A point's part, as tokens of the arguments. -/
theorem part_eq (c : Dev nD) (t : Fin cfg0.N) (j : S2048x1024.Idx) :
    part (iblk m c 0 t) (iblk m c 1 t) j
      = ∑ k : Fin 2048, term (m ((c : Thread nD τ).loc main_arg0)) (m ((c : Thread nD τ).loc main_arg1))
          (t.val / 4 * 2048 + (j 0).val) (j 1).val (t.val % 4 * 2048 + k.val) := by
  obtain ⟨e00, e01, e10, e11⟩ := idx_facts t
  unfold part term
  refine Finset.sum_congr rfl fun k _ => ?_
  have hz : iblk m c 0 t (ix2 k (j 0)) = at2 (m ((c : Thread nD τ).loc main_arg0)) (t.val % 4 * 2048 + k.val) (t.val / 4 * 2048 + (j 0).val) := by
    unfold iblk
    rw [View.read_apply]
    show V m c main_arg0 _ = _
    unfold V
    refine at2_of_val (m (c.tc.loc main_arg0)) _ _ _ ?_ ?_
    · show win0_0.index t 0 * 2048 + 1 * k.val = _; rw [e00]; omega
    · show win0_0.index t 1 * 2048 + 1 * (j 0).val = _; rw [e01]; omega
  have hd : iblk m c 1 t (ix2 k (j 1)) = at2 (m ((c : Thread nD τ).loc main_arg1)) (t.val % 4 * 2048 + k.val) (j 1).val := by
    unfold iblk
    rw [View.read_apply]
    show V m c main_arg1 _ = _
    unfold V
    refine at2_of_val (m (c.tc.loc main_arg1)) _ _ _ ?_ ?_
    · show win0_1.index t 0 * 2048 + 1 * k.val = _; rw [e10]; omega
    · show win0_1.index t 1 * 1024 + 1 * (j 1).val = _; rw [e11]; omega
  rw [hz, hd]

/-- What the accumulator holds after a point that is not the last of its run: the tokens so far. -/
theorem scratch_eq (c : Dev nD) (j : S2048x1024.Idx) (p : ℕ) : ∀ (r : ℕ) (h : 4 * p + r < cfg0.N) (hr : r < 3),
    (outsAt0 m c (4 * p + r) h).2 j
      = ∑ q ∈ Finset.range (2048 * r + 2048), term (m ((c : Thread nD τ).loc main_arg0)) (m ((c : Thread nD τ).loc main_arg1))
          (p * 2048 + (j 0).val) (j 1).val q
  | 0, h, _ => by
    have h0 : (⟨4 * p + 0, h⟩ : Fin cfg0.N).val % 4 = 0 := by dsimp only; omega
    have h1 : ¬(⟨4 * p + 0, h⟩ : Fin cfg0.N).val % 4 = 3 := by dsimp only; omega
    rw [outsAt0_A m c ⟨4 * p + 0, h⟩ h0 h1]
    dsimp only
    rw [scratch_A, part_eq]
    dsimp only
    rw [show (4 * p + 0) / 4 = p by omega, show (4 * p + 0) % 4 = 0 by omega]
    simp only [Nat.zero_mul, Nat.zero_add, Nat.mul_zero]
    exact sum_range_first _ _
  | r + 1, h, hr => by
    have h0 : ¬(⟨4 * p + (r + 1), h⟩ : Fin cfg0.N).val % 4 = 0 := by dsimp only; omega
    have h1 : ¬(⟨4 * p + (r + 1), h⟩ : Fin cfg0.N).val % 4 = 3 := by dsimp only; omega
    rw [outsAt0_B m c ⟨4 * p + (r + 1), h⟩ h0 h1]
    dsimp only
    rw [scratch_B, part_eq]
    have ih := scratch_eq c j p r (by omega) (by omega)
    simp only [show 4 * p + (r + 1) - 1 = 4 * p + r by omega, ih]
    rw [show (4 * p + (r + 1)) / 4 = p by omega, show (4 * p + (r + 1)) % 4 = r + 1 by omega,
      show 2048 * (r + 1) + 2048 = (2048 * r + 2048) + 2048 by omega, ← sum_range_run _ (2048 * r + 2048)]
    rw [show (r + 1) * 2048 = 2048 * r + 2048 by omega]

/-- What the last point of a run writes. -/
theorem out_eq (c : Dev nD) (j : S2048x1024.Idx) (p : ℕ) (h : 4 * p + 3 < cfg0.N) :
    (outsAt0 m c (4 * p + 3) h).1 j
      = ∑ q ∈ Finset.range 8192, term (m ((c : Thread nD τ).loc main_arg0)) (m ((c : Thread nD τ).loc main_arg1))
          (p * 2048 + (j 0).val) (j 1).val q := by
  have h0 : ¬(⟨4 * p + 3, h⟩ : Fin cfg0.N).val % 4 = 0 := by dsimp only; omega
  have h1 : (⟨4 * p + 3, h⟩ : Fin cfg0.N).val % 4 = 3 := by dsimp only; omega
  rw [outsAt0_C m c ⟨4 * p + 3, h⟩ h0 h1]
  dsimp only
  rw [out_C, part_eq]
  have ih := scratch_eq m c j p 2 (by omega) (by omega)
  simp only [show 4 * p + 3 - 1 = 4 * p + 2 by omega, ih]
  rw [show (4 * p + 3) / 4 = p by omega, show (4 * p + 3) % 4 = 3 by omega]
  exact sum_range_run _ 6144 2048

/-- The result array after the last point. -/
theorem final (c : Dev nD) : Value.G2 m c = result m c := by
  funext i
  have h0 : (i 0 : Nat) < 4096 := (i 0).isLt
  have h1 : (i 1 : Nat) < 1024 := (i 1).isLt
  have hN : cfg0.N = 8 := N_0
  have hp : Value.pt2Of i = 4 * ((i 0).val / 2048) + 3 := by unfold Value.pt2Of Value.run2Of; omega
  unfold Value.G2
  have hlt : Value.pt2Of i < cfg0.N := by rw [hp, hN]; omega
  rw [dif_pos hlt, ← Value.outsAt0_sweep m c _ hlt]
  simp only [hp]
  rw [out_eq]
  show _ = grad _ _ i
  unfold grad
  dsimp only
  rw [show (i 0).val / 2048 * 2048 + (i 0).val % 2048 = (i 0).val by omega, show (i 1).val % 1024 = (i 1).val by omega]

/-- The reference's result is the same function of the same arguments. -/
theorem ref_eq (z : FVec Ideal S8192x4096 .bf16) (d : FVec Ideal S8192x1024 .bf16) :
    Cert.RefTwoWIdeal.Read.val_main_v8 (F := Ideal) z d = grad z d := by
  funext i
  show _ = ∑ q ∈ Finset.range 8192, term z d (i 0).val (i 1).val q
  rw [Finset.sum_range]
  simp only [Cert.RefTwoWIdeal.Read.val_main_v8, Cert.RefTwoWIdeal.Read.val_main_v7, Cert.RefTwoWIdeal.Read.val_main_v6,
    Cert.RefTwoWIdeal.Read.val_main_v4, Cert.RefTwoWIdeal.Read.val_main_v3, Cert.RefTwoWIdeal.Read.val_main_v1,
    Cert.RefTwoWIdeal.Read.val_main_v0, Cert.RefTwoWIdeal.Read.val_main_call0_v0, Cert.RefTwoWIdeal.Read.val_main_call0_cst]
  pointwise
  refine Finset.sum_congr rfl fun k _ => ?_
  unfold term
  rw [← at2_of_val z (ix2 k (i 0)) k.val (i 0).val rfl rfl, ← at2_of_val d (ix2 k (i 1)) k.val (i 1).val rfl rfl]
  exact mul_comm _ _

/-- The kernel's run: the result at the gradient, the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run m ρ)

/-- The idealized kernel and the reference's vector-Jacobian product end with equal results. -/
theorem algebraic : Cert.algebraic_MlpTwoWIdeal_RefTwoWIdeal := by
  intro m g m' g' _ hag
  refine ⟨fun c => result m c, run m g, (θ_run Cert.RefTwoWIdeal.defs _ _).mono (fun _ h c => ?_) (Cert.RefTwoWIdeal.Value.run (F := Ideal) m' g')⟩
  obtain ⟨h0, h⟩ := h c
  refine ⟨h0.trans ?_, h⟩
  obtain ⟨e0, e1⟩ := hag c
  rw [e0, e1, Cert.RefTwoWIdeal.Read.val_main_v8_eq]
  exact ref_eq _ _

end Cert.MlpW

end
-- ==== Proof.MlpV.lean ====
/-
  The gradient of the MLP's first weight, one block of columns per device: `mlp1_bwd_w`, over the extended reals.
-/
module

public import proofs.«01_k».proof.Defs
public import proofs.«01_k».proof.Proof.Basic
public import proofs.«01_k».proof.Proof.Gen.MlpOneWIdeal.Value
public import proofs.«01_k».proof.Proof.Gen.RefOneWIdeal.Read
public import Idealize.ShloMosaic.Lib.Pointwise

@[expose] public section

set_option maxRecDepth 16384

noncomputable section

namespace Cert.MlpV

open Cert.MlpOneWIdeal Cert.MlpOneWIdeal.Gen Cert.Nat2
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The weight's gradient: the sum over the tokens. -/
def grad (x : S8192x1024.Idx → EReal) (d : S8192x4096.Idx → EReal) : S8x1024x512.Idx → EReal :=
  fun i => ∑ q ∈ Finset.range 8192, term x d (i 1).val ((i 0).val * 512 + (i 2).val) q

/-- What a point adds to the accumulator. -/
def part (z : Vec Ideal S2048x1024 .bf16) (d : Vec Ideal S2048x2048 .bf16) (i : S1024x2048.Idx) : EReal :=
  ∑ k : Fin 2048, z (ix2 k (i 0)) * d (ix2 k (i 1))

/-- The accumulating store's value. -/
theorem pay_apply (z : FVec Ideal S2048x1024 .bf16) (acc : FVec Ideal S1024x2048 .f32) (d : FVec Ideal S2048x2048 .bf16)
    (i : S1024x2048.Idx) : k0_pay2 (F := Ideal) z acc d i = acc i + part z d i := by
  pointwise [k0_pay2, part]

/-- The columns of a block cut in four. -/
def shards (g : S1024x2048.Idx → EReal) : S4x1024x512.Idx → EReal :=
  fun y => at2 g (y 1).val ((y 0).val * 512 + (y 2).val)

section Cases

variable (c : Dev nD) (i : grid0.Coords) (a2 : Memref sig .tc .vmem S2048x1024 .bf16) (h2 : a2.IsWhole)
  (a3 : Memref sig .tc .vmem S2048x2048 .bf16) (h3 : a3.IsWhole) (a4 : Memref sig .tc .vmem S4x1024x512 .bf16) (h4 : a4.IsWhole)
  (a5 : Memref sig .tc .vmem S1024x2048 .f32) (h5 : a5.IsWhole)
  (z : Vec Ideal S2048x1024 .bf16) (d : Vec Ideal S2048x2048 .bf16) (acc : Vec Ideal S1024x2048 .f32) (j : S1024x2048.Idx)

/-- The first point of a run leaves its own part. -/
theorem scratch_A (hc0 : cond0_0 i) (hc1 : ¬cond0_1 i) :
    sout0_A_0 (F := Ideal) c i a2 h2 a3 h3 a4 h4 a5 h5 hc0 hc1 z d j = part z d j := by
  unfold sout0_A_0
  rw [View.read_writes_eq_canon _ _ _ (scover0_A_0 c i a2 h2 a3 h3 a4 h4 a5 h5 hc0 hc1 z d)]
  unfold kernelRun0_A
  dsimp only
  sl_unfold_words
  rw [View.canon_cons_unit_zero (S := S1024x2048) hz, View.readCov_unit_zero (S := S1024x2048) _ hz]
  simp only [View.readAt_eq_ld, h2.read_unread, h3.read_unread, View.ld_unit_zero (S := S1024x2048) hz, View.ld_unit_zero (S := S2048x1024) hz, View.ld_unit_zero (S := S2048x2048) hz]
  rw [pay_apply]
  pointwise [k0_pay1]

/-- A point between adds its part. -/
theorem scratch_B (hc0 : ¬cond0_0 i) (hc1 : ¬cond0_1 i) :
    sout0_B_0 (F := Ideal) c i a2 h2 a3 h3 a4 h4 a5 h5 hc0 hc1 z d acc j = acc j + part z d j := by
  unfold sout0_B_0
  rw [View.read_writes_eq_canon _ _ _ (scover0_B_0 c i a2 h2 a3 h3 a4 h4 a5 h5 hc0 hc1 z d acc)]
  unfold kernelRun0_B
  dsimp only
  rw [View.canon_unit_zero (S := S1024x2048) hz]
  simp only [View.readAt_eq_ld, h2.read_unread, h3.read_unread, h5.read_unread, View.ld_unit_zero (S := S1024x2048) hz, View.ld_unit_zero (S := S2048x1024) hz, View.ld_unit_zero (S := S2048x2048) hz]
  rw [pay_apply]

/-- The last point of a run writes the accumulator with its part added, its columns in four blocks. -/
theorem out_C (hc0 : ¬cond0_0 i) (hc1 : cond0_1 i) (y : S4x1024x512.Idx) :
    out0_C_2 (F := Ideal) c i a2 h2 a3 h3 a4 h4 a5 h5 hc0 hc1 z d acc y = shards (fun j => acc j + part z d j) y := by
  unfold out0_C_2
  rw [View.read_writes_eq_canon _ _ _ (cover0_C_2 c i a2 h2 a3 h3 a4 h4 a5 h5 hc0 hc1 z d acc)]
  refine View.canon_apply_of_pieces (Val := Elt Ideal) (e := .bf16) (shards (fun j => acc j + part z d j)) _ ?_ y (cover0_C_2 c i a2 h2 a3 h3 a4 h4 a5 h5 hc0 hc1 z d acc y)
  unfold kernelRun0_C
  dsimp only
  sl_unfold_words
  have key : ∀ (n o : ℕ) (hn : ∀ x, (![n, 0, 0] : Fin 3 → Nat) x + S1x1024x512.size x ≤ S4x1024x512.size x)
      (ho : ∀ x, (![0, o] : Fin 2 → Nat) x + S1024x512.size x ≤ S1024x2048.size x) (e : o = n * 512) (x : S1x1024x512.Idx),
      k0_pay3 (F := Ideal) (View.ld (fun j => acc j + part z d j) (Rect.unit (s := S1024x2048) ![0, o] S1024x512.size ho)) x
        = shards (fun j => acc j + part z d j) ((Rect.unit (s := S4x1024x512) ![n, 0, 0] S1x1024x512.size hn).emb x) := by
    intro n o hn ho e x
    subst e
    unfold shards
    generalize (fun j => acc j + part z d j) = g
    pointwise [k0_pay3]
    refine at2_of_val g _ _ _ ?_ ?_
    · show (x 1).val = 0 + 1 * (x 1).val; omega
    · have : (x 0).val < 1 := (x 0).isLt
      show n * 512 + (x 2).val = (n + 1 * (x 0).val) * 512 + (0 + 1 * (x 2).val); omega
  have hacc : k0_pay2 (F := Ideal) z acc d = fun j => acc j + part z d j := funext (pay_apply z acc d)
  have hrd : ∀ (P : FVec Ideal S1024x2048 .f32) (r : Rect S1024x2048),
      a5.view.readCov (Val := Elt Ideal) [⟨Rect.unit (s := S1024x2048) ![0, 0] S1024x2048.size inb_S1024x2048_S1024x2048_0_0, P⟩] r.toLoadRect = View.ld P r := by
    intro P r
    refine (View.readCov_eq_canon_ld a5.view _ r ?_).trans ?_
    · intro y
      exact ⟨_, List.mem_singleton_self _, View.mem_set_unit_zero (S := S1024x2048) hz inb_S1024x2048_S1024x2048_0_0 y⟩
    · rw [View.canon_unit_zero (S := S1024x2048) hz]
  simp only [View.readAt_eq_ld, h2.read_unread, h3.read_unread, h5.read_unread, View.ld_unit_zero (S := S1024x2048) hz, View.ld_unit_zero (S := S2048x1024) hz, View.ld_unit_zero (S := S2048x2048) hz]
  simp only [hrd, hacc]
  intro p hp
  simp only [List.mem_cons, List.not_mem_nil, or_false] at hp
  rcases hp with hp | hp | hp | hp
  · subst hp; exact key 3 1536 inb_S4x1024x512_S1x1024x512_3_0_0 inb_S1024x2048_S1024x512_0_1536 rfl
  · subst hp; exact key 2 1024 inb_S4x1024x512_S1x1024x512_2_0_0 inb_S1024x2048_S1024x512_0_1024 rfl
  · subst hp; exact key 1 512 inb_S4x1024x512_S1x1024x512_1_0_0 inb_S1024x2048_S1024x512_0_512 rfl
  · subst hp; exact key 0 0 inb_S4x1024x512_S1x1024x512_0_0_0 inb_S1024x2048_S1024x512_0_0 rfl

end Cases

variable (m : (ℓ : Loc nD τ sig) → Buf (Elt Ideal) ℓ) (ρ : Dev nD → PrngReg)

/-- The result array as a function of the arguments. -/
abbrev result (c : Dev nD) : Buf (Elt Ideal) ((c : Thread nD τ).loc main_v0) :=
  grad (m ((c : Thread nD τ).loc main_arg0)) (m ((c : Thread nD τ).loc main_arg1))

/-- Which block each window takes at each point. -/
theorem idx_facts : ∀ t : Fin cfg0.N, win0_0.index t (0 : Fin 2) = t.val % 4 ∧ win0_0.index t (1 : Fin 2) = 0
    ∧ win0_1.index t (0 : Fin 2) = t.val % 4 ∧ win0_1.index t (1 : Fin 2) = t.val / 4 :=
  (by decide +kernel : ∀ t : Fin grid0.N, _)

/-- A point's part, as tokens of the arguments. -/
theorem part_eq (c : Dev nD) (t : Fin cfg0.N) (j : S1024x2048.Idx) :
    part (iblk m c 0 t) (iblk m c 1 t) j
      = ∑ k : Fin 2048, term (m ((c : Thread nD τ).loc main_arg0)) (m ((c : Thread nD τ).loc main_arg1))
          (j 0).val (t.val / 4 * 2048 + (j 1).val) (t.val % 4 * 2048 + k.val) := by
  obtain ⟨e00, e01, e10, e11⟩ := idx_facts t
  unfold part term
  refine Finset.sum_congr rfl fun k _ => ?_
  have hz : iblk m c 0 t (ix2 k (j 0)) = at2 (m ((c : Thread nD τ).loc main_arg0)) (t.val % 4 * 2048 + k.val) (j 0).val := by
    unfold iblk
    rw [View.read_apply]
    show V m c main_arg0 _ = _
    unfold V
    refine at2_of_val (m (c.tc.loc main_arg0)) _ _ _ ?_ ?_
    · show win0_0.index t 0 * 2048 + 1 * k.val = _; rw [e00]; omega
    · show win0_0.index t 1 * 1024 + 1 * (j 0).val = _; rw [e01]; omega
  have hd : iblk m c 1 t (ix2 k (j 1)) = at2 (m ((c : Thread nD τ).loc main_arg1)) (t.val % 4 * 2048 + k.val) (t.val / 4 * 2048 + (j 1).val) := by
    unfold iblk
    rw [View.read_apply]
    show V m c main_arg1 _ = _
    unfold V
    refine at2_of_val (m (c.tc.loc main_arg1)) _ _ _ ?_ ?_
    · show win0_1.index t 0 * 2048 + 1 * k.val = _; rw [e10]; omega
    · show win0_1.index t 1 * 2048 + 1 * (j 1).val = _; rw [e11]; omega
  rw [hz, hd]

/-- What the accumulator holds after a point that is not the last of its run: the tokens so far. -/
theorem scratch_eq (c : Dev nD) (j : S1024x2048.Idx) (p : ℕ) : ∀ (r : ℕ) (h : 4 * p + r < cfg0.N) (hr : r < 3),
    (outsAt0 m c (4 * p + r) h).2 j
      = ∑ q ∈ Finset.range (2048 * r + 2048), term (m ((c : Thread nD τ).loc main_arg0)) (m ((c : Thread nD τ).loc main_arg1))
          (j 0).val (p * 2048 + (j 1).val) q
  | 0, h, _ => by
    have h0 : (⟨4 * p + 0, h⟩ : Fin cfg0.N).val % 4 = 0 := by dsimp only; omega
    have h1 : ¬(⟨4 * p + 0, h⟩ : Fin cfg0.N).val % 4 = 3 := by dsimp only; omega
    rw [outsAt0_A m c ⟨4 * p + 0, h⟩ h0 h1]
    dsimp only
    rw [scratch_A, part_eq]
    dsimp only
    rw [show (4 * p + 0) / 4 = p by omega, show (4 * p + 0) % 4 = 0 by omega]
    simp only [Nat.zero_mul, Nat.zero_add, Nat.mul_zero]
    exact sum_range_first _ _
  | r + 1, h, hr => by
    have h0 : ¬(⟨4 * p + (r + 1), h⟩ : Fin cfg0.N).val % 4 = 0 := by dsimp only; omega
    have h1 : ¬(⟨4 * p + (r + 1), h⟩ : Fin cfg0.N).val % 4 = 3 := by dsimp only; omega
    rw [outsAt0_B m c ⟨4 * p + (r + 1), h⟩ h0 h1]
    dsimp only
    rw [scratch_B, part_eq]
    have ih := scratch_eq c j p r (by omega) (by omega)
    simp only [show 4 * p + (r + 1) - 1 = 4 * p + r by omega, ih]
    rw [show (4 * p + (r + 1)) / 4 = p by omega, show (4 * p + (r + 1)) % 4 = r + 1 by omega,
      show 2048 * (r + 1) + 2048 = (2048 * r + 2048) + 2048 by omega, ← sum_range_run _ (2048 * r + 2048)]
    rw [show (r + 1) * 2048 = 2048 * r + 2048 by omega]

/-- What the last point of a run writes. -/
theorem out_eq (c : Dev nD) (y : S4x1024x512.Idx) (p : ℕ) (h : 4 * p + 3 < cfg0.N) :
    (outsAt0 m c (4 * p + 3) h).1 y
      = ∑ q ∈ Finset.range 8192, term (m ((c : Thread nD τ).loc main_arg0)) (m ((c : Thread nD τ).loc main_arg1))
          (y 1).val (p * 2048 + ((y 0).val * 512 + (y 2).val)) q := by
  have h0 : ¬(⟨4 * p + 3, h⟩ : Fin cfg0.N).val % 4 = 0 := by dsimp only; omega
  have h1 : (⟨4 * p + 3, h⟩ : Fin cfg0.N).val % 4 = 3 := by dsimp only; omega
  have hy0 : (y 0).val < 4 := (y 0).isLt
  have hy1 : (y 1).val < 1024 := (y 1).isLt
  have hy2 : (y 2).val < 512 := (y 2).isLt
  rw [outsAt0_C m c ⟨4 * p + 3, h⟩ h0 h1]
  dsimp only
  rw [out_C]
  unfold shards at2
  rw [dif_pos (show (y 1).val < 1024 ∧ (y 0).val * 512 + (y 2).val < 2048 by omega)]
  dsimp only
  rw [part_eq]
  have ih := scratch_eq m c (ix2 ⟨(y 1).val, hy1⟩ ⟨(y 0).val * 512 + (y 2).val, by omega⟩) p 2 (by omega) (by omega)
  simp only [show 4 * p + 3 - 1 = 4 * p + 2 by omega, ih]
  rw [show (4 * p + 3) / 4 = p by omega, show (4 * p + 3) % 4 = 3 by omega]
  exact sum_range_run _ 6144 2048

/-- The result array after the last point. -/
theorem final (c : Dev nD) : Value.G2 m c = result m c := by
  funext i
  have h0 : (i 0 : Nat) < 8 := (i 0).isLt
  have h1 : (i 1 : Nat) < 1024 := (i 1).isLt
  have h2 : (i 2 : Nat) < 512 := (i 2).isLt
  have hN : cfg0.N = 8 := N_0
  have hp : Value.pt2Of i = 4 * ((i 0).val / 4) + 3 := by unfold Value.pt2Of Value.run2Of; omega
  unfold Value.G2
  have hlt : Value.pt2Of i < cfg0.N := by rw [hp, hN]; omega
  rw [dif_pos hlt, ← Value.outsAt0_sweep m c _ hlt]
  simp only [hp]
  rw [out_eq]
  show _ = grad _ _ i
  unfold grad
  dsimp only
  rw [show (i 0).val / 4 * 2048 + ((i 0).val % 4 * 512 + (i 2).val % 512) = (i 0).val * 512 + (i 2).val by omega, show (i 1).val % 1024 = (i 1).val by omega]

/-- The reference's result is the same function of the same arguments. -/
theorem ref_eq (x : FVec Ideal S8192x1024 .bf16) (d : FVec Ideal S8192x4096 .bf16) :
    Cert.RefOneWIdeal.Read.val_main_v8 (F := Ideal) x d = grad x d := by
  funext i
  have h0 : (i 0 : Nat) < 8 := (i 0).isLt
  have h2 : (i 2 : Nat) < 512 := (i 2).isLt
  show _ = ∑ q ∈ Finset.range 8192, term x d (i 1).val ((i 0).val * 512 + (i 2).val) q
  rw [Finset.sum_range]
  simp only [Cert.RefOneWIdeal.Read.val_main_v8, Cert.RefOneWIdeal.Read.val_main_v7, Cert.RefOneWIdeal.Read.val_main_v6,
    Cert.RefOneWIdeal.Read.val_main_v5, Cert.RefOneWIdeal.Read.val_main_v4, Cert.RefOneWIdeal.Read.val_main_v1,
    Cert.RefOneWIdeal.Read.val_main_v0]
  pointwise
  refine Finset.sum_congr rfl fun k _ => ?_
  unfold term
  rw [mul_comm]
  exact congrArg₂ _ (at2_of_val x _ _ _ rfl rfl) (at2_of_val d _ _ _ rfl rfl)

/-- The kernel's run: the result at the gradient, the arguments as they were. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run m ρ)

/-- The idealized kernel and the reference's vector-Jacobian product end with equal results. -/
theorem algebraic : Cert.algebraic_MlpOneWIdeal_RefOneWIdeal := by
  intro m g m' g' _ hag
  refine ⟨fun c => result m c, run m g, (θ_run Cert.RefOneWIdeal.defs _ _).mono (fun _ h c => ?_) (Cert.RefOneWIdeal.Value.run (F := Ideal) m' g')⟩
  obtain ⟨h0, h⟩ := h c
  refine ⟨h0.trans ?_, h⟩
  obtain ⟨e0, e1⟩ := hag c
  rw [e0, e1, Cert.RefOneWIdeal.Read.val_main_v8_eq]
  exact ref_eq _ _

end Cert.MlpV

end
-- ==== Proof.RetSpec.lean ====
/- The retention of one head over the real numbers: the state that the keys and values leave behind, cut at any
   multiple of the chunk, and the gradient with respect to a query, which does not depend on the cut. -/
module

public import Idealize.ShloMosaic.Lib.Pointwise
public import Mathlib.Analysis.SpecialFunctions.Exp
public import Mathlib.Analysis.SpecialFunctions.Pow.Real
public import Mathlib.Tactic.LinearCombination

@[expose] public section

noncomputable section

namespace Cert.Retention

open Finset

/-- The state after `n` blocks of `B` positions, for one key column `u` and one value column `v`: a position `s` counts
    with the decay over the positions that follow it. -/
def state (a : ℝ) (B : ℕ) (u v : ℕ → ℝ) (n : ℕ) : ℝ :=
  ∑ s ∈ range (n * B), Real.exp (a * (((n * B : ℕ) : ℝ) - 1 - s)) * (u s * v s)

theorem state_zero (a : ℝ) (B : ℕ) (u v : ℕ → ℝ) : state a B u v 0 = 0 := by simp [state]

/-- One block more: the old state decays over the block, and the block's own positions are added. -/
theorem state_succ (a : ℝ) (B : ℕ) (u v : ℕ → ℝ) (n : ℕ) :
    state a B u v (n + 1) = state a B u v n * Real.exp (a * B)
      + ∑ c ∈ range B, u (n * B + c) * Real.exp (a * ((B : ℝ) - 1 - c)) * v (n * B + c) := by
  unfold state
  rw [show (n + 1) * B = n * B + B by ring, sum_range_add, sum_mul]
  congr 1
  · refine sum_congr rfl fun s _ => ?_
    rw [mul_right_comm, ← Real.exp_add]
    congr 2
    push_cast
    ring
  · refine sum_congr rfl fun s _ => ?_
    rw [show a * (((n * B + B : ℕ) : ℝ) - 1 - ((n * B + s : ℕ) : ℝ)) = a * ((B : ℝ) - 1 - s) by push_cast; ring]
    ring

/-- The gradient at the query in position `t`, in one column of the key: every position of the query's own chunk and of
    the chunks before it counts, with the decay over its distance. -/
def grad (a : ℝ) (d : Fin 512 → ℝ) (w : ℕ → Fin 512 → ℝ) (u : ℕ → ℝ) (t : ℕ) : ℝ :=
  ∑ s ∈ range (64 * (t / 64 + 1)), Real.exp (a * |(t : ℝ) - s|) * (∑ f : Fin 512, d f * w s f) * u s

/-- The part of the gradient that the state of the blocks before carries. -/
theorem carried (a : ℝ) (B : ℕ) (d : Fin 512 → ℝ) (w : ℕ → Fin 512 → ℝ) (u : ℕ → ℝ) (b r : ℕ) :
    (∑ f : Fin 512, d f * state a B u (fun s => w s f) b) * Real.exp (a * ((r : ℝ) + 1))
      = ∑ s ∈ range (b * B), Real.exp (a * |((b * B + r : ℕ) : ℝ) - s|) * (∑ f : Fin 512, d f * w s f) * u s := by
  simp only [state, mul_sum, sum_mul]
  rw [sum_comm]
  refine sum_congr rfl fun s hs => sum_congr rfl fun f _ => ?_
  have hs' : (s : ℝ) ≤ ((b * B + r : ℕ) : ℝ) := by
    exact_mod_cast (mem_range.mp hs).le.trans (Nat.le_add_right _ _)
  rw [abs_of_nonneg (by linarith), show a * (((b * B + r : ℕ) : ℝ) - s)
    = a * (((b * B : ℕ) : ℝ) - 1 - s) + a * ((r : ℝ) + 1) by push_cast; ring, Real.exp_add]
  ring

/-- The gradient, cut at blocks of `B` positions, where the chunk divides `B`: within the query's block the positions of
    later chunks are masked, and the blocks before come from the state. -/
theorem grad_eq (a : ℝ) (m b r : ℕ) (hr : r < 64 * m) (d : Fin 512 → ℝ) (w : ℕ → Fin 512 → ℝ) (u : ℕ → ℝ) :
    grad a d w u (b * (64 * m) + r)
      = (∑ c ∈ range (64 * m), (∑ f : Fin 512, d f * w (b * (64 * m) + c) f)
            * (if c / 64 ≤ r / 64 then Real.exp (a * |(r : ℝ) - c|) else 0) * u (b * (64 * m) + c))
        + (∑ f : Fin 512, d f * state a (64 * m) u (fun s => w s f) b) * Real.exp (a * ((r : ℝ) + 1)) := by
  have hq : (b * (64 * m) + r) / 64 = b * m + r / 64 := by
    rw [show b * (64 * m) + r = r + 64 * (b * m) by ring, Nat.add_mul_div_left _ _ (by norm_num)]
    ring
  have hle : r / 64 + 1 ≤ m := Nat.succ_le_of_lt (Nat.div_lt_of_lt_mul hr)
  have hcut : (∑ c ∈ range (64 * m), (∑ f : Fin 512, d f * w (b * (64 * m) + c) f)
            * (if c / 64 ≤ r / 64 then Real.exp (a * |(r : ℝ) - c|) else 0) * u (b * (64 * m) + c))
      = ∑ c ∈ range (64 * (r / 64 + 1)), (∑ f : Fin 512, d f * w (b * (64 * m) + c) f)
            * Real.exp (a * |(r : ℝ) - c|) * u (b * (64 * m) + c) := by
    rw [← sum_subset (s₁ := range (64 * (r / 64 + 1))) (range_subset_range.mpr (Nat.mul_le_mul_left _ hle))]
    · refine sum_congr rfl fun c hc => ?_
      rw [if_pos]
      have := mem_range.mp hc
      omega
    · intro c _ hc
      rw [if_neg, mul_zero, zero_mul]
      rw [mem_range] at hc
      omega
  rw [hcut, carried, grad, hq, show 64 * (b * m + r / 64 + 1) = b * (64 * m) + 64 * (r / 64 + 1) by ring,
    sum_range_add, add_comm]
  congr 1
  refine sum_congr rfl fun c _ => ?_
  rw [show ((b * (64 * m) + r : ℕ) : ℝ) - ((b * (64 * m) + c : ℕ) : ℝ) = (r : ℝ) - c by push_cast; ring]
  ring

/-- The group norm's gradient, the way differentiation writes it, is the familiar one. `c` are the row's centred values,
    `q` the reciprocal root, `x` the variance with its small constant, `d` the gradient at the normalised values. -/
theorem norm_grad (n : ℕ) (N : ℝ) (hN : N ≠ 0) (c d : Fin n → ℝ) (hc : ∑ f, c f = 0) (q x : ℝ) (hx : x ≠ 0)
    (hq : q * q * x = 1) (f : Fin n) :
    d f * q + (∑ j : Fin n, c j * d j) * (-(1 / 2) * (q / x)) / N * (2 * c f)
        + (-(∑ j : Fin n, d j * q)
            + -(∑ j : Fin n, (∑ i : Fin n, c i * d i) * (-(1 / 2) * (q / x)) / N * (2 * c j))) / N
      = q * (d f - (∑ j : Fin n, d j) / N - c f * q * ((∑ j : Fin n, d j * (c j * q)) / N)) := by
  have h1 : ∑ j : Fin n, (∑ i : Fin n, c i * d i) * (-(1 / 2) * (q / x)) / N * (2 * c j) = 0 := by
    rw [← mul_sum, ← mul_sum, hc, mul_zero, mul_zero]
  have h2 : ∑ j : Fin n, d j * (c j * q) = q * ∑ j : Fin n, c j * d j := by
    rw [mul_sum]
    exact sum_congr rfl fun j _ => by ring
  have h3 : q / x = q * q * q := by
    rw [div_eq_iff hx]
    linear_combination (-q) * hq
  rw [h1, h2, h3, ← sum_mul]
  ring

end Cert.Retention
-- ==== Proof.RetReal.lean ====
/- The retention's backward pass over the real numbers, entry by entry, for real arguments: the gate and the group norm,
   the rotated keys, and the gradient with respect to the queries. Also the constants of the programs as real numbers and
   the passage of sums, quotients and roots from the extended reals to the reals. -/
module

public import proofs.«01_k».proof.Proof.RetSpec
public import Idealize.ShloMosaic.Lib.IdealHost

@[expose] public section

noncomputable section

namespace Cert.Retention

open Idealize.ShloMosaic

/-! Constants. -/

/-- The small constant under the root. -/
def eps : ℝ := 8796093 / 8796093022208

theorem lit_512 : Ideal.ofBits FTy.f32 0x44000000#32 = ((512 : ℝ) : EReal) := by
  simp [Ideal.ofBits, Ideal.ieee, -EReal.coe_mul, -EReal.coe_neg]; norm_num
theorem lit_eps : Ideal.ofBits FTy.f32 0x358637BD#32 = ((eps : ℝ) : EReal) := by
  simp [Ideal.ofBits, Ideal.ieee, eps, -EReal.coe_mul, -EReal.coe_neg]; norm_num
theorem lit_neg_half : Ideal.ofBits FTy.f32 0xBF000000#32 = ((-(1 / 2) : ℝ) : EReal) := by
  simp [Ideal.ofBits, Ideal.ieee, -EReal.coe_mul, -EReal.coe_neg]; norm_num
theorem lit_2 : Ideal.ofBits FTy.f32 0x40000000#32 = ((2 : ℝ) : EReal) := by
  simp [Ideal.ofBits, Ideal.ieee, -EReal.coe_mul, -EReal.coe_neg]; norm_num
theorem lit_10000 : Ideal.ofBits FTy.f32 0x461C4000#32 = ((10000 : ℝ) : EReal) := by
  simp [Ideal.ofBits, Ideal.ieee, -EReal.coe_mul, -EReal.coe_neg]; norm_num
theorem lit_256 : Ideal.ofBits FTy.f32 0x43800000#32 = ((256 : ℝ) : EReal) := by
  simp [Ideal.ofBits, Ideal.ieee, -EReal.coe_mul, -EReal.coe_neg]; norm_num
theorem lit_sixteenth : Ideal.ofBits FTy.f32 0x3D800000#32 = ((1 / 16 : ℝ) : EReal) := by
  simp [Ideal.ofBits, Ideal.ieee, -EReal.coe_mul, -EReal.coe_neg]; norm_num
theorem lit_neg_5 : Ideal.ofBits FTy.f32 0xC0A00000#32 = ((-5 : ℝ) : EReal) := by
  simp [Ideal.ofBits, Ideal.ieee, -EReal.coe_mul, -EReal.coe_neg]; norm_num
theorem lit_63 : Ideal.ofBits FTy.f32 0x427C0000#32 = ((63 : ℝ) : EReal) := by
  simp [Ideal.ofBits, Ideal.ieee, -EReal.coe_mul, -EReal.coe_neg]; norm_num
theorem lit_64 : Ideal.ofBits FTy.f32 0x42800000#32 = ((64 : ℝ) : EReal) := by
  simp [Ideal.ofBits, Ideal.ieee, -EReal.coe_mul, -EReal.coe_neg]; norm_num
theorem lit_255 : Ideal.ofBits FTy.f32 0x437F0000#32 = ((255 : ℝ) : EReal) := by
  simp [Ideal.ofBits, Ideal.ieee, -EReal.coe_mul, -EReal.coe_neg]; norm_num

theorem eps_pos : 0 < eps := by norm_num [eps]

/-! From the extended reals to the reals. -/

theorem sum_real {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

theorem div_real (x y : ℝ) (hy : y ≠ 0) : Ideal.div (x : EReal) (y : EReal) = ((x / y : ℝ) : EReal) := by
  rw [Ideal.div_coe hy, ← EReal.coe_mul, mul_one_div]

theorem rsqrt_real (x : ℝ) (hx : 0 < x) : Ideal.rsqrt (x : EReal) = (((Real.sqrt x)⁻¹ : ℝ) : EReal) := by
  rw [Ideal.rsqrt_coe, if_neg (not_lt.mpr hx.le), if_neg hx.ne']

theorem nat_real (n : ℕ) (h : n < 2147483648) :
    (FloatOps.sitofp FTy.f32 (BitVec.ofNat 32 n) : Ideal FTy.f32) = ((n : ℝ) : EReal) := by
  have hn : (BitVec.ofNat 32 n).toNat = n := by rw [BitVec.toNat_ofNat]; exact Nat.mod_eq_of_lt (by omega)
  have : (BitVec.ofNat 32 n).toInt = n := by rw [BitVec.toInt_eq_toNat_of_lt (by rw [hn]; omega), hn]
  show (((BitVec.ofNat 32 n).toInt : ℝ) : EReal) = _
  rw [this]
  simp

theorem abs_real (x : ℝ) : (FloatOps.absf (x : EReal) : Ideal FTy.f32) = ((|x| : ℝ) : EReal) := by
  show max (x : EReal) (-(x : EReal)) = _
  rw [← EReal.coe_neg, abs_eq_max_neg]
  exact (EReal.coe_strictMono.monotone.map_max).symm

/-! The gate and the group norm. `p`, `y` and `c` are the projections, the values that come out of the retention and the
    gradient that comes in, by row and column; `g` and `b` the scale and the offset of the norm, by column. Head `h` has
    the 512 columns from `512 · h`. -/

variable (p y c : ℕ → ℕ → ℝ) (g b : ℕ → ℝ)

def sg (t k : ℕ) : ℝ := 1 / (1 + Real.exp (-p t (4096 + k)))
def dgn (t k : ℕ) : ℝ := p t (4096 + k) * sg p t k * c t k
def cen (t h : ℕ) (f : Fin 512) : ℝ := y t (h * 512 + f) - (∑ i : Fin 512, y t (h * 512 + i)) / 512
def vr (t h : ℕ) : ℝ := (∑ i, cen y t h i * cen y t h i) / 512 + eps
def rs (t h : ℕ) : ℝ := (Real.sqrt (vr y t h))⁻¹
def nrm (t h : ℕ) (f : Fin 512) : ℝ := cen y t h f * rs y t h
def dn (t h : ℕ) (f : Fin 512) : ℝ := dgn p c t (h * 512 + f) * g (h * 512 + f)
def dy (t h : ℕ) (f : Fin 512) : ℝ :=
  rs y t h * (dn p c g t h f - (∑ j, dn p c g t h j) / 512
    - cen y t h f * rs y t h * ((∑ j, dn p c g t h j * (cen y t h j * rs y t h)) / 512))
def dgate (t h : ℕ) (f : Fin 512) : ℝ :=
  c t (h * 512 + f) * (nrm y t h f * g (h * 512 + f) + b (h * 512 + f))
    * (sg p t (h * 512 + f) * (1 + p t (4096 + (h * 512 + f)) * (1 - sg p t (h * 512 + f))))

theorem vr_pos (t h : ℕ) : 0 < vr y t h := by
  have : 0 ≤ ∑ i, cen y t h i * cen y t h i := Finset.sum_nonneg fun i _ => mul_self_nonneg _
  have := eps_pos
  unfold vr
  positivity

theorem rs_sq (t h : ℕ) : rs y t h * rs y t h * vr y t h = 1 := by
  have h0 := vr_pos y t h
  have h1 := Real.mul_self_sqrt h0.le
  have h2 : Real.sqrt (vr y t h) ≠ 0 := (Real.sqrt_pos.mpr h0).ne'
  unfold rs
  field_simp
  nlinarith [h1]

theorem cen_sum (t h : ℕ) : ∑ f, cen y t h f = 0 := by
  simp only [cen, Finset.sum_sub_distrib, Finset.sum_const, Finset.card_univ, Fintype.card_fin, nsmul_eq_mul]
  push_cast
  ring

/-! The rotation, the keys, and the gradient with respect to the queries. -/

def angle (t j : ℕ) : ℝ := t * Real.rpow 10000 (-(2 * j) / 256)
def logGamma (h : ℕ) : ℝ := Real.log (1 - Real.rpow 2 (-5 - h))
def key (t h d : ℕ) : ℝ :=
  (if d < 128 then p t (1024 + (h * 256 + d)) * Real.cos (angle t d) - p t (1024 + (h * 256 + (128 + d))) * Real.sin (angle t d)
    else p t (1024 + (h * 256 + (128 + (d - 128)))) * Real.cos (angle t (d - 128))
      + p t (1024 + (h * 256 + (d - 128))) * Real.sin (angle t (d - 128))) * (1 / 16)
def value (t h : ℕ) (f : Fin 512) : ℝ := p t (2048 + (h * 512 + f))
def dqRot (t h d : ℕ) : ℝ :=
  grad (logGamma h) (dy p y c g t h) (fun s f => value p s h f) (fun s => key p s h d) t
def dq (t h d : ℕ) : ℝ :=
  if d < 128 then dqRot p y c g t h d * Real.cos (angle t d) + dqRot p y c g t h (128 + d) * Real.sin (angle t d)
  else dqRot p y c g t h (128 + (d - 128)) * Real.cos (angle t (d - 128)) - dqRot p y c g t h (d - 128) * Real.sin (angle t (d - 128))

theorem logGamma_arg_pos (h : ℕ) : 0 < 1 - Real.rpow 2 (-5 - (h : ℝ)) := by
  have : Real.rpow 2 (-5 - (h : ℝ)) < 1 :=
    Real.rpow_lt_one_of_one_lt_of_neg (by norm_num) (by have : (0 : ℝ) ≤ h := Nat.cast_nonneg h; linarith)
  linarith

theorem log_real (x : ℝ) (hx : 0 < x) : Ideal.log (x : EReal) = ((Real.log x : ℝ) : EReal) := by
  rw [Ideal.log_coe, if_neg (not_le.mpr hx)]

end Cert.Retention
-- ==== Proof.RetHost.lean ====
/- What the retention's backward kernel is given by the host: the decay tables, the rotation's tables and the rotated keys. -/
module

public import proofs.«01_k».proof.Proof.Basic
public import proofs.«01_k».proof.Proof.RetReal
public import proofs.«01_k».proof.Proof.Gen.RetQIdeal.Value
public import Idealize.ShloMosaic.Lib.StableHlo.ReadAt

@[expose] public section
set_option maxRecDepth 16384
noncomputable section
namespace Cert.RetHost
open Cert.Retention Cert.RetQIdeal Cert.RetQIdeal.Gen Cert.Nat2
open Idealize.ShloMosaic Idealize.ShloMosaic.TcCoe Idealize.SL.Sem

variable (m : (ℓ : Loc nD τ sig) → Buf (Elt Ideal) ℓ) (c : Dev nD)

/-- A head's logarithmic decay, as the host computes it. -/
theorem lg_real (h : Fin 4) : Ideal.log (1 - Ideal.pow (Ideal.ofBits .f32 1073741824#32)
    (Ideal.ofBits .f32 3231711232#32 - FloatOps.sitofp (F := Ideal) .f32 (BitVec.ofNat 32 h.val))) = ((Retention.logGamma h : ℝ) : EReal) := by
  rw [nat_real _ (by omega), lit_2, lit_neg_5, ← EReal.coe_sub, Ideal.pow_coe_coe, ← EReal.coe_one, ← EReal.coe_sub, log_real _ (logGamma_arg_pos h)]
  rfl
/-- A position's rotation angle, as the host computes it. -/
theorem ang_real (t j : ℕ) (ht : t < 8192) (hj : j < 128) : FloatOps.sitofp (F := Ideal) .f32 (BitVec.ofNat 32 t) *
    Ideal.pow (Ideal.ofBits .f32 1176256512#32) (Ideal.div (-(Ideal.ofBits .f32 1073741824#32 * FloatOps.sitofp (F := Ideal) .f32 (BitVec.ofNat 32 j)))
      (Ideal.ofBits .f32 1132462080#32)) = ((Retention.angle t j : ℝ) : EReal) := by
  rw [nat_real _ (by omega), nat_real _ (by omega), lit_2, lit_256, lit_10000, ← EReal.coe_mul, ← EReal.coe_neg, div_real _ _ (by norm_num),
    Ideal.pow_coe_coe, ← EReal.coe_mul]
  rfl

theorem cos_real (t : Fin 8192) (j : Fin 128) : V m c main_v114 (ix2 t j) = ((Real.cos (Retention.angle t j) : ℝ) : EReal) := by
  unfold V
  after_reads_at
  rw [ang_real _ _ t.isLt j.isLt]
  rfl
theorem sin_real (t : Fin 8192) (j : Fin 128) : V m c main_v115 (ix2 t j) = ((Real.sin (Retention.angle t j) : ℝ) : EReal) := by
  unfold V
  after_reads_at
  rw [ang_real _ _ t.isLt j.isLt]
  rfl
theorem xi_real (h : Fin 4) (r : Fin 256) : V m c main_v83 (ix3 h r (0 : Fin 1)) = ((Real.exp (Retention.logGamma h * ((r : ℕ) + 1)) : ℝ) : EReal) := by
  unfold V
  after_reads_at
  rw [lg_real, nat_real _ (by omega), ← EReal.coe_one, ← EReal.coe_add, ← EReal.coe_mul]
  rfl
theorem zeta_real (h : Fin 4) (r : Fin 256) : V m c main_v92 (ix3 h r (0 : Fin 1)) = ((Real.exp (Retention.logGamma h * (255 - (r : ℕ))) : ℝ) : EReal) := by
  unfold V
  after_reads_at
  rw [lg_real, nat_real _ (by omega), lit_255, ← EReal.coe_sub, ← EReal.coe_mul]
  rfl
theorem gam_real (h : Fin 4) (a : Fin 8) (b : Fin 128) : V m c main_v97 (ix3 h a b) = ((Real.exp (Retention.logGamma h * 256) : ℝ) : EReal) := by
  unfold V
  after_reads_at
  rw [lg_real, lit_256, ← EReal.coe_mul]
  rfl

/-- The chunks of a block's rows: the host's division by 64. -/
def chunkV : IVec S256 32 :=
  select
    (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))
theorem word_div : ∀ r : Fin 256, IntOp.divsi ArithUnit.host (BitVec.ofNat 32 r.val) 64#32 = BitVec.ofNat 32 (r.val / 64) := by
  decide +kernel
theorem word_ne : ∀ r : Fin 256, r.val ≠ 0 → ¬BitVec.ofNat 32 r.val = 0 := by
  decide +kernel
theorem word_msb : ∀ r : Fin 256, (if (BitVec.ofNat 32 r.val).msb = true then (-1 : BitVec 32) else 1) = 1 := by
  decide +kernel
theorem word_sign : (if (64#32 : BitVec 32) = 0 then (0 : BitVec 32) else if (64#32 : BitVec 32).msb = true then (-1 : BitVec 32) else 1) = 1 := by
  decide +kernel
theorem select_same (u v : BitVec 32) (x : BitVec 1) (a b : BitVec 32) (hu : u = 1) (hv : v = 1) :
    Scalar.select (IntOp.andi (IntOp.cmpi CmpIPredicate.ne u v) x) a b = b := by
  subst hu hv
  have : IntOp.andi (IntOp.cmpi CmpIPredicate.ne (1 : BitVec 32) 1) x = 0#1 := by revert x; decide +kernel
  rw [this]; rfl
theorem select_zero (x y : BitVec 1) (a b : BitVec 32) (hy : y = 0#1) : Scalar.select (IntOp.andi x y) a b = b := by
  subst hy
  have : IntOp.andi x 0#1 = 0#1 := by revert x; decide +kernel
  rw [this]; rfl
theorem chunkV_eq : ∀ r : Fin 256, chunkV (ix1 r) = BitVec.ofNat 32 (r.val / 64) := by
  intro r
  pointwise [chunkV]
  refine Eq.trans ?_ (word_div r)
  by_cases h0 : r.val = 0
  · have h1 : r = 0 := Fin.ext h0
    subst h1
    refine select_zero _ _ _ _ ?_
    decide +kernel
  · refine select_same _ _ _ _ _ ?_ ?_
    · exact (if_neg (word_ne r h0)).trans (word_msb r)
    · exact word_sign

/-- Two rows' difference, and the host's distance. -/
def diffV : FVec Ideal S256x256 .f32 :=
  subf (broadcastInDim S256x256 ![0, 1] bcast_S256x1_S256x256_0_1 (broadcastInDim S256x1 ![0] bcast_S256_S256x1_0 (sitofp .f32 (iotaInDim S256 32 0))))
    (broadcastInDim S256x256 ![0, 1] bcast_S1x256_S256x256_0_1 (broadcastInDim S1x256 ![1] bcast_S256_S1x256_1 (sitofp .f32 (iotaInDim S256 32 0))))
def rowV (x : IVec S256 32) : IVec S256x256 32 := broadcastInDim S256x256 ![0, 1] bcast_S256x1_S256x256_0_1 (broadcastInDim S256x1 ![0] bcast_S256_S256x1_0 x)
def colV (x : IVec S256 32) : IVec S256x256 32 := broadcastInDim S256x256 ![0, 1] bcast_S1x256_S256x256_0_1 (broadcastInDim S1x256 ![1] bcast_S256_S1x256_1 x)
def lgV : FVec Ideal S4 .f32 :=
  Host.log (subf (broadcastInDim S4 ![] bcast_S_S4 (constant S_ .f32 0x3F800000#32))
    (Host.powf (broadcastInDim S4 ![] bcast_S_S4 (constant S_ .f32 0x40000000#32))
      (subf (broadcastInDim S4 ![] bcast_S_S4 (constant S_ .f32 0xC0A00000#32)) (sitofp .f32 (iotaInDim S4 32 0)))))
def maskV : FVec Ideal S4x256x256 .f32 :=
  select (broadcastInDim S4x256x256 ![1, 2] bcast_S256x256_S4x256x256_1_2 (cmpi .sle (colV chunkV) (rowV chunkV)))
    (Host.exp (mulf (broadcastInDim S4x256x256 ![0, 1, 2] bcast_S4x1x1_S4x256x256_0_1_2 (broadcastInDim S4x1x1 ![0] bcast_S4_S4x1x1_0 lgV))
      (broadcastInDim S4x256x256 ![0, 1, 2] bcast_S1x256x256_S4x256x256_0_1_2 (broadcastInDim S1x256x256 ![1, 2] bcast_S256x256_S1x256x256_1_2
        (select (cmpi .eq (rowV chunkV) (colV chunkV)) (Host.absf diffV) diffV)))))
    (broadcastInDim S4x256x256 ![] bcast_S_S4x256x256 (constant S_ .f32 0x00000000#32))
theorem V_mask : V m c main_v74 = maskV := by
  unfold V
  after_reads_simp
  rfl
theorem chunk_le : ∀ a b : Fin 4, IntOp.cmpi CmpIPredicate.sle (BitVec.ofNat 32 a.val) (BitVec.ofNat 32 b.val) = if a.val ≤ b.val then 1#1 else 0#1 := by
  decide +kernel
theorem chunk_eq : ∀ a b : Fin 4, IntOp.cmpi CmpIPredicate.eq (BitVec.ofNat 32 a.val) (BitVec.ofNat 32 b.val) = if a.val = b.val then 1#1 else 0#1 := by
  decide +kernel

theorem mask_real (h : Fin 4) (r e : Fin 256) : V m c main_v74 (ix3 h r e)
    = (((if (e : ℕ) / 64 ≤ (r : ℕ) / 64 then Real.exp (Retention.logGamma h * |(r : ℝ) - e|) else 0) : ℝ) : EReal) := by
  rw [V_mask]
  pointwise [maskV, rowV, colV, lgV, diffV]
  rw [chunkV_eq, chunkV_eq]
  have hr : r.val / 64 < 4 := by omega
  have he : e.val / 64 < 4 := by omega
  rw [show IntOp.cmpi CmpIPredicate.sle (BitVec.ofNat 32 (e.val / 64)) (BitVec.ofNat 32 (r.val / 64)) = _ from chunk_le ⟨_, he⟩ ⟨_, hr⟩,
    show IntOp.cmpi CmpIPredicate.eq (BitVec.ofNat 32 (r.val / 64)) (BitVec.ofNat 32 (e.val / 64)) = _ from chunk_eq ⟨_, hr⟩ ⟨_, he⟩,
    lg_real, nat_real _ (by omega), nat_real _ (by omega), ← EReal.coe_sub, abs_real]
  by_cases hle : e.val / 64 ≤ r.val / 64
  · rw [if_pos hle, if_pos hle]
    have hd : Scalar.select (if r.val / 64 = e.val / 64 then 1#1 else 0#1) ((|((r.val : ℕ) : ℝ) - (e.val : ℕ)| : ℝ) : EReal) (((((r.val : ℕ) : ℝ) - (e.val : ℕ)) : ℝ) : EReal)
        = ((|((r.val : ℕ) : ℝ) - (e.val : ℕ)| : ℝ) : EReal) := by
      split_ifs with heq
      · rfl
      · have : (e.val : ℝ) ≤ r.val := by exact_mod_cast (by omega : e.val ≤ r.val)
        rw [abs_of_nonneg (by linarith)]
        rfl
    show Ideal.exp (_ * Scalar.select _ _ _) = _
    rw [hd, ← EReal.coe_mul]
    rfl
  · rw [if_neg hle, if_neg hle]
    show (0 : EReal) = _
    simp

/-- The rotated and scaled keys: the two halves of a head's coordinates turned by the position's angles. -/
def angleV : FVec Ideal S8192x128 .f32 :=
  mulf (broadcastInDim S8192x128 ![0, 1] bcast_S8192x1_S8192x128_0_1
      (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
          (mulf (broadcastInDim S128 ![] bcast_S_S128 (constant S_ .f32 0x40000000#32)) (sitofp .f32 (iotaInDim S128 32 0)))))
          (broadcastInDim S128 ![] bcast_S_S128 (constant S_ .f32 0x43800000#32))))))
def headsV (x : FVec Ideal S8192x128 .f32) : FVec Ideal S8192x4x128 .f32 :=
  broadcastInDim S8192x4x128 ![0, 1, 2] bcast_S8192x1x128_S8192x4x128_0_1_2 (broadcastInDim S8192x1x128 ![0, 2] bcast_S8192x128_S8192x1x128_0_2 x)
def rawV (x : FVec Ideal S8192x6144 .bf16) : FVec Ideal S8192x4x256 .f32 :=
  shapeCast S8192x4x256 (extf .f32 (extractStridedSlice S8192x1024 ![0, 1024] x slices_S8192x6144_S8192x1024_0_1024) bitsLt_bf16_f32)
    shapeCasts_S8192x1024_S8192x4x256
def lowV (x : FVec Ideal S8192x6144 .bf16) : FVec Ideal S8192x4x128 .f32 :=
  extractStridedSlice S8192x4x128 ![0, 0, 0] (rawV x) slices_S8192x4x256_S8192x4x128_0_0_0
def highV (x : FVec Ideal S8192x6144 .bf16) : FVec Ideal S8192x4x128 .f32 :=
  extractStridedSlice S8192x4x128 ![0, 0, 128] (rawV x) slices_S8192x4x256_S8192x4x128_0_0_128
def keysV (x : FVec Ideal S8192x6144 .bf16) : FVec Ideal S8192x1024 .bf16 :=
  truncf .bf16 (shapeCast S8192x1024 (mulf (concatenate S8192x4x256 2
      [⟨S8192x4x128, subf (mulf (lowV x) (headsV (Host.cos angleV))) (mulf (highV x) (headsV (Host.sin angleV)))⟩,
       ⟨S8192x4x128, addf (mulf (highV x) (headsV (Host.cos angleV))) (mulf (lowV x) (headsV (Host.sin angleV)))⟩]
      concatenates_S8192x4x128_S8192x4x128_S8192x4x256_d2)
    (broadcastInDim S8192x4x256 ![] bcast_S_S8192x4x256 (constant S_ .f32 0x3D800000#32))) shapeCasts_S8192x4x256_S8192x1024) bitsLt_bf16_f32
theorem V_keys : V m c main_v39 = keysV (m (c.tc.loc main_arg0)) := by
  unfold V
  after_reads_simp
  rfl
theorem angleV_real (t : Fin 8192) (j : Fin 128) : angleV (ix2 t j) = ((Retention.angle t j : ℝ) : EReal) := by
  pointwise [angleV]
  exact ang_real _ _ t.isLt j.isLt

theorem keysV_real {x : FVec Ideal S8192x6144 .bf16} {p : ℕ → ℕ → ℝ} (hp : ∀ (t : Fin 8192) (j : Fin 6144), x (ix2 t j) = ((p t j : ℝ) : EReal))
    (t : Fin 8192) (h : Fin 4) (d : Fin 256) : keysV x (ix2 t (⟨h * 256 + d, by omega⟩ : Fin 1024)) = ((Retention.key p t h d : ℝ) : EReal) := by
  pointwise [keysV, lowV, highV, rawV, headsV]
  rw [lit_sixteenth]
  unfold Retention.key
  split_ifs with hd hd'
  · rw [hp, hp, angleV_real]
    simp only [Ideal.cos_coe, Ideal.sin_coe, ← EReal.coe_mul, ← EReal.coe_sub]
  · rw [hp, hp, angleV_real]
    simp only [Ideal.cos_coe, Ideal.sin_coe, ← EReal.coe_mul, ← EReal.coe_add]
  · exact absurd rfl hd'
end Cert.RetHost
-- ==== Proof.RetWin.lean ====
/- What the windows of the retention's backward kernel hold at a grid point: point `t` takes head `t / 4` and the tokens from `2048 * (t % 4)` on. -/
module

public import proofs.«01_k».proof.Proof.RetHost

@[expose] public section

set_option maxRecDepth 16384

noncomputable section

namespace Cert.RetWin

open Cert.RetQIdeal Cert.RetQIdeal.Gen Cert.Retention Cert.RetHost Cert.Nat2
open Idealize.ShloMosaic Idealize.ShloMosaic.TcCoe Idealize.SL.Sem

theorem point_lt (t : Fin cfg0.N) : t.val < 16 := lt_of_lt_of_eq t.isLt N_0

/-- Where the windows lie: the rows, the columns, and the tables' planes. -/
theorem rows_at : ∀ t : Fin cfg0.N, win0_0.index t 0 = t.val % 4 ∧ win0_1.index t 0 = t.val % 4 ∧ win0_2.index t 0 = t.val % 4
    ∧ win0_3.index t 0 = t.val % 4 ∧ win0_4.index t 0 = t.val % 4 ∧ win0_5.index t 0 = t.val % 4 ∧ win0_6.index t 0 = t.val % 4
    ∧ win0_11.index t 0 = 0 ∧ win0_12.index t 0 = 0 :=
  (by decide +kernel : ∀ t : Fin grid0.N, _)
theorem cols_at : ∀ t : Fin cfg0.N, win0_0.index t 1 = t.val / 4 ∧ win0_1.index t 1 = 4 + t.val / 4 ∧ win0_2.index t 1 = 8 + t.val / 4
    ∧ win0_3.index t 1 = t.val / 4 ∧ win0_4.index t 1 = t.val / 4 ∧ win0_5.index t 1 = 0 ∧ win0_6.index t 1 = 0
    ∧ win0_11.index t 1 = t.val / 4 ∧ win0_12.index t 1 = t.val / 4 :=
  (by decide +kernel : ∀ t : Fin grid0.N, _)
theorem planes_at : ∀ t : Fin cfg0.N, (win0_7.index t 0 = t.val / 4 ∧ win0_7.index t 1 = 0 ∧ win0_7.index t 2 = 0)
    ∧ (win0_8.index t 0 = t.val / 4 ∧ win0_8.index t 1 = 0 ∧ win0_8.index t 2 = 0)
    ∧ (win0_9.index t 0 = t.val / 4 ∧ win0_9.index t 1 = 0 ∧ win0_9.index t 2 = 0)
    ∧ win0_10.index t 0 = t.val / 4 ∧ win0_10.index t 1 = 0 ∧ win0_10.index t 2 = 0 :=
  (by decide +kernel : ∀ t : Fin grid0.N, _)

/-- An array of three axes at an index of known coordinates. -/
theorem at3_of_val {A B C : ℕ} (x : (⟨3, ![A, B, C]⟩ : Shape).Idx → EReal) (j : (⟨3, ![A, B, C]⟩ : Shape).Idx) (a : Fin A) (b : Fin B) (c : Fin C)
    (ha : (j 0).val = a.val) (hb : (j 1).val = b.val) (hc : (j 2).val = c.val) : x j = x (ix3 a b c) :=
  congrArg x ((eq_ix3 j).trans (by rw [Fin.ext ha, Fin.ext hb, Fin.ext hc]))

variable (m : (ℓ : Loc nD τ sig) → Buf (Elt Ideal) ℓ) (c : Dev nD) (t : Fin cfg0.N)

theorem win0 (r : Fin 2048) (f : Fin 256) : iblk m c 0 t (ix2 r f) = at2 (V m c main_v39) (2048 * (t.val % 4) + r.val) (t.val / 4 * 256 + f.val) := by
  refine at2_of_val (V m c main_v39) _ _ _ ?_ ?_
  · show win0_0.index t 0 * 2048 + 1 * r.val = _; have := rows_at t; omega
  · show win0_0.index t 1 * 256 + 1 * f.val = _; have := cols_at t; omega
theorem win1 (r : Fin 2048) (f : Fin 512) : iblk m c 1 t (ix2 r f) = at2 (V m c main_arg0) (2048 * (t.val % 4) + r.val) (2048 + (t.val / 4 * 512 + f.val)) := by
  refine at2_of_val (V m c main_arg0) _ _ _ ?_ ?_
  · show win0_1.index t 0 * 2048 + 1 * r.val = _; have := rows_at t; omega
  · show win0_1.index t 1 * 512 + 1 * f.val = _; have := cols_at t; omega
theorem win2 (r : Fin 2048) (f : Fin 512) : iblk m c 2 t (ix2 r f) = at2 (V m c main_arg0) (2048 * (t.val % 4) + r.val) (4096 + (t.val / 4 * 512 + f.val)) := by
  refine at2_of_val (V m c main_arg0) _ _ _ ?_ ?_
  · show win0_2.index t 0 * 2048 + 1 * r.val = _; have := rows_at t; omega
  · show win0_2.index t 1 * 512 + 1 * f.val = _; have := cols_at t; omega
theorem win3 (r : Fin 2048) (f : Fin 512) : iblk m c 3 t (ix2 r f) = at2 (V m c main_arg1) (2048 * (t.val % 4) + r.val) (t.val / 4 * 512 + f.val) := by
  refine at2_of_val (V m c main_arg1) _ _ _ ?_ ?_
  · show win0_3.index t 0 * 2048 + 1 * r.val = _; have := rows_at t; omega
  · show win0_3.index t 1 * 512 + 1 * f.val = _; have := cols_at t; omega
theorem win4 (r : Fin 2048) (f : Fin 512) : iblk m c 4 t (ix2 r f) = at2 (V m c main_arg2) (2048 * (t.val % 4) + r.val) (t.val / 4 * 512 + f.val) := by
  refine at2_of_val (V m c main_arg2) _ _ _ ?_ ?_
  · show win0_4.index t 0 * 2048 + 1 * r.val = _; have := rows_at t; omega
  · show win0_4.index t 1 * 512 + 1 * f.val = _; have := cols_at t; omega
theorem win5 (r : Fin 2048) (f : Fin 128) : iblk m c 5 t (ix2 r f) = at2 (V m c main_v114) (2048 * (t.val % 4) + r.val) (f.val) := by
  refine at2_of_val (V m c main_v114) _ _ _ ?_ ?_
  · show win0_5.index t 0 * 2048 + 1 * r.val = _; have := rows_at t; omega
  · show win0_5.index t 1 * 128 + 1 * f.val = _; have := cols_at t; omega
theorem win6 (r : Fin 2048) (f : Fin 128) : iblk m c 6 t (ix2 r f) = at2 (V m c main_v115) (2048 * (t.val % 4) + r.val) (f.val) := by
  refine at2_of_val (V m c main_v115) _ _ _ ?_ ?_
  · show win0_6.index t 0 * 2048 + 1 * r.val = _; have := rows_at t; omega
  · show win0_6.index t 1 * 128 + 1 * f.val = _; have := cols_at t; omega
theorem win7 (r : Fin 256) (d : Fin 256) : iblk m c 7 t (ix3 (0 : Fin 1) r d)
    = V m c main_v74 (ix3 (⟨t.val / 4, by have := point_lt t; omega⟩ : Fin 4) r d) := by
  refine at3_of_val (V m c main_v74) _ _ _ _ ?_ ?_ ?_
  · show win0_7.index t 0 * 1 + 1 * 0 = t.val / 4; have := planes_at t; omega
  · show win0_7.index t 1 * 256 + 1 * r.val = r.val; have := planes_at t; omega
  · show win0_7.index t 2 * 256 + 1 * d.val = d.val; have := planes_at t; omega
theorem win8 (r : Fin 256) (d : Fin 1) : iblk m c 8 t (ix3 (0 : Fin 1) r d)
    = V m c main_v83 (ix3 (⟨t.val / 4, by have := point_lt t; omega⟩ : Fin 4) r d) := by
  refine at3_of_val (V m c main_v83) _ _ _ _ ?_ ?_ ?_
  · show win0_8.index t 0 * 1 + 1 * 0 = t.val / 4; have := planes_at t; omega
  · show win0_8.index t 1 * 256 + 1 * r.val = r.val; have := planes_at t; omega
  · show win0_8.index t 2 * 1 + 1 * d.val = d.val; have := planes_at t; omega
theorem win9 (r : Fin 256) (d : Fin 1) : iblk m c 9 t (ix3 (0 : Fin 1) r d)
    = V m c main_v92 (ix3 (⟨t.val / 4, by have := point_lt t; omega⟩ : Fin 4) r d) := by
  refine at3_of_val (V m c main_v92) _ _ _ _ ?_ ?_ ?_
  · show win0_9.index t 0 * 1 + 1 * 0 = t.val / 4; have := planes_at t; omega
  · show win0_9.index t 1 * 256 + 1 * r.val = r.val; have := planes_at t; omega
  · show win0_9.index t 2 * 1 + 1 * d.val = d.val; have := planes_at t; omega
theorem win10 (r : Fin 8) (d : Fin 128) : iblk m c 10 t (ix3 (0 : Fin 1) r d)
    = V m c main_v97 (ix3 (⟨t.val / 4, by have := point_lt t; omega⟩ : Fin 4) r d) := by
  refine at3_of_val (V m c main_v97) _ _ _ _ ?_ ?_ ?_
  · show win0_10.index t 0 * 1 + 1 * 0 = t.val / 4; have := planes_at t; omega
  · show win0_10.index t 1 * 8 + 1 * r.val = r.val; have := planes_at t; omega
  · show win0_10.index t 2 * 128 + 1 * d.val = d.val; have := planes_at t; omega
theorem win11 (f : Fin 512) : iblk m c 11 t (ix2 (0 : Fin 1) f) = at2 (V m c main_arg3) 0 (t.val / 4 * 512 + f.val) := by
  refine at2_of_val (V m c main_arg3) _ _ _ ?_ ?_
  · show win0_11.index t 0 * 1 + 1 * 0 = _; have := rows_at t; omega
  · show win0_11.index t 1 * 512 + 1 * f.val = _; have := cols_at t; omega
theorem win12 (f : Fin 512) : iblk m c 12 t (ix2 (0 : Fin 1) f) = at2 (V m c main_arg4) 0 (t.val / 4 * 512 + f.val) := by
  refine at2_of_val (V m c main_arg4) _ _ _ ?_ ?_
  · show win0_12.index t 0 * 1 + 1 * 0 = _; have := rows_at t; omega
  · show win0_12.index t 1 * 512 + 1 * f.val = _; have := cols_at t; omega

/-- The arguments' entries as reals: the projections, the retention's output, the gradient, and the norm's weights. -/
structure Given (p y q : ℕ → ℕ → ℝ) (g b : ℕ → ℝ) : Prop where
  proj : ∀ (t : Fin 8192) (j : Fin 6144), m (c.tc.loc main_arg0) (ix2 t j) = ((p t j : ℝ) : EReal)
  out : ∀ (t : Fin 8192) (j : Fin 2048), m (c.tc.loc main_arg1) (ix2 t j) = ((y t j : ℝ) : EReal)
  grad : ∀ (t : Fin 8192) (j : Fin 2048), m (c.tc.loc main_arg2) (ix2 t j) = ((q t j : ℝ) : EReal)
  gain : ∀ j : Fin 2048, m (c.tc.loc main_arg3) (ix2 0 j) = ((g j : ℝ) : EReal)
  bias : ∀ j : Fin 2048, m (c.tc.loc main_arg4) (ix2 0 j) = ((b j : ℝ) : EReal)

variable {m c} {p y q : ℕ → ℕ → ℝ} {g b : ℕ → ℝ} (G : Given m c p y q g b)

/-- An array read at natural numbers within it. -/
theorem at2_real {A B : ℕ} (x : (⟨2, ![A, B]⟩ : Shape).Idx → EReal) (v : ℕ → ℕ → ℝ) (hx : ∀ (i : Fin A) (j : Fin B), x (ix2 i j) = ((v i j : ℝ) : EReal))
    (i j : ℕ) (hi : i < A) (hj : j < B) : at2 x i j = ((v i j : ℝ) : EReal) :=
  (dif_pos ⟨hi, hj⟩).trans (hx ⟨i, hi⟩ ⟨j, hj⟩)

include G
theorem keys (r : Fin 2048) (d : Fin 256) :
    iblk m c 0 t (ix2 r d) = ((Retention.key p (2048 * (t.val % 4) + r) (t.val / 4) d : ℝ) : EReal) := by
  have ht := point_lt t
  rw [win0, V_keys]
  exact (dif_pos (by omega)).trans (keysV_real G.proj ⟨2048 * (t.val % 4) + r, by omega⟩ ⟨t.val / 4, by omega⟩ d)
theorem values (r : Fin 2048) (f : Fin 512) :
    iblk m c 1 t (ix2 r f) = ((p (2048 * (t.val % 4) + r) (2048 + (t.val / 4 * 512 + f)) : ℝ) : EReal) := by
  have ht := point_lt t
  rw [win1, V_main_arg0]
  exact at2_real _ p G.proj _ _ (by omega) (by omega)
theorem gates (r : Fin 2048) (f : Fin 512) :
    iblk m c 2 t (ix2 r f) = ((p (2048 * (t.val % 4) + r) (4096 + (t.val / 4 * 512 + f)) : ℝ) : EReal) := by
  have ht := point_lt t
  rw [win2, V_main_arg0]
  exact at2_real _ p G.proj _ _ (by omega) (by omega)
theorem outs (r : Fin 2048) (f : Fin 512) :
    iblk m c 3 t (ix2 r f) = ((y (2048 * (t.val % 4) + r) (t.val / 4 * 512 + f) : ℝ) : EReal) := by
  have ht := point_lt t
  rw [win3, V_main_arg1]
  exact at2_real _ y G.out _ _ (by omega) (by omega)
theorem grads (r : Fin 2048) (f : Fin 512) :
    iblk m c 4 t (ix2 r f) = ((q (2048 * (t.val % 4) + r) (t.val / 4 * 512 + f) : ℝ) : EReal) := by
  have ht := point_lt t
  rw [win4, V_main_arg2]
  exact at2_real _ q G.grad _ _ (by omega) (by omega)
theorem gains (f : Fin 512) : iblk m c 11 t (ix2 (0 : Fin 1) f) = ((g (t.val / 4 * 512 + f) : ℝ) : EReal) := by
  have ht := point_lt t
  rw [win11, V_main_arg3]
  exact (dif_pos ⟨by omega, by omega⟩).trans (G.gain ⟨t.val / 4 * 512 + f, by omega⟩)
theorem biases (f : Fin 512) : iblk m c 12 t (ix2 (0 : Fin 1) f) = ((b (t.val / 4 * 512 + f) : ℝ) : EReal) := by
  have ht := point_lt t
  rw [win12, V_main_arg4]
  exact (dif_pos ⟨by omega, by omega⟩).trans (G.bias ⟨t.val / 4 * 512 + f, by omega⟩)
omit G
variable (m c)
theorem cosines (r : Fin 2048) (f : Fin 128) :
    iblk m c 5 t (ix2 r f) = ((Real.cos (Retention.angle (2048 * (t.val % 4) + r) f) : ℝ) : EReal) := by
  rw [win5]
  exact at2_real _ (fun i j => Real.cos (Retention.angle i j)) (cos_real m c) _ _ (by omega) f.isLt
theorem sines (r : Fin 2048) (f : Fin 128) :
    iblk m c 6 t (ix2 r f) = ((Real.sin (Retention.angle (2048 * (t.val % 4) + r) f) : ℝ) : EReal) := by
  rw [win6]
  exact at2_real _ (fun i j => Real.sin (Retention.angle i j)) (sin_real m c) _ _ (by omega) f.isLt

end Cert.RetWin
-- ==== Proof.RetPre.lean ====
/- What the precondition of the retention's gradient says: every argument's every entry is a real number. -/
module

public import proofs.«01_k».proof.Defs
public import proofs.«01_k».proof.Proof.Gen.Pre_ret_q_finite
public import proofs.«01_k».proof.Proof.RetWin
public import Idealize.ShloMosaic.Lib.ReduceAll

@[expose] public section

set_option maxRecDepth 16384

noncomputable section

namespace Cert.RetPre

open Cert.RetQIdeal Cert.Nat2 Cert.RetWin
open Idealize.ShloMosaic Idealize.ShloMosaic.TcCoe Idealize.SL.Sem

theorem lit_inf : Ideal.ofBits .f32 0x7F800000#32 = (⊤ : EReal) := by simp [Ideal.ofBits, Ideal.ieee]

/-- A number of absolute value below infinity is real. -/
theorem real_of_abs {x : EReal} (h : Ideal.cmp .olt (FloatOps.absf (F := Ideal) (φ := .f32) x : Ideal .f32) (Ideal.ofBits .f32 0x7F800000#32) = 1#1) : ((x.toReal : ℝ) : EReal) = x := by
  rw [lit_inf] at h
  have hlt : FloatOps.absf (F := Ideal) (φ := .f32) x < ⊤ := by
    by_contra hc
    simp [Ideal.cmp, hc] at h
  induction x with
  | bot => simp [FloatOps.absf] at hlt
  | top => simp [FloatOps.absf] at hlt
  | coe r => rfl

theorem and_one {a b : BitVec 1} (h : IntOp.andi a b = 1#1) : a = 1#1 ∧ b = 1#1 := by
  revert a b; decide

/-- The predicate, decoded: all five arrays are real. -/
theorem real_of_fn {a0 : FVec Ideal S8192x6144 .bf16} {a1 a2 : FVec Ideal S8192x2048 .bf16} {a3 a4 : FVec Ideal S1x2048 .f32}
    (h : Cert.Pre_ret_q_finite.fn (F := Ideal) a0 a1 a2 a3 a4 = fun _ => 1#1) :
    (∀ i, (((a0 i).toReal : ℝ) : EReal) = a0 i) ∧ (∀ i, (((a1 i).toReal : ℝ) : EReal) = a1 i) ∧ (∀ i, (((a2 i).toReal : ℝ) : EReal) = a2 i)
      ∧ (∀ i, (((a3 i).toReal : ℝ) : EReal) = a3 i) ∧ ∀ i, (((a4 i).toReal : ℝ) : EReal) = a4 i := by
  have e := congrFun h (fun a => a.elim0)
  unfold Cert.Pre_ret_q_finite.fn Cert.Pre_ret_q_finite.fn_part1 at e
  obtain ⟨e, e4⟩ := and_one e
  obtain ⟨e, e3⟩ := and_one e
  obtain ⟨e, e2⟩ := and_one e
  obtain ⟨e0, e1⟩ := and_one e
  exact ⟨fun i => real_of_abs (Host.reduce_andi_all _ _ _ _ _ e0 i), fun i => real_of_abs (Host.reduce_andi_all _ _ _ _ _ e1 i),
    fun i => real_of_abs (Host.reduce_andi_all _ _ _ _ _ e2 i), fun i => real_of_abs (Host.reduce_andi_all _ _ _ _ _ e3 i),
    fun i => real_of_abs (Host.reduce_andi_all _ _ _ _ _ e4 i)⟩

/-- An array's entries as real numbers, at natural numbers. -/
def realAt {A B : ℕ} (x : (⟨2, ![A, B]⟩ : Shape).Idx → EReal) (i j : ℕ) : ℝ := (at2 x i j).toReal

theorem realAt_coe {A B : ℕ} {x : (⟨2, ![A, B]⟩ : Shape).Idx → EReal} (hx : ∀ i, (((x i).toReal : ℝ) : EReal) = x i) (i : Fin A) (j : Fin B) :
    x (ix2 i j) = ((realAt x i j : ℝ) : EReal) := by
  have e : at2 x i j = x (ix2 i j) := dif_pos ⟨i.isLt, j.isLt⟩
  rw [realAt, e, hx]

/-- Under the precondition the arguments are the arrays of real numbers read off them. -/
theorem given_of_pre {m : (ℓ : Loc nD τ sig) → Buf (Elt Ideal) ℓ} (h : Cert.Pre_RetQIdeal_ret_q_finite m) (c : Dev nD) :
    Given m c (realAt (m (c.tc.loc main_arg0))) (realAt (m (c.tc.loc main_arg1))) (realAt (m (c.tc.loc main_arg2)))
      (realAt (m (c.tc.loc main_arg3)) 0) (realAt (m (c.tc.loc main_arg4)) 0) := by
  obtain ⟨h0, h1, h2, h3, h4⟩ := real_of_fn (h c)
  exact ⟨fun i j => realAt_coe h0 i j, fun i j => realAt_coe h1 i j, fun i j => realAt_coe h2 i j, fun j => realAt_coe h3 0 j, fun j => realAt_coe h4 0 j⟩

end Cert.RetPre
-- ==== Proof.RetSub.lean ====
/- One block of 256 tokens of one head: what the retention's backward kernel computes of it, for real inputs. -/
module

public import proofs.«01_k».proof.Proof.RetSpec
public import proofs.«01_k».proof.Proof.RetReal
public import proofs.«01_k».proof.Proof.Gen.RetQIdeal.Skeleton
public import Idealize.ShloMosaic.Lib.Pointwise

@[expose] public section

set_option maxRecDepth 16384

noncomputable section

namespace Cert.RetSub

open Idealize.ShloMosaic Cert.RetQIdeal Cert.RetQIdeal.Gen Cert.Retention

section values
variable (k : FVec Ideal S256x256 .bf16) (v gt yr dg : FVec Ideal S256x512 .bf16) (cs sn : FVec Ideal S256x128 .f32)
  (mask : FVec Ideal S1x256x256 .f32) (xi zeta : FVec Ideal S1x256x1 .f32) (gam : FVec Ideal S1x1x1 .f32) (gv gb acc : FVec Ideal S1x512 .f32)
  (st : FVec Ideal S256x512 .f32)

/-- The gate's gradient. -/
def dgtB : FVec Ideal S256x512 .bf16 := k0_pay15 (k0_pay11 gv yr gb) gt dg
/-- The gradient behind the group norm. -/
def dyB : FVec Ideal S256x512 .bf16 := k0_pay21 (k0_pay9 yr) (k0_pay10 yr) (k0_pay19 gv gt dg)
/-- The norm's two weights' gradients, added to what was there. -/
def dggB : FVec Ideal S1x512 .f32 := k0_pay17 (k0_pay10 yr) gt dg acc
def dgbB : FVec Ideal S1x512 .f32 := k0_pay18 gt dg acc
/-- The gradient with respect to the queries, before and after the rotation. -/
def rotB : FVec Ideal S256x256 .f32 := k0_pay22 (k0_pay7 k) v (k0_pay9 yr) (k0_pay10 yr) (k0_pay19 gv gt dg) mask st xi
def dqB : FVec Ideal S256x256 .bf16 :=
  k0_pay27
    (k0_pay25 (k0_pay5 cs) (k0_pay6 sn) (k0_pay7 k) v (k0_pay9 yr) (k0_pay10 yr) (k0_pay19 gv gt dg) mask st xi)
    (k0_pay26 (k0_pay5 cs) (k0_pay6 sn) (k0_pay7 k) v (k0_pay9 yr) (k0_pay10 yr) (k0_pay19 gv gt dg) mask st xi)
/-- The state after the block. -/
def stB : FVec Ideal S256x512 .f32 := k0_pay28 (k0_pay7 k) v st gam zeta
end values

variable {k : FVec Ideal S256x256 .bf16} {v gt yr dg : FVec Ideal S256x512 .bf16} {cs sn : FVec Ideal S256x128 .f32}
  {mask : FVec Ideal S1x256x256 .f32} {xi zeta : FVec Ideal S1x256x1 .f32} {gam : FVec Ideal S1x1x1 .f32} {gv gb : FVec Ideal S1x512 .f32}
  {st : FVec Ideal S256x512 .f32} {p y c : ℕ → ℕ → ℝ} {g b : ℕ → ℝ} {h j : ℕ}
  (hgt : ∀ (r : Fin 256) (f : Fin 512), gt (ix2 r f) = ((p (j * 256 + r) (4096 + (h * 512 + f)) : ℝ) : EReal))
  (hyr : ∀ (r : Fin 256) (f : Fin 512), yr (ix2 r f) = ((y (j * 256 + r) (h * 512 + f) : ℝ) : EReal))
  (hdg : ∀ (r : Fin 256) (f : Fin 512), dg (ix2 r f) = ((c (j * 256 + r) (h * 512 + f) : ℝ) : EReal))
  (hgv : ∀ f : Fin 512, gv (ix2 0 f) = ((g (h * 512 + f) : ℝ) : EReal))
  (hgb : ∀ f : Fin 512, gb (ix2 0 f) = ((b (h * 512 + f) : ℝ) : EReal))

theorem sum_div (f : Fin 512 → EReal) (r : Fin 512 → ℝ) (hf : ∀ i, f i = ((r i : ℝ) : EReal)) :
    Ideal.div (∑ i, f i) (Ideal.ofBits FTy.f32 0x44000000#32) = (((∑ i, r i) / 512 : ℝ) : EReal) := by
  rw [Finset.sum_congr rfl fun i _ => hf i, sum_real, lit_512, div_real _ _ (by norm_num)]

include hyr in
theorem cenB (r : Fin 256) (f : Fin 512) : (k0_pay8 yr : FVec Ideal S256x512 .f32) (ix2 r f) = ((cen y (j * 256 + r) h f : ℝ) : EReal) := by
  pointwise [k0_pay8]
  rw [sum_div _ _ (hyr r), hyr, ← EReal.coe_sub]
  rfl

include hyr in
theorem rsB (r : Fin 256) : (k0_pay9 yr : FVec Ideal S256x1 .f32) (ix2 r 0) = ((rs y (j * 256 + r) h : ℝ) : EReal) := by
  pointwise [k0_pay9]
  rw [sum_div _ (fun f => cen y (j * 256 + r) h f * cen y (j * 256 + r) h f) (fun f => by rw [cenB hyr, ← EReal.coe_mul]), lit_eps, ← EReal.coe_add]
  exact rsqrt_real _ (vr_pos y _ h)

include hyr in
theorem nrmB (r : Fin 256) (f : Fin 512) : (k0_pay10 yr : FVec Ideal S256x512 .f32) (ix2 r f) = ((nrm y (j * 256 + r) h f : ℝ) : EReal) := by
  pointwise [k0_pay10]
  rw [cenB hyr, rsB hyr, ← EReal.coe_mul]
  rfl

include hgt in
theorem sgB (r : Fin 256) (f : Fin 512) :
    (k0_pay13 gt : FVec Ideal S256x512 .f32) (ix2 r f) = ((sg p (j * 256 + r) (h * 512 + f) : ℝ) : EReal) := by
  pointwise [k0_pay13, k0_pay12]
  rw [hgt, zero_sub, ← EReal.coe_neg, Ideal.exp_coe, ← EReal.coe_one, ← EReal.coe_add, div_real _ _ (by positivity)]
  rfl

include hgt hdg in
theorem dgnB (r : Fin 256) (f : Fin 512) :
    (k0_pay16 gt dg : FVec Ideal S256x512 .f32) (ix2 r f) = ((dgn p c (j * 256 + r) (h * 512 + f) : ℝ) : EReal) := by
  pointwise [k0_pay16, k0_pay12, k0_pay14]
  rw [sgB hgt, hgt, hdg, ← EReal.coe_mul, ← EReal.coe_mul, mul_comm]
  rfl

include hgt hyr hdg hgv hgb in
theorem dgtB_real (r : Fin 256) (f : Fin 512) : dgtB gt yr dg gv gb (ix2 r f) = ((dgate p y c g b (j * 256 + r) h f : ℝ) : EReal) := by
  pointwise [dgtB, k0_pay15, k0_pay11, k0_pay12, k0_pay14]
  rw [sgB hgt, nrmB hyr, hgt, hdg, hgv, hgb]
  simp only [← EReal.coe_mul, ← EReal.coe_add, ← EReal.coe_one, ← EReal.coe_sub]
  rfl

include hgt hdg in
theorem dgbB_real {acc : FVec Ideal S1x512 .f32} {s : ℝ} {f : Fin 512} (hacc : acc (ix2 0 f) = (s : EReal)) :
    dgbB gt dg acc (ix2 0 f) = ((s + ∑ r : Fin 256, dgn p c (j * 256 + r) (h * 512 + f) : ℝ) : EReal) := by
  pointwise [dgbB, k0_pay18]
  rw [hacc, Finset.sum_congr rfl fun r _ => dgnB hgt hdg r f, sum_real, ← EReal.coe_add]

include hgt hyr hdg in
theorem dggB_real {acc : FVec Ideal S1x512 .f32} {s : ℝ} {f : Fin 512} (hacc : acc (ix2 0 f) = (s : EReal)) :
    dggB gt yr dg acc (ix2 0 f) = ((s + ∑ r : Fin 256, dgn p c (j * 256 + r) (h * 512 + f) * nrm y (j * 256 + r) h f : ℝ) : EReal) := by
  pointwise [dggB, k0_pay17]
  rw [hacc, Finset.sum_congr rfl fun r _ => by rw [dgnB hgt hdg r f, nrmB hyr, ← EReal.coe_mul], sum_real, ← EReal.coe_add]

include hgt hdg hgv in
theorem dnB (r : Fin 256) (f : Fin 512) :
    (k0_pay19 gv gt dg : FVec Ideal S256x512 .f32) (ix2 r f) = ((dn p c g (j * 256 + r) h f : ℝ) : EReal) := by
  pointwise [k0_pay19]
  rw [dgnB hgt hdg, hgv, ← EReal.coe_mul]
  rfl

include hgt hyr hdg hgv in
theorem dyB_aux (r : Fin 256) (f : Fin 512) :
    (k0_pay20 (k0_pay9 yr) (k0_pay10 yr) (k0_pay19 gv gt dg) : FVec Ideal S256x512 .f32) (ix2 r f) = ((dy p y c g (j * 256 + r) h f : ℝ) : EReal) := by
  pointwise [k0_pay20]
  rw [sum_div _ _ (dnB hgt hdg hgv r), sum_div _ (fun i => dn p c g (j * 256 + r) h i * nrm y (j * 256 + r) h i) (fun i => by
    rw [dnB hgt hdg hgv, nrmB hyr, ← EReal.coe_mul]), dnB hgt hdg hgv, nrmB hyr, rsB hyr]
  simp only [← EReal.coe_mul, ← EReal.coe_sub]
  rfl

include hgt hyr hdg hgv in
theorem dyB_real (r : Fin 256) (f : Fin 512) : dyB gt yr dg gv (ix2 r f) = ((dy p y c g (j * 256 + r) h f : ℝ) : EReal) := by
  pointwise [dyB, k0_pay21]
  exact dyB_aux hgt hyr hdg hgv r f

section state
variable (hk : ∀ r d : Fin 256, k (ix2 r d) = ((key p (j * 256 + r) h d : ℝ) : EReal))
  (hv : ∀ (r : Fin 256) (f : Fin 512), v (ix2 r f) = ((value p (j * 256 + r) h f : ℝ) : EReal))
  (hst : ∀ (d : Fin 256) (f : Fin 512), st (ix2 d f)
    = ((state (logGamma h) 256 (fun s => key p s h d) (fun s => value p s h f) j : ℝ) : EReal))

include hk hv hst in
theorem stB_real (hzeta : ∀ r : Fin 256, zeta (ix3 0 r 0) = ((Real.exp (logGamma h * (255 - r)) : ℝ) : EReal))
    (hgam : gam (ix3 0 0 0) = ((Real.exp (logGamma h * 256) : ℝ) : EReal)) (d : Fin 256) (f : Fin 512) :
    stB k v zeta gam st (ix2 d f) = ((state (logGamma h) 256 (fun s => key p s h d) (fun s => value p s h f) (j + 1) : ℝ) : EReal) := by
  pointwise [stB, k0_pay28, k0_pay7]
  rw [hst, hgam, Finset.sum_congr rfl fun r _ => by rw [hk, hzeta, hv, ← EReal.coe_mul, ← EReal.coe_mul], sum_real, ← EReal.coe_mul,
    ← EReal.coe_add, state_succ, Finset.sum_range]
  norm_num

variable (hmask : ∀ r e : Fin 256, mask (ix3 0 r e)
    = ((if (e : ℕ) / 64 ≤ (r : ℕ) / 64 then Real.exp (logGamma h * |(r : ℝ) - e|) else 0 : ℝ) : EReal))
  (hxi : ∀ r : Fin 256, xi (ix3 0 r 0) = ((Real.exp (logGamma h * (r + 1)) : ℝ) : EReal))

include hgt hyr hdg hgv hk hv hst hmask hxi in
theorem rotB_real (r d : Fin 256) : rotB k v gt yr dg mask xi gv st (ix2 r d) = ((dqRot p y c g (j * 256 + r) h d : ℝ) : EReal) := by
  pointwise [rotB, k0_pay22, k0_pay7]
  have e := grad_eq (logGamma h) 4 j r r.isLt (dy p y c g (j * 256 + r) h) (fun s f => value p s h f) (fun s => key p s h d)
  simp only [show 64 * 4 = 256 from rfl] at e
  unfold dqRot
  rw [e, EReal.coe_add, EReal.coe_mul, ← hxi, Finset.sum_range, ← sum_real, ← sum_real]
  refine congrArg₂ (· + ·) (Finset.sum_congr rfl fun x _ => ?_) (congrArg (· * _) (Finset.sum_congr rfl fun f _ => ?_))
  · rw [hmask, hk, Finset.sum_congr rfl fun f _ => by rw [dyB_aux hgt hyr hdg hgv, hv, ← EReal.coe_mul], sum_real, ← EReal.coe_mul, ← EReal.coe_mul]
  · rw [dyB_aux hgt hyr hdg hgv, hst, ← EReal.coe_mul]

include hgt hyr hdg hgv hk hv hst hmask hxi in
theorem dqB_real (hcs : ∀ (r : Fin 256) (i : Fin 128), cs (ix2 r i) = ((Real.cos (angle (j * 256 + r) i) : ℝ) : EReal))
    (hsn : ∀ (r : Fin 256) (i : Fin 128), sn (ix2 r i) = ((Real.sin (angle (j * 256 + r) i) : ℝ) : EReal)) (r d : Fin 256) :
    dqB k v gt yr dg cs sn mask xi gv st (ix2 r d) = ((dq p y c g (j * 256 + r) h d : ℝ) : EReal) := by
  have hrot := rotB_real hgt hyr hdg hgv hk hv hst hmask hxi
  unfold rotB at hrot
  pointwise [dqB, k0_pay27, k0_pay25, k0_pay26, k0_pay23, k0_pay24, k0_pay5, k0_pay6]
  unfold dq
  split_ifs with hd hd'
  · rw [hrot, hrot, hcs, hsn, ← EReal.coe_mul, ← EReal.coe_mul, ← EReal.coe_add]
  · rw [hrot, hrot, hcs, hsn, ← EReal.coe_mul, ← EReal.coe_mul, ← EReal.coe_sub]
  · exact absurd rfl hd'

end state

end Cert.RetSub
-- ==== Proof.RetPoint.lean ====
/- One grid point of the retention's backward kernel: eight blocks of 256 tokens of one head, one after the other. -/
module

public import proofs.«01_k».proof.Proof.Basic
public import proofs.«01_k».proof.Proof.RetSub
public import proofs.«01_k».proof.Proof.Gen.RetQIdeal.Value
public import Idealize.ShloMosaic.Lib.Pipeline.ValueKit

@[expose] public section

set_option maxRecDepth 16384

noncomputable section

namespace Cert.RetPoint

open Cert.RetQIdeal Cert.RetQIdeal.Gen Cert.Nat2 Cert.Retention Cert.RetSub
open Idealize.ShloMosaic Idealize.ShloMosaic.TcCoe Idealize.SL.Sem

/-- 256 rows of a tile, from row `o` on. -/
def rows {C : ℕ} (x : (⟨2, ![2048, C]⟩ : Shape).Idx → EReal) (o : ℕ) : (⟨2, ![256, C]⟩ : Shape).Idx → EReal :=
  fun j => at2 x (o + (j 0).val) (j 1).val

theorem idx_rows {C : ℕ} (x : (⟨2, ![2048, C]⟩ : Shape).Idx → EReal) (o : ℕ) (h) (j : (⟨2, ![256, C]⟩ : Shape).Idx) :
    x ((Rect.unit (s := (⟨2, ![2048, C]⟩ : Shape)) ![o, 0] ![256, C] h).idx j) = rows x o j := by
  refine at2_of_val x _ _ _ ?_ ?_
  · show o + 1 * (j 0).val = _; omega
  · show 0 + 1 * (j 1).val = _; omega
theorem ld_rows16 {C : ℕ} (x : Vec Ideal (⟨2, ![2048, C]⟩ : Shape) .bf16) (o : ℕ) (h) :
    View.ld (Val := Elt Ideal) (e' := .bf16) x (Rect.unit (s := (⟨2, ![2048, C]⟩ : Shape)) ![o, 0] ![256, C] h) = rows x o :=
  funext fun j => idx_rows x o h j
theorem ld_rows32 {C : ℕ} (x : Vec Ideal (⟨2, ![2048, C]⟩ : Shape) .f32) (o : ℕ) (h) :
    View.ld (Val := Elt Ideal) (e' := .f32) x (Rect.unit (s := (⟨2, ![2048, C]⟩ : Shape)) ![o, 0] ![256, C] h) = rows x o :=
  funext fun j => idx_rows x o h j

/-- A tile's rows, from what the tile reads of the tokens `2048 * ib`, … -/
theorem rows_real {C : ℕ} (x : (⟨2, ![2048, C]⟩ : Shape).Idx → EReal) (F : ℕ → ℕ → ℝ) (ib : ℕ)
    (hx : ∀ (r : Fin 2048) (f : Fin C), x (ix2 r f) = ((F (2048 * ib + r) f : ℝ) : EReal)) (s : ℕ) (hs : s < 8) (r : Fin 256) (f : Fin C) :
    rows x (256 * s) (ix2 r f) = ((F ((8 * ib + s) * 256 + r) f : ℝ) : EReal) := by
  unfold rows at2
  have hr : 256 * s + r.val < 2048 := by omega
  refine (dif_pos ⟨hr, f.isLt⟩).trans ((hx _ _).trans ?_)
  congr 2
  show 2048 * ib + (256 * s + r.val) = _
  omega

section runs
variable (x0 : FVec Ideal S2048x256 .bf16) (x1 x2 x3 x4 : FVec Ideal S2048x512 .bf16) (x5 x6 : FVec Ideal S2048x128 .f32)
  (x7 : FVec Ideal S1x256x256 .f32) (x8 x9 : FVec Ideal S1x256x1 .f32) (x10 : FVec Ideal S1x8x128 .f32) (x11 x12 : FVec Ideal S1x512 .f32)
  (st : FVec Ideal S256x512 .f32) (acc : FVec Ideal S1x512 .f32)

/-- The decay over a block, out of its table. -/
def gamOf : FVec Ideal S1x1x1 .f32 := View.ld (Val := Elt Ideal) (e' := .f32) x10 (Rect.unit ![0, 0, 0] ![1, 1, 1] inb_S1x8x128_S1x1x1_0_0_0)
/-- The state after `n` blocks. -/
def stRun : ℕ → FVec Ideal S256x512 .f32
  | 0 => st
  | n + 1 => stB (rows x0 (256 * n)) (rows x1 (256 * n)) x9 (gamOf x10) (stRun n)
/-- The sums for the norm's weights after `n` blocks. -/
def dggRun : ℕ → FVec Ideal S1x512 .f32
  | 0 => acc
  | n + 1 => dggB (rows x2 (256 * n)) (rows x3 (256 * n)) (rows x4 (256 * n)) (dggRun n)
def dgbRun : ℕ → FVec Ideal S1x512 .f32
  | 0 => acc
  | n + 1 => dgbB (rows x2 (256 * n)) (rows x4 (256 * n)) (dgbRun n)
end runs

variable (m : (ℓ : Loc nD τ sig) → Buf (Elt Ideal) ℓ) (c : Dev nD) (t : Fin cfg0.N)
  (acc : FVec Ideal S2048x256 .bf16 × FVec Ideal S2048x512 .bf16 × FVec Ideal S2048x512 .bf16 × FVec Ideal S1x512 .f32 × FVec Ideal S1x512 .f32 × FVec Ideal S256x512 .f32)

theorem state_A (h0 : t.val % 4 = 0) : (Value.stAt0 m c t.val t.isLt acc).2.2.2.2.2
    = stRun (iblk m c 0 t) (iblk m c 1 t) (iblk m c 9 t) (iblk m c 10 t) k0_pay2 8 := by
  rw [Value.stAt0_A m c t acc h0]
  frame_out
  simp only [ld_rows16]
  symm
  unfold stRun
  iterate 8 refine congrArg (stB _ _ _ _) ?_
  rfl
theorem state_B (h0 : ¬t.val % 4 = 0) : (Value.stAt0 m c t.val t.isLt acc).2.2.2.2.2
    = stRun (iblk m c 0 t) (iblk m c 1 t) (iblk m c 9 t) (iblk m c 10 t) acc.2.2.2.2.2 8 := by
  rw [Value.stAt0_B m c t acc h0]
  frame_out
  simp only [ld_rows16]
  symm
  unfold stRun
  iterate 8 refine congrArg (stB _ _ _ _) ?_
  exact (Memref.IsWhole.read_unread (Val := Elt Ideal) (Memref.isWhole_whole cc0_scratch0) acc.2.2.2.2.2).symm

/-- One of the blocks, whose sum is written in two steps. -/
theorem dgg_mid (a y b : FVec Ideal S256x512 .bf16) (z : FVec Ideal S1x512 .f32) :
    k0_pay43 (k0_pay36 (k0_pay32 y) (k0_pay33 y) (FloatOps.ofBits .f32 1140850688#32)) (k0_pay41 a b) (k0_pay42 z) = dggB a y b z := rfl

theorem dgg_A (h0 : t.val % 4 = 0) : (Value.stAt0 m c t.val t.isLt acc).2.2.2.1
    = dggRun (iblk m c 2 t) (iblk m c 3 t) (iblk m c 4 t) k0_pay3 8 := by
  rw [Value.stAt0_A m c t acc h0]
  frame_out
  simp only [ld_rows16, dgg_mid]
  symm
  unfold dggRun
  iterate 8 refine congrArg (dggB _ _ _) ?_
  rfl
theorem dgg_B (h0 : ¬t.val % 4 = 0) : (Value.stAt0 m c t.val t.isLt acc).2.2.2.1
    = dggRun (iblk m c 2 t) (iblk m c 3 t) (iblk m c 4 t) acc.2.2.2.1 8 := by
  rw [Value.stAt0_B m c t acc h0]
  frame_out
  simp only [ld_rows16, dgg_mid]
  symm
  unfold dggRun
  iterate 8 refine congrArg (dggB _ _ _) ?_
  rfl

/-- One of the blocks, whose sum is written in two steps. -/
theorem dgb_mid (a b : FVec Ideal S256x512 .bf16) (z : FVec Ideal S1x512 .f32) :
    k0_pay88 (k0_pay85 a b) (k0_pay87 z) = dgbB a b z := rfl

theorem dgb_A (h0 : t.val % 4 = 0) : (Value.stAt0 m c t.val t.isLt acc).2.2.2.2.1
    = dgbRun (iblk m c 2 t) (iblk m c 4 t) k0_pay4 8 := by
  rw [Value.stAt0_A m c t acc h0]
  frame_out
  simp only [ld_rows16, dgb_mid]
  symm
  unfold dgbRun
  iterate 8 refine congrArg (dgbB _ _) ?_
  rfl
theorem dgb_B (h0 : ¬t.val % 4 = 0) : (Value.stAt0 m c t.val t.isLt acc).2.2.2.2.1
    = dgbRun (iblk m c 2 t) (iblk m c 4 t) acc.2.2.2.2.1 8 := by
  rw [Value.stAt0_B m c t acc h0]
  frame_out
  simp only [ld_rows16, dgb_mid]
  symm
  unfold dgbRun
  iterate 8 refine congrArg (dgbB _ _) ?_
  rfl

/-- Blocks of 256 rows, one below the other. -/
def glued {C : ℕ} (W : ℕ → (⟨2, ![256, C]⟩ : Shape).Idx → EReal) : (⟨2, ![2048, C]⟩ : Shape).Idx → EReal :=
  fun y => W ((y 0).val / 256) (ix2 ⟨(y 0).val % 256, Nat.mod_lt _ (by norm_num)⟩ (y 1))

theorem glued_idx {C : ℕ} (W : ℕ → (⟨2, ![256, C]⟩ : Shape).Idx → EReal) (s o : ℕ) (ho : o = 256 * s) (h) (x : (⟨2, ![256, C]⟩ : Shape).Idx) :
    W s x = glued W ((Rect.unit (s := (⟨2, ![2048, C]⟩ : Shape)) ![o, 0] ![256, C] h).emb x) := by
  have hx : (x 0).val < 256 := (x 0).isLt
  have e0 : (((Rect.unit (s := (⟨2, ![2048, C]⟩ : Shape)) ![o, 0] ![256, C] h).emb x) 0).val = 256 * s + (x 0).val := by
    show o + 1 * (x 0).val = _; omega
  unfold glued
  have e1 : (((Rect.unit (s := (⟨2, ![2048, C]⟩ : Shape)) ![o, 0] ![256, C] h).emb x) 0).val / 256 = s := by rw [e0]; omega
  rw [e1]
  congr 1
  refine (eq_ix2 x).trans (congrArg₂ ix2 (Fin.ext ?_) (Fin.ext ?_))
  · show (x 0).val = _ % 256; rw [e0]; omega
  · show (x 1).val = 0 + 1 * (x 1).val; omega

theorem dgt_A (h0 : t.val % 4 = 0) : (Value.stAt0 m c t.val t.isLt acc).2.1
    = glued fun s => dgtB (rows (iblk m c 2 t) (256 * s)) (rows (iblk m c 3 t) (256 * s)) (rows (iblk m c 4 t) (256 * s)) (iblk m c 11 t) (iblk m c 12 t) := by
  funext y
  rw [Value.stAt0_A m c t acc h0]
  dsimp only
  unfold out0_A_14
  refine (congrFun (View.read_writes_eq_canon _ _ _ ?hc) y).trans (View.canon_apply_of_pieces (Val := Elt Ideal) (e := .bf16) _ _ ?hp y (?hc y))
  case hc => apply cover0_A_14
  frame_out
  simp only [ld_rows16, List.forall_mem_cons, List.not_mem_nil, false_imp_iff, implies_true, and_true]
  refine ⟨fun x => ?_, fun x => ?_, fun x => ?_, fun x => ?_, fun x => ?_, fun x => ?_, fun x => ?_, fun x => ?_⟩
  · exact Eq.trans (by rfl) (glued_idx _ 7 1792 rfl _ x)
  · exact Eq.trans (by rfl) (glued_idx _ 6 1536 rfl _ x)
  · exact Eq.trans (by rfl) (glued_idx _ 5 1280 rfl _ x)
  · exact Eq.trans (by rfl) (glued_idx _ 4 1024 rfl _ x)
  · exact Eq.trans (by rfl) (glued_idx _ 3 768 rfl _ x)
  · exact Eq.trans (by rfl) (glued_idx _ 2 512 rfl _ x)
  · exact Eq.trans (by rfl) (glued_idx _ 1 256 rfl _ x)
  · exact Eq.trans (by rfl) (glued_idx _ 0 0 rfl _ x)
theorem dgt_B (h0 : ¬t.val % 4 = 0) : (Value.stAt0 m c t.val t.isLt acc).2.1
    = glued fun s => dgtB (rows (iblk m c 2 t) (256 * s)) (rows (iblk m c 3 t) (256 * s)) (rows (iblk m c 4 t) (256 * s)) (iblk m c 11 t) (iblk m c 12 t) := by
  funext y
  rw [Value.stAt0_B m c t acc h0]
  dsimp only
  unfold out0_B_14
  refine (congrFun (View.read_writes_eq_canon _ _ _ ?hc) y).trans (View.canon_apply_of_pieces (Val := Elt Ideal) (e := .bf16) _ _ ?hp y (?hc y))
  case hc => apply cover0_B_14
  frame_out
  simp only [ld_rows16, List.forall_mem_cons, List.not_mem_nil, false_imp_iff, implies_true, and_true]
  refine ⟨fun x => ?_, fun x => ?_, fun x => ?_, fun x => ?_, fun x => ?_, fun x => ?_, fun x => ?_, fun x => ?_⟩
  · exact Eq.trans (by rfl) (glued_idx _ 7 1792 rfl _ x)
  · exact Eq.trans (by rfl) (glued_idx _ 6 1536 rfl _ x)
  · exact Eq.trans (by rfl) (glued_idx _ 5 1280 rfl _ x)
  · exact Eq.trans (by rfl) (glued_idx _ 4 1024 rfl _ x)
  · exact Eq.trans (by rfl) (glued_idx _ 3 768 rfl _ x)
  · exact Eq.trans (by rfl) (glued_idx _ 2 512 rfl _ x)
  · exact Eq.trans (by rfl) (glued_idx _ 1 256 rfl _ x)
  · exact Eq.trans (by rfl) (glued_idx _ 0 0 rfl _ x)
theorem dy_A (h0 : t.val % 4 = 0) : (Value.stAt0 m c t.val t.isLt acc).2.2.1
    = glued fun s => dyB (rows (iblk m c 2 t) (256 * s)) (rows (iblk m c 3 t) (256 * s)) (rows (iblk m c 4 t) (256 * s)) (iblk m c 11 t) := by
  funext y
  rw [Value.stAt0_A m c t acc h0]
  dsimp only
  unfold out0_A_15
  refine (congrFun (View.read_writes_eq_canon _ _ _ ?hc) y).trans (View.canon_apply_of_pieces (Val := Elt Ideal) (e := .bf16) _ _ ?hp y (?hc y))
  case hc => apply cover0_A_15
  frame_out
  simp only [ld_rows16, List.forall_mem_cons, List.not_mem_nil, false_imp_iff, implies_true, and_true]
  refine ⟨fun x => ?_, fun x => ?_, fun x => ?_, fun x => ?_, fun x => ?_, fun x => ?_, fun x => ?_, fun x => ?_⟩
  · exact Eq.trans (by rfl) (glued_idx _ 7 1792 rfl _ x)
  · exact Eq.trans (by rfl) (glued_idx _ 6 1536 rfl _ x)
  · exact Eq.trans (by rfl) (glued_idx _ 5 1280 rfl _ x)
  · exact Eq.trans (by rfl) (glued_idx _ 4 1024 rfl _ x)
  · exact Eq.trans (by rfl) (glued_idx _ 3 768 rfl _ x)
  · exact Eq.trans (by rfl) (glued_idx _ 2 512 rfl _ x)
  · exact Eq.trans (by rfl) (glued_idx _ 1 256 rfl _ x)
  · exact Eq.trans (by rfl) (glued_idx _ 0 0 rfl _ x)
theorem dy_B (h0 : ¬t.val % 4 = 0) : (Value.stAt0 m c t.val t.isLt acc).2.2.1
    = glued fun s => dyB (rows (iblk m c 2 t) (256 * s)) (rows (iblk m c 3 t) (256 * s)) (rows (iblk m c 4 t) (256 * s)) (iblk m c 11 t) := by
  funext y
  rw [Value.stAt0_B m c t acc h0]
  dsimp only
  unfold out0_B_15
  refine (congrFun (View.read_writes_eq_canon _ _ _ ?hc) y).trans (View.canon_apply_of_pieces (Val := Elt Ideal) (e := .bf16) _ _ ?hp y (?hc y))
  case hc => apply cover0_B_15
  frame_out
  simp only [ld_rows16, List.forall_mem_cons, List.not_mem_nil, false_imp_iff, implies_true, and_true]
  refine ⟨fun x => ?_, fun x => ?_, fun x => ?_, fun x => ?_, fun x => ?_, fun x => ?_, fun x => ?_, fun x => ?_⟩
  · exact Eq.trans (by rfl) (glued_idx _ 7 1792 rfl _ x)
  · exact Eq.trans (by rfl) (glued_idx _ 6 1536 rfl _ x)
  · exact Eq.trans (by rfl) (glued_idx _ 5 1280 rfl _ x)
  · exact Eq.trans (by rfl) (glued_idx _ 4 1024 rfl _ x)
  · exact Eq.trans (by rfl) (glued_idx _ 3 768 rfl _ x)
  · exact Eq.trans (by rfl) (glued_idx _ 2 512 rfl _ x)
  · exact Eq.trans (by rfl) (glued_idx _ 1 256 rfl _ x)
  · exact Eq.trans (by rfl) (glued_idx _ 0 0 rfl _ x)
theorem dq_A (h0 : t.val % 4 = 0) : (Value.stAt0 m c t.val t.isLt acc).1
    = glued fun s => dqB (rows (iblk m c 0 t) (256 * s)) (rows (iblk m c 1 t) (256 * s)) (rows (iblk m c 2 t) (256 * s)) (rows (iblk m c 3 t) (256 * s))
        (rows (iblk m c 4 t) (256 * s)) (rows (iblk m c 5 t) (256 * s)) (rows (iblk m c 6 t) (256 * s)) (iblk m c 7 t) (iblk m c 8 t) (iblk m c 11 t)
        (stRun (iblk m c 0 t) (iblk m c 1 t) (iblk m c 9 t) (iblk m c 10 t) k0_pay2 s) := by
  funext y
  rw [Value.stAt0_A m c t acc h0]
  dsimp only
  unfold out0_A_13
  refine (congrFun (View.read_writes_eq_canon _ _ _ ?hc) y).trans (View.canon_apply_of_pieces (Val := Elt Ideal) (e := .bf16) _ _ ?hp y (?hc y))
  case hc => apply cover0_A_13
  frame_out
  simp only [ld_rows16, ld_rows32, List.forall_mem_cons, List.not_mem_nil, false_imp_iff, implies_true, and_true]
  refine ⟨fun x => ?_, fun x => ?_, fun x => ?_, fun x => ?_, fun x => ?_, fun x => ?_, fun x => ?_, fun x => ?_⟩
  · refine Eq.trans (congrFun (Eq.symm ?_) x) (glued_idx _ 7 1792 rfl _ x)
    refine congrArg (dqB _ _ _ _ _ _ _ _ _ _) ?_
    iterate 7 refine congrArg (stB _ _ _ _) ?_
    rfl
  · refine Eq.trans (congrFun (Eq.symm ?_) x) (glued_idx _ 6 1536 rfl _ x)
    refine congrArg (dqB _ _ _ _ _ _ _ _ _ _) ?_
    iterate 6 refine congrArg (stB _ _ _ _) ?_
    rfl
  · refine Eq.trans (congrFun (Eq.symm ?_) x) (glued_idx _ 5 1280 rfl _ x)
    refine congrArg (dqB _ _ _ _ _ _ _ _ _ _) ?_
    iterate 5 refine congrArg (stB _ _ _ _) ?_
    rfl
  · refine Eq.trans (congrFun (Eq.symm ?_) x) (glued_idx _ 4 1024 rfl _ x)
    refine congrArg (dqB _ _ _ _ _ _ _ _ _ _) ?_
    iterate 4 refine congrArg (stB _ _ _ _) ?_
    rfl
  · refine Eq.trans (congrFun (Eq.symm ?_) x) (glued_idx _ 3 768 rfl _ x)
    refine congrArg (dqB _ _ _ _ _ _ _ _ _ _) ?_
    iterate 3 refine congrArg (stB _ _ _ _) ?_
    rfl
  · refine Eq.trans (congrFun (Eq.symm ?_) x) (glued_idx _ 2 512 rfl _ x)
    refine congrArg (dqB _ _ _ _ _ _ _ _ _ _) ?_
    iterate 2 refine congrArg (stB _ _ _ _) ?_
    rfl
  · refine Eq.trans (congrFun (Eq.symm ?_) x) (glued_idx _ 1 256 rfl _ x)
    refine congrArg (dqB _ _ _ _ _ _ _ _ _ _) ?_
    iterate 1 refine congrArg (stB _ _ _ _) ?_
    rfl
  · refine Eq.trans (congrFun (Eq.symm ?_) x) (glued_idx _ 0 0 rfl _ x)
    refine congrArg (dqB _ _ _ _ _ _ _ _ _ _) ?_
    rfl
theorem dq_B (h0 : ¬t.val % 4 = 0) : (Value.stAt0 m c t.val t.isLt acc).1
    = glued fun s => dqB (rows (iblk m c 0 t) (256 * s)) (rows (iblk m c 1 t) (256 * s)) (rows (iblk m c 2 t) (256 * s)) (rows (iblk m c 3 t) (256 * s))
        (rows (iblk m c 4 t) (256 * s)) (rows (iblk m c 5 t) (256 * s)) (rows (iblk m c 6 t) (256 * s)) (iblk m c 7 t) (iblk m c 8 t) (iblk m c 11 t)
        (stRun (iblk m c 0 t) (iblk m c 1 t) (iblk m c 9 t) (iblk m c 10 t) acc.2.2.2.2.2 s) := by
  funext y
  rw [Value.stAt0_B m c t acc h0]
  dsimp only
  unfold out0_B_13
  refine (congrFun (View.read_writes_eq_canon _ _ _ ?hc) y).trans (View.canon_apply_of_pieces (Val := Elt Ideal) (e := .bf16) _ _ ?hp y (?hc y))
  case hc => apply cover0_B_13
  frame_out
  simp only [ld_rows16, ld_rows32, List.forall_mem_cons, List.not_mem_nil, false_imp_iff, implies_true, and_true]
  refine ⟨fun x => ?_, fun x => ?_, fun x => ?_, fun x => ?_, fun x => ?_, fun x => ?_, fun x => ?_, fun x => ?_⟩
  · refine Eq.trans (congrFun (Eq.symm ?_) x) (glued_idx _ 7 1792 rfl _ x)
    refine congrArg (dqB _ _ _ _ _ _ _ _ _ _) ?_
    iterate 7 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 6 1536 rfl _ x)
    refine congrArg (dqB _ _ _ _ _ _ _ _ _ _) ?_
    iterate 6 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 5 1280 rfl _ x)
    refine congrArg (dqB _ _ _ _ _ _ _ _ _ _) ?_
    iterate 5 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 4 1024 rfl _ x)
    refine congrArg (dqB _ _ _ _ _ _ _ _ _ _) ?_
    iterate 4 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 3 768 rfl _ x)
    refine congrArg (dqB _ _ _ _ _ _ _ _ _ _) ?_
    iterate 3 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 2 512 rfl _ x)
    refine congrArg (dqB _ _ _ _ _ _ _ _ _ _) ?_
    iterate 2 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 1 256 rfl _ x)
    refine congrArg (dqB _ _ _ _ _ _ _ _ _ _) ?_
    iterate 1 refine congrArg (stB _ _ _ _) ?_
    exact (Memref.IsWhole.read_unread (Val := Elt Ideal) (Memref.isWhole_whole cc0_scratch0) acc.2.2.2.2.2).symm
  · refine Eq.trans (congrFun (Eq.symm ?_) x) (glued_idx _ 0 0 rfl _ x)
    refine congrArg (dqB _ _ _ _ _ _ _ _ _ _) ?_
    exact (Memref.IsWhole.read_unread (Val := Elt Ideal) (Memref.isWhole_whole cc0_scratch0) acc.2.2.2.2.2).symm

end Cert.RetPoint
-- ==== Proof.RetVal.lean ====
/- What the retention's backward kernel leaves after each of its grid points, for real inputs. -/
module

public import proofs.«01_k».proof.Proof.RetPoint
public import proofs.«01_k».proof.Proof.RetWin

@[expose] public section

set_option maxRecDepth 16384

noncomputable section

namespace Cert.RetVal

open Cert.RetQIdeal Cert.RetQIdeal.Gen Cert.Retention Cert.RetSub Cert.RetPoint Cert.RetWin Cert.RetHost Cert.Nat2
open Idealize.ShloMosaic Idealize.ShloMosaic.TcCoe Idealize.SL.Sem

/-- What the scratch and the two sums hold before block `j` of head `h`. -/
structure Upto (p y q : ℕ → ℕ → ℝ) (h j : ℕ) (st : FVec Ideal S256x512 .f32) (dgg dgb : FVec Ideal S1x512 .f32) : Prop where
  state : ∀ (d : Fin 256) (f : Fin 512), st (ix2 d f)
    = ((state (logGamma h) 256 (fun s => key p s h d) (fun s => value p s h f) j : ℝ) : EReal)
  gain : ∀ f : Fin 512, dgg (ix2 0 f) = ((∑ t ∈ Finset.range (j * 256), dgn p q t (h * 512 + f) * nrm y t h f : ℝ) : EReal)
  bias : ∀ f : Fin 512, dgb (ix2 0 f) = ((∑ t ∈ Finset.range (j * 256), dgn p q t (h * 512 + f) : ℝ) : EReal)

/-- At a head's first block all three are zero. -/
theorem upto_zero (p y q : ℕ → ℕ → ℝ) (h : ℕ) : Upto p y q h 0 k0_pay2 k0_pay3 k0_pay4 where
  state d f := by
    rw [state_zero]
    pointwise [k0_pay2]
    simp [Ideal.ofBits, Ideal.ieee]
  gain f := by
    pointwise [k0_pay3]
    simp [Ideal.ofBits, Ideal.ieee]
  bias f := by
    pointwise [k0_pay4]
    simp [Ideal.ofBits, Ideal.ieee]

variable {m : (ℓ : Loc nD τ sig) → Buf (Elt Ideal) ℓ} {c : Dev nD} (t : Fin cfg0.N) {p y q : ℕ → ℕ → ℝ} {g b : ℕ → ℝ} (G : Given m c p y q g b)

include G

theorem gates_rows {s : ℕ} (hs : s < 8) (r : Fin 256) (f : Fin 512) : rows (iblk m c 2 t) (256 * s) (ix2 r f)
    = ((p ((8 * (t.val % 4) + s) * 256 + r) (4096 + (t.val / 4 * 512 + f)) : ℝ) : EReal) :=
  rows_real _ (fun i f => p i (4096 + (t.val / 4 * 512 + f))) _ (gates t G) s hs r f
theorem outs_rows {s : ℕ} (hs : s < 8) (r : Fin 256) (f : Fin 512) : rows (iblk m c 3 t) (256 * s) (ix2 r f)
    = ((y ((8 * (t.val % 4) + s) * 256 + r) (t.val / 4 * 512 + f) : ℝ) : EReal) :=
  rows_real _ (fun i f => y i (t.val / 4 * 512 + f)) _ (outs t G) s hs r f
theorem grads_rows {s : ℕ} (hs : s < 8) (r : Fin 256) (f : Fin 512) : rows (iblk m c 4 t) (256 * s) (ix2 r f)
    = ((q ((8 * (t.val % 4) + s) * 256 + r) (t.val / 4 * 512 + f) : ℝ) : EReal) :=
  rows_real _ (fun i f => q i (t.val / 4 * 512 + f)) _ (grads t G) s hs r f
theorem keys_rows {s : ℕ} (hs : s < 8) (r d : Fin 256) : rows (iblk m c 0 t) (256 * s) (ix2 r d)
    = ((key p ((8 * (t.val % 4) + s) * 256 + r) (t.val / 4) d : ℝ) : EReal) :=
  rows_real _ (fun i d => key p i (t.val / 4) d) _ (keys t G) s hs r d
theorem values_rows {s : ℕ} (hs : s < 8) (r : Fin 256) (f : Fin 512) : rows (iblk m c 1 t) (256 * s) (ix2 r f)
    = ((value p ((8 * (t.val % 4) + s) * 256 + r) (t.val / 4) f : ℝ) : EReal) :=
  rows_real _ (fun i f => p i (2048 + (t.val / 4 * 512 + f))) _ (values t G) s hs r f

omit G in
/-- The decay tables of the point's head. -/
theorem zeta_point (r : Fin 256) : iblk m c 9 t (ix3 (0 : Fin 1) r (0 : Fin 1)) = ((Real.exp (logGamma (t.val / 4 : ℕ) * (255 - (r : ℕ))) : ℝ) : EReal) :=
  (win9 m c t r 0).trans (zeta_real m c _ r)
omit G in
theorem gamOf_at (x : FVec Ideal S1x8x128 .f32) : gamOf x (ix3 0 0 0) = x (ix3 (0 : Fin 1) (0 : Fin 8) (0 : Fin 128)) :=
  at3_of_val x _ _ _ _ rfl rfl rfl
omit G in
theorem gam_point : gamOf (iblk m c 10 t) (ix3 0 0 0) = ((Real.exp (logGamma (t.val / 4 : ℕ) * 256) : ℝ) : EReal) := by
  rw [gamOf_at]
  exact (win10 m c t 0 0).trans (gam_real m c _ 0 0)
omit G in
theorem xi_point (r : Fin 256) : iblk m c 8 t (ix3 (0 : Fin 1) r (0 : Fin 1)) = ((Real.exp (logGamma (t.val / 4 : ℕ) * ((r : ℕ) + 1)) : ℝ) : EReal) :=
  (win8 m c t r 0).trans (xi_real m c _ r)
omit G in
theorem mask_point (r e : Fin 256) : iblk m c 7 t (ix3 (0 : Fin 1) r e)
    = ((if (e : ℕ) / 64 ≤ (r : ℕ) / 64 then Real.exp (logGamma (t.val / 4 : ℕ) * |(r : ℝ) - e|) else 0 : ℝ) : EReal) :=
  (win7 m c t r e).trans (mask_real m c _ r e)

omit G in
/-- A sum over the tokens before a block, and over the block. -/
theorem sum_block (F : ℕ → ℝ) (j : ℕ) :
    ∑ t ∈ Finset.range (j * 256), F t + ∑ r : Fin 256, F (j * 256 + r) = ∑ t ∈ Finset.range ((j + 1) * 256), F t := by
  rw [Nat.add_mul j 1, one_mul, Finset.sum_range_add, Finset.sum_range (fun r => F (j * 256 + r))]

/-- One block more within a point. -/
theorem upto_step {n : ℕ} (hn : n < 8) {st : FVec Ideal S256x512 .f32} {dgg dgb : FVec Ideal S1x512 .f32}
    (h : Upto p y q (t.val / 4) (8 * (t.val % 4) + n) st dgg dgb) :
    Upto p y q (t.val / 4) (8 * (t.val % 4) + n + 1)
      (stB (rows (iblk m c 0 t) (256 * n)) (rows (iblk m c 1 t) (256 * n)) (iblk m c 9 t) (gamOf (iblk m c 10 t)) st)
      (dggB (rows (iblk m c 2 t) (256 * n)) (rows (iblk m c 3 t) (256 * n)) (rows (iblk m c 4 t) (256 * n)) dgg)
      (dgbB (rows (iblk m c 2 t) (256 * n)) (rows (iblk m c 4 t) (256 * n)) dgb) where
  state := stB_real (keys_rows t G hn) (values_rows t G hn) h.state (zeta_point t) (gam_point t)
  gain f := (dggB_real (gates_rows t G hn) (outs_rows t G hn) (grads_rows t G hn) (h.gain f)).trans
    (congrArg _ (sum_block (fun i => dgn p q i (t.val / 4 * 512 + f) * nrm y i (t.val / 4) f) _))
  bias f := (dgbB_real (gates_rows t G hn) (grads_rows t G hn) (h.bias f)).trans
    (congrArg _ (sum_block (fun i => dgn p q i (t.val / 4 * 512 + f)) _))

/-- Within a point: what the `n` first blocks make of the scratch and of the sums. -/
theorem upto_run {st : FVec Ideal S256x512 .f32} {dgg dgb : FVec Ideal S1x512 .f32} (h : Upto p y q (t.val / 4) (8 * (t.val % 4)) st dgg dgb) :
    ∀ n ≤ 8, Upto p y q (t.val / 4) (8 * (t.val % 4) + n) (stRun (iblk m c 0 t) (iblk m c 1 t) (iblk m c 9 t) (iblk m c 10 t) st n)
      (dggRun (iblk m c 2 t) (iblk m c 3 t) (iblk m c 4 t) dgg n) (dgbRun (iblk m c 2 t) (iblk m c 4 t) dgb n)
  | 0, _ => h
  | n + 1, hn => upto_step t G hn (upto_run h n (Nat.le_of_succ_le hn))

/-- What a point leaves: the gradients of its 2048 tokens, and the scratch and the sums for the blocks up to its end. -/
structure Done (p y q : ℕ → ℕ → ℝ) (g b : ℕ → ℝ) (n : ℕ) (x : FVec Ideal S2048x256 .bf16 × FVec Ideal S2048x512 .bf16 × FVec Ideal S2048x512 .bf16 × FVec Ideal S1x512 .f32 × FVec Ideal S1x512 .f32 × FVec Ideal S256x512 .f32) : Prop where
  dq : ∀ (r : Fin 2048) (d : Fin 256), x.1 (ix2 r d) = ((Retention.dq p y q g (2048 * (n % 4) + r) (n / 4) d : ℝ) : EReal)
  dgate : ∀ (r : Fin 2048) (f : Fin 512), x.2.1 (ix2 r f) = ((Retention.dgate p y q g b (2048 * (n % 4) + r) (n / 4) f : ℝ) : EReal)
  dy : ∀ (r : Fin 2048) (f : Fin 512), x.2.2.1 (ix2 r f) = ((Retention.dy p y q g (2048 * (n % 4) + r) (n / 4) f : ℝ) : EReal)
  upto : Upto p y q (n / 4) (8 * (n % 4) + 8) x.2.2.2.2.2 x.2.2.2.1 x.2.2.2.2.1

omit G in
/-- The blocks' results side by side, from each block's. -/
theorem glued_real {C : ℕ} (W : ℕ → (⟨2, ![256, C]⟩ : Shape).Idx → EReal) (F : ℕ → Fin C → ℝ) (ib : ℕ)
    (hW : ∀ s < 8, ∀ (r : Fin 256) (f : Fin C), W s (ix2 r f) = ((F ((8 * ib + s) * 256 + r) f : ℝ) : EReal)) (r : Fin 2048) (f : Fin C) :
    glued W (ix2 r f) = ((F (2048 * ib + r) f : ℝ) : EReal) := by
  refine (hW (r.val / 256) (by omega) ⟨r.val % 256, Nat.mod_lt _ (by norm_num)⟩ f).trans ?_
  rw [show (8 * ib + r.val / 256) * 256 + r.val % 256 = 2048 * ib + r.val by omega]

/-- A block's three gradients, from its rows of the point's windows. -/
theorem dgt_point (r : Fin 2048) (f : Fin 512) :
    glued (fun s => dgtB (rows (iblk m c 2 t) (256 * s)) (rows (iblk m c 3 t) (256 * s)) (rows (iblk m c 4 t) (256 * s)) (iblk m c 11 t) (iblk m c 12 t)) (ix2 r f)
      = ((Retention.dgate p y q g b (2048 * (t.val % 4) + r) (t.val / 4) f : ℝ) : EReal) :=
  glued_real _ (fun i f => Retention.dgate p y q g b i (t.val / 4) f) _ (fun _ hs i j => by
    exact dgtB_real (gates_rows t G hs) (outs_rows t G hs) (grads_rows t G hs) (gains t G) (biases t G) i j) r f
theorem dy_point (r : Fin 2048) (f : Fin 512) :
    glued (fun s => dyB (rows (iblk m c 2 t) (256 * s)) (rows (iblk m c 3 t) (256 * s)) (rows (iblk m c 4 t) (256 * s)) (iblk m c 11 t)) (ix2 r f)
      = ((Retention.dy p y q g (2048 * (t.val % 4) + r) (t.val / 4) f : ℝ) : EReal) :=
  glued_real _ (fun i f => Retention.dy p y q g i (t.val / 4) f) _ (fun _ hs i j => by
    exact dyB_real (gates_rows t G hs) (outs_rows t G hs) (grads_rows t G hs) (gains t G) i j) r f
theorem dq_point {st : FVec Ideal S256x512 .f32} {dgg dgb : FVec Ideal S1x512 .f32} (h : Upto p y q (t.val / 4) (8 * (t.val % 4)) st dgg dgb)
    (r : Fin 2048) (d : Fin 256) :
    glued (fun s => dqB (rows (iblk m c 0 t) (256 * s)) (rows (iblk m c 1 t) (256 * s)) (rows (iblk m c 2 t) (256 * s)) (rows (iblk m c 3 t) (256 * s))
        (rows (iblk m c 4 t) (256 * s)) (rows (iblk m c 5 t) (256 * s)) (rows (iblk m c 6 t) (256 * s)) (iblk m c 7 t) (iblk m c 8 t) (iblk m c 11 t)
        (stRun (iblk m c 0 t) (iblk m c 1 t) (iblk m c 9 t) (iblk m c 10 t) st s)) (ix2 r d)
      = ((Retention.dq p y q g (2048 * (t.val % 4) + r) (t.val / 4) d : ℝ) : EReal) :=
  glued_real _ (fun i d => Retention.dq p y q g i (t.val / 4) d) _ (fun s hs i j => by
    exact dqB_real (gates_rows t G hs) (outs_rows t G hs) (grads_rows t G hs) (gains t G) (keys_rows t G hs) (values_rows t G hs)
      (upto_run t G h s hs.le).state (mask_point t) (xi_point t)
      (rows_real _ (fun i j => Real.cos (Retention.angle i j)) _ (cosines m c t) s hs)
      (rows_real _ (fun i j => Real.sin (Retention.angle i j)) _ (sines m c t) s hs) i j) r d

variable (acc : FVec Ideal S2048x256 .bf16 × FVec Ideal S2048x512 .bf16 × FVec Ideal S2048x512 .bf16 × FVec Ideal S1x512 .f32 × FVec Ideal S1x512 .f32 × FVec Ideal S256x512 .f32)

theorem done_A (h0 : t.val % 4 = 0) : Done p y q g b t.val (Value.stAt0 m c t.val t.isLt acc) := by
  have hz : Upto p y q (t.val / 4) (8 * (t.val % 4)) k0_pay2 k0_pay3 k0_pay4 := by rw [h0]; exact upto_zero p y q _
  refine ⟨fun r d => ?_, fun r f => ?_, fun r f => ?_, ?_⟩
  · rw [dq_A m c t acc h0]; exact dq_point t G hz r d
  · rw [dgt_A m c t acc h0]; exact dgt_point t G r f
  · rw [dy_A m c t acc h0]; exact dy_point t G r f
  · rw [state_A m c t acc h0, dgg_A m c t acc h0, dgb_A m c t acc h0]; exact upto_run t G hz 8 le_rfl

theorem done_B (h0 : ¬t.val % 4 = 0) (hz : Upto p y q (t.val / 4) (8 * (t.val % 4)) acc.2.2.2.2.2 acc.2.2.2.1 acc.2.2.2.2.1) :
    Done p y q g b t.val (Value.stAt0 m c t.val t.isLt acc) := by
  refine ⟨fun r d => ?_, fun r f => ?_, fun r f => ?_, ?_⟩
  · rw [dq_B m c t acc h0]; exact dq_point t G hz r d
  · rw [dgt_B m c t acc h0]; exact dgt_point t G r f
  · rw [dy_B m c t acc h0]; exact dy_point t G r f
  · rw [state_B m c t acc h0, dgg_B m c t acc h0, dgb_B m c t acc h0]; exact upto_run t G hz 8 le_rfl

omit t in
/-- Every point leaves what it should. -/
theorem done_all : ∀ (n : ℕ) (hn : n < cfg0.N), Done p y q g b n (outsAt0 m c n hn)
  | 0, hn => by
    rw [Value.outsAt0_zero m c hn]
    exact done_A ⟨0, hn⟩ G _ rfl
  | n + 1, hn => by
    rw [Value.outsAt0_succ m c n hn]
    by_cases h0 : (n + 1) % 4 = 0
    · exact done_A ⟨n + 1, hn⟩ G _ h0
    · refine done_B ⟨n + 1, hn⟩ G _ h0 ?_
      have ih := (done_all n (Nat.lt_of_succ_lt hn)).upto
      rw [show n / 4 = (n + 1) / 4 by omega, show 8 * (n % 4) + 8 = 8 * ((n + 1) % 4) by omega] at ih
      exact ih

end Cert.RetVal
-- ==== Proof.RefQStages.lean ====
/- The reference of the retention's gradient with respect to the queries: what its operations after the loop make, as
   named stages, and that the run's results are the last of them. -/
module

public import proofs.«01_k».proof.Proof.Gen.RefQIdeal.Run
public import Idealize.ShloMosaic.Lib.Pointwise

@[expose] public section

noncomputable section

namespace Cert.RefQ

open Idealize.ShloMosaic Cert.RefQIdeal Cert.RefQIdeal.Gen

/-! The gate and the group norm. -/

variable (a0 : FVec Ideal S8192x6144 .bf16) (a1 a2 : FVec Ideal S8192x2048 .bf16) (a3 a4 : FVec Ideal S1x2048 .f32)

def one2 : FVec Ideal S8192x2048 .f32 := broadcastInDim S8192x2048 ![] bcast_S_S8192x2048 (constant S_ .f32 0x3F800000#32)
def gate : FVec Ideal S8192x2048 .f32 := extractStridedSlice S8192x2048 ![0, 4096] (extf .f32 a0 bitsLt_bf16_f32) slices_S8192x6144_S8192x2048_0_4096
def sigm : FVec Ideal S8192x2048 .f32 := Host.divf one2 (addf one2 (Host.exp (Host.negf (gate a0))))
def dgn : FVec Ideal S8192x4x512 .f32 :=
  shapeCast _ (mulf (mulf (gate a0) (sigm a0)) (extf .f32 a2 bitsLt_bf16_f32)) shapeCasts_S8192x2048_S8192x4x512
def yr : FVec Ideal S8192x4x512 .f32 := shapeCast _ (extf .f32 a1 bitsLt_bf16_f32) shapeCasts_S8192x2048_S8192x4x512
def rowSum (x : FVec Ideal S8192x4x512 .f32) : FVec Ideal S8192x4 .f32 :=
  Host.reduceAdd x (constant S_ .f32 0x00000000#32) reducesTo_S8192x4x512_S8192x4_d2 h_S_
def splat1 (w : BitVec 32) : FVec Ideal S8192x4x1 .f32 := broadcastInDim S8192x4x1 ![] bcast_S_S8192x4x1 (constant S_ .f32 w)
def rowMean (x : FVec Ideal S8192x4x512 .f32) : FVec Ideal S8192x4x1 .f32 :=
  Host.divf (broadcastInDim S8192x4x1 ![0, 1] bcast_S8192x4_S8192x4x1_0_1 (rowSum x)) (splat1 0x44000000#32)
def wide (x : FVec Ideal S8192x4x1 .f32) : FVec Ideal S8192x4x512 .f32 :=
  broadcastInDim S8192x4x512 ![0, 1, 2] bcast_S8192x4x1_S8192x4x512_0_1_2 x
def cen : FVec Ideal S8192x4x512 .f32 := subf (yr a1) (wide (rowMean (yr a1)))
def var : FVec Ideal S8192x4x1 .f32 := addf (rowMean (mulf (cen a1) (cen a1))) (splat1 0x358637BD#32)
def rstd : FVec Ideal S8192x4x1 .f32 := Host.rsqrt (var a1)
def nrm : FVec Ideal S8192x4x512 .f32 := mulf (cen a1) (wide (rstd a1))
def perHead (x : FVec Ideal S1x2048 .f32) : FVec Ideal S8192x4x512 .f32 :=
  broadcastInDim S8192x4x512 ![0, 1, 2] bcast_S1x4x512_S8192x4x512_0_1_2
    (broadcastInDim S1x4x512 ![1, 2] bcast_S4x512_S1x4x512_1_2 (shapeCast _ x shapeCasts_S1x2048_S4x512))
def colSum (x : FVec Ideal S8192x4x512 .f32) : FVec Ideal S1x2048 .f32 :=
  shapeCast _ (Host.reduceAdd (shapeCast _ (Host.reduceAdd x (constant S_ .f32 0x00000000#32) reducesTo_S8192x4x512_S4x512_d0 h_S_)
    shapeCasts_S4x512_S1x4x512) (constant S_ .f32 0x00000000#32) reducesTo_S1x4x512_S4x512_d0 h_S_) shapeCasts_S4x512_S1x2048
def gn : FVec Ideal S8192x2048 .f32 := shapeCast _ (addf (mulf (nrm a1) (perHead a3)) (perHead a4)) shapeCasts_S8192x4x512_S8192x2048
def cgn : FVec Ideal S8192x2048 .f32 := mulf (extf .f32 a2 bitsLt_bf16_f32) (gn a1 a3 a4)
def dgate : FVec Ideal S8192x2048 .bf16 :=
  truncf .bf16 (addf (mulf (cgn a1 a2 a3 a4) (sigm a0)) (mulf (mulf (gate a0) (cgn a1 a2 a3 a4)) (mulf (sigm a0) (subf one2 (sigm a0))))) bitsLt_bf16_f32
def dn : FVec Ideal S8192x4x512 .f32 := mulf (dgn a0 a2) (perHead a3)
def dnr : FVec Ideal S8192x4x512 .f32 := mulf (dn a0 a2 a3) (wide (rstd a1))
def col (x : FVec Ideal S8192x4 .f32) : FVec Ideal S8192x4x1 .f32 := shapeCast _ x shapeCasts_S8192x4_S8192x4x1
def dvar : FVec Ideal S8192x4x1 .f32 :=
  Host.divf (mulf (col (rowSum (mulf (cen a1) (dn a0 a2 a3)))) (mulf (splat1 0xBF000000#32) (Host.divf (rstd a1) (var a1)))) (splat1 0x44000000#32)
def spread (x : FVec Ideal S8192x4x1 .f32) : FVec Ideal S8192x4x512 .f32 :=
  broadcastInDim S8192x4x512 ![0, 1] bcast_S8192x4_S8192x4x512_0_1
    (Host.reduceAdd x (constant S_ .f32 0x00000000#32) reducesTo_S8192x4x1_S8192x4_d2 h_S_)
def two3 : FVec Ideal S8192x4x512 .f32 := broadcastInDim S8192x4x512 ![] bcast_S_S8192x4x512 (constant S_ .f32 0x40000000#32)
def dsq : FVec Ideal S8192x4x512 .f32 := mulf (spread (dvar a0 a1 a2 a3)) (mulf two3 (cen a1))
def dmu : FVec Ideal S8192x4x1 .f32 :=
  Host.divf (addf (col (rowSum (Host.negf (dnr a0 a1 a2 a3)))) (col (rowSum (Host.negf (dsq a0 a1 a2 a3))))) (splat1 0x44000000#32)
def dy : FVec Ideal S8192x4x512 .f32 := addf (addf (dnr a0 a1 a2 a3) (dsq a0 a1 a2 a3)) (spread (dmu a0 a1 a2 a3))
def dyOut : FVec Ideal S8192x2048 .bf16 := truncf .bf16 (shapeCast _ (dy a0 a1 a2 a3) shapeCasts_S8192x4x512_S8192x2048) bitsLt_bf16_f32

/-! The rotation's tables, the keys and the values, chunk by chunk. -/

def angle : FVec Ideal S8192x128 .f32 :=
  mulf (broadcastInDim S8192x128 ![0, 1] bcast_S8192x1_S8192x128_0_1
      (broadcastInDim S8192x1 ![0] bcast_S8192_S8192x1_0 (sitofp .f32 (iotaInDim S8192 32 0))))
    (broadcastInDim S8192x128 ![0, 1] bcast_S1x128_S8192x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
          (mulf (broadcastInDim S128 ![] bcast_S_S128 (constant S_ .f32 0x40000000#32)) (sitofp .f32 (iotaInDim S128 32 0)))))
          (broadcastInDim S128 ![] bcast_S_S128 (constant S_ .f32 0x43800000#32))))))
def heads (x : FVec Ideal S8192x128 .f32) : FVec Ideal S8192x4x128 .f32 :=
  broadcastInDim S8192x4x128 ![0, 1, 2] bcast_S8192x1x128_S8192x4x128_0_1_2
    (broadcastInDim S8192x1x128 ![0, 2] bcast_S8192x128_S8192x1x128_0_2 x)
def lower (x : FVec Ideal S8192x4x256 .f32) : FVec Ideal S8192x4x128 .f32 :=
  extractStridedSlice S8192x4x128 ![0, 0, 0] x slices_S8192x4x256_S8192x4x128_0_0_0
def upper (x : FVec Ideal S8192x4x256 .f32) : FVec Ideal S8192x4x128 .f32 :=
  extractStridedSlice S8192x4x128 ![0, 0, 128] x slices_S8192x4x256_S8192x4x128_0_0_128
def keyRaw : FVec Ideal S8192x4x256 .f32 :=
  shapeCast _ (extractStridedSlice S8192x1024 ![0, 0] (extractStridedSlice S8192x3072 ![0, 1024] (extf .f32 a0 bitsLt_bf16_f32)
    slices_S8192x6144_S8192x3072_0_1024) slices_S8192x3072_S8192x1024_0_0) shapeCasts_S8192x1024_S8192x4x256
def key : FVec Ideal S8192x4x256 .f32 :=
  mulf (concatenate S8192x4x256 2
      [⟨S8192x4x128, subf (mulf (lower (keyRaw a0)) (heads (Host.cos angle))) (mulf (upper (keyRaw a0)) (heads (Host.sin angle)))⟩,
       ⟨S8192x4x128, addf (mulf (upper (keyRaw a0)) (heads (Host.cos angle))) (mulf (lower (keyRaw a0)) (heads (Host.sin angle)))⟩]
      concatenates_S8192x4x128_S8192x4x128_S8192x4x256_d2)
    (broadcastInDim S8192x4x256 ![] bcast_S_S8192x4x256 (constant S_ .f32 0x3D800000#32))
def keyC : FVec Ideal S128x4x64x256 .f32 :=
  transpose S128x4x64x256 [0, 2, 1, 3] (shapeCast _ (key a0) shapeCasts_S8192x4x256_S128x64x4x256) transposes_S128x64x4x256_S128x4x64x256_0_2_1_3
def valueC : FVec Ideal S128x4x64x512 .f32 :=
  transpose S128x4x64x512 [0, 2, 1, 3] (shapeCast _ (shapeCast _ (extractStridedSlice S8192x2048 ![0, 1024]
    (extractStridedSlice S8192x3072 ![0, 1024] (extf .f32 a0 bitsLt_bf16_f32) slices_S8192x6144_S8192x3072_0_1024)
    slices_S8192x3072_S8192x2048_0_1024) shapeCasts_S8192x2048_S8192x4x512) shapeCasts_S8192x4x512_S128x64x4x512)
    transposes_S128x64x4x512_S128x4x64x512_0_2_1_3

/-! The decays. -/

def splat4 (w : BitVec 32) : FVec Ideal S4 .f32 := broadcastInDim S4 ![] bcast_S_S4 (constant S_ .f32 w)
def logGamma : FVec Ideal S4 .f32 :=
  Host.log (subf (splat4 0x3F800000#32) (Host.powf (splat4 0x40000000#32) (subf (splat4 0xC0A00000#32) (sitofp .f32 (iotaInDim S4 32 0)))))
def place : FVec Ideal S64 .f32 := sitofp .f32 (iotaInDim S64 32 0)
def splat64 (w : BitVec 32) : FVec Ideal S64 .f32 := broadcastInDim S64 ![] bcast_S_S64 (constant S_ .f32 w)
def decay (x : FVec Ideal S64 .f32) : FVec Ideal S128x4x64x256 .f32 :=
  broadcastInDim S128x4x64x256 ![0, 1, 2, 3] bcast_S1x4x64x1_S128x4x64x256_0_1_2_3
    (broadcastInDim S1x4x64x1 ![1, 2, 3] bcast_S4x64x1_S1x4x64x1_1_2_3 (broadcastInDim S4x64x1 ![0, 1] bcast_S4x64_S4x64x1_0_1
      (Host.exp (mulf (broadcastInDim S4x64 ![0, 1] bcast_S4x1_S4x64_0_1 (broadcastInDim S4x1 ![0] bcast_S4_S4x1_0 logGamma))
        (broadcastInDim S4x64 ![0, 1] bcast_S1x64_S4x64_0_1 (broadcastInDim S1x64 ![1] bcast_S64_S1x64_1 x))))))
def distance : FVec Ideal S128x4x64x64 .f32 :=
  broadcastInDim S128x4x64x64 ![0, 1, 2, 3] bcast_S1x4x64x64_S128x4x64x64_0_1_2_3 (broadcastInDim S1x4x64x64 ![1, 2, 3] bcast_S4x64x64_S1x4x64x64_1_2_3
    (Host.exp (mulf (broadcastInDim S4x64x64 ![0, 1, 2] bcast_S4x1x1_S4x64x64_0_1_2 (broadcastInDim S4x1x1 ![0] bcast_S4_S4x1x1_0 logGamma))
      (broadcastInDim S4x64x64 ![0, 1, 2] bcast_S1x64x64_S4x64x64_0_1_2 (broadcastInDim S1x64x64 ![1, 2] bcast_S64x64_S1x64x64_1_2
        (Host.absf (subf
          (broadcastInDim S64x64 ![0, 1] bcast_S64x1_S64x64_0_1 (broadcastInDim S64x1 ![0] bcast_S64_S64x1_0 place))
          (broadcastInDim S64x64 ![0, 1] bcast_S1x64_S64x64_0_1 (broadcastInDim S1x64 ![1] bcast_S64_S1x64_1 place)))))))))

/-! The gradient with respect to the queries, from the states before the chunks. -/

variable (st : FVec Ideal S128x4x256x512 .f32)

def dyC : FVec Ideal S128x4x64x512 .f32 :=
  transpose S128x4x64x512 [0, 2, 1, 3] (shapeCast _ (dy a0 a1 a2 a3) shapeCasts_S8192x4x512_S128x64x4x512) transposes_S128x64x4x512_S128x4x64x512_0_2_1_3
def carried : FVec Ideal S128x4x64x256 .f32 :=
  mulf (Host.dotGeneral dot_S128x4x64x512_S128x4x256x512_S128x4x64x256_3_3_2_2_01_01 none (dyC a0 a1 a2 a3) st)
    (decay (addf place (splat64 0x3F800000#32)))
def within : FVec Ideal S128x4x64x256 .f32 :=
  Host.dotGeneral dot_S128x4x64x64_S128x4x64x256_S128x4x64x256_3_2_2_3_01_01 none
    (mulf (Host.dotGeneral dot_S128x4x64x512_S128x4x64x512_S128x4x64x64_3_3_2_2_01_01 none (dyC a0 a1 a2 a3) (valueC a0)) distance) (keyC a0)
def dqRot : FVec Ideal S8192x4x256 .f32 :=
  shapeCast _ (transpose S128x64x4x256 [0, 2, 1, 3] (addf (carried a0 a1 a2 a3 st) (within a0 a1 a2 a3)) transposes_S128x4x64x256_S128x64x4x256_0_2_1_3)
    shapeCasts_S128x64x4x256_S8192x4x256
def unrotate (x : FVec Ideal S8192x4x256 .f32) : FVec Ideal S8192x4x256 .f32 :=
  addf (pad S8192x4x256 ![0, 0, 128] ![0, 0, 0] ![0, 0, 0]
      (addf (mulf (upper x) (heads (Host.cos angle))) (mulf (Host.negf (lower x)) (heads (Host.sin angle)))) (constant S_ .f32 0x00000000#32)
      pads_S8192x4x128_S8192x4x256_000_000_12800 h_S_)
    (pad S8192x4x256 ![0, 0, 0] ![0, 0, 128] ![0, 0, 0]
      (addf (mulf (upper x) (heads (Host.sin angle))) (mulf (lower x) (heads (Host.cos angle)))) (constant S_ .f32 0x00000000#32)
      pads_S8192x4x128_S8192x4x256_000_000_01280 h_S_)
def dqOut : FVec Ideal S8192x1024 .bf16 :=
  truncf .bf16 (shapeCast _ (unrotate (dqRot a0 a1 a2 a3 st)) shapeCasts_S8192x4x256_S8192x1024) bitsLt_bf16_f32

/-! The results of the run. -/

section
variable (V : Valuation τ sig (Elt Ideal))

theorem out_db : Value.out_main_v324 V = colSum (dgn (V (Proc.devRef .tc main_arg0)) (V (Proc.devRef .tc main_arg2))) := by
  unfold Value.out_main_v324
  rfl
theorem out_dg : Value.out_main_v323 V = colSum (mulf (nrm (V (Proc.devRef .tc main_arg1)))
    (dgn (V (Proc.devRef .tc main_arg0)) (V (Proc.devRef .tc main_arg2)))) := by
  unfold Value.out_main_v323
  rfl
theorem out_dgate : Value.out_main_v320 V = dgate (V (Proc.devRef .tc main_arg0)) (V (Proc.devRef .tc main_arg1))
    (V (Proc.devRef .tc main_arg2)) (V (Proc.devRef .tc main_arg3)) (V (Proc.devRef .tc main_arg4)) := by
  unfold Value.out_main_v320
  rfl
theorem out_dy : Value.out_main_v322 V = dyOut (V (Proc.devRef .tc main_arg0)) (V (Proc.devRef .tc main_arg1))
    (V (Proc.devRef .tc main_arg2)) (V (Proc.devRef .tc main_arg3)) := by
  unfold Value.out_main_v322
  rfl
theorem out_dq : Value.out_main_v319 V = dqOut (V (Proc.devRef .tc main_arg0)) (V (Proc.devRef .tc main_arg1))
    (V (Proc.devRef .tc main_arg2)) (V (Proc.devRef .tc main_arg3)) (V (Proc.devRef .tc main_v80_4)) := by
  unfold Value.out_main_v319
  rfl

end

end Cert.RefQ

end
-- ==== Proof.RefQReal.lean ====
/- The reference's stages for real arguments: every entry is the real number that the formulas name. -/
module

public import proofs.«01_k».proof.Proof.RefQStages
public import proofs.«01_k».proof.Proof.RetReal

@[expose] public section

noncomputable section

namespace Cert.RefQ

open Idealize.ShloMosaic Cert.RefQIdeal Cert.RefQIdeal.Gen Cert.Retention

variable {a0 : FVec Ideal S8192x6144 .bf16} {a1 a2 : FVec Ideal S8192x2048 .bf16} {a3 a4 : FVec Ideal S1x2048 .f32}
  {p y c : ℕ → ℕ → ℝ} {g b : ℕ → ℝ}
  (h0 : ∀ (t : Fin 8192) (j : Fin 6144), a0 (ix2 t j) = ((p t j : ℝ) : EReal))
  (h1 : ∀ (t : Fin 8192) (j : Fin 2048), a1 (ix2 t j) = ((y t j : ℝ) : EReal))
  (h2 : ∀ (t : Fin 8192) (j : Fin 2048), a2 (ix2 t j) = ((c t j : ℝ) : EReal))
  (h3 : ∀ j : Fin 2048, a3 (ix2 0 j) = ((g j : ℝ) : EReal))
  (h4 : ∀ j : Fin 2048, a4 (ix2 0 j) = ((b j : ℝ) : EReal))

include h0 in
theorem gate_real (t : Fin 8192) (j : Fin 2048) : gate a0 (ix2 t j) = ((p t (4096 + j) : ℝ) : EReal) := by
  pointwise [gate]
  exact h0 _ _

theorem one2_real (t : Fin 8192) (j : Fin 2048) : one2 (ix2 t j) = ((1 : ℝ) : EReal) := by
  pointwise [one2]
  rfl

include h0 in
theorem sig_real (t : Fin 8192) (j : Fin 2048) : sigm a0 (ix2 t j) = ((sg p t j : ℝ) : EReal) := by
  pointwise [sigm]
  rw [one2_real, gate_real h0, ← EReal.coe_neg, Ideal.exp_coe, ← EReal.coe_add, div_real _ _ (by positivity)]
  rfl

include h0 h2 in
theorem dgn_real (t : Fin 8192) (h : Fin 4) (f : Fin 512) :
    RefQ.dgn a0 a2 (ix3 t h f) = ((Retention.dgn p c t (h * 512 + f) : ℝ) : EReal) := by
  pointwise [RefQ.dgn]
  rw [gate_real h0, sig_real h0, h2, ← EReal.coe_mul, ← EReal.coe_mul]
  rfl

include h1 in
theorem yr_real (t : Fin 8192) (h : Fin 4) (f : Fin 512) : yr a1 (ix3 t h f) = ((y t (h * 512 + f) : ℝ) : EReal) := by
  pointwise [yr]
  exact h1 _ _

theorem rowSum_real (x : FVec Ideal S8192x4x512 .f32) (t : Fin 8192) (h : Fin 4) (r : Fin 512 → ℝ)
    (hx : ∀ f, x (ix3 t h f) = ((r f : ℝ) : EReal)) : rowSum x (ix2 t h) = ((∑ f, r f : ℝ) : EReal) := by
  pointwise [rowSum]
  simp only [hx]
  exact sum_real r

theorem rowMean_real (x : FVec Ideal S8192x4x512 .f32) (t : Fin 8192) (h : Fin 4) (r : Fin 512 → ℝ)
    (hx : ∀ f, x (ix3 t h f) = ((r f : ℝ) : EReal)) : rowMean x (ix3 t h 0) = (((∑ f, r f) / 512 : ℝ) : EReal) := by
  pointwise [rowMean, splat1]
  rw [rowSum_real x t h r hx, lit_512, div_real _ _ (by norm_num)]

include h1 in
theorem cen_real (t : Fin 8192) (h : Fin 4) (f : Fin 512) : RefQ.cen a1 (ix3 t h f) = ((Retention.cen y t h f : ℝ) : EReal) := by
  pointwise [RefQ.cen, wide]
  rw [yr_real h1, rowMean_real _ t h _ (yr_real h1 t h), ← EReal.coe_sub]
  rfl

include h1 in
theorem var_real (t : Fin 8192) (h : Fin 4) : var a1 (ix3 t h 0) = ((vr y t h : ℝ) : EReal) := by
  pointwise [var, splat1]
  rw [rowMean_real _ t h (fun f => Retention.cen y t h f * Retention.cen y t h f) (fun f => by
    pointwise []
    rw [cen_real h1, ← EReal.coe_mul]), lit_eps, ← EReal.coe_add]
  rfl

include h1 in
theorem rstd_real (t : Fin 8192) (h : Fin 4) : rstd a1 (ix3 t h 0) = ((rs y t h : ℝ) : EReal) := by
  pointwise [rstd]
  rw [var_real h1, rsqrt_real _ (vr_pos y t h)]
  rfl

include h1 in
theorem nrm_real (t : Fin 8192) (h : Fin 4) (f : Fin 512) : RefQ.nrm a1 (ix3 t h f) = ((Retention.nrm y t h f : ℝ) : EReal) := by
  pointwise [RefQ.nrm, wide]
  rw [cen_real h1, rstd_real h1, ← EReal.coe_mul]
  rfl

theorem perHead_real (x : FVec Ideal S1x2048 .f32) (r : ℕ → ℝ) (hx : ∀ j : Fin 2048, x (ix2 0 j) = ((r j : ℝ) : EReal))
    (t : Fin 8192) (h : Fin 4) (f : Fin 512) : perHead x (ix3 t h f) = ((r (h * 512 + f) : ℝ) : EReal) := by
  pointwise [perHead]
  exact hx _

theorem colSum_real (x : FVec Ideal S8192x4x512 .f32) (r : ℕ → ℕ → Fin 512 → ℝ)
    (hx : ∀ (t : Fin 8192) (h : Fin 4) (f : Fin 512), x (ix3 t h f) = ((r t h f : ℝ) : EReal)) (h : Fin 4) (f : Fin 512) :
    colSum x (ix2 0 ⟨h * 512 + f, by omega⟩) = ((∑ t : Fin 8192, r t h f : ℝ) : EReal) := by
  pointwise [colSum]
  rw [Fin.sum_univ_one]
  exact (Finset.sum_congr rfl fun t _ => hx t h f).trans (sum_real _)

include h0 h2 in
/-- The gradient of the norm's offset. -/
theorem db_real (h : Fin 4) (f : Fin 512) : colSum (RefQ.dgn a0 a2) (ix2 0 ⟨h * 512 + f, by omega⟩)
    = ((∑ t : Fin 8192, Retention.dgn p c t (h * 512 + f) : ℝ) : EReal) :=
  colSum_real _ (fun t h f => Retention.dgn p c t (h * 512 + f)) (dgn_real h0 h2) h f

include h0 h1 h2 in
/-- The gradient of the norm's scale. -/
theorem dg_real (h : Fin 4) (f : Fin 512) : colSum (mulf (RefQ.nrm a1) (RefQ.dgn a0 a2)) (ix2 0 ⟨h * 512 + f, by omega⟩)
    = ((∑ t : Fin 8192, Retention.nrm y t h f * Retention.dgn p c t (h * 512 + f) : ℝ) : EReal) :=
  colSum_real _ (fun t h f => Retention.nrm y t h f * Retention.dgn p c t (h * 512 + f)) (fun t h f => by
    pointwise []
    rw [nrm_real h1, dgn_real h0 h2, ← EReal.coe_mul]) h f

include h0 h1 h2 h3 h4 in
/-- The gradient of the gate. -/
theorem dgate_real (t : Fin 8192) (h : Fin 4) (f : Fin 512) : RefQ.dgate a0 a1 a2 a3 a4 (ix2 t ⟨h * 512 + f, by omega⟩)
    = ((Retention.dgate p y c g b t h f : ℝ) : EReal) := by
  have hg : gn a1 a3 a4 (ix2 t ⟨h * 512 + f, by omega⟩) = ((Retention.nrm y t h f * g (h * 512 + f) + b (h * 512 + f) : ℝ) : EReal) := by
    pointwise [gn]
    rw [nrm_real h1, perHead_real a3 g h3, perHead_real a4 b h4, ← EReal.coe_mul, ← EReal.coe_add]
  pointwise [RefQ.dgate, cgn]
  rw [hg, h2, sig_real h0, gate_real h0, one2_real]
  simp only [← EReal.coe_mul, ← EReal.coe_add, ← EReal.coe_sub]
  congr 1
  unfold Retention.dgate
  ring

include h0 h2 h3 in
theorem dn_real (t : Fin 8192) (h : Fin 4) (f : Fin 512) :
    RefQ.dn a0 a2 a3 (ix3 t h f) = ((Retention.dn p c g t h f : ℝ) : EReal) := by
  pointwise [RefQ.dn]
  rw [dgn_real h0 h2, perHead_real a3 g h3, ← EReal.coe_mul]
  rfl

include h0 h1 h2 h3 in
theorem dvar_real (t : Fin 8192) (h : Fin 4) : dvar a0 a1 a2 a3 (ix3 t h 0)
    = (((∑ j, Retention.cen y t h j * Retention.dn p c g t h j) * (-(1 / 2) * (rs y t h / vr y t h)) / 512 : ℝ) : EReal) := by
  pointwise [dvar, col, splat1]
  rw [rowSum_real _ t h (fun j => Retention.cen y t h j * Retention.dn p c g t h j) (fun f => by
    pointwise []
    rw [cen_real h1, dn_real h0 h2 h3, ← EReal.coe_mul]), rstd_real h1, var_real h1, div_real _ _ (vr_pos y t h).ne', lit_neg_half,
    lit_512, ← EReal.coe_mul, ← EReal.coe_mul, div_real _ _ (by norm_num)]

theorem spread_apply (x : FVec Ideal S8192x4x1 .f32) (t : Fin 8192) (h : Fin 4) (f : Fin 512) :
    spread x (ix3 t h f) = x (ix3 t h 0) := by
  pointwise [spread]
  rw [Fin.sum_univ_one]

include h0 h1 h2 h3 in
theorem dnr_real (t : Fin 8192) (h : Fin 4) (f : Fin 512) :
    dnr a0 a1 a2 a3 (ix3 t h f) = ((Retention.dn p c g t h f * rs y t h : ℝ) : EReal) := by
  pointwise [dnr, wide]
  rw [dn_real h0 h2 h3, rstd_real h1, ← EReal.coe_mul]

include h0 h1 h2 h3 in
theorem dsq_real (t : Fin 8192) (h : Fin 4) (f : Fin 512) : dsq a0 a1 a2 a3 (ix3 t h f)
    = (((∑ j, Retention.cen y t h j * Retention.dn p c g t h j) * (-(1 / 2) * (rs y t h / vr y t h)) / 512
        * (2 * Retention.cen y t h f) : ℝ) : EReal) := by
  pointwise [dsq, two3]
  rw [spread_apply, dvar_real h0 h1 h2 h3, cen_real h1, lit_2, ← EReal.coe_mul, ← EReal.coe_mul]

include h0 h1 h2 h3 in
/-- The gradient at the values that come out of the retention. -/
theorem dy_real (t : Fin 8192) (h : Fin 4) (f : Fin 512) :
    RefQ.dy a0 a1 a2 a3 (ix3 t h f) = ((Retention.dy p y c g t h f : ℝ) : EReal) := by
  pointwise [RefQ.dy]
  rw [spread_apply, dnr_real h0 h1 h2 h3, dsq_real h0 h1 h2 h3]
  pointwise [dmu, col, splat1]
  rw [rowSum_real _ t h (fun j => -(Retention.dn p c g t h j * rs y t h)) (fun f => by
      pointwise []
      rw [dnr_real h0 h1 h2 h3, ← EReal.coe_neg]),
    rowSum_real _ t h (fun f => -((∑ j, Retention.cen y t h j * Retention.dn p c g t h j) * (-(1 / 2) * (rs y t h / vr y t h)) / 512
        * (2 * Retention.cen y t h f))) (fun f => by
      pointwise []
      rw [dsq_real h0 h1 h2 h3, ← EReal.coe_neg]), lit_512, ← EReal.coe_add, ← EReal.coe_add, div_real _ _ (by norm_num), ← EReal.coe_add]
  congr 1
  rw [Finset.sum_neg_distrib, Finset.sum_neg_distrib]
  exact norm_grad 512 512 (by norm_num) _ _ (cen_sum y t h) _ _ (vr_pos y t h).ne' (rs_sq y t h) f

end Cert.RefQ

end
-- ==== Proof.RefQLoop.lean ====
/- The reference's loop over the chunks: the state before each chunk, for real arguments. -/
module

public import proofs.«01_k».proof.Proof.RefQReal

@[expose] public section

set_option maxRecDepth 65536

noncomputable section

namespace Cert.RefQ

open Idealize.ShloMosaic Cert.RefQIdeal Cert.RefQIdeal.Gen Cert.Retention
open Idealize.ShloMosaic.StableHlo Idealize.ShloMosaic.TcCoe

/-- The products of the decayed keys and the values, chunk by chunk. -/
def chunkKv (a0 : FVec Ideal S8192x6144 .bf16) : FVec Ideal S128x4x256x512 .f32 :=
  Host.dotGeneral dot_S128x4x64x256_S128x4x64x512_S128x4x256x512_2_2_3_3_01_01 none
    (mulf (keyC a0) (decay (subf (splat64 0x427C0000#32) place))) (valueC a0)

/-- The decay over a chunk. -/
def chunkDecay : FVec Ideal S4 .f32 := Host.exp (mulf logGamma (splat4 0x42800000#32))

section entry
variable (m : (ℓ : Loc nD τ sig) → Buf (Elt Ideal) ℓ) (c : Dev nD)

theorem entry_kv : entryContents Value.preI m c (Proc.devRef .tc main_v80_0)
    = chunkKv (m ((c.tc : Thread nD τ).loc main_arg0)) := by
  simp only [entryContents, afterL_cons, afterL_nil]
  after_reads_simp
  rfl
theorem entry_decay : entryContents Value.preI m c (Proc.devRef .tc main_v80_1) = chunkDecay := by
  simp only [entryContents, afterL_cons, afterL_nil]
  after_reads_simp
  rfl
theorem entry_state : entryContents Value.preI m c (Proc.devRef .tc main_v80_3)
    = broadcastInDim S4x256x512 ![] bcast_S_S4x256x512 (constant (F := Ideal) S_ .f32 0x00000000#32) := by
  simp only [entryContents, afterL_cons, afterL_nil]
  after_reads_simp
  rfl
end entry

variable {a0 : FVec Ideal S8192x6144 .bf16} {p : ℕ → ℕ → ℝ}
  (h0 : ∀ (t : Fin 8192) (j : Fin 6144), a0 (ix2 t j) = ((p t j : ℝ) : EReal))

theorem logGamma_real (h : Fin 4) : RefQ.logGamma (ix1 h) = ((Retention.logGamma h : ℝ) : EReal) := by
  pointwise [RefQ.logGamma, splat4]
  rw [nat_real _ (by omega), lit_2, lit_neg_5, ← EReal.coe_sub, Ideal.pow_coe_coe, ← EReal.coe_one, ← EReal.coe_sub, log_real _ (logGamma_arg_pos h)]
  rfl

theorem angle_real (t : Fin 8192) (j : Fin 128) : RefQ.angle (ix2 t j) = ((Retention.angle t j : ℝ) : EReal) := by
  pointwise [RefQ.angle]
  rw [nat_real _ (by omega), nat_real _ (by omega), lit_2, lit_256, lit_10000, ← EReal.coe_mul, ← EReal.coe_neg, div_real _ _ (by norm_num),
    Ideal.pow_coe_coe, ← EReal.coe_mul]
  rfl

include h0 in
theorem key_real (t : Fin 8192) (h : Fin 4) (d : Fin 256) : RefQ.key a0 (ix3 t h d) = ((Retention.key p t h d : ℝ) : EReal) := by
  pointwise [RefQ.key, lower, upper, heads, keyRaw]
  rw [lit_sixteenth]
  unfold Retention.key
  split_ifs with hd hd'
  · rw [h0, h0, angle_real]
    simp only [Ideal.cos_coe, Ideal.sin_coe, ← EReal.coe_mul, ← EReal.coe_sub]
  · rw [h0, h0, angle_real]
    simp only [Ideal.cos_coe, Ideal.sin_coe, ← EReal.coe_mul, ← EReal.coe_add]
  · exact absurd rfl hd'

include h0 in
theorem keyC_real (n : Fin 128) (h : Fin 4) (e : Fin 64) (d : Fin 256) :
    keyC a0 (ix4 n h e d) = ((Retention.key p (n * 64 + e) h d : ℝ) : EReal) := by
  pointwise [keyC]
  exact key_real h0 _ _ _

include h0 in
theorem valueC_real (n : Fin 128) (h : Fin 4) (e : Fin 64) (f : Fin 512) :
    valueC a0 (ix4 n h e f) = ((Retention.value p (n * 64 + e) h f : ℝ) : EReal) := by
  pointwise [valueC]
  rw [h0]
  unfold Retention.value
  congr 3
  dsimp only
  omega

theorem decay_real (x : FVec Ideal S64 .f32) (r : Fin 64 → ℝ) (hx : ∀ e, x (ix1 e) = ((r e : ℝ) : EReal))
    (n : Fin 128) (h : Fin 4) (e : Fin 64) (d : Fin 256) :
    decay x (ix4 n h e d) = ((Real.exp (Retention.logGamma h * r e) : ℝ) : EReal) := by
  pointwise [decay]
  rw [logGamma_real, hx, ← EReal.coe_mul, Ideal.exp_coe]

theorem before_real (e : Fin 64) : (subf (splat64 0x427C0000#32) place : FVec Ideal S64 .f32) (ix1 e) = ((63 - e : ℝ) : EReal) := by
  pointwise [splat64, place]
  rw [nat_real _ (by omega), lit_63, ← EReal.coe_sub]

theorem after_real (e : Fin 64) : (addf place (splat64 0x3F800000#32) : FVec Ideal S64 .f32) (ix1 e) = ((e + 1 : ℝ) : EReal) := by
  pointwise [splat64, place]
  rw [nat_real _ (by omega), ← EReal.coe_one, ← EReal.coe_add]

include h0 in
theorem chunkKv_real (n : Fin 128) (h : Fin 4) (d : Fin 256) (f : Fin 512) : chunkKv a0 (ix4 n h d f)
    = ((∑ e ∈ Finset.range 64, Retention.key p (n * 64 + e) h d * Real.exp (Retention.logGamma h * (64 - 1 - e))
        * Retention.value p (n * 64 + e) h f : ℝ) : EReal) := by
  pointwise [chunkKv]
  rw [Finset.sum_range, ← sum_real]
  refine Finset.sum_congr rfl fun e _ => ?_
  rw [keyC_real h0, valueC_real h0, decay_real _ _ before_real, ← EReal.coe_mul, ← EReal.coe_mul]
  norm_num

theorem chunkDecay_real (h : Fin 4) : chunkDecay (ix1 h) = ((Real.exp (Retention.logGamma h * 64) : ℝ) : EReal) := by
  pointwise [chunkDecay, splat4]
  rw [logGamma_real, lit_64, ← EReal.coe_mul, Ideal.exp_coe]

/-- The state of one head before chunk `n`. -/
abbrev stateAt (p : ℕ → ℕ → ℝ) (n : ℕ) (h : Fin 4) (d : Fin 256) (f : Fin 512) : ℝ :=
  state (Retention.logGamma h) 64 (fun s => Retention.key p s h d) (fun s => Retention.value p s h f) n

/-- The carried buffers before trip `k`. -/
structure Holds (a0 : FVec Ideal S8192x6144 .bf16) (p : ℕ → ℕ → ℝ) (k : ℕ) (V : Valuation τ sig (Elt Ideal)) : Prop where
  kv : V (Proc.devRef .tc main_v80_0) = chunkKv a0
  decay : V (Proc.devRef .tc main_v80_1) = chunkDecay
  count : V (Proc.devRef .tc main_v80_2) = fun _ => BitVec.ofNat 32 k
  now : ∀ (h : Fin 4) (d : Fin 256) (f : Fin 512), (V (Proc.devRef .tc main_v80_3) : FVec Ideal S4x256x512 .f32) (ix3 h d f) = ((stateAt p k h d f : ℝ) : EReal)
  past : ∀ (n : Fin 128) (h : Fin 4) (d : Fin 256) (f : Fin 512), n.val < k →
    (V (Proc.devRef .tc main_v80_4) : FVec Ideal S128x4x256x512 .f32) (ix4 n h d f) = ((stateAt p n h d f : ℝ) : EReal)

theorem count_int (k : ℕ) (hk : k < 128) : (BitVec.ofNat 32 k).toInt = k := by
  rw [BitVec.toInt_eq_toNat_of_lt] <;> simp <;> omega

theorem ix4_congr {A B C D : ℕ} {a a' : Fin A} {b b' : Fin B} {c c' : Fin C} {d d' : Fin D} (ha : a.val = a'.val) (hb : b.val = b'.val)
    (hc : c.val = c'.val) (hd : d.val = d'.val) : (ix4 a b c d) = ix4 a' b' c' d' := by
  rw [Fin.ext ha, Fin.ext hb, Fin.ext hc, Fin.ext hd]

/-- The first component of a start is the trip, the others are zero. -/
theorem start_first (k : ℕ) (hk : k < 128) (ht : S1x4x256x512.rank = S128x4x256x512.rank) (st : Fin 4 → ℤ) (h0 : st 0 = (BitVec.ofNat 32 k).toInt) :
    Host.clampedStart S128x4x256x512 S1x4x256x512 ht st 0 = k :=
  Host.clampedStart_of_le ht st 0 k (h0.trans (count_int k hk)) (show k + 1 ≤ 128 by omega)
theorem start_rest (a : Fin 4) (ha : a ≠ 0) (ht : S1x4x256x512.rank = S128x4x256x512.rank) (st : Fin 4 → ℤ) (h0 : st a = 0) :
    Host.clampedStart S128x4x256x512 S1x4x256x512 ht st a = 0 := by
  refine Host.clampedStart_of_le ht st a 0 h0 ?_
  fin_cases a
  · exact absurd rfl ha
  all_goals exact le_of_eq (Nat.zero_add _)

/-- Where a trip reads and writes: its counter first, the rest from zero. -/
def tripStart (x2 : IVec S_ 32) : Fin 4 → ℤ := fun k =>
  ((![x2, constantI S_ 32 0#32, constantI S_ 32 0#32, constantI S_ 32 0#32] : Fin 4 → IVec S_ 32) k (Shape.Idx.first h_S_)).toInt

/-- The state after a trip. -/
def nextState (x0 : FVec Ideal S128x4x256x512 .f32) (x1 : FVec Ideal S4 .f32) (x2 : IVec S_ 32) (x3 : FVec Ideal S4x256x512 .f32) :
    FVec Ideal S4x256x512 .f32 :=
  addf (mulf x3 (broadcastInDim S4x256x512 ![0, 1, 2] bcast_S4x1x1_S4x256x512_0_1_2 (broadcastInDim S4x1x1 ![0] bcast_S4_S4x1x1_0 x1)))
    (shapeCast S4x256x512 (Host.dynamicSlice S1x4x256x512 x0 (tripStart x2) sliceFits_S128x4x256x512_S1x4x256x512)
      shapeCasts_S1x4x256x512_S4x256x512)

/-- The saved states after a trip. -/
def nextSaved (x2 : IVec S_ 32) (x3 : FVec Ideal S4x256x512 .f32) (x4 : FVec Ideal S128x4x256x512 .f32) : FVec Ideal S128x4x256x512 .f32 :=
  Host.dynamicUpdateSlice x4 (broadcastInDim S1x4x256x512 ![1, 2, 3] bcast_S4x256x512_S1x4x256x512_1_2_3 x3) (tripStart x2)
    updateFits_S128x4x256x512_S1x4x256x512

theorem nextState_apply {k : ℕ} (hk : k < 128) (x0 : FVec Ideal S128x4x256x512 .f32) (x1 : FVec Ideal S4 .f32) (x3 : FVec Ideal S4x256x512 .f32)
    (h : Fin 4) (d : Fin 256) (f : Fin 512) : nextState x0 x1 (fun _ => BitVec.ofNat 32 k) x3 (ix3 h d f)
    = (x3 (ix3 h d f) * x1 (ix1 h) + x0 (ix4 ⟨k, hk⟩ h d f) : EReal) := by
  pointwise [nextState]
  congr 2
  refine ix4_congr ?_ ?_ ?_ ?_
  · exact start_first k hk rfl _ rfl
  · exact (congrArg (· + h.val) (start_rest 1 (by decide) rfl _ rfl)).trans (Nat.zero_add _)
  · exact (congrArg (· + d.val) (start_rest 2 (by decide) rfl _ rfl)).trans (Nat.zero_add _)
  · exact (congrArg (· + f.val) (start_rest 3 (by decide) rfl _ rfl)).trans (Nat.zero_add _)

theorem nextSaved_apply {k : ℕ} (hk : k < 128) (x3 : FVec Ideal S4x256x512 .f32) (x4 : FVec Ideal S128x4x256x512 .f32)
    (n : Fin 128) (h : Fin 4) (d : Fin 256) (f : Fin 512) : nextSaved (fun _ => BitVec.ofNat 32 k) x3 x4 (ix4 n h d f)
    = if n.val = k then x3 (ix3 h d f) else x4 (ix4 n h d f) := by
  have e0 := start_first k hk rfl (tripStart fun _ => BitVec.ofNat 32 k) rfl
  have e1 := start_rest 1 (by decide) rfl (tripStart fun _ => BitVec.ofNat 32 k) rfl
  have e2 := start_rest 2 (by decide) rfl (tripStart fun _ => BitVec.ofNat 32 k) rfl
  have e3 := start_rest 3 (by decide) rfl (tripStart fun _ => BitVec.ofNat 32 k) rfl
  pointwise [nextSaved]
  by_cases hn : n.val = k
  · rw [if_pos hn, dif_pos]
    · congr 1
    · rw [e0, e1, e2, e3]
      omega
  · rw [if_neg hn, dif_neg]
    rw [e0]
    omega

theorem step_now (V : Valuation τ sig (Elt Ideal)) : Value.step_main_v80_3 V
    = nextState (V (Proc.devRef .tc main_v80_0)) (V (Proc.devRef .tc main_v80_1)) (V (Proc.devRef .tc main_v80_2)) (V (Proc.devRef .tc main_v80_3)) := by
  unfold Value.step_main_v80_3 nextState tripStart
  exact id_eq _
theorem step_past (V : Valuation τ sig (Elt Ideal)) : Value.step_main_v80_4 V
    = nextSaved (V (Proc.devRef .tc main_v80_2)) (V (Proc.devRef .tc main_v80_3)) (V (Proc.devRef .tc main_v80_4)) := by
  unfold Value.step_main_v80_4 nextSaved tripStart
  exact id_eq _

include h0 in
theorem holds_step {k : ℕ} (hk : k < 128) {V : Valuation τ sig (Elt Ideal)} (H : Holds a0 p k V) : Holds a0 p (k + 1) (Value.STEP V) where
  kv := (Value.STEP_main_v80_0 V).trans H.kv
  decay := (Value.STEP_main_v80_1 V).trans H.decay
  count := by
    rw [Value.STEP_main_v80_2]
    unfold Value.step_main_v80_2
    rw [H.count]
    funext i
    pointwise [id]
    show BitVec.ofNat 32 k + BitVec.ofNat 32 1 = _
    exact (BitVec.ofNat_add k 1).symm
  now h d f := by
    rw [Value.STEP_main_v80_3, step_now, H.kv, H.decay, H.count]
    refine (nextState_apply hk _ _ _ h d f).trans ?_
    rw [H.now, chunkDecay_real, chunkKv_real h0, ← EReal.coe_mul, ← EReal.coe_add, stateAt, stateAt, state_succ]
    norm_num
  past n h d f hn := by
    rw [Value.STEP_main_v80_4, step_past, H.count]
    refine (nextSaved_apply hk _ _ n h d f).trans ?_
    split_ifs with he
    · rw [H.now, he]
    · exact H.past n h d f (lt_of_le_of_ne (Nat.le_of_lt_succ hn) he)

/-- What the loop leaves: the state before every chunk. -/
theorem holds_loop (m : (ℓ : Loc nD τ sig) → Buf (Elt Ideal) ℓ) (c : Dev nD)
    (h0 : ∀ (t : Fin 8192) (j : Fin 6144), (m ((c.tc : Thread nD τ).loc main_arg0) : FVec Ideal S8192x6144 .bf16) (ix2 t j) = ((p t j : ℝ) : EReal))
    (k : ℕ) (hk : k ≤ 128) :
    Holds (m ((c.tc : Thread nD τ).loc main_arg0)) p k (Value.STEP^[k] (entryContents Value.preI m c)) := by
  induction k with
  | zero =>
    refine ⟨entry_kv m c, entry_decay m c, Value.ctr_entry m c, fun h d f => ?_, fun n h d f hn => absurd hn (Nat.not_lt_zero _)⟩
    rw [Function.iterate_zero, id, entry_state]
    pointwise []
    rw [stateAt, state_zero]
    rfl
  | succ k ih =>
    rw [Function.iterate_succ_apply']
    exact holds_step h0 hk (ih (Nat.le_of_lt hk))

end Cert.RefQ
-- ==== Proof.RefQDq.lean ====
/- The reference's gradient with respect to the queries, for real arguments. -/
module

public import proofs.«01_k».proof.Proof.RefQLoop

@[expose] public section

set_option maxRecDepth 65536

noncomputable section

namespace Cert.RefQ

open Idealize.ShloMosaic Cert.RefQIdeal Cert.RefQIdeal.Gen Cert.Retention

variable {a0 : FVec Ideal S8192x6144 .bf16} {a1 a2 : FVec Ideal S8192x2048 .bf16} {a3 : FVec Ideal S1x2048 .f32}
  {p y c : ℕ → ℕ → ℝ} {g : ℕ → ℝ}
  (h0 : ∀ (t : Fin 8192) (j : Fin 6144), a0 (ix2 t j) = ((p t j : ℝ) : EReal))
  (h1 : ∀ (t : Fin 8192) (j : Fin 2048), a1 (ix2 t j) = ((y t j : ℝ) : EReal))
  (h2 : ∀ (t : Fin 8192) (j : Fin 2048), a2 (ix2 t j) = ((c t j : ℝ) : EReal))
  (h3 : ∀ j : Fin 2048, a3 (ix2 0 j) = ((g j : ℝ) : EReal))
  {st : FVec Ideal S128x4x256x512 .f32}
  (hst : ∀ (n : Fin 128) (h : Fin 4) (d : Fin 256) (f : Fin 512), st (ix4 n h d f) = ((stateAt p n h d f : ℝ) : EReal))

include h0 h1 h2 h3

theorem dyC_real (n : Fin 128) (h : Fin 4) (e : Fin 64) (f : Fin 512) :
    dyC a0 a1 a2 a3 (ix4 n h e f) = ((Retention.dy p y c g (n * 64 + e) h f : ℝ) : EReal) := by
  pointwise [dyC]
  exact dy_real h0 h1 h2 h3 _ _ _

theorem within_real (n : Fin 128) (h : Fin 4) (e : Fin 64) (d : Fin 256) : within a0 a1 a2 a3 (ix4 n h e d)
    = ((∑ x ∈ Finset.range 64, (∑ f : Fin 512, Retention.dy p y c g (n * 64 + e) h f * Retention.value p (n * 64 + x) h f)
        * Real.exp (Retention.logGamma h * |(e : ℝ) - x|) * Retention.key p (n * 64 + x) h d : ℝ) : EReal) := by
  pointwise [within, distance, place]
  rw [Finset.sum_range, ← sum_real]
  refine Finset.sum_congr rfl fun x _ => ?_
  rw [nat_real _ (by omega), nat_real _ (by omega), ← EReal.coe_sub, abs_real, logGamma_real, ← EReal.coe_mul, Ideal.exp_coe,
    keyC_real h0, Finset.sum_congr rfl fun f _ => by
      rw [dyC_real h0 h1 h2 h3, valueC_real h0, ← EReal.coe_mul], sum_real, ← EReal.coe_mul, ← EReal.coe_mul]

include hst

theorem carried_real (n : Fin 128) (h : Fin 4) (e : Fin 64) (d : Fin 256) : carried a0 a1 a2 a3 st (ix4 n h e d)
    = (((∑ f : Fin 512, Retention.dy p y c g (n * 64 + e) h f * stateAt p n h d f) * Real.exp (Retention.logGamma h * (e + 1)) : ℝ) : EReal) := by
  pointwise [carried]
  rw [decay_real _ _ after_real, Finset.sum_congr rfl fun f _ => by
    rw [dyC_real h0 h1 h2 h3, hst, ← EReal.coe_mul], sum_real, ← EReal.coe_mul]

theorem dqRot_real (t : Fin 8192) (h : Fin 4) (d : Fin 256) :
    RefQ.dqRot a0 a1 a2 a3 st (ix3 t h d) = ((Retention.dqRot p y c g t h d : ℝ) : EReal) := by
  have ht : t.val = t / 64 * 64 + t % 64 := (Nat.div_add_mod' t.val 64).symm
  pointwise [RefQ.dqRot]
  rw [carried_real h0 h1 h2 h3 hst, within_real h0 h1 h2 h3, ← EReal.coe_add]
  congr 1
  have hr : t.val % 64 < 64 := Nat.mod_lt _ (by norm_num)
  have e := grad_eq (Retention.logGamma h) 1 (t / 64) (t % 64) hr (fun f => Retention.dy p y c g t h f)
    (fun s f => Retention.value p s h f) (fun s => Retention.key p s h d)
  simp only [Nat.mul_one, ← ht] at e
  unfold Retention.dqRot
  refine Eq.trans ?_ e.symm
  rw [add_comm, ← ht]
  refine congrArg₂ (· + ·) (Finset.sum_congr rfl fun x hx => ?_) rfl
  rw [if_pos (by have := Finset.mem_range.mp hx; omega)]

theorem dq_real (t : Fin 8192) (h : Fin 4) (d : Fin 256) :
    RefQ.dqOut a0 a1 a2 a3 st (ix2 t ⟨h * 256 + d, by omega⟩) = ((Retention.dq p y c g t h d : ℝ) : EReal) := by
  pointwise [dqOut, unrotate, lower, upper, heads]
  unfold Retention.dq
  by_cases hd : d.val < 128
  · rw [dif_neg (by omega), dif_pos hd, if_pos hd, zero_add, dqRot_real h0 h1 h2 h3 hst, dqRot_real h0 h1 h2 h3 hst, angle_real,
      Ideal.cos_coe, Ideal.sin_coe, ← EReal.coe_mul, ← EReal.coe_mul, ← EReal.coe_add, add_comm]
  · rw [dif_pos ⟨by omega, by omega⟩, dif_neg hd, if_neg hd, add_zero, dqRot_real h0 h1 h2 h3 hst, dqRot_real h0 h1 h2 h3 hst, angle_real,
      Ideal.cos_coe, Ideal.sin_coe, ← EReal.coe_neg, ← EReal.coe_mul, ← EReal.coe_mul, ← EReal.coe_add, sub_eq_add_neg, neg_mul]

end Cert.RefQ
-- ==== Proof.RetAlg.lean ====
/- The retention's backward kernel and the vector-Jacobian product of the reference's lines end with equal results. -/
module

public import proofs.«01_k».proof.Defs
public import proofs.«01_k».proof.Proof.Basic
public import proofs.«01_k».proof.Proof.RetPre
public import proofs.«01_k».proof.Proof.RetVal
public import proofs.«01_k».proof.Proof.RefQDq
public import proofs.«01_k».proof.Proof.RefQLoop

@[expose] public section

set_option maxRecDepth 16384

noncomputable section

namespace Cert.RetAlg

open Cert.RetQIdeal Cert.RetQIdeal.Gen Cert.RetVal Cert.RetWin Cert.Nat2
open Idealize.ShloMosaic Idealize.ShloMosaic.TcCoe Idealize.SL.Sem

theorem points : cfg0.N = 16 := N_0

/-- Two arrays whose columns are heads side by side are equal if they are equal head by head. -/
theorem ext_heads {N W n : ℕ} {x y : (⟨2, ![N, n]⟩ : Shape).Idx → EReal} (hn : n = 4 * W) (hW : 0 < W)
    (h : ∀ (t : Fin N) (h : Fin 4) (d : Fin W) (hb : h.val * W + d.val < n), x (ix2 t ⟨h * W + d, hb⟩) = y (ix2 t ⟨h * W + d, hb⟩)) : x = y := by
  funext i
  have h1 : (i 1).val < n := (i 1).isLt
  have hq : (i 1).val / W < 4 := Nat.div_lt_of_lt_mul (by rw [Nat.mul_comm, ← hn]; exact h1)
  have e : (i 1).val / W * W + (i 1).val % W = (i 1).val := Nat.div_add_mod' _ _
  have hi : i = ix2 (i 0) ⟨(i 1).val / W * W + (i 1).val % W, by rw [e]; exact h1⟩ := (eq_ix2 i).trans (congrArg _ (Fin.ext e.symm))
  rw [hi]
  exact h (i 0) ⟨_, hq⟩ ⟨_, Nat.mod_lt _ hW⟩ _

section kernel
variable {m : (ℓ : Loc nD τ sig) → Buf (Elt Ideal) ℓ} {c : Dev nD} {p y q : ℕ → ℕ → ℝ} {g b : ℕ → ℝ} (G : Given m c p y q g b)
include G

/-! The kernel's five results in real numbers. -/

theorem dq_final (t : Fin 8192) (h : Fin 4) (d : Fin 256) (hb : h.val * 256 + d.val < 1024) :
    Value.G13 m c (ix2 t ⟨h * 256 + d, hb⟩) = ((Retention.dq p y q g t h d : ℝ) : EReal) := by
  have hp : Value.pt13Of (ix2 t ⟨h * 256 + d, hb⟩) = 4 * h.val + t.val / 2048 := by
    show 1 * (t.val / 2048 - 0) + 4 * ((h.val * 256 + d.val) / 256 - 0) = _
    omega
  have hlt : Value.pt13Of (ix2 t ⟨h * 256 + d, hb⟩) < cfg0.N := by rw [hp, points]; omega
  unfold Value.G13
  rw [dif_pos hlt, ← Value.outsAt0_sweep m c _ hlt]
  refine (at_ix2 _ _ ⟨t.val % 2048, Nat.mod_lt _ (by norm_num)⟩ d rfl ?_).trans (((done_all G _ hlt).dq _ _).trans ?_)
  · show (h.val * 256 + d.val) % 256 = _; omega
  · rw [hp, show 2048 * ((4 * h.val + t.val / 2048) % 4) + t.val % 2048 = t.val by omega, show (4 * h.val + t.val / 2048) / 4 = h.val by omega]

theorem dgate_final (t : Fin 8192) (h : Fin 4) (f : Fin 512) (hb : h.val * 512 + f.val < 2048) :
    Value.G14 m c (ix2 t ⟨h * 512 + f, hb⟩) = ((Retention.dgate p y q g b t h f : ℝ) : EReal) := by
  have hp : Value.pt14Of (ix2 t ⟨h * 512 + f, hb⟩) = 4 * h.val + t.val / 2048 := by
    show 1 * (t.val / 2048 - 0) + 4 * ((h.val * 512 + f.val) / 512 - 0) = _
    omega
  have hlt : Value.pt14Of (ix2 t ⟨h * 512 + f, hb⟩) < cfg0.N := by rw [hp, points]; omega
  unfold Value.G14
  rw [dif_pos hlt, ← Value.outsAt0_sweep m c _ hlt]
  refine (at_ix2 _ _ ⟨t.val % 2048, Nat.mod_lt _ (by norm_num)⟩ f rfl ?_).trans (((done_all G _ hlt).dgate _ _).trans ?_)
  · show (h.val * 512 + f.val) % 512 = _; omega
  · rw [hp, show 2048 * ((4 * h.val + t.val / 2048) % 4) + t.val % 2048 = t.val by omega, show (4 * h.val + t.val / 2048) / 4 = h.val by omega]

theorem dy_final (t : Fin 8192) (h : Fin 4) (f : Fin 512) (hb : h.val * 512 + f.val < 2048) :
    Value.G15 m c (ix2 t ⟨h * 512 + f, hb⟩) = ((Retention.dy p y q g t h f : ℝ) : EReal) := by
  have hp : Value.pt15Of (ix2 t ⟨h * 512 + f, hb⟩) = 4 * h.val + t.val / 2048 := by
    show 1 * (t.val / 2048 - 0) + 4 * ((h.val * 512 + f.val) / 512 - 0) = _
    omega
  have hlt : Value.pt15Of (ix2 t ⟨h * 512 + f, hb⟩) < cfg0.N := by rw [hp, points]; omega
  unfold Value.G15
  rw [dif_pos hlt, ← Value.outsAt0_sweep m c _ hlt]
  refine (at_ix2 _ _ ⟨t.val % 2048, Nat.mod_lt _ (by norm_num)⟩ f rfl ?_).trans (((done_all G _ hlt).dy _ _).trans ?_)
  · show (h.val * 512 + f.val) % 512 = _; omega
  · rw [hp, show 2048 * ((4 * h.val + t.val / 2048) % 4) + t.val % 2048 = t.val by omega, show (4 * h.val + t.val / 2048) / 4 = h.val by omega]

theorem dg_final (z : Fin 1) (h : Fin 4) (f : Fin 512) (hb : h.val * 512 + f.val < 2048) :
    Value.G16 m c (ix2 z ⟨h * 512 + f, hb⟩) = ((∑ t : Fin 8192, Retention.nrm y t h f * Retention.dgn p q t (h * 512 + f) : ℝ) : EReal) := by
  have hp : Value.pt16Of (ix2 z ⟨h * 512 + f, hb⟩) = 4 * h.val + 3 := by
    show 4 * (4 * (z.val / 1 - 0) + 1 * ((h.val * 512 + f.val) / 512 - 0)) + 3 = _
    omega
  have hlt : Value.pt16Of (ix2 z ⟨h * 512 + f, hb⟩) < cfg0.N := by rw [hp, points]; omega
  unfold Value.G16
  rw [dif_pos hlt, ← Value.outsAt0_sweep m c _ hlt]
  refine (at_ix2 _ _ 0 f ?_ ?_).trans (((done_all G _ hlt).upto.gain _).trans ?_)
  · exact Nat.mod_one _
  · show (h.val * 512 + f.val) % 512 = _; omega
  · rw [hp, show (8 * ((4 * h.val + 3) % 4) + 8) * 256 = 8192 by omega, show (4 * h.val + 3) / 4 = h.val by omega, Finset.sum_range]
    exact congrArg _ (Finset.sum_congr rfl fun t _ => mul_comm _ _)

theorem db_final (z : Fin 1) (h : Fin 4) (f : Fin 512) (hb : h.val * 512 + f.val < 2048) :
    Value.G17 m c (ix2 z ⟨h * 512 + f, hb⟩) = ((∑ t : Fin 8192, Retention.dgn p q t (h * 512 + f) : ℝ) : EReal) := by
  have hp : Value.pt17Of (ix2 z ⟨h * 512 + f, hb⟩) = 4 * h.val + 3 := by
    show 4 * (4 * (z.val / 1 - 0) + 1 * ((h.val * 512 + f.val) / 512 - 0)) + 3 = _
    omega
  have hlt : Value.pt17Of (ix2 z ⟨h * 512 + f, hb⟩) < cfg0.N := by rw [hp, points]; omega
  unfold Value.G17
  rw [dif_pos hlt, ← Value.outsAt0_sweep m c _ hlt]
  refine (at_ix2 _ _ 0 f ?_ ?_).trans (((done_all G _ hlt).upto.bias _).trans ?_)
  · exact Nat.mod_one _
  · show (h.val * 512 + f.val) % 512 = _; omega
  · rw [hp, show (8 * ((4 * h.val + 3) % 4) + 8) * 256 = 8192 by omega, show (4 * h.val + 3) / 4 = h.val by omega, Finset.sum_range]
end kernel

/-- A retyped and reshaped array of heads, read in its columns. -/
theorem dyOut_at (a0 : FVec Ideal RefQIdeal.S8192x6144 .bf16) (a1 a2 : FVec Ideal RefQIdeal.S8192x2048 .bf16) (a3 : FVec Ideal RefQIdeal.S1x2048 .f32)
    (t : Fin 8192) (h : Fin 4) (f : Fin 512) (hb : h.val * 512 + f.val < 2048) :
    RefQ.dyOut a0 a1 a2 a3 (ix2 t ⟨h * 512 + f, hb⟩) = RefQ.dy a0 a1 a2 a3 (ix3 t h f) := by
  pointwise [RefQ.dyOut]

/-- The idealized kernel and the reference's vector-Jacobian product end with equal results. -/
theorem algebraic : Cert.algebraic_RetQIdeal_RefQIdeal_pre_ret_q_finite := by
  intro m g m' g' hpre hag
  refine ⟨fun c => Value.G13 m c, fun c => Value.G14 m c, fun c => Value.G15 m c, fun c => Value.G16 m c, fun c => Value.G17 m c,
    Value.run m g, (θ_run Cert.RefQIdeal.defs _ _).mono (fun _ h c => ?_) (Cert.RefQIdeal.Value.run (F := Ideal) m' g')⟩
  obtain ⟨r0, r1, r2, r3, r4, h⟩ := h c
  have G := RetPre.given_of_pre hpre c
  obtain ⟨e0, e1, e2, e3, e4⟩ := hag c
  have hl := RefQ.holds_loop m' c (fun t j => (congrFun e0 _).trans (G.proj t j)) 128 le_rfl
  refine ⟨r0.trans ?_, r1.trans ?_, r2.trans ?_, r3.trans ?_, r4.trans ?_, h⟩
  · rw [RefQ.out_dq, Cert.RefQIdeal.Value.iter_main_arg0, Cert.RefQIdeal.Value.iter_main_arg1, Cert.RefQIdeal.Value.iter_main_arg2,
      Cert.RefQIdeal.Value.iter_main_arg3, e0, e1, e2, e3]
    exact ext_heads (W := 256) rfl (by norm_num) fun t h d hb =>
      (RefQ.dq_real G.proj G.out G.grad G.gain (fun n h d f => hl.past n h d f n.isLt) t h d).trans (dq_final G t h d hb).symm
  · rw [RefQ.out_dgate, Cert.RefQIdeal.Value.iter_main_arg0, Cert.RefQIdeal.Value.iter_main_arg1, Cert.RefQIdeal.Value.iter_main_arg2,
      Cert.RefQIdeal.Value.iter_main_arg3, Cert.RefQIdeal.Value.iter_main_arg4, e0, e1, e2, e3, e4]
    exact ext_heads (W := 512) rfl (by norm_num) fun t h f hb =>
      (RefQ.dgate_real G.proj G.out G.grad G.gain G.bias t h f).trans (dgate_final G t h f hb).symm
  · rw [RefQ.out_dy, Cert.RefQIdeal.Value.iter_main_arg0, Cert.RefQIdeal.Value.iter_main_arg1, Cert.RefQIdeal.Value.iter_main_arg2,
      Cert.RefQIdeal.Value.iter_main_arg3, e0, e1, e2, e3]
    exact ext_heads (W := 512) rfl (by norm_num) fun t h f hb =>
      (dyOut_at _ _ _ _ t h f hb).trans ((RefQ.dy_real G.proj G.out G.grad G.gain t h f).trans (dy_final G t h f hb).symm)
  · rw [RefQ.out_dg, Cert.RefQIdeal.Value.iter_main_arg0, Cert.RefQIdeal.Value.iter_main_arg1, Cert.RefQIdeal.Value.iter_main_arg2, e0, e1, e2]
    exact ext_heads (W := 512) rfl (by norm_num) fun z h f hb => by
      rw [Subsingleton.elim z 0]
      exact (RefQ.dg_real G.proj G.out G.grad h f).trans (dg_final G 0 h f hb).symm
  · rw [RefQ.out_db, Cert.RefQIdeal.Value.iter_main_arg0, Cert.RefQIdeal.Value.iter_main_arg2, e0, e2]
    exact ext_heads (W := 512) rfl (by norm_num) fun z h f hb => by
      rw [Subsingleton.elim z 0]
      exact (RefQ.db_real G.proj G.grad h f).trans (db_final G 0 h f hb).symm

end Cert.RetAlg
-- ==== Proof.NormSpec.lean ====
/- The gradient of a row's scaling by the root of its mean square, over the extended reals: the two ways of writing it
   are equal for every row, finite or not. -/
module

public import proofs.«01_k».proof.Proof.RetReal

@[expose] public section

noncomputable section

namespace Cert.Norm

open Idealize.ShloMosaic Cert.Retention

theorem lit_1024 : Ideal.ofBits FTy.f32 0x44800000#32 = ((1024 : ℝ) : EReal) := by
  simp [Ideal.ofBits, Ideal.ieee, -EReal.coe_mul, -EReal.coe_neg]; norm_num
theorem lit_zero : Ideal.ofBits FTy.f32 0x00000000#32 = 0 := by simp [Ideal.ofBits, Ideal.ieee]
theorem lit_one : Ideal.ofBits FTy.f32 0x3F800000#32 = 1 := by
  refine (show _ = ((1 : ℝ) : EReal) from ?_).trans EReal.coe_one
  simp [Ideal.ofBits, Ideal.ieee, -EReal.coe_mul, -EReal.coe_neg]; norm_num

/-- The mean square of a row, with the small constant. -/
def ms (x : Fin 1024 → EReal) : EReal := Ideal.div (∑ k, x k * x k) ((1024 : ℝ) : EReal) + ((eps : ℝ) : EReal)
/-- One over its root. -/
def ri (x : Fin 1024 → EReal) : EReal := Ideal.rsqrt (ms x)

/-- The gradient with respect to a row `x`, from the gradient `v` with respect to the scaled row, and added to `d`: as the
    kernel writes it. -/
def back (x v : Fin 1024 → EReal) (d : EReal) (k : Fin 1024) : EReal :=
  d + ri x * (v k - x k * ri x * Ideal.div (∑ j, v j * (x j * ri x)) ((1024 : ℝ) : EReal))

/-- The gradient with respect to the sum of squares' every term, as the chain rule writes it. -/
def backSq (x v : Fin 1024 → EReal) : EReal :=
  Ideal.div ((∑ j, x j * v j) * (((-(1 / 2) : ℝ) : EReal) * Ideal.div (ri x) (ms x))) ((1024 : ℝ) : EReal)

theorem mul_add_real {c : ℝ} (hc : 0 ≤ c) (a b : EReal) : (c : EReal) * (a + b) = c * a + c * b :=
  EReal.left_distrib_of_nonneg_of_ne_top (EReal.coe_nonneg.mpr hc) (EReal.coe_ne_top c) a b

theorem mul_sum_real {c : ℝ} (hc : 0 ≤ c) {n : ℕ} (f : Fin n → EReal) : (c : EReal) * ∑ i, f i = ∑ i, (c : EReal) * f i := by
  induction n with
  | zero => simp
  | succ n ih => rw [Fin.sum_univ_succ, Fin.sum_univ_succ, mul_add_real hc, ih]

/-- Twice a multiple. -/
theorem twice_real (a : ℝ) (s : EReal) : (a : EReal) * s + a * s = ((2 * a : ℝ) : EReal) * s := by
  induction s with
  | coe s => rw [← EReal.coe_mul, ← EReal.coe_add, ← EReal.coe_mul, ← two_mul, mul_assoc]
  | bot =>
    rcases lt_trichotomy a 0 with h | rfl | h
    · rw [EReal.coe_mul_bot_of_neg h, EReal.coe_mul_bot_of_neg (by linarith)]; rfl
    · simp
    · rw [EReal.coe_mul_bot_of_pos h, EReal.coe_mul_bot_of_pos (by linarith)]; rfl
  | top =>
    rcases lt_trichotomy a 0 with h | rfl | h
    · rw [EReal.coe_mul_top_of_neg h, EReal.coe_mul_top_of_neg (by linarith)]; rfl
    · simp
    · rw [EReal.coe_mul_top_of_pos h, EReal.coe_mul_top_of_pos (by linarith)]; rfl

theorem sq_nonneg (a : EReal) : 0 ≤ a * a := by
  induction a with
  | coe a => rw [← EReal.coe_mul]; exact EReal.coe_nonneg.mpr (mul_self_nonneg a)
  | bot => exact le_top
  | top => exact le_top

theorem ms_top {x : Fin 1024 → EReal} (k : Fin 1024) (h : x k = ⊤ ∨ x k = ⊥) : ms x = ⊤ := by
  have hk : x k * x k = ⊤ := by rcases h with h | h <;> rw [h] <;> rfl
  have hs : ∑ j, x j * x j = ⊤ := top_le_iff.mp (hk ▸ Finset.single_le_sum (f := fun j => x j * x j) (fun j _ => sq_nonneg (x j)) (Finset.mem_univ k))
  unfold ms
  rw [hs, Ideal.div_coe (by norm_num), EReal.top_mul_coe_of_pos (by norm_num), EReal.top_add_coe]

/-- The two are equal. -/
theorem back_eq (x v : Fin 1024 → EReal) (d : EReal) (k : Fin 1024) :
    d + v k * ri x + x k * backSq x v + backSq x v * x k = back x v d k := by
  by_cases h : ∃ j, x j = ⊤ ∨ x j = ⊥
  · obtain ⟨j, h⟩ := h
    have hm := ms_top j h
    have hr : ri x = 0 := by unfold ri; rw [hm]; rfl
    have hq : backSq x v = 0 := by
      unfold backSq
      rw [hr, Ideal.div_coe (by norm_num), show Ideal.div 0 (ms x) = 0 by rw [hm]; unfold Ideal.div; simp]
      simp
    unfold back
    rw [hq, hr]
    simp
  · have h0 : ∀ j, x j = ((x j).toReal : EReal) := fun j =>
      (EReal.coe_toReal (fun e => h ⟨j, .inl e⟩) (fun e => h ⟨j, .inr e⟩)).symm
    generalize hu : (fun j => (x j).toReal) = u at *
    have hx : x = fun j => ((u j : ℝ) : EReal) := by subst hu; exact funext h0
    clear h h0 hu
    subst hx
    set μ : ℝ := (∑ j, u j * u j) / 1024 + eps with hμ
    have hm : ms (fun j => ((u j : ℝ) : EReal)) = ((μ : ℝ) : EReal) := by
      unfold ms
      simp only [← EReal.coe_mul]
      rw [sum_real, div_real _ _ (by norm_num), ← EReal.coe_add]
    have hpos : 0 < μ := by
      have : 0 ≤ ∑ j, u j * u j := Finset.sum_nonneg fun i _ => mul_self_nonneg _
      have := eps_pos
      positivity
    set ρ : ℝ := (Real.sqrt μ)⁻¹ with hρ
    have hr : ri (fun j => ((u j : ℝ) : EReal)) = ((ρ : ℝ) : EReal) := by unfold ri; rw [hm, rsqrt_real _ hpos]
    have hρ0 : 0 ≤ ρ := inv_nonneg.mpr (Real.sqrt_nonneg _)
    have hρm : ρ * ρ = 1 / μ := by rw [hρ, ← mul_inv, Real.mul_self_sqrt hpos.le, one_div]
    set S : EReal := ∑ j, (u j : EReal) * v j with hS
    have hv : ∑ j, v j * ((u j : EReal) * ρ) = ρ * S := by
      rw [hS, mul_sum_real hρ0]
      exact Finset.sum_congr rfl fun j _ => by ac_rfl
    unfold back backSq
    simp only [hr, hm]
    rw [hv, div_real _ _ hpos.ne', Ideal.div_coe (by norm_num), Ideal.div_coe (by norm_num), sub_eq_add_neg, mul_add_real hρ0]
    have e1 : (ρ : EReal) * -((u k : EReal) * ρ * (ρ * S * ((1 / 1024 : ℝ) : EReal))) = ((-(ρ * (u k * ρ * ρ * (1 / 1024))) : ℝ) : EReal) * S := by
      rw [EReal.coe_neg, neg_mul, mul_neg]
      simp only [EReal.coe_mul]
      exact congrArg _ (by ac_rfl)
    have e2 : (u k : EReal) * (S * (((-(1 / 2) : ℝ) : EReal) * ((ρ / μ : ℝ) : EReal)) * ((1 / 1024 : ℝ) : EReal))
        = ((u k * (-(1 / 2) * (ρ / μ)) * (1 / 1024) : ℝ) : EReal) * S := by
      simp only [EReal.coe_mul]
      ac_rfl
    rw [e1, mul_comm _ (u k : EReal), e2, add_assoc, twice_real, ← add_assoc, mul_comm (v k)]
    congr 3
    rw [show ρ * (u k * ρ * ρ * (1 / 1024)) = ρ * u k * (ρ * ρ) * (1 / 1024) by ring, hρm]
    ring

/-! The gradients of a row of the layer's input, `x`, that the root mean square scales, the gain `g` and the modulation `s`
    scale once more, and that goes past the layer as well; `h` is the gradient with respect to the modulated row, `d` the
    gradient that comes past the layer. The row `x` is a sum, one of whose terms is `y` scaled by a gate `e`. -/

variable (h x g s d y e : Fin 1024 → EReal) (k : Fin 1024)

/-- With respect to `x`. -/
def dX : EReal := back x (fun j => h j * (1 + s j) * g j) (d k) k
/-- One row's terms of the gradients with respect to the modulation's scale, and to the gain. -/
def dS : EReal := h k * (x k * ri x * g k)
def dG : EReal := h k * (1 + s k) * (x k * ri x)
/-- With respect to `y`, and one row's term of the gradient with respect to the gate. -/
def dY : EReal := dX h x g s d k * e k
def dE : EReal := dX h x g s d k * y k

/-- The gradient with respect to a product's row, from the row `p` of the gradient with respect to the product: the weights
    `w` are eight blocks of `n` columns. -/
def dH {N n : ℕ} (hN : N = 8 * n) (hn : 0 < n) (p : Fin N → EReal) (w : (⟨3, ![8, 1024, n]⟩ : Shape).Idx → EReal) (k : Fin 1024) : EReal :=
  ∑ f : Fin N, p f * w (ix3 ⟨f.val / n, Nat.div_lt_of_lt_mul (lt_of_lt_of_eq f.isLt (hN.trans (Nat.mul_comm 8 n)))⟩ k ⟨f.val % n, Nat.mod_lt _ hn⟩)

/-- It is the sum of what the eight blocks give. -/
theorem dH_blocks {N n : ℕ} (hN : N = 8 * n) (hn : 0 < n) (p : Fin N → EReal) (w : (⟨3, ![8, 1024, n]⟩ : Shape).Idx → EReal) (k : Fin 1024)
    (part : Fin 8 → EReal) (hp : ∀ (b : Fin 8) (o : Fin n → Fin N), (∀ i, (o i).val = n * b.val + i.val) → part b = ∑ i, p (o i) * w (ix3 b k i)) :
    dH hN hn p w k = ∑ b, part b := by
  subst hN
  have e : ∀ b, part b = ∑ i : Fin n, (fun f : Fin (8 * n) => p f * w (ix3 ⟨f.val / n, Nat.div_lt_of_lt_mul (lt_of_lt_of_eq f.isLt (Nat.mul_comm 8 n))⟩ k ⟨f.val % n, Nat.mod_lt _ hn⟩))
      (finProdFinEquiv (b, i)) := fun b => by
    refine (hp b (fun i => finProdFinEquiv (b, i)) fun i => ?_).trans (Finset.sum_congr rfl fun i _ => ?_)
    · show i.val + n * b.val = _; omega
    · refine congrArg (fun j => p (finProdFinEquiv (b, i)) * w j) (congrArg₂ (fun x y => ix3 x k y) (Fin.ext ?_) (Fin.ext ?_))
      · show b.val = (i.val + n * b.val) / n
        rw [Nat.add_mul_div_left _ _ hn, Nat.div_eq_of_lt i.isLt, Nat.zero_add]
      · show i.val = (i.val + n * b.val) % n
        rw [Nat.add_mul_mod_self_left, Nat.mod_eq_of_lt i.isLt]
  rw [Finset.sum_congr rfl fun b _ => e b, ← Fintype.sum_prod_type']
  exact (Equiv.sum_comp finProdFinEquiv _).symm

/-- A row of an array. -/
def row {R N : ℕ} (a : (⟨2, ![R, N]⟩ : Shape).Idx → EReal) (r : Fin R) : Fin N → EReal := fun k => a (ix2 r k)

/-- The gradient with respect to the modulated rows; the layer's input, the gain, the modulation's scale, the gradient past the
    layer, the gated term, and the gate. -/
structure In where
  dH : Fin 8192 → Fin 1024 → EReal
  x : (⟨2, ![8192, 1024]⟩ : Shape).Idx → EReal
  g : (⟨2, ![1, 1024]⟩ : Shape).Idx → EReal
  s : (⟨2, ![1, 1024]⟩ : Shape).Idx → EReal
  d : (⟨2, ![8192, 1024]⟩ : Shape).Idx → EReal
  y : (⟨2, ![8192, 1024]⟩ : Shape).Idx → EReal
  e : (⟨2, ![1, 1024]⟩ : Shape).Idx → EReal

namespace In
variable (I : In) (t : Fin 8192) (k : Fin 1024)
def dX : EReal := Norm.dX (I.dH t) (row I.x t) (row I.g 0) (row I.s 0) (row I.d t) k
def dS : EReal := Norm.dS (I.dH t) (row I.x t) (row I.g 0) k
def dG : EReal := Norm.dG (I.dH t) (row I.x t) (row I.s 0) k
def dY : EReal := Norm.dY (I.dH t) (row I.x t) (row I.g 0) (row I.s 0) (row I.d t) (row I.e 0) k
def dE : EReal := Norm.dE (I.dH t) (row I.x t) (row I.g 0) (row I.s 0) (row I.d t) (row I.y t) k
end In

/-- An array by rows and columns, and a row of sums. -/
def ofRows (f : Fin 8192 → Fin 1024 → EReal) : (⟨2, ![8192, 1024]⟩ : Shape).Idx → EReal := fun i => f (i 0) (i 1)
def ofSums (f : Fin 8192 → Fin 1024 → EReal) : (⟨2, ![1, 1024]⟩ : Shape).Idx → EReal := fun i => ∑ t, f t (i 1)

/-! Sums over the first rows of 8192. -/

/-- The sum of the first `n` terms. -/
def upto (F : Fin 8192 → EReal) (n : ℕ) : EReal := ∑ t ∈ Finset.range n, if h : t < 8192 then F ⟨t, h⟩ else 0

theorem upto_zero (F : Fin 8192 → EReal) : upto F 0 = 0 := rfl
theorem upto_step (F : Fin 8192 → EReal) (n : ℕ) (hn : n < 16) :
    upto F (512 * n) + ∑ r : Fin 512, F ⟨512 * n + r, by omega⟩ = upto F (512 * (n + 1)) := by
  unfold upto
  rw [Nat.mul_add, mul_one, Finset.sum_range_add, Finset.sum_range (n := 512)]
  exact congrArg _ (Finset.sum_congr rfl fun r _ => by rw [dif_pos (show 512 * n + r.val < 8192 by omega)])
theorem upto_all (F : Fin 8192 → EReal) : upto F 8192 = ∑ t, F t := by
  unfold upto
  rw [Finset.sum_range]
  exact Finset.sum_congr rfl fun r _ => dif_pos r.isLt

end Cert.Norm
-- ==== Proof.NormPoint.lean ====
/- One grid point of `mlp1_bwd_x` and of `ret_in_bwd_x`, which differ only in the product before: from 512 rows of the gradient
   with respect to the modulated rows, through the norm and the gate before it; and the sums over the points. -/
module

public import proofs.«01_k».proof.Proof.Basic
public import proofs.«01_k».proof.Proof.NormSpec
public import proofs.«01_k».proof.Proof.Gen.MlpOneXIdeal.Skeleton
public import Idealize.ShloMosaic.Lib.Pipeline.ValueKit

@[expose] public section

set_option maxRecDepth 16384

noncomputable section

namespace Cert.Norm

open Cert.MlpOneXIdeal Cert.MlpOneXIdeal.Gen Cert.Nat2 Cert.Retention
open Idealize.ShloMosaic Idealize.ShloMosaic.TcCoe Idealize.SL.Sem

/-! The product: eight loads of the rows' columns against eight blocks of the weights. -/

section product
variable {N n : ℕ} (x0 : FVec Ideal ⟨2, ![512, N]⟩ .bf16) (x1 : FVec Ideal ⟨3, ![8, 1024, n]⟩ .bf16)

/-- `n` columns of the rows, and one of the weights' blocks. -/
def colsOf (o : ℕ) (h : ∀ a, (![0, o] : Fin 2 → ℕ) a + (![512, n] : Fin 2 → ℕ) a ≤ (⟨2, ![512, N]⟩ : Shape).size a) : Vec Ideal ⟨2, ![512, n]⟩ .bf16 :=
  View.ld (Val := Elt Ideal) (e' := .bf16) x0 (Rect.unit (s := ⟨2, ![512, N]⟩) ![0, o] ![512, n] h)
def planeOf (b : ℕ) (h : ∀ a, (![b, 0, 0] : Fin 3 → ℕ) a + (![1, 1024, n] : Fin 3 → ℕ) a ≤ (⟨3, ![8, 1024, n]⟩ : Shape).size a) : Vec Ideal ⟨3, ![1, 1024, n]⟩ .bf16 :=
  View.ld (Val := Elt Ideal) (e' := .bf16) x1 (Rect.unit (s := ⟨3, ![8, 1024, n]⟩) ![b, 0, 0] ![1, 1024, n] h)

/-- `n` columns of a row against one block of the weights. -/
theorem part_at (o : ℕ) (b : Fin 8) (h h') (r : Fin 512) (k : Fin 1024) (f : Fin n → Fin N) (hf : ∀ i, (f i).val = o + i.val) :
    ∑ i : Fin n, colsOf x0 o h (ix2 r i) * planeOf x1 b.val h' (ix3 0 k i) = ∑ i : Fin n, row x0 r (f i) * x1 (ix3 b k i) := by
  refine Finset.sum_congr rfl fun i _ => congrArg₂ _ (congrArg x0 ?_) (congrArg x1 ?_)
  · refine (eq_ix2 _).trans (congrArg₂ ix2 (Fin.ext ?_) (Fin.ext ?_))
    · show 0 + 1 * r.val = r.val; omega
    · show o + 1 * i.val = (f i).val; rw [hf]; omega
  · funext a; apply Fin.ext
    match a with
    | ⟨0, _⟩ => show b.val + 1 * 0 = b.val; omega
    | ⟨1, _⟩ => show 0 + 1 * k.val = k.val; omega
    | ⟨2, _⟩ => show 0 + 1 * i.val = i.val; omega

theorem inb_cols (hN : N = 8 * n) (b : Fin 8) (a : Fin 2) : (![0, n * b.val] : Fin 2 → ℕ) a + (![512, n] : Fin 2 → ℕ) a ≤ (⟨2, ![512, N]⟩ : Shape).size a := by
  match a with
  | ⟨0, _⟩ => exact (Nat.zero_add 512).le
  | ⟨1, _⟩ =>
    show n * b.val + n ≤ N
    rw [hN, ← Nat.mul_succ, Nat.mul_comm 8 n]
    exact Nat.mul_le_mul_left n b.isLt
theorem inb_plane (b : Fin 8) (a : Fin 3) : (![b.val, 0, 0] : Fin 3 → ℕ) a + (![1, 1024, n] : Fin 3 → ℕ) a ≤ (⟨3, ![8, 1024, n]⟩ : Shape).size a := by
  match a with
  | ⟨0, _⟩ => exact b.isLt
  | ⟨1, _⟩ => exact (Nat.zero_add 1024).le
  | ⟨2, _⟩ => exact (Nat.zero_add n).le

/-- The eight products together are one. -/
theorem product_at (hN : N = 8 * n) (hn : 0 < n) (r : Fin 512) (k : Fin 1024) :
    ∑ b : Fin 8, ∑ i : Fin n, colsOf x0 (n * b.val) (inb_cols hN b) (ix2 r i) * planeOf x1 b.val (inb_plane b) (ix3 0 k i)
      = dH hN hn (row x0 r) x1 k :=
  (dH_blocks hN hn (row x0 r) x1 k _ fun b o ho => part_at x0 x1 (n * b.val) b _ _ r k o ho).symm
end product

/-! What the body computes of the blocks it loads. -/

/-- The blocks: the gradient with respect to the modulated rows, the layer's input, the gain, the modulation's scale, the gradient
    past the layer, the gated term, and the gate. -/
structure Blk where
  h : FVec Ideal S512x1024 .f32
  x : FVec Ideal S512x1024 .f32
  g : FVec Ideal S1x1024 .f32
  s : FVec Ideal S1x1024 .f32
  d : FVec Ideal S512x1024 .f32
  y : FVec Ideal S512x1024 .bf16
  e : FVec Ideal S1x1024 .f32

section block
variable (B : Blk) (acc : FVec Ideal S1x1024 .f32) (r : Fin 512) (k : Fin 1024)

def dxB : FVec Ideal S512x1024 .f32 := k0_pay20 B.h (k0_pay12 B.x) (k0_pay13 B.x) B.g B.s B.d
def scB : FVec Ideal S512x1024 .f32 := mulf B.h (mulf (k0_pay13 B.x) (broadcastTo S512x1024 B.g broadcasts_S1x1024_S512x1024))

theorem ri_at (x : FVec Ideal S512x1024 .f32) : k0_pay12 (F := Ideal) x (ix2 r 0) = ri (row x r) := by
  pointwise [k0_pay12]
  rw [lit_1024, lit_eps]
  rfl
theorem dxB_at : dxB B (ix2 r k) = dX (row B.h r) (row B.x r) (row B.g 0) (row B.s 0) (row B.d r) k := by
  pointwise [dxB, k0_pay20, k0_pay18, k0_pay13]
  simp only [ri_at, lit_1024]
  rfl
theorem scB_at : scB B (ix2 r k) = dS (row B.h r) (row B.x r) (row B.g 0) k := by
  pointwise [scB, k0_pay13]
  rw [ri_at]
  rfl

/-! What each store of a result writes. -/

theorem ds_at (x : FVec Ideal S512x1024 .f32) : k0_pay16 (F := Ideal) acc x (ix2 0 k) = acc (ix2 0 k) + ∑ r : Fin 512, x (ix2 r k) := by
  pointwise [k0_pay16]
theorem dsh_at : k0_pay17 (F := Ideal) B.h acc (ix2 0 k) = acc (ix2 0 k) + ∑ r : Fin 512, row B.h r k := by
  pointwise [k0_pay17]
  rfl
theorem dg_at : k0_pay19 (F := Ideal) B.h (k0_pay13 B.x) B.s acc (ix2 0 k)
    = acc (ix2 0 k) + ∑ r : Fin 512, dG (row B.h r) (row B.x r) (row B.s 0) k := by
  pointwise [k0_pay19, k0_pay18, k0_pay13]
  exact congrArg _ (Finset.sum_congr rfl fun r _ => by rw [ri_at]; rfl)
theorem dy_at : k0_pay4 (F := Ideal) (dxB B) B.e (ix2 r k)
    = dY (row B.h r) (row B.x r) (row B.g 0) (row B.s 0) (row B.d r) (row B.e 0) k := by
  pointwise [k0_pay4, k0_pay3]
  rw [dxB_at]
  rfl
theorem db_at : k0_pay6 (F := Ideal) (dxB B) B.e acc (ix2 0 k)
    = acc (ix2 0 k) + ∑ r : Fin 512, dY (row B.h r) (row B.x r) (row B.g 0) (row B.s 0) (row B.d r) (row B.e 0) k := by
  pointwise [k0_pay6, k0_pay3]
  exact congrArg _ (Finset.sum_congr rfl fun r _ => by rw [dxB_at]; rfl)
theorem de_at : k0_pay5 (F := Ideal) (dxB B) acc B.y (ix2 0 k)
    = acc (ix2 0 k) + ∑ r : Fin 512, dE (row B.h r) (row B.x r) (row B.g 0) (row B.s 0) (row B.d r) (row B.y r) k := by
  pointwise [k0_pay5]
  exact congrArg _ (Finset.sum_congr rfl fun r _ => by rw [dxB_at]; rfl)
end block

/-! The sums over the points. -/

/-- The seven outputs of a point: two blocks of rows, and five sums. -/
abbrev Outs := FVec Ideal S512x1024 .f32 × FVec Ideal S1x1024 .f32 × FVec Ideal S1x1024 .f32 × FVec Ideal S1x1024 .f32
  × FVec Ideal S512x1024 .bf16 × FVec Ideal S1x1024 .f32 × FVec Ideal S1x1024 .f32

/-- What a point computes of its blocks and of the sums before it. -/
def body (B : Blk) (s1 s2 s3 s5 s6 : FVec Ideal S1x1024 .f32) : Outs :=
  (dxB B, k0_pay16 s1 (scB B), k0_pay17 B.h s2, k0_pay19 B.h (k0_pay13 B.x) B.s s3, k0_pay4 (dxB B) B.e, k0_pay5 (dxB B) s5 B.y,
    k0_pay6 (dxB B) B.e s6)

theorem cast_same (x : FVec Ideal S1x1024 .f32) : k0_pay14 x = x := by
  funext i
  pointwise [k0_pay14]

/-- The blocks hold the rows of point `n`, and the vectors. -/
structure Fits (I : In) (n : ℕ) (B : Blk) : Prop where
  rows : ∀ (r : Fin 512) (i : Fin 8192), i.val = 512 * n + r.val →
    row B.h r = I.dH i ∧ row B.x r = row I.x i ∧ row B.d r = row I.d i ∧ row B.y r = row I.y i
  g : row B.g 0 = row I.g 0
  s : row B.s 0 = row I.s 0
  e : row B.e 0 = row I.e 0

/-- The sums over the rows before the point `n`. -/
structure Sums (I : In) (n : ℕ) (s1 s2 s3 s5 s6 : FVec Ideal S1x1024 .f32) : Prop where
  ds : ∀ k, s1 (ix2 0 k) = upto (fun i => I.dS i k) (512 * n)
  dsh : ∀ k, s2 (ix2 0 k) = upto (fun i => I.dH i k) (512 * n)
  dg : ∀ k, s3 (ix2 0 k) = upto (fun i => I.dG i k) (512 * n)
  de : ∀ k, s5 (ix2 0 k) = upto (fun i => I.dE i k) (512 * n)
  db : ∀ k, s6 (ix2 0 k) = upto (fun i => I.dY i k) (512 * n)

/-- What a point leaves: the gradients of its rows, and the sums up to its last row. -/
structure Done (I : In) (n : ℕ) (x : Outs) : Prop where
  dx : ∀ (r : Fin 512) (i : Fin 8192) (k : Fin 1024), i.val = 512 * n + r.val → x.1 (ix2 r k) = I.dX i k
  dy : ∀ (r : Fin 512) (i : Fin 8192) (k : Fin 1024), i.val = 512 * n + r.val → x.2.2.2.2.1 (ix2 r k) = I.dY i k
  sums : Sums I (n + 1) x.2.1 x.2.2.1 x.2.2.2.1 x.2.2.2.2.2.1 x.2.2.2.2.2.2

/-- What the first point starts from. -/
abbrev zeroRow : FVec Ideal S1x1024 .f32 := k0_pay9

theorem zero_at (k : Fin 1024) : zeroRow (ix2 0 k) = 0 := by
  pointwise [k0_pay9]

theorem sums_zero (I : In) : Sums I 0 zeroRow zeroRow zeroRow zeroRow zeroRow :=
  ⟨zero_at, zero_at, zero_at, zero_at, zero_at⟩

/-- One point more. -/
theorem done_body {I : In} {n : ℕ} (hn : n < 16) {B : Blk} (fits : Fits I n B) {s1 s2 s3 s5 s6 : FVec Ideal S1x1024 .f32}
    (h : Sums I n s1 s2 s3 s5 s6) : Done I n (body B s1 s2 s3 s5 s6) := by
  have step (F : Fin 8192 → EReal) (f : Fin 512 → EReal) (hf : ∀ (r : Fin 512) (i : Fin 8192), i.val = 512 * n + r.val → f r = F i) :
      upto F (512 * n) + ∑ r, f r = upto F (512 * (n + 1)) :=
    (congrArg _ (Finset.sum_congr rfl fun r _ => hf r ⟨512 * n + r, by omega⟩ rfl)).trans (upto_step F n hn)
  obtain ⟨rows, hg, hs, he⟩ := fits
  refine ⟨fun r i k hi => ?_, fun r i k hi => ?_, fun k => ?_, fun k => ?_, fun k => ?_, fun k => ?_, fun k => ?_⟩
  · obtain ⟨e1, e2, e3, -⟩ := rows r i hi
    refine (dxB_at _ r k).trans ?_
    rw [e1, e2, e3, hg, hs]
    rfl
  · obtain ⟨e1, e2, e3, -⟩ := rows r i hi
    refine (dy_at _ r k).trans ?_
    rw [e1, e2, e3, hg, hs, he]
    rfl
  · refine (ds_at _ k _).trans ((congrArg (· + _) (h.ds k)).trans (step _ _ fun r i hi => ?_))
    obtain ⟨e1, e2, -⟩ := rows r i hi
    rw [scB_at, e1, e2, hg]
    rfl
  · refine (dsh_at _ _ k).trans ((congrArg (· + _) (h.dsh k)).trans (step _ _ fun r i hi => ?_))
    rw [(rows r i hi).1]
  · refine (dg_at _ _ k).trans ((congrArg (· + _) (h.dg k)).trans (step _ _ fun r i hi => ?_))
    obtain ⟨e1, e2, -⟩ := rows r i hi
    rw [e1, e2, hs]
    rfl
  · refine (de_at _ _ k).trans ((congrArg (· + _) (h.de k)).trans (step _ _ fun r i hi => ?_))
    obtain ⟨e1, e2, e3, e4⟩ := rows r i hi
    rw [e1, e2, e3, e4, hg, hs]
    rfl
  · refine (db_at _ _ k).trans ((congrArg (· + _) (h.db k)).trans (step _ _ fun r i hi => ?_))
    obtain ⟨e1, e2, e3, -⟩ := rows r i hi
    rw [e1, e2, e3, hg, hs, he]
    rfl

/-! Entries of the blocks, in the arrays. -/

/-- An entry of a block of rows, in the array. -/
theorem row_done {n : ℕ} {x : FVec Ideal S512x1024 .f32} {f : Fin 8192 → Fin 1024 → EReal}
    (h : ∀ (r : Fin 512) (i : Fin 8192) (k : Fin 1024), i.val = 512 * n + r.val → x (ix2 r k) = f i k)
    (y : S512x1024.Idx) (i : S8192x1024.Idx) (h0 : (i 0).val = 512 * n + (y 0).val) (h1 : (i 1).val = (y 1).val) :
    x y = ofRows f i := by
  rw [eq_ix2 y]
  exact (h (y 0) (i 0) (y 1) h0).trans (congrArg (f (i 0)) (Fin.ext h1.symm))

/-- A sum, after the last point. -/
theorem sum_done {n : ℕ} {x : FVec Ideal S1x1024 .f32} {f : Fin 8192 → Fin 1024 → EReal}
    (h : ∀ k, x (ix2 0 k) = upto (fun i => f i k) (512 * (n + 1))) (hn : n = 15)
    (y i : S1x1024.Idx) (h1 : (i 1).val = (y 1).val) : x y = ofSums f i := by
  subst hn
  have h0 : y 0 = (0 : Fin 1) := Subsingleton.elim (α := Fin 1) _ _
  rw [eq_ix2 y, h0]
  exact (h (y 1)).trans ((upto_all _).trans (congrArg (fun k => ∑ t, f t k) (Fin.ext h1.symm)))

end Cert.Norm

end
-- ==== Proof.MlpDxVal.lean ====
/- What `mlp1_bwd_x` leaves after each of its grid points, and its seven results. -/
module

public import proofs.«01_k».proof.Proof.NormPoint
public import proofs.«01_k».proof.Proof.Gen.MlpOneXIdeal.Value

@[expose] public section

set_option maxRecDepth 16384

noncomputable section

namespace Cert.MlpDx

open Cert.MlpOneXIdeal Cert.MlpOneXIdeal.Gen Cert.Nat2 Cert.Norm Cert.Retention
open Idealize.ShloMosaic Idealize.ShloMosaic.TcCoe Idealize.SL.Sem
open Idealize.ShloMosaic.Pipeline (Dat)

theorem points : cfg0.N = 16 := N_0

/-- The gradient with respect to 512 modulated rows: 4096 columns, in eight products. -/
def dhB (x0 : FVec Ideal S512x4096 .bf16) (x1 : FVec Ideal S8x1024x512 .bf16) : FVec Ideal S512x1024 .f32 := k0_pay8
  (k0_pay7 (colsOf x0 0 inb_S512x4096_S512x512_0_0) (planeOf x1 0 inb_S8x1024x512_S1x1024x512_0_0_0)
    (colsOf x0 512 inb_S512x4096_S512x512_0_512) (planeOf x1 1 inb_S8x1024x512_S1x1024x512_1_0_0)
    (colsOf x0 1024 inb_S512x4096_S512x512_0_1024) (planeOf x1 2 inb_S8x1024x512_S1x1024x512_2_0_0)
    (colsOf x0 1536 inb_S512x4096_S512x512_0_1536) (planeOf x1 3 inb_S8x1024x512_S1x1024x512_3_0_0)
    (colsOf x0 2048 inb_S512x4096_S512x512_0_2048) (planeOf x1 4 inb_S8x1024x512_S1x1024x512_4_0_0))
  (colsOf x0 2560 inb_S512x4096_S512x512_0_2560) (planeOf x1 5 inb_S8x1024x512_S1x1024x512_5_0_0)
  (colsOf x0 3072 inb_S512x4096_S512x512_0_3072) (planeOf x1 6 inb_S8x1024x512_S1x1024x512_6_0_0)
  (colsOf x0 3584 inb_S512x4096_S512x512_0_3584) (planeOf x1 7 inb_S8x1024x512_S1x1024x512_7_0_0)

theorem dhB_at (x0 : FVec Ideal S512x4096 .bf16) (x1 : FVec Ideal S8x1024x512 .bf16) (r : Fin 512) :
    row (dhB x0 x1) r = dH rfl (by norm_num) (row x0 r) x1 := by
  funext k
  rw [← product_at x0 x1 rfl (by norm_num) r k, Fin.sum_univ_eight]
  show dhB x0 x1 (ix2 r k) = _
  pointwise [dhB, k0_pay8, k0_pay7]

variable (m : (ℓ : Loc nD τ sig) → Buf (Elt Ideal) ℓ) (c : Dev nD)

/-- The blocks of a point. -/
def blkOf (t : Fin cfg0.N) : Blk :=
  ⟨dhB (iblk m c 0 t) (iblk m c 1 t), iblk m c 2 t, iblk m c 3 t, iblk m c 4 t, iblk m c 5 t, iblk m c 6 t, iblk m c 7 t⟩

theorem outs_A (t : Fin cfg0.N) (h0 : t.val % 16 = 0) :
    outsAt0 m c t.val t.isLt = body (blkOf m c t) zeroRow zeroRow zeroRow zeroRow zeroRow := by
  rw [outsAt0_A m c t h0 h0]
  refine Prod.ext ?_ (Prod.ext ?_ (Prod.ext ?_ (Prod.ext ?_ (Prod.ext ?_ (Prod.ext ?_ ?_)))))
  all_goals frame_out
  · rfl
  · rw [cast_same]; rfl
  all_goals rfl

theorem outs_B (t : Fin cfg0.N) (h0 : ¬t.val % 16 = 0) (hp : t.val - 1 < cfg0.N) :
    outsAt0 m c t.val t.isLt = body (blkOf m c t) (outsAt0 m c (t.val - 1) hp).2.1 (outsAt0 m c (t.val - 1) hp).2.2.1
      (outsAt0 m c (t.val - 1) hp).2.2.2.1 (outsAt0 m c (t.val - 1) hp).2.2.2.2.2.1 (outsAt0 m c (t.val - 1) hp).2.2.2.2.2.2 := by
  rw [outsAt0_B m c t h0 h0]
  refine Prod.ext ?_ (Prod.ext ?_ (Prod.ext ?_ (Prod.ext ?_ (Prod.ext ?_ (Prod.ext ?_ ?_)))))
  all_goals frame_out
  · rfl
  · rw [cast_same]; rfl
  all_goals rfl

/-! The windows: point `t` takes the rows from `512 * t` on, and the weights and vectors whole. -/

theorem rows_at : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_8.index t 0 = t.val ∧ win0_8.index t 1 = 0) ∧ win0_12.index t 0 = t.val ∧ win0_12.index t 1 = 0 :=
  (by decide +kernel : ∀ t : Fin grid0.N, _)
theorem whole_at : ∀ t : Fin cfg0.N, (win0_1.index t 0 = 0 ∧ win0_1.index t 1 = 0 ∧ win0_1.index t 2 = 0) ∧ (win0_3.index t 0 = 0 ∧ win0_3.index t 1 = 0)
    ∧ (win0_4.index t 0 = 0 ∧ win0_4.index t 1 = 0) ∧ (win0_7.index t 0 = 0 ∧ win0_7.index t 1 = 0)
    ∧ (win0_9.index t 0 = 0 ∧ win0_9.index t 1 = 0) ∧ (win0_10.index t 0 = 0 ∧ win0_10.index t 1 = 0) ∧ (win0_11.index t 0 = 0 ∧ win0_11.index t 1 = 0)
    ∧ (win0_13.index t 0 = 0 ∧ win0_13.index t 1 = 0) ∧ win0_14.index t 0 = 0 ∧ win0_14.index t 1 = 0 :=
  (by decide +kernel : ∀ t : Fin grid0.N, _)

/-- The kernel's arguments. -/
def inOf : In where
  dH := fun t => Norm.dH (N := 4096) (n := 512) rfl (by norm_num) (row (m ((c : Thread nD τ).loc main_arg0)) t) (m ((c : Thread nD τ).loc main_arg1))
  x := m ((c : Thread nD τ).loc main_arg2)
  g := m ((c : Thread nD τ).loc main_arg3)
  s := m ((c : Thread nD τ).loc main_arg4)
  d := m ((c : Thread nD τ).loc main_arg5)
  y := m ((c : Thread nD τ).loc main_arg6)
  e := m ((c : Thread nD τ).loc main_arg7)

theorem weights (t : Fin cfg0.N) : iblk m c 1 t = m ((c : Thread nD τ).loc main_arg1) := by
  funext j
  refine congrArg (m ((c : Thread nD τ).loc main_arg1)) (funext fun a => Fin.ext ?_)
  obtain ⟨⟨e0, e1, e2⟩, -⟩ := whole_at t
  match a with
  | ⟨0, _⟩ => show win0_1.index t 0 * 8 + 1 * (j 0).val = (j 0).val; omega
  | ⟨1, _⟩ => show win0_1.index t 1 * 1024 + 1 * (j 1).val = (j 1).val; omega
  | ⟨2, _⟩ => show win0_1.index t 2 * 512 + 1 * (j 2).val = (j 2).val; omega

/-- The blocks of a point hold its rows. -/
theorem fits (t : Fin cfg0.N) : Fits (inOf m c) t.val (blkOf m c t) := by
  have hr := rows_at t
  have hw := whole_at t
  refine ⟨fun r i hi => ⟨(dhB_at _ _ r).trans ?_, ?_, ?_, ?_⟩, ?_, ?_, ?_⟩
  · have e : row (iblk m c 0 t) r = row (m ((c : Thread nD τ).loc main_arg0)) i :=
      funext fun k => at_ix2 (m ((c : Thread nD τ).loc main_arg0)) _ _ _ (by blk_simp; omega) (by blk_simp; omega)
    rw [e, weights]
    rfl
  · exact funext fun k => at_ix2 (m ((c : Thread nD τ).loc main_arg2)) _ _ _ (by blk_simp; omega) (by blk_simp; omega)
  · exact funext fun k => at_ix2 (m ((c : Thread nD τ).loc main_arg5)) _ _ _ (by blk_simp; omega) (by blk_simp; omega)
  · exact funext fun k => at_ix2 (m ((c : Thread nD τ).loc main_arg6)) _ _ _ (by blk_simp; omega) (by blk_simp; omega)
  · exact funext fun k => at_ix2 (m ((c : Thread nD τ).loc main_arg3)) _ _ _ (by blk_simp; omega) (by blk_simp; omega)
  · exact funext fun k => at_ix2 (m ((c : Thread nD τ).loc main_arg4)) _ _ _ (by blk_simp; omega) (by blk_simp; omega)
  · exact funext fun k => at_ix2 (m ((c : Thread nD τ).loc main_arg7)) _ _ _ (by blk_simp; omega) (by blk_simp; omega)

/-- Every point leaves what it should. -/
theorem done_all : ∀ (n : ℕ) (hn : n < cfg0.N), Done (inOf m c) n (outsAt0 m c n hn)
  | 0, hn => by
    rw [outs_A m c ⟨0, hn⟩ rfl]
    exact done_body (by norm_num) (fits m c ⟨0, hn⟩) (sums_zero _)
  | n + 1, hn => by
    have h16 := lt_of_lt_of_eq hn points
    rw [outs_B m c ⟨n + 1, hn⟩ (by dsimp only; omega) (Nat.lt_of_succ_lt hn)]
    exact done_body h16 (fits m c ⟨n + 1, hn⟩) (done_all n (Nat.lt_of_succ_lt hn)).sums

/-! The result arrays. -/

theorem last_only : ∀ t : Fin cfg0.N, ((cfg0.win 9).flush t = true → t.val = 15) ∧ ((cfg0.win 10).flush t = true → t.val = 15)
    ∧ ((cfg0.win 11).flush t = true → t.val = 15) ∧ ((cfg0.win 13).flush t = true → t.val = 15) ∧ ((cfg0.win 14).flush t = true → t.val = 15) :=
  (by decide +kernel : ∀ t : Fin cfg0.N, _)

theorem final8 : (dats m 0 c).arrAt 8 cfg0.N = ofRows (inOf m c).dX := by
  refine (dats m 0 c).arrAt_eq_of_covers 8 _ (by decide +kernel) fun t _ y => ?_
  have hr := rows_at t
  rw [after0_8]
  exact row_done (done_all m c t.val t.isLt).dx y _ (by blk_simp; omega) (by blk_simp; omega)

theorem final9 : (dats m 0 c).arrAt 9 cfg0.N = ofSums (inOf m c).dS := by
  refine (dats m 0 c).arrAt_eq_of_covers 9 _ (by decide +kernel) fun t hf y => ?_
  have hw := whole_at t
  rw [after0_9]
  exact sum_done (done_all m c t.val t.isLt).sums.ds ((last_only t).1 hf) y _ (by blk_simp; omega)

theorem final10 : (dats m 0 c).arrAt 10 cfg0.N = ofSums (inOf m c).dH := by
  refine (dats m 0 c).arrAt_eq_of_covers 10 _ (by decide +kernel) fun t hf y => ?_
  have hw := whole_at t
  rw [after0_10]
  exact sum_done (done_all m c t.val t.isLt).sums.dsh ((last_only t).2.1 hf) y _ (by blk_simp; omega)

theorem final11 : (dats m 0 c).arrAt 11 cfg0.N = ofSums (inOf m c).dG := by
  refine (dats m 0 c).arrAt_eq_of_covers 11 _ (by decide +kernel) fun t hf y => ?_
  have hw := whole_at t
  rw [after0_11]
  exact sum_done (done_all m c t.val t.isLt).sums.dg ((last_only t).2.2.1 hf) y _ (by blk_simp; omega)

theorem final12 : (dats m 0 c).arrAt 12 cfg0.N = ofRows (inOf m c).dY := by
  refine (dats m 0 c).arrAt_eq_of_covers 12 _ (by decide +kernel) fun t _ y => ?_
  have hr := rows_at t
  rw [after0_12]
  exact row_done (done_all m c t.val t.isLt).dy y _ (by blk_simp; omega) (by blk_simp; omega)

theorem final13 : (dats m 0 c).arrAt 13 cfg0.N = ofSums (inOf m c).dE := by
  refine (dats m 0 c).arrAt_eq_of_covers 13 _ (by decide +kernel) fun t hf y => ?_
  have hw := whole_at t
  rw [after0_13]
  exact sum_done (done_all m c t.val t.isLt).sums.de ((last_only t).2.2.2.1 hf) y _ (by blk_simp; omega)

theorem final14 : (dats m 0 c).arrAt 14 cfg0.N = ofSums (inOf m c).dY := by
  refine (dats m 0 c).arrAt_eq_of_covers 14 _ (by decide +kernel) fun t hf y => ?_
  have hw := whole_at t
  rw [after0_14]
  exact sum_done (done_all m c t.val t.isLt).sums.db ((last_only t).2.2.2.2 hf) y _ (by blk_simp; omega)

end Cert.MlpDx

end
-- ==== Proof.NormRef.lean ====
/- What the references of `mlp1_bwd_x` and of `ret_in_bwd_x` return, entry by entry: as functions of the gradient with respect
   to the modulated rows, which is each one's own product. -/
module

public import proofs.«01_k».proof.RefOneXIdeal
public import proofs.«01_k».proof.Proof.Gen.RefOneXIdeal.Read
public import proofs.«01_k».proof.Proof.NormSpec

@[expose] public section

set_option maxRecDepth 16384

noncomputable section

namespace Cert.NormRef

open Cert.RefOneXIdeal Cert.RefOneXIdeal.Gen Cert.RefOneXIdeal.Read Cert.Norm Cert.Retention
open Idealize.ShloMosaic Idealize.ShloMosaic.TcCoe Idealize.SL.Sem

/-! Sums along axes of length one. -/

theorem lone {s t : Shape} {axes : List (Fin s.rank)} (h : s.ReducesTo axes t) (v : s.Idx → EReal) (b : EReal) (j : t.Idx) (i : s.Idx)
    (hi : ∀ k, h.drop k = j ↔ k = i) : Ideal.hostReduceAdd h v b j = b + v i := by
  refine congrArg (b + ·) ((Finset.sum_congr ?_ fun _ _ => rfl).trans (Finset.sum_singleton v i))
  ext k
  simp [hi]

theorem lone_outer (h : S1x1x1024.ReducesTo [0, 1] S1024) (v : S1x1x1024.Idx → EReal) (b : EReal) (j : S1024.Idx) :
    Ideal.hostReduceAdd h v b j = b + v (ix3 0 0 (j 0)) := by
  refine lone h v b j _ fun k => ⟨fun e => ?_, fun e => ?_⟩
  · funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0))
  · subst e
    funext a
    match a with
    | ⟨0, _⟩ => rfl

theorem lone_ends (h : S1x8192x1.ReducesTo [0, 2] S8192) (v : S1x8192x1.Idx → EReal) (b : EReal) (j : S8192.Idx) :
    Ideal.hostReduceAdd h v b j = b + v (ix3 0 (j 0) 0) := by
  refine lone h v b j _ fun k => ⟨fun e => ?_, fun e => ?_⟩
  · funext a
    match a with
    | ⟨0, _⟩ => exact Subsingleton.elim (α := Fin 1) _ _
    | ⟨1, _⟩ => exact Fin.ext (congrArg Fin.val (congrFun e 0))
    | ⟨2, _⟩ => exact Subsingleton.elim (α := Fin 1) _ _
  · subst e
    funext a
    match a with
    | ⟨0, _⟩ => rfl

/-! The stages that follow the product, whose result is `h`. -/

section stages
variable (h : FVec Ideal S1x8192x1024 .f32) (x : FVec Ideal S8192x1024 .f32) (g s : FVec Ideal S1x1024 .f32)
  (d : FVec Ideal S8192x1024 .f32) (y : FVec Ideal S8192x1024 .bf16) (e : FVec Ideal S1x1024 .f32)

/-- The sums over the rows. -/
def sumsOf (a : FVec Ideal S1x8192x1024 .f32) : FVec Ideal S1x1024 .f32 :=
  broadcastInDim S1x1024 ![1] bcast_S1024_S1x1024_1 (Host.reduceAdd (shapeCast _
    (Host.reduceAdd a (val_main_cst_5 (F := Ideal)) reducesTo_S1x8192x1024_S1x1024_d1 h_S_) shapeCasts_S1x1024_S1x1x1024)
    (val_main_cst_6 (F := Ideal)) reducesTo_S1x1x1024_S1024_d0_1 h_S_)

/-- The gradients with respect to the layer's output before its modulation, and to its input before the row's factor. -/
def uS : FVec Ideal S1x8192x1024 .f32 := mulf h (val_main_v44 (F := Ideal) s)
def vS : FVec Ideal S1x8192x1024 .f32 := mulf (uS h s) (val_main_v51 (F := Ideal) g)

/-- The gradient with respect to the terms of the sum of squares. -/
def sqS : FVec Ideal S1x8192x1 .f32 := Host.divf (mulf (shapeCast _ (Host.reduceAdd (mulf (val_main_v7 (F := Ideal) x) (vS h g s))
  (val_main_cst_11 (F := Ideal)) reducesTo_S1x8192x1024_S1x8192_d2 h_S_) shapeCasts_S1x8192_S1x8192x1) (val_main_v20 (F := Ideal) x)) (val_main_v61 (F := Ideal))
def spreadS : FVec Ideal S1x8192x1024 .f32 := broadcastInDim S1x8192x1024 ![0, 1] bcast_S1x8192_S1x8192x1024_0_1 (broadcastInDim S1x8192 ![1]
  bcast_S8192_S1x8192_1 (Host.reduceAdd (sqS h x g s) (val_main_cst_13 (F := Ideal)) reducesTo_S1x8192x1_S8192_d0_2 h_S_))

def dxS : FVec Ideal S1x8192x1024 .f32 := addf (addf (addf (val_main_v35 (F := Ideal) d) (mulf (vS h g s) (val_main_v57 (F := Ideal) x)))
  (mulf (val_main_v7 (F := Ideal) x) (spreadS h x g s))) (mulf (spreadS h x g s) (val_main_v7 (F := Ideal) x))
def dyS : FVec Ideal S1x8192x1024 .f32 := mulf (val_main_v77 (F := Ideal) e) (dxS h x g s d)
def dsS : FVec Ideal S1x8192x1024 .f32 := mulf (val_main_v25 (F := Ideal) x g) h
def dgS : FVec Ideal S1x8192x1024 .f32 := mulf (val_main_v22 (F := Ideal) x) (uS h s)
def deS : FVec Ideal S1x8192x1024 .f32 := mulf (dxS h x g s d) (val_main_v74 (F := Ideal) y)
end stages

variable (I : In) (t : Fin 8192) (k : Fin 1024) {h : FVec Ideal S1x8192x1024 .f32} (hh : ∀ t k, h (ix3 0 t k) = I.dH t k)

theorem lit_half : Ideal.ofBits FTy.f32 0xBF000000#32 = ((-(1 / 2) : ℝ) : EReal) := by
  simp [Ideal.ofBits, Ideal.ieee, -EReal.coe_mul, -EReal.coe_neg]; norm_num

theorem ms_at : val_main_v16 (F := Ideal) I.x (ix3 0 t 0) = ms (row I.x t) := by
  pointwise [val_main_v16, val_main_v14, val_main_v12, val_main_v11, val_main_v10, val_main_v7, val_main_cst_0, val_main_v13, val_main_cst_1,
    val_main_v15, val_main_cst_2]
  rw [lit_1024, lit_eps]
  rfl

theorem ri_at : val_main_v17 (F := Ideal) I.x (ix3 0 t 0) = ri (row I.x t) := by
  pointwise [val_main_v17]
  exact congrArg _ (ms_at I t)

theorem coeff_at : val_main_v20 (F := Ideal) I.x (ix3 0 t 0) = ((-(1 / 2) : ℝ) : EReal) * Ideal.div (ri (row I.x t)) (ms (row I.x t)) := by
  pointwise [val_main_v20, val_main_v19, val_main_v18, val_main_cst_3]
  rw [lit_half, ri_at, ms_at]

theorem gain_at : val_main_v24 (F := Ideal) I.g (ix3 0 t k) = row I.g 0 k := by
  pointwise [val_main_v24, val_main_v23, val_main_v8]
  rfl

theorem scale_at : val_main_v29 (F := Ideal) I.s (ix3 0 t k) = 1 + row I.s 0 k := by
  pointwise [val_main_v29, val_main_v28, val_main_v27, val_main_v26, val_main_cst_4]
  rfl

/-- The layer's input, scaled by the row's factor. -/
theorem hat_at : val_main_v22 (F := Ideal) I.x (ix3 0 t k) = row I.x t k * ri (row I.x t) := by
  pointwise [val_main_v22, val_main_v21, val_main_v7]
  rw [ri_at]
  rfl

/-! From the product on. -/

include hh

theorem u_at : uS h I.s (ix3 0 t k) = I.dH t k * (1 + row I.s 0 k) := by
  pointwise [uS]
  rw [hh]
  exact congrArg _ (scale_at I t k)

theorem v_at : vS h I.g I.s (ix3 0 t k) = I.dH t k * (1 + row I.s 0 k) * row I.g 0 k := by
  pointwise [vS, val_main_v51, val_main_v23, val_main_v8]
  rw [u_at I t k hh]
  rfl

theorem sq_at : sqS h I.x I.g I.s (ix3 0 t 0) = backSq (row I.x t) (fun j => I.dH t j * (1 + row I.s 0 j) * row I.g 0 j) := by
  pointwise [sqS, val_main_v7, val_main_cst_11, val_main_v61, val_main_cst_12]
  simp only [v_at I t _ hh, coeff_at, lit_1024]
  rfl

theorem spread_at : spreadS h I.x I.g I.s (ix3 0 t k) = backSq (row I.x t) (fun j => I.dH t j * (1 + row I.s 0 j) * row I.g 0 j) := by
  pointwise [spreadS, lone_ends, val_main_cst_13]
  exact sq_at I t hh

theorem dx_at : dxS h I.x I.g I.s I.d (ix3 0 t k) = I.dX t k := by
  pointwise [dxS, val_main_v57, val_main_v35, val_main_v7]
  rw [spread_at I t k hh, v_at I t k hh, ri_at]
  exact back_eq (row I.x t) (fun j => I.dH t j * (1 + row I.s 0 j) * row I.g 0 j) (row I.d t k) k

theorem dy_at : dyS h I.x I.g I.s I.d I.e (ix3 0 t k) = I.dY t k := by
  pointwise [dyS, val_main_v77, val_main_v71]
  rw [dx_at I t k hh, mul_comm]
  rfl

/-! The terms of the sums. -/

theorem ds_at : dsS h I.x I.g (ix3 0 t k) = I.dS t k := by
  pointwise [dsS, val_main_v25]
  rw [hat_at, gain_at, hh, mul_comm]
  rfl

theorem dg_at : dgS h I.x I.s (ix3 0 t k) = I.dG t k := by
  pointwise [dgS]
  rw [hat_at, u_at I t k hh, mul_comm]
  rfl

theorem de_at : deS h I.x I.g I.s I.d I.y (ix3 0 t k) = I.dE t k := by
  pointwise [deS, val_main_v74, val_main_v73, val_main_v72, val_main_v70, val_main_cst_14, val_main_v6, val_main_v5]
  rw [dx_at I t k hh]
  rfl
omit hh

/-! The seven results. -/

/-- An array without its first axis, and the sums over the rows. -/
theorem rows_eq {a : FVec Ideal S1x8192x1024 .f32} {f : Fin 8192 → Fin 1024 → EReal} (ha : ∀ t k, a (ix3 0 t k) = f t k) :
    shapeCast S8192x1024 a shapeCasts_S1x8192x1024_S8192x1024 = ofRows f := by
  funext i
  pointwise
  exact ha (i 0) (i 1)

theorem sums_eq {a : FVec Ideal S1x8192x1024 .f32} {f : Fin 8192 → Fin 1024 → EReal} (ha : ∀ t k, a (ix3 0 t k) = f t k) :
    sumsOf a = ofSums f := by
  funext i
  pointwise [sumsOf, lone_outer, val_main_cst_5, val_main_cst_6]
  exact Finset.sum_congr rfl fun t _ => ha t (i 1)

end Cert.NormRef

end
-- ==== Proof.MlpDx.lean ====
/- `mlp1_bwd_x`, idealized, against its reference. -/
module

public import proofs.«01_k».proof.Defs
public import proofs.«01_k».proof.Proof.MlpDxVal
public import proofs.«01_k».proof.Proof.NormRef
public import proofs.«01_k».proof.Proof.Gen.RefOneXIdeal.Run

@[expose] public section

set_option maxRecDepth 16384

noncomputable section

namespace Cert.MlpDx

open Cert.MlpOneXIdeal Cert.MlpOneXIdeal.Gen Cert.Norm
open Idealize.ShloMosaic Idealize.ShloMosaic.TcCoe Idealize.SL.Sem
open Idealize.ShloMosaic.Pipeline (Dat)

/-- The reference's product. -/
theorem ref_dh (m : (ℓ : Loc nD τ sig) → Buf (Elt Ideal) ℓ) (c : Dev nD) (t : Fin 8192) (k : Fin 1024) :
    Cert.RefOneXIdeal.Read.val_main_v36 (F := Ideal) (m ((c : Thread nD τ).loc main_arg0)) (m ((c : Thread nD τ).loc main_arg1)) (ix3 0 t k)
      = (inOf m c).dH t k := by
  pointwise [Cert.RefOneXIdeal.Read.val_main_v36, Cert.RefOneXIdeal.Read.val_main_v1, Cert.RefOneXIdeal.Read.val_main_v0,
    Cert.RefOneXIdeal.Read.val_main_v4, Cert.RefOneXIdeal.Read.val_main_v3, Cert.RefOneXIdeal.Read.val_main_v2]
  rfl

/-- The seven results are the seven gradients, on both sides and for any arguments, infinite ones too. -/
theorem algebraic : Cert.algebraic_MlpOneXIdeal_RefOneXIdeal := by
  intro m g m' g' _ hag
  refine ⟨fun c => ofRows (inOf m c).dX, fun c => ofSums (inOf m c).dS, fun c => ofSums (inOf m c).dH, fun c => ofSums (inOf m c).dG,
    fun c => ofRows (inOf m c).dY, fun c => ofSums (inOf m c).dE, fun c => ofSums (inOf m c).dY,
    (θ_run defs _ _).mono (fun _ h c => ?_) (Value.run_blocks m g),
    (θ_run Cert.RefOneXIdeal.defs _ _).mono (fun _ h c => ?_) (Cert.RefOneXIdeal.Value.run (F := Ideal) m' g')⟩
  · obtain ⟨h0, h1, h2, h3, h4, h5, h6, h⟩ := h c
    exact ⟨h0.trans (final8 m c), h1.trans (final9 m c), h2.trans (final10 m c), h3.trans (final11 m c), h4.trans (final12 m c),
      h5.trans (final13 m c), h6.trans (final14 m c), h⟩
  · obtain ⟨h0, h1, h2, h3, h4, h5, h6, h⟩ := h c
    obtain ⟨e0, e1, e2, e3, e4, e5, e6, e7⟩ := hag c
    refine ⟨h0.trans ?_, h1.trans ?_, h2.trans ?_, h3.trans ?_, h4.trans ?_, h5.trans ?_, h6.trans ?_, h⟩
    · rw [Cert.RefOneXIdeal.Read.val_main_v87_eq, e0, e1, e2, e3, e4, e5]
      exact NormRef.rows_eq fun t k => NormRef.dx_at (inOf m c) t k (ref_dh m c)
    · rw [Cert.RefOneXIdeal.Read.val_main_v47_eq, e0, e1, e2, e3]
      exact NormRef.sums_eq fun t k => NormRef.ds_at (inOf m c) t k (ref_dh m c)
    · rw [Cert.RefOneXIdeal.Read.val_main_v40_eq, e0, e1]
      exact NormRef.sums_eq fun t k => ref_dh m c t k
    · rw [Cert.RefOneXIdeal.Read.val_main_v88_eq, e0, e1, e2, e4]
      exact NormRef.sums_eq fun t k => NormRef.dg_at (inOf m c) t k (ref_dh m c)
    · rw [Cert.RefOneXIdeal.Read.val_main_v90_eq, e0, e1, e2, e3, e4, e5, e7]
      exact NormRef.rows_eq fun t k => NormRef.dy_at (inOf m c) t k (ref_dh m c)
    · rw [Cert.RefOneXIdeal.Read.val_main_v86_eq, e0, e1, e2, e3, e4, e5, e6]
      exact NormRef.sums_eq fun t k => NormRef.de_at (inOf m c) t k (ref_dh m c)
    · rw [Cert.RefOneXIdeal.Read.val_main_v91_eq, e0, e1, e2, e3, e4, e5, e7]
      exact NormRef.sums_eq fun t k => NormRef.dy_at (inOf m c) t k (ref_dh m c)

end Cert.MlpDx

end
-- ==== Proof.RetInX.lean ====
/- `ret_in_bwd_x`, idealized, against its reference: the gradient with respect to the rows that the retention projects, and
   through the norm and the gate before it. Its product is its own; what follows is the same as in `mlp1_bwd_x`. -/
module

public import proofs.«01_k».proof.Defs
public import proofs.«01_k».proof.Proof.NormPoint
public import proofs.«01_k».proof.Proof.NormRef
public import proofs.«01_k».proof.Proof.Gen.RetInXIdeal.Value
public import proofs.«01_k».proof.Proof.Gen.RefInXIdeal.Run
public import proofs.«01_k».proof.Proof.Gen.RefInXIdeal.Read

@[expose] public section

set_option maxRecDepth 16384

noncomputable section

namespace Cert.InX

open Cert.RetInXIdeal Cert.RetInXIdeal.Gen Cert.Norm Cert.Retention Cert.Nat2
open Idealize.ShloMosaic Idealize.ShloMosaic.TcCoe Idealize.SL.Sem
open Idealize.ShloMosaic.Pipeline (Dat)

/-- The gradient with respect to 512 modulated rows: 6144 columns, in eight products. -/
def dhB (p : FVec Ideal S512x6144 .bf16) (w : FVec Ideal S8x1024x768 .bf16) : FVec Ideal S512x1024 .f32 := k0_pay8
  (k0_pay7 (colsOf p 0 inb_S512x6144_S512x768_0_0) (planeOf w 0 inb_S8x1024x768_S1x1024x768_0_0_0)
    (colsOf p 768 inb_S512x6144_S512x768_0_768) (planeOf w 1 inb_S8x1024x768_S1x1024x768_1_0_0)
    (colsOf p 1536 inb_S512x6144_S512x768_0_1536) (planeOf w 2 inb_S8x1024x768_S1x1024x768_2_0_0)
    (colsOf p 2304 inb_S512x6144_S512x768_0_2304) (planeOf w 3 inb_S8x1024x768_S1x1024x768_3_0_0)
    (colsOf p 3072 inb_S512x6144_S512x768_0_3072) (planeOf w 4 inb_S8x1024x768_S1x1024x768_4_0_0))
  (colsOf p 3840 inb_S512x6144_S512x768_0_3840) (planeOf w 5 inb_S8x1024x768_S1x1024x768_5_0_0)
  (colsOf p 4608 inb_S512x6144_S512x768_0_4608) (planeOf w 6 inb_S8x1024x768_S1x1024x768_6_0_0)
  (colsOf p 5376 inb_S512x6144_S512x768_0_5376) (planeOf w 7 inb_S8x1024x768_S1x1024x768_7_0_0)

theorem dhB_at (p : FVec Ideal S512x6144 .bf16) (w : FVec Ideal S8x1024x768 .bf16) (r : Fin 512) :
    row (dhB p w) r = dH rfl (by norm_num) (row p r) w := by
  funext k
  rw [← product_at p w rfl (by norm_num) r k, Fin.sum_univ_eight]
  show dhB p w (ix2 r k) = _
  pointwise [dhB, k0_pay8, k0_pay7]

variable (m : (ℓ : Loc nD τ sig) → Buf (Elt Ideal) ℓ) (c : Dev nD)

/-- The blocks of a point. -/
def blkOf (t : Fin cfg0.N) : Blk :=
  ⟨dhB (iblk m c 0 t) (iblk m c 1 t), iblk m c 2 t, iblk m c 3 t, iblk m c 4 t, iblk m c 5 t, iblk m c 6 t, iblk m c 7 t⟩

theorem cast_row (x : FVec Ideal S1x1024 .f32) : k0_pay14 x = x := cast_same x

theorem outs_A (t : Fin cfg0.N) (h0 : t.val % 16 = 0) :
    outsAt0 m c t.val t.isLt = body (blkOf m c t) zeroRow zeroRow zeroRow zeroRow zeroRow := by
  rw [outsAt0_A m c t h0 h0]
  refine Prod.ext ?_ (Prod.ext ?_ (Prod.ext ?_ (Prod.ext ?_ (Prod.ext ?_ (Prod.ext ?_ ?_)))))
  all_goals frame_out
  · rfl
  · rw [cast_row]; rfl
  all_goals rfl

theorem outs_B (t : Fin cfg0.N) (h0 : ¬t.val % 16 = 0) (hp : t.val - 1 < cfg0.N) :
    outsAt0 m c t.val t.isLt = body (blkOf m c t) (outsAt0 m c (t.val - 1) hp).2.1 (outsAt0 m c (t.val - 1) hp).2.2.1
      (outsAt0 m c (t.val - 1) hp).2.2.2.1 (outsAt0 m c (t.val - 1) hp).2.2.2.2.2.1 (outsAt0 m c (t.val - 1) hp).2.2.2.2.2.2 := by
  rw [outsAt0_B m c t h0 h0]
  refine Prod.ext ?_ (Prod.ext ?_ (Prod.ext ?_ (Prod.ext ?_ (Prod.ext ?_ (Prod.ext ?_ ?_)))))
  all_goals frame_out
  · rfl
  · rw [cast_row]; rfl
  all_goals rfl

/-- The arguments: the projections' gradient and the weights, by their product, and the norm's. -/
def inOf : In where
  dH := fun t => Norm.dH (N := 6144) (n := 768) rfl (by norm_num) (row (m ((c : Thread nD τ).loc main_arg0)) t) (m ((c : Thread nD τ).loc main_arg1))
  x := m ((c : Thread nD τ).loc main_arg2)
  g := m ((c : Thread nD τ).loc main_arg3)
  s := m ((c : Thread nD τ).loc main_arg4)
  d := m ((c : Thread nD τ).loc main_arg5)
  y := m ((c : Thread nD τ).loc main_arg6)
  e := m ((c : Thread nD τ).loc main_arg7)

/-- Point `t` takes and writes the rows from `512 * t` on. -/
theorem rows_at : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_8.index t 0 = t.val ∧ win0_8.index t 1 = 0) ∧ win0_12.index t 0 = t.val ∧ win0_12.index t 1 = 0 :=
  (by decide +kernel : ∀ t : Fin grid0.N, _)
/-- Every point takes the weights and the vectors whole. -/
theorem whole_at : ∀ t : Fin cfg0.N, (win0_1.index t 0 = 0 ∧ win0_1.index t 1 = 0 ∧ win0_1.index t 2 = 0) ∧ win0_3.index t = ![0, 0] ∧ win0_4.index t = ![0, 0]
    ∧ win0_7.index t = ![0, 0] :=
  (by decide +kernel : ∀ t : Fin grid0.N, _)
/-- The sums are written whole, after the last point. -/
theorem sums_at : ∀ t : Fin cfg0.N, win0_9.index t 1 = 0 ∧ win0_10.index t 1 = 0 ∧ win0_11.index t 1 = 0 ∧ win0_13.index t 1 = 0 ∧ win0_14.index t 1 = 0 :=
  (by decide +kernel : ∀ t : Fin grid0.N, _)
theorem last_only : ∀ t : Fin cfg0.N, ((cfg0.win 9).flush t = true → t.val = 15) ∧ ((cfg0.win 10).flush t = true → t.val = 15)
    ∧ ((cfg0.win 11).flush t = true → t.val = 15) ∧ ((cfg0.win 13).flush t = true → t.val = 15) ∧ ((cfg0.win 14).flush t = true → t.val = 15) :=
  (by decide +kernel : ∀ t : Fin cfg0.N, _)

/-- The blocks of a point hold its rows. -/
theorem fits (t : Fin cfg0.N) : Fits (inOf m c) t.val (blkOf m c t) := by
  have hr := rows_at t
  obtain ⟨hw, h3, h4, h7⟩ := whole_at t
  have e1 : iblk m c 1 t = m ((c : Thread nD τ).loc main_arg1) := by
    funext j
    refine congrArg (m ((c : Thread nD τ).loc main_arg1)) (funext fun a => Fin.ext ?_)
    match a with
    | ⟨0, _⟩ => show win0_1.index t 0 * 8 + 1 * (j 0).val = (j 0).val; omega
    | ⟨1, _⟩ => show win0_1.index t 1 * 1024 + 1 * (j 1).val = (j 1).val; omega
    | ⟨2, _⟩ => show win0_1.index t 2 * 768 + 1 * (j 2).val = (j 2).val; omega
  refine ⟨fun r i hi => ⟨(dhB_at _ _ r).trans ?_, ?_, ?_, ?_⟩, ?_, ?_, ?_⟩
  · have e0 : row (iblk m c 0 t) r = row (m ((c : Thread nD τ).loc main_arg0)) i :=
      funext fun k => at_ix2 (m ((c : Thread nD τ).loc main_arg0)) _ _ _ (by blk_simp; omega) (by blk_simp; omega)
    rw [e0, e1]
    rfl
  · exact funext fun k => at_ix2 (m ((c : Thread nD τ).loc main_arg2)) _ _ _ (by blk_simp; omega) (by blk_simp; omega)
  · exact funext fun k => at_ix2 (m ((c : Thread nD τ).loc main_arg5)) _ _ _ (by blk_simp; omega) (by blk_simp; omega)
  · exact funext fun k => at_ix2 (m ((c : Thread nD τ).loc main_arg6)) _ _ _ (by blk_simp; omega) (by blk_simp; omega)
  · exact funext fun k => at_ix2 (m ((c : Thread nD τ).loc main_arg3)) _ _ _ (by blk_simp; simp [h3]) (by blk_simp; simp [h3])
  · exact funext fun k => at_ix2 (m ((c : Thread nD τ).loc main_arg4)) _ _ _ (by blk_simp; simp [h4]) (by blk_simp; simp [h4])
  · exact funext fun k => at_ix2 (m ((c : Thread nD τ).loc main_arg7)) _ _ _ (by blk_simp; simp [h7]) (by blk_simp; simp [h7])

/-- Every point leaves what it should. -/
theorem done_all : ∀ (n : ℕ) (hn : n < cfg0.N), Done (inOf m c) n (outsAt0 m c n hn)
  | 0, hn => by
    rw [outs_A m c ⟨0, hn⟩ rfl]
    exact done_body (by norm_num) (fits m c ⟨0, hn⟩) (sums_zero _)
  | n + 1, hn => by
    have h16 : n + 1 < 16 := lt_of_lt_of_eq hn N_0
    rw [outs_B m c ⟨n + 1, hn⟩ (by dsimp only; omega) (Nat.lt_of_succ_lt hn)]
    exact done_body h16 (fits m c ⟨n + 1, hn⟩) (done_all n (Nat.lt_of_succ_lt hn)).sums

/-! The result arrays. -/

theorem final8 : (dats m 0 c).arrAt 8 cfg0.N = ofRows (inOf m c).dX := by
  refine (dats m 0 c).arrAt_eq_of_covers 8 _ (by decide +kernel) fun t _ y => ?_
  have hr := rows_at t
  rw [after0_8]
  exact row_done (done_all m c t.val t.isLt).dx y _ (by blk_simp; omega) (by blk_simp; omega)

theorem final9 : (dats m 0 c).arrAt 9 cfg0.N = ofSums (inOf m c).dS := by
  refine (dats m 0 c).arrAt_eq_of_covers 9 _ (by decide +kernel) fun t hf y => ?_
  have hs := sums_at t
  rw [after0_9]
  exact sum_done (done_all m c t.val t.isLt).sums.ds ((last_only t).1 hf) y _ (by blk_simp; omega)

theorem final10 : (dats m 0 c).arrAt 10 cfg0.N = ofSums (inOf m c).dH := by
  refine (dats m 0 c).arrAt_eq_of_covers 10 _ (by decide +kernel) fun t hf y => ?_
  have hs := sums_at t
  rw [after0_10]
  exact sum_done (done_all m c t.val t.isLt).sums.dsh ((last_only t).2.1 hf) y _ (by blk_simp; omega)

theorem final11 : (dats m 0 c).arrAt 11 cfg0.N = ofSums (inOf m c).dG := by
  refine (dats m 0 c).arrAt_eq_of_covers 11 _ (by decide +kernel) fun t hf y => ?_
  have hs := sums_at t
  rw [after0_11]
  exact sum_done (done_all m c t.val t.isLt).sums.dg ((last_only t).2.2.1 hf) y _ (by blk_simp; omega)

theorem final12 : (dats m 0 c).arrAt 12 cfg0.N = ofRows (inOf m c).dY := by
  refine (dats m 0 c).arrAt_eq_of_covers 12 _ (by decide +kernel) fun t _ y => ?_
  have hr := rows_at t
  rw [after0_12]
  exact row_done (done_all m c t.val t.isLt).dy y _ (by blk_simp; omega) (by blk_simp; omega)

theorem final13 : (dats m 0 c).arrAt 13 cfg0.N = ofSums (inOf m c).dE := by
  refine (dats m 0 c).arrAt_eq_of_covers 13 _ (by decide +kernel) fun t hf y => ?_
  have hs := sums_at t
  rw [after0_13]
  exact sum_done (done_all m c t.val t.isLt).sums.de ((last_only t).2.2.2.1 hf) y _ (by blk_simp; omega)

theorem final14 : (dats m 0 c).arrAt 14 cfg0.N = ofSums (inOf m c).dY := by
  refine (dats m 0 c).arrAt_eq_of_covers 14 _ (by decide +kernel) fun t hf y => ?_
  have hs := sums_at t
  rw [after0_14]
  exact sum_done (done_all m c t.val t.isLt).sums.db ((last_only t).2.2.2.2 hf) y _ (by blk_simp; omega)

/-- The reference's product. -/
theorem ref_dh (t : Fin 8192) (k : Fin 1024) :
    Cert.RefInXIdeal.Read.val_main_v36 (F := Ideal) (m ((c : Thread nD τ).loc main_arg0)) (m ((c : Thread nD τ).loc main_arg1)) (ix3 0 t k)
      = (inOf m c).dH t k := by
  pointwise [Cert.RefInXIdeal.Read.val_main_v36, Cert.RefInXIdeal.Read.val_main_v1, Cert.RefInXIdeal.Read.val_main_v0,
    Cert.RefInXIdeal.Read.val_main_v4, Cert.RefInXIdeal.Read.val_main_v3, Cert.RefInXIdeal.Read.val_main_v2]
  rfl

/-- The seven results are the seven gradients, on both sides and for any arguments, infinite ones too. -/
theorem algebraic : Cert.algebraic_RetInXIdeal_RefInXIdeal := by
  intro m g m' g' _ hag
  refine ⟨fun c => ofRows (inOf m c).dX, fun c => ofSums (inOf m c).dS, fun c => ofSums (inOf m c).dH, fun c => ofSums (inOf m c).dG,
    fun c => ofRows (inOf m c).dY, fun c => ofSums (inOf m c).dE, fun c => ofSums (inOf m c).dY,
    (θ_run defs _ _).mono (fun _ h c => ?_) (Value.run_blocks m g),
    (θ_run Cert.RefInXIdeal.defs _ _).mono (fun _ h c => ?_) (Cert.RefInXIdeal.Value.run (F := Ideal) m' g')⟩
  · obtain ⟨h0, h1, h2, h3, h4, h5, h6, h⟩ := h c
    exact ⟨h0.trans (final8 m c), h1.trans (final9 m c), h2.trans (final10 m c), h3.trans (final11 m c), h4.trans (final12 m c),
      h5.trans (final13 m c), h6.trans (final14 m c), h⟩
  · obtain ⟨h0, h1, h2, h3, h4, h5, h6, h⟩ := h c
    obtain ⟨e0, e1, e2, e3, e4, e5, e6, e7⟩ := hag c
    refine ⟨h0.trans ?_, h1.trans ?_, h2.trans ?_, h3.trans ?_, h4.trans ?_, h5.trans ?_, h6.trans ?_, h⟩
    · rw [Cert.RefInXIdeal.Read.val_main_v87_eq, e0, e1, e2, e3, e4, e5]
      exact NormRef.rows_eq fun t k => NormRef.dx_at (inOf m c) t k (ref_dh m c)
    · rw [Cert.RefInXIdeal.Read.val_main_v47_eq, e0, e1, e2, e3]
      exact NormRef.sums_eq fun t k => NormRef.ds_at (inOf m c) t k (ref_dh m c)
    · rw [Cert.RefInXIdeal.Read.val_main_v40_eq, e0, e1]
      exact NormRef.sums_eq fun t k => ref_dh m c t k
    · rw [Cert.RefInXIdeal.Read.val_main_v88_eq, e0, e1, e2, e4]
      exact NormRef.sums_eq fun t k => NormRef.dg_at (inOf m c) t k (ref_dh m c)
    · rw [Cert.RefInXIdeal.Read.val_main_v90_eq, e0, e1, e2, e3, e4, e5, e7]
      exact NormRef.rows_eq fun t k => NormRef.dy_at (inOf m c) t k (ref_dh m c)
    · rw [Cert.RefInXIdeal.Read.val_main_v86_eq, e0, e1, e2, e3, e4, e5, e6]
      exact NormRef.sums_eq fun t k => NormRef.de_at (inOf m c) t k (ref_dh m c)
    · rw [Cert.RefInXIdeal.Read.val_main_v91_eq, e0, e1, e2, e3, e4, e5, e7]
      exact NormRef.sums_eq fun t k => NormRef.dy_at (inOf m c) t k (ref_dh m c)

end Cert.InX

end
-- ==== Proof.RetInW.lean ====
/- The gradient of the weight of the retention's projections, one block of columns per device: `ret_in_bwd_w`, over the
   extended reals. -/
module

public import proofs.«01_k».proof.Defs
public import proofs.«01_k».proof.Proof.Basic
public import proofs.«01_k».proof.Proof.Gen.RetInWIdeal.Value
public import proofs.«01_k».proof.Proof.Gen.RefInWIdeal.Run
public import proofs.«01_k».proof.Proof.Gen.RefInWIdeal.Read
public import Idealize.ShloMosaic.Lib.Pipeline.ValueKit

@[expose] public section

set_option maxRecDepth 16384

noncomputable section

namespace Cert.InW

open Cert.RetInWIdeal Cert.RetInWIdeal.Gen Cert.Nat2
open Idealize.ShloMosaic Idealize.ShloMosaic.TcCoe Idealize.SL.Sem
open Idealize.ShloMosaic.Pipeline (Dat)

/-- The weight's gradient: the sum over the tokens. -/
def grad (h : S8192x1024.Idx → EReal) (d : S8192x6144.Idx → EReal) : S8x1024x768.Idx → EReal :=
  fun i => ∑ q ∈ Finset.range 8192, term h d (i 1).val ((i 0).val * 768 + (i 2).val) q

/-- What a point adds to the accumulator: 2048 tokens. -/
def part (h : Vec Ideal S2048x1024 .bf16) (d : Vec Ideal S2048x1536 .bf16) (i : S1024x1536.Idx) : EReal :=
  ∑ k : Fin 2048, h (ix2 k (i 0)) * d (ix2 k (i 1))

theorem pay_apply (h : FVec Ideal S2048x1024 .bf16) (acc : FVec Ideal S1024x1536 .f32) (d : FVec Ideal S2048x1536 .bf16)
    (i : S1024x1536.Idx) : k0_pay2 (F := Ideal) h acc d i = acc i + part h d i := by
  pointwise [k0_pay2, part]

/-- The columns of a block, cut in two. -/
def halves (g : S1024x1536.Idx → EReal) : S2x1024x768.Idx → EReal :=
  fun y => at2 g (y 1).val ((y 0).val * 768 + (y 2).val)

/-- What is stored of one half. -/
theorem half_apply (g : FVec Ideal S1024x1536 .f32) (n o : ℕ) (e : o = n * 768)
    (hn : ∀ a, (![n, 0, 0] : Fin 3 → ℕ) a + S1x1024x768.size a ≤ S2x1024x768.size a)
    (ho : ∀ a, (![0, o] : Fin 2 → ℕ) a + S1024x768.size a ≤ S1024x1536.size a) (x : S1x1024x768.Idx) :
    k0_pay3 (F := Ideal) (View.ld g (Rect.unit (s := S1024x1536) ![0, o] S1024x768.size ho)) x
      = halves g ((Rect.unit (s := S2x1024x768) ![n, 0, 0] S1x1024x768.size hn).emb x) := by
  subst e
  unfold halves
  pointwise [k0_pay3]
  refine at2_of_val g _ _ _ ?_ ?_
  · show (x 1).val = 0 + 1 * (x 1).val; omega
  · have : (x 0).val < 1 := (x 0).isLt
    show n * 768 + (x 2).val = (n + 1 * (x 0).val) * 768 + (0 + 1 * (x 2).val); omega

theorem hz : (![0, 0] : Fin 2 → ℕ) = fun _ => 0 := funext fun a => by fin_cases a <;> rfl

section Last
variable (c : Dev nD) (i : grid0.Coords) (a2 : Memref sig .tc .vmem S2048x1024 .bf16) (h2 : a2.IsWhole) (a3 : Memref sig .tc .vmem S2048x1536 .bf16) (h3 : a3.IsWhole)
  (a4 : Memref sig .tc .vmem S2x1024x768 .bf16) (h4 : a4.IsWhole) (a5 : Memref sig .tc .vmem S1024x1536 .f32) (h5 : a5.IsWhole)
  (h : Vec Ideal S2048x1024 .bf16) (d : Vec Ideal S2048x1536 .bf16) (acc : Vec Ideal S1024x1536 .f32)

/-- What the last point of a run writes: the sum, its columns in two blocks. -/
theorem out_C (hc0 : ¬cond0_0 i) (hc1 : cond0_1 i) (y : S2x1024x768.Idx) :
    out0_C_2 (F := Ideal) c i a2 h2 a3 h3 a4 h4 a5 h5 hc0 hc1 h d acc y = halves (k0_pay2 (F := Ideal) h acc d) y := by
  unfold out0_C_2
  rw [View.read_writes_eq_canon _ _ _ (cover0_C_2 c i a2 h2 a3 h3 a4 h4 a5 h5 hc0 hc1 h d acc)]
  refine View.canon_apply_of_pieces (Val := Elt Ideal) (e := .bf16) (halves (k0_pay2 (F := Ideal) h acc d)) _ ?_ y (cover0_C_2 c i a2 h2 a3 h3 a4 h4 a5 h5 hc0 hc1 h d acc y)
  unfold kernelRun0_C
  dsimp only
  sl_unfold_words
  have hrd : ∀ (P : FVec Ideal S1024x1536 .f32) (r : Rect S1024x1536),
      a5.view.readCov (Val := Elt Ideal) [⟨Rect.unit (s := S1024x1536) ![0, 0] S1024x1536.size inb_S1024x1536_S1024x1536_0_0, P⟩] r.toLoadRect = View.ld P r := by
    intro P r
    refine (View.readCov_eq_canon_ld a5.view _ r ?_).trans ?_
    · intro y
      exact ⟨_, List.mem_singleton_self _, View.mem_set_unit_zero (S := S1024x1536) hz inb_S1024x1536_S1024x1536_0_0 y⟩
    · rw [View.canon_unit_zero (S := S1024x1536) hz]
  simp only [View.readAt_eq_ld, h2.read_unread, h3.read_unread, h5.read_unread, View.ld_unit_zero (S := S1024x1536) hz, View.ld_unit_zero (S := S2048x1024) hz,
    View.ld_unit_zero (S := S2048x1536) hz, hrd]
  intro p hp
  simp only [List.mem_cons, List.not_mem_nil, or_false] at hp
  rcases hp with hp | hp
  · subst hp; exact half_apply (k0_pay2 (F := Ideal) h acc d) 1 768 rfl inb_S2x1024x768_S1x1024x768_1_0_0 inb_S1024x1536_S1024x768_0_768
  · subst hp; exact half_apply (k0_pay2 (F := Ideal) h acc d) 0 0 rfl inb_S2x1024x768_S1x1024x768_0_0_0 inb_S1024x1536_S1024x768_0_0

end Last

variable (m : (ℓ : Loc nD τ sig) → Buf (Elt Ideal) ℓ) (c : Dev nD)

/-- The result array as a function of the arguments. -/
abbrev result : Buf (Elt Ideal) ((c : Thread nD τ).loc main_v0) :=
  grad (m ((c : Thread nD τ).loc main_arg0)) (m ((c : Thread nD τ).loc main_arg1))

theorem idx_facts : ∀ t : Fin cfg0.N, (win0_0.index t 0 = t.val % 4 ∧ win0_0.index t 1 = 0)
    ∧ (win0_1.index t 0 = t.val % 4 ∧ win0_1.index t 1 = t.val / 4) ∧ win0_2.index t 0 = t.val / 4 ∧ win0_2.index t 1 = 0 ∧ win0_2.index t 2 = 0 :=
  (by decide +kernel : ∀ t : Fin grid0.N, _)
theorem last_only : ∀ t : Fin cfg0.N, (cfg0.win 2).flush t = true → t.val % 4 = 3 := (by decide +kernel : ∀ t : Fin cfg0.N, _)

/-- The first `n` blocks of tokens, for the `p`-th block of columns. -/
def upto (p n : ℕ) (j : S1024x1536.Idx) : EReal :=
  ∑ q ∈ Finset.range (2048 * n), term (m ((c : Thread nD τ).loc main_arg0)) (m ((c : Thread nD τ).loc main_arg1)) (j 0).val (p * 1536 + (j 1).val) q

/-- One point more. -/
theorem upto_part (t : Fin cfg0.N) (j : S1024x1536.Idx) :
    upto m c (t.val / 4) (t.val % 4) j + part (iblk m c 0 t) (iblk m c 1 t) j = upto m c (t.val / 4) (t.val % 4 + 1) j := by
  obtain ⟨e0, e1, -⟩ := idx_facts t
  refine (congrArg (_ + ·) (Finset.sum_congr rfl fun k _ => congrArg₂ _
    (at2_of_val (m ((c : Thread nD τ).loc main_arg0)) _ (2048 * (t.val % 4) + k.val) (j 0).val (by blk_simp; omega) (by blk_simp; omega))
    (at2_of_val (m ((c : Thread nD τ).loc main_arg1)) _ (2048 * (t.val % 4) + k.val) (t.val / 4 * 1536 + (j 1).val) (by blk_simp; omega) (by blk_simp; omega)))).trans ?_
  exact sum_range_run (term (m ((c : Thread nD τ).loc main_arg0)) (m ((c : Thread nD τ).loc main_arg1)) (j 0).val (t.val / 4 * 1536 + (j 1).val))
    (2048 * (t.val % 4)) 2048

/-- What the accumulator holds after a point that is not the last of its run: the tokens so far. -/
theorem scratch_eq (j : S1024x1536.Idx) : ∀ (n : ℕ) (h : n < cfg0.N) (_ : n % 4 ≠ 3), (outsAt0 m c n h).2 j = upto m c (n / 4) (n % 4 + 1) j := by
  intro n
  induction n with
  | zero =>
    intro h _
    rw [outsAt0_A m c ⟨0, h⟩ rfl (by norm_num)]
    frame_out
    refine (pay_apply _ _ _ j).trans ?_
    rw [← upto_part m c ⟨0, h⟩]
    refine congrArg (· + _) ?_
    pointwise [k0_pay1]
    rfl
  | succ n ih =>
    intro h hl
    by_cases h0 : (n + 1) % 4 = 0
    · rw [outsAt0_A m c ⟨n + 1, h⟩ h0 hl]
      frame_out
      refine (pay_apply _ _ _ j).trans ?_
      rw [← upto_part m c ⟨n + 1, h⟩]
      refine congrArg (· + _) ?_
      dsimp only
      rw [h0]
      pointwise [k0_pay1]
      rfl
    · rw [outsAt0_B m c ⟨n + 1, h⟩ h0 hl]
      frame_out
      refine (pay_apply _ _ _ j).trans ?_
      rw [← upto_part m c ⟨n + 1, h⟩]
      refine congrArg (· + _) ((congrFun (Memref.IsWhole.read_unread _ _) j).trans ((ih (Nat.lt_of_succ_lt h) (by omega)).trans ?_))
      rw [show n / 4 = (n + 1) / 4 by omega, show n % 4 + 1 = (n + 1) % 4 by omega]

/-- What the last point of a run writes: all tokens. -/
theorem out_eq (t : Fin cfg0.N) (ht : t.val % 4 = 3) (y : S2x1024x768.Idx) :
    (outsAt0 m c t.val t.isLt).1 y = halves (upto m c (t.val / 4) 4) y := by
  rw [outsAt0_C m c t (by omega) ht]
  dsimp only
  rw [out_C]
  refine congrFun (congrArg halves (funext fun j => ?_)) y
  rw [pay_apply, scratch_eq m c j (t.val - 1) _ (by omega), show (t.val - 1) / 4 = t.val / 4 by omega, show (t.val - 1) % 4 + 1 = t.val % 4 by omega,
    upto_part, ht]

/-- The result array after the last point. -/
theorem final : (dats m 0 c).arrAt 2 cfg0.N = result m c := by
  refine (dats m 0 c).arrAt_eq_of_covers 2 _ (by decide +kernel) fun t hf y => ?_
  obtain ⟨-, -, e0, e1, e2⟩ := idx_facts t
  rw [after0_2]
  refine (out_eq m c t (last_only t hf) y).trans ?_
  have h0 : (y 0).val < 2 := (y 0).isLt
  have h1 : (y 1).val < 1024 := (y 1).isLt
  have h2 : (y 2).val < 768 := (y 2).isLt
  unfold halves at2
  rw [dif_pos (show (y 1).val < 1024 ∧ (y 0).val * 768 + (y 2).val < 1536 by omega)]
  refine congrArg₂ (fun f e => ∑ q ∈ Finset.range 8192, term (m ((c : Thread nD τ).loc main_arg0)) (m ((c : Thread nD τ).loc main_arg1)) f e q) ?_ ?_
  · show (y 1).val = win0_2.index t 1 * 1024 + 1 * (y 1).val; omega
  · show t.val / 4 * 1536 + ((y 0).val * 768 + (y 2).val) = (win0_2.index t 0 * 2 + 1 * (y 0).val) * 768 + (win0_2.index t 2 * 768 + 1 * (y 2).val); omega

/-- The reference's result is the same function of the same arguments. -/
theorem ref_eq (h : FVec Ideal S8192x1024 .bf16) (d : FVec Ideal S8192x6144 .bf16) :
    Cert.RefInWIdeal.Read.val_main_v8 (F := Ideal) h d = grad h d := by
  funext i
  show _ = ∑ q ∈ Finset.range 8192, term h d (i 1).val ((i 0).val * 768 + (i 2).val) q
  rw [Finset.sum_range]
  pointwise [Cert.RefInWIdeal.Read.val_main_v8, Cert.RefInWIdeal.Read.val_main_v7, Cert.RefInWIdeal.Read.val_main_v6,
    Cert.RefInWIdeal.Read.val_main_v5, Cert.RefInWIdeal.Read.val_main_v4, Cert.RefInWIdeal.Read.val_main_v1,
    Cert.RefInWIdeal.Read.val_main_v0]
  refine Finset.sum_congr rfl fun k _ => (mul_comm _ _).trans ?_
  exact congrArg₂ _ (at2_of_val h _ _ _ rfl rfl) (at2_of_val d _ _ _ rfl rfl)

/-- The idealized kernel and the reference's vector-Jacobian product end with equal results. -/
theorem algebraic : Cert.algebraic_RetInWIdeal_RefInWIdeal := by
  intro m g m' g' _ hag
  refine ⟨fun c => result m c, (θ_run defs _ _).mono (fun _ h c => ⟨((h c).1).trans (final m c), (h c).2⟩) (Value.run_blocks m g),
    (θ_run Cert.RefInWIdeal.defs _ _).mono (fun _ h c => ?_) (Cert.RefInWIdeal.Value.run (F := Ideal) m' g')⟩
  obtain ⟨h0, h⟩ := h c
  obtain ⟨e0, e1⟩ := hag c
  refine ⟨h0.trans ?_, h⟩
  rw [e0, e1, Cert.RefInWIdeal.Read.val_main_v8_eq]
  exact ref_eq _ _

end Cert.InW

end
-- ==== Proof.RetOutX.lean ====
/- The gradient with respect to the retention's gated output: `ret_out_bwd_x`, over the extended reals. -/
module

public import proofs.«01_k».proof.Defs
public import proofs.«01_k».proof.Proof.Basic
public import proofs.«01_k».proof.Proof.Gen.RetOutXIdeal.Value
public import proofs.«01_k».proof.Proof.Gen.RefOutXIdeal.Run
public import proofs.«01_k».proof.Proof.Gen.RefOutXIdeal.Read
public import Idealize.ShloMosaic.Lib.Pointwise
public import Idealize.ShloMosaic.Lib.Pipeline.ValueKit

@[expose] public section

set_option maxRecDepth 16384

noncomputable section

namespace Cert.OutX

open Cert.RetOutXIdeal Cert.RetOutXIdeal.Gen Cert.Nat2
open Idealize.ShloMosaic Idealize.ShloMosaic.TcCoe Idealize.SL.Sem
open Idealize.ShloMosaic.Pipeline (Dat)

/-- Rows of `d` against rows of the weights. -/
def grad (d : S8192x1024.Idx → EReal) (w : S2048x1024.Idx → EReal) : S8192x2048.Idx → EReal :=
  fun i => ∑ k : Fin 1024, d (ix2 (i 0) k) * w (ix2 (i 1) k)

/-- The same on the 1024 rows that one grid point takes. -/
def blockGrad (d : S1024x1024.Idx → EReal) (w : S2048x1024.Idx → EReal) : S1024x2048.Idx → EReal :=
  fun i => ∑ k : Fin 1024, d (ix2 (i 0) k) * w (ix2 (i 1) k)

theorem hz : (![0, 0] : Fin 2 → ℕ) = fun _ => 0 := funext fun a => by fin_cases a <;> rfl

/-- What is stored of one half. -/
theorem pay_apply (d w : FVec Ideal S1024x1024 .bf16) (i : S1024x1024.Idx) :
    k0_pay1 (F := Ideal) d w i = ∑ k : Fin 1024, d (ix2 (i 0) k) * w (ix2 (i 1) k) := by
  pointwise [k0_pay1]

/-- A grid point's block of the result: 1024 rows, in two halves of 1024 columns. -/
theorem out_eq (d : Vec Ideal S1024x1024 .bf16) (w : Vec Ideal S2048x1024 .bf16) (j : S1024x2048.Idx) :
    out0_2 (F := Ideal) d w j = blockGrad d w j := by
  unfold out0_2
  refine View.canon_apply_of_pieces (Val := Elt Ideal) (e := .bf16) (blockGrad d w) _ ?_ j (cover0_2 _ _ j)
  have key : ∀ (o : ℕ) (hw : ∀ a, (![o, 0] : Fin 2 → ℕ) a + S1024x1024.size a ≤ S2048x1024.size a)
      (ho : ∀ a, (![0, o] : Fin 2 → ℕ) a + S1024x1024.size a ≤ S1024x2048.size a) (x : S1024x1024.Idx),
      k0_pay1 (F := Ideal) (View.ld d r0_0) (View.ld w (Rect.unit (s := S2048x1024) ![o, 0] S1024x1024.size hw)) x
        = blockGrad d w ((Rect.unit (s := S1024x2048) ![0, o] S1024x1024.size ho).emb x) := by
    intro o hw ho x
    rw [pay_apply, View.ld_unit_zero (S := S1024x1024) hz]
    unfold blockGrad
    refine Finset.sum_congr rfl fun k _ => congrArg₂ _ (congrArg d (funext fun a => Fin.ext ?_)) (congrArg w (funext fun a => Fin.ext ?_))
    · match a with
      | ⟨0, _⟩ => show (x 0).val = 0 + 1 * (x 0).val; omega
      | ⟨1, _⟩ => rfl
    · match a with
      | ⟨0, _⟩ => rfl
      | ⟨1, _⟩ => show 0 + 1 * k.val = k.val; omega
  intro p hp
  rcases List.mem_cons.mp hp with rfl | hp
  · exact key 1024 inb_S2048x1024_S1024x1024_1024_0 inb_S1024x2048_S1024x1024_0_1024
  rcases List.mem_cons.mp hp with rfl | hp
  · exact key 0 inb_S2048x1024_S1024x1024_0_0 inb_S1024x2048_S1024x1024_0_0
  · cases hp

variable (m : (ℓ : Loc nD τ sig) → Buf (Elt Ideal) ℓ) (c : Dev nD)

/-- The result array as a function of the arguments. -/
abbrev result : Buf (Elt Ideal) ((c : Thread nD τ).loc main_v0) :=
  grad (m ((c : Thread nD τ).loc main_arg0)) (m ((c : Thread nD τ).loc main_arg1))

theorem idx_facts : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 :=
  (by decide +kernel : ∀ t : Fin grid0.N, _)

/-- A point's block of the result, in the array. -/
theorem block_eq (t : Fin cfg0.N) (y : S1024x2048.Idx) (i : S8192x2048.Idx) (h0 : (i 0).val = t.val * 1024 + (y 0).val) (h1 : (i 1).val = (y 1).val) :
    blockGrad (iblk m c 0 t) (iblk m c 1 t) y = result m c i := by
  obtain ⟨e0, e1, -⟩ := idx_facts t
  refine Finset.sum_congr rfl fun k _ => congrArg₂ _ ?_ ?_
  · exact at_ix2 (m ((c : Thread nD τ).loc main_arg0)) _ (i 0) k (by blk_simp; omega) (by blk_simp; omega)
  · exact at_ix2 (m ((c : Thread nD τ).loc main_arg1)) _ (i 1) k (by blk_simp; omega) (by blk_simp; omega)

/-- The result array after the last point. -/
theorem final : (dats m 0 c).arrAt 2 cfg0.N = result m c := by
  refine (dats m 0 c).arrAt_eq_of_covers 2 _ (by decide +kernel) fun t _ y => ?_
  obtain ⟨-, -, e0, e1⟩ := idx_facts t
  refine (congrFun (after0_2 m c t) y).trans ((out_eq (iblk m c 0 t) (iblk m c 1 t) y).trans ?_)
  exact block_eq m c t y _ (by blk_simp; omega) (by blk_simp; omega)

/-- The reference's result is the same function of the same arguments. -/
theorem ref_eq (d : FVec Ideal S8192x1024 .bf16) (w : FVec Ideal S2048x1024 .bf16) :
    Cert.RefOutXIdeal.Read.val_main_v5 (F := Ideal) d w = grad d w := by
  funext i
  pointwise [Cert.RefOutXIdeal.Read.val_main_v5, Cert.RefOutXIdeal.Read.val_main_v4, Cert.RefOutXIdeal.Read.val_main_v1,
    Cert.RefOutXIdeal.Read.val_main_v0, grad]

/-- The idealized kernel and the reference's vector-Jacobian product end with equal results. -/
theorem algebraic : Cert.algebraic_RetOutXIdeal_RefOutXIdeal := by
  intro m g m' g' _ hag
  refine ⟨fun c => result m c, (θ_run defs _ _).mono (fun _ h c => ⟨((h c).1).trans (final m c), (h c).2⟩) (Value.run_blocks m g),
    (θ_run Cert.RefOutXIdeal.defs _ _).mono (fun _ h c => ?_) (Cert.RefOutXIdeal.Value.run (F := Ideal) m' g')⟩
  obtain ⟨h0, h⟩ := h c
  obtain ⟨e0, e1⟩ := hag c
  refine ⟨h0.trans ?_, h⟩
  rw [e0, e1, Cert.RefOutXIdeal.Read.val_main_v5_eq]
  exact ref_eq _ _

end Cert.OutX

end
-- ==== Proof.RetOutW.lean ====
/- The gradient of the weight that takes the retention's output back to the model's width: `ret_out_bwd_w`, over the extended
   reals. -/
module

public import proofs.«01_k».proof.Defs
public import proofs.«01_k».proof.Proof.Basic
public import proofs.«01_k».proof.Proof.Gen.RetOutWIdeal.Value
public import proofs.«01_k».proof.Proof.Gen.RefOutWIdeal.Run
public import proofs.«01_k».proof.Proof.Gen.RefOutWIdeal.Read
public import Idealize.ShloMosaic.Lib.Pipeline.ValueKit

@[expose] public section

set_option maxRecDepth 16384

noncomputable section

namespace Cert.OutW

open Cert.RetOutWIdeal Cert.RetOutWIdeal.Gen Cert.Nat2
open Idealize.ShloMosaic Idealize.ShloMosaic.TcCoe Idealize.SL.Sem
open Idealize.ShloMosaic.Pipeline (Dat)

/-- The weight's gradient: the sum over the tokens. -/
def grad (y : S8192x2048.Idx → EReal) (d : S8192x1024.Idx → EReal) : S2048x1024.Idx → EReal :=
  fun i => ∑ q ∈ Finset.range 8192, term y d (i 0).val (i 1).val q

/-- What a point adds to the accumulator: 2048 tokens. -/
def part (y : Vec Ideal S2048x2048 .bf16) (d : Vec Ideal S2048x1024 .bf16) (i : S2048x1024.Idx) : EReal :=
  ∑ k : Fin 2048, y (ix2 k (i 0)) * d (ix2 k (i 1))

theorem pay_apply (y : FVec Ideal S2048x2048 .bf16) (acc : FVec Ideal S2048x1024 .f32) (d : FVec Ideal S2048x1024 .bf16)
    (i : S2048x1024.Idx) : k0_pay2 (F := Ideal) y acc d i = acc i + part y d i := by
  pointwise [k0_pay2, part]

variable (m : (ℓ : Loc nD τ sig) → Buf (Elt Ideal) ℓ) (ρ : Dev nD → PrngReg) (c : Dev nD)

/-- The result array as a function of the arguments. -/
abbrev result : Buf (Elt Ideal) ((c : Thread nD τ).loc main_v0) :=
  grad (m ((c : Thread nD τ).loc main_arg0)) (m ((c : Thread nD τ).loc main_arg1))

theorem idx_facts : ∀ t : Fin cfg0.N, (win0_0.index t 0 = t.val ∧ win0_0.index t 1 = 0) ∧ (win0_1.index t 0 = t.val ∧ win0_1.index t 1 = 0)
    ∧ win0_2.index t 0 = 0 ∧ win0_2.index t 1 = 0 :=
  (by decide +kernel : ∀ t : Fin grid0.N, _)
theorem last_only : ∀ t : Fin cfg0.N, (cfg0.win 2).flush t = true → t.val = 3 := (by decide +kernel : ∀ t : Fin cfg0.N, _)

/-- A point's part, as tokens of the arguments. -/
theorem part_eq (t : Fin cfg0.N) (j : S2048x1024.Idx) :
    part (iblk m c 0 t) (iblk m c 1 t) j
      = ∑ k : Fin 2048, term (m ((c : Thread nD τ).loc main_arg0)) (m ((c : Thread nD τ).loc main_arg1)) (j 0).val (j 1).val (2048 * t.val + k.val) := by
  obtain ⟨e0, e1, -⟩ := idx_facts t
  exact Finset.sum_congr rfl fun k _ => congrArg₂ _
    (at2_of_val (m ((c : Thread nD τ).loc main_arg0)) _ _ _ (by blk_simp; omega) (by blk_simp; omega))
    (at2_of_val (m ((c : Thread nD τ).loc main_arg1)) _ _ _ (by blk_simp; omega) (by blk_simp; omega))

/-- The tokens before point `n`. -/
def upto (n : ℕ) (j : S2048x1024.Idx) : EReal :=
  ∑ q ∈ Finset.range (2048 * n), term (m ((c : Thread nD τ).loc main_arg0)) (m ((c : Thread nD τ).loc main_arg1)) (j 0).val (j 1).val q

theorem upto_part (t : Fin cfg0.N) (j : S2048x1024.Idx) :
    upto m c t.val j + part (iblk m c 0 t) (iblk m c 1 t) j = upto m c (t.val + 1) j := by
  rw [part_eq]
  exact sum_range_run _ (2048 * t.val) 2048

/-- What the accumulator holds after a point that is not the last: the tokens so far. -/
theorem scratch_eq (j : S2048x1024.Idx) : ∀ (n : ℕ) (h : n < cfg0.N) (_ : n < 3), (outsAt0 m c n h).2 j = upto m c (n + 1) j
  | 0, h, _ => by
    rw [outsAt0_A m c ⟨0, h⟩ rfl (by norm_num)]
    frame_out
    refine (pay_apply _ _ _ j).trans ?_
    rw [← upto_part m c ⟨0, h⟩]
    refine congrArg (· + _) ?_
    pointwise [k0_pay1]
    rfl
  | n + 1, h, hn => by
    rw [outsAt0_B m c ⟨n + 1, h⟩ (by dsimp only; omega) (by dsimp only; omega)]
    frame_out
    refine (pay_apply _ _ _ j).trans ?_
    rw [← upto_part m c ⟨n + 1, h⟩]
    exact congrArg (· + _) ((congrFun (Memref.IsWhole.read_unread _ _) j).trans (scratch_eq j n (Nat.lt_of_succ_lt h) (by omega)))

/-- What the last point writes: all tokens. -/
theorem out_eq (t : Fin cfg0.N) (ht : t.val = 3) (j : S2048x1024.Idx) : (outsAt0 m c t.val t.isLt).1 j = upto m c 4 j := by
  rw [outsAt0_C m c t (by omega) (by omega)]
  frame_out
  refine (pay_apply _ _ _ j).trans ?_
  rw [show (4 : ℕ) = t.val + 1 by omega, ← upto_part m c t]
  refine congrArg (· + _) ((congrFun (Memref.IsWhole.read_unread _ _) j).trans ?_)
  simp only [ht]
  exact scratch_eq m c j 2 _ (by norm_num)

/-- The result array after the last point. -/
theorem final : (dats m 0 c).arrAt 2 cfg0.N = result m c := by
  refine (dats m 0 c).arrAt_eq_of_covers 2 _ (by decide +kernel) fun t hf y => ?_
  obtain ⟨-, -, e0, e1⟩ := idx_facts t
  rw [after0_2]
  refine (out_eq m c t (last_only t hf) y).trans ?_
  show grad _ _ y = grad _ _ _
  refine congrArg _ (funext fun a => Fin.ext ?_)
  match a with
  | ⟨0, _⟩ => blk_simp; omega
  | ⟨1, _⟩ => blk_simp; omega

/-- The reference's result is the same function of the same arguments. -/
theorem ref_eq (y : FVec Ideal S8192x2048 .bf16) (d : FVec Ideal S8192x1024 .bf16) :
    Cert.RefOutWIdeal.Read.val_main_v6 (F := Ideal) y d = grad y d := by
  funext i
  show _ = ∑ q ∈ Finset.range 8192, term y d (i 0).val (i 1).val q
  rw [Finset.sum_range]
  pointwise [Cert.RefOutWIdeal.Read.val_main_v6, Cert.RefOutWIdeal.Read.val_main_v5, Cert.RefOutWIdeal.Read.val_main_v4,
    Cert.RefOutWIdeal.Read.val_main_v1, Cert.RefOutWIdeal.Read.val_main_v0]
  refine Finset.sum_congr rfl fun k _ => (mul_comm _ _).trans ?_
  exact congrArg₂ _ (at2_of_val y _ _ _ rfl rfl) (at2_of_val d _ _ _ rfl rfl)

/-- The idealized kernel and the reference's vector-Jacobian product end with equal results. -/
theorem algebraic : Cert.algebraic_RetOutWIdeal_RefOutWIdeal := by
  intro m g m' g' _ hag
  refine ⟨fun c => result m c, (θ_run defs _ _).mono (fun _ h c => ⟨((h c).1).trans (final m c), (h c).2⟩) (Value.run_blocks m g),
    (θ_run Cert.RefOutWIdeal.defs _ _).mono (fun _ h c => ?_) (Cert.RefOutWIdeal.Value.run (F := Ideal) m' g')⟩
  obtain ⟨h0, h⟩ := h c
  obtain ⟨e0, e1⟩ := hag c
  refine ⟨h0.trans ?_, h⟩
  rw [e0, e1, Cert.RefOutWIdeal.Read.val_main_v6_eq]
  exact ref_eq _ _

end Cert.OutW

end
-- ==== Proof.FwdSpec.lean ====
/- What the layer's forward products compute, over the extended reals, for any number of rows: the modulated rows, their
   product with weights kept in eight shards of columns, and a product added to the layer's input through a gate. -/
module

public import proofs.«01_k».proof.Proof.NormSpec
public import proofs.«01_k».proof.Proof.Basic

@[expose] public section

noncomputable section

namespace Cert.Fwd

open Idealize.ShloMosaic Cert.Norm Cert.Nat2

section Rows
variable {R R' : ℕ}

/-- The rows scaled by the root of their mean square and by the gain `g`, then modulated by the scale `s` and the shift `b`. -/
def modulated (x : (⟨2, ![R, 1024]⟩ : Shape).Idx → EReal) (g s b : (⟨2, ![1, 1024]⟩ : Shape).Idx → EReal) : (⟨2, ![R, 1024]⟩ : Shape).Idx → EReal :=
  fun i => x (ix2 (i 0) (i 1)) * ri (row x (i 0)) * g (ix2 0 (i 1)) * (1 + s (ix2 0 (i 1))) + b (ix2 0 (i 1))

/-- An element depends on its own row alone. -/
theorem modulated_row (x : (⟨2, ![R, 1024]⟩ : Shape).Idx → EReal) (x' : (⟨2, ![R', 1024]⟩ : Shape).Idx → EReal)
    (g s b g' s' b' : (⟨2, ![1, 1024]⟩ : Shape).Idx → EReal) (r : Fin R) (r' : Fin R') (k : Fin 1024) (hx : ∀ k, x (ix2 r k) = x' (ix2 r' k))
    (hg : ∀ k, g (ix2 0 k) = g' (ix2 0 k)) (hs : ∀ k, s (ix2 0 k) = s' (ix2 0 k)) (hb : ∀ k, b (ix2 0 k) = b' (ix2 0 k)) :
    modulated x g s b (ix2 r k) = modulated x' g' s' b' (ix2 r' k) := by
  have hr : row x r = row x' r' := funext hx
  show x (ix2 r k) * ri (row x r) * g (ix2 0 k) * (1 + s (ix2 0 k)) + b (ix2 0 k)
    = x' (ix2 r' k) * ri (row x' r') * g' (ix2 0 k) * (1 + s' (ix2 0 k)) + b' (ix2 0 k)
  rw [hr, hx, hg, hs, hb]

end Rows

section Shards
variable {R n N : ℕ}

/-- Rows times weights kept in shards of `n` columns. -/
def sharded (hN : N = n * 8) (h : (⟨2, ![R, 1024]⟩ : Shape).Idx → EReal) (w : (⟨3, ![8, 1024, n]⟩ : Shape).Idx → EReal) :
    (⟨2, ![R, N]⟩ : Shape).Idx → EReal :=
  fun i =>
    have hi : (i 1).val < n * 8 := hN ▸ (i 1).isLt
    ∑ k : Fin 1024, h (ix2 (i 0) k) * w (ix3 ⟨(i 1).val / n, Nat.div_lt_of_lt_mul hi⟩ k
      ⟨(i 1).val % n, Nat.mod_lt _ (Nat.pos_of_ne_zero fun h0 => by rw [h0, Nat.zero_mul] at hi; exact absurd hi (Nat.not_lt_zero _))⟩)

/-- The rows' product with one shard is the whole product on that shard's columns. -/
theorem sharded_piece (hN : N = n * 8) (h : (⟨2, ![R, 1024]⟩ : Shape).Idx → EReal) (w : (⟨3, ![8, 1024, n]⟩ : Shape).Idx → EReal) (b o : ℕ)
    (ho : o = n * b) (hw : ∀ a, (![b, 0, 0] : Fin 3 → ℕ) a + (![1, 1024, n] : Fin 3 → ℕ) a ≤ (⟨3, ![8, 1024, n]⟩ : Shape).size a)
    (hp : ∀ a, (![0, o] : Fin 2 → ℕ) a + (![R, n] : Fin 2 → ℕ) a ≤ (⟨2, ![R, N]⟩ : Shape).size a) (x : (⟨2, ![R, n]⟩ : Shape).Idx) :
    ∑ k : Fin 1024, h (ix2 (x 0) k) * w ((Rect.unit (s := ⟨3, ![8, 1024, n]⟩) ![b, 0, 0] ![1, 1024, n] hw).emb (ix3 0 k (x 1)))
      = sharded hN h w ((Rect.unit (s := ⟨2, ![R, N]⟩) ![0, o] ![R, n] hp).emb x) := by
  have hx : (x 1).val < n := (x 1).isLt
  have hn : 0 < n := Nat.lt_of_le_of_lt (Nat.zero_le _) hx
  have hcol : o + 1 * (x 1).val = (x 1).val + n * b := by omega
  unfold sharded
  refine Finset.sum_congr rfl fun k _ => congrArg₂ _ (congrArg h (funext fun a => Fin.ext ?_)) (congrArg w (funext fun a => Fin.ext ?_))
  · match a with
    | ⟨0, _⟩ => show (x 0).val = 0 + 1 * (x 0).val; omega
    | ⟨1, _⟩ => rfl
  · match a with
    | ⟨0, _⟩ => show b + 1 * 0 = (o + 1 * (x 1).val) / n; rw [hcol, Nat.add_mul_div_left _ _ hn, Nat.div_eq_of_lt hx]; omega
    | ⟨1, _⟩ => show 0 + 1 * k.val = k.val; omega
    | ⟨2, _⟩ => show 0 + 1 * (x 1).val = (o + 1 * (x 1).val) % n; rw [hcol, Nat.add_mul_mod_self_left, Nat.mod_eq_of_lt hx]; omega

/-- An element depends on its own row and on the weights. -/
theorem sharded_row {R' : ℕ} (hN : N = n * 8) (h : (⟨2, ![R, 1024]⟩ : Shape).Idx → EReal) (h' : (⟨2, ![R', 1024]⟩ : Shape).Idx → EReal)
    (w w' : (⟨3, ![8, 1024, n]⟩ : Shape).Idx → EReal) (i : (⟨2, ![R, N]⟩ : Shape).Idx) (i' : (⟨2, ![R', N]⟩ : Shape).Idx)
    (hh : ∀ k, h (ix2 (i 0) k) = h' (ix2 (i' 0) k)) (hw : ∀ j, w j = w' j) (hi : (i' 1).val = (i 1).val) :
    sharded hN h w i = sharded hN h' w' i' := by
  unfold sharded
  refine Finset.sum_congr rfl fun k _ => congrArg₂ _ (hh k) ((hw _).trans (congrArg w' (funext fun a => Fin.ext ?_)))
  match a with
  | ⟨0, _⟩ => exact congrArg (· / n) hi.symm
  | ⟨1, _⟩ => rfl
  | ⟨2, _⟩ => exact congrArg (· % n) hi.symm

/-- The product with a bias. -/
def biased (hN : N = n * 8) (h : (⟨2, ![R, 1024]⟩ : Shape).Idx → EReal) (w : (⟨3, ![8, 1024, n]⟩ : Shape).Idx → EReal)
    (b : (⟨2, ![1, N]⟩ : Shape).Idx → EReal) : (⟨2, ![R, N]⟩ : Shape).Idx → EReal := fun i => sharded hN h w i + b (ix2 0 (i 1))

/-- One shard's columns of it. -/
theorem biased_piece (hN : N = n * 8) (h : (⟨2, ![R, 1024]⟩ : Shape).Idx → EReal) (w : (⟨3, ![8, 1024, n]⟩ : Shape).Idx → EReal)
    (v : (⟨2, ![1, N]⟩ : Shape).Idx → EReal) (b o : ℕ) (ho : o = n * b)
    (hw : ∀ a, (![b, 0, 0] : Fin 3 → ℕ) a + (![1, 1024, n] : Fin 3 → ℕ) a ≤ (⟨3, ![8, 1024, n]⟩ : Shape).size a)
    (hv : ∀ a, (![0, o] : Fin 2 → ℕ) a + (![1, n] : Fin 2 → ℕ) a ≤ (⟨2, ![1, N]⟩ : Shape).size a)
    (hp : ∀ a, (![0, o] : Fin 2 → ℕ) a + (![R, n] : Fin 2 → ℕ) a ≤ (⟨2, ![R, N]⟩ : Shape).size a) (x : (⟨2, ![R, n]⟩ : Shape).Idx) :
    ∑ k : Fin 1024, h (ix2 (x 0) k) * w ((Rect.unit (s := ⟨3, ![8, 1024, n]⟩) ![b, 0, 0] ![1, 1024, n] hw).emb (ix3 0 k (x 1)))
        + v ((Rect.unit (s := ⟨2, ![1, N]⟩) ![0, o] ![1, n] hv).emb (ix2 0 (x 1)))
      = biased hN h w v ((Rect.unit (s := ⟨2, ![R, N]⟩) ![0, o] ![R, n] hp).emb x) :=
  congrArg₂ _ (sharded_piece hN h w b o ho hw hp x) (at_ix2 v _ 0 _ rfl rfl)

theorem biased_row {R' : ℕ} (hN : N = n * 8) (h : (⟨2, ![R, 1024]⟩ : Shape).Idx → EReal) (h' : (⟨2, ![R', 1024]⟩ : Shape).Idx → EReal)
    (w w' : (⟨3, ![8, 1024, n]⟩ : Shape).Idx → EReal) (v v' : (⟨2, ![1, N]⟩ : Shape).Idx → EReal) (i : (⟨2, ![R, N]⟩ : Shape).Idx)
    (i' : (⟨2, ![R', N]⟩ : Shape).Idx) (hh : ∀ k, h (ix2 (i 0) k) = h' (ix2 (i' 0) k)) (hw : ∀ j, w j = w' j) (hv : v (ix2 0 (i 1)) = v' (ix2 0 (i' 1)))
    (hi : (i' 1).val = (i 1).val) : biased hN h w v i = biased hN h' w' v' i' :=
  congrArg₂ _ (sharded_row hN h h' w w' i i' hh hw hi) hv

end Shards

section LayerNorm

/-- A row's mean. -/
def mean (x : Fin 1024 → EReal) : EReal := Ideal.div (∑ k, x k) ((1024 : ℝ) : EReal)
/-- Its entries with the mean taken off, over the root of their mean square. -/
def centred (x : Fin 1024 → EReal) (k : Fin 1024) : EReal := (x k - mean x) * ri fun j => x j - mean x
/-- The entries with gain `g` and offset `b`, times the logistic of that. -/
def lnSilu (x g b : Fin 1024 → EReal) (k : Fin 1024) : EReal :=
  (centred x k * g k + b k) * Ideal.div 1 (1 + Ideal.exp (-(centred x k * g k + b k)))

/-- The rows, each so. -/
def activated {R : ℕ} (v : (⟨2, ![R, 1024]⟩ : Shape).Idx → EReal) (g b : (⟨2, ![1, 1024]⟩ : Shape).Idx → EReal) : (⟨2, ![R, 1024]⟩ : Shape).Idx → EReal :=
  fun i => lnSilu (fun k => v (ix2 (i 0) k)) (fun k => g (ix2 0 k)) (fun k => b (ix2 0 k)) (i 1)

/-- An entry depends on its own row only. -/
theorem activated_row {R R' : ℕ} (v : (⟨2, ![R, 1024]⟩ : Shape).Idx → EReal) (v' : (⟨2, ![R', 1024]⟩ : Shape).Idx → EReal)
    (g g' b b' : (⟨2, ![1, 1024]⟩ : Shape).Idx → EReal) (r : Fin R) (r' : Fin R') (k : Fin 1024) (hv : ∀ q, v (ix2 r q) = v' (ix2 r' q))
    (hg : ∀ q, g (ix2 0 q) = g' (ix2 0 q)) (hb : ∀ q, b (ix2 0 q) = b' (ix2 0 q)) : activated v g b (ix2 r k) = activated v' g' b' (ix2 r' k) := by
  show lnSilu (fun q => v (ix2 r q)) (fun q => g (ix2 0 q)) (fun q => b (ix2 0 q)) k
    = lnSilu (fun q => v' (ix2 r' q)) (fun q => g' (ix2 0 q)) (fun q => b' (ix2 0 q)) k
  rw [funext hv, funext hg, funext hb]

end LayerNorm

section Gated
variable {R R' K : ℕ}

/-- The rows of `a`, each entry through `f`, times the weights. -/
def product (f : EReal → EReal) (a : (⟨2, ![R, K]⟩ : Shape).Idx → EReal) (w : (⟨2, ![K, 1024]⟩ : Shape).Idx → EReal) : (⟨2, ![R, 1024]⟩ : Shape).Idx → EReal :=
  fun i => ∑ k : Fin K, f (a (ix2 (i 0) k)) * w (ix2 k (i 1))

/-- That product added to `x` through the gate. -/
def gated (f : EReal → EReal) (a : (⟨2, ![R, K]⟩ : Shape).Idx → EReal) (w : (⟨2, ![K, 1024]⟩ : Shape).Idx → EReal) (x : (⟨2, ![R, 1024]⟩ : Shape).Idx → EReal)
    (g : (⟨2, ![1, 1024]⟩ : Shape).Idx → EReal) : (⟨2, ![R, 1024]⟩ : Shape).Idx → EReal :=
  fun i => x (ix2 (i 0) (i 1)) + g (ix2 0 (i 1)) * product f a w i

/-- The square of the positive part. -/
def reluSq (z : EReal) : EReal := max z 0 * max z 0

end Gated

end Cert.Fwd

end
-- ==== Proof.MlpOneF.lean ====
/- The multilayer perceptron's modulated rows and first product: `mlp1_fwd`, over the extended reals. -/
module

public import proofs.«01_k».proof.Defs
public import proofs.«01_k».proof.Proof.FwdSpec
public import proofs.«01_k».proof.Proof.Gen.MlpOneFIdeal.Value
public import proofs.«01_k».proof.Proof.Gen.RefOneFIdeal.Run
public import proofs.«01_k».proof.Proof.Gen.RefOneFIdeal.Read
public import Idealize.ShloMosaic.Lib.Pointwise
public import Idealize.ShloMosaic.Lib.Pipeline.ValueKit

@[expose] public section

set_option maxRecDepth 16384

noncomputable section

namespace Cert.OneF

open Cert.MlpOneFIdeal Cert.MlpOneFIdeal.Gen Cert.Nat2 Cert.Fwd
open Idealize.ShloMosaic Idealize.ShloMosaic.TcCoe Idealize.SL.Sem
open Idealize.ShloMosaic.Pipeline (Dat)

theorem hz : (![0, 0] : Fin 2 → ℕ) = fun _ => 0 := funext fun a => by fin_cases a <;> rfl
theorem h8 : 4096 = 512 * 8 := rfl

/-- The modulated rows of a grid point. -/
theorem rows_apply (x : FVec Ideal S1024x1024 .f32) (g s b : FVec Ideal S1x1024 .f32) (i : S1024x1024.Idx) :
    k0_pay2 (F := Ideal) x g s b i = modulated x g s b i := by
  pointwise [k0_pay2, modulated, Norm.ri, Norm.ms, Norm.row]
  rw [Norm.lit_1024, Retention.lit_eps]

/-- Their product with one shard of the weights. -/
theorem pay_apply (h : FVec Ideal S1024x1024 .bf16) (w : FVec Ideal S1x1024x512 .bf16) (i : S1024x512.Idx) :
    k0_pay1 (F := Ideal) h w i = ∑ k : Fin 1024, h (ix2 (i 0) k) * w (ix3 0 k (i 1)) := by
  pointwise [k0_pay1]

section Point
variable (x : Vec Ideal S1024x1024 .f32) (w : Vec Ideal S8x1024x512 .bf16) (g s b : Vec Ideal S1x1024 .f32)

/-- A grid point's modulated rows. -/
theorem rows_eq : k0_pay2 (F := Ideal) (View.ld x r0_0) (View.ld g r0_1) (View.ld s r0_1) (View.ld b r0_1) = modulated x g s b := by
  rw [View.ld_unit_zero (S := S1024x1024) hz, View.ld_unit_zero (S := S1x1024) hz, View.ld_unit_zero (S := S1x1024) hz,
    View.ld_unit_zero (S := S1x1024) hz]
  exact funext (rows_apply x g s b)
theorem blk6_eq (j : S1024x1024.Idx) : out0_6 (F := Ideal) x w g s b j = modulated x g s b j := by
  unfold out0_6
  rw [View.canon_unit_zero (S := S1024x1024) hz]
  exact congrFun (rows_eq x g s b) j

/-- One shard's columns of the product. -/
theorem piece_eq (o p : ℕ) (ho : p = 512 * o) (hw : ∀ a, (![o, 0, 0] : Fin 3 → ℕ) a + S1x1024x512.size a ≤ S8x1024x512.size a)
    (hp : ∀ a, (![0, p] : Fin 2 → ℕ) a + S1024x512.size a ≤ S1024x4096.size a) (i : S1024x512.Idx) :
    k0_pay1 (F := Ideal) (k0_pay10 x w g s b) (View.ld w (Rect.unit (s := S8x1024x512) ![o, 0, 0] S1x1024x512.size hw)) i
      = sharded h8 (modulated x g s b) w ((Rect.unit (s := S1024x4096) ![0, p] S1024x512.size hp).emb i) := by
  refine (pay_apply _ _ i).trans ?_
  rw [show k0_pay10 (F := Ideal) x w g s b = modulated x g s b from rows_eq x g s b]
  exact sharded_piece h8 (modulated x g s b) w o p ho hw hp i

/-- All eight. -/
theorem blk5_eq (j : S1024x4096.Idx) : out0_5 (F := Ideal) x w g s b j = sharded h8 (modulated x g s b) w j := by
  unfold out0_5
  refine View.canon_apply_of_pieces (Val := Elt Ideal) (e := .bf16) (sharded h8 (modulated x g s b) w) _ ?_ j (cover0_5 _ _ _ _ _ _ _ _ j)
  intro p hp
  rcases List.mem_cons.mp hp with rfl | hp
  · exact piece_eq x w g s b 7 3584 rfl inb_S8x1024x512_S1x1024x512_7_0_0 inb_S1024x4096_S1024x512_0_3584
  rcases List.mem_cons.mp hp with rfl | hp
  · exact piece_eq x w g s b 6 3072 rfl inb_S8x1024x512_S1x1024x512_6_0_0 inb_S1024x4096_S1024x512_0_3072
  rcases List.mem_cons.mp hp with rfl | hp
  · exact piece_eq x w g s b 5 2560 rfl inb_S8x1024x512_S1x1024x512_5_0_0 inb_S1024x4096_S1024x512_0_2560
  rcases List.mem_cons.mp hp with rfl | hp
  · exact piece_eq x w g s b 4 2048 rfl inb_S8x1024x512_S1x1024x512_4_0_0 inb_S1024x4096_S1024x512_0_2048
  rcases List.mem_cons.mp hp with rfl | hp
  · exact piece_eq x w g s b 3 1536 rfl inb_S8x1024x512_S1x1024x512_3_0_0 inb_S1024x4096_S1024x512_0_1536
  rcases List.mem_cons.mp hp with rfl | hp
  · exact piece_eq x w g s b 2 1024 rfl inb_S8x1024x512_S1x1024x512_2_0_0 inb_S1024x4096_S1024x512_0_1024
  rcases List.mem_cons.mp hp with rfl | hp
  · exact piece_eq x w g s b 1 512 rfl inb_S8x1024x512_S1x1024x512_1_0_0 inb_S1024x4096_S1024x512_0_512
  rcases List.mem_cons.mp hp with rfl | hp
  · exact piece_eq x w g s b 0 0 rfl inb_S8x1024x512_S1x1024x512_0_0_0 inb_S1024x4096_S1024x512_0_0
  · cases hp

end Point

variable (m : (ℓ : Loc nD τ sig) → Buf (Elt Ideal) ℓ) (c : Dev nD)

/-- The two result arrays as functions of the arguments. -/
abbrev rows : S8192x1024.Idx → EReal :=
  modulated (R := 8192) (m ((c : Thread nD τ).loc main_arg0)) (m ((c : Thread nD τ).loc main_arg2)) (m ((c : Thread nD τ).loc main_arg3))
    (m ((c : Thread nD τ).loc main_arg4))
abbrev result0 : Buf (Elt Ideal) ((c : Thread nD τ).loc main_v0_0) := sharded h8 (rows m c) (m ((c : Thread nD τ).loc main_arg1))
abbrev result1 : Buf (Elt Ideal) ((c : Thread nD τ).loc main_v0_1) := rows m c

theorem idx_facts : ∀ t : Fin cfg0.N, (win0_0.index t 0 = t.val ∧ win0_0.index t 1 = 0)
    ∧ (win0_1.index t 0 = 0 ∧ win0_1.index t 1 = 0 ∧ win0_1.index t 2 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ win0_6.index t 0 = t.val ∧ win0_6.index t 1 = 0 :=
  (by decide +kernel : ∀ t : Fin grid0.N, _)

/-- A point's modulated rows, in the array. -/
theorem rows_at (t : Fin cfg0.N) (r : Fin 1024) (r' : Fin 8192) (k : Fin 1024) (hr : r'.val = t.val * 1024 + r.val) :
    modulated (R := 1024) (iblk m c 0 t) (iblk m c 2 t) (iblk m c 3 t) (iblk m c 4 t) (ix2 r k) = rows m c (ix2 r' k) := by
  obtain ⟨e0, -, e2, e3, e4, -⟩ := idx_facts t
  refine modulated_row _ _ _ _ _ _ _ _ r r' k (fun q => ?_) (fun q => ?_) (fun q => ?_) (fun q => ?_)
  · exact at_ix2 (m ((c : Thread nD τ).loc main_arg0)) _ r' q (by blk_simp; omega) (by blk_simp; omega)
  · exact at_ix2 (m ((c : Thread nD τ).loc main_arg2)) _ 0 q (by blk_simp; simp [e2]) (by blk_simp; omega)
  · exact at_ix2 (m ((c : Thread nD τ).loc main_arg3)) _ 0 q (by blk_simp; simp [e3]) (by blk_simp; omega)
  · exact at_ix2 (m ((c : Thread nD τ).loc main_arg4)) _ 0 q (by blk_simp; simp [e4]) (by blk_simp; omega)

theorem rows_block (t : Fin cfg0.N) (y : S1024x1024.Idx) (i : S8192x1024.Idx) (h0 : (i 0).val = t.val * 1024 + (y 0).val) (h1 : (i 1).val = (y 1).val) :
    modulated (R := 1024) (iblk m c 0 t) (iblk m c 2 t) (iblk m c 3 t) (iblk m c 4 t) y = rows m c i :=
  (congrArg _ (eq_ix2 y)).trans ((rows_at m c t (y 0) (i 0) (y 1) h0).trans (at_ix2 (rows m c) i (i 0) (y 1) rfl h1).symm)

/-- The weights that a point reads are the whole array. -/
theorem weights_at (t : Fin cfg0.N) (i : S8x1024x512.Idx) : iblk m c 1 t i = m ((c : Thread nD τ).loc main_arg1) i := by
  obtain ⟨-, e1, -⟩ := idx_facts t
  refine congrArg (m ((c : Thread nD τ).loc main_arg1)) (funext fun a => Fin.ext ?_)
  match a with
  | ⟨0, _⟩ => blk_simp; omega
  | ⟨1, _⟩ => blk_simp; omega
  | ⟨2, _⟩ => blk_simp; omega

/-- The result arrays after the last point. -/
theorem final0 : (dats m 0 c).arrAt 5 cfg0.N = result0 m c := by
  refine (dats m 0 c).arrAt_eq_of_covers 5 _ (by decide +kernel) fun t _ y => ?_
  obtain ⟨-, -, -, -, -, e, -⟩ := idx_facts t
  refine (congrFun (after0_5 m c t) y).trans ((blk5_eq (iblk m c 0 t) (iblk m c 1 t) (iblk m c 2 t) (iblk m c 3 t) (iblk m c 4 t) y).trans ?_)
  exact sharded_row h8 _ _ _ _ y _ (fun k => rows_at m c t _ _ k (by blk_simp; omega)) (weights_at m c t) (by blk_simp; omega)
theorem final1 : (dats m 0 c).arrAt 6 cfg0.N = result1 m c := by
  refine (dats m 0 c).arrAt_eq_of_covers 6 _ (by decide +kernel) fun t _ y => ?_
  obtain ⟨-, -, -, -, -, -, e⟩ := idx_facts t
  refine (congrFun (after0_6 m c t) y).trans ((blk6_eq (iblk m c 0 t) (iblk m c 1 t) (iblk m c 2 t) (iblk m c 3 t) (iblk m c 4 t) y).trans ?_)
  exact rows_block m c t y _ (by blk_simp; omega) (by blk_simp; omega)

section Reference
open Cert.RefOneFIdeal.Read

/-- The reference's results are the same functions of the same arguments. -/
theorem ref_rows (x : FVec Ideal S8192x1024 .f32) (g s b : FVec Ideal S1x1024 .f32) (i : Cert.RefOneFIdeal.S1x8192x1024.Idx) :
    val_main_v25 (F := Ideal) x g s b i = modulated x g s b (ix2 (i 1) (i 2)) := by
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6, val_main_v5,
    val_main_v4, val_main_v3, val_main_cst, val_main_cst_0, val_main_cst_1, val_main_cst_2, modulated, Norm.ri, Norm.ms, Norm.row]
  rw [Norm.lit_1024, Retention.lit_eps]
theorem ref1_eq (x : FVec Ideal S8192x1024 .f32) (g s b : FVec Ideal S1x1024 .f32) : val_main_v30 (F := Ideal) x g s b = modulated x g s b := by
  funext i
  pointwise [val_main_v30, val_main_v29, ref_rows]
theorem ref0_eq (x : FVec Ideal S8192x1024 .f32) (w : FVec Ideal S8x1024x512 .bf16) (g s b : FVec Ideal S1x1024 .f32) :
    val_main_v28 (F := Ideal) x w g s b = sharded h8 (modulated x g s b) w := by
  funext i
  pointwise [val_main_v28, val_main_v27, val_main_v26, val_main_v2, val_main_v1, val_main_v0, ref_rows, sharded]

end Reference

/-- The idealized kernel and the reference end with equal results. -/
theorem algebraic : Cert.algebraic_MlpOneFIdeal_RefOneFIdeal := by
  intro m g m' g' _ hag
  refine ⟨fun c => result0 m c, fun c => result1 m c, (θ_run defs _ _).mono (fun _ h c => ?_) (Value.run_blocks m g),
    (θ_run Cert.RefOneFIdeal.defs _ _).mono (fun _ h c => ?_) (Cert.RefOneFIdeal.Value.run (F := Ideal) m' g')⟩
  · obtain ⟨h0, h1, h⟩ := h c
    exact ⟨h0.trans (final0 m c), h1.trans (final1 m c), h⟩
  · obtain ⟨h0, h1, h⟩ := h c
    obtain ⟨e0, e1, e2, e3, e4⟩ := hag c
    refine ⟨h0.trans ?_, h1.trans ?_, h⟩
    · rw [e0, e1, e2, e3, e4, Cert.RefOneFIdeal.Read.val_main_v28_eq]
      exact ref0_eq _ _ _ _ _
    · rw [e0, e2, e3, e4, Cert.RefOneFIdeal.Read.val_main_v30_eq]
      exact ref1_eq _ _ _ _

end Cert.OneF

end
-- ==== Proof.MlpTwoF.lean ====
/- The multilayer perceptron's second product, added to the layer's input: `mlp2_fwd`, over the extended reals. -/
module

public import proofs.«01_k».proof.Defs
public import proofs.«01_k».proof.Proof.FwdSpec
public import proofs.«01_k».proof.Proof.Gen.MlpTwoFIdeal.Value
public import proofs.«01_k».proof.Proof.Gen.RefTwoFIdeal.Run
public import proofs.«01_k».proof.Proof.Gen.RefTwoFIdeal.Read
public import Idealize.ShloMosaic.Lib.Pointwise
public import Idealize.ShloMosaic.Lib.Pipeline.ValueKit

@[expose] public section

set_option maxRecDepth 16384

noncomputable section

namespace Cert.TwoF

open Cert.MlpTwoFIdeal Cert.MlpTwoFIdeal.Gen Cert.Nat2 Cert.Fwd
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a grid point stores: the product of the activations, and the product added through the gate. -/
theorem raw_apply (z : FVec Ideal S1024x4096 .bf16) (w : FVec Ideal S4096x1024 .bf16) (i : S1024x1024.Idx) :
    k0_pay2 (F := Ideal) z w i = product reluSq z w i := by
  pointwise [k0_pay2, k0_pay1, product, reluSq]
theorem out_apply (z : FVec Ideal S1024x4096 .bf16) (w : FVec Ideal S4096x1024 .bf16) (x : FVec Ideal S1024x1024 .f32) (g : FVec Ideal S1x1024 .f32)
    (i : S1024x1024.Idx) : k0_pay3 (F := Ideal) z w x g i = gated reluSq z w x g i := by
  pointwise [k0_pay3, k0_pay1, gated, product, reluSq]

/-- A grid point's blocks of the two results. -/
theorem blk4_eq (z : Vec Ideal S1024x4096 .bf16) (w : Vec Ideal S4096x1024 .bf16) (x : Vec Ideal S1024x1024 .f32) (g : Vec Ideal S1x1024 .f32)
    (j : S1024x1024.Idx) : out0_4 (F := Ideal) z w x g j = gated reluSq z w x g j := by
  unfold out0_4
  rw [View.canon_unit_zero (S := S1024x1024) hz, View.ld_unit_zero (S := S1024x4096) hz, View.ld_unit_zero (S := S4096x1024) hz,
    View.ld_unit_zero (S := S1024x1024) hz, View.ld_unit_zero (S := S1x1024) hz]
  exact out_apply z w x g j
theorem blk5_eq (z : Vec Ideal S1024x4096 .bf16) (w : Vec Ideal S4096x1024 .bf16) (x : Vec Ideal S1024x1024 .f32) (g : Vec Ideal S1x1024 .f32)
    (j : S1024x1024.Idx) : out0_5 (F := Ideal) z w x g j = product reluSq z w j := by
  unfold out0_5
  rw [View.canon_unit_zero (S := S1024x1024) hz, View.ld_unit_zero (S := S1024x4096) hz, View.ld_unit_zero (S := S4096x1024) hz]
  exact raw_apply z w j

variable (m : (ℓ : Loc nD τ sig) → Buf (Elt Ideal) ℓ) (c : Dev nD)

/-- The two result arrays as functions of the arguments. -/
abbrev result0 : Buf (Elt Ideal) ((c : Thread nD τ).loc main_v0_0) :=
  gated (R := 8192) (K := 4096) reluSq (m ((c : Thread nD τ).loc main_arg0)) (m ((c : Thread nD τ).loc main_arg1)) (m ((c : Thread nD τ).loc main_arg2))
    (m ((c : Thread nD τ).loc main_arg3))
abbrev result1 : Buf (Elt Ideal) ((c : Thread nD τ).loc main_v0_1) :=
  product (R := 8192) (K := 4096) reluSq (m ((c : Thread nD τ).loc main_arg0)) (m ((c : Thread nD τ).loc main_arg1))

theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ win0_5.index t 0 = t.val ∧ win0_5.index t 1 = 0 :=
  (by decide +kernel : ∀ t : Fin grid0.N, _)

/-- A point's blocks of the two results, in the arrays. -/
theorem product_eq (t : Fin cfg0.N) (y : S1024x1024.Idx) (i : S8192x1024.Idx) (h0 : (i 0).val = t.val * 1024 + (y 0).val) (h1 : (i 1).val = (y 1).val) :
    product (R := 1024) (K := 4096) reluSq (iblk m c 0 t) (iblk m c 1 t) y = result1 m c i := by
  obtain ⟨e0, e1, -⟩ := idx_facts t
  refine Finset.sum_congr rfl fun k _ => congrArg₂ _ (congrArg reluSq ?_) ?_
  · exact at_ix2 (m ((c : Thread nD τ).loc main_arg0)) _ (i 0) k (by blk_simp; omega) (by blk_simp; omega)
  · exact at_ix2 (m ((c : Thread nD τ).loc main_arg1)) _ k (i 1) (by blk_simp; omega) (by blk_simp; omega)
theorem gated_eq (t : Fin cfg0.N) (y : S1024x1024.Idx) (i : S8192x1024.Idx) (h0 : (i 0).val = t.val * 1024 + (y 0).val) (h1 : (i 1).val = (y 1).val) :
    gated (R := 1024) (K := 4096) reluSq (iblk m c 0 t) (iblk m c 1 t) (iblk m c 2 t) (iblk m c 3 t) y = result0 m c i := by
  obtain ⟨-, -, e2, e3, -⟩ := idx_facts t
  refine congrArg₂ _ ?_ (congrArg₂ _ ?_ (product_eq m c t y i h0 h1))
  · exact at_ix2 (m ((c : Thread nD τ).loc main_arg2)) _ (i 0) (i 1) (by blk_simp; omega) (by blk_simp; omega)
  · exact at_ix2 (m ((c : Thread nD τ).loc main_arg3)) _ 0 (i 1) (by blk_simp; simp [e3]) (by blk_simp; omega)

/-- The result arrays after the last point. -/
theorem final0 : (dats m 0 c).arrAt 4 cfg0.N = result0 m c := by
  refine (dats m 0 c).arrAt_eq_of_covers 4 _ (by decide +kernel) fun t _ y => ?_
  obtain ⟨-, -, -, -, e, -⟩ := idx_facts t
  refine (congrFun (after0_4 m c t) y).trans ((blk4_eq (iblk m c 0 t) (iblk m c 1 t) (iblk m c 2 t) (iblk m c 3 t) y).trans ?_)
  exact gated_eq m c t y _ (by blk_simp; omega) (by blk_simp; omega)
theorem final1 : (dats m 0 c).arrAt 5 cfg0.N = result1 m c := by
  refine (dats m 0 c).arrAt_eq_of_covers 5 _ (by decide +kernel) fun t _ y => ?_
  obtain ⟨-, -, -, -, -, e⟩ := idx_facts t
  refine (congrFun (after0_5 m c t) y).trans ((blk5_eq (iblk m c 0 t) (iblk m c 1 t) (iblk m c 2 t) (iblk m c 3 t) y).trans ?_)
  exact product_eq m c t y _ (by blk_simp; omega) (by blk_simp; omega)

section Reference
open Cert.RefTwoFIdeal.Read

/-- The reference's results are the same functions of the same arguments. -/
theorem ref0_eq (z : FVec Ideal S8192x4096 .bf16) (w : FVec Ideal S4096x1024 .bf16) (x : FVec Ideal S8192x1024 .f32) (g : FVec Ideal S1x1024 .f32) :
    val_main_v11 (F := Ideal) z w x g = gated reluSq z w x g := by
  funext i
  pointwise [val_main_v11, val_main_v10, val_main_v9, val_main_v8, val_main_v7, val_main_v6, val_main_v5, val_main_v4, val_main_v3, val_main_v2,
    val_main_v1, val_main_call0_v0, val_main_call0_cst, val_main_v0, gated, product, reluSq]
theorem ref1_eq (z : FVec Ideal S8192x4096 .bf16) (w : FVec Ideal S4096x1024 .bf16) : val_main_v13 (F := Ideal) z w = product reluSq z w := by
  funext i
  pointwise [val_main_v13, val_main_v12, val_main_v5, val_main_v4, val_main_v3, val_main_v2, val_main_v1, val_main_call0_v0, val_main_call0_cst,
    val_main_v0, product, reluSq]

end Reference

/-- The idealized kernel and the reference end with equal results. -/
theorem algebraic : Cert.algebraic_MlpTwoFIdeal_RefTwoFIdeal := by
  intro m g m' g' _ hag
  refine ⟨fun c => result0 m c, fun c => result1 m c, (θ_run defs _ _).mono (fun _ h c => ?_) (Value.run_blocks m g),
    (θ_run Cert.RefTwoFIdeal.defs _ _).mono (fun _ h c => ?_) (Cert.RefTwoFIdeal.Value.run (F := Ideal) m' g')⟩
  · obtain ⟨h0, h1, h⟩ := h c
    exact ⟨h0.trans (final0 m c), h1.trans (final1 m c), h⟩
  · obtain ⟨h0, h1, h⟩ := h c
    obtain ⟨e0, e1, e2, e3⟩ := hag c
    refine ⟨h0.trans ?_, h1.trans ?_, h⟩
    · rw [e0, e1, e2, e3, Cert.RefTwoFIdeal.Read.val_main_v11_eq]
      exact ref0_eq _ _ _ _
    · rw [e0, e1, Cert.RefTwoFIdeal.Read.val_main_v13_eq]
      exact ref1_eq _ _

end Cert.TwoF

end
-- ==== Proof.RetInF.lean ====
/- The retention's modulated rows and input product: `ret_in_fwd`, over the extended reals. The reference's modulated rows are
   those of the multilayer perceptron's first product. -/
module

public import proofs.«01_k».proof.Proof.MlpOneF
public import proofs.«01_k».proof.Proof.Gen.RetInFIdeal.Value
public import proofs.«01_k».proof.Proof.Gen.RefInFIdeal.Run
public import proofs.«01_k».proof.Proof.Gen.RefInFIdeal.Read

@[expose] public section

set_option maxRecDepth 16384

noncomputable section

namespace Cert.InF

open Cert.RetInFIdeal Cert.RetInFIdeal.Gen Cert.Nat2 Cert.Fwd
open Idealize.ShloMosaic Idealize.ShloMosaic.TcCoe Idealize.SL.Sem
open Idealize.ShloMosaic.Pipeline (Dat)

theorem h8 : 6144 = 768 * 8 := rfl

/-- The modulated rows of a grid point. -/
theorem rows_apply (x : FVec Ideal S512x1024 .f32) (g s b : FVec Ideal S1x1024 .f32) (i : S512x1024.Idx) :
    k0_pay2 (F := Ideal) x g s b i = modulated x g s b i := by
  pointwise [k0_pay2, modulated, Norm.ri, Norm.ms, Norm.row]
  rw [Norm.lit_1024, Retention.lit_eps]

/-- Their product with one shard of the weights. -/
theorem pay_apply (h : FVec Ideal S512x1024 .bf16) (w : FVec Ideal S1x1024x768 .bf16) (i : S512x768.Idx) :
    k0_pay1 (F := Ideal) h w i = ∑ k : Fin 1024, h (ix2 (i 0) k) * w (ix3 0 k (i 1)) := by
  pointwise [k0_pay1]

section Point
variable (x : Vec Ideal S512x1024 .f32) (w : Vec Ideal S8x1024x768 .bf16) (g s b : Vec Ideal S1x1024 .f32)

/-- A grid point's modulated rows. -/
theorem rows_eq : k0_pay2 (F := Ideal) (View.ld x r0_0) (View.ld g r0_1) (View.ld s r0_1) (View.ld b r0_1) = modulated x g s b := by
  rw [View.ld_unit_zero (S := S512x1024) OneF.hz, View.ld_unit_zero (S := S1x1024) OneF.hz, View.ld_unit_zero (S := S1x1024) OneF.hz,
    View.ld_unit_zero (S := S1x1024) OneF.hz]
  exact funext (rows_apply x g s b)
theorem blk6_eq (j : S512x1024.Idx) : out0_6 (F := Ideal) x w g s b j = modulated x g s b j := by
  unfold out0_6
  rw [View.canon_unit_zero (S := S512x1024) OneF.hz]
  exact congrFun (rows_eq x g s b) j

/-- One shard's columns of the product. -/
theorem piece_eq (o p : ℕ) (ho : p = 768 * o) (hw : ∀ a, (![o, 0, 0] : Fin 3 → ℕ) a + S1x1024x768.size a ≤ S8x1024x768.size a)
    (hp : ∀ a, (![0, p] : Fin 2 → ℕ) a + S512x768.size a ≤ S512x6144.size a) (i : S512x768.Idx) :
    k0_pay1 (F := Ideal) (k0_pay10 x w g s b) (View.ld w (Rect.unit (s := S8x1024x768) ![o, 0, 0] S1x1024x768.size hw)) i
      = sharded h8 (modulated x g s b) w ((Rect.unit (s := S512x6144) ![0, p] S512x768.size hp).emb i) := by
  refine (pay_apply _ _ i).trans ?_
  rw [show k0_pay10 (F := Ideal) x w g s b = modulated x g s b from rows_eq x g s b]
  exact sharded_piece h8 (modulated x g s b) w o p ho hw hp i

/-- All eight. -/
theorem blk5_eq (j : S512x6144.Idx) : out0_5 (F := Ideal) x w g s b j = sharded h8 (modulated x g s b) w j := by
  unfold out0_5
  refine View.canon_apply_of_pieces (Val := Elt Ideal) (e := .bf16) (sharded h8 (modulated x g s b) w) _ ?_ j (cover0_5 _ _ _ _ _ _ _ _ j)
  intro p hp
  rcases List.mem_cons.mp hp with rfl | hp
  · exact piece_eq x w g s b 7 5376 rfl inb_S8x1024x768_S1x1024x768_7_0_0 inb_S512x6144_S512x768_0_5376
  rcases List.mem_cons.mp hp with rfl | hp
  · exact piece_eq x w g s b 6 4608 rfl inb_S8x1024x768_S1x1024x768_6_0_0 inb_S512x6144_S512x768_0_4608
  rcases List.mem_cons.mp hp with rfl | hp
  · exact piece_eq x w g s b 5 3840 rfl inb_S8x1024x768_S1x1024x768_5_0_0 inb_S512x6144_S512x768_0_3840
  rcases List.mem_cons.mp hp with rfl | hp
  · exact piece_eq x w g s b 4 3072 rfl inb_S8x1024x768_S1x1024x768_4_0_0 inb_S512x6144_S512x768_0_3072
  rcases List.mem_cons.mp hp with rfl | hp
  · exact piece_eq x w g s b 3 2304 rfl inb_S8x1024x768_S1x1024x768_3_0_0 inb_S512x6144_S512x768_0_2304
  rcases List.mem_cons.mp hp with rfl | hp
  · exact piece_eq x w g s b 2 1536 rfl inb_S8x1024x768_S1x1024x768_2_0_0 inb_S512x6144_S512x768_0_1536
  rcases List.mem_cons.mp hp with rfl | hp
  · exact piece_eq x w g s b 1 768 rfl inb_S8x1024x768_S1x1024x768_1_0_0 inb_S512x6144_S512x768_0_768
  rcases List.mem_cons.mp hp with rfl | hp
  · exact piece_eq x w g s b 0 0 rfl inb_S8x1024x768_S1x1024x768_0_0_0 inb_S512x6144_S512x768_0_0
  · cases hp

end Point

variable (m : (ℓ : Loc nD τ sig) → Buf (Elt Ideal) ℓ) (c : Dev nD)

/-- The two result arrays as functions of the arguments. -/
abbrev rows : S8192x1024.Idx → EReal :=
  modulated (R := 8192) (m ((c : Thread nD τ).loc main_arg0)) (m ((c : Thread nD τ).loc main_arg2)) (m ((c : Thread nD τ).loc main_arg3))
    (m ((c : Thread nD τ).loc main_arg4))
abbrev result0 : Buf (Elt Ideal) ((c : Thread nD τ).loc main_v0_0) := sharded h8 (rows m c) (m ((c : Thread nD τ).loc main_arg1))
abbrev result1 : Buf (Elt Ideal) ((c : Thread nD τ).loc main_v0_1) := rows m c

theorem idx_facts : ∀ t : Fin cfg0.N, (win0_0.index t 0 = t.val ∧ win0_0.index t 1 = 0)
    ∧ (win0_1.index t 0 = 0 ∧ win0_1.index t 1 = 0 ∧ win0_1.index t 2 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) ∧ win0_6.index t 0 = t.val ∧ win0_6.index t 1 = 0 :=
  (by decide +kernel : ∀ t : Fin grid0.N, _)

/-- A point's modulated rows, in the array. -/
theorem rows_at (t : Fin cfg0.N) (r : Fin 512) (r' : Fin 8192) (k : Fin 1024) (hr : r'.val = t.val * 512 + r.val) :
    modulated (R := 512) (iblk m c 0 t) (iblk m c 2 t) (iblk m c 3 t) (iblk m c 4 t) (ix2 r k) = rows m c (ix2 r' k) := by
  obtain ⟨e0, -, e2, e3, e4, -⟩ := idx_facts t
  refine modulated_row _ _ _ _ _ _ _ _ r r' k (fun q => ?_) (fun q => ?_) (fun q => ?_) (fun q => ?_)
  · exact at_ix2 (m ((c : Thread nD τ).loc main_arg0)) _ r' q (by blk_simp; omega) (by blk_simp; omega)
  · exact at_ix2 (m ((c : Thread nD τ).loc main_arg2)) _ 0 q (by blk_simp; simp [e2]) (by blk_simp; omega)
  · exact at_ix2 (m ((c : Thread nD τ).loc main_arg3)) _ 0 q (by blk_simp; simp [e3]) (by blk_simp; omega)
  · exact at_ix2 (m ((c : Thread nD τ).loc main_arg4)) _ 0 q (by blk_simp; simp [e4]) (by blk_simp; omega)
theorem rows_block (t : Fin cfg0.N) (y : S512x1024.Idx) (i : S8192x1024.Idx) (h0 : (i 0).val = t.val * 512 + (y 0).val) (h1 : (i 1).val = (y 1).val) :
    modulated (R := 512) (iblk m c 0 t) (iblk m c 2 t) (iblk m c 3 t) (iblk m c 4 t) y = rows m c i :=
  (congrArg _ (eq_ix2 y)).trans ((rows_at m c t (y 0) (i 0) (y 1) h0).trans (at_ix2 (rows m c) i (i 0) (y 1) rfl h1).symm)

/-- The weights that a point reads are the whole array. -/
theorem weights_at (t : Fin cfg0.N) (i : S8x1024x768.Idx) : iblk m c 1 t i = m ((c : Thread nD τ).loc main_arg1) i := by
  obtain ⟨-, e1, -⟩ := idx_facts t
  refine congrArg (m ((c : Thread nD τ).loc main_arg1)) (funext fun a => Fin.ext ?_)
  match a with
  | ⟨0, _⟩ => blk_simp; omega
  | ⟨1, _⟩ => blk_simp; omega
  | ⟨2, _⟩ => blk_simp; omega

/-- The result arrays after the last point. -/
theorem final0 : (dats m 0 c).arrAt 5 cfg0.N = result0 m c := by
  refine (dats m 0 c).arrAt_eq_of_covers 5 _ (by decide +kernel) fun t _ y => ?_
  obtain ⟨-, -, -, -, -, e, -⟩ := idx_facts t
  refine (congrFun (after0_5 m c t) y).trans ((blk5_eq (iblk m c 0 t) (iblk m c 1 t) (iblk m c 2 t) (iblk m c 3 t) (iblk m c 4 t) y).trans ?_)
  exact sharded_row h8 _ _ _ _ y _ (fun k => rows_at m c t _ _ k (by blk_simp; omega)) (weights_at m c t) (by blk_simp; omega)
theorem final1 : (dats m 0 c).arrAt 6 cfg0.N = result1 m c := by
  refine (dats m 0 c).arrAt_eq_of_covers 6 _ (by decide +kernel) fun t _ y => ?_
  obtain ⟨-, -, -, -, -, -, e⟩ := idx_facts t
  refine (congrFun (after0_6 m c t) y).trans ((blk6_eq (iblk m c 0 t) (iblk m c 1 t) (iblk m c 2 t) (iblk m c 3 t) (iblk m c 4 t) y).trans ?_)
  exact rows_block m c t y _ (by blk_simp; omega) (by blk_simp; omega)

section Reference
open Cert.RefInFIdeal.Read

/-- The reference's results are the same functions of the same arguments. -/
theorem ref_rows (x : FVec Ideal S8192x1024 .f32) (g s b : FVec Ideal S1x1024 .f32) (i : Cert.RefInFIdeal.S1x8192x1024.Idx) :
    val_main_v25 (F := Ideal) x g s b i = modulated x g s b (ix2 (i 1) (i 2)) := OneF.ref_rows x g s b i
theorem ref1_eq (x : FVec Ideal S8192x1024 .f32) (g s b : FVec Ideal S1x1024 .f32) : val_main_v30 (F := Ideal) x g s b = modulated x g s b :=
  OneF.ref1_eq x g s b
theorem ref0_eq (x : FVec Ideal S8192x1024 .f32) (w : FVec Ideal S8x1024x768 .bf16) (g s b : FVec Ideal S1x1024 .f32) :
    val_main_v28 (F := Ideal) x w g s b = sharded h8 (modulated x g s b) w := by
  funext i
  pointwise [val_main_v28, val_main_v27, val_main_v26, val_main_v2, val_main_v1, val_main_v0, ref_rows, sharded]

end Reference

/-- The idealized kernel and the reference end with equal results. -/
theorem algebraic : Cert.algebraic_RetInFIdeal_RefInFIdeal := by
  intro m g m' g' _ hag
  refine ⟨fun c => result0 m c, fun c => result1 m c, (θ_run defs _ _).mono (fun _ h c => ?_) (Value.run_blocks m g),
    (θ_run Cert.RefInFIdeal.defs _ _).mono (fun _ h c => ?_) (Cert.RefInFIdeal.Value.run (F := Ideal) m' g')⟩
  · obtain ⟨h0, h1, h⟩ := h c
    exact ⟨h0.trans (final0 m c), h1.trans (final1 m c), h⟩
  · obtain ⟨h0, h1, h⟩ := h c
    obtain ⟨e0, e1, e2, e3, e4⟩ := hag c
    refine ⟨h0.trans ?_, h1.trans ?_, h⟩
    · rw [e0, e1, e2, e3, e4, Cert.RefInFIdeal.Read.val_main_v28_eq]
      exact ref0_eq _ _ _ _ _
    · rw [e0, e2, e3, e4, Cert.RefInFIdeal.Read.val_main_v30_eq]
      exact ref1_eq _ _ _ _

end Cert.InF

end
-- ==== Proof.RetOutF.lean ====
/- The retention's output product, added to the layer's input: `ret_out_fwd`, over the extended reals. -/
module

public import proofs.«01_k».proof.Defs
public import proofs.«01_k».proof.Proof.FwdSpec
public import proofs.«01_k».proof.Proof.Gen.RetOutFIdeal.Value
public import proofs.«01_k».proof.Proof.Gen.RefOutFIdeal.Run
public import proofs.«01_k».proof.Proof.Gen.RefOutFIdeal.Read
public import Idealize.ShloMosaic.Lib.Pointwise
public import Idealize.ShloMosaic.Lib.Pipeline.ValueKit

@[expose] public section

set_option maxRecDepth 16384

noncomputable section

namespace Cert.OutF

open Cert.RetOutFIdeal Cert.RetOutFIdeal.Gen Cert.Nat2 Cert.Fwd
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- What a grid point stores: the product, and the product added through the gate. -/
theorem raw_apply (a : FVec Ideal S1024x2048 .bf16) (w : FVec Ideal S2048x1024 .bf16) (i : S1024x1024.Idx) :
    k0_pay2 (F := Ideal) a w i = product id a w i := by
  pointwise [k0_pay2, k0_pay1, product, id]
theorem out_apply (a : FVec Ideal S1024x2048 .bf16) (w : FVec Ideal S2048x1024 .bf16) (x : FVec Ideal S1024x1024 .f32) (g : FVec Ideal S1x1024 .f32)
    (i : S1024x1024.Idx) : k0_pay3 (F := Ideal) a w x g i = gated id a w x g i := by
  pointwise [k0_pay3, k0_pay1, gated, product, id]

/-- A grid point's blocks of the two results. -/
theorem blk4_eq (a : Vec Ideal S1024x2048 .bf16) (w : Vec Ideal S2048x1024 .bf16) (x : Vec Ideal S1024x1024 .f32) (g : Vec Ideal S1x1024 .f32)
    (j : S1024x1024.Idx) : out0_4 (F := Ideal) a w x g j = gated id a w x g j := by
  unfold out0_4
  rw [View.canon_unit_zero (S := S1024x1024) hz, View.ld_unit_zero (S := S1024x2048) hz, View.ld_unit_zero (S := S2048x1024) hz,
    View.ld_unit_zero (S := S1024x1024) hz, View.ld_unit_zero (S := S1x1024) hz]
  exact out_apply a w x g j
theorem blk5_eq (a : Vec Ideal S1024x2048 .bf16) (w : Vec Ideal S2048x1024 .bf16) (x : Vec Ideal S1024x1024 .f32) (g : Vec Ideal S1x1024 .f32)
    (j : S1024x1024.Idx) : out0_5 (F := Ideal) a w x g j = product id a w j := by
  unfold out0_5
  rw [View.canon_unit_zero (S := S1024x1024) hz, View.ld_unit_zero (S := S1024x2048) hz, View.ld_unit_zero (S := S2048x1024) hz]
  exact raw_apply a w j

variable (m : (ℓ : Loc nD τ sig) → Buf (Elt Ideal) ℓ) (c : Dev nD)

/-- The two result arrays as functions of the arguments. -/
abbrev result0 : Buf (Elt Ideal) ((c : Thread nD τ).loc main_v0_0) :=
  gated (R := 8192) (K := 2048) id (m ((c : Thread nD τ).loc main_arg0)) (m ((c : Thread nD τ).loc main_arg1)) (m ((c : Thread nD τ).loc main_arg2))
    (m ((c : Thread nD τ).loc main_arg3))
abbrev result1 : Buf (Elt Ideal) ((c : Thread nD τ).loc main_v0_1) :=
  product (R := 8192) (K := 2048) id (m ((c : Thread nD τ).loc main_arg0)) (m ((c : Thread nD τ).loc main_arg1))

theorem idx_facts : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ win0_5.index t 0 = t.val ∧ win0_5.index t 1 = 0 :=
  (by decide +kernel : ∀ t : Fin grid0.N, _)

/-- A point's blocks of the two results, in the arrays. -/
theorem product_eq (t : Fin cfg0.N) (y : S1024x1024.Idx) (i : S8192x1024.Idx) (h0 : (i 0).val = t.val * 1024 + (y 0).val) (h1 : (i 1).val = (y 1).val) :
    product (R := 1024) (K := 2048) id (iblk m c 0 t) (iblk m c 1 t) y = result1 m c i := by
  obtain ⟨e0, e1, -⟩ := idx_facts t
  refine Finset.sum_congr rfl fun k _ => congrArg₂ _ ?_ ?_
  · exact at_ix2 (m ((c : Thread nD τ).loc main_arg0)) _ (i 0) k (by blk_simp; omega) (by blk_simp; omega)
  · exact at_ix2 (m ((c : Thread nD τ).loc main_arg1)) _ k (i 1) (by blk_simp; omega) (by blk_simp; omega)
theorem gated_eq (t : Fin cfg0.N) (y : S1024x1024.Idx) (i : S8192x1024.Idx) (h0 : (i 0).val = t.val * 1024 + (y 0).val) (h1 : (i 1).val = (y 1).val) :
    gated (R := 1024) (K := 2048) id (iblk m c 0 t) (iblk m c 1 t) (iblk m c 2 t) (iblk m c 3 t) y = result0 m c i := by
  obtain ⟨-, -, e2, e3, -⟩ := idx_facts t
  refine congrArg₂ _ ?_ (congrArg₂ _ ?_ (product_eq m c t y i h0 h1))
  · exact at_ix2 (m ((c : Thread nD τ).loc main_arg2)) _ (i 0) (i 1) (by blk_simp; omega) (by blk_simp; omega)
  · exact at_ix2 (m ((c : Thread nD τ).loc main_arg3)) _ 0 (i 1) (by blk_simp; simp [e3]) (by blk_simp; omega)

/-- The result arrays after the last point. -/
theorem final0 : (dats m 0 c).arrAt 4 cfg0.N = result0 m c := by
  refine (dats m 0 c).arrAt_eq_of_covers 4 _ (by decide +kernel) fun t _ y => ?_
  obtain ⟨-, -, -, -, e, -⟩ := idx_facts t
  refine (congrFun (after0_4 m c t) y).trans ((blk4_eq (iblk m c 0 t) (iblk m c 1 t) (iblk m c 2 t) (iblk m c 3 t) y).trans ?_)
  exact gated_eq m c t y _ (by blk_simp; omega) (by blk_simp; omega)
theorem final1 : (dats m 0 c).arrAt 5 cfg0.N = result1 m c := by
  refine (dats m 0 c).arrAt_eq_of_covers 5 _ (by decide +kernel) fun t _ y => ?_
  obtain ⟨-, -, -, -, -, e⟩ := idx_facts t
  refine (congrFun (after0_5 m c t) y).trans ((blk5_eq (iblk m c 0 t) (iblk m c 1 t) (iblk m c 2 t) (iblk m c 3 t) y).trans ?_)
  exact product_eq m c t y _ (by blk_simp; omega) (by blk_simp; omega)

section Reference
open Cert.RefOutFIdeal.Read

/-- The reference's results are the same functions of the same arguments. -/
theorem ref0_eq (a : FVec Ideal S8192x2048 .bf16) (w : FVec Ideal S2048x1024 .bf16) (x : FVec Ideal S8192x1024 .f32) (g : FVec Ideal S1x1024 .f32) :
    val_main_v9 (F := Ideal) a w x g = gated id a w x g := by
  funext i
  pointwise [val_main_v9, val_main_v8, val_main_v7, val_main_v6, val_main_v5, val_main_v4, val_main_v3, val_main_v2, val_main_v1, val_main_v0, gated,
    product, id]
theorem ref1_eq (a : FVec Ideal S8192x2048 .bf16) (w : FVec Ideal S2048x1024 .bf16) : val_main_v11 (F := Ideal) a w = product id a w := by
  funext i
  pointwise [val_main_v11, val_main_v10, val_main_v3, val_main_v2, val_main_v1, val_main_v0, product, id]

end Reference

/-- The idealized kernel and the reference end with equal results. -/
theorem algebraic : Cert.algebraic_RetOutFIdeal_RefOutFIdeal := by
  intro m g m' g' _ hag
  refine ⟨fun c => result0 m c, fun c => result1 m c, (θ_run defs _ _).mono (fun _ h c => ?_) (Value.run_blocks m g),
    (θ_run Cert.RefOutFIdeal.defs _ _).mono (fun _ h c => ?_) (Cert.RefOutFIdeal.Value.run (F := Ideal) m' g')⟩
  · obtain ⟨h0, h1, h⟩ := h c
    exact ⟨h0.trans (final0 m c), h1.trans (final1 m c), h⟩
  · obtain ⟨h0, h1, h⟩ := h c
    obtain ⟨e0, e1, e2, e3⟩ := hag c
    refine ⟨h0.trans ?_, h1.trans ?_, h⟩
    · rw [e0, e1, e2, e3, Cert.RefOutFIdeal.Read.val_main_v9_eq]
      exact ref0_eq _ _ _ _
    · rw [e0, e1, Cert.RefOutFIdeal.Read.val_main_v11_eq]
      exact ref1_eq _ _

end Cert.OutF

end
-- ==== Proof.PwOneF.lean ====
/- The convolution mixer's modulated rows and first product, with its bias: `pw1_fwd`, over the extended reals. The reference's
   modulated rows are those of the multilayer perceptron's first product. -/
module

public import proofs.«01_k».proof.Proof.MlpOneF
public import proofs.«01_k».proof.Proof.Gen.PwOneFIdeal.Value
public import proofs.«01_k».proof.Proof.Gen.RefPwOneFIdeal.Run
public import proofs.«01_k».proof.Proof.Gen.RefPwOneFIdeal.Read

@[expose] public section

set_option maxRecDepth 16384

noncomputable section

namespace Cert.PwF

open Cert.PwOneFIdeal Cert.PwOneFIdeal.Gen Cert.Nat2 Cert.Fwd
open Idealize.ShloMosaic Idealize.ShloMosaic.TcCoe Idealize.SL.Sem
open Idealize.ShloMosaic.Pipeline (Dat)

theorem h8 : 2048 = 256 * 8 := rfl

/-- The product of modulated rows with one shard of the weights, and the shard's bias. -/
theorem pay_apply (h : FVec Ideal S1024x1024 .bf16) (w : FVec Ideal S1x1024x256 .bf16) (v : FVec Ideal S1x256 .f32) (i : S1024x256.Idx) :
    k0_pay3 (F := Ideal) h w v i = ∑ k : Fin 1024, h (ix2 (i 0) k) * w (ix3 0 k (i 1)) + v (ix2 0 (i 1)) := by
  pointwise [k0_pay3]

section Point
variable (x : Vec Ideal S1024x1024 .f32) (w : Vec Ideal S8x1024x256 .bf16) (v : Vec Ideal S1x2048 .f32) (g s b : Vec Ideal S1x1024 .f32)

/-- A grid point's modulated rows. -/
theorem rows_eq : k0_pay4 (F := Ideal) (View.ld x r0_0) (View.ld g r0_1) (View.ld s r0_1) (View.ld b r0_1) = modulated x g s b := OneF.rows_eq x g s b
theorem blk7_eq (j : S1024x1024.Idx) : out0_7 (F := Ideal) x w v g s b j = modulated x g s b j := by
  unfold out0_7
  rw [View.canon_unit_zero (S := S1024x1024) OneF.hz]
  exact congrFun (rows_eq x g s b) j

/-- One shard's columns of the product. -/
theorem piece_eq (o p : ℕ) (ho : p = 256 * o) (hw : ∀ a, (![o, 0, 0] : Fin 3 → ℕ) a + S1x1024x256.size a ≤ S8x1024x256.size a)
    (hv : ∀ a, (![0, p] : Fin 2 → ℕ) a + S1x256.size a ≤ S1x2048.size a)
    (hp : ∀ a, (![0, p] : Fin 2 → ℕ) a + S1024x256.size a ≤ S1024x2048.size a) (i : S1024x256.Idx) :
    k0_pay3 (F := Ideal) (k0_pay10 x w v g s b) (View.ld w (Rect.unit (s := S8x1024x256) ![o, 0, 0] S1x1024x256.size hw))
        (View.ld v (Rect.unit (s := S1x2048) ![0, p] S1x256.size hv)) i
      = biased h8 (modulated x g s b) w v ((Rect.unit (s := S1024x2048) ![0, p] S1024x256.size hp).emb i) := by
  refine (pay_apply _ _ _ i).trans ?_
  rw [show k0_pay10 (F := Ideal) x w v g s b = modulated x g s b from rows_eq x g s b]
  exact biased_piece h8 (modulated x g s b) w v o p ho hw hv hp i

/-- All eight. -/
theorem blk6_eq (j : S1024x2048.Idx) : out0_6 (F := Ideal) x w v g s b j = biased h8 (modulated x g s b) w v j := by
  unfold out0_6
  refine View.canon_apply_of_pieces (Val := Elt Ideal) (e := .f32) (biased h8 (modulated x g s b) w v) _ ?_ j (cover0_6 _ _ _ _ _ _ _ _ j)
  intro p hp
  rcases List.mem_cons.mp hp with rfl | hp
  · exact piece_eq x w v g s b 7 1792 rfl inb_S8x1024x256_S1x1024x256_7_0_0 inb_S1x2048_S1x256_0_1792 inb_S1024x2048_S1024x256_0_1792
  rcases List.mem_cons.mp hp with rfl | hp
  · exact piece_eq x w v g s b 6 1536 rfl inb_S8x1024x256_S1x1024x256_6_0_0 inb_S1x2048_S1x256_0_1536 inb_S1024x2048_S1024x256_0_1536
  rcases List.mem_cons.mp hp with rfl | hp
  · exact piece_eq x w v g s b 5 1280 rfl inb_S8x1024x256_S1x1024x256_5_0_0 inb_S1x2048_S1x256_0_1280 inb_S1024x2048_S1024x256_0_1280
  rcases List.mem_cons.mp hp with rfl | hp
  · exact piece_eq x w v g s b 4 1024 rfl inb_S8x1024x256_S1x1024x256_4_0_0 inb_S1x2048_S1x256_0_1024 inb_S1024x2048_S1024x256_0_1024
  rcases List.mem_cons.mp hp with rfl | hp
  · exact piece_eq x w v g s b 3 768 rfl inb_S8x1024x256_S1x1024x256_3_0_0 inb_S1x2048_S1x256_0_768 inb_S1024x2048_S1024x256_0_768
  rcases List.mem_cons.mp hp with rfl | hp
  · exact piece_eq x w v g s b 2 512 rfl inb_S8x1024x256_S1x1024x256_2_0_0 inb_S1x2048_S1x256_0_512 inb_S1024x2048_S1024x256_0_512
  rcases List.mem_cons.mp hp with rfl | hp
  · exact piece_eq x w v g s b 1 256 rfl inb_S8x1024x256_S1x1024x256_1_0_0 inb_S1x2048_S1x256_0_256 inb_S1024x2048_S1024x256_0_256
  rcases List.mem_cons.mp hp with rfl | hp
  · exact piece_eq x w v g s b 0 0 rfl inb_S8x1024x256_S1x1024x256_0_0_0 inb_S1x2048_S1x256_0_0 inb_S1024x2048_S1024x256_0_0
  · cases hp

end Point

variable (m : (ℓ : Loc nD τ sig) → Buf (Elt Ideal) ℓ) (c : Dev nD)

/-- The two result arrays as functions of the arguments. -/
abbrev rows : S8192x1024.Idx → EReal :=
  modulated (R := 8192) (m ((c : Thread nD τ).loc main_arg0)) (m ((c : Thread nD τ).loc main_arg2)) (m ((c : Thread nD τ).loc main_arg3))
    (m ((c : Thread nD τ).loc main_arg4))
abbrev result0 : Buf (Elt Ideal) ((c : Thread nD τ).loc main_v0_0) :=
  biased h8 (rows m c) (m ((c : Thread nD τ).loc main_arg1)) (m ((c : Thread nD τ).loc main_arg5))
abbrev result1 : Buf (Elt Ideal) ((c : Thread nD τ).loc main_v0_1) := rows m c

theorem idx_facts : ∀ t : Fin cfg0.N, (win0_0.index t 0 = t.val ∧ win0_0.index t 1 = 0)
    ∧ (win0_1.index t 0 = 0 ∧ win0_1.index t 1 = 0 ∧ win0_1.index t 2 = 0) ∧ (win0_2.index t 0 = 0 ∧ win0_2.index t 1 = 0)
    ∧ (win0_3.index t 0 = 0 ∧ win0_3.index t 1 = 0) ∧ (win0_4.index t 0 = 0 ∧ win0_4.index t 1 = 0) ∧ (win0_5.index t 0 = 0 ∧ win0_5.index t 1 = 0)
    ∧ (win0_6.index t 0 = t.val ∧ win0_6.index t 1 = 0) ∧ win0_7.index t 0 = t.val ∧ win0_7.index t 1 = 0 :=
  (by decide +kernel : ∀ t : Fin grid0.N, _)

/-- A point's modulated rows, in the array. -/
theorem rows_at (t : Fin cfg0.N) (r : Fin 1024) (r' : Fin 8192) (k : Fin 1024) (hr : r'.val = t.val * 1024 + r.val) :
    modulated (R := 1024) (iblk m c 0 t) (iblk m c 3 t) (iblk m c 4 t) (iblk m c 5 t) (ix2 r k) = rows m c (ix2 r' k) := by
  obtain ⟨e0, -, -, e3, e4, e5, -⟩ := idx_facts t
  refine modulated_row _ _ _ _ _ _ _ _ r r' k (fun q => ?_) (fun q => ?_) (fun q => ?_) (fun q => ?_)
  · exact at_ix2 (m ((c : Thread nD τ).loc main_arg0)) _ r' q (by blk_simp; omega) (by blk_simp; omega)
  · exact at_ix2 (m ((c : Thread nD τ).loc main_arg2)) _ 0 q (by blk_simp; simp [e3]) (by blk_simp; omega)
  · exact at_ix2 (m ((c : Thread nD τ).loc main_arg3)) _ 0 q (by blk_simp; simp [e4]) (by blk_simp; omega)
  · exact at_ix2 (m ((c : Thread nD τ).loc main_arg4)) _ 0 q (by blk_simp; simp [e5]) (by blk_simp; omega)
theorem rows_block (t : Fin cfg0.N) (y : S1024x1024.Idx) (i : S8192x1024.Idx) (h0 : (i 0).val = t.val * 1024 + (y 0).val) (h1 : (i 1).val = (y 1).val) :
    modulated (R := 1024) (iblk m c 0 t) (iblk m c 3 t) (iblk m c 4 t) (iblk m c 5 t) y = rows m c i :=
  (congrArg _ (eq_ix2 y)).trans ((rows_at m c t (y 0) (i 0) (y 1) h0).trans (at_ix2 (rows m c) i (i 0) (y 1) rfl h1).symm)

/-- The weights that a point reads are the whole array. -/
theorem weights_at (t : Fin cfg0.N) (i : S8x1024x256.Idx) : iblk m c 1 t i = m ((c : Thread nD τ).loc main_arg1) i := by
  obtain ⟨-, e1, -⟩ := idx_facts t
  refine congrArg (m ((c : Thread nD τ).loc main_arg1)) (funext fun a => Fin.ext ?_)
  match a with
  | ⟨0, _⟩ => blk_simp; omega
  | ⟨1, _⟩ => blk_simp; omega
  | ⟨2, _⟩ => blk_simp; omega

/-- A point's product, in the array. -/
theorem biased_block (t : Fin cfg0.N) (y : S1024x2048.Idx) (i : S8192x2048.Idx) (h0 : (i 0).val = t.val * 1024 + (y 0).val) (h1 : (i 1).val = (y 1).val) :
    biased h8 (modulated (R := 1024) (iblk m c 0 t) (iblk m c 3 t) (iblk m c 4 t) (iblk m c 5 t)) (iblk m c 1 t) (iblk m c 2 t) y = result0 m c i := by
  obtain ⟨-, -, e2, -⟩ := idx_facts t
  refine biased_row h8 _ (rows m c) _ (m ((c : Thread nD τ).loc main_arg1)) _ (m ((c : Thread nD τ).loc main_arg5)) y i
    (fun k => rows_at m c t _ _ k h0) (weights_at m c t) ?_ h1
  exact at_ix2 (m ((c : Thread nD τ).loc main_arg5)) _ 0 (i 1) (by blk_simp; simp [e2]) (by blk_simp; omega)

/-- The result arrays after the last point. -/
theorem final0 : (dats m 0 c).arrAt 6 cfg0.N = result0 m c := by
  refine (dats m 0 c).arrAt_eq_of_covers 6 _ (by decide +kernel) fun t _ y => ?_
  obtain ⟨-, -, -, -, -, -, e, -⟩ := idx_facts t
  refine (congrFun (after0_6 m c t) y).trans ((blk6_eq (iblk m c 0 t) (iblk m c 1 t) (iblk m c 2 t) (iblk m c 3 t) (iblk m c 4 t) (iblk m c 5 t) y).trans ?_)
  exact biased_block m c t y _ (by blk_simp; omega) (by blk_simp; omega)
theorem final1 : (dats m 0 c).arrAt 7 cfg0.N = result1 m c := by
  refine (dats m 0 c).arrAt_eq_of_covers 7 _ (by decide +kernel) fun t _ y => ?_
  obtain ⟨-, -, -, -, -, -, -, e⟩ := idx_facts t
  refine (congrFun (after0_7 m c t) y).trans ((blk7_eq (iblk m c 0 t) (iblk m c 1 t) (iblk m c 2 t) (iblk m c 3 t) (iblk m c 4 t) (iblk m c 5 t) y).trans ?_)
  exact rows_block m c t y _ (by blk_simp; omega) (by blk_simp; omega)

section Reference
open Cert.RefPwOneFIdeal.Read

/-- The reference's results are the same functions of the same arguments. -/
theorem ref_rows (x : FVec Ideal S8192x1024 .f32) (g s b : FVec Ideal S1x1024 .f32) (i : Cert.RefPwOneFIdeal.S1x8192x1024.Idx) :
    val_main_v25 (F := Ideal) x g s b i = modulated x g s b (ix2 (i 1) (i 2)) := OneF.ref_rows x g s b i
theorem ref1_eq (x : FVec Ideal S8192x1024 .f32) (g s b : FVec Ideal S1x1024 .f32) : val_main_v33 (F := Ideal) x g s b = modulated x g s b :=
  OneF.ref1_eq x g s b
theorem ref0_eq (x : FVec Ideal S8192x1024 .f32) (w : FVec Ideal S8x1024x256 .bf16) (g s b : FVec Ideal S1x1024 .f32) (v : FVec Ideal S1x2048 .f32) :
    val_main_v31 (F := Ideal) x w g s b v = biased h8 (modulated x g s b) w v := by
  funext i
  pointwise [val_main_v31, val_main_v30, val_main_v29, val_main_v28, val_main_v27, val_main_v26, val_main_v2, val_main_v1, val_main_v0, ref_rows,
    biased, sharded]

end Reference

/-- The idealized kernel and the reference end with equal results. -/
theorem algebraic : Cert.algebraic_PwOneFIdeal_RefPwOneFIdeal := by
  intro m g m' g' _ hag
  refine ⟨fun c => result0 m c, fun c => result1 m c, (θ_run defs _ _).mono (fun _ h c => ?_) (Value.run_blocks m g),
    (θ_run Cert.RefPwOneFIdeal.defs _ _).mono (fun _ h c => ?_) (Cert.RefPwOneFIdeal.Value.run (F := Ideal) m' g')⟩
  · obtain ⟨h0, h1, h⟩ := h c
    exact ⟨h0.trans (final0 m c), h1.trans (final1 m c), h⟩
  · obtain ⟨h0, h1, h⟩ := h c
    obtain ⟨e0, e1, e2, e3, e4, e5⟩ := hag c
    refine ⟨h0.trans ?_, h1.trans ?_, h⟩
    · rw [e0, e1, e2, e3, e4, e5, Cert.RefPwOneFIdeal.Read.val_main_v31_eq]
      exact ref0_eq _ _ _ _ _ _
    · rw [e0, e2, e3, e4, Cert.RefPwOneFIdeal.Read.val_main_v33_eq]
      exact ref1_eq _ _ _ _

end Cert.PwF

end
-- ==== Proof.PwOneW.lean ====
/- The gradient of the weight of the convolution mixer's first product, one block of columns per device: `pw1_bwd_w`, over the
   extended reals. -/
module

public import proofs.«01_k».proof.Defs
public import proofs.«01_k».proof.Proof.Basic
public import proofs.«01_k».proof.Proof.Gen.PwOneWIdeal.Value
public import proofs.«01_k».proof.Proof.Gen.RefPwOneWIdeal.Run
public import proofs.«01_k».proof.Proof.Gen.RefPwOneWIdeal.Read
public import Idealize.ShloMosaic.Lib.Pipeline.ValueKit

@[expose] public section

set_option maxRecDepth 16384

noncomputable section

namespace Cert.PwW

open Cert.PwOneWIdeal Cert.PwOneWIdeal.Gen Cert.Nat2
open Idealize.ShloMosaic Idealize.ShloMosaic.TcCoe Idealize.SL.Sem
open Idealize.ShloMosaic.Pipeline (Dat)

/-- The weight's gradient: the sum over the tokens. -/
def grad (h : S8192x1024.Idx → EReal) (d : S8192x2048.Idx → EReal) : S8x1024x256.Idx → EReal :=
  fun i => ∑ q ∈ Finset.range 8192, term h d (i 1).val ((i 0).val * 256 + (i 2).val) q

/-- What a point adds to the accumulator: 1024 tokens. -/
def part (h : Vec Ideal S1024x1024 .bf16) (d : Vec Ideal S1024x2048 .f32) (i : S1024x2048.Idx) : EReal :=
  ∑ k : Fin 1024, h (ix2 k (i 0)) * d (ix2 k (i 1))

theorem pay_apply (h : FVec Ideal S1024x1024 .bf16) (acc : FVec Ideal S1024x2048 .f32) (d : FVec Ideal S1024x2048 .f32)
    (i : S1024x2048.Idx) : k0_pay2 (F := Ideal) h acc d i = acc i + part h d i := by
  pointwise [k0_pay2, part]

/-- The columns of a block, cut in eight. -/
def blocks (g : S1024x2048.Idx → EReal) : S8x1024x256.Idx → EReal :=
  fun y => at2 g (y 1).val ((y 0).val * 256 + (y 2).val)

/-- What is stored of one block. -/
theorem piece_apply (g : FVec Ideal S1024x2048 .f32) (n o : ℕ) (e : o = n * 256)
    (hn : ∀ a, (![n, 0, 0] : Fin 3 → ℕ) a + S1x1024x256.size a ≤ S8x1024x256.size a)
    (ho : ∀ a, (![0, o] : Fin 2 → ℕ) a + S1024x256.size a ≤ S1024x2048.size a) (x : S1x1024x256.Idx) :
    k0_pay4 (F := Ideal) (View.ld g (Rect.unit (s := S1024x2048) ![0, o] S1024x256.size ho)) x
      = blocks g ((Rect.unit (s := S8x1024x256) ![n, 0, 0] S1x1024x256.size hn).emb x) := by
  subst e
  unfold blocks
  pointwise [k0_pay4]
  refine at2_of_val g _ _ _ ?_ ?_
  · show (x 1).val = 0 + 1 * (x 1).val; omega
  · have : (x 0).val < 1 := (x 0).isLt
    show n * 256 + (x 2).val = (n + 1 * (x 0).val) * 256 + (0 + 1 * (x 2).val); omega

theorem hz : (![0, 0] : Fin 2 → ℕ) = fun _ => 0 := funext fun a => by fin_cases a <;> rfl

section Last
variable (c : Dev nD) (i : grid0.Coords) (a2 : Memref sig .tc .vmem S1024x1024 .bf16) (h2 : a2.IsWhole) (a3 : Memref sig .tc .vmem S1024x2048 .f32) (h3 : a3.IsWhole)
  (a4 : Memref sig .tc .vmem S8x1024x256 .bf16) (h4 : a4.IsWhole) (a5 : Memref sig .tc .vmem S1024x2048 .f32) (h5 : a5.IsWhole)
  (h : Vec Ideal S1024x1024 .bf16) (d : Vec Ideal S1024x2048 .f32) (acc : Vec Ideal S1024x2048 .f32)

/-- What the last point of a run writes: the sum, its columns in eight blocks. -/
theorem out_C (hc0 : ¬cond0_0 i) (hc1 : cond0_1 i) (y : S8x1024x256.Idx) :
    out0_C_2 (F := Ideal) c i a2 h2 a3 h3 a4 h4 a5 h5 hc0 hc1 h d acc y = blocks (k0_pay2 (F := Ideal) h acc d) y := by
  unfold out0_C_2
  rw [View.read_writes_eq_canon _ _ _ (cover0_C_2 c i a2 h2 a3 h3 a4 h4 a5 h5 hc0 hc1 h d acc)]
  refine View.canon_apply_of_pieces (Val := Elt Ideal) (e := .bf16) (blocks (k0_pay2 (F := Ideal) h acc d)) _ ?_ y (cover0_C_2 c i a2 h2 a3 h3 a4 h4 a5 h5 hc0 hc1 h d acc y)
  unfold kernelRun0_C
  dsimp only
  sl_unfold_words
  have hrd : ∀ (P : FVec Ideal S1024x2048 .f32) (r : Rect S1024x2048),
      a5.view.readCov (Val := Elt Ideal) [⟨Rect.unit (s := S1024x2048) ![0, 0] S1024x2048.size inb_S1024x2048_S1024x2048_0_0, P⟩] r.toLoadRect = View.ld P r := by
    intro P r
    refine (View.readCov_eq_canon_ld a5.view _ r ?_).trans ?_
    · intro y
      exact ⟨_, List.mem_singleton_self _, View.mem_set_unit_zero (S := S1024x2048) hz inb_S1024x2048_S1024x2048_0_0 y⟩
    · rw [View.canon_unit_zero (S := S1024x2048) hz]
  simp only [View.readAt_eq_ld, h2.read_unread, h3.read_unread, h5.read_unread, View.ld_unit_zero (S := S1024x2048) hz, View.ld_unit_zero (S := S1024x1024) hz,
    View.ld_unit_zero (S := S1024x2048) hz, hrd]
  intro p hp
  simp only [List.mem_cons, List.not_mem_nil, or_false] at hp
  rcases hp with rfl | rfl | rfl | rfl | rfl | rfl | rfl | rfl
  · exact piece_apply (k0_pay2 (F := Ideal) h acc d) 7 1792 rfl inb_S8x1024x256_S1x1024x256_7_0_0 inb_S1024x2048_S1024x256_0_1792
  · exact piece_apply (k0_pay2 (F := Ideal) h acc d) 6 1536 rfl inb_S8x1024x256_S1x1024x256_6_0_0 inb_S1024x2048_S1024x256_0_1536
  · exact piece_apply (k0_pay2 (F := Ideal) h acc d) 5 1280 rfl inb_S8x1024x256_S1x1024x256_5_0_0 inb_S1024x2048_S1024x256_0_1280
  · exact piece_apply (k0_pay2 (F := Ideal) h acc d) 4 1024 rfl inb_S8x1024x256_S1x1024x256_4_0_0 inb_S1024x2048_S1024x256_0_1024
  · exact piece_apply (k0_pay2 (F := Ideal) h acc d) 3 768 rfl inb_S8x1024x256_S1x1024x256_3_0_0 inb_S1024x2048_S1024x256_0_768
  · exact piece_apply (k0_pay2 (F := Ideal) h acc d) 2 512 rfl inb_S8x1024x256_S1x1024x256_2_0_0 inb_S1024x2048_S1024x256_0_512
  · exact piece_apply (k0_pay2 (F := Ideal) h acc d) 1 256 rfl inb_S8x1024x256_S1x1024x256_1_0_0 inb_S1024x2048_S1024x256_0_256
  · exact piece_apply (k0_pay2 (F := Ideal) h acc d) 0 0 rfl inb_S8x1024x256_S1x1024x256_0_0_0 inb_S1024x2048_S1024x256_0_0

end Last

variable (m : (ℓ : Loc nD τ sig) → Buf (Elt Ideal) ℓ) (c : Dev nD)

/-- The result array as a function of the arguments. -/
abbrev result : Buf (Elt Ideal) ((c : Thread nD τ).loc main_v0) :=
  grad (m ((c : Thread nD τ).loc main_arg0)) (m ((c : Thread nD τ).loc main_arg1))

theorem idx_facts : ∀ t : Fin cfg0.N, (win0_0.index t 0 = t.val % 8 ∧ win0_0.index t 1 = 0)
    ∧ (win0_1.index t 0 = t.val % 8 ∧ win0_1.index t 1 = t.val / 8) ∧ win0_2.index t 0 = t.val / 8 ∧ win0_2.index t 1 = 0 ∧ win0_2.index t 2 = 0 :=
  (by decide +kernel : ∀ t : Fin grid0.N, _)
theorem last_only : ∀ t : Fin cfg0.N, (cfg0.win 2).flush t = true → t.val % 8 = 7 := (by decide +kernel : ∀ t : Fin cfg0.N, _)

/-- The first `n` blocks of tokens, for the `p`-th block of columns. -/
def upto (p n : ℕ) (j : S1024x2048.Idx) : EReal :=
  ∑ q ∈ Finset.range (1024 * n), term (m ((c : Thread nD τ).loc main_arg0)) (m ((c : Thread nD τ).loc main_arg1)) (j 0).val (p * 2048 + (j 1).val) q

/-- One point more. -/
theorem upto_part (t : Fin cfg0.N) (j : S1024x2048.Idx) :
    upto m c (t.val / 8) (t.val % 8) j + part (iblk m c 0 t) (iblk m c 1 t) j = upto m c (t.val / 8) (t.val % 8 + 1) j := by
  obtain ⟨e0, e1, -⟩ := idx_facts t
  refine (congrArg (_ + ·) (Finset.sum_congr rfl fun k _ => congrArg₂ _
    (at2_of_val (m ((c : Thread nD τ).loc main_arg0)) _ (1024 * (t.val % 8) + k.val) (j 0).val (by blk_simp; omega) (by blk_simp; omega))
    (at2_of_val (m ((c : Thread nD τ).loc main_arg1)) _ (1024 * (t.val % 8) + k.val) (t.val / 8 * 2048 + (j 1).val) (by blk_simp; omega) (by blk_simp; omega)))).trans ?_
  exact sum_range_run (term (m ((c : Thread nD τ).loc main_arg0)) (m ((c : Thread nD τ).loc main_arg1)) (j 0).val (t.val / 8 * 2048 + (j 1).val))
    (1024 * (t.val % 8)) 1024

/-- What the accumulator holds after a point that is not the last of its run: the tokens so far. -/
theorem scratch_eq (j : S1024x2048.Idx) : ∀ (n : ℕ) (h : n < cfg0.N) (_ : n % 8 ≠ 7), (outsAt0 m c n h).2 j = upto m c (n / 8) (n % 8 + 1) j := by
  intro n
  induction n with
  | zero =>
    intro h _
    rw [outsAt0_A m c ⟨0, h⟩ rfl (by norm_num)]
    frame_out
    refine (pay_apply _ _ _ j).trans ?_
    rw [← upto_part m c ⟨0, h⟩]
    refine congrArg (· + _) ?_
    pointwise [k0_pay1]
    rfl
  | succ n ih =>
    intro h hl
    by_cases h0 : (n + 1) % 8 = 0
    · rw [outsAt0_A m c ⟨n + 1, h⟩ h0 hl]
      frame_out
      refine (pay_apply _ _ _ j).trans ?_
      rw [← upto_part m c ⟨n + 1, h⟩]
      refine congrArg (· + _) ?_
      dsimp only
      rw [h0]
      pointwise [k0_pay1]
      rfl
    · rw [outsAt0_B m c ⟨n + 1, h⟩ h0 hl]
      frame_out
      refine (pay_apply _ _ _ j).trans ?_
      rw [← upto_part m c ⟨n + 1, h⟩]
      refine congrArg (· + _) ((congrFun (Memref.IsWhole.read_unread _ _) j).trans ((ih (Nat.lt_of_succ_lt h) (by omega)).trans ?_))
      rw [show n / 8 = (n + 1) / 8 by omega, show n % 8 + 1 = (n + 1) % 8 by omega]

/-- What the last point of a run writes: all tokens. -/
theorem out_eq (t : Fin cfg0.N) (ht : t.val % 8 = 7) (y : S8x1024x256.Idx) :
    (outsAt0 m c t.val t.isLt).1 y = blocks (upto m c (t.val / 8) 8) y := by
  rw [outsAt0_C m c t (by omega) ht]
  dsimp only
  rw [out_C]
  refine congrFun (congrArg blocks (funext fun j => ?_)) y
  rw [pay_apply, scratch_eq m c j (t.val - 1) _ (by omega), show (t.val - 1) / 8 = t.val / 8 by omega, show (t.val - 1) % 8 + 1 = t.val % 8 by omega,
    upto_part, ht]

/-- The result array after the last point. -/
theorem final : (dats m 0 c).arrAt 2 cfg0.N = result m c := by
  refine (dats m 0 c).arrAt_eq_of_covers 2 _ (by decide +kernel) fun t hf y => ?_
  obtain ⟨-, -, e0, e1, e2⟩ := idx_facts t
  rw [after0_2]
  refine (out_eq m c t (last_only t hf) y).trans ?_
  have h0 : (y 0).val < 8 := (y 0).isLt
  have h1 : (y 1).val < 1024 := (y 1).isLt
  have h2 : (y 2).val < 256 := (y 2).isLt
  unfold blocks at2
  rw [dif_pos (show (y 1).val < 1024 ∧ (y 0).val * 256 + (y 2).val < 2048 by omega)]
  refine congrArg₂ (fun f e => ∑ q ∈ Finset.range 8192, term (m ((c : Thread nD τ).loc main_arg0)) (m ((c : Thread nD τ).loc main_arg1)) f e q) ?_ ?_
  · show (y 1).val = win0_2.index t 1 * 1024 + 1 * (y 1).val; omega
  · show t.val / 8 * 2048 + ((y 0).val * 256 + (y 2).val) = (win0_2.index t 0 * 8 + 1 * (y 0).val) * 256 + (win0_2.index t 2 * 256 + 1 * (y 2).val); omega

/-- The reference's result is the same function of the same arguments. -/
theorem ref_eq (h : FVec Ideal S8192x1024 .bf16) (d : FVec Ideal S8192x2048 .f32) :
    Cert.RefPwOneWIdeal.Read.val_main_v7 (F := Ideal) h d = grad h d := by
  funext i
  show _ = ∑ q ∈ Finset.range 8192, term h d (i 1).val ((i 0).val * 256 + (i 2).val) q
  rw [Finset.sum_range]
  pointwise [Cert.RefPwOneWIdeal.Read.val_main_v7, Cert.RefPwOneWIdeal.Read.val_main_v6, Cert.RefPwOneWIdeal.Read.val_main_v5,
    Cert.RefPwOneWIdeal.Read.val_main_v4, Cert.RefPwOneWIdeal.Read.val_main_v3, Cert.RefPwOneWIdeal.Read.val_main_v0]
  refine Finset.sum_congr rfl fun k _ => (mul_comm _ _).trans ?_
  exact congrArg₂ _ (at2_of_val h _ _ _ rfl rfl) (at2_of_val d _ _ _ rfl rfl)

/-- The idealized kernel and the reference's vector-Jacobian product end with equal results. -/
theorem algebraic : Cert.algebraic_PwOneWIdeal_RefPwOneWIdeal := by
  intro m g m' g' _ hag
  refine ⟨fun c => result m c, (θ_run defs _ _).mono (fun _ h c => ⟨((h c).1).trans (final m c), (h c).2⟩) (Value.run_blocks m g),
    (θ_run Cert.RefPwOneWIdeal.defs _ _).mono (fun _ h c => ?_) (Cert.RefPwOneWIdeal.Value.run (F := Ideal) m' g')⟩
  obtain ⟨h0, h⟩ := h c
  obtain ⟨e0, e1⟩ := hag c
  refine ⟨h0.trans ?_, h⟩
  rw [e0, e1, Cert.RefPwOneWIdeal.Read.val_main_v7_eq]
  exact ref_eq _ _

end Cert.PwW

end
-- ==== Proof.PwOneX.lean ====
/- `pw1_bwd_x`, idealized, against its reference: the gradient with respect to the rows that enter the convolution mixer, and
   through the norm and the gate before it. Its product is its own; what follows is the same as in `mlp1_bwd_x`. -/
module

public import proofs.«01_k».proof.Defs
public import proofs.«01_k».proof.Proof.NormPoint
public import proofs.«01_k».proof.Proof.NormRef
public import proofs.«01_k».proof.Proof.Gen.PwOneXIdeal.Value
public import proofs.«01_k».proof.Proof.Gen.RefPwOneXIdeal.Run
public import proofs.«01_k».proof.Proof.Gen.RefPwOneXIdeal.Read

@[expose] public section

set_option maxRecDepth 16384

noncomputable section

namespace Cert.PwX

open Cert.PwOneXIdeal Cert.PwOneXIdeal.Gen Cert.Norm Cert.Retention Cert.Nat2
open Idealize.ShloMosaic Idealize.ShloMosaic.TcCoe Idealize.SL.Sem
open Idealize.ShloMosaic.Pipeline (Dat)

/-- The gradient with respect to 512 modulated rows: 2048 columns, in eight products. -/
def dhB (p : FVec Ideal S512x2048 .f32) (w : FVec Ideal S8x1024x256 .bf16) : FVec Ideal S512x1024 .f32 := k0_pay9
  (k0_pay8 (colsOf p 0 inb_S512x2048_S512x256_0_0) (planeOf w 0 inb_S8x1024x256_S1x1024x256_0_0_0)
    (colsOf p 256 inb_S512x2048_S512x256_0_256) (planeOf w 1 inb_S8x1024x256_S1x1024x256_1_0_0)
    (colsOf p 512 inb_S512x2048_S512x256_0_512) (planeOf w 2 inb_S8x1024x256_S1x1024x256_2_0_0)
    (colsOf p 768 inb_S512x2048_S512x256_0_768) (planeOf w 3 inb_S8x1024x256_S1x1024x256_3_0_0)
    (colsOf p 1024 inb_S512x2048_S512x256_0_1024) (planeOf w 4 inb_S8x1024x256_S1x1024x256_4_0_0))
  (colsOf p 1280 inb_S512x2048_S512x256_0_1280) (planeOf w 5 inb_S8x1024x256_S1x1024x256_5_0_0)
  (colsOf p 1536 inb_S512x2048_S512x256_0_1536) (planeOf w 6 inb_S8x1024x256_S1x1024x256_6_0_0)
  (colsOf p 1792 inb_S512x2048_S512x256_0_1792) (planeOf w 7 inb_S8x1024x256_S1x1024x256_7_0_0)

theorem dhB_at (p : FVec Ideal S512x2048 .f32) (w : FVec Ideal S8x1024x256 .bf16) (r : Fin 512) :
    row (dhB p w) r = dH rfl (by norm_num) (row p r) w := by
  funext k
  rw [← product_at p w rfl (by norm_num) r k, Fin.sum_univ_eight]
  show dhB p w (ix2 r k) = _
  pointwise [dhB, k0_pay9, k0_pay8]

variable (m : (ℓ : Loc nD τ sig) → Buf (Elt Ideal) ℓ) (c : Dev nD)

/-- The blocks of a point. -/
def blkOf (t : Fin cfg0.N) : Blk :=
  ⟨dhB (iblk m c 0 t) (iblk m c 1 t), iblk m c 2 t, iblk m c 3 t, iblk m c 4 t, iblk m c 5 t, iblk m c 6 t, iblk m c 7 t⟩

theorem outs_A (t : Fin cfg0.N) (h0 : t.val % 16 = 0) :
    outsAt0 m c t.val t.isLt = body (blkOf m c t) zeroRow zeroRow zeroRow zeroRow zeroRow := by
  rw [outsAt0_A m c t h0 h0]
  refine Prod.ext ?_ (Prod.ext ?_ (Prod.ext ?_ (Prod.ext ?_ (Prod.ext ?_ (Prod.ext ?_ ?_)))))
  all_goals frame_out
  · rfl
  · exact congrArg (fun s => Cert.MlpOneXIdeal.Gen.k0_pay16 s (scB (blkOf m c t))) (cast_same _)
  all_goals rfl

theorem outs_B (t : Fin cfg0.N) (h0 : ¬t.val % 16 = 0) (hp : t.val - 1 < cfg0.N) :
    outsAt0 m c t.val t.isLt = body (blkOf m c t) (outsAt0 m c (t.val - 1) hp).2.1 (outsAt0 m c (t.val - 1) hp).2.2.1
      (outsAt0 m c (t.val - 1) hp).2.2.2.1 (outsAt0 m c (t.val - 1) hp).2.2.2.2.2.1 (outsAt0 m c (t.val - 1) hp).2.2.2.2.2.2 := by
  rw [outsAt0_B m c t h0 h0]
  refine Prod.ext ?_ (Prod.ext ?_ (Prod.ext ?_ (Prod.ext ?_ (Prod.ext ?_ (Prod.ext ?_ ?_)))))
  all_goals frame_out
  · rfl
  · exact congrArg (fun s => Cert.MlpOneXIdeal.Gen.k0_pay16 s (scB (blkOf m c t))) (cast_same _)
  all_goals rfl

/-- The arguments: the product's gradient and the weights, by their product, and the norm's. -/
def inOf : In where
  dH := fun t => Norm.dH (N := 2048) (n := 256) rfl (by norm_num) (row (m ((c : Thread nD τ).loc main_arg0)) t) (m ((c : Thread nD τ).loc main_arg1))
  x := m ((c : Thread nD τ).loc main_arg2)
  g := m ((c : Thread nD τ).loc main_arg3)
  s := m ((c : Thread nD τ).loc main_arg4)
  d := m ((c : Thread nD τ).loc main_arg5)
  y := m ((c : Thread nD τ).loc main_arg6)
  e := m ((c : Thread nD τ).loc main_arg7)

/-- Point `t` takes and writes the rows from `512 * t` on. -/
theorem rows_at : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_6.index t 0 = t.val ∧ win0_6.index t 1 = 0)
    ∧ (win0_8.index t 0 = t.val ∧ win0_8.index t 1 = 0) ∧ win0_12.index t 0 = t.val ∧ win0_12.index t 1 = 0 :=
  (by decide +kernel : ∀ t : Fin grid0.N, _)
/-- Every point takes the weights and the vectors whole. -/
theorem whole_at : ∀ t : Fin cfg0.N, (win0_1.index t 0 = 0 ∧ win0_1.index t 1 = 0 ∧ win0_1.index t 2 = 0) ∧ win0_3.index t = ![0, 0] ∧ win0_4.index t = ![0, 0]
    ∧ win0_7.index t = ![0, 0] :=
  (by decide +kernel : ∀ t : Fin grid0.N, _)
/-- The sums are written whole, after the last point. -/
theorem sums_at : ∀ t : Fin cfg0.N, win0_9.index t 1 = 0 ∧ win0_10.index t 1 = 0 ∧ win0_11.index t 1 = 0 ∧ win0_13.index t 1 = 0 ∧ win0_14.index t 1 = 0 :=
  (by decide +kernel : ∀ t : Fin grid0.N, _)
theorem last_only : ∀ t : Fin cfg0.N, ((cfg0.win 9).flush t = true → t.val = 15) ∧ ((cfg0.win 10).flush t = true → t.val = 15)
    ∧ ((cfg0.win 11).flush t = true → t.val = 15) ∧ ((cfg0.win 13).flush t = true → t.val = 15) ∧ ((cfg0.win 14).flush t = true → t.val = 15) :=
  (by decide +kernel : ∀ t : Fin cfg0.N, _)

/-- The blocks of a point hold its rows. -/
theorem fits (t : Fin cfg0.N) : Fits (inOf m c) t.val (blkOf m c t) := by
  have hr := rows_at t
  obtain ⟨hw, h3, h4, h7⟩ := whole_at t
  have e1 : iblk m c 1 t = m ((c : Thread nD τ).loc main_arg1) := by
    funext j
    refine congrArg (m ((c : Thread nD τ).loc main_arg1)) (funext fun a => Fin.ext ?_)
    match a with
    | ⟨0, _⟩ => show win0_1.index t 0 * 8 + 1 * (j 0).val = (j 0).val; omega
    | ⟨1, _⟩ => show win0_1.index t 1 * 1024 + 1 * (j 1).val = (j 1).val; omega
    | ⟨2, _⟩ => show win0_1.index t 2 * 256 + 1 * (j 2).val = (j 2).val; omega
  refine ⟨fun r i hi => ⟨(dhB_at _ _ r).trans ?_, ?_, ?_, ?_⟩, ?_, ?_, ?_⟩
  · have e0 : row (iblk m c 0 t) r = row (m ((c : Thread nD τ).loc main_arg0)) i :=
      funext fun k => at_ix2 (m ((c : Thread nD τ).loc main_arg0)) _ _ _ (by blk_simp; omega) (by blk_simp; omega)
    rw [e0, e1]
    rfl
  · exact funext fun k => at_ix2 (m ((c : Thread nD τ).loc main_arg2)) _ _ _ (by blk_simp; omega) (by blk_simp; omega)
  · exact funext fun k => at_ix2 (m ((c : Thread nD τ).loc main_arg5)) _ _ _ (by blk_simp; omega) (by blk_simp; omega)
  · exact funext fun k => at_ix2 (m ((c : Thread nD τ).loc main_arg6)) _ _ _ (by blk_simp; omega) (by blk_simp; omega)
  · exact funext fun k => at_ix2 (m ((c : Thread nD τ).loc main_arg3)) _ _ _ (by blk_simp; simp [h3]) (by blk_simp; simp [h3])
  · exact funext fun k => at_ix2 (m ((c : Thread nD τ).loc main_arg4)) _ _ _ (by blk_simp; simp [h4]) (by blk_simp; simp [h4])
  · exact funext fun k => at_ix2 (m ((c : Thread nD τ).loc main_arg7)) _ _ _ (by blk_simp; simp [h7]) (by blk_simp; simp [h7])

/-- Every point leaves what it should. -/
theorem done_all : ∀ (n : ℕ) (hn : n < cfg0.N), Done (inOf m c) n (outsAt0 m c n hn)
  | 0, hn => by
    rw [outs_A m c ⟨0, hn⟩ rfl]
    exact done_body (by norm_num) (fits m c ⟨0, hn⟩) (sums_zero _)
  | n + 1, hn => by
    have h16 : n + 1 < 16 := lt_of_lt_of_eq hn N_0
    rw [outs_B m c ⟨n + 1, hn⟩ (by dsimp only; omega) (Nat.lt_of_succ_lt hn)]
    exact done_body h16 (fits m c ⟨n + 1, hn⟩) (done_all n (Nat.lt_of_succ_lt hn)).sums

/-! The result arrays. -/

theorem final8 : (dats m 0 c).arrAt 8 cfg0.N = ofRows (inOf m c).dX := by
  refine (dats m 0 c).arrAt_eq_of_covers 8 _ (by decide +kernel) fun t _ y => ?_
  have hr := rows_at t
  rw [after0_8]
  exact row_done (done_all m c t.val t.isLt).dx y _ (by blk_simp; omega) (by blk_simp; omega)

theorem final9 : (dats m 0 c).arrAt 9 cfg0.N = ofSums (inOf m c).dS := by
  refine (dats m 0 c).arrAt_eq_of_covers 9 _ (by decide +kernel) fun t hf y => ?_
  have hs := sums_at t
  rw [after0_9]
  exact sum_done (done_all m c t.val t.isLt).sums.ds ((last_only t).1 hf) y _ (by blk_simp; omega)

theorem final10 : (dats m 0 c).arrAt 10 cfg0.N = ofSums (inOf m c).dH := by
  refine (dats m 0 c).arrAt_eq_of_covers 10 _ (by decide +kernel) fun t hf y => ?_
  have hs := sums_at t
  rw [after0_10]
  exact sum_done (done_all m c t.val t.isLt).sums.dsh ((last_only t).2.1 hf) y _ (by blk_simp; omega)

theorem final11 : (dats m 0 c).arrAt 11 cfg0.N = ofSums (inOf m c).dG := by
  refine (dats m 0 c).arrAt_eq_of_covers 11 _ (by decide +kernel) fun t hf y => ?_
  have hs := sums_at t
  rw [after0_11]
  exact sum_done (done_all m c t.val t.isLt).sums.dg ((last_only t).2.2.1 hf) y _ (by blk_simp; omega)

theorem final12 : (dats m 0 c).arrAt 12 cfg0.N = ofRows (inOf m c).dY := by
  refine (dats m 0 c).arrAt_eq_of_covers 12 _ (by decide +kernel) fun t _ y => ?_
  have hr := rows_at t
  rw [after0_12]
  exact row_done (done_all m c t.val t.isLt).dy y _ (by blk_simp; omega) (by blk_simp; omega)

theorem final13 : (dats m 0 c).arrAt 13 cfg0.N = ofSums (inOf m c).dE := by
  refine (dats m 0 c).arrAt_eq_of_covers 13 _ (by decide +kernel) fun t hf y => ?_
  have hs := sums_at t
  rw [after0_13]
  exact sum_done (done_all m c t.val t.isLt).sums.de ((last_only t).2.2.2.1 hf) y _ (by blk_simp; omega)

theorem final14 : (dats m 0 c).arrAt 14 cfg0.N = ofSums (inOf m c).dY := by
  refine (dats m 0 c).arrAt_eq_of_covers 14 _ (by decide +kernel) fun t hf y => ?_
  have hs := sums_at t
  rw [after0_14]
  exact sum_done (done_all m c t.val t.isLt).sums.db ((last_only t).2.2.2.2 hf) y _ (by blk_simp; omega)

/-- The reference's product. -/
theorem ref_dh (t : Fin 8192) (k : Fin 1024) :
    Cert.RefPwOneXIdeal.Read.val_main_v35 (F := Ideal) (m ((c : Thread nD τ).loc main_arg0)) (m ((c : Thread nD τ).loc main_arg1)) (ix3 0 t k)
      = (inOf m c).dH t k := by
  pointwise [Cert.RefPwOneXIdeal.Read.val_main_v35, Cert.RefPwOneXIdeal.Read.val_main_v0,
    Cert.RefPwOneXIdeal.Read.val_main_v3, Cert.RefPwOneXIdeal.Read.val_main_v2, Cert.RefPwOneXIdeal.Read.val_main_v1]
  rfl

/-- The seven results are the seven gradients, on both sides and for any arguments, infinite ones too. -/
theorem algebraic : Cert.algebraic_PwOneXIdeal_RefPwOneXIdeal := by
  intro m g m' g' _ hag
  refine ⟨fun c => ofRows (inOf m c).dX, fun c => ofSums (inOf m c).dS, fun c => ofSums (inOf m c).dH, fun c => ofSums (inOf m c).dG,
    fun c => ofRows (inOf m c).dY, fun c => ofSums (inOf m c).dE, fun c => ofSums (inOf m c).dY,
    (θ_run defs _ _).mono (fun _ h c => ?_) (Value.run_blocks m g),
    (θ_run Cert.RefPwOneXIdeal.defs _ _).mono (fun _ h c => ?_) (Cert.RefPwOneXIdeal.Value.run (F := Ideal) m' g')⟩
  · obtain ⟨h0, h1, h2, h3, h4, h5, h6, h⟩ := h c
    exact ⟨h0.trans (final8 m c), h1.trans (final9 m c), h2.trans (final10 m c), h3.trans (final11 m c), h4.trans (final12 m c),
      h5.trans (final13 m c), h6.trans (final14 m c), h⟩
  · obtain ⟨h0, h1, h2, h3, h4, h5, h6, h⟩ := h c
    obtain ⟨e0, e1, e2, e3, e4, e5, e6, e7⟩ := hag c
    refine ⟨h0.trans ?_, h1.trans ?_, h2.trans ?_, h3.trans ?_, h4.trans ?_, h5.trans ?_, h6.trans ?_, h⟩
    · rw [Cert.RefPwOneXIdeal.Read.val_main_v86_eq, e0, e1, e2, e3, e4, e5]
      exact NormRef.rows_eq fun t k => NormRef.dx_at (inOf m c) t k (ref_dh m c)
    · rw [Cert.RefPwOneXIdeal.Read.val_main_v46_eq, e0, e1, e2, e3]
      exact NormRef.sums_eq fun t k => NormRef.ds_at (inOf m c) t k (ref_dh m c)
    · rw [Cert.RefPwOneXIdeal.Read.val_main_v39_eq, e0, e1]
      exact NormRef.sums_eq fun t k => ref_dh m c t k
    · rw [Cert.RefPwOneXIdeal.Read.val_main_v87_eq, e0, e1, e2, e4]
      exact NormRef.sums_eq fun t k => NormRef.dg_at (inOf m c) t k (ref_dh m c)
    · rw [Cert.RefPwOneXIdeal.Read.val_main_v89_eq, e0, e1, e2, e3, e4, e5, e7]
      exact NormRef.rows_eq fun t k => NormRef.dy_at (inOf m c) t k (ref_dh m c)
    · rw [Cert.RefPwOneXIdeal.Read.val_main_v85_eq, e0, e1, e2, e3, e4, e5, e6]
      exact NormRef.sums_eq fun t k => NormRef.de_at (inOf m c) t k (ref_dh m c)
    · rw [Cert.RefPwOneXIdeal.Read.val_main_v90_eq, e0, e1, e2, e3, e4, e5, e7]
      exact NormRef.sums_eq fun t k => NormRef.dy_at (inOf m c) t k (ref_dh m c)

end Cert.PwX

end
-- ==== Proof.PwTwoF.lean ====
/- The convolution mixer's layer norm, silu and second product, added to the layer's input: `pw2_fwd`, over the extended reals. -/
module

public import proofs.«01_k».proof.Defs
public import proofs.«01_k».proof.Proof.FwdSpec
public import proofs.«01_k».proof.Proof.Gen.PwTwoFIdeal.Value
public import proofs.«01_k».proof.Proof.Gen.RefPwTwoFIdeal.Run
public import proofs.«01_k».proof.Proof.Gen.RefPwTwoFIdeal.Read
public import Idealize.ShloMosaic.Lib.Pointwise
public import Idealize.ShloMosaic.Lib.Pipeline.ValueKit

@[expose] public section

set_option maxRecDepth 16384

noncomputable section

namespace Cert.PwG

open Cert.PwTwoFIdeal Cert.PwTwoFIdeal.Gen Cert.Nat2 Cert.Fwd
open Idealize.ShloMosaic Idealize.ShloMosaic.TcCoe Idealize.SL.Sem
open Idealize.ShloMosaic.Pipeline (Dat)

theorem hz : (![0, 0] : Fin 2 → ℕ) = fun _ => 0 := funext fun a => by fin_cases a <;> rfl

/-- The second product of the activated rows, with its bias; and that, gated, added to the layer's input. -/
def raw {R : ℕ} (v : (⟨2, ![R, 1024]⟩ : Shape).Idx → EReal) (w : S1024x1024.Idx → EReal) (e g b : S1x1024.Idx → EReal) : (⟨2, ![R, 1024]⟩ : Shape).Idx → EReal :=
  fun i => product id (activated v g b) w i + e (ix2 0 (i 1))
def out {R : ℕ} (v : (⟨2, ![R, 1024]⟩ : Shape).Idx → EReal) (w : S1024x1024.Idx → EReal) (e g b : S1x1024.Idx → EReal)
    (x : (⟨2, ![R, 1024]⟩ : Shape).Idx → EReal) (a : S1x1024.Idx → EReal) : (⟨2, ![R, 1024]⟩ : Shape).Idx → EReal :=
  fun i => x i + a (ix2 0 (i 1)) * raw v w e g b i

/-- An entry depends on its own row and column only. -/
theorem raw_row {R R' : ℕ} (v : (⟨2, ![R, 1024]⟩ : Shape).Idx → EReal) (v' : (⟨2, ![R', 1024]⟩ : Shape).Idx → EReal) (w w' : S1024x1024.Idx → EReal)
    (e e' g g' b b' : S1x1024.Idx → EReal) (y : (⟨2, ![R, 1024]⟩ : Shape).Idx) (i : (⟨2, ![R', 1024]⟩ : Shape).Idx)
    (hv : ∀ q, v (ix2 (y 0) q) = v' (ix2 (i 0) q)) (hw : ∀ q, w (ix2 q (y 1)) = w' (ix2 q (i 1))) (he : e (ix2 0 (y 1)) = e' (ix2 0 (i 1)))
    (hg : ∀ q, g (ix2 0 q) = g' (ix2 0 q)) (hb : ∀ q, b (ix2 0 q) = b' (ix2 0 q)) : raw v w e g b y = raw v' w' e' g' b' i := by
  unfold raw product
  exact congrArg₂ (· + ·) (Finset.sum_congr rfl fun k _ => congrArg₂ (· * ·) (activated_row v v' g g' b b' (y 0) (i 0) k hv hg hb) (hw k)) he
theorem out_row {R R' : ℕ} (v : (⟨2, ![R, 1024]⟩ : Shape).Idx → EReal) (v' : (⟨2, ![R', 1024]⟩ : Shape).Idx → EReal) (w w' : S1024x1024.Idx → EReal)
    (e e' g g' b b' : S1x1024.Idx → EReal) (x : (⟨2, ![R, 1024]⟩ : Shape).Idx → EReal) (x' : (⟨2, ![R', 1024]⟩ : Shape).Idx → EReal)
    (a a' : S1x1024.Idx → EReal) (y : (⟨2, ![R, 1024]⟩ : Shape).Idx) (i : (⟨2, ![R', 1024]⟩ : Shape).Idx) (hx : x y = x' i)
    (ha : a (ix2 0 (y 1)) = a' (ix2 0 (i 1))) (h : raw v w e g b y = raw v' w' e' g' b' i) : out v w e g b x a y = out v' w' e' g' b' x' a' i := by
  unfold out
  rw [hx, ha, h]

/-- What a grid point stores. -/
theorem raw_apply (v : FVec Ideal S1024x1024 .f32) (g b : FVec Ideal S1x1024 .f32) (w : FVec Ideal S1024x1024 .bf16) (e : FVec Ideal S1x1024 .f32)
    (i : S1024x1024.Idx) : k0_pay2 (F := Ideal) v g b w e i = raw v w e g b i := by
  pointwise [k0_pay2, raw, product, activated, lnSilu, centred, mean, Norm.ri, Norm.ms, id]
  simp only [Norm.lit_1024, Retention.lit_eps, zero_sub]
theorem out_apply (v : FVec Ideal S1024x1024 .f32) (w : FVec Ideal S1024x1024 .bf16) (e g b : FVec Ideal S1x1024 .f32) (x : FVec Ideal S1024x1024 .f32)
    (a : FVec Ideal S1x1024 .f32) (i : S1024x1024.Idx) : k0_pay1 (F := Ideal) (k0_pay2 (F := Ideal) v g b w e) x a i = out v w e g b x a i := by
  refine Eq.trans ?_ (congrArg (fun z => x i + a (ix2 0 (i 1)) * z) (raw_apply v g b w e i))
  generalize k0_pay2 (F := Ideal) v g b w e = z
  pointwise [k0_pay1]

/-- A grid point's blocks of the two results. -/
theorem blk7_eq (v : Vec Ideal S1024x1024 .f32) (w : Vec Ideal S1024x1024 .bf16) (e g b : Vec Ideal S1x1024 .f32) (x : Vec Ideal S1024x1024 .f32)
    (a : Vec Ideal S1x1024 .f32) (j : S1024x1024.Idx) : out0_7 (F := Ideal) v w e g b x a j = out v w e g b x a j := by
  unfold out0_7
  simp only [View.canon_unit_zero (S := S1024x1024) hz, View.ld_unit_zero (S := S1024x1024) hz, View.ld_unit_zero (S := S1x1024) hz]
  exact out_apply v w e g b x a j
theorem blk8_eq (v : Vec Ideal S1024x1024 .f32) (w : Vec Ideal S1024x1024 .bf16) (e g b : Vec Ideal S1x1024 .f32) (x : Vec Ideal S1024x1024 .f32)
    (a : Vec Ideal S1x1024 .f32) (j : S1024x1024.Idx) : out0_8 (F := Ideal) v w e g b x a j = raw v w e g b j := by
  unfold out0_8
  simp only [View.canon_unit_zero (S := S1024x1024) hz, View.ld_unit_zero (S := S1024x1024) hz, View.ld_unit_zero (S := S1x1024) hz]
  exact raw_apply v g b w e j

variable (m : (ℓ : Loc nD τ sig) → Buf (Elt Ideal) ℓ) (c : Dev nD)

/-- The two result arrays as functions of the arguments. -/
abbrev result0 : Buf (Elt Ideal) ((c : Thread nD τ).loc main_v0_0) :=
  out (R := 8192) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
abbrev result1 : Buf (Elt Ideal) ((c : Thread nD τ).loc main_v0_1) :=
  raw (R := 8192) (m ((c : Thread nD τ).loc main_arg0)) (m ((c : Thread nD τ).loc main_arg1)) (m ((c : Thread nD τ).loc main_arg2))
    (m ((c : Thread nD τ).loc main_arg3)) (m ((c : Thread nD τ).loc main_arg4))

theorem idx_facts : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = 0 ∧ win0_6.index t 1 = 0)
    ∧ (win0_7.index t 0 = t.val ∧ win0_7.index t 1 = 0) ∧ win0_8.index t 0 = t.val ∧ win0_8.index t 1 = 0 :=
  (by decide +kernel : ∀ t : Fin grid0.N, _)

/-- A point's blocks of the two results, in the arrays. -/
theorem raw_eq (t : Fin cfg0.N) (y : S1024x1024.Idx) (i : S8192x1024.Idx) (h0 : (i 0).val = t.val * 1024 + (y 0).val) (h1 : (i 1).val = (y 1).val) :
    raw (R := 1024) (iblk m c 0 t) (iblk m c 1 t) (iblk m c 2 t) (iblk m c 3 t) (iblk m c 4 t) y = result1 m c i := by
  obtain ⟨e0, e1, e2, e3, e4, -⟩ := idx_facts t
  exact raw_row (iblk m c 0 t) (m ((c : Thread nD τ).loc main_arg0)) (iblk m c 1 t) (m ((c : Thread nD τ).loc main_arg1)) (iblk m c 2 t)
    (m ((c : Thread nD τ).loc main_arg2)) (iblk m c 3 t) (m ((c : Thread nD τ).loc main_arg3)) (iblk m c 4 t) (m ((c : Thread nD τ).loc main_arg4)) y i
    (fun q => at_ix2 (m ((c : Thread nD τ).loc main_arg0)) _ (i 0) q (by blk_simp; omega) (by blk_simp; omega))
    (fun q => at_ix2 (m ((c : Thread nD τ).loc main_arg1)) _ q (i 1) (by blk_simp; omega) (by blk_simp; omega))
    (at_ix2 (m ((c : Thread nD τ).loc main_arg2)) _ 0 (i 1) (by blk_simp; simp [e2]) (by blk_simp; omega))
    (fun q => at_ix2 (m ((c : Thread nD τ).loc main_arg3)) _ 0 q (by blk_simp; simp [e3]) (by blk_simp; omega))
    (fun q => at_ix2 (m ((c : Thread nD τ).loc main_arg4)) _ 0 q (by blk_simp; simp [e4]) (by blk_simp; omega))
theorem input_eq (t : Fin cfg0.N) (y : S1024x1024.Idx) (i : S8192x1024.Idx) (h0 : (i 0).val = t.val * 1024 + (y 0).val) (h1 : (i 1).val = (y 1).val) :
    iblk m c 5 t y = (m ((c : Thread nD τ).loc main_arg5)) i := by
  obtain ⟨-, -, -, -, -, e5, -⟩ := idx_facts t
  exact (at_ix2 (m ((c : Thread nD τ).loc main_arg5)) _ (i 0) (i 1) (by blk_simp; omega) (by blk_simp; omega)).trans (congrArg (m ((c : Thread nD τ).loc main_arg5)) (eq_ix2 i).symm)
theorem out_eq (t : Fin cfg0.N) (y : S1024x1024.Idx) (i : S8192x1024.Idx) (h0 : (i 0).val = t.val * 1024 + (y 0).val) (h1 : (i 1).val = (y 1).val) :
    out (R := 1024) (iblk m c 0 t) (iblk m c 1 t) (iblk m c 2 t) (iblk m c 3 t) (iblk m c 4 t) (iblk m c 5 t) (iblk m c 6 t) y = result0 m c i := by
  obtain ⟨-, -, -, -, -, -, e6, -⟩ := idx_facts t
  exact out_row (iblk m c 0 t) (m ((c : Thread nD τ).loc main_arg0)) (iblk m c 1 t) (m ((c : Thread nD τ).loc main_arg1)) (iblk m c 2 t)
    (m ((c : Thread nD τ).loc main_arg2)) (iblk m c 3 t) (m ((c : Thread nD τ).loc main_arg3)) (iblk m c 4 t) (m ((c : Thread nD τ).loc main_arg4)) (iblk m c 5 t)
    (m ((c : Thread nD τ).loc main_arg5)) (iblk m c 6 t) (m ((c : Thread nD τ).loc main_arg6)) y i (input_eq m c t y i h0 h1)
    (at_ix2 (m ((c : Thread nD τ).loc main_arg6)) _ 0 (i 1) (by blk_simp; simp [e6]) (by blk_simp; omega)) (raw_eq m c t y i h0 h1)

/-- The result arrays after the last point. -/
theorem final0 : (dats m 0 c).arrAt 7 cfg0.N = result0 m c := by
  refine (dats m 0 c).arrAt_eq_of_covers 7 _ (by decide +kernel) fun t _ y => ?_
  obtain ⟨-, -, -, -, -, -, -, e, -⟩ := idx_facts t
  refine (congrFun (after0_7 m c t) y).trans ((blk7_eq (iblk m c 0 t) (iblk m c 1 t) (iblk m c 2 t) (iblk m c 3 t) (iblk m c 4 t) (iblk m c 5 t)
    (iblk m c 6 t) y).trans ?_)
  exact out_eq m c t y _ (by blk_simp; omega) (by blk_simp; omega)
theorem final1 : (dats m 0 c).arrAt 8 cfg0.N = result1 m c := by
  refine (dats m 0 c).arrAt_eq_of_covers 8 _ (by decide +kernel) fun t _ y => ?_
  obtain ⟨-, -, -, -, -, -, -, -, e⟩ := idx_facts t
  refine (congrFun (after0_8 m c t) y).trans ((blk8_eq (iblk m c 0 t) (iblk m c 1 t) (iblk m c 2 t) (iblk m c 3 t) (iblk m c 4 t) (iblk m c 5 t)
    (iblk m c 6 t) y).trans ?_)
  exact raw_eq m c t y _ (by blk_simp; omega) (by blk_simp; omega)

section Reference
open Cert.RefPwTwoFIdeal.Read

/-- The reference's rows after its layer norm and silu. -/
theorem ref_activated (v : FVec Ideal S8192x1024 .f32) (g b : FVec Ideal S1x1024 .f32) (r : Fin 8192) (k : Fin 1024) :
    val_main_v27 (F := Ideal) v g b (ix3 0 r k) = activated v g b (ix2 r k) := by
  pointwise [val_main_v27, val_main_call0_v5, val_main_call0_v4, val_main_call0_cst_0, val_main_call0_v3, val_main_call0_cst, val_main_call0_v2,
    val_main_call0_v1, val_main_call0_v0, val_main_v26, val_main_v25, val_main_v24, val_main_v23, val_main_v22, val_main_v21, val_main_v20,
    val_main_v19, val_main_v18, val_main_v17, val_main_v16, val_main_cst_3, val_main_v15, val_main_v14, val_main_v13, val_main_v12, val_main_cst_2,
    val_main_v11, val_main_v10, val_main_cst_1, val_main_v9, val_main_v8, val_main_v7, val_main_v6, val_main_v5, val_main_cst_0, val_main_v4, val_main_v3,
    val_main_cst, val_main_v2, val_main_v1, val_main_v0, activated, lnSilu, centred, mean, Norm.ri, Norm.ms]
  simp only [Norm.lit_1024, Retention.lit_eps]

theorem ref_raw (v : FVec Ideal S8192x1024 .f32) (w : FVec Ideal S1024x1024 .bf16) (e g b : FVec Ideal S1x1024 .f32) (r : Fin 8192) (q : Fin 1024) :
    val_main_v33 (F := Ideal) v w e g b (ix3 0 r q) = raw v w e g b (ix2 r q) := by
  unfold raw product
  refine Eq.trans ?_ (congrArg (· + _) (Finset.sum_congr rfl fun k _ => congrArg (· * _) (ref_activated v g b r k)))
  unfold val_main_v33 val_main_v29
  generalize val_main_v27 (F := Ideal) v g b = z
  pointwise [val_main_v32, val_main_v31, val_main_v30, val_main_v28, id]

/-- The reference's results are the same functions of the same arguments. -/
theorem ref0_eq (v : FVec Ideal S8192x1024 .f32) (w : FVec Ideal S1024x1024 .bf16) (e g b : FVec Ideal S1x1024 .f32) (x : FVec Ideal S8192x1024 .f32)
    (a : FVec Ideal S1x1024 .f32) : val_main_v39 (F := Ideal) v w e g b x a = out v w e g b x a := by
  funext i
  unfold out
  refine Eq.trans ?_ (congrArg (fun z => x i + a (ix2 0 (i 1)) * z) (ref_raw v w e g b (i 0) (i 1)))
  unfold val_main_v39 val_main_v38 val_main_v37
  generalize val_main_v33 (F := Ideal) v w e g b = z
  pointwise [val_main_v36, val_main_v35, val_main_v34]
theorem ref1_eq (v : FVec Ideal S8192x1024 .f32) (w : FVec Ideal S1024x1024 .bf16) (e g b : FVec Ideal S1x1024 .f32) :
    val_main_v41 (F := Ideal) v w e g b = raw v w e g b := by
  funext i
  refine Eq.trans ?_ (ref_raw v w e g b (i 0) (i 1))
  unfold val_main_v41 val_main_v40
  generalize val_main_v33 (F := Ideal) v w e g b = z
  pointwise []

end Reference

/-- The idealized kernel and the reference end with equal results. -/
theorem algebraic : Cert.algebraic_PwTwoFIdeal_RefPwTwoFIdeal := by
  intro m g m' g' _ hag
  refine ⟨fun c => result0 m c, fun c => result1 m c, (θ_run defs _ _).mono (fun _ h c => ?_) (Value.run_blocks m g),
    (θ_run Cert.RefPwTwoFIdeal.defs _ _).mono (fun _ h c => ?_) (Cert.RefPwTwoFIdeal.Value.run (F := Ideal) m' g')⟩
  · obtain ⟨h0, h1, h⟩ := h c
    exact ⟨h0.trans (final0 m c), h1.trans (final1 m c), h⟩
  · obtain ⟨h0, h1, h⟩ := h c
    obtain ⟨e0, e1, e2, e3, e4, e5, e6⟩ := hag c
    refine ⟨h0.trans ?_, h1.trans ?_, h⟩
    · rw [Cert.RefPwTwoFIdeal.Read.val_main_v39_eq, e0, e1, e2, e3, e4, e5, e6]
      exact ref0_eq _ _ _ _ _ _ _
    · rw [Cert.RefPwTwoFIdeal.Read.val_main_v41_eq, e0, e1, e2, e3, e4]
      exact ref1_eq _ _ _ _ _

end Cert.PwG

end
-- ==== Proof.PwTwoW.lean ====
/- The gradient of the weight of the convolution mixer's second product: `pw2_bwd_w`, over the extended reals. -/
module

public import proofs.«01_k».proof.Defs
public import proofs.«01_k».proof.Proof.FwdSpec
public import proofs.«01_k».proof.Proof.Gen.PwTwoWIdeal.Value
public import proofs.«01_k».proof.Proof.Gen.RefPwTwoWIdeal.Run
public import proofs.«01_k».proof.Proof.Gen.RefPwTwoWIdeal.Read
public import Idealize.ShloMosaic.Lib.Pipeline.ValueKit

@[expose] public section

set_option maxRecDepth 16384

noncomputable section

namespace Cert.PwV

open Cert.PwTwoWIdeal Cert.PwTwoWIdeal.Gen Cert.Nat2 Cert.Fwd
open Idealize.ShloMosaic Idealize.ShloMosaic.TcCoe Idealize.SL.Sem
open Idealize.ShloMosaic.Pipeline (Dat)

/-- The weight's gradient: the sum over the tokens of the activated rows. -/
def grad (v : S8192x1024.Idx → EReal) (d : S8192x1024.Idx → EReal) (g b : S1x1024.Idx → EReal) : S1024x1024.Idx → EReal :=
  fun i => ∑ q ∈ Finset.range 8192, term (activated v g b) d (i 0).val (i 1).val q

/-- What a point adds to the accumulator: 2048 tokens. -/
def part (v : Vec Ideal S2048x1024 .f32) (d : Vec Ideal S2048x1024 .bf16) (g b : Vec Ideal S1x1024 .f32) (i : S1024x1024.Idx) : EReal :=
  ∑ k : Fin 2048, activated v g b (ix2 k (i 0)) * d (ix2 k (i 1))

theorem act_apply (v : FVec Ideal S2048x1024 .f32) (g b : FVec Ideal S1x1024 .f32) (i : S2048x1024.Idx) :
    k0_pay4 (F := Ideal) v g b i = activated v g b i := by
  pointwise [k0_pay4, activated, lnSilu, centred, mean, Norm.ri, Norm.ms]
  simp only [Norm.lit_1024, Retention.lit_eps, zero_sub]
theorem pay_apply (v : FVec Ideal S2048x1024 .f32) (g b : FVec Ideal S1x1024 .f32) (acc : FVec Ideal S1024x1024 .f32) (d : FVec Ideal S2048x1024 .bf16)
    (i : S1024x1024.Idx) : k0_pay1 (F := Ideal) acc (k0_pay4 (F := Ideal) v g b) d i = acc i + part v d g b i := by
  refine Eq.trans ?_ (congrArg (acc i + ·) (Finset.sum_congr rfl fun k _ => congrArg (· * _) (act_apply v g b (ix2 k (i 0)))))
  generalize k0_pay4 (F := Ideal) v g b = z
  pointwise [k0_pay1]

variable (m : (ℓ : Loc nD τ sig) → Buf (Elt Ideal) ℓ) (c : Dev nD)

/-- The result array as a function of the arguments. -/
abbrev result : Buf (Elt Ideal) ((c : Thread nD τ).loc main_v0) :=
  grad (m ((c : Thread nD τ).loc main_arg0)) (m ((c : Thread nD τ).loc main_arg1)) (m ((c : Thread nD τ).loc main_arg2))
    (m ((c : Thread nD τ).loc main_arg3))

/-- The activated rows. -/
abbrev rows : S8192x1024.Idx → EReal :=
  activated (R := 8192) (m ((c : Thread nD τ).loc main_arg0)) (m ((c : Thread nD τ).loc main_arg2)) (m ((c : Thread nD τ).loc main_arg3))

theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ win0_4.index t 0 = 0 ∧ win0_4.index t 1 = 0 :=
  (by decide +kernel : ∀ t : Fin grid0.N, _)
theorem last_only : ∀ t : Fin cfg0.N, (cfg0.win 4).flush t = true → t.val = 3 := (by decide +kernel : ∀ t : Fin cfg0.N, _)

/-- A point's rows, in the array. -/
theorem rows_eq (t : Fin cfg0.N) (k : Fin 2048) (q : Fin 1024) (r : Fin 8192) (hr : r.val = 2048 * t.val + k.val) :
    activated (R := 2048) (iblk m c 0 t) (iblk m c 2 t) (iblk m c 3 t) (ix2 k q) = rows m c (ix2 r q) := by
  obtain ⟨e0, -, e2, e3, -⟩ := idx_facts t
  exact activated_row (iblk m c 0 t) (m ((c : Thread nD τ).loc main_arg0)) (iblk m c 2 t) (m ((c : Thread nD τ).loc main_arg2)) (iblk m c 3 t)
    (m ((c : Thread nD τ).loc main_arg3)) k r q
    (fun q => at_ix2 (m ((c : Thread nD τ).loc main_arg0)) _ r q (by blk_simp; omega) (by blk_simp; omega))
    (fun q => at_ix2 (m ((c : Thread nD τ).loc main_arg2)) _ 0 q (by blk_simp; simp [e2]) (by blk_simp; omega))
    (fun q => at_ix2 (m ((c : Thread nD τ).loc main_arg3)) _ 0 q (by blk_simp; simp [e3]) (by blk_simp; omega))

/-- A point's part, as tokens of the arguments. -/
theorem part_eq (t : Fin cfg0.N) (j : S1024x1024.Idx) :
    part (iblk m c 0 t) (iblk m c 1 t) (iblk m c 2 t) (iblk m c 3 t) j
      = ∑ k : Fin 2048, term (rows m c) (m ((c : Thread nD τ).loc main_arg1)) (j 0).val (j 1).val (2048 * t.val + k.val) := by
  obtain ⟨-, e1, -⟩ := idx_facts t
  have ht : t.val < 4 := t.isLt
  refine Finset.sum_congr rfl fun k _ => congrArg₂ _ ?_
    (at2_of_val (m ((c : Thread nD τ).loc main_arg1)) _ _ _ (by blk_simp; omega) (by blk_simp; omega))
  exact (rows_eq m c t k (j 0) ⟨2048 * t.val + k.val, by omega⟩ rfl).trans (at2_of_val (rows m c) _ _ _ rfl rfl)

/-- The tokens before point `n`. -/
def upto (n : ℕ) (j : S1024x1024.Idx) : EReal :=
  ∑ q ∈ Finset.range (2048 * n), term (rows m c) (m ((c : Thread nD τ).loc main_arg1)) (j 0).val (j 1).val q

theorem upto_part (t : Fin cfg0.N) (j : S1024x1024.Idx) :
    upto m c t.val j + part (iblk m c 0 t) (iblk m c 1 t) (iblk m c 2 t) (iblk m c 3 t) j = upto m c (t.val + 1) j := by
  rw [part_eq]
  exact sum_range_run _ (2048 * t.val) 2048

/-- What the accumulator holds after a point that is not the last: the tokens so far. -/
theorem scratch_eq (j : S1024x1024.Idx) : ∀ (n : ℕ) (h : n < cfg0.N) (_ : n < 3), (outsAt0 m c n h).2 j = upto m c (n + 1) j
  | 0, h, _ => by
    rw [outsAt0_A m c ⟨0, h⟩ rfl (by norm_num)]
    frame_out
    refine (pay_apply _ _ _ _ _ j).trans ?_
    rw [← upto_part m c ⟨0, h⟩]
    refine congrArg (· + _) ?_
    pointwise [k0_pay3]
    rfl
  | n + 1, h, hn => by
    rw [outsAt0_B m c ⟨n + 1, h⟩ (by dsimp only; omega) (by dsimp only; omega)]
    frame_out
    refine (pay_apply _ _ _ _ _ j).trans ?_
    rw [← upto_part m c ⟨n + 1, h⟩]
    exact congrArg (· + _) ((congrFun (Memref.IsWhole.read_unread _ _) j).trans (scratch_eq j n (Nat.lt_of_succ_lt h) (by omega)))

/-- What the last point writes: all tokens. -/
theorem out_eq (t : Fin cfg0.N) (ht : t.val = 3) (j : S1024x1024.Idx) : (outsAt0 m c t.val t.isLt).1 j = upto m c 4 j := by
  rw [outsAt0_C m c t (by omega) (by omega)]
  frame_out
  refine (pay_apply _ _ _ _ _ j).trans ?_
  refine (congrArg (· + _) ((congrFun (Memref.IsWhole.read_unread _ _) j).trans ?_)).trans ((upto_part m c t j).trans (by rw [ht]))
  simp only [ht]
  exact scratch_eq m c j 2 _ (by norm_num)

/-- The result array after the last point. -/
theorem final : (dats m 0 c).arrAt 4 cfg0.N = result m c := by
  refine (dats m 0 c).arrAt_eq_of_covers 4 _ (by decide +kernel) fun t hf y => ?_
  obtain ⟨-, -, -, -, e0, e1⟩ := idx_facts t
  rw [after0_4]
  refine (out_eq m c t (last_only t hf) y).trans ?_
  show grad _ _ _ _ y = grad _ _ _ _ _
  refine congrArg _ (funext fun a => Fin.ext ?_)
  match a with
  | ⟨0, _⟩ => blk_simp; omega
  | ⟨1, _⟩ => blk_simp; omega

section Reference
open Cert.RefPwTwoWIdeal.Read

/-- The reference's rows after its layer norm and silu. -/
theorem ref_activated (v : FVec Ideal S8192x1024 .f32) (g b : FVec Ideal S1x1024 .f32) (i : S8192x1024.Idx) :
    val_main_v26 (F := Ideal) v g b i = activated v g b i := by
  pointwise [val_main_v26, val_main_call0_v5, val_main_call0_v4, val_main_call0_cst_0, val_main_call0_v3, val_main_call0_cst, val_main_call0_v2,
    val_main_call0_v1, val_main_call0_v0, val_main_v25, val_main_v24, val_main_v23, val_main_v22, val_main_v21, val_main_v20,
    val_main_v19, val_main_v18, val_main_v17, val_main_v16, val_main_cst_3, val_main_v15, val_main_v14, val_main_v13, val_main_v12, val_main_cst_2,
    val_main_v11, val_main_v10, val_main_cst_1, val_main_v9, val_main_v8, val_main_v7, val_main_v6, val_main_v5, val_main_cst_0, val_main_v4, val_main_v3,
    val_main_cst, val_main_v2, val_main_v1, val_main_v0, activated, lnSilu, centred, mean, Norm.ri, Norm.ms]
  simp only [Norm.lit_1024, Retention.lit_eps]

/-- The reference's result is the same function of the same arguments. -/
theorem ref_eq (v : FVec Ideal S8192x1024 .f32) (d : FVec Ideal S8192x1024 .bf16) (g b : FVec Ideal S1x1024 .f32) :
    val_main_v32 (F := Ideal) v d g b = grad v d g b := by
  funext i
  show _ = ∑ q ∈ Finset.range 8192, term (activated v g b) d (i 0).val (i 1).val q
  rw [Finset.sum_range, ← funext (ref_activated v g b)]
  unfold val_main_v32 val_main_v31 val_main_v30
  generalize val_main_v26 (F := Ideal) v g b = z
  pointwise [val_main_v27]
  refine Finset.sum_congr rfl fun k _ => (mul_comm _ _).trans ?_
  exact congrArg₂ _ (at2_of_val z _ _ _ rfl rfl) (at2_of_val d _ _ _ rfl rfl)

end Reference

/-- The idealized kernel and the reference's vector-Jacobian product end with equal results. -/
theorem algebraic : Cert.algebraic_PwTwoWIdeal_RefPwTwoWIdeal := by
  intro m g m' g' _ hag
  refine ⟨fun c => result m c, (θ_run defs _ _).mono (fun _ h c => ⟨((h c).1).trans (final m c), (h c).2⟩) (Value.run_blocks m g),
    (θ_run Cert.RefPwTwoWIdeal.defs _ _).mono (fun _ h c => ?_) (Cert.RefPwTwoWIdeal.Value.run (F := Ideal) m' g')⟩
  obtain ⟨h0, h⟩ := h c
  obtain ⟨e0, e1, e2, e3⟩ := hag c
  refine ⟨h0.trans ?_, h⟩
  rw [Cert.RefPwTwoWIdeal.Read.val_main_v32_eq, e0, e1, e2, e3]
  exact ref_eq _ _ _ _

end Cert.PwV

end
-- ==== Proof.PwOneZ.lean ====
/- `pw1_bwd_x` of the first layer, idealized, against its reference: as in the other layers (`PwOneX`), without the gate and the
   gated term before it. What a point computes is the first four parts of what it computes there, whatever the gate. -/
module

public import proofs.«01_k».proof.Proof.PwOneX
public import proofs.«01_k».proof.Proof.Gen.PwOneZIdeal.Value
public import proofs.«01_k».proof.Proof.Gen.RefPwOneZIdeal.Run
public import proofs.«01_k».proof.Proof.Gen.RefPwOneZIdeal.Read

@[expose] public section

set_option maxRecDepth 16384

noncomputable section

namespace Cert.PwZ

open Cert.PwOneZIdeal Cert.PwOneZIdeal.Gen Cert.Norm Cert.Retention Cert.Nat2
open Idealize.ShloMosaic Idealize.ShloMosaic.TcCoe Idealize.SL.Sem
open Idealize.ShloMosaic.Pipeline (Dat)

variable (m : (ℓ : Loc nD τ sig) → Buf (Elt Ideal) ℓ) (c : Dev nD)

/-- The blocks of a point, with a gate and a gated term of zero. -/
def blkOf (t : Fin cfg0.N) : Blk :=
  ⟨Cert.PwX.dhB (iblk m c 0 t) (iblk m c 1 t), iblk m c 2 t, iblk m c 3 t, iblk m c 4 t, iblk m c 5 t, fun _ => 0, fun _ => 0⟩

/-- What the points would leave with that gate. -/
def full : (n : ℕ) → n < cfg0.N → Outs
  | 0, hn => body (blkOf m c ⟨0, hn⟩) zeroRow zeroRow zeroRow zeroRow zeroRow
  | n + 1, hn => body (blkOf m c ⟨n + 1, hn⟩) (full n (Nat.lt_of_succ_lt hn)).2.1 (full n (Nat.lt_of_succ_lt hn)).2.2.1
      (full n (Nat.lt_of_succ_lt hn)).2.2.2.1 (full n (Nat.lt_of_succ_lt hn)).2.2.2.2.2.1 (full n (Nat.lt_of_succ_lt hn)).2.2.2.2.2.2

/-- The parts of it that this call has. -/
def first (x : Outs) : FVec Ideal S512x1024 .f32 × FVec Ideal S1x1024 .f32 × FVec Ideal S1x1024 .f32 × FVec Ideal S1x1024 .f32 :=
  (x.1, x.2.1, x.2.2.1, x.2.2.2.1)

theorem outs_eq : ∀ (n : ℕ) (hn : n < cfg0.N), outsAt0 m c n hn = first (full m c n hn)
  | 0, hn => by
    rw [outsAt0_A m c ⟨0, hn⟩ rfl]
    refine Prod.ext ?_ (Prod.ext ?_ (Prod.ext ?_ ?_))
    all_goals frame_out
    · rfl
    · exact congrArg (fun s => Cert.MlpOneXIdeal.Gen.k0_pay16 s (scB (blkOf m c ⟨0, hn⟩))) (cast_same _)
    all_goals rfl
  | n + 1, hn => by
    have h16 : n + 1 < 16 := lt_of_lt_of_eq hn N_0
    have ih := outs_eq n (Nat.lt_of_succ_lt hn)
    rw [outsAt0_B m c ⟨n + 1, hn⟩ (by dsimp only; omega)]
    simp only [Nat.add_sub_cancel, ih]
    refine Prod.ext ?_ (Prod.ext ?_ (Prod.ext ?_ ?_))
    all_goals frame_out
    · rfl
    · exact congrArg (fun s => Cert.MlpOneXIdeal.Gen.k0_pay16 s (scB (blkOf m c ⟨n + 1, hn⟩))) (cast_same _)
    all_goals rfl

/-- The arguments: the product's gradient and the weights, by their product, and the norm's. -/
def inOf : In where
  dH := fun t => Norm.dH (N := 2048) (n := 256) rfl (by norm_num) (row (m ((c : Thread nD τ).loc main_arg0)) t) (m ((c : Thread nD τ).loc main_arg1))
  x := (m ((c : Thread nD τ).loc main_arg2))
  g := (m ((c : Thread nD τ).loc main_arg3))
  s := (m ((c : Thread nD τ).loc main_arg4))
  d := (m ((c : Thread nD τ).loc main_arg5))
  y := fun _ => 0
  e := fun _ => 0

/-- Point `t` takes and writes the rows from `512 * t` on. -/
theorem rows_at : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ win0_6.index t 0 = t.val ∧ win0_6.index t 1 = 0 :=
  (by decide +kernel : ∀ t : Fin grid0.N, _)
/-- Every point takes the weights and the vectors whole. -/
theorem whole_at : ∀ t : Fin cfg0.N, (win0_1.index t 0 = 0 ∧ win0_1.index t 1 = 0 ∧ win0_1.index t 2 = 0) ∧ win0_3.index t = ![0, 0] ∧ win0_4.index t = ![0, 0] :=
  (by decide +kernel : ∀ t : Fin grid0.N, _)
/-- The sums are written whole, after the last point. -/
theorem sums_at : ∀ t : Fin cfg0.N, win0_7.index t 1 = 0 ∧ win0_8.index t 1 = 0 ∧ win0_9.index t 1 = 0 :=
  (by decide +kernel : ∀ t : Fin grid0.N, _)
theorem last_only : ∀ t : Fin cfg0.N, ((cfg0.win 7).flush t = true → t.val = 15) ∧ ((cfg0.win 8).flush t = true → t.val = 15)
    ∧ ((cfg0.win 9).flush t = true → t.val = 15) :=
  (by decide +kernel : ∀ t : Fin cfg0.N, _)

/-- The blocks of a point hold its rows. -/
theorem fits (t : Fin cfg0.N) : Fits (inOf m c) t.val (blkOf m c t) := by
  have hr := rows_at t
  obtain ⟨hw, h3, h4⟩ := whole_at t
  have e1 : iblk m c 1 t = m ((c : Thread nD τ).loc main_arg1) := by
    funext j
    refine congrArg (m ((c : Thread nD τ).loc main_arg1)) (funext fun a => Fin.ext ?_)
    match a with
    | ⟨0, _⟩ => show win0_1.index t 0 * 8 + 1 * (j 0).val = (j 0).val; omega
    | ⟨1, _⟩ => show win0_1.index t 1 * 1024 + 1 * (j 1).val = (j 1).val; omega
    | ⟨2, _⟩ => show win0_1.index t 2 * 256 + 1 * (j 2).val = (j 2).val; omega
  refine ⟨fun r i hi => ⟨(Cert.PwX.dhB_at _ _ r).trans ?_, ?_, ?_, rfl⟩, ?_, ?_, rfl⟩
  · have e0 : row (iblk m c 0 t) r = row (m ((c : Thread nD τ).loc main_arg0)) i :=
      funext fun k => at_ix2 (m ((c : Thread nD τ).loc main_arg0)) _ _ _ (by blk_simp; omega) (by blk_simp; omega)
    rw [e0, e1]
    rfl
  · exact funext fun k => at_ix2 (m ((c : Thread nD τ).loc main_arg2)) _ _ _ (by blk_simp; omega) (by blk_simp; omega)
  · exact funext fun k => at_ix2 (m ((c : Thread nD τ).loc main_arg5)) _ _ _ (by blk_simp; omega) (by blk_simp; omega)
  · exact funext fun k => at_ix2 (m ((c : Thread nD τ).loc main_arg3)) _ _ _ (by blk_simp; simp [h3]) (by blk_simp; simp [h3])
  · exact funext fun k => at_ix2 (m ((c : Thread nD τ).loc main_arg4)) _ _ _ (by blk_simp; simp [h4]) (by blk_simp; simp [h4])

/-- Every point leaves what it should. -/
theorem done_all : ∀ (n : ℕ) (hn : n < cfg0.N), Done (inOf m c) n (full m c n hn)
  | 0, hn => done_body (by norm_num) (fits m c ⟨0, hn⟩) (sums_zero _)
  | n + 1, hn => done_body (lt_of_lt_of_eq hn N_0) (fits m c ⟨n + 1, hn⟩) (done_all n (Nat.lt_of_succ_lt hn)).sums

/-! The result arrays. -/

theorem final6 : (dats m 0 c).arrAt 6 cfg0.N = ofRows (inOf m c).dX := by
  refine (dats m 0 c).arrAt_eq_of_covers 6 _ (by decide +kernel) fun t _ y => ?_
  have hr := rows_at t
  rw [after0_6, outs_eq]
  exact row_done (done_all m c t.val t.isLt).dx y _ (by blk_simp; omega) (by blk_simp; omega)

theorem final7 : (dats m 0 c).arrAt 7 cfg0.N = ofSums (inOf m c).dS := by
  refine (dats m 0 c).arrAt_eq_of_covers 7 _ (by decide +kernel) fun t hf y => ?_
  have hs := sums_at t
  rw [after0_7, outs_eq]
  exact sum_done (done_all m c t.val t.isLt).sums.ds ((last_only t).1 hf) y _ (by blk_simp; omega)

theorem final8 : (dats m 0 c).arrAt 8 cfg0.N = ofSums (inOf m c).dH := by
  refine (dats m 0 c).arrAt_eq_of_covers 8 _ (by decide +kernel) fun t hf y => ?_
  have hs := sums_at t
  rw [after0_8, outs_eq]
  exact sum_done (done_all m c t.val t.isLt).sums.dsh ((last_only t).2.1 hf) y _ (by blk_simp; omega)

theorem final9 : (dats m 0 c).arrAt 9 cfg0.N = ofSums (inOf m c).dG := by
  refine (dats m 0 c).arrAt_eq_of_covers 9 _ (by decide +kernel) fun t hf y => ?_
  have hs := sums_at t
  rw [after0_9, outs_eq]
  exact sum_done (done_all m c t.val t.isLt).sums.dg ((last_only t).2.2 hf) y _ (by blk_simp; omega)

/-- The reference's product. -/
theorem ref_dh (t : Fin 8192) (k : Fin 1024) :
    Cert.RefPwOneZIdeal.Read.val_main_v33 (F := Ideal) (m ((c : Thread nD τ).loc main_arg0)) (m ((c : Thread nD τ).loc main_arg1)) (ix3 0 t k)
      = (inOf m c).dH t k := by
  pointwise [Cert.RefPwOneZIdeal.Read.val_main_v33, Cert.RefPwOneZIdeal.Read.val_main_v0, Cert.RefPwOneZIdeal.Read.val_main_v3,
    Cert.RefPwOneZIdeal.Read.val_main_v2, Cert.RefPwOneZIdeal.Read.val_main_v1]
  rfl

/-- The four results are the four gradients, on both sides and for any arguments, infinite ones too. -/
theorem algebraic : Cert.algebraic_PwOneZIdeal_RefPwOneZIdeal := by
  intro m g m' g' _ hag
  refine ⟨fun c => ofRows (inOf m c).dX, fun c => ofSums (inOf m c).dS, fun c => ofSums (inOf m c).dH, fun c => ofSums (inOf m c).dG,
    (θ_run defs _ _).mono (fun _ h c => ?_) (Value.run_blocks m g),
    (θ_run Cert.RefPwOneZIdeal.defs _ _).mono (fun _ h c => ?_) (Cert.RefPwOneZIdeal.Value.run (F := Ideal) m' g')⟩
  · obtain ⟨h0, h1, h2, h3, h⟩ := h c
    exact ⟨h0.trans (final6 m c), h1.trans (final7 m c), h2.trans (final8 m c), h3.trans (final9 m c), h⟩
  · obtain ⟨h0, h1, h2, h3, h⟩ := h c
    obtain ⟨e0, e1, e2, e3, e4, e5⟩ := hag c
    refine ⟨h0.trans ?_, h1.trans ?_, h2.trans ?_, h3.trans ?_, h⟩
    · rw [Cert.RefPwOneZIdeal.Read.val_main_v67_eq, e0, e1, e2, e3, e4, e5]
      exact NormRef.rows_eq fun t k => NormRef.dx_at (inOf m c) t k (ref_dh m c)
    · rw [Cert.RefPwOneZIdeal.Read.val_main_v44_eq, e0, e1, e2, e3]
      exact NormRef.sums_eq fun t k => NormRef.ds_at (inOf m c) t k (ref_dh m c)
    · rw [Cert.RefPwOneZIdeal.Read.val_main_v37_eq, e0, e1]
      exact NormRef.sums_eq fun t k => ref_dh m c t k
    · rw [Cert.RefPwOneZIdeal.Read.val_main_v68_eq, e0, e1, e2, e4]
      exact NormRef.sums_eq fun t k => NormRef.dg_at (inOf m c) t k (ref_dh m c)

end Cert.PwZ

end
-- ==== Proof.LnGrad.lean ====
/- The gradient through layer norm and silu, over the real numbers, and one grid point of `pw2_bwd_x`: from 1024 rows of the
   product's gradient, through both, and the sums of the point's rows. -/
module

public import proofs.«01_k».proof.Proof.Basic
public import proofs.«01_k».proof.Proof.NormSpec
public import proofs.«01_k».proof.Proof.RetReal
public import proofs.«01_k».proof.Proof.Gen.PwTwoXIdeal.Skeleton
public import Idealize.ShloMosaic.Lib.Pipeline.ValueKit

@[expose] public section

set_option maxRecDepth 16384

noncomputable section

namespace Cert.LnGrad

open Cert.PwTwoXIdeal Cert.PwTwoXIdeal.Gen Cert.Norm
open Cert.Retention (eps eps_pos lit_eps sum_real div_real rsqrt_real)
open Idealize.ShloMosaic Idealize.ShloMosaic.TcCoe Idealize.SL.Sem

/-! One row `x`, the norm's gain `g` and offset `b`, and the gradient `d` behind the silu. -/

section formulas
variable (x g b d : Fin 1024 → ℝ) (k : Fin 1024)

def cen : ℝ := x k - (∑ i, x i) / 1024
def vr : ℝ := (∑ i, cen x i * cen x i) / 1024 + eps
def rs : ℝ := (Real.sqrt (vr x))⁻¹
def nrm : ℝ := cen x k * rs x
def ln : ℝ := nrm x k * g k + b k
def sg : ℝ := 1 / (1 + Real.exp (-ln x g b k))
/-- The gradient behind the norm, and the one at its normalized row. -/
def dln : ℝ := d k * (sg x g b k * (1 + ln x g b k * (1 - sg x g b k)))
def dn : ℝ := dln x g b d k * g k
/-- The gradient at the row. -/
def dx : ℝ := rs x * (dn x g b d k - (∑ j, dn x g b d j) / 1024 - cen x k * rs x * ((∑ j, dn x g b d j * (cen x j * rs x)) / 1024))

theorem vr_pos : 0 < vr x := by
  have : 0 ≤ ∑ i, cen x i * cen x i := Finset.sum_nonneg fun i _ => mul_self_nonneg _
  have := eps_pos
  unfold vr
  positivity

theorem rs_sq : rs x * rs x * vr x = 1 := by
  have h := vr_pos x
  unfold rs
  rw [← mul_inv, Real.mul_self_sqrt h.le, inv_mul_cancel₀ h.ne']

theorem cen_sum : ∑ f, cen x f = 0 := by
  simp only [cen, Finset.sum_sub_distrib, Finset.sum_const, Finset.card_univ, Fintype.card_fin, nsmul_eq_mul]
  push_cast
  ring

end formulas

theorem sum_div {f : Fin 1024 → EReal} (r : Fin 1024 → ℝ) (hf : ∀ i, f i = ((r i : ℝ) : EReal)) :
    Ideal.div (∑ i, f i) (Ideal.ofBits FTy.f32 0x44800000#32) = (((∑ i, r i) / 1024 : ℝ) : EReal) := by
  rw [Finset.sum_congr rfl fun i _ => hf i, sum_real, lit_1024, div_real _ _ (by norm_num)]

/-! One grid point. -/

/-- The constant one, as the body passes it on. -/
abbrev one : Ideal .f32 := Scalar.ofBits .f32 0x3F800000#32

section point
variable {v ds : FVec Ideal S1024x1024 .f32} {gv bv : FVec Ideal S1x1024 .f32} {X D : Fin 1024 → Fin 1024 → ℝ} {g b : Fin 1024 → ℝ}
  (hv : ∀ r k, v (ix2 r k) = ((X r k : ℝ) : EReal)) (hd : ∀ r k, ds (ix2 r k) = ((D r k : ℝ) : EReal))
  (hg : ∀ k, gv (ix2 0 k) = ((g k : ℝ) : EReal)) (hb : ∀ k, bv (ix2 0 k) = ((b k : ℝ) : EReal)) (r k : Fin 1024)

include hv in
theorem cen_at : k0_pay6 (F := Ideal) v (ix2 r k) = ((cen (X r) k : ℝ) : EReal) := by
  pointwise [k0_pay6]
  rw [sum_div _ (hv r), hv, ← EReal.coe_sub]
  rfl

include hv in
theorem rs_at : k0_pay7 (F := Ideal) v (ix2 r 0) = ((rs (X r) : ℝ) : EReal) := by
  pointwise [k0_pay7]
  rw [sum_div (fun f => cen (X r) f * cen (X r) f) (fun f => by rw [cen_at hv, ← EReal.coe_mul]), lit_eps, ← EReal.coe_add]
  exact rsqrt_real _ (vr_pos _)

include hv in
theorem nrm_at : k0_pay8 (F := Ideal) v (ix2 r k) = ((nrm (X r) k : ℝ) : EReal) := by
  pointwise [k0_pay8]
  rw [cen_at hv, rs_at hv, ← EReal.coe_mul]
  rfl

include hv hg hb in
theorem ln_at : k0_pay9 (F := Ideal) gv v bv (ix2 r k) = ((ln (X r) g b k : ℝ) : EReal) := by
  pointwise [k0_pay9]
  rw [nrm_at hv, hg, hb, ← EReal.coe_mul, ← EReal.coe_add]
  rfl

include hv hg hb in
theorem sg_at : k0_pay10 (F := Ideal) gv v bv (ix2 r k) = ((sg (X r) g b k : ℝ) : EReal) := by
  pointwise [k0_pay10]
  rw [ln_at hv hg hb, zero_sub, ← EReal.coe_neg, Ideal.exp_coe, ← EReal.coe_one, ← EReal.coe_add, div_real _ _ (by positivity)]
  rfl

include hv hd hg hb in
theorem dln_at : k0_pay11 (F := Ideal) ds (k0_pay9 gv v bv) (k0_pay10 gv v bv) (1 : EReal) (ix2 r k) = ((dln (X r) g b (D r) k : ℝ) : EReal) := by
  pointwise [k0_pay11]
  rw [ln_at hv hg hb, sg_at hv hg hb, hd]
  simp only [lit_one, ← EReal.coe_one, ← EReal.coe_sub, ← EReal.coe_mul, ← EReal.coe_add]
  rfl

include hv hd hg hb in
theorem dn_at : k0_pay11 (F := Ideal) ds (k0_pay9 gv v bv) (k0_pay10 gv v bv) (1 : EReal) (ix2 r k) * gv (ix2 0 k)
    = ((dn (X r) g b (D r) k : ℝ) : EReal) := by
  rw [dln_at hv hd hg hb, hg, ← EReal.coe_mul]
  rfl

/-- The gradient at the point's rows. -/
def dxB (v ds : FVec Ideal S1024x1024 .f32) (gv bv : FVec Ideal S1x1024 .f32) : FVec Ideal S1024x1024 .f32 :=
  k0_pay14 ds gv (k0_pay7 v) (k0_pay8 v) (k0_pay9 gv v bv) (k0_pay10 gv v bv) one

include hv hd hg hb in
theorem dx_at : dxB v ds gv bv (ix2 r k) = ((dx (X r) g b (D r) k : ℝ) : EReal) := by
  pointwise [dxB, k0_pay14]
  rw [sum_div _ (dn_at hv hd hg hb r), sum_div (fun j => dn (X r) g b (D r) j * nrm (X r) j) (fun j => by
    rw [dn_at hv hd hg hb, nrm_at hv, ← EReal.coe_mul]), dn_at hv hd hg hb, nrm_at hv, rs_at hv]
  simp only [← EReal.coe_mul, ← EReal.coe_sub]
  rfl

/-! What each store of a sum writes. -/

variable (acc : FVec Ideal S1x1024 .f32)

include hv hd hg hb in
theorem sum_dg : k0_pay12 (F := Ideal) ds (k0_pay8 v) (k0_pay9 gv v bv) (k0_pay10 gv v bv) one acc (ix2 0 k)
    = acc (ix2 0 k) + ∑ r, ((dln (X r) g b (D r) k * nrm (X r) k : ℝ) : EReal) := by
  pointwise [k0_pay12]
  exact congrArg _ (Finset.sum_congr rfl fun r _ => by rw [dln_at hv hd hg hb, nrm_at hv, ← EReal.coe_mul])

include hv hd hg hb in
theorem sum_db : k0_pay13 (F := Ideal) ds (k0_pay9 gv v bv) (k0_pay10 gv v bv) one acc (ix2 0 k)
    = acc (ix2 0 k) + ∑ r, ((dln (X r) g b (D r) k : ℝ) : EReal) := by
  pointwise [k0_pay13]
  exact congrArg _ (Finset.sum_congr rfl fun r _ => dln_at hv hd hg hb r k)

include hv hd hg hb in
theorem sum_dx : k0_pay1 (F := Ideal) (dxB v ds gv bv) (k0_pay15 acc) (ix2 0 k)
    = acc (ix2 0 k) + ∑ r, ((dx (X r) g b (D r) k : ℝ) : EReal) := by
  pointwise [k0_pay1, k0_pay15]
  exact congrArg _ (Finset.sum_congr rfl fun r _ => dx_at hv hd hg hb r k)

end point

end Cert.LnGrad

end
-- ==== Proof.PwTwoX.lean ====
/- `pw2_bwd_x`, idealized: the gradient through the convolution mixer's second product, its silu and its layer norm, for real
   arguments. Eight points of 1024 rows; the three vectors are sums over all of them. -/
module

public import proofs.«01_k».proof.Defs
public import proofs.«01_k».proof.Proof.LnGrad
public import proofs.«01_k».proof.Proof.Gen.PwTwoXIdeal.Value

@[expose] public section

set_option maxRecDepth 16384

noncomputable section

namespace Cert.PwB

open Cert.PwTwoXIdeal Cert.PwTwoXIdeal.Gen Cert.Norm Cert.Nat2 Cert.LnGrad
open Idealize.ShloMosaic Idealize.ShloMosaic.TcCoe Idealize.SL.Sem
open Idealize.ShloMosaic.Pipeline (Dat)

/-- The four outputs of a point: a block of rows, and three sums. -/
abbrev Outs := FVec Ideal S1024x1024 .f32 × FVec Ideal S1x1024 .f32 × FVec Ideal S1x1024 .f32 × FVec Ideal S1x1024 .f32

/-- What a point computes of its blocks and of the sums before it. -/
def body (y w : FVec Ideal S1024x1024 .bf16) (v : FVec Ideal S1024x1024 .f32) (g b s1 s2 s3 : FVec Ideal S1x1024 .f32) : Outs :=
  (dxB v (k0_pay2 y w) g b, k0_pay12 (k0_pay2 y w) (k0_pay8 v) (k0_pay9 g v b) (k0_pay10 g v b) one s1,
    k0_pay13 (k0_pay2 y w) (k0_pay9 g v b) (k0_pay10 g v b) one s2, k0_pay1 (dxB v (k0_pay2 y w) g b) (k0_pay15 s3))

/-- The product of rows `y` and the weights `w`, along the columns of both. -/
theorem prod_at {y w : FVec Ideal S1024x1024 .bf16} {Y W : Fin 1024 → Fin 1024 → ℝ} (hy : ∀ r e, y (ix2 r e) = ((Y r e : ℝ) : EReal))
    (hw : ∀ r e, w (ix2 r e) = ((W r e : ℝ) : EReal)) (r k : Fin 1024) :
    k0_pay2 (F := Ideal) y w (ix2 r k) = ((∑ e, Y r e * W k e : ℝ) : EReal) := by
  pointwise [k0_pay2]
  rw [← Retention.sum_real]
  exact Finset.sum_congr rfl fun e _ => by rw [hy, hw, ← EReal.coe_mul]

variable (m : (ℓ : Loc nD τ sig) → Buf (Elt Ideal) ℓ) (c : Dev nD)

/-- What the points leave. -/
def left : (n : ℕ) → n < cfg0.N → Outs
  | 0, hn => body (iblk m c 0 ⟨0, hn⟩) (iblk m c 1 ⟨0, hn⟩) (iblk m c 2 ⟨0, hn⟩) (iblk m c 3 ⟨0, hn⟩) (iblk m c 4 ⟨0, hn⟩) k0_pay3 k0_pay4 k0_pay5
  | n + 1, hn => body (iblk m c 0 ⟨n + 1, hn⟩) (iblk m c 1 ⟨n + 1, hn⟩) (iblk m c 2 ⟨n + 1, hn⟩) (iblk m c 3 ⟨n + 1, hn⟩) (iblk m c 4 ⟨n + 1, hn⟩)
      (left n (Nat.lt_of_succ_lt hn)).2.1 (left n (Nat.lt_of_succ_lt hn)).2.2.1 (left n (Nat.lt_of_succ_lt hn)).2.2.2

theorem outs_eq : ∀ (n : ℕ) (hn : n < cfg0.N), outsAt0 m c n hn = left m c n hn
  | 0, hn => by
    rw [outsAt0_A m c ⟨0, hn⟩ rfl]
    refine Prod.ext ?_ (Prod.ext ?_ (Prod.ext ?_ ?_))
    all_goals frame_out
    all_goals rfl
  | n + 1, hn => by
    have h8 : n + 1 < 8 := lt_of_lt_of_eq hn N_0
    have ih := outs_eq n (Nat.lt_of_succ_lt hn)
    rw [outsAt0_B m c ⟨n + 1, hn⟩ (by dsimp only; omega)]
    simp only [Nat.add_sub_cancel, ih]
    refine Prod.ext ?_ (Prod.ext ?_ (Prod.ext ?_ ?_))
    all_goals frame_out
    all_goals rfl

/-! The arguments' real numbers: the product's gradient, the weights, the rows before the norm, its gain and its offset. -/

def yR (t : Fin 8192) (e : Fin 1024) : ℝ := (at2 (m ((c : Thread nD τ).loc main_arg0)) t e).toReal
def wR (k e : Fin 1024) : ℝ := (at2 (m ((c : Thread nD τ).loc main_arg1)) k e).toReal
def vR (t : Fin 8192) (k : Fin 1024) : ℝ := (at2 (m ((c : Thread nD τ).loc main_arg2)) t k).toReal
def gR (k : Fin 1024) : ℝ := (at2 (m ((c : Thread nD τ).loc main_arg3)) 0 k).toReal
def bR (k : Fin 1024) : ℝ := (at2 (m ((c : Thread nD τ).loc main_arg4)) 0 k).toReal
/-- The gradient behind the silu. -/
def dR (t : Fin 8192) (k : Fin 1024) : ℝ := ∑ e, yR m c t e * wR m c k e

/-- The arguments are those real numbers. -/
structure Given : Prop where
  y : ∀ t k, m ((c : Thread nD τ).loc main_arg0) (ix2 t k) = ((yR m c t k : ℝ) : EReal)
  w : ∀ t k, m ((c : Thread nD τ).loc main_arg1) (ix2 t k) = ((wR m c t k : ℝ) : EReal)
  v : ∀ t k, m ((c : Thread nD τ).loc main_arg2) (ix2 t k) = ((vR m c t k : ℝ) : EReal)
  g : ∀ k, m ((c : Thread nD τ).loc main_arg3) (ix2 0 k) = ((gR m c k : ℝ) : EReal)
  b : ∀ k, m ((c : Thread nD τ).loc main_arg4) (ix2 0 k) = ((bR m c k : ℝ) : EReal)

/-- The gradient at the rows, and the terms of the gain's and the offset's. -/
def rowDx (t : Fin 8192) (k : Fin 1024) : EReal := ((dx (vR m c t) (gR m c) (bR m c) (dR m c t) k : ℝ) : EReal)
def rowDg (t : Fin 8192) (k : Fin 1024) : EReal :=
  ((dln (vR m c t) (gR m c) (bR m c) (dR m c t) k * nrm (vR m c t) k : ℝ) : EReal)
def rowDb (t : Fin 8192) (k : Fin 1024) : EReal := ((dln (vR m c t) (gR m c) (bR m c) (dR m c t) k : ℝ) : EReal)

/-- Point `t` takes and writes the rows from `1024 * t` on, and the rest whole. -/
theorem rows_at : ∀ t : Fin cfg0.N, (win0_0.index t 0 = t.val ∧ win0_0.index t 1 = 0) ∧ (win0_2.index t 0 = t.val ∧ win0_2.index t 1 = 0)
    ∧ (win0_5.index t 0 = t.val ∧ win0_5.index t 1 = 0) ∧ (win0_1.index t 0 = 0 ∧ win0_1.index t 1 = 0) :=
  (by decide +kernel : ∀ t : Fin grid0.N, _)
theorem whole_at : ∀ t : Fin cfg0.N, win0_3.index t = ![0, 0] ∧ win0_4.index t = ![0, 0]
    ∧ win0_6.index t 1 = 0 ∧ win0_7.index t 1 = 0 ∧ win0_8.index t 1 = 0 :=
  (by decide +kernel : ∀ t : Fin grid0.N, _)
theorem last_only : ∀ t : Fin cfg0.N, ((cfg0.win 6).flush t = true → t.val = 7) ∧ ((cfg0.win 7).flush t = true → t.val = 7)
    ∧ ((cfg0.win 8).flush t = true → t.val = 7) :=
  (by decide +kernel : ∀ t : Fin cfg0.N, _)

/-- Row `r` of point `n`. -/
abbrev at8 (n : ℕ) (hn : n < 8) (r : Fin 1024) : Fin 8192 := ⟨1024 * n + r, by omega⟩

theorem upto_point (F : Fin 8192 → EReal) (n : ℕ) (hn : n < 8) :
    upto F (1024 * n) + ∑ r : Fin 1024, F (at8 n hn r) = upto F (1024 * (n + 1)) := by
  unfold upto
  rw [Nat.mul_succ, Finset.sum_range_add, Finset.sum_range (n := 1024)]
  exact congrArg _ (Finset.sum_congr rfl fun r _ => by rw [dif_pos (show 1024 * n + r.val < 8192 by omega)])

/-- The sums over the rows before the point `n`. -/
structure Sums (n : ℕ) (s1 s2 s3 : FVec Ideal S1x1024 .f32) : Prop where
  dg : ∀ k, s1 (ix2 0 k) = upto (fun i => rowDg m c i k) (1024 * n)
  db : ∀ k, s2 (ix2 0 k) = upto (fun i => rowDb m c i k) (1024 * n)
  dx : ∀ k, s3 (ix2 0 k) = upto (fun i => rowDx m c i k) (1024 * n)

/-- What a point leaves: the gradients of its rows, and the sums up to its last row. -/
structure Done (n : ℕ) (hn : n < 8) (x : Outs) : Prop where
  dx : ∀ r k, x.1 (ix2 r k) = rowDx m c (at8 n hn r) k
  sums : Sums m c (n + 1) x.2.1 x.2.2.1 x.2.2.2

variable {m c}

/-- One point more. -/
theorem done_body (G : Given m c) (t : Fin cfg0.N) (hn : t.val < 8) {s1 s2 s3 : FVec Ideal S1x1024 .f32} (h : Sums m c t.val s1 s2 s3) :
    Done m c t.val hn (body (iblk m c 0 t) (iblk m c 1 t) (iblk m c 2 t) (iblk m c 3 t) (iblk m c 4 t) s1 s2 s3) := by
  have hr := rows_at t
  have h8 (r : Fin 1024) : (at8 t.val hn r).val = 1024 * t.val + r.val := rfl
  obtain ⟨h3, h4, -⟩ := whole_at t
  have hy (r e : Fin 1024) : iblk m c 0 t (ix2 r e) = ((yR m c (at8 t.val hn r) e : ℝ) : EReal) :=
    (at_ix2 (m ((c : Thread nD τ).loc main_arg0)) _ (at8 t.val hn r) e (by have := h8 r; blk_simp; omega) (by blk_simp; omega)).trans (G.y _ _)
  have hw (r e : Fin 1024) : iblk m c 1 t (ix2 r e) = ((wR m c r e : ℝ) : EReal) :=
    (at_ix2 (m ((c : Thread nD τ).loc main_arg1)) _ r e (by blk_simp; omega) (by blk_simp; omega)).trans (G.w _ _)
  have hv (r e : Fin 1024) : iblk m c 2 t (ix2 r e) = ((vR m c (at8 t.val hn r) e : ℝ) : EReal) :=
    (at_ix2 (m ((c : Thread nD τ).loc main_arg2)) _ (at8 t.val hn r) e (by have := h8 r; blk_simp; omega) (by blk_simp; omega)).trans (G.v _ _)
  have hg (k : Fin 1024) : iblk m c 3 t (ix2 0 k) = ((gR m c k : ℝ) : EReal) :=
    (at_ix2 (m ((c : Thread nD τ).loc main_arg3)) _ 0 k (by blk_simp; simp [h3]) (by blk_simp; simp [h3])).trans (G.g _)
  have hb (k : Fin 1024) : iblk m c 4 t (ix2 0 k) = ((bR m c k : ℝ) : EReal) :=
    (at_ix2 (m ((c : Thread nD τ).loc main_arg4)) _ 0 k (by blk_simp; simp [h4]) (by blk_simp; simp [h4])).trans (G.b _)
  have hd (r k : Fin 1024) := prod_at hy hw r k
  exact ⟨dx_at hv hd hg hb, fun k => (sum_dg hv hd hg hb k s1).trans ((congrArg (· + _) (h.dg k)).trans (upto_point _ _ hn)),
    fun k => (sum_db hv hd hg hb k s2).trans ((congrArg (· + _) (h.db k)).trans (upto_point _ _ hn)),
    fun k => (sum_dx hv hd hg hb k s3).trans ((congrArg (· + _) (h.dx k)).trans (upto_point _ _ hn))⟩

theorem sums_zero : Sums m c 0 k0_pay3 k0_pay4 k0_pay5 :=
  ⟨fun k => by pointwise [k0_pay3]; rfl, fun k => by pointwise [k0_pay4]; rfl, fun k => by pointwise [k0_pay5]; rfl⟩

theorem done_all (G : Given m c) : ∀ (n : ℕ) (hn : n < cfg0.N), Done m c n (lt_of_lt_of_eq hn N_0) (left m c n hn)
  | 0, hn => done_body G ⟨0, hn⟩ (by norm_num) sums_zero
  | n + 1, hn => done_body G ⟨n + 1, hn⟩ (lt_of_lt_of_eq hn N_0) (done_all G n (Nat.lt_of_succ_lt hn)).sums

/-! The result arrays. -/

/-- A sum, after the last point. -/
theorem sum_last {n : ℕ} {x : FVec Ideal S1x1024 .f32} {f : Fin 8192 → Fin 1024 → EReal}
    (h : ∀ k, x (ix2 0 k) = upto (fun i => f i k) (1024 * (n + 1))) (hn : n = 7) (y i : S1x1024.Idx) (h1 : (i 1).val = (y 1).val) :
    x y = ofSums f i := by
  subst hn
  rw [eq_ix2 y, show y 0 = (0 : Fin 1) from Subsingleton.elim (α := Fin 1) _ _]
  exact (h (y 1)).trans ((upto_all _).trans (congrArg (fun k => ∑ t, f t k) (Fin.ext h1.symm)))

theorem final5 (G : Given m c) : (dats m 0 c).arrAt 5 cfg0.N = ofRows (rowDx m c) := by
  refine (dats m 0 c).arrAt_eq_of_covers 5 _ (by decide +kernel) fun t _ y => ?_
  have hr := rows_at t
  rw [after0_5, outs_eq, eq_ix2 y]
  exact ((done_all G t.val t.isLt).dx (y 0) (y 1)).trans
    (congrArg₂ (rowDx m c) (Fin.ext (by show 1024 * t.val + (y 0).val = _; blk_simp; omega)) (Fin.ext (by blk_simp; omega)))

theorem final6 (G : Given m c) : (dats m 0 c).arrAt 6 cfg0.N = ofSums (rowDg m c) := by
  refine (dats m 0 c).arrAt_eq_of_covers 6 _ (by decide +kernel) fun t hf y => ?_
  have hs := whole_at t
  rw [after0_6, outs_eq]
  exact sum_last (done_all G t.val t.isLt).sums.dg ((last_only t).1 hf) y _ (by blk_simp; omega)

theorem final7 (G : Given m c) : (dats m 0 c).arrAt 7 cfg0.N = ofSums (rowDb m c) := by
  refine (dats m 0 c).arrAt_eq_of_covers 7 _ (by decide +kernel) fun t hf y => ?_
  have hs := whole_at t
  rw [after0_7, outs_eq]
  exact sum_last (done_all G t.val t.isLt).sums.db ((last_only t).2.1 hf) y _ (by blk_simp; omega)

theorem final8 (G : Given m c) : (dats m 0 c).arrAt 8 cfg0.N = ofSums (rowDx m c) := by
  refine (dats m 0 c).arrAt_eq_of_covers 8 _ (by decide +kernel) fun t hf y => ?_
  have hs := whole_at t
  rw [after0_8, outs_eq]
  exact sum_last (done_all G t.val t.isLt).sums.dx ((last_only t).2.2 hf) y _ (by blk_simp; omega)

end Cert.PwB

end
-- ==== Proof.RefPwTwoX.lean ====
/- The reference of `pw2_bwd_x` for real arguments: its stages are the formulas of the gradient through layer norm and silu. -/
module

public import proofs.«01_k».proof.Proof.LnGrad
public import proofs.«01_k».proof.Proof.Gen.RefPwTwoXIdeal.Read

@[expose] public section

set_option maxRecDepth 16384

noncomputable section

namespace Cert.PwBRef

open Cert.RefPwTwoXIdeal Cert.RefPwTwoXIdeal.Read Cert.Norm Cert.LnGrad
open Cert.Retention (eps lit_eps lit_2 lit_neg_half sum_real div_real rsqrt_real norm_grad)
open Idealize.ShloMosaic

variable {a0 : FVec Ideal S8192x1024 .bf16} {a1 : FVec Ideal S1024x1024 .bf16} {a2 : FVec Ideal S8192x1024 .f32} {a3 a4 : FVec Ideal S1x1024 .f32}
  {y v : Fin 8192 → Fin 1024 → ℝ} {w : Fin 1024 → Fin 1024 → ℝ} {g b : Fin 1024 → ℝ}
  (h0 : ∀ t e, a0 (ix2 t e) = ((y t e : ℝ) : EReal)) (h1 : ∀ k e, a1 (ix2 k e) = ((w k e : ℝ) : EReal))
  (h2 : ∀ t k, a2 (ix2 t k) = ((v t k : ℝ) : EReal)) (h3 : ∀ k, a3 (ix2 0 k) = ((g k : ℝ) : EReal))
  (h4 : ∀ k, a4 (ix2 0 k) = ((b k : ℝ) : EReal)) (t : Fin 8192) (k : Fin 1024)

include h2 in
theorem mean_at : val_main_v7 (F := Ideal) a2 (ix2 t 0) = (((∑ i, v t i) / 1024 : ℝ) : EReal) := by
  pointwise [val_main_v7, val_main_v6, val_main_v5, val_main_v4, val_main_cst, val_main_cst_0]
  exact sum_div _ (h2 t)

include h2 in
theorem cen_at : val_main_v9 (F := Ideal) a2 (ix2 t k) = ((cen (v t) k : ℝ) : EReal) := by
  pointwise [val_main_v9, val_main_v8]
  rw [mean_at h2, h2, ← EReal.coe_sub]
  rfl

include h2 in
theorem vr_at : val_main_v20 (F := Ideal) a2 (ix2 t 0) = ((vr (v t) : ℝ) : EReal) := by
  pointwise [val_main_v20, val_main_v19, val_main_v16, val_main_v15, val_main_v14, val_main_v13, val_main_v10, val_main_cst_2, val_main_cst_3,
    val_main_cst_4]
  rw [sum_div (fun f => cen (v t) f * cen (v t) f) (fun f => by rw [cen_at h2, ← EReal.coe_mul]), lit_eps, ← EReal.coe_add]
  rfl

include h2 in
theorem rs_at : val_main_v21 (F := Ideal) a2 (ix2 t 0) = ((rs (v t) : ℝ) : EReal) := by
  pointwise [val_main_v21]
  rw [vr_at h2]
  exact rsqrt_real _ (vr_pos _)

include h2 in
theorem cen'_at : val_main_v18 (F := Ideal) a2 (ix2 t k) = ((cen (v t) k : ℝ) : EReal) := by
  pointwise [val_main_v18, val_main_v17]
  rw [mean_at h2, h2, ← EReal.coe_sub]
  rfl

include h2 in
theorem nrm_at : val_main_v26 (F := Ideal) a2 (ix2 t k) = ((nrm (v t) k : ℝ) : EReal) := by
  pointwise [val_main_v26, val_main_v25]
  rw [cen'_at h2, rs_at h2, ← EReal.coe_mul]
  rfl

include h2 h3 h4 in
theorem ln_at : val_main_v32 (F := Ideal) a2 a3 a4 (ix2 t k) = ((ln (v t) g b k : ℝ) : EReal) := by
  pointwise [val_main_v32, val_main_v31, val_main_v30, val_main_v29, val_main_v28, val_main_v27, val_main_v2, val_main_v3]
  rw [nrm_at h2, h3, h4, ← EReal.coe_mul, ← EReal.coe_add]
  rfl

include h2 h3 h4 in
theorem sg_at : val_main_v33_2 (F := Ideal) a2 a3 a4 (ix2 t k) = ((sg (v t) g b k : ℝ) : EReal) := by
  pointwise [val_main_v33_2, val_main_call0_v4, val_main_call0_v3, val_main_call0_v2, val_main_call0_v1, val_main_call0_v0, val_main_call0_cst,
    val_main_call0_cst_0]
  rw [ln_at h2 h3 h4, ← EReal.coe_neg, Ideal.exp_coe, ← EReal.coe_one, ← EReal.coe_add, div_real _ _ (by positivity)]
  rfl

include h0 h1 in
theorem d_at : val_main_v35 (F := Ideal) a0 a1 (ix2 t k) = ((∑ e, y t e * w k e : ℝ) : EReal) := by
  pointwise [val_main_v35, val_main_v0, val_main_v1]
  rw [← sum_real]
  exact Finset.sum_congr rfl fun e _ => by rw [h0, h1, ← EReal.coe_mul]

/-- The gradient behind the silu, by row. -/
abbrev back (y : Fin 8192 → Fin 1024 → ℝ) (w : Fin 1024 → Fin 1024 → ℝ) (t : Fin 8192) (k : Fin 1024) : ℝ := ∑ e, y t e * w k e

include h0 h1 h2 h3 h4 in
theorem dln_at : val_main_v36 (F := Ideal) a0 a1 a2 a3 a4 (ix2 t k) = ((dln (v t) g b (back y w t) k : ℝ) : EReal) := by
  pointwise [val_main_v36, val_main_call1_v1, val_main_call1_v2, val_main_call1_v0, val_main_v33_1, val_main_call0_v7, val_main_call0_v6,
    val_main_call0_cst_1]
  rw [ln_at h2 h3 h4, sg_at h2 h3 h4, d_at h0 h1, ← EReal.coe_one]
  simp only [← EReal.coe_mul, ← EReal.coe_add, ← EReal.coe_sub]
  congr 1
  unfold dln
  ring

include h0 h1 h2 h3 h4 in
theorem dn_at : val_main_v44 (F := Ideal) a0 a1 a2 a3 a4 (ix2 t k) = ((dn (v t) g b (back y w t) k : ℝ) : EReal) := by
  pointwise [val_main_v44, val_main_v43, val_main_v27, val_main_v2]
  rw [dln_at h0 h1 h2 h3 h4, h3, ← EReal.coe_mul]
  rfl

include h0 h1 h2 h3 h4 in
/-- The gradient at the normalized row times the root, and the part through the mean square. -/
theorem direct_at : val_main_v50 (F := Ideal) a0 a1 a2 a3 a4 (ix2 t k) = ((dn (v t) g b (back y w t) k * rs (v t) : ℝ) : EReal) := by
  pointwise [val_main_v50, val_main_v49]
  rw [dn_at h0 h1 h2 h3 h4, rs_at h2, ← EReal.coe_mul]

include h0 h1 h2 h3 h4 in
theorem square_at : val_main_v59 (F := Ideal) a0 a1 a2 a3 a4 (ix2 t k)
    = (((∑ j, cen (v t) j * dn (v t) g b (back y w t) j) * (-(1 / 2) * (rs (v t) / vr (v t))) / 1024 * (2 * cen (v t) k) : ℝ) : EReal) := by
  have e : val_main_v56 (F := Ideal) a0 a1 a2 a3 a4 (ix2 t 0)
      = (((∑ j, cen (v t) j * dn (v t) g b (back y w t) j) * (-(1 / 2) * (rs (v t) / vr (v t))) / 1024 : ℝ) : EReal) := by
    pointwise [val_main_v56, val_main_v55, val_main_v51, val_main_v48, val_main_v47, val_main_v46, val_main_v24, val_main_v23, val_main_v22,
      val_main_cst_5, val_main_cst_10, val_main_cst_12]
    rw [Finset.sum_congr rfl fun j _ => by rw [cen'_at h2, dn_at h0 h1 h2 h3 h4, ← EReal.coe_mul], sum_real, rs_at h2, vr_at h2,
      div_real _ _ (vr_pos _).ne', lit_neg_half, lit_1024, ← EReal.coe_mul, ← EReal.coe_mul, div_real _ _ (by norm_num)]
  unfold val_main_v59 val_main_v58 val_main_v57
  generalize val_main_v56 (F := Ideal) a0 a1 a2 a3 a4 = z at e ⊢
  pointwise [val_main_v12, val_main_v11, val_main_cst_1, val_main_cst_13]
  rw [Fin.sum_univ_one, e, cen_at h2, lit_2, ← EReal.coe_mul, ← EReal.coe_mul]

include h0 h1 h2 h3 h4 in
theorem dx_at : val_main_v69 (F := Ideal) a0 a1 a2 a3 a4 (ix2 t k) = ((dx (v t) g b (back y w t) k : ℝ) : EReal) := by
  have e : val_main_v66 (F := Ideal) a0 a1 a2 a3 a4 (ix2 t 0)
      = (((-(∑ j, dn (v t) g b (back y w t) j * rs (v t)) + -(∑ j, (∑ j, cen (v t) j * dn (v t) g b (back y w t) j)
        * (-(1 / 2) * (rs (v t) / vr (v t))) / 1024 * (2 * cen (v t) j))) / 1024 : ℝ) : EReal) := by
    pointwise [val_main_v66, val_main_v65, val_main_v64, val_main_v62, val_main_v61, val_main_v60, val_main_v54, val_main_v53, val_main_v52,
      val_main_cst_11, val_main_cst_14, val_main_cst_15]
    rw [Finset.sum_congr rfl fun j _ => by rw [direct_at h0 h1 h2 h3 h4, ← EReal.coe_neg],
      Finset.sum_congr (f := fun j => -val_main_v59 (F := Ideal) a0 a1 a2 a3 a4 (ix2 t j)) rfl fun j _ => by
        rw [square_at h0 h1 h2 h3 h4, ← EReal.coe_neg], sum_real, sum_real, lit_1024, ← EReal.coe_add,
      div_real _ _ (by norm_num), Finset.sum_neg_distrib, Finset.sum_neg_distrib]
  unfold val_main_v69 val_main_v68 val_main_v67
  generalize val_main_v66 (F := Ideal) a0 a1 a2 a3 a4 = z at e ⊢
  pointwise [val_main_v63, val_main_cst_16]
  rw [Fin.sum_univ_one, e, direct_at h0 h1 h2 h3 h4, square_at h0 h1 h2 h3 h4, ← EReal.coe_add, ← EReal.coe_add]
  congr 1
  exact norm_grad 1024 1024 (by norm_num) _ _ (cen_sum (v t)) _ _ (vr_pos (v t)).ne' (rs_sq (v t)) k

/-! The four results. -/

include h0 h1 h2 h3 h4 in
theorem res_dx : val_main_v69 (F := Ideal) a0 a1 a2 a3 a4 = ofRows fun t k => ((dx (v t) g b (back y w t) k : ℝ) : EReal) := by
  funext i
  rw [eq_ix2 i]
  exact dx_at h0 h1 h2 h3 h4 (i 0) (i 1)

include h0 h1 h2 h3 h4 in
theorem res_dg : val_main_v77 (F := Ideal) a0 a1 a2 a3 a4
    = ofSums fun t k => ((dln (v t) g b (back y w t) k * nrm (v t) k : ℝ) : EReal) := by
  funext i
  pointwise [val_main_v77, val_main_v45, val_main_v42, val_main_v41, val_main_v40, val_main_cst_8, val_main_cst_9]
  rw [Fin.sum_univ_one]
  refine Finset.sum_congr rfl fun t _ => (congrArg₂ (· * ·) (nrm_at h2 t (i 1)) (dln_at h0 h1 h2 h3 h4 t (i 1))).trans ?_
  rw [mul_comm, ← EReal.coe_mul]

include h0 h1 h2 h3 h4 in
theorem res_db : val_main_v78 (F := Ideal) a0 a1 a2 a3 a4 = ofSums fun t k => ((dln (v t) g b (back y w t) k : ℝ) : EReal) := by
  funext i
  unfold val_main_v78 val_main_v39 val_main_v38 val_main_v37
  have e := dln_at h0 h1 h2 h3 h4
  generalize val_main_v36 (F := Ideal) a0 a1 a2 a3 a4 = z at e ⊢
  pointwise [val_main_cst_6, val_main_cst_7]
  rw [Fin.sum_univ_one]
  exact Finset.sum_congr rfl fun t _ => e t _

include h0 h1 h2 h3 h4 in
theorem res_dv : val_main_v79 (F := Ideal) a0 a1 a2 a3 a4 = ofSums fun t k => ((dx (v t) g b (back y w t) k : ℝ) : EReal) := by
  funext i
  unfold val_main_v79 val_main_v76 val_main_v75 val_main_v74
  have e := dx_at h0 h1 h2 h3 h4
  generalize val_main_v69 (F := Ideal) a0 a1 a2 a3 a4 = z at e ⊢
  pointwise [val_main_cst_18, val_main_cst_19]
  rw [Fin.sum_univ_one]
  exact Finset.sum_congr rfl fun t _ => e t _

end Cert.PwBRef

end
-- ==== Proof.PwTwoXAlg.lean ====
/- `pw2_bwd_x` against its reference: equal results from arguments that are real numbers. -/
module

public import proofs.«01_k».proof.Proof.PwTwoX
public import proofs.«01_k».proof.Proof.RefPwTwoX
public import proofs.«01_k».proof.Proof.RetPre
public import proofs.«01_k».proof.Proof.Gen.Pre_pw2_x_finite
public import proofs.«01_k».proof.Proof.Gen.RefPwTwoXIdeal.Run

@[expose] public section

set_option maxRecDepth 16384

noncomputable section

namespace Cert.PwB

open Cert.PwTwoXIdeal Cert.PwTwoXIdeal.Gen Cert.Norm
open Idealize.ShloMosaic Idealize.ShloMosaic.TcCoe Idealize.SL.Sem

/-- The predicate says it of every entry of the five arrays. -/
theorem real_of_fn {a0 : FVec Ideal S8192x1024 .bf16} {a1 : FVec Ideal S1024x1024 .bf16} {a2 : FVec Ideal S8192x1024 .f32} {a3 a4 : FVec Ideal S1x1024 .f32}
    (h : Cert.Pre_pw2_x_finite.fn (F := Ideal) a0 a1 a2 a3 a4 = fun _ => 1#1) :
    (∀ i, (((a0 i).toReal : ℝ) : EReal) = a0 i) ∧ (∀ i, (((a1 i).toReal : ℝ) : EReal) = a1 i) ∧ (∀ i, (((a2 i).toReal : ℝ) : EReal) = a2 i)
      ∧ (∀ i, (((a3 i).toReal : ℝ) : EReal) = a3 i) ∧ ∀ i, (((a4 i).toReal : ℝ) : EReal) = a4 i := by
  have e := congrFun h (fun a => a.elim0)
  unfold Cert.Pre_pw2_x_finite.fn Cert.Pre_pw2_x_finite.fn_part1 at e
  obtain ⟨e, e4⟩ := RetPre.and_one e
  obtain ⟨e, e3⟩ := RetPre.and_one e
  obtain ⟨e, e2⟩ := RetPre.and_one e
  obtain ⟨e0, e1⟩ := RetPre.and_one e
  exact ⟨fun i => RetPre.real_of_abs (Host.reduce_andi_all _ _ _ _ _ e0 i), fun i => RetPre.real_of_abs (Host.reduce_andi_all _ _ _ _ _ e1 i),
    fun i => RetPre.real_of_abs (Host.reduce_andi_all _ _ _ _ _ e2 i), fun i => RetPre.real_of_abs (Host.reduce_andi_all _ _ _ _ _ e3 i),
    fun i => RetPre.real_of_abs (Host.reduce_andi_all _ _ _ _ _ e4 i)⟩

theorem given_of_pre {m : (ℓ : Loc nD τ sig) → Buf (Elt Ideal) ℓ} (h : Cert.Pre_PwTwoXIdeal_pw2_x_finite m) (c : Dev nD) : Given m c := by
  obtain ⟨h0, h1, h2, h3, h4⟩ := real_of_fn (h c)
  exact ⟨fun t k => RetPre.realAt_coe h0 t k, fun t k => RetPre.realAt_coe h1 t k, fun t k => RetPre.realAt_coe h2 t k,
    fun k => RetPre.realAt_coe h3 0 k, fun k => RetPre.realAt_coe h4 0 k⟩

/-- The four results are the four gradients, on both sides. -/
theorem algebraic : Cert.algebraic_PwTwoXIdeal_RefPwTwoXIdeal_pre_pw2_x_finite := by
  intro m g m' g' hpre hag
  refine ⟨fun c => ofRows (rowDx m c), fun c => ofSums (rowDg m c), fun c => ofSums (rowDb m c), fun c => ofSums (rowDx m c),
    (θ_run defs _ _).mono (fun _ h c => ?_) (Value.run_blocks m g),
    (θ_run Cert.RefPwTwoXIdeal.defs _ _).mono (fun _ h c => ?_) (Cert.RefPwTwoXIdeal.Value.run (F := Ideal) m' g')⟩
  · obtain ⟨h0, h1, h2, h3, h⟩ := h c
    have G := given_of_pre hpre c
    exact ⟨h0.trans (final5 G), h1.trans (final6 G), h2.trans (final7 G), h3.trans (final8 G), h⟩
  · obtain ⟨h0, h1, h2, h3, h⟩ := h c
    have G := given_of_pre hpre c
    obtain ⟨e0, e1, e2, e3, e4⟩ := hag c
    refine ⟨h0.trans ?_, h1.trans ?_, h2.trans ?_, h3.trans ?_, h⟩
    · rw [Cert.RefPwTwoXIdeal.Read.val_main_v69_eq, e0, e1, e2, e3, e4]
      exact PwBRef.res_dx G.y G.w G.v G.g G.b
    · rw [Cert.RefPwTwoXIdeal.Read.val_main_v77_eq, e0, e1, e2, e3, e4]
      exact PwBRef.res_dg G.y G.w G.v G.g G.b
    · rw [Cert.RefPwTwoXIdeal.Read.val_main_v78_eq, e0, e1, e2, e3, e4]
      exact PwBRef.res_db G.y G.w G.v G.g G.b
    · rw [Cert.RefPwTwoXIdeal.Read.val_main_v79_eq, e0, e1, e2, e3, e4]
      exact PwBRef.res_dv G.y G.w G.v G.g G.b

end Cert.PwB

end
-- ==== Proof.AdaF.lean ====
/- The modulation's product: `ada_fwd`, over the extended reals. -/
module

public import proofs.«01_k».proof.Defs
public import proofs.«01_k».proof.Proof.RetWin
public import proofs.«01_k».proof.Proof.Gen.AdaFIdeal.Value
public import proofs.«01_k».proof.Proof.Gen.RefAdaFIdeal.Run
public import proofs.«01_k».proof.Proof.Gen.RefAdaFIdeal.Read
public import Idealize.ShloMosaic.Lib.Pipeline.ValueKit

@[expose] public section

set_option maxRecDepth 16384

noncomputable section

namespace Cert.AdaP

open Cert.AdaFIdeal Cert.AdaFIdeal.Gen Cert.Nat2
open Idealize.ShloMosaic Idealize.ShloMosaic.TcCoe Idealize.SL.Sem
open Idealize.ShloMosaic.Pipeline (Dat)

/-- An entry times its logistic. -/
def silu (z : EReal) : EReal := z * Ideal.div 1 (1 + Ideal.exp (-z))

/-- Every layer's product of the activated conditioning rows with its weight. -/
def modulation (x : S8x1024.Idx → EReal) (w : S4x1024x768.Idx → EReal) : S4x8x768.Idx → EReal :=
  fun i => ∑ k : Fin 1024, silu (x (ix2 (i 1) k)) * w (ix3 (i 0) k (i 2))

/-- One layer's part, as the body computes it. -/
theorem pay_apply (x : FVec Ideal S8x1024 .f32) (w : FVec Ideal S1x1024x768 .f32) (i : S1x8x768.Idx) :
    k0_pay1 (F := Ideal) x w i = ∑ k : Fin 1024, silu (x (ix2 (i 1) k)) * w (ix3 0 k (i 2)) := by
  pointwise [k0_pay1, silu]
  simp only [zero_sub]

theorem blk_eq (x : FVec Ideal S8x1024 .f32) (w : FVec Ideal S1x1024x768 .f32) (i : S1x8x768.Idx) :
    out0_2 (F := Ideal) x w i = ∑ k : Fin 1024, silu (x (ix2 (i 1) k)) * w (ix3 0 k (i 2)) := by
  frame_out [out0_2]
  exact pay_apply x w i

variable (m : (ℓ : Loc nD τ sig) → Buf (Elt Ideal) ℓ) (c : Dev nD)

/-- The result array as a function of the arguments. -/
abbrev result : Buf (Elt Ideal) ((c : Thread nD τ).loc main_v0) :=
  modulation (m ((c : Thread nD τ).loc main_arg0)) (m ((c : Thread nD τ).loc main_arg1))

theorem idx_facts : ∀ t : Fin cfg0.N, (win0_0.index t 0 = 0 ∧ win0_0.index t 1 = 0)
    ∧ (win0_1.index t 0 = t.val ∧ win0_1.index t 1 = 0 ∧ win0_1.index t 2 = 0)
    ∧ win0_2.index t 0 = t.val ∧ win0_2.index t 1 = 0 ∧ win0_2.index t 2 = 0 :=
  (by decide +kernel : ∀ t : Fin grid0.N, _)

/-- The result array after the last point: every point writes its own layer. -/
theorem final : (dats m 0 c).arrAt 2 cfg0.N = result m c := by
  refine (dats m 0 c).arrAt_eq_of_covers 2 _ (by decide +kernel) fun t _ y => ?_
  obtain ⟨⟨e0, e1⟩, ⟨a0, a1, a2⟩, b0, b1, b2⟩ := idx_facts t
  have hy : (y 0).val = 0 := by have : (y 0).val < 1 := (y 0).isLt; omega
  refine (congrFun (after0_2 m c t) y).trans ((blk_eq (iblk m c 0 t) (iblk m c 1 t) y).trans ?_)
  refine Finset.sum_congr rfl fun k _ => congrArg₂ (· * ·) (congrArg silu ?_) ?_
  · exact at_ix2 (m ((c : Thread nD τ).loc main_arg0)) _ _ _ (by blk_simp; omega) (by blk_simp; omega)
  · exact Cert.RetWin.at3_of_val (m ((c : Thread nD τ).loc main_arg1)) _ _ _ _ (by blk_simp; omega) (by blk_simp; omega) (by blk_simp; omega)

section Reference
open Cert.RefAdaFIdeal.Read

/-- The reference's silu. -/
theorem ref_silu (x : FVec Ideal S8x1024 .f32) (i : S8x1024.Idx) : val_main_v0 (F := Ideal) x i = silu (x i) := by
  pointwise [val_main_v0, val_main_call0_v5, val_main_call0_v4, val_main_call0_cst_0, val_main_call0_v3, val_main_call0_cst, val_main_call0_v2,
    val_main_call0_v1, val_main_call0_v0, silu]

/-- The reference's result is the same function of the same arguments. -/
theorem ref_eq (x : FVec Ideal S8x1024 .f32) (w : FVec Ideal S4x1024x768 .f32) : val_main_v2 (F := Ideal) x w = modulation x w := by
  funext i
  pointwise [val_main_v2, val_main_v1, ref_silu, modulation]

end Reference

/-- The idealized kernel and the reference end with equal results. -/
theorem algebraic : Cert.algebraic_AdaFIdeal_RefAdaFIdeal := by
  intro m g m' g' _ hag
  refine ⟨fun c => result m c, (θ_run defs _ _).mono (fun _ h c => ⟨((h c).1).trans (final m c), (h c).2⟩) (Value.run_blocks m g),
    (θ_run Cert.RefAdaFIdeal.defs _ _).mono (fun _ h c => ?_) (Cert.RefAdaFIdeal.Value.run (F := Ideal) m' g')⟩
  obtain ⟨h0, h⟩ := h c
  obtain ⟨e0, e1⟩ := hag c
  refine ⟨h0.trans ?_, h⟩
  rw [Cert.RefAdaFIdeal.Read.val_main_v2_eq, e0, e1]
  exact ref_eq _ _

end Cert.AdaP

end
-- ==== Proof.AdaW.lean ====
/- The gradient of the modulation's weight: `ada_bwd`, over the extended reals. -/
module

public import proofs.«01_k».proof.Defs
public import proofs.«01_k».proof.Proof.AdaF
public import proofs.«01_k».proof.Proof.Gen.AdaWIdeal.Value
public import proofs.«01_k».proof.Proof.Gen.RefAdaWIdeal.Run
public import proofs.«01_k».proof.Proof.Gen.RefAdaWIdeal.Read
public import Idealize.ShloMosaic.Lib.Pipeline.ValueKit

@[expose] public section

set_option maxRecDepth 16384

noncomputable section

namespace Cert.AdaG

open Cert.AdaWIdeal Cert.AdaWIdeal.Gen Cert.Nat2
open Cert.AdaP (silu)
open Idealize.ShloMosaic Idealize.ShloMosaic.TcCoe Idealize.SL.Sem
open Idealize.ShloMosaic.Pipeline (Dat)

/-- Every layer's product of the activated conditioning rows, transposed, with the gradient coming in. -/
def grad (x : S8x1024.Idx → EReal) (d : S4x8x768.Idx → EReal) : S4x1024x768.Idx → EReal :=
  fun i => ∑ k : Fin 8, silu (x (ix2 k (i 1))) * d (ix3 (i 0) k (i 2))

/-- One layer's part, as the body computes it. -/
theorem pay_apply (x : FVec Ideal S8x1024 .f32) (w : FVec Ideal S1x8x768 .f32) (i : S1x1024x768.Idx) :
    k0_pay1 (F := Ideal) x w i = ∑ k : Fin 8, silu (x (ix2 k (i 1))) * w (ix3 0 k (i 2)) := by
  pointwise [k0_pay1, silu]
  simp only [zero_sub]

theorem blk_eq (x : FVec Ideal S8x1024 .f32) (w : FVec Ideal S1x8x768 .f32) (i : S1x1024x768.Idx) :
    out0_2 (F := Ideal) x w i = ∑ k : Fin 8, silu (x (ix2 k (i 1))) * w (ix3 0 k (i 2)) := by
  frame_out [out0_2]
  exact pay_apply x w i

variable (m : (ℓ : Loc nD τ sig) → Buf (Elt Ideal) ℓ) (c : Dev nD)

/-- The result array as a function of the arguments. -/
abbrev result : Buf (Elt Ideal) ((c : Thread nD τ).loc main_v0) :=
  grad (m ((c : Thread nD τ).loc main_arg0)) (m ((c : Thread nD τ).loc main_arg1))

theorem idx_facts : ∀ t : Fin cfg0.N, (win0_0.index t 0 = 0 ∧ win0_0.index t 1 = 0)
    ∧ (win0_1.index t 0 = t.val ∧ win0_1.index t 1 = 0 ∧ win0_1.index t 2 = 0)
    ∧ win0_2.index t 0 = t.val ∧ win0_2.index t 1 = 0 ∧ win0_2.index t 2 = 0 :=
  (by decide +kernel : ∀ t : Fin grid0.N, _)

/-- The result array after the last point: every point writes its own layer. -/
theorem final : (dats m 0 c).arrAt 2 cfg0.N = result m c := by
  refine (dats m 0 c).arrAt_eq_of_covers 2 _ (by decide +kernel) fun t _ y => ?_
  obtain ⟨⟨e0, e1⟩, ⟨a0, a1, a2⟩, b0, b1, b2⟩ := idx_facts t
  have hy : (y 0).val = 0 := by have : (y 0).val < 1 := (y 0).isLt; omega
  refine (congrFun (after0_2 m c t) y).trans ((blk_eq (iblk m c 0 t) (iblk m c 1 t) y).trans ?_)
  refine Finset.sum_congr rfl fun k _ => congrArg₂ (· * ·) (congrArg silu ?_) ?_
  · exact at_ix2 (m ((c : Thread nD τ).loc main_arg0)) _ _ _ (by blk_simp; omega) (by blk_simp; omega)
  · exact Cert.RetWin.at3_of_val (m ((c : Thread nD τ).loc main_arg1)) _ _ _ _ (by blk_simp; omega) (by blk_simp; omega) (by blk_simp; omega)

section Reference
open Cert.RefAdaWIdeal.Read

/-- The reference's silu. -/
theorem ref_silu (x : FVec Ideal S8x1024 .f32) (i : S8x1024.Idx) : val_main_v0 (F := Ideal) x i = silu (x i) := by
  pointwise [val_main_v0, val_main_call0_v5, val_main_call0_v4, val_main_call0_cst_0, val_main_call0_v3, val_main_call0_cst, val_main_call0_v2,
    val_main_call0_v1, val_main_call0_v0, silu]

/-- The reference's result is the same function of the same arguments. -/
theorem ref_eq (x : FVec Ideal S8x1024 .f32) (w : FVec Ideal S4x8x768 .f32) : val_main_v6 (F := Ideal) x w = grad x w := by
  funext i
  pointwise [val_main_v6, val_main_v5, val_main_v4, ref_silu, grad]
  exact Finset.sum_congr rfl fun k _ => mul_comm _ _

end Reference

/-- The idealized kernel and the reference end with equal results. -/
theorem algebraic : Cert.algebraic_AdaWIdeal_RefAdaWIdeal := by
  intro m g m' g' _ hag
  refine ⟨fun c => result m c, (θ_run defs _ _).mono (fun _ h c => ⟨((h c).1).trans (final m c), (h c).2⟩) (Value.run_blocks m g),
    (θ_run Cert.RefAdaWIdeal.defs _ _).mono (fun _ h c => ?_) (Cert.RefAdaWIdeal.Value.run (F := Ideal) m' g')⟩
  obtain ⟨h0, h⟩ := h c
  obtain ⟨e0, e1⟩ := hag c
  refine ⟨h0.trans ?_, h⟩
  rw [Cert.RefAdaWIdeal.Read.val_main_v6_eq, e0, e1]
  exact ref_eq _ _

end Cert.AdaG

end
-- ==== Proof.AdamA.lean ====
/- The optimiser's step for the modulation's weight: `adamw_ada_w`, over the extended reals. -/
module

public import proofs.«01_k».proof.Defs
public import proofs.«01_k».proof.Proof.RetWin
public import proofs.«01_k».proof.Proof.Gen.AdamAIdeal.Value
public import proofs.«01_k».proof.Proof.Gen.RefAdamAIdeal.Run
public import proofs.«01_k».proof.Proof.Gen.RefAdamAIdeal.Read
public import Idealize.ShloMosaic.Lib.Pipeline.ValueKit

@[expose] public section

set_option maxRecDepth 16384

noncomputable section

namespace Cert.AdamStep

open Cert.AdamAIdeal Cert.AdamAIdeal.Gen Cert.Nat2
open Idealize.ShloMosaic Idealize.ShloMosaic.TcCoe Idealize.SL.Sem
open Idealize.ShloMosaic.Pipeline (Dat)

/-- The new first moment of an entry. -/
def first (m g : EReal) : EReal := Ideal.ofBits FTy.f32 0x3F666666#32 * m + Ideal.ofBits FTy.f32 0x3DCCCCCD#32 * g
/-- The new second moment. -/
def second (v g : EReal) : EReal := Ideal.ofBits FTy.f32 0x3F7FBE77#32 * v + Ideal.ofBits FTy.f32 0x3A83126F#32 * (g * g)
/-- The change of the weight: the step against the moments without their bias, and the decay. -/
def change (w m v g : EReal) : EReal :=
  Ideal.ofBits FTy.f32 0xBA83126F#32 * (Ideal.div (Ideal.div (first m g) (Ideal.ofBits FTy.f32 0x3F26BD02#32))
    (Ideal.sqrt (Ideal.div (second v g) (Ideal.ofBits FTy.f32 0x3C231ACC#32)) + Ideal.ofBits FTy.f32 0x322BCC77#32)
    + Ideal.ofBits FTy.f32 0x3C23D70A#32 * w)

section Point
variable (w m v g : FVec Ideal S1x256x768 .f32) (i : S1x256x768.Idx)

/-! What the body computes of a block, entry by entry. -/

theorem grad_apply : k0_pay5 (F := Ideal) g i = g i := by
  pointwise [k0_pay5, k0_pay2]
theorem first_apply : k0_pay6 (F := Ideal) g m i = first (m i) (g i) := by
  pointwise [k0_pay6, k0_pay3, k0_pay2, first]
theorem second_apply : k0_pay7 (F := Ideal) g v i = second (v i) (g i) := by
  pointwise [k0_pay7, k0_pay4, k0_pay2, second]
theorem change_apply : k0_pay1 (F := Ideal) (k0_pay8 g m) (k0_pay9 g v) k0_pay10 w i = change (w i) (m i) (v i) (g i) := by
  pointwise [k0_pay1, k0_pay8, k0_pay9, k0_pay10, k0_pay3, k0_pay4, k0_pay2, change, first, second]

end Point

variable (m : (ℓ : Loc nD τ sig) → Buf (Elt Ideal) ℓ) (c : Dev nD)

/-- The arguments: the weight, its moments, and its gradient. -/
abbrev weightA : S1x4096x768.Idx → EReal := m ((c : Thread nD τ).loc main_arg0)
abbrev firstA : S1x4096x768.Idx → EReal := m ((c : Thread nD τ).loc main_arg1)
abbrev secondA : S1x4096x768.Idx → EReal := m ((c : Thread nD τ).loc main_arg2)
abbrev gradA : S1x4096x768.Idx → EReal := m ((c : Thread nD τ).loc main_arg3)

/-- The four results as functions of the arguments. -/
abbrev result0 : Buf (Elt Ideal) ((c : Thread nD τ).loc main_v0_0) := gradA m c
abbrev result1 : Buf (Elt Ideal) ((c : Thread nD τ).loc main_v0_1) :=
  fun i : S1x4096x768.Idx => change (weightA m c i) (firstA m c i) (secondA m c i) (gradA m c i)
abbrev result2 : Buf (Elt Ideal) ((c : Thread nD τ).loc main_v0_2) := fun i : S1x4096x768.Idx => first (firstA m c i) (gradA m c i)
abbrev result3 : Buf (Elt Ideal) ((c : Thread nD τ).loc main_v0_3) := fun i : S1x4096x768.Idx => second (secondA m c i) (gradA m c i)

theorem outs_eq (t : Fin cfg0.N) : outsAt0 m c t = (k0_pay5 (F := Ideal) (iblk m c 3 t),
    k0_pay1 (F := Ideal) (k0_pay8 (iblk m c 3 t) (iblk m c 1 t)) (k0_pay9 (iblk m c 3 t) (iblk m c 2 t)) k0_pay10 (iblk m c 0 t),
    k0_pay6 (F := Ideal) (iblk m c 3 t) (iblk m c 1 t), k0_pay7 (F := Ideal) (iblk m c 3 t) (iblk m c 2 t)) := by
  refine Prod.ext ?_ (Prod.ext ?_ (Prod.ext ?_ ?_))
  all_goals frame_out [outsAt0]
  all_goals rfl

theorem in_facts : ∀ t : Fin cfg0.N, (win0_0.index t 0 = 0 ∧ win0_0.index t 1 = t.val ∧ win0_0.index t 2 = 0)
    ∧ (win0_1.index t 0 = 0 ∧ win0_1.index t 1 = t.val ∧ win0_1.index t 2 = 0) ∧ (win0_2.index t 0 = 0 ∧ win0_2.index t 1 = t.val ∧ win0_2.index t 2 = 0)
    ∧ win0_3.index t 0 = 0 ∧ win0_3.index t 1 = t.val ∧ win0_3.index t 2 = 0 :=
  (by decide +kernel : ∀ t : Fin grid0.N, _)
theorem out_facts : ∀ t : Fin cfg0.N, (win0_4.index t 0 = 0 ∧ win0_4.index t 1 = t.val ∧ win0_4.index t 2 = 0)
    ∧ (win0_5.index t 0 = 0 ∧ win0_5.index t 1 = t.val ∧ win0_5.index t 2 = 0) ∧ (win0_6.index t 0 = 0 ∧ win0_6.index t 1 = t.val ∧ win0_6.index t 2 = 0)
    ∧ win0_7.index t 0 = 0 ∧ win0_7.index t 1 = t.val ∧ win0_7.index t 2 = 0 :=
  (by decide +kernel : ∀ t : Fin grid0.N, _)

/-- A point's entries, in the arrays. -/
theorem entries (t : Fin cfg0.N) (y : S1x256x768.Idx) (i : S1x4096x768.Idx) (h0 : (i 0).val = (y 0).val) (h1 : (i 1).val = t.val * 256 + (y 1).val)
    (h2 : (i 2).val = (y 2).val) : iblk m c 0 t y = weightA m c i ∧ iblk m c 1 t y = firstA m c i ∧ iblk m c 2 t y = secondA m c i
      ∧ iblk m c 3 t y = gradA m c i := by
  obtain ⟨⟨a0, a1, a2⟩, ⟨b0, b1, b2⟩, ⟨c0, c1, c2⟩, d0, d1, d2⟩ := in_facts t
  refine ⟨?_, ?_, ?_, ?_⟩
  · exact (RetWin.at3_of_val (weightA m c) _ (i 0) (i 1) (i 2) (by blk_simp; omega) (by blk_simp; omega) (by blk_simp; omega)).trans
      (congrArg (weightA m c) (eq_ix3 i)).symm
  · exact (RetWin.at3_of_val (firstA m c) _ (i 0) (i 1) (i 2) (by blk_simp; omega) (by blk_simp; omega) (by blk_simp; omega)).trans
      (congrArg (firstA m c) (eq_ix3 i)).symm
  · exact (RetWin.at3_of_val (secondA m c) _ (i 0) (i 1) (i 2) (by blk_simp; omega) (by blk_simp; omega) (by blk_simp; omega)).trans
      (congrArg (secondA m c) (eq_ix3 i)).symm
  · exact (RetWin.at3_of_val (gradA m c) _ (i 0) (i 1) (i 2) (by blk_simp; omega) (by blk_simp; omega) (by blk_simp; omega)).trans
      (congrArg (gradA m c) (eq_ix3 i)).symm

/-- The result arrays after the last point. -/
theorem final0 : (dats m 0 c).arrAt 4 cfg0.N = result0 m c := by
  refine (dats m 0 c).arrAt_eq_of_covers 4 _ (by decide +kernel) fun t _ y => ?_
  obtain ⟨⟨e0, e1, e2⟩, -⟩ := out_facts t
  rw [after0_4, outs_eq]
  refine (grad_apply (iblk m c 3 t) y).trans ?_
  exact (entries m c t y _ (by blk_simp; omega) (by blk_simp; omega) (by blk_simp; omega)).2.2.2
theorem final1 : (dats m 0 c).arrAt 5 cfg0.N = result1 m c := by
  refine (dats m 0 c).arrAt_eq_of_covers 5 _ (by decide +kernel) fun t _ y => ?_
  obtain ⟨-, ⟨e0, e1, e2⟩, -⟩ := out_facts t
  rw [after0_5, outs_eq]
  refine (change_apply (iblk m c 0 t) (iblk m c 1 t) (iblk m c 2 t) (iblk m c 3 t) y).trans ?_
  obtain ⟨h0, h1, h2, h3⟩ := entries m c t y (((cfg0.win 5).blk t).view.emb y) (by blk_simp; omega) (by blk_simp; omega) (by blk_simp; omega)
  rw [h0, h1, h2, h3]
theorem final2 : (dats m 0 c).arrAt 6 cfg0.N = result2 m c := by
  refine (dats m 0 c).arrAt_eq_of_covers 6 _ (by decide +kernel) fun t _ y => ?_
  obtain ⟨-, -, ⟨e0, e1, e2⟩, -⟩ := out_facts t
  rw [after0_6, outs_eq]
  refine (first_apply (iblk m c 1 t) (iblk m c 3 t) y).trans ?_
  obtain ⟨-, h1, -, h3⟩ := entries m c t y (((cfg0.win 6).blk t).view.emb y) (by blk_simp; omega) (by blk_simp; omega) (by blk_simp; omega)
  rw [h1, h3]
theorem final3 : (dats m 0 c).arrAt 7 cfg0.N = result3 m c := by
  refine (dats m 0 c).arrAt_eq_of_covers 7 _ (by decide +kernel) fun t _ y => ?_
  obtain ⟨-, -, -, e0, e1, e2⟩ := out_facts t
  rw [after0_7, outs_eq]
  refine (second_apply (iblk m c 2 t) (iblk m c 3 t) y).trans ?_
  obtain ⟨-, -, h2, h3⟩ := entries m c t y (((cfg0.win 7).blk t).view.emb y) (by blk_simp; omega) (by blk_simp; omega) (by blk_simp; omega)
  rw [h2, h3]

section Reference
open Cert.RefAdamAIdeal.Read
variable (w n v g : FVec Ideal S1x4096x768 .f32)

/-- The reference's results are the same functions of the same arguments. -/
theorem ref_first (i : S1x4096x768.Idx) : val_main_v4 (F := Ideal) n g i = first (n i) (g i) := by
  pointwise [val_main_v4, val_main_v3, val_main_v2, val_main_cst_0, val_main_v1, val_main_v0, val_main_cst, first]
theorem ref_second (i : S1x4096x768.Idx) : val_main_v10 (F := Ideal) v g i = second (v i) (g i) := by
  pointwise [val_main_v10, val_main_v9, val_main_v8, val_main_cst_2, val_main_v7, val_main_v6, val_main_v5, val_main_cst_1, second]
theorem ref_change (i : S1x4096x768.Idx) : val_main_v23 (F := Ideal) w n v g i = change (w i) (n i) (v i) (g i) := by
  pointwise [val_main_v23, val_main_v22, val_main_cst_7, val_main_v21, val_main_v20, val_main_v19, val_main_cst_6, val_main_v18, val_main_v17,
    val_main_v16, val_main_cst_5, val_main_v15, val_main_v14, val_main_v13, val_main_cst_4, val_main_v12, val_main_v11, val_main_cst_3, ref_first,
    ref_second, change]

end Reference

/-- The idealized kernel and the reference end with equal results. -/
theorem algebraic : Cert.algebraic_AdamAIdeal_RefAdamAIdeal := by
  intro m g m' g' _ hag
  refine ⟨fun c => result0 m c, fun c => result1 m c, fun c => result2 m c, fun c => result3 m c,
    (θ_run defs _ _).mono (fun _ h c => ?_) (Value.run_blocks m g),
    (θ_run Cert.RefAdamAIdeal.defs _ _).mono (fun _ h c => ?_) (Cert.RefAdamAIdeal.Value.run (F := Ideal) m' g')⟩
  · obtain ⟨h0, h1, h2, h3, h⟩ := h c
    exact ⟨h0.trans (final0 m c), h1.trans (final1 m c), h2.trans (final2 m c), h3.trans (final3 m c), h⟩
  · obtain ⟨h0, h1, h2, h3, h⟩ := h c
    obtain ⟨e0, e1, e2, e3⟩ := hag c
    refine ⟨h0.trans e3, h1.trans ?_, h2.trans ?_, h3.trans ?_, h⟩
    · rw [Cert.RefAdamAIdeal.Read.val_main_v23_eq, e0, e1, e2, e3]
      exact funext fun i => ref_change _ _ _ _ i
    · rw [Cert.RefAdamAIdeal.Read.val_main_v4_eq, e1, e3]
      exact funext fun i => ref_first _ _ i
    · rw [Cert.RefAdamAIdeal.Read.val_main_v10_eq, e2, e3]
      exact funext fun i => ref_second _ _ i

end Cert.AdamStep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MlpTwoW
public import proofs.«01_k».proof.Proof.Gen.MlpTwoW.Skeleton
public import proofs.«01_k».proof.Proof.Gen.MlpTwoW.Launch
public import proofs.«01_k».proof.Proof.Gen.MlpTwoW.Points
public import proofs.«01_k».proof.Proof.Gen.MlpTwoW.Frame
public import proofs.«01_k».proof.Proof.Gen.MlpTwoWIdeal
public import proofs.«01_k».proof.Proof.Gen.MlpTwoWIdeal.Skeleton
public import proofs.«01_k».proof.Proof.Gen.MlpTwoWIdeal.Launch
public import proofs.«01_k».proof.Proof.Gen.MlpTwoWIdeal.Points
public import proofs.«01_k».proof.Proof.Gen.MlpTwoWIdeal.Frame
public import proofs.«01_k».proof.Proof.Gen.RefTwoWIdeal
public import proofs.«01_k».proof.Proof.Gen.MlpOneW
public import proofs.«01_k».proof.Proof.Gen.MlpOneW.Skeleton
public import proofs.«01_k».proof.Proof.Gen.MlpOneW.Launch
public import proofs.«01_k».proof.Proof.Gen.MlpOneW.Points
public import proofs.«01_k».proof.Proof.Gen.MlpOneW.Frame
public import proofs.«01_k».proof.Proof.Gen.MlpOneWIdeal
public import proofs.«01_k».proof.Proof.Gen.MlpOneWIdeal.Skeleton
public import proofs.«01_k».proof.Proof.Gen.MlpOneWIdeal.Launch
public import proofs.«01_k».proof.Proof.Gen.MlpOneWIdeal.Points
public import proofs.«01_k».proof.Proof.Gen.MlpOneWIdeal.Frame
public import proofs.«01_k».proof.Proof.Gen.RefOneWIdeal
public import proofs.«01_k».proof.Proof.Gen.KernelIdeal.Value
public import proofs.«01_k».proof.Proof.Gen.MlpTwoWIdeal.Value
public import proofs.«01_k».proof.Proof.Gen.MlpOneWIdeal.Value
public import proofs.«01_k».proof.Proof.Gen.ReferenceIdeal.Read
public import proofs.«01_k».proof.Proof.Gen.RefTwoWIdeal.Read
public import proofs.«01_k».proof.Proof.Gen.RefOneWIdeal.Read
public import proofs.«01_k».proof.Proof.Gen.RetQ
public import proofs.«01_k».proof.Proof.Gen.RetQ.Skeleton
public import proofs.«01_k».proof.Proof.Gen.RetQ.Launch
public import proofs.«01_k».proof.Proof.Gen.RetQ.Points
public import proofs.«01_k».proof.Proof.Gen.RetQ.Frame
public import proofs.«01_k».proof.Proof.Gen.RetQIdeal
public import proofs.«01_k».proof.Proof.Gen.RetQIdeal.Skeleton
public import proofs.«01_k».proof.Proof.Gen.RetQIdeal.Launch
public import proofs.«01_k».proof.Proof.Gen.RetQIdeal.Points
public import proofs.«01_k».proof.Proof.Gen.RetQIdeal.Frame
public import proofs.«01_k».proof.Proof.Gen.RefQIdeal
public import proofs.«01_k».proof.Proof.Gen.RefQIdeal.Run
public import proofs.«01_k».proof.Proof.Gen.RetQIdeal.Value
public import proofs.«01_k».proof.Proof.Gen.Pre_ret_q_finite
public import proofs.«01_k».proof.Proof.Gen.MlpOneX
public import proofs.«01_k».proof.Proof.Gen.MlpOneX.Skeleton
public import proofs.«01_k».proof.Proof.Gen.MlpOneX.Launch
public import proofs.«01_k».proof.Proof.Gen.MlpOneX.Points
public import proofs.«01_k».proof.Proof.Gen.MlpOneX.Frame
public import proofs.«01_k».proof.Proof.Gen.MlpOneXIdeal
public import proofs.«01_k».proof.Proof.Gen.MlpOneXIdeal.Skeleton
public import proofs.«01_k».proof.Proof.Gen.MlpOneXIdeal.Launch
public import proofs.«01_k».proof.Proof.Gen.MlpOneXIdeal.Points
public import proofs.«01_k».proof.Proof.Gen.MlpOneXIdeal.Frame
public import proofs.«01_k».proof.Proof.Gen.MlpOneXIdeal.Value
public import proofs.«01_k».proof.Proof.Gen.RefOneXIdeal
public import proofs.«01_k».proof.Proof.Gen.RefOneXIdeal.Run
public import proofs.«01_k».proof.Proof.Gen.RefOneXIdeal.Read
public import proofs.«01_k».proof.Proof.Gen.RetInX
public import proofs.«01_k».proof.Proof.Gen.RetInX.Skeleton
public import proofs.«01_k».proof.Proof.Gen.RetInX.Launch
public import proofs.«01_k».proof.Proof.Gen.RetInX.Points
public import proofs.«01_k».proof.Proof.Gen.RetInX.Frame
public import proofs.«01_k».proof.Proof.Gen.RetInXIdeal
public import proofs.«01_k».proof.Proof.Gen.RetInXIdeal.Skeleton
public import proofs.«01_k».proof.Proof.Gen.RetInXIdeal.Launch
public import proofs.«01_k».proof.Proof.Gen.RetInXIdeal.Points
public import proofs.«01_k».proof.Proof.Gen.RetInXIdeal.Frame
public import proofs.«01_k».proof.Proof.Gen.RetInXIdeal.Value
public import proofs.«01_k».proof.Proof.Gen.RefInXIdeal
public import proofs.«01_k».proof.Proof.Gen.RefInXIdeal.Run
public import proofs.«01_k».proof.Proof.Gen.RefInXIdeal.Read
public import proofs.«01_k».proof.Proof.Gen.RetInW
public import proofs.«01_k».proof.Proof.Gen.RetInW.Skeleton
public import proofs.«01_k».proof.Proof.Gen.RetInW.Launch
public import proofs.«01_k».proof.Proof.Gen.RetInW.Points
public import proofs.«01_k».proof.Proof.Gen.RetInW.Frame
public import proofs.«01_k».proof.Proof.Gen.RetInWIdeal
public import proofs.«01_k».proof.Proof.Gen.RetInWIdeal.Skeleton
public import proofs.«01_k».proof.Proof.Gen.RetInWIdeal.Launch
public import proofs.«01_k».proof.Proof.Gen.RetInWIdeal.Points
public import proofs.«01_k».proof.Proof.Gen.RetInWIdeal.Frame
public import proofs.«01_k».proof.Proof.Gen.RetInWIdeal.Value
public import proofs.«01_k».proof.Proof.Gen.RefInWIdeal
public import proofs.«01_k».proof.Proof.Gen.RefInWIdeal.Run
public import proofs.«01_k».proof.Proof.Gen.RefInWIdeal.Read
public import proofs.«01_k».proof.Proof.Gen.RetOutX
public import proofs.«01_k».proof.Proof.Gen.RetOutX.Skeleton
public import proofs.«01_k».proof.Proof.Gen.RetOutX.Launch
public import proofs.«01_k».proof.Proof.Gen.RetOutX.Points
public import proofs.«01_k».proof.Proof.Gen.RetOutX.Frame
public import proofs.«01_k».proof.Proof.Gen.RetOutXIdeal
public import proofs.«01_k».proof.Proof.Gen.RetOutXIdeal.Skeleton
public import proofs.«01_k».proof.Proof.Gen.RetOutXIdeal.Launch
public import proofs.«01_k».proof.Proof.Gen.RetOutXIdeal.Points
public import proofs.«01_k».proof.Proof.Gen.RetOutXIdeal.Frame
public import proofs.«01_k».proof.Proof.Gen.RetOutXIdeal.Value
public import proofs.«01_k».proof.Proof.Gen.RefOutXIdeal
public import proofs.«01_k».proof.Proof.Gen.RefOutXIdeal.Run
public import proofs.«01_k».proof.Proof.Gen.RefOutXIdeal.Read
public import proofs.«01_k».proof.Proof.Gen.RetOutW
public import proofs.«01_k».proof.Proof.Gen.RetOutW.Skeleton
public import proofs.«01_k».proof.Proof.Gen.RetOutW.Launch
public import proofs.«01_k».proof.Proof.Gen.RetOutW.Points
public import proofs.«01_k».proof.Proof.Gen.RetOutW.Frame
public import proofs.«01_k».proof.Proof.Gen.RetOutWIdeal
public import proofs.«01_k».proof.Proof.Gen.RetOutWIdeal.Skeleton
public import proofs.«01_k».proof.Proof.Gen.RetOutWIdeal.Launch
public import proofs.«01_k».proof.Proof.Gen.RetOutWIdeal.Points
public import proofs.«01_k».proof.Proof.Gen.RetOutWIdeal.Frame
public import proofs.«01_k».proof.Proof.Gen.RetOutWIdeal.Value
public import proofs.«01_k».proof.Proof.Gen.RefOutWIdeal
public import proofs.«01_k».proof.Proof.Gen.RefOutWIdeal.Run
public import proofs.«01_k».proof.Proof.Gen.RefOutWIdeal.Read
public import proofs.«01_k».proof.Proof.Gen.MlpOneF
public import proofs.«01_k».proof.Proof.Gen.MlpOneF.Skeleton
public import proofs.«01_k».proof.Proof.Gen.MlpOneF.Launch
public import proofs.«01_k».proof.Proof.Gen.MlpOneF.Points
public import proofs.«01_k».proof.Proof.Gen.MlpOneF.Frame
public import proofs.«01_k».proof.Proof.Gen.MlpOneFIdeal
public import proofs.«01_k».proof.Proof.Gen.MlpOneFIdeal.Skeleton
public import proofs.«01_k».proof.Proof.Gen.MlpOneFIdeal.Launch
public import proofs.«01_k».proof.Proof.Gen.MlpOneFIdeal.Points
public import proofs.«01_k».proof.Proof.Gen.MlpOneFIdeal.Frame
public import proofs.«01_k».proof.Proof.Gen.MlpOneFIdeal.Value
public import proofs.«01_k».proof.Proof.Gen.RefOneFIdeal
public import proofs.«01_k».proof.Proof.Gen.RefOneFIdeal.Run
public import proofs.«01_k».proof.Proof.Gen.RefOneFIdeal.Read
public import proofs.«01_k».proof.Proof.Gen.MlpTwoF
public import proofs.«01_k».proof.Proof.Gen.MlpTwoF.Skeleton
public import proofs.«01_k».proof.Proof.Gen.MlpTwoF.Launch
public import proofs.«01_k».proof.Proof.Gen.MlpTwoF.Points
public import proofs.«01_k».proof.Proof.Gen.MlpTwoF.Frame
public import proofs.«01_k».proof.Proof.Gen.MlpTwoFIdeal
public import proofs.«01_k».proof.Proof.Gen.MlpTwoFIdeal.Skeleton
public import proofs.«01_k».proof.Proof.Gen.MlpTwoFIdeal.Launch
public import proofs.«01_k».proof.Proof.Gen.MlpTwoFIdeal.Points
public import proofs.«01_k».proof.Proof.Gen.MlpTwoFIdeal.Frame
public import proofs.«01_k».proof.Proof.Gen.MlpTwoFIdeal.Value
public import proofs.«01_k».proof.Proof.Gen.RefTwoFIdeal
public import proofs.«01_k».proof.Proof.Gen.RefTwoFIdeal.Run
public import proofs.«01_k».proof.Proof.Gen.RefTwoFIdeal.Read
public import proofs.«01_k».proof.Proof.Gen.RetInF
public import proofs.«01_k».proof.Proof.Gen.RetInF.Skeleton
public import proofs.«01_k».proof.Proof.Gen.RetInF.Launch
public import proofs.«01_k».proof.Proof.Gen.RetInF.Points
public import proofs.«01_k».proof.Proof.Gen.RetInF.Frame
public import proofs.«01_k».proof.Proof.Gen.RetInFIdeal
public import proofs.«01_k».proof.Proof.Gen.RetInFIdeal.Skeleton
public import proofs.«01_k».proof.Proof.Gen.RetInFIdeal.Launch
public import proofs.«01_k».proof.Proof.Gen.RetInFIdeal.Points
public import proofs.«01_k».proof.Proof.Gen.RetInFIdeal.Frame
public import proofs.«01_k».proof.Proof.Gen.RetInFIdeal.Value
public import proofs.«01_k».proof.Proof.Gen.RefInFIdeal
public import proofs.«01_k».proof.Proof.Gen.RefInFIdeal.Run
public import proofs.«01_k».proof.Proof.Gen.RefInFIdeal.Read
public import proofs.«01_k».proof.Proof.Gen.RetOutF
public import proofs.«01_k».proof.Proof.Gen.RetOutF.Skeleton
public import proofs.«01_k».proof.Proof.Gen.RetOutF.Launch
public import proofs.«01_k».proof.Proof.Gen.RetOutF.Points
public import proofs.«01_k».proof.Proof.Gen.RetOutF.Frame
public import proofs.«01_k».proof.Proof.Gen.RetOutFIdeal
public import proofs.«01_k».proof.Proof.Gen.RetOutFIdeal.Skeleton
public import proofs.«01_k».proof.Proof.Gen.RetOutFIdeal.Launch
public import proofs.«01_k».proof.Proof.Gen.RetOutFIdeal.Points
public import proofs.«01_k».proof.Proof.Gen.RetOutFIdeal.Frame
public import proofs.«01_k».proof.Proof.Gen.RetOutFIdeal.Value
public import proofs.«01_k».proof.Proof.Gen.RefOutFIdeal
public import proofs.«01_k».proof.Proof.Gen.RefOutFIdeal.Run
public import proofs.«01_k».proof.Proof.Gen.RefOutFIdeal.Read
public import proofs.«01_k».proof.Proof.Gen.PwOneF
public import proofs.«01_k».proof.Proof.Gen.PwOneF.Skeleton
public import proofs.«01_k».proof.Proof.Gen.PwOneF.Launch
public import proofs.«01_k».proof.Proof.Gen.PwOneF.Points
public import proofs.«01_k».proof.Proof.Gen.PwOneF.Frame
public import proofs.«01_k».proof.Proof.Gen.PwOneFIdeal
public import proofs.«01_k».proof.Proof.Gen.PwOneFIdeal.Skeleton
public import proofs.«01_k».proof.Proof.Gen.PwOneFIdeal.Launch
public import proofs.«01_k».proof.Proof.Gen.PwOneFIdeal.Points
public import proofs.«01_k».proof.Proof.Gen.PwOneFIdeal.Frame
public import proofs.«01_k».proof.Proof.Gen.PwOneFIdeal.Value
public import proofs.«01_k».proof.Proof.Gen.RefPwOneFIdeal
public import proofs.«01_k».proof.Proof.Gen.RefPwOneFIdeal.Run
public import proofs.«01_k».proof.Proof.Gen.RefPwOneFIdeal.Read
public import proofs.«01_k».proof.Proof.Gen.PwOneW
public import proofs.«01_k».proof.Proof.Gen.PwOneW.Skeleton
public import proofs.«01_k».proof.Proof.Gen.PwOneW.Launch
public import proofs.«01_k».proof.Proof.Gen.PwOneW.Points
public import proofs.«01_k».proof.Proof.Gen.PwOneW.Frame
public import proofs.«01_k».proof.Proof.Gen.PwOneWIdeal
public import proofs.«01_k».proof.Proof.Gen.PwOneWIdeal.Skeleton
public import proofs.«01_k».proof.Proof.Gen.PwOneWIdeal.Launch
public import proofs.«01_k».proof.Proof.Gen.PwOneWIdeal.Points
public import proofs.«01_k».proof.Proof.Gen.PwOneWIdeal.Frame
public import proofs.«01_k».proof.Proof.Gen.PwOneWIdeal.Value
public import proofs.«01_k».proof.Proof.Gen.RefPwOneWIdeal
public import proofs.«01_k».proof.Proof.Gen.RefPwOneWIdeal.Run
public import proofs.«01_k».proof.Proof.Gen.RefPwOneWIdeal.Read
public import proofs.«01_k».proof.Proof.Gen.PwOneX
public import proofs.«01_k».proof.Proof.Gen.PwOneX.Skeleton
public import proofs.«01_k».proof.Proof.Gen.PwOneX.Launch
public import proofs.«01_k».proof.Proof.Gen.PwOneX.Points
public import proofs.«01_k».proof.Proof.Gen.PwOneX.Frame
public import proofs.«01_k».proof.Proof.Gen.PwOneXIdeal
public import proofs.«01_k».proof.Proof.Gen.PwOneXIdeal.Skeleton
public import proofs.«01_k».proof.Proof.Gen.PwOneXIdeal.Launch
public import proofs.«01_k».proof.Proof.Gen.PwOneXIdeal.Points
public import proofs.«01_k».proof.Proof.Gen.PwOneXIdeal.Frame
public import proofs.«01_k».proof.Proof.Gen.PwOneXIdeal.Value
public import proofs.«01_k».proof.Proof.Gen.RefPwOneXIdeal
public import proofs.«01_k».proof.Proof.Gen.RefPwOneXIdeal.Run
public import proofs.«01_k».proof.Proof.Gen.RefPwOneXIdeal.Read
public import proofs.«01_k».proof.Proof.Gen.PwOneZ
public import proofs.«01_k».proof.Proof.Gen.PwOneZ.Skeleton
public import proofs.«01_k».proof.Proof.Gen.PwOneZ.Launch
public import proofs.«01_k».proof.Proof.Gen.PwOneZ.Points
public import proofs.«01_k».proof.Proof.Gen.PwOneZ.Frame
public import proofs.«01_k».proof.Proof.Gen.PwOneZIdeal
public import proofs.«01_k».proof.Proof.Gen.PwOneZIdeal.Skeleton
public import proofs.«01_k».proof.Proof.Gen.PwOneZIdeal.Launch
public import proofs.«01_k».proof.Proof.Gen.PwOneZIdeal.Points
public import proofs.«01_k».proof.Proof.Gen.PwOneZIdeal.Frame
public import proofs.«01_k».proof.Proof.Gen.PwOneZIdeal.Value
public import proofs.«01_k».proof.Proof.Gen.RefPwOneZIdeal
public import proofs.«01_k».proof.Proof.Gen.RefPwOneZIdeal.Run
public import proofs.«01_k».proof.Proof.Gen.RefPwOneZIdeal.Read
public import proofs.«01_k».proof.Proof.Gen.PwTwoX
public import proofs.«01_k».proof.Proof.Gen.PwTwoX.Skeleton
public import proofs.«01_k».proof.Proof.Gen.PwTwoX.Launch
public import proofs.«01_k».proof.Proof.Gen.PwTwoX.Points
public import proofs.«01_k».proof.Proof.Gen.PwTwoX.Frame
public import proofs.«01_k».proof.Proof.Gen.PwTwoXIdeal
public import proofs.«01_k».proof.Proof.Gen.PwTwoXIdeal.Skeleton
public import proofs.«01_k».proof.Proof.Gen.PwTwoXIdeal.Launch
public import proofs.«01_k».proof.Proof.Gen.PwTwoXIdeal.Points
public import proofs.«01_k».proof.Proof.Gen.PwTwoXIdeal.Frame
public import proofs.«01_k».proof.Proof.Gen.PwTwoXIdeal.Value
public import proofs.«01_k».proof.Proof.Gen.RefPwTwoXIdeal
public import proofs.«01_k».proof.Proof.Gen.RefPwTwoXIdeal.Run
public import proofs.«01_k».proof.Proof.Gen.RefPwTwoXIdeal.Read
public import proofs.«01_k».proof.Proof.Gen.Pre_pw2_x_finite
public import proofs.«01_k».proof.Proof.Gen.PwTwoF
public import proofs.«01_k».proof.Proof.Gen.PwTwoF.Skeleton
public import proofs.«01_k».proof.Proof.Gen.PwTwoF.Launch
public import proofs.«01_k».proof.Proof.Gen.PwTwoF.Points
public import proofs.«01_k».proof.Proof.Gen.PwTwoF.Frame
public import proofs.«01_k».proof.Proof.Gen.PwTwoFIdeal
public import proofs.«01_k».proof.Proof.Gen.PwTwoFIdeal.Skeleton
public import proofs.«01_k».proof.Proof.Gen.PwTwoFIdeal.Launch
public import proofs.«01_k».proof.Proof.Gen.PwTwoFIdeal.Points
public import proofs.«01_k».proof.Proof.Gen.PwTwoFIdeal.Frame
public import proofs.«01_k».proof.Proof.Gen.PwTwoFIdeal.Value
public import proofs.«01_k».proof.Proof.Gen.RefPwTwoFIdeal
public import proofs.«01_k».proof.Proof.Gen.RefPwTwoFIdeal.Run
public import proofs.«01_k».proof.Proof.Gen.RefPwTwoFIdeal.Read
public import proofs.«01_k».proof.Proof.Gen.PwTwoW
public import proofs.«01_k».proof.Proof.Gen.PwTwoW.Skeleton
public import proofs.«01_k».proof.Proof.Gen.PwTwoW.Launch
public import proofs.«01_k».proof.Proof.Gen.PwTwoW.Points
public import proofs.«01_k».proof.Proof.Gen.PwTwoW.Frame
public import proofs.«01_k».proof.Proof.Gen.PwTwoWIdeal
public import proofs.«01_k».proof.Proof.Gen.PwTwoWIdeal.Skeleton
public import proofs.«01_k».proof.Proof.Gen.PwTwoWIdeal.Launch
public import proofs.«01_k».proof.Proof.Gen.PwTwoWIdeal.Points
public import proofs.«01_k».proof.Proof.Gen.PwTwoWIdeal.Frame
public import proofs.«01_k».proof.Proof.Gen.PwTwoWIdeal.Value
public import proofs.«01_k».proof.Proof.Gen.RefPwTwoWIdeal
public import proofs.«01_k».proof.Proof.Gen.RefPwTwoWIdeal.Run
public import proofs.«01_k».proof.Proof.Gen.RefPwTwoWIdeal.Read
public import proofs.«01_k».proof.Proof.Gen.AdaF
public import proofs.«01_k».proof.Proof.Gen.AdaF.Skeleton
public import proofs.«01_k».proof.Proof.Gen.AdaF.Launch
public import proofs.«01_k».proof.Proof.Gen.AdaF.Points
public import proofs.«01_k».proof.Proof.Gen.AdaF.Frame
public import proofs.«01_k».proof.Proof.Gen.AdaFIdeal
public import proofs.«01_k».proof.Proof.Gen.AdaFIdeal.Skeleton
public import proofs.«01_k».proof.Proof.Gen.AdaFIdeal.Launch
public import proofs.«01_k».proof.Proof.Gen.AdaFIdeal.Points
public import proofs.«01_k».proof.Proof.Gen.AdaFIdeal.Frame
public import proofs.«01_k».proof.Proof.Gen.AdaFIdeal.Value
public import proofs.«01_k».proof.Proof.Gen.RefAdaFIdeal
public import proofs.«01_k».proof.Proof.Gen.RefAdaFIdeal.Run
public import proofs.«01_k».proof.Proof.Gen.RefAdaFIdeal.Read
public import proofs.«01_k».proof.Proof.Gen.AdaW
public import proofs.«01_k».proof.Proof.Gen.AdaW.Skeleton
public import proofs.«01_k».proof.Proof.Gen.AdaW.Launch
public import proofs.«01_k».proof.Proof.Gen.AdaW.Points
public import proofs.«01_k».proof.Proof.Gen.AdaW.Frame
public import proofs.«01_k».proof.Proof.Gen.AdaWIdeal
public import proofs.«01_k».proof.Proof.Gen.AdaWIdeal.Skeleton
public import proofs.«01_k».proof.Proof.Gen.AdaWIdeal.Launch
public import proofs.«01_k».proof.Proof.Gen.AdaWIdeal.Points
public import proofs.«01_k».proof.Proof.Gen.AdaWIdeal.Frame
public import proofs.«01_k».proof.Proof.Gen.AdaWIdeal.Value
public import proofs.«01_k».proof.Proof.Gen.RefAdaWIdeal
public import proofs.«01_k».proof.Proof.Gen.RefAdaWIdeal.Run
public import proofs.«01_k».proof.Proof.Gen.RefAdaWIdeal.Read
public import proofs.«01_k».proof.Proof.Gen.AdamA
public import proofs.«01_k».proof.Proof.Gen.AdamA.Skeleton
public import proofs.«01_k».proof.Proof.Gen.AdamA.Launch
public import proofs.«01_k».proof.Proof.Gen.AdamA.Points
public import proofs.«01_k».proof.Proof.Gen.AdamA.Frame
public import proofs.«01_k».proof.Proof.Gen.AdamAIdeal
public import proofs.«01_k».proof.Proof.Gen.AdamAIdeal.Skeleton
public import proofs.«01_k».proof.Proof.Gen.AdamAIdeal.Launch
public import proofs.«01_k».proof.Proof.Gen.AdamAIdeal.Points
public import proofs.«01_k».proof.Proof.Gen.AdamAIdeal.Frame
public import proofs.«01_k».proof.Proof.Gen.AdamAIdeal.Value
public import proofs.«01_k».proof.Proof.Gen.RefAdamAIdeal
public import proofs.«01_k».proof.Proof.Gen.RefAdamAIdeal.Run
public import proofs.«01_k».proof.Proof.Gen.RefAdamAIdeal.Read
public import proofs.«01_k».proof.Proof.MlpX
public import proofs.«01_k».proof.Proof.MlpW
public import proofs.«01_k».proof.Proof.MlpV
public import proofs.«01_k».proof.Proof.RetAlg
public import proofs.«01_k».proof.Proof.MlpDx
public import proofs.«01_k».proof.Proof.RetInX
public import proofs.«01_k».proof.Proof.RetInW
public import proofs.«01_k».proof.Proof.RetOutX
public import proofs.«01_k».proof.Proof.RetOutW
public import proofs.«01_k».proof.Proof.MlpOneF
public import proofs.«01_k».proof.Proof.MlpTwoF
public import proofs.«01_k».proof.Proof.RetInF
public import proofs.«01_k».proof.Proof.RetOutF
public import proofs.«01_k».proof.Proof.PwOneF
public import proofs.«01_k».proof.Proof.PwOneW
public import proofs.«01_k».proof.Proof.PwOneX
public import proofs.«01_k».proof.Proof.PwTwoF
public import proofs.«01_k».proof.Proof.PwTwoW
public import proofs.«01_k».proof.Proof.PwOneZ
public import proofs.«01_k».proof.Proof.PwTwoXAlg
public import proofs.«01_k».proof.Proof.AdaF
public import proofs.«01_k».proof.Proof.AdaW
public import proofs.«01_k».proof.Proof.AdamA
public import Idealize.ShloMosaic.Adequacy
public import Idealize.ShloMosaic.Init

@[expose] public section

noncomputable section

namespace Cert.Proof

open Idealize.ShloMosaic Idealize.SL.Sem Cert.Kernel

/-- The reference of the gradient of the MLP's hidden layer runs, and leaves its arguments and the counters as they were. -/
theorem frame_ref : Cert.quiescent_ReferenceIdeal := fun m g _ =>
  (θ_run Cert.ReferenceIdeal.defs _ _).mono (fun _ h => ⟨fun c => (h c).2, sem_eq_zero_of_no_sems (by decide) _⟩) (Cert.ReferenceIdeal.Value.run (F := Ideal) m g)

/-- The reference of the gradient of the MLP's second weight runs, and leaves its arguments and the counters as they were. -/
theorem frame_ref_two : Cert.quiescent_RefTwoWIdeal := fun m g _ =>
  (θ_run Cert.RefTwoWIdeal.defs _ _).mono (fun _ h => ⟨fun c => (h c).2, sem_eq_zero_of_no_sems (by decide) _⟩) (Cert.RefTwoWIdeal.Value.run (F := Ideal) m g)

/-- The reference of the gradient of the MLP's first weight runs, and leaves its arguments and the counters as they were. -/
theorem frame_ref_one : Cert.quiescent_RefOneWIdeal := fun m g _ =>
  (θ_run Cert.RefOneWIdeal.defs _ _).mono (fun _ h => ⟨fun c => (h c).2, sem_eq_zero_of_no_sems (by decide) _⟩) (Cert.RefOneWIdeal.Value.run (F := Ideal) m g)

/-- The reference of the retention's gradient runs, and leaves its arguments and the counters as they were. -/
theorem frame_ref_ret : Cert.quiescent_RefQIdeal := fun m g _ =>
  (θ_run Cert.RefQIdeal.defs _ _).mono (fun _ h => ⟨fun c => (h c).2.2.2.2.2, sem_eq_zero_of_no_sems (by decide) _⟩) (Cert.RefQIdeal.Value.run (F := Ideal) m g)

/-- The reference of the gradient through the MLP's first product and the norm runs, and leaves its arguments and the counters as they were. -/
theorem frame_ref_one_x : Cert.quiescent_RefOneXIdeal := fun m g _ =>
  (θ_run Cert.RefOneXIdeal.defs _ _).mono (fun _ h => ⟨fun c => (h c).2.2.2.2.2.2.2, sem_eq_zero_of_no_sems (by decide) _⟩) (Cert.RefOneXIdeal.Value.run (F := Ideal) m g)

/-- The reference of the gradient through the retention's projections and the norm runs, and leaves its arguments and the counters as they were. -/
theorem frame_ref_in_x : Cert.quiescent_RefInXIdeal := fun m g _ =>
  (θ_run Cert.RefInXIdeal.defs _ _).mono (fun _ h => ⟨fun c => (h c).2.2.2.2.2.2.2, sem_eq_zero_of_no_sems (by decide) _⟩) (Cert.RefInXIdeal.Value.run (F := Ideal) m g)

/-- The reference of the gradient of the projections' weight runs, and leaves its arguments and the counters as they were. -/
theorem frame_ref_in_w : Cert.quiescent_RefInWIdeal := fun m g _ =>
  (θ_run Cert.RefInWIdeal.defs _ _).mono (fun _ h => ⟨fun c => (h c).2, sem_eq_zero_of_no_sems (by decide) _⟩) (Cert.RefInWIdeal.Value.run (F := Ideal) m g)

/-- The reference of the gradient of the retention's gated output runs, and leaves its arguments and the counters as they were. -/
theorem frame_ref_out_x : Cert.quiescent_RefOutXIdeal := fun m g _ =>
  (θ_run Cert.RefOutXIdeal.defs _ _).mono (fun _ h => ⟨fun c => (h c).2, sem_eq_zero_of_no_sems (by decide) _⟩) (Cert.RefOutXIdeal.Value.run (F := Ideal) m g)

/-- The reference of the gradient of the output projection's weight runs, and leaves its arguments and the counters as they were. -/
theorem frame_ref_out_w : Cert.quiescent_RefOutWIdeal := fun m g _ =>
  (θ_run Cert.RefOutWIdeal.defs _ _).mono (fun _ h => ⟨fun c => (h c).2, sem_eq_zero_of_no_sems (by decide) _⟩) (Cert.RefOutWIdeal.Value.run (F := Ideal) m g)

/-- The reference of the MLP's modulated rows and first product runs, and leaves its arguments and the counters as they were. -/
theorem frame_ref_one_f : Cert.quiescent_RefOneFIdeal := fun m g _ =>
  (θ_run Cert.RefOneFIdeal.defs _ _).mono (fun _ h => ⟨fun c => (h c).2.2, sem_eq_zero_of_no_sems (by decide) _⟩) (Cert.RefOneFIdeal.Value.run (F := Ideal) m g)

/-- The reference of the MLP's second product runs, and leaves its arguments and the counters as they were. -/
theorem frame_ref_two_f : Cert.quiescent_RefTwoFIdeal := fun m g _ =>
  (θ_run Cert.RefTwoFIdeal.defs _ _).mono (fun _ h => ⟨fun c => (h c).2.2, sem_eq_zero_of_no_sems (by decide) _⟩) (Cert.RefTwoFIdeal.Value.run (F := Ideal) m g)

/-- The reference of the retention's modulated rows and projections runs, and leaves its arguments and the counters as they were. -/
theorem frame_ref_in_f : Cert.quiescent_RefInFIdeal := fun m g _ =>
  (θ_run Cert.RefInFIdeal.defs _ _).mono (fun _ h => ⟨fun c => (h c).2.2, sem_eq_zero_of_no_sems (by decide) _⟩) (Cert.RefInFIdeal.Value.run (F := Ideal) m g)

/-- The reference of the retention's output product runs, and leaves its arguments and the counters as they were. -/
theorem frame_ref_out_f : Cert.quiescent_RefOutFIdeal := fun m g _ =>
  (θ_run Cert.RefOutFIdeal.defs _ _).mono (fun _ h => ⟨fun c => (h c).2.2, sem_eq_zero_of_no_sems (by decide) _⟩) (Cert.RefOutFIdeal.Value.run (F := Ideal) m g)

/-- The reference of the modulated rows and first product of the convolution mixer runs, and leaves its arguments and the counters as they were. -/
theorem frame_ref_pw_one_f : Cert.quiescent_RefPwOneFIdeal := fun m g _ =>
  (θ_run Cert.RefPwOneFIdeal.defs _ _).mono (fun _ h => ⟨fun c => (h c).2.2, sem_eq_zero_of_no_sems (by decide) _⟩) (Cert.RefPwOneFIdeal.Value.run (F := Ideal) m g)

/-- The reference of the gradient of the convolution mixer's first weight runs, and leaves its arguments and the counters as they were. -/
theorem frame_ref_pw_one_w : Cert.quiescent_RefPwOneWIdeal := fun m g _ =>
  (θ_run Cert.RefPwOneWIdeal.defs _ _).mono (fun _ h => ⟨fun c => (h c).2, sem_eq_zero_of_no_sems (by decide) _⟩) (Cert.RefPwOneWIdeal.Value.run (F := Ideal) m g)

/-- The reference of the gradients through the convolution mixer's first product and modulation runs, and leaves its arguments and the counters as they were. -/
theorem frame_ref_pw_one_x : Cert.quiescent_RefPwOneXIdeal := fun m g _ =>
  (θ_run Cert.RefPwOneXIdeal.defs _ _).mono (fun _ h => ⟨fun c => (h c).2.2.2.2.2.2.2, sem_eq_zero_of_no_sems (by decide) _⟩) (Cert.RefPwOneXIdeal.Value.run (F := Ideal) m g)

/-- The reference of the convolution mixer's second product runs, and leaves its arguments and the counters as they were. -/
theorem frame_ref_pw_two_f : Cert.quiescent_RefPwTwoFIdeal := fun m g _ =>
  (θ_run Cert.RefPwTwoFIdeal.defs _ _).mono (fun _ h => ⟨fun c => (h c).2.2, sem_eq_zero_of_no_sems (by decide) _⟩) (Cert.RefPwTwoFIdeal.Value.run (F := Ideal) m g)

/-- The reference of the gradient of the convolution mixer's second weight runs, and leaves its arguments and the counters as they were. -/
theorem frame_ref_pw_two_w : Cert.quiescent_RefPwTwoWIdeal := fun m g _ =>
  (θ_run Cert.RefPwTwoWIdeal.defs _ _).mono (fun _ h => ⟨fun c => (h c).2, sem_eq_zero_of_no_sems (by decide) _⟩) (Cert.RefPwTwoWIdeal.Value.run (F := Ideal) m g)

/-- The reference of the same gradients in the first layer runs, and leaves its arguments and the counters as they were. -/
theorem frame_ref_pw_one_z : Cert.quiescent_RefPwOneZIdeal := fun m g _ =>
  (θ_run Cert.RefPwOneZIdeal.defs _ _).mono (fun _ h => ⟨fun c => (h c).2.2.2.2, sem_eq_zero_of_no_sems (by decide) _⟩) (Cert.RefPwOneZIdeal.Value.run (F := Ideal) m g)

/-- The reference of the gradients through the convolution mixer's second product, silu and layer norm runs, and leaves its arguments and the counters as they were. -/
theorem frame_ref_pw_two_x : Cert.quiescent_RefPwTwoXIdeal := fun m g _ =>
  (θ_run Cert.RefPwTwoXIdeal.defs _ _).mono (fun _ h => ⟨fun c => (h c).2.2.2.2, sem_eq_zero_of_no_sems (by decide) _⟩) (Cert.RefPwTwoXIdeal.Value.run (F := Ideal) m g)

/-- The reference of the modulation's product runs, and leaves its arguments and the counters as they were. -/
theorem frame_ref_ada_f : Cert.quiescent_RefAdaFIdeal := fun m g _ =>
  (θ_run Cert.RefAdaFIdeal.defs _ _).mono (fun _ h => ⟨fun c => (h c).2, sem_eq_zero_of_no_sems (by decide) _⟩) (Cert.RefAdaFIdeal.Value.run (F := Ideal) m g)

/-- The reference of the gradient of the modulation's weight runs, and leaves its arguments and the counters as they were. -/
theorem frame_ref_ada_w : Cert.quiescent_RefAdaWIdeal := fun m g _ =>
  (θ_run Cert.RefAdaWIdeal.defs _ _).mono (fun _ h => ⟨fun c => (h c).2, sem_eq_zero_of_no_sems (by decide) _⟩) (Cert.RefAdaWIdeal.Value.run (F := Ideal) m g)

/-- The reference of the optimiser's step runs, and leaves its arguments and the counters as they were. -/
theorem frame_ref_adam_a : Cert.quiescent_RefAdamAIdeal := fun m g _ =>
  (θ_run Cert.RefAdamAIdeal.defs _ _).mono (fun _ h => ⟨fun c => (h c).2.2.2.2, sem_eq_zero_of_no_sems (by decide) _⟩) (Cert.RefAdamAIdeal.Value.run (F := Ideal) m g)

/-- Everything that the certificate states: the frames, the idealizations, and the results. -/
theorem claim : Cert.Claim := ⟨Cert.Kernel.Gen.facts, Cert.KernelIdeal.Gen.facts, Cert.ReferenceIdeal.Gen.facts, Cert.MlpTwoW.Gen.facts, Cert.MlpTwoWIdeal.Gen.facts, Cert.RefTwoWIdeal.Gen.facts, Cert.MlpOneW.Gen.facts, Cert.MlpOneWIdeal.Gen.facts, Cert.RefOneWIdeal.Gen.facts, Cert.RetQ.Gen.facts, Cert.RetQIdeal.Gen.facts, Cert.RefQIdeal.Gen.facts, Cert.MlpOneX.Gen.facts, Cert.MlpOneXIdeal.Gen.facts, Cert.RefOneXIdeal.Gen.facts,
  Cert.RetInX.Gen.facts, Cert.RetInXIdeal.Gen.facts, Cert.RefInXIdeal.Gen.facts, Cert.RetInW.Gen.facts, Cert.RetInWIdeal.Gen.facts, Cert.RefInWIdeal.Gen.facts, Cert.RetOutX.Gen.facts, Cert.RetOutXIdeal.Gen.facts, Cert.RefOutXIdeal.Gen.facts, Cert.RetOutW.Gen.facts, Cert.RetOutWIdeal.Gen.facts, Cert.RefOutWIdeal.Gen.facts,
  Cert.MlpOneF.Gen.facts, Cert.MlpOneFIdeal.Gen.facts, Cert.RefOneFIdeal.Gen.facts,
  Cert.MlpTwoF.Gen.facts, Cert.MlpTwoFIdeal.Gen.facts, Cert.RefTwoFIdeal.Gen.facts,
  Cert.RetInF.Gen.facts, Cert.RetInFIdeal.Gen.facts, Cert.RefInFIdeal.Gen.facts,
  Cert.RetOutF.Gen.facts, Cert.RetOutFIdeal.Gen.facts, Cert.RefOutFIdeal.Gen.facts,
  Cert.PwOneF.Gen.facts, Cert.PwOneFIdeal.Gen.facts, Cert.RefPwOneFIdeal.Gen.facts,
  Cert.PwOneW.Gen.facts, Cert.PwOneWIdeal.Gen.facts, Cert.RefPwOneWIdeal.Gen.facts,
  Cert.PwOneX.Gen.facts, Cert.PwOneXIdeal.Gen.facts, Cert.RefPwOneXIdeal.Gen.facts,
  Cert.PwTwoF.Gen.facts, Cert.PwTwoFIdeal.Gen.facts, Cert.RefPwTwoFIdeal.Gen.facts,
  Cert.PwTwoW.Gen.facts, Cert.PwTwoWIdeal.Gen.facts, Cert.RefPwTwoWIdeal.Gen.facts,
  Cert.PwOneZ.Gen.facts, Cert.PwOneZIdeal.Gen.facts, Cert.RefPwOneZIdeal.Gen.facts,
  Cert.PwTwoX.Gen.facts, Cert.PwTwoXIdeal.Gen.facts, Cert.RefPwTwoXIdeal.Gen.facts,
  Cert.AdaF.Gen.facts, Cert.AdaFIdeal.Gen.facts, Cert.RefAdaFIdeal.Gen.facts,
  Cert.AdaW.Gen.facts, Cert.AdaWIdeal.Gen.facts, Cert.RefAdaWIdeal.Gen.facts,
  Cert.AdamA.Gen.facts, Cert.AdamAIdeal.Gen.facts, Cert.RefAdamAIdeal.Gen.facts,
  Cert.Pre_ret_q_finite.Gen.facts, Cert.Pre_pw2_x_finite.Gen.facts,
  fun m ρ _ => Cert.Kernel.Gen.frame m ρ, fun m ρ _ => Cert.KernelIdeal.Gen.frame m ρ, frame_ref,
  fun m ρ _ => Cert.MlpTwoW.Gen.frame m ρ, fun m ρ _ => Cert.MlpTwoWIdeal.Gen.frame m ρ, frame_ref_two,
  fun m ρ _ => Cert.MlpOneW.Gen.frame m ρ, fun m ρ _ => Cert.MlpOneWIdeal.Gen.frame m ρ, frame_ref_one,
  fun m ρ _ => Cert.RetQ.Gen.frame m ρ, fun m ρ _ => Cert.RetQIdeal.Gen.frame m ρ, fun m ρ _ => Cert.RetQIdeal.Gen.frame m ρ, frame_ref_ret, fun m g _ => frame_ref_ret m g trivial,
  fun m ρ _ => Cert.MlpOneX.Gen.frame m ρ, fun m ρ _ => Cert.MlpOneXIdeal.Gen.frame m ρ, frame_ref_one_x,
  fun m ρ _ => Cert.RetInX.Gen.frame m ρ, fun m ρ _ => Cert.RetInXIdeal.Gen.frame m ρ, frame_ref_in_x,
  fun m ρ _ => Cert.RetInW.Gen.frame m ρ, fun m ρ _ => Cert.RetInWIdeal.Gen.frame m ρ, frame_ref_in_w,
  fun m ρ _ => Cert.RetOutX.Gen.frame m ρ, fun m ρ _ => Cert.RetOutXIdeal.Gen.frame m ρ, frame_ref_out_x,
  fun m ρ _ => Cert.RetOutW.Gen.frame m ρ, fun m ρ _ => Cert.RetOutWIdeal.Gen.frame m ρ, frame_ref_out_w,
  fun m ρ _ => Cert.MlpOneF.Gen.frame m ρ, fun m ρ _ => Cert.MlpOneFIdeal.Gen.frame m ρ, frame_ref_one_f,
  fun m ρ _ => Cert.MlpTwoF.Gen.frame m ρ, fun m ρ _ => Cert.MlpTwoFIdeal.Gen.frame m ρ, frame_ref_two_f,
  fun m ρ _ => Cert.RetInF.Gen.frame m ρ, fun m ρ _ => Cert.RetInFIdeal.Gen.frame m ρ, frame_ref_in_f,
  fun m ρ _ => Cert.RetOutF.Gen.frame m ρ, fun m ρ _ => Cert.RetOutFIdeal.Gen.frame m ρ, frame_ref_out_f,
  fun m ρ _ => Cert.PwOneF.Gen.frame m ρ, fun m ρ _ => Cert.PwOneFIdeal.Gen.frame m ρ, frame_ref_pw_one_f,
  fun m ρ _ => Cert.PwOneW.Gen.frame m ρ, fun m ρ _ => Cert.PwOneWIdeal.Gen.frame m ρ, frame_ref_pw_one_w,
  fun m ρ _ => Cert.PwOneX.Gen.frame m ρ, fun m ρ _ => Cert.PwOneXIdeal.Gen.frame m ρ, frame_ref_pw_one_x,
  fun m ρ _ => Cert.PwTwoF.Gen.frame m ρ, fun m ρ _ => Cert.PwTwoFIdeal.Gen.frame m ρ, frame_ref_pw_two_f,
  fun m ρ _ => Cert.PwTwoW.Gen.frame m ρ, fun m ρ _ => Cert.PwTwoWIdeal.Gen.frame m ρ, frame_ref_pw_two_w,
  fun m ρ _ => Cert.PwOneZ.Gen.frame m ρ, fun m ρ _ => Cert.PwOneZIdeal.Gen.frame m ρ, frame_ref_pw_one_z,
  fun m ρ _ => Cert.PwTwoX.Gen.frame m ρ, fun m ρ _ => Cert.PwTwoXIdeal.Gen.frame m ρ, fun m ρ _ => Cert.PwTwoXIdeal.Gen.frame m ρ, frame_ref_pw_two_x, fun m g _ => frame_ref_pw_two_x m g trivial,
  fun m ρ _ => Cert.AdaF.Gen.frame m ρ, fun m ρ _ => Cert.AdaFIdeal.Gen.frame m ρ, frame_ref_ada_f,
  fun m ρ _ => Cert.AdaW.Gen.frame m ρ, fun m ρ _ => Cert.AdaWIdeal.Gen.frame m ρ, frame_ref_ada_w,
  fun m ρ _ => Cert.AdamA.Gen.frame m ρ, fun m ρ _ => Cert.AdamAIdeal.Gen.frame m ρ, frame_ref_adam_a,
  trivial, Cert.MlpX.algebraic, trivial, Cert.MlpW.algebraic, trivial, Cert.MlpV.algebraic, trivial, Cert.RetAlg.algebraic, trivial, Cert.MlpDx.algebraic,
  trivial, Cert.InX.algebraic, trivial, Cert.InW.algebraic, trivial, Cert.OutX.algebraic, trivial, Cert.OutW.algebraic,
  trivial, Cert.OneF.algebraic, trivial, Cert.TwoF.algebraic, trivial, Cert.InF.algebraic, trivial, Cert.OutF.algebraic,
  trivial, Cert.PwF.algebraic, trivial, Cert.PwW.algebraic, trivial, Cert.PwX.algebraic, trivial, Cert.PwG.algebraic, trivial, Cert.PwV.algebraic,
  trivial, Cert.PwZ.algebraic, trivial, Cert.PwB.algebraic, trivial, Cert.AdaP.algebraic, trivial, Cert.AdaG.algebraic, trivial, Cert.AdamStep.algebraic⟩

end Cert.Proof

end
